-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v17)) (v2 : (c : Dev Cert.Kernel2Ideal.nD) → Buf (Elt Ideal) ((c.tc : Thread Cert.Kernel2Ideal.nD Cert.Kernel2Ideal.τ).loc Cert.Kernel2Ideal.main_v18)) (v3 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v17) = v1 c
          ∧ r.2.mem ((c.tc : Thread Cert.Kernel2Ideal.nD Cert.Kernel2Ideal.τ).loc Cert.Kernel2Ideal.main_v18) = v2 c
          ∧ r.2.mem ((c.tc : Thread Cert.Kernel2Ideal.nD Cert.Kernel2Ideal.τ).loc Cert.Kernel2Ideal.main_v19) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)) (v4 : (c : Dev Cert.Kernel4Ideal.nD) → Buf (Elt Ideal) ((c.tc : Thread Cert.Kernel4Ideal.nD Cert.Kernel4Ideal.τ).loc Cert.Kernel4Ideal.main_v28_4)) (v5 : (c : Dev Cert.Kernel4Ideal.nD) → Buf (Elt Ideal) ((c.tc : Thread Cert.Kernel4Ideal.nD Cert.Kernel4Ideal.τ).loc Cert.Kernel4Ideal.main_v28_5)) (v6 : (c : Dev Cert.Kernel4Ideal.nD) → Buf (Elt Ideal) ((c.tc : Thread Cert.Kernel4Ideal.nD Cert.Kernel4Ideal.τ).loc Cert.Kernel4Ideal.main_v28_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_v28_4) = v4 c
          ∧ r.2.mem ((c.tc : Thread Cert.Kernel4Ideal.nD Cert.Kernel4Ideal.τ).loc Cert.Kernel4Ideal.main_v28_5) = v5 c
          ∧ r.2.mem ((c.tc : Thread Cert.Kernel4Ideal.nD Cert.Kernel4Ideal.τ).loc Cert.Kernel4Ideal.main_v28_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_v102) = v1 c
          ∧ r.2.mem ((c.tc : Thread Cert.Reference4Ideal.nD Cert.Reference4Ideal.τ).loc Cert.Reference4Ideal.main_v103) = v2 c
          ∧ r.2.mem ((c.tc : Thread Cert.Reference4Ideal.nD Cert.Reference4Ideal.τ).loc Cert.Reference4Ideal.main_v104) = v3 c
          ∧ r.2.mem ((c.tc : Thread Cert.Reference4Ideal.nD Cert.Reference4Ideal.τ).loc Cert.Reference4Ideal.main_v105) = v4 c
          ∧ r.2.mem ((c.tc : Thread Cert.Reference4Ideal.nD Cert.Reference4Ideal.τ).loc Cert.Reference4Ideal.main_v65) = v5 c
          ∧ r.2.mem ((c.tc : Thread Cert.Reference4Ideal.nD Cert.Reference4Ideal.τ).loc Cert.Reference4Ideal.main_v85) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_v86) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_v56) = v4 c
          ∧ r.2.mem ((c.tc : Thread Cert.Reference5Ideal.nD Cert.Reference5Ideal.τ).loc Cert.Reference5Ideal.main_v37) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v45)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v45) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v38) = v2 c
          ∧ r.2.mem ((c.tc : Thread Cert.Reference8Ideal.nD Cert.Reference8Ideal.τ).loc Cert.Reference8Ideal.main_v52) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v28) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def preserves_Kernel11_Kernel11Ideal : Prop :=
  True

def preserves_Kernel12_Kernel12Ideal : Prop :=
  True

def preserves_Kernel13_Kernel13Ideal : Prop :=
  True

def preserves_Kernel14_Kernel14Ideal : Prop :=
  True

def preserves_Kernel15_Kernel15Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hKernel11 : Cert.Kernel11.Facts) (hKernel11Ideal : Cert.Kernel11Ideal.Facts) (hKernel12 : Cert.Kernel12.Facts) (hKernel12Ideal : Cert.Kernel12Ideal.Facts) (hKernel13 : Cert.Kernel13.Facts) (hKernel13Ideal : Cert.Kernel13Ideal.Facts) (hKernel14 : Cert.Kernel14.Facts) (hKernel14Ideal : Cert.Kernel14Ideal.Facts) (hKernel15 : Cert.Kernel15.Facts) (hKernel15Ideal : Cert.Kernel15Ideal.Facts) (hPre_finite2 : Cert.Pre_finite2.Facts) (hPre_finite3 : Cert.Pre_finite3.Facts) (hPre_finite4 : Cert.Pre_finite4.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Kernel12 (hKernel12 := hKernel12)
    ∧ quiescent_Kernel12Ideal (hKernel12Ideal := hKernel12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ quiescent_Kernel15 (hKernel15 := hKernel15)
    ∧ quiescent_Kernel15Ideal (hKernel15Ideal := hKernel15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ preserves_Kernel11_Kernel11Ideal
    ∧ preserves_Kernel12_Kernel12Ideal
    ∧ preserves_Kernel13_Kernel13Ideal
    ∧ preserves_Kernel14_Kernel14Ideal
    ∧ preserves_Kernel15_Kernel15Ideal
-- ==== Pre_finite2.lean ====
abbrev S16384x8x64 : Shape := ⟨3, ![16384, 8, 64]⟩
abbrev S16384x2x64 : Shape := ⟨3, ![16384, 2, 64]⟩
abbrev S16384x512 : Shape := ⟨2, ![16384, 512]⟩
abbrev S_ : Shape := ⟨0, ![]⟩

class Facts : Prop where
  bcast_S_S16384x8x64 : S_.BroadcastsInDim S16384x8x64 (![] : Fin 0 → Fin S16384x8x64.rank)
  reducesTo_S16384x8x64_S_d0_1_2 : S16384x8x64.ReducesTo [0, 1, 2] S_
  h_S_ : 0 < S_.numel
  bcast_S_S16384x2x64 : S_.BroadcastsInDim S16384x2x64 (![] : Fin 0 → Fin S16384x2x64.rank)
  reducesTo_S16384x2x64_S_d0_1_2 : S16384x2x64.ReducesTo [0, 1, 2] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x8x64 .f32) (main_arg1 : FVec F S16384x2x64 .f32) (main_arg2 : FVec F S16384x2x64 .f32) (main_arg3 : FVec F S16384x512 .f32) : IVec S_ 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_c : IVec S_ 1 := constantI S_ 1 1#1
  let main_v3 : IVec S_ 1 := (fun x v => Host.reduce IntOp.andi x v reducesTo_S16384x8x64_S_d0_1_2 h_S_) main_v2 main_c
  let main_v4 : FVec F S16384x2x64 .f32 := Host.absf main_arg1
  let main_cst_0 : FVec F S_ .f32 := constant S_ .f32 0x7F800000#32
  let main_v5 : FVec F S16384x2x64 .f32 := broadcastInDim S16384x2x64 ![] bcast_S_S16384x2x64 main_cst_0
  let main_v6 : IVec S16384x2x64 1 := cmpf .olt main_v4 main_v5
  let main_c_1 : IVec S_ 1 := constantI S_ 1 1#1
  let main_v7 : IVec S_ 1 := (fun x v => Host.reduce IntOp.andi x v reducesTo_S16384x2x64_S_d0_1_2 h_S_) main_v6 main_c_1
  let main_v8 : IVec S_ 1 := andi main_v3 main_v7
  let main_v9 : FVec F S16384x2x64 .f32 := Host.absf main_arg2
  let main_cst_2 : FVec F S_ .f32 := constant S_ .f32 0x7F800000#32
  let main_v10 : FVec F S16384x2x64 .f32 := broadcastInDim S16384x2x64 ![] bcast_S_S16384x2x64 main_cst_2
  let main_v11 : IVec S16384x2x64 1 := cmpf .olt main_v9 main_v10
  let main_c_3 : IVec S_ 1 := constantI S_ 1 1#1
  let main_v12 : IVec S_ 1 := (fun x v => Host.reduce IntOp.andi x v reducesTo_S16384x2x64_S_d0_1_2 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Pre_finite3.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S16384x4096 : S_.BroadcastsInDim S16384x4096 (![] : Fin 0 → Fin S16384x4096.rank)
  reducesTo_S16384x4096_S_d0_1 : S16384x4096.ReducesTo [0, 1] S_

variable [Facts]

def fn_part1 {F : FTy → Type} [FloatOps F] (main_arg4 : FVec F S1024x4096 .f32) (main_arg5 : FVec F S16384x1024 .f32) (main_arg6 : FVec F S16384x4096 .f32) (main_v3 : IVec S_ 1) (main_v7 : IVec S_ 1) (main_v11 : IVec S_ 1) (main_v15 : IVec S_ 1) : IVec S_ 1 :=
  let main_v16 : FVec F S1024x4096 .f32 := Host.absf main_arg4
  let main_cst_6 : FVec F S_ .f32 := constant S_ .f32 0x7F800000#32
  let main_v17 : FVec F S1024x4096 .f32 := broadcastInDim S1024x4096 ![] bcast_S_S1024x4096 main_cst_6
  let main_v18 : IVec S1024x4096 1 := cmpf .olt main_v16 main_v17
  let main_c_7 : IVec S_ 1 := constantI S_ 1 1#1
  let main_v19 : IVec S_ 1 := (fun x v => Host.reduce IntOp.andi x v reducesTo_S1024x4096_S_d0_1 h_S_) main_v18 main_c_7
  let main_v20 : FVec F S16384x1024 .f32 := Host.absf main_arg5
  let main_cst_8 : FVec F S_ .f32 := constant S_ .f32 0x7F800000#32
  let main_v21 : FVec F S16384x1024 .f32 := broadcastInDim S16384x1024 ![] bcast_S_S16384x1024 main_cst_8
  let main_v22 : IVec S16384x1024 1 := cmpf .olt main_v20 main_v21
  let main_c_9 : IVec S_ 1 := constantI S_ 1 1#1
  let main_v23 : IVec S_ 1 := (fun x v => Host.reduce IntOp.andi x v reducesTo_S16384x1024_S_d0_1 h_S_) main_v22 main_c_9
  let main_v24 : FVec F S16384x4096 .f32 := Host.absf main_arg6
  let main_cst_10 : FVec F S_ .f32 := constant S_ .f32 0x7F800000#32
  let main_v25 : FVec F S16384x4096 .f32 := broadcastInDim S16384x4096 ![] bcast_S_S16384x4096 main_cst_10
  let main_v26 : IVec S16384x4096 1 := cmpf .olt main_v24 main_v25
  let main_c_11 : IVec S_ 1 := constantI S_ 1 1#1
  let main_v27 : IVec S_ 1 := (fun x v => Host.reduce IntOp.andi x v reducesTo_S16384x4096_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S16384x1024 .f32) (main_arg1 : FVec F S16384x1024 .f32) (main_arg2 : FVec F S1x1024 .f32) (main_arg3 : FVec F S1x1024 .f32) (main_arg4 : FVec F S1024x4096 .f32) (main_arg5 : FVec F S16384x1024 .f32) (main_arg6 : FVec F S16384x4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_finite4.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024x1024 .f32) (main_arg5 : FVec F S256x1024 .f32) (main_arg6 : FVec F S1x1024 .f32) (main_arg7 : FVec F S1x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S256x1024 .f32 := Host.absf main_arg5
  let main_cst_8 : FVec F S_ .f32 := constant S_ .f32 0x7F800000#32
  let main_v21 : FVec F S256x1024 .f32 := broadcastInDim S256x1024 ![] bcast_S_S256x1024 main_cst_8
  let main_v22 : IVec S256x1024 1 := cmpf .olt main_v20 main_v21
  let main_c_9 : IVec S_ 1 := constantI S_ 1 1#1
  let main_v23 : IVec S_ 1 := (fun x v => Host.reduce IntOp.andi x v reducesTo_S256x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_v3 main_v7 main_v11 main_v15 main_v19 main_v23 main_v27 main_v31

def fn {F : FTy → Type} [FloatOps F] (main_arg0 : FVec F S16384x1024 .f32) (main_arg1 : FVec F S16384x1024 .f32) (main_arg2 : FVec F S16384x256 .f32) (main_arg3 : FVec F S16384x1024 .f32) (main_arg4 : FVec F S1024x1024 .f32) (main_arg5 : FVec F S256x1024 .f32) (main_arg6 : FVec F S1x1024 .f32) (main_arg7 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S16384x256 .f32 := Host.absf main_arg2
  let main_cst_2 : FVec F S_ .f32 := constant S_ .f32 0x7F800000#32
  let main_v9 : FVec F S16384x256 .f32 := broadcastInDim S16384x256 ![] bcast_S_S16384x256 main_cst_2
  let main_v10 : IVec S16384x256 1 := cmpf .olt main_v8 main_v9
  let main_c_3 : IVec S_ 1 := constantI S_ 1 1#1
  let main_v11 : IVec S_ 1 := (fun x v => Host.reduce IntOp.andi x v reducesTo_S16384x256_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_arg4 main_arg5 main_arg6 main_arg7 main_v3 main_v7 main_v11 main_v15
-- ==== Pre_finite5.lean ====
abbrev S16384x512 : Shape := ⟨2, ![16384, 512]⟩
abbrev S1x512 : Shape := ⟨2, ![1, 512]⟩
abbrev S1024x1024 : Shape := ⟨2, ![1024, 1024]⟩
abbrev S16384x1024 : Shape := ⟨2, ![16384, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_arg4 : FVec F S1024x1024 .f32) (main_arg5 : FVec F S16384x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S16384x1024 .f32 := Host.absf main_arg5
  let main_cst_8 : FVec F S_ .f32 := constant S_ .f32 0x7F800000#32
  let main_v21 : FVec F S16384x1024 .f32 := broadcastInDim S16384x1024 ![] bcast_S_S16384x1024 main_cst_8
  let main_v22 : IVec S16384x1024 1 := cmpf .olt main_v20 main_v21
  let main_c_9 : IVec S_ 1 := constantI S_ 1 1#1
  let main_v23 : IVec S_ 1 := (fun x v => Host.reduce IntOp.andi x v reducesTo_S16384x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S16384x512 .f32) (main_arg1 : FVec F S16384x512 .f32) (main_arg2 : FVec F S1x512 .f32) (main_arg3 : FVec F S1x512 .f32) (main_arg4 : FVec F S1024x1024 .f32) (main_arg5 : FVec F S16384x1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : FVec F S1x512 .f32 := Host.absf main_arg2
  let main_cst_2 : FVec F S_ .f32 := constant S_ .f32 0x7F800000#32
  let main_v9 : FVec F S1x512 .f32 := broadcastInDim S1x512 ![] bcast_S_S1x512 main_cst_2
  let main_v10 : IVec S1x512 1 := cmpf .olt main_v8 main_v9
  let main_c_3 : IVec S_ 1 := constantI S_ 1 1#1
  let main_v11 : IVec S_ 1 := (fun x v => Host.reduce IntOp.andi x v reducesTo_S1x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_v3 main_v7 main_v11 main_v15
-- ==== Pre_finite7.lean ====
abbrev S16x128 : Shape := ⟨2, ![16, 128]⟩
abbrev S8x128x256 : Shape := ⟨3, ![8, 128, 256]⟩
abbrev S_ : Shape := ⟨0, ![]⟩

class Facts : Prop where
  bcast_S_S8x128x256 : S_.BroadcastsInDim S8x128x256 (![] : Fin 0 → Fin S8x128x256.rank)
  reducesTo_S8x128x256_S_d0_1_2 : S8x128x256.ReducesTo [0, 1, 2] S_
  h_S_ : 0 < S_.numel

variable [Facts]

def fn {F : FTy → Type} [FloatOps F] (main_arg0 : FVec F S16x128 .f32) (main_arg1 : FVec F S8x128x256 .f32) : IVec S_ 1 :=
  let main_v0 : FVec F S8x128x256 .f32 := Host.absf main_arg1
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_c : IVec S_ 1 := constantI S_ 1 1#1
  let main_v3 : IVec S_ 1 := (fun x v => Host.reduce IntOp.andi x v reducesTo_S8x128x256_S_d0_1_2 h_S_) main_v2 main_c
  main_v3
-- ==== Kernel.lean ====
abbrev S16384x4096 : Shape := ⟨2, ![16384, 4096]⟩
abbrev S4096x1024 : Shape := ⟨2, ![4096, 1024]⟩
abbrev S16384x1024 : Shape := ⟨2, ![16384, 1024]⟩
abbrev S1024x4096 : Shape := ⟨2, ![1024, 4096]⟩
abbrev S512x1024 : Shape := ⟨2, ![512, 1024]⟩
abbrev S512x4096 : Shape := ⟨2, ![512, 4096]⟩

abbrev nBuf : Space → Nat
  | .hbm => 7
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x1024, .bf16⟩
  | .hbm, ⟨4, _⟩ => ⟨S4096x1024, .bf16⟩
  | .hbm, ⟨5, _⟩ => ⟨S1024x4096, .bf16⟩
  | .hbm, ⟨6, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .f32⟩
  | .local _ .vmem, ⟨4, _⟩ => ⟨S512x4096, .f32⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x1024, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel2.lean ====
abbrev S16384x8x64 : Shape := ⟨3, ![16384, 8, 64]⟩
abbrev S16384x2x64 : Shape := ⟨3, ![16384, 2, 64]⟩
abbrev S16384x512 : Shape := ⟨2, ![16384, 512]⟩
abbrev S_ : Shape := ⟨0, ![]⟩
abbrev S16384x2x128 : Shape := ⟨3, ![16384, 2, 128]⟩
abbrev S2x16384x128 : Shape := ⟨3, ![2, 16384, 128]⟩
abbrev S8x16384x1 : Shape := ⟨3, ![8, 16384, 1]⟩
abbrev S256x256 : Shape := ⟨2, ![256, 256]⟩
abbrev S1x16384x128 : Shape := ⟨3, ![1, 16384, 128]⟩
abbrev S4x256x1 : Shape := ⟨3, ![4, 256, 1]⟩
abbrev S256x128 : Shape := ⟨2, ![256, 128]⟩
abbrev S2048x128 : Shape := ⟨2, ![2048, 128]⟩
abbrev S1024x128 : Shape := ⟨2, ![1024, 128]⟩
abbrev S1024x1 : Shape := ⟨2, ![1024, 1]⟩
abbrev S1x2048x128 : Shape := ⟨3, ![1, 2048, 128]⟩
abbrev S1024x2048 : Shape := ⟨2, ![1024, 2048]⟩
abbrev S1024 : Shape := ⟨1, ![1024]⟩
abbrev S16384x8 : Shape := ⟨2, ![16384, 8]⟩
abbrev S8x16384 : Shape := ⟨2, ![8, 16384]⟩
abbrev S2x128x16384 : Shape := ⟨3, ![2, 128, 16384]⟩
abbrev S512x256 : Shape := ⟨2, ![512, 256]⟩
abbrev S4x512x1 : Shape := ⟨3, ![4, 512, 1]⟩
abbrev S1x128x16384 : Shape := ⟨3, ![1, 128, 16384]⟩
abbrev S512x128 : Shape := ⟨2, ![512, 128]⟩
abbrev S2048x1 : Shape := ⟨2, ![2048, 1]⟩
abbrev S128x2048 : Shape := ⟨2, ![128, 2048]⟩
abbrev S1x512x128 : Shape := ⟨3, ![1, 512, 128]⟩
abbrev S2048x512 : Shape := ⟨2, ![2048, 512]⟩
abbrev S1x128x512 : Shape := ⟨3, ![1, 128, 512]⟩
abbrev S128x512 : Shape := ⟨2, ![128, 512]⟩

abbrev nBuf : Space → Nat
  | .hbm => 29
  | .vmem => 22
  | .smem => 0
  | _ => 0

abbrev bufTy : (tb : Table) → Fin (tcTables nBuf tb) → BufTy
  | .hbm, ⟨0, _⟩ => ⟨S16384x8x64, .f32⟩
  | .hbm, ⟨1, _⟩ => ⟨S16384x2x64, .f32⟩
  | .hbm, ⟨2, _⟩ => ⟨S16384x2x64, .f32⟩
  | .hbm, ⟨3, _⟩ => ⟨S16384x512, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x512, .bf16⟩
  | .hbm, ⟨9, _⟩ => ⟨S16384x2x128, .f32⟩
  | .hbm, ⟨10, _⟩ => ⟨S2x16384x128, .f32⟩
  | .hbm, ⟨11, _⟩ => ⟨S2x16384x128, .bf16⟩
  | .hbm, ⟨12, _⟩ => ⟨S16384x512, .f32⟩
  | .hbm, ⟨13, _⟩ => ⟨S8x16384x1, .f32⟩
  | .hbm, ⟨14, _⟩ => ⟨S16384x512, .f32⟩
  | .hbm, ⟨15, _⟩ => ⟨S16384x8x64, .f32⟩
  | .hbm, ⟨16, _⟩ => ⟨S_, .f32⟩
  | .hbm, ⟨17, _⟩ => ⟨S16384x8, .f32⟩
  | .hbm, ⟨18, _⟩ => ⟨S8x16384, .f32⟩
  | .hbm, ⟨19, _⟩ => ⟨S8x16384x1, .f32⟩
  | .hbm, ⟨20, _⟩ => ⟨S16384x512, .f32⟩
  | .hbm, ⟨21, _⟩ => ⟨S2x128x16384, .f32⟩
  | .hbm, ⟨22, _⟩ => ⟨S16384x2x128, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x8x64, .f32⟩
  | .hbm, ⟨27, _⟩ => ⟨S16384x2x64, .f32⟩
  | .hbm, ⟨28, _⟩ => ⟨S16384x2x64, .f32⟩
  | .local _ .vmem, ⟨0, _⟩ => ⟨S256x256, .bf16⟩
  | .local _ .vmem, ⟨1, _⟩ => ⟨S256x256, .bf16⟩
  | .local _ .vmem, ⟨2, _⟩ => ⟨S1x16384x128, .bf16⟩
  | .local _ .vmem, ⟨3, _⟩ => ⟨S1x16384x128, .bf16⟩
  | .local _ .vmem, ⟨4, _⟩ => ⟨S256x256, .f32⟩
  | .local _ .vmem, ⟨5, _⟩ => ⟨S256x256, .f32⟩
  | .local _ .vmem, ⟨6, _⟩ => ⟨S4x256x1, .f32⟩
  | .local _ .vmem, ⟨7, _⟩ => ⟨S4x256x1, .f32⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S1x16384x128, .bf16⟩
  | .local _ .vmem, ⟨13, _⟩ => ⟨S1x16384x128, .bf16⟩
  | .local _ .vmem, ⟨14, _⟩ => ⟨S4x512x1, .f32⟩
  | .local _ .vmem, ⟨15, _⟩ => ⟨S4x512x1, .f32⟩
  | .local _ .vmem, ⟨16, _⟩ => ⟨S4x512x1, .f32⟩
  | .local _ .vmem, ⟨17, _⟩ => ⟨S4x512x1, .f32⟩
  | .local _ .vmem, ⟨18, _⟩ => ⟨S512x256, .f32⟩
  | .local _ .vmem, ⟨19, _⟩ => ⟨S512x256, .f32⟩
  | .local _ .vmem, ⟨20, _⟩ => ⟨S1x128x16384, .f32⟩
  | .local _ .vmem, ⟨21, _⟩ => ⟨S1x128x16384, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![2, 64], ![false, false]⟩

def k0_mult1 : BitVec 32 :=
  let c8_i32 : BitVec 32 := 8#32
  let c0_i32 : BitVec 32 := 0#32
  let v25 : BitVec 32 := Scalar.muli c8_i32 c0_i32
  let c0_i32_9 : BitVec 32 := 0#32
  let v26 : BitVec 32 := Scalar.addi v25 c0_i32_9
  let c2048_i32 : BitVec 32 := 2048#32
  let v27 : BitVec 32 := Scalar.muli v26 c2048_i32
  v27
def k0_off1 (c0_i32_9 : BitVec 32) : Fin 3 → Nat :=
  let c0_10 : Index := 0#32
  let c8_i32 : BitVec 32 := 8#32
  let c0_i32 : BitVec 32 := 0#32
  let v25 : BitVec 32 := Scalar.muli c8_i32 c0_i32
  let v26 : BitVec 32 := Scalar.addi v25 c0_i32_9
  let c2048_i32 : BitVec 32 := 2048#32
  let v27 : BitVec 32 := Scalar.muli v26 c2048_i32
  let v28 : BitVec 32 := v27
  let v29 : Index := Scalar.indexCast v28
  let c0_11 : Index := 0#32
  ![0, v29.toNat, 0]
def k0_mult2 : BitVec 32 :=
  let c8_i32_16 : BitVec 32 := 8#32
  let c0_i32 : BitVec 32 := 0#32
  let v48 : BitVec 32 := Scalar.muli c8_i32_16 c0_i32
  let c1_i32 : BitVec 32 := 1#32
  let v49 : BitVec 32 := Scalar.addi v48 c1_i32
  let c2048_i32_17 : BitVec 32 := 2048#32
  let v50 : BitVec 32 := Scalar.muli v49 c2048_i32_17
  v50
def k0_mult3 : BitVec 32 :=
  let c8_i32_24 : BitVec 32 := 8#32
  let c0_i32 : BitVec 32 := 0#32
  let v71 : BitVec 32 := Scalar.muli c8_i32_24 c0_i32
  let c2_i32 : BitVec 32 := 2#32
  let v72 : BitVec 32 := Scalar.addi v71 c2_i32
  let c2048_i32_25 : BitVec 32 := 2048#32
  let v73 : BitVec 32 := Scalar.muli v72 c2048_i32_25
  v73
def k0_mult4 : BitVec 32 :=
  let c8_i32_32 : BitVec 32 := 8#32
  let c0_i32 : BitVec 32 := 0#32
  let v94 : BitVec 32 := Scalar.muli c8_i32_32 c0_i32
  let c3_i32 : BitVec 32 := 3#32
  let v95 : BitVec 32 := Scalar.addi v94 c3_i32
  let c2048_i32_33 : BitVec 32 := 2048#32
  let v96 : BitVec 32 := Scalar.muli v95 c2048_i32_33
  v96
def k0_mult5 : BitVec 32 :=
  let c8_i32_40 : BitVec 32 := 8#32
  let c0_i32 : BitVec 32 := 0#32
  let v117 : BitVec 32 := Scalar.muli c8_i32_40 c0_i32
  let c4_i32 : BitVec 32 := 4#32
  let v118 : BitVec 32 := Scalar.addi v117 c4_i32
  let c2048_i32_41 : BitVec 32 := 2048#32
  let v119 : BitVec 32 := Scalar.muli v118 c2048_i32_41
  v119
def k0_mult6 : BitVec 32 :=
  let c8_i32_48 : BitVec 32 := 8#32
  let c0_i32 : BitVec 32 := 0#32
  let v140 : BitVec 32 := Scalar.muli c8_i32_48 c0_i32
  let c5_i32 : BitVec 32 := 5#32
  let v141 : BitVec 32 := Scalar.addi v140 c5_i32
  let c2048_i32_49 : BitVec 32 := 2048#32
  let v142 : BitVec 32 := Scalar.muli v141 c2048_i32_49
  v142
def k0_mult7 : BitVec 32 :=
  let c8_i32_56 : BitVec 32 := 8#32
  let c0_i32 : BitVec 32 := 0#32
  let v163 : BitVec 32 := Scalar.muli c8_i32_56 c0_i32
  let c6_i32 : BitVec 32 := 6#32
  let v164 : BitVec 32 := Scalar.addi v163 c6_i32
  let c2048_i32_57 : BitVec 32 := 2048#32
  let v165 : BitVec 32 := Scalar.muli v164 c2048_i32_57
  v165
def k0_mult8 : BitVec 32 :=
  let c8_i32_64 : BitVec 32 := 8#32
  let c0_i32 : BitVec 32 := 0#32
  let v186 : BitVec 32 := Scalar.muli c8_i32_64 c0_i32
  let c7_i32 : BitVec 32 := 7#32
  let v187 : BitVec 32 := Scalar.addi v186 c7_i32
  let c2048_i32_65 : BitVec 32 := 2048#32
  let v188 : BitVec 32 := Scalar.muli v187 c2048_i32_65
  v188
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 32], ![false, false]⟩

@[reducible] def k1_t1_loop : Scf.Loop 32 :=
  let c0_i32_22 : BitVec 32 := 0#32
  let c4_i32 : BitVec 32 := 4#32
  let v47 : BitVec 32 := Scalar.addi c0_i32_22 c4_i32
  let c1_i32 : BitVec 32 := 1#32
  ⟨c0_i32_22, v47, c1_i32⟩
def k1_mult1 (k1_t1 : Fin k1_t1_loop.trips) : BitVec 32 :=
  let c8_i32 : BitVec 32 := 8#32
  let c0_i32_22 : BitVec 32 := 0#32
  let c1_i32 : BitVec 32 := 1#32
  let arg9 : BitVec 32 := Scf.iv c0_i32_22 c1_i32 k1_t1
  let v59 : BitVec 32 := Scalar.muli c8_i32 arg9
  let c0_i32_29 : BitVec 32 := 0#32
  let v60 : BitVec 32 := Scalar.addi v59 c0_i32_29
  let c512_i32 : BitVec 32 := 512#32
  let v61 : BitVec 32 := Scalar.muli v60 c512_i32
  v61
def k1_off1 (k1_t1 : Fin k1_t1_loop.trips) (c0_i32_29 : BitVec 32) : Fin 3 → Nat :=
  let c0_30 : Index := 0#32
  let c8_i32 : BitVec 32 := 8#32
  let c0_i32_22 : BitVec 32 := 0#32
  let c1_i32 : BitVec 32 := 1#32
  let arg9 : BitVec 32 := Scf.iv c0_i32_22 c1_i32 k1_t1
  let v59 : BitVec 32 := Scalar.muli c8_i32 arg9
  let v60 : BitVec 32 := Scalar.addi v59 c0_i32_29
  let c512_i32 : BitVec 32 := 512#32
  let v61 : BitVec 32 := Scalar.muli v60 c512_i32
  let v62 : BitVec 32 := v61
  let v63 : Index := Scalar.indexCast v62
  let c0_31 : Index := 0#32
  ![0, v63.toNat, 0]
def k1_off2 (k1_t1 : Fin k1_t1_loop.trips) (c0_i32_29 : BitVec 32) : Fin 3 → Nat :=
  let c0_34 : Index := 0#32
  let c0_35 : Index := 0#32
  let c8_i32 : BitVec 32 := 8#32
  let c0_i32_22 : BitVec 32 := 0#32
  let c1_i32 : BitVec 32 := 1#32
  let arg9 : BitVec 32 := Scf.iv c0_i32_22 c1_i32 k1_t1
  let v59 : BitVec 32 := Scalar.muli c8_i32 arg9
  let v60 : BitVec 32 := Scalar.addi v59 c0_i32_29
  let c512_i32 : BitVec 32 := 512#32
  let v61 : BitVec 32 := Scalar.muli v60 c512_i32
  let v62 : BitVec 32 := v61
  let v75 : Index := Scalar.indexCast v62
  ![0, 0, v75.toNat]
def k1_mult2 (k1_t1 : Fin k1_t1_loop.trips) : BitVec 32 :=
  let c8_i32_41 : BitVec 32 := 8#32
  let c0_i32_22 : BitVec 32 := 0#32
  let c1_i32 : BitVec 32 := 1#32
  let arg9 : BitVec 32 := Scf.iv c0_i32_22 c1_i32 k1_t1
  let v89 : BitVec 32 := Scalar.muli c8_i32_41 arg9
  let c1_i32_42 : BitVec 32 := 1#32
  let v90 : BitVec 32 := Scalar.addi v89 c1_i32_42
  let c512_i32_43 : BitVec 32 := 512#32
  let v91 : BitVec 32 := Scalar.muli v90 c512_i32_43
  v91
def k1_mult3 (k1_t1 : Fin k1_t1_loop.trips) : BitVec 32 :=
  let c8_i32_55 : BitVec 32 := 8#32
  let c0_i32_22 : BitVec 32 := 0#32
  let c1_i32 : BitVec 32 := 1#32
  let arg9 : BitVec 32 := Scf.iv c0_i32_22 c1_i32 k1_t1
  let v119 : BitVec 32 := Scalar.muli c8_i32_55 arg9
  let c2_i32 : BitVec 32 := 2#32
  let v120 : BitVec 32 := Scalar.addi v119 c2_i32
  let c512_i32_56 : BitVec 32 := 512#32
  let v121 : BitVec 32 := Scalar.muli v120 c512_i32_56
  v121
def k1_mult4 (k1_t1 : Fin k1_t1_loop.trips) : BitVec 32 :=
  let c8_i32_68 : BitVec 32 := 8#32
  let c0_i32_22 : BitVec 32 := 0#32
  let c1_i32 : BitVec 32 := 1#32
  let arg9 : BitVec 32 := Scf.iv c0_i32_22 c1_i32 k1_t1
  let v149 : BitVec 32 := Scalar.muli c8_i32_68 arg9
  let c3_i32 : BitVec 32 := 3#32
  let v150 : BitVec 32 := Scalar.addi v149 c3_i32
  let c512_i32_69 : BitVec 32 := 512#32
  let v151 : BitVec 32 := Scalar.muli v150 c512_i32_69
  v151
def k1_mult5 (k1_t1 : Fin k1_t1_loop.trips) : BitVec 32 :=
  let c8_i32_81 : BitVec 32 := 8#32
  let c0_i32_22 : BitVec 32 := 0#32
  let c1_i32 : BitVec 32 := 1#32
  let arg9 : BitVec 32 := Scf.iv c0_i32_22 c1_i32 k1_t1
  let v179 : BitVec 32 := Scalar.muli c8_i32_81 arg9
  let c4_i32_82 : BitVec 32 := 4#32
  let v180 : BitVec 32 := Scalar.addi v179 c4_i32_82
  let c512_i32_83 : BitVec 32 := 512#32
  let v181 : BitVec 32 := Scalar.muli v180 c512_i32_83
  v181
def k1_mult6 (k1_t1 : Fin k1_t1_loop.trips) : BitVec 32 :=
  let c8_i32_95 : BitVec 32 := 8#32
  let c0_i32_22 : BitVec 32 := 0#32
  let c1_i32 : BitVec 32 := 1#32
  let arg9 : BitVec 32 := Scf.iv c0_i32_22 c1_i32 k1_t1
  let v209 : BitVec 32 := Scalar.muli c8_i32_95 arg9
  let c5_i32 : BitVec 32 := 5#32
  let v210 : BitVec 32 := Scalar.addi v209 c5_i32
  let c512_i32_96 : BitVec 32 := 512#32
  let v211 : BitVec 32 := Scalar.muli v210 c512_i32_96
  v211
def k1_mult7 (k1_t1 : Fin k1_t1_loop.trips) : BitVec 32 :=
  let c8_i32_108 : BitVec 32 := 8#32
  let c0_i32_22 : BitVec 32 := 0#32
  let c1_i32 : BitVec 32 := 1#32
  let arg9 : BitVec 32 := Scf.iv c0_i32_22 c1_i32 k1_t1
  let v239 : BitVec 32 := Scalar.muli c8_i32_108 arg9
  let c6_i32 : BitVec 32 := 6#32
  let v240 : BitVec 32 := Scalar.addi v239 c6_i32
  let c512_i32_109 : BitVec 32 := 512#32
  let v241 : BitVec 32 := Scalar.muli v240 c512_i32_109
  v241
def k1_mult8 (k1_t1 : Fin k1_t1_loop.trips) : BitVec 32 :=
  let c8_i32_121 : BitVec 32 := 8#32
  let c0_i32_22 : BitVec 32 := 0#32
  let c1_i32 : BitVec 32 := 1#32
  let arg9 : BitVec 32 := Scf.iv c0_i32_22 c1_i32 k1_t1
  let v269 : BitVec 32 := Scalar.muli c8_i32_121 arg9
  let c7_i32 : BitVec 32 := 7#32
  let v270 : BitVec 32 := Scalar.addi v269 c7_i32
  let c512_i32_122 : BitVec 32 := 512#32
  let v271 : BitVec 32 := Scalar.muli v270 c512_i32_122
  v271
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16384x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x16384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== Reference2Ideal.lean ====
abbrev S16384x8x64 : Shape := ⟨3, ![16384, 8, 64]⟩
abbrev S16384x2x64 : Shape := ⟨3, ![16384, 2, 64]⟩
abbrev S16384x512 : Shape := ⟨2, ![16384, 512]⟩
abbrev S16384x2x4x64 : Shape := ⟨4, ![16384, 2, 4, 64]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S2x64x16384 : Shape := ⟨3, ![2, 64, 16384]⟩
abbrev S2x16384x4x64 : Shape := ⟨4, ![2, 16384, 4, 64]⟩
abbrev S2x16384x64 : Shape := ⟨3, ![2, 16384, 64]⟩

abbrev nBuf : Space → Nat
  | .hbm => 79
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x2x64, .f32⟩
  | .hbm, ⟨2, _⟩ => ⟨S16384x2x64, .f32⟩
  | .hbm, ⟨3, _⟩ => ⟨S16384x512, .f32⟩
  | .hbm, ⟨4, _⟩ => ⟨S16384x2x4x64, .f32⟩
  | .hbm, ⟨5, _⟩ => ⟨S2x16384x16384x4, .f32⟩
  | .hbm, ⟨6, _⟩ => ⟨S2x4x16384x16384, .f32⟩
  | .hbm, ⟨7, _⟩ => ⟨S_, .f32⟩
  | .hbm, ⟨8, _⟩ => ⟨S2x4x16384x16384, .f32⟩
  | .hbm, ⟨9, _⟩ => ⟨S2x4x16384x16384, .f32⟩
  | .hbm, ⟨10, _⟩ => ⟨S_, .f32⟩
  | .hbm, ⟨11, _⟩ => ⟨S2x4x16384, .f32⟩
  | .hbm, ⟨12, _⟩ => ⟨S2x4x16384x1, .f32⟩
  | .hbm, ⟨13, _⟩ => ⟨S2x4x16384x16384, .f32⟩
  | .hbm, ⟨14, _⟩ => ⟨S2x4x16384x16384, .i1⟩
  | .hbm, ⟨15, _⟩ => ⟨S2x4x16384x16384, .f32⟩
  | .hbm, ⟨16, _⟩ => ⟨S_, .f32⟩
  | .hbm, ⟨17, _⟩ => ⟨S2x4x16384, .f32⟩
  | .hbm, ⟨18, _⟩ => ⟨S_, .f32⟩
  | .hbm, ⟨19, _⟩ => ⟨S2x4x16384, .f32⟩
  | .hbm, ⟨20, _⟩ => ⟨S2x4x16384, .f32⟩
  | .hbm, ⟨21, _⟩ => ⟨S_, .f32⟩
  | .hbm, ⟨22, _⟩ => ⟨S2x4x16384, .f32⟩
  | .hbm, ⟨23, _⟩ => ⟨S2x4x16384, .i1⟩
  | .hbm, ⟨24, _⟩ => ⟨S_, .f32⟩
  | .hbm, ⟨25, _⟩ => ⟨S2x4x16384, .f32⟩
  | .hbm, ⟨26, _⟩ => ⟨S2x4x16384, .i1⟩
  | .hbm, ⟨27, _⟩ => ⟨S_, .f32⟩
  | .hbm, ⟨28, _⟩ => ⟨S2x4x16384, .f32⟩
  | .hbm, ⟨29, _⟩ => ⟨S_, .f32⟩
  | .hbm, ⟨30, _⟩ => ⟨S2x4x16384, .f32⟩
  | .hbm, ⟨31, _⟩ => ⟨S_, .f32⟩
  | .hbm, ⟨32, _⟩ => ⟨S2x4x16384, .f32⟩
  | .hbm, ⟨33, _⟩ => ⟨S2x4x16384, .f32⟩
  | .hbm, ⟨34, _⟩ => ⟨S2x4x16384, .f32⟩
  | .hbm, ⟨35, _⟩ => ⟨S2x4x16384x1, .f32⟩
  | .hbm, ⟨36, _⟩ => ⟨S2x4x16384x16384, .f32⟩
  | .hbm, ⟨37, _⟩ => ⟨S2x4x16384x16384, .f32⟩
  | .hbm, ⟨38, _⟩ => ⟨S2x4x16384x16384, .f32⟩
  | .hbm, ⟨39, _⟩ => ⟨S_, .f32⟩
  | .hbm, ⟨40, _⟩ => ⟨S2x4x16384, .f32⟩
  | .hbm, ⟨41, _⟩ => ⟨S2x4x16384x1, .f32⟩
  | .hbm, ⟨42, _⟩ => ⟨S2x4x16384x16384, .f32⟩
  | .hbm, ⟨43, _⟩ => ⟨S2x4x16384x16384, .f32⟩
  | .hbm, ⟨44, _⟩ => ⟨S2x4x16384x1, .f32⟩
  | .hbm, ⟨45, _⟩ => ⟨S_, .f32⟩
  | .hbm, ⟨46, _⟩ => ⟨S2x4x16384x1, .f32⟩
  | .hbm, ⟨47, _⟩ => ⟨S2x4x16384x1, .f32⟩
  | .hbm, ⟨48, _⟩ => ⟨S2x64x4x16384, .f32⟩
  | .hbm, ⟨49, _⟩ => ⟨S16384x2x4x64, .f32⟩
  | .hbm, ⟨50, _⟩ => ⟨S16384x512, .f32⟩
  | .hbm, ⟨51, _⟩ => ⟨S16384x2x4x64, .f32⟩
  | .hbm, ⟨52, _⟩ => ⟨S2x64x4x16384, .f32⟩
  | .hbm, ⟨53, _⟩ => ⟨S2x4x16384x16384, .f32⟩
  | .hbm, ⟨54, _⟩ => ⟨S2x64x16384, .f32⟩
  | .hbm, ⟨55, _⟩ => ⟨S16384x2x64, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S_, .f32⟩
  | .hbm, ⟨60, _⟩ => ⟨S2x4x16384, .f32⟩
  | .hbm, ⟨61, _⟩ => ⟨S2x4x16384x1, .f32⟩
  | .hbm, ⟨62, _⟩ => ⟨S2x4x16384x1, .f32⟩
  | .hbm, ⟨63, _⟩ => ⟨S2x4x16384x16384, .f32⟩
  | .hbm, ⟨64, _⟩ => ⟨S2x4x16384x16384, .f32⟩
  | .hbm, ⟨65, _⟩ => ⟨S_, .f32⟩
  | .hbm, ⟨66, _⟩ => ⟨S2x4x16384, .f32⟩
  | .hbm, ⟨67, _⟩ => ⟨S2x4x16384x16384, .f32⟩
  | .hbm, ⟨68, _⟩ => ⟨S2x4x16384x16384, .f32⟩
  | .hbm, ⟨69, _⟩ => ⟨S2x4x16384x16384, .f32⟩
  | .hbm, ⟨70, _⟩ => ⟨S_, .f32⟩
  | .hbm, ⟨71, _⟩ => ⟨S2x4x16384x16384, .f32⟩
  | .hbm, ⟨72, _⟩ => ⟨S2x4x16384x16384, .f32⟩
  | .hbm, ⟨73, _⟩ => ⟨S2x16384x16384x4, .f32⟩
  | .hbm, ⟨74, _⟩ => ⟨S2x16384x4x64, .f32⟩
  | .hbm, ⟨75, _⟩ => ⟨S16384x2x4x64, .f32⟩
  | .hbm, ⟨76, _⟩ => ⟨S2x16384x64, .f32⟩
  | .hbm, ⟨77, _⟩ => ⟨S16384x2x64, .f32⟩
  | .hbm, ⟨78, _⟩ => ⟨S16384x8x64, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 29
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S16384x1024, .f32⟩
  | .hbm, ⟨6, _⟩ => ⟨S16384x4096, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x4096, .bf16⟩
  | .hbm, ⟨24, _⟩ => ⟨S1024x4096, .bf16⟩
  | .hbm, ⟨25, _⟩ => ⟨S16384x1024, .f32⟩
  | .hbm, ⟨26, _⟩ => ⟨S16384x1024, .bf16⟩
  | .hbm, ⟨27, _⟩ => ⟨S1x1024, .f32⟩
  | .hbm, ⟨28, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S16384x1024, .f32⟩
  | .hbm, ⟨6, _⟩ => ⟨S16384x4096, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x4096, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel4.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1 : Shape := ⟨2, ![1, 1]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 49
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x256, .f32⟩
  | .hbm, ⟨3, _⟩ => ⟨S16384x1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S1024x1024, .bf16⟩
  | .hbm, ⟨41, _⟩ => ⟨S256x1024, .bf16⟩
  | .hbm, ⟨42, _⟩ => ⟨S16384x1024, .f32⟩
  | .hbm, ⟨43, _⟩ => ⟨S16384x1024, .bf16⟩
  | .hbm, ⟨44, _⟩ => ⟨S16384x1024, .bf16⟩
  | .hbm, ⟨45, _⟩ => ⟨S16384x1024, .bf16⟩
  | .hbm, ⟨46, _⟩ => ⟨S1x1, .f32⟩
  | .hbm, ⟨47, _⟩ => ⟨S1x1024, .f32⟩
  | .hbm, ⟨48, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x1, .f32⟩
  | .local _ .vmem, ⟨23, _⟩ => ⟨S1x1024, .f32⟩
  | .local _ .vmem, ⟨24, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev main_v28_3 : Ref sig .tc := ⟨.hbm, 45, rfl⟩
abbrev main_v28_4 : Ref sig .tc := ⟨.hbm, 46, rfl⟩
abbrev main_v28_5 : Ref sig .tc := ⟨.hbm, 47, rfl⟩
abbrev main_v28_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S16384x1024, .f32⟩
  | 1 => ⟨S16384x1024, .f32⟩
  | 2 => ⟨S16384x256, .f32⟩
  | 3 => ⟨S16384x1024, .f32⟩
  | 4 => ⟨S1024x1024, .f32⟩
  | 5 => ⟨S256x1024, .f32⟩
  | 6 => ⟨S1x1024, .f32⟩
  | 7 => ⟨S1x1024, .f32⟩
  | 8 => ⟨S16384x1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S16384x1024, .f32⟩
  | 51 => ⟨S_, .f32⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S_, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S_, .f32⟩
  | 69 => ⟨S16384, .f32⟩
  | 70 => ⟨S_, .f32⟩
  | 71 => ⟨S16384, .f32⟩
  | 72 => ⟨S16384, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16384, .f32⟩
  | 81 => ⟨S_, .f32⟩
  | 82 => ⟨S16384, .f32⟩
  | 83 => ⟨S16384, .f32⟩
  | 84 => ⟨S16384x1024, .f32⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S_, .f32⟩
  | 92 => ⟨S1024, .f32⟩
  | 93 => ⟨S1x1024, .f32⟩
  | 94 => ⟨S16384x1024, .f32⟩
  | 95 => ⟨S16384x1024, .f32⟩
  | 96 => ⟨S16384x1024, .f32⟩
  | 97 => ⟨S_, .f32⟩
  | 98 => ⟨S16384, .f32⟩
  | 99 => ⟨S16384x1, .f32⟩
  | 100 => ⟨S16384x1024, .f32⟩
  | 101 => ⟨S16384x1024, .f32⟩
  | 102 => ⟨S16384x1024, .f32⟩
  | 103 => ⟨S16384x1, .f32⟩
  | 104 => ⟨S_, .f32⟩
  | 105 => ⟨S16384x1, .f32⟩
  | 106 => ⟨S16384x1, .f32⟩
  | 107 => ⟨S_, .f32⟩
  | 108 => ⟨S16384, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S16384x1024, .f32⟩
  | 115 => ⟨S_, .f32⟩
  | 116 => ⟨S1024, .f32⟩
  | 117 => ⟨S1x1024, .f32⟩
  | 118 => ⟨S16384x1024, .f32⟩
  | 119 => ⟨S16384x1024, .f32⟩
  | 120 => ⟨S16384x1024, .f32⟩
  | 121 => ⟨S_, .f32⟩
  | 122 => ⟨S16384, .f32⟩
  | 123 => ⟨S16384x1, .f32⟩
  | 124 => ⟨S16384x1024, .f32⟩
  | 125 => ⟨S16384x1024, .f32⟩
  | 126 => ⟨S16384x1, .f32⟩
  | 127 => ⟨S_, .f32⟩
  | _ => ⟨S16384x1024, .f32⟩

abbrev hbmTy0_1 (i : Nat) : BufTy := match i % 128 with
  | 0 => ⟨S16384x1, .f32⟩
  | 1 => ⟨S16384x1, .f32⟩
  | 2 => ⟨S_, .f32⟩
  | 3 => ⟨S16384, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S16384x1024, .bf16⟩
  | 10 => ⟨S16384x1024, .bf16⟩
  | 11 => ⟨S16384x1024, .bf16⟩
  | 12 => ⟨S1x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_cst_15 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_cst_17 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_19 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_cst_21 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_22 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_23 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_24 : Ref sig .tc := ⟨.hbm, 127, rfl⟩
abbrev main_v94 : Ref sig .tc := ⟨.hbm, 128, rfl⟩
abbrev main_v95 : Ref sig .tc := ⟨.hbm, 129, rfl⟩
abbrev main_cst_25 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]
-- ==== Kernel5.lean ====
abbrev S16384x512 : Shape := ⟨2, ![16384, 512]⟩
abbrev S1x512 : Shape := ⟨2, ![1, 512]⟩
abbrev S1024x1024 : Shape := ⟨2, ![1024, 1024]⟩
abbrev S16384x1024 : Shape := ⟨2, ![16384, 1024]⟩
abbrev S_ : Shape := ⟨0, ![]⟩
abbrev S8x16384x1 : Shape := ⟨3, ![8, 16384, 1]⟩
abbrev S512x1024 : Shape := ⟨2, ![512, 1024]⟩
abbrev S512x512 : Shape := ⟨2, ![512, 512]⟩
abbrev S8x512x1 : Shape := ⟨3, ![8, 512, 1]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 16
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S16384x1024, .f32⟩
  | .hbm, ⟨6, _⟩ => ⟨S_, .f32⟩
  | .hbm, ⟨7, _⟩ => ⟨S16384x512, .f32⟩
  | .hbm, ⟨8, _⟩ => ⟨S16384x1024, .bf16⟩
  | .hbm, ⟨9, _⟩ => ⟨S1024x1024, .bf16⟩
  | .hbm, ⟨10, _⟩ => ⟨S16384x512, .f32⟩
  | .hbm, ⟨11, _⟩ => ⟨S16384x512, .bf16⟩
  | .hbm, ⟨12, _⟩ => ⟨S8x16384x1, .f32⟩
  | .hbm, ⟨13, _⟩ => ⟨S16384x512, .f32⟩
  | .hbm, ⟨14, _⟩ => ⟨S1x512, .f32⟩
  | .hbm, ⟨15, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S8x512x1, .f32⟩
  | .local _ .vmem, ⟨16, _⟩ => ⟨S8x512x1, .f32⟩
  | .local _ .vmem, ⟨17, _⟩ => ⟨S512x512, .f32⟩
  | .local _ .vmem, ⟨18, _⟩ => ⟨S512x512, .f32⟩
  | .local _ .vmem, ⟨19, _⟩ => ⟨S1x512, .f32⟩
  | .local _ .vmem, ⟨20, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S16384x512 : Shape := ⟨2, ![16384, 512]⟩
abbrev S1x512 : Shape := ⟨2, ![1, 512]⟩
abbrev S1024x1024 : Shape := ⟨2, ![1024, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S512 : Shape := ⟨1, ![512]⟩
abbrev S16384x8x64 : Shape := ⟨3, ![16384, 8, 64]⟩
abbrev S16384x8 : Shape := ⟨2, ![16384, 8]⟩
abbrev S8x16384 : Shape := ⟨2, ![8, 16384]⟩
abbrev S8x16384x1 : Shape := ⟨3, ![8, 16384, 1]⟩
abbrev S16384x8x1 : Shape := ⟨3, ![16384, 8, 1]⟩
abbrev S16384x8x32 : Shape := ⟨3, ![16384, 8, 32]⟩

abbrev nBuf : Space → Nat
  | .hbm => 112
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S16384x1024, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x512, .f32⟩
  | .hbm, ⟨60, _⟩ => ⟨S16384x512, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S16384x512, .f32⟩
  | .hbm, ⟨83, _⟩ => ⟨S16384x512, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S16384x512, .f32⟩
  | .hbm, ⟨94, _⟩ => ⟨S16384x512, .f32⟩
  | .hbm, ⟨95, _⟩ => ⟨S16384x512, .f32⟩
  | .hbm, ⟨96, _⟩ => ⟨S16384x8x64, .f32⟩
  | .hbm, ⟨97, _⟩ => ⟨S_, .f32⟩
  | .hbm, ⟨98, _⟩ => ⟨S16384x8, .f32⟩
  | .hbm, ⟨99, _⟩ => ⟨S8x16384, .f32⟩
  | .hbm, ⟨100, _⟩ => ⟨S8x16384x1, .f32⟩
  | .hbm, ⟨101, _⟩ => ⟨S16384x512, .f32⟩
  | .hbm, ⟨102, _⟩ => ⟨S16384x8x64, .f32⟩
  | .hbm, ⟨103, _⟩ => ⟨S_, .f32⟩
  | .hbm, ⟨104, _⟩ => ⟨S16384x8, .f32⟩
  | .hbm, ⟨105, _⟩ => ⟨S16384x8x1, .f32⟩
  | .hbm, ⟨106, _⟩ => ⟨S16384x8x32, .f32⟩
  | .hbm, ⟨107, _⟩ => ⟨S_, .f32⟩
  | .hbm, ⟨108, _⟩ => ⟨S16384x8x32, .f32⟩
  | .hbm, ⟨109, _⟩ => ⟨S16384x8x64, .f32⟩
  | .hbm, ⟨110, _⟩ => ⟨S16384x512, .f32⟩
  | .hbm, ⟨111, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Kernel6.lean ====
abbrev S16384x4096 : Shape := ⟨2, ![16384, 4096]⟩
abbrev S4096x1024 : Shape := ⟨2, ![4096, 1024]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x1024, .bf16⟩
  | .hbm, ⟨4, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x1024, .f32⟩
  | .hbm, ⟨8, _⟩ => ⟨S1024x4096, .f32⟩
  | .hbm, ⟨9, _⟩ => ⟨S4096x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel7.lean ====
abbrev S16x128 : Shape := ⟨2, ![16, 128]⟩
abbrev S8x128x256 : Shape := ⟨3, ![8, 128, 256]⟩
abbrev S8x32768 : Shape := ⟨2, ![8, 32768]⟩
abbrev S_ : Shape := ⟨0, ![]⟩
abbrev S16x32768 : Shape := ⟨2, ![16, 32768]⟩
abbrev S128 : Shape := ⟨1, ![128]⟩
abbrev S256 : Shape := ⟨1, ![256]⟩
abbrev S1x256 : Shape := ⟨2, ![1, 256]⟩
abbrev S128x1 : Shape := ⟨2, ![128, 1]⟩
abbrev S128x256 : Shape := ⟨2, ![128, 256]⟩
abbrev S32768 : Shape := ⟨1, ![32768]⟩
abbrev S32768x1 : Shape := ⟨2, ![32768, 1]⟩
abbrev S1x128 : Shape := ⟨2, ![1, 128]⟩
abbrev S32768x128 : Shape := ⟨2, ![32768, 128]⟩
abbrev S4096x128 : Shape := ⟨2, ![4096, 128]⟩
abbrev S16x4096 : Shape := ⟨2, ![16, 4096]⟩

abbrev nBuf : Space → Nat
  | .hbm => 64
  | .vmem => 6
  | .smem => 0
  | _ => 0

abbrev bufTy : (tb : Table) → Fin (tcTables nBuf tb) → BufTy
  | .hbm, ⟨0, _⟩ => ⟨S16x128, .f32⟩
  | .hbm, ⟨1, _⟩ => ⟨S8x128x256, .f32⟩
  | .hbm, ⟨2, _⟩ => ⟨S8x32768, .f32⟩
  | .hbm, ⟨3, _⟩ => ⟨S_, .i32⟩
  | .hbm, ⟨4, _⟩ => ⟨S_, .f32⟩
  | .hbm, ⟨5, _⟩ => ⟨S16x32768, .f32⟩
  | .hbm, ⟨6, _⟩ => ⟨S128, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S1x256, .i32⟩
  | .hbm, ⟨11, _⟩ => ⟨S1x256, .i32⟩
  | .hbm, ⟨12, _⟩ => ⟨S128x1, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S_, .i32⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S_, .i32⟩
  | .hbm, ⟨29, _⟩ => ⟨S128x256, .i32⟩
  | .hbm, ⟨30, _⟩ => ⟨S128x256, .i32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S_, .f32⟩
  | .hbm, ⟨40, _⟩ => ⟨S128x256, .f32⟩
  | .hbm, ⟨41, _⟩ => ⟨S128x256, .f32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i32⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S32768, .i32⟩
  | .hbm, ⟨56, _⟩ => ⟨S32768x1, .i32⟩
  | .hbm, ⟨57, _⟩ => ⟨S128, .i32⟩
  | .hbm, ⟨58, _⟩ => ⟨S1x128, .i32⟩
  | .hbm, ⟨59, _⟩ => ⟨S32768x128, .i32⟩
  | .hbm, ⟨60, _⟩ => ⟨S32768x128, .i32⟩
  | .hbm, ⟨61, _⟩ => ⟨S32768x128, .i1⟩
  | .hbm, ⟨62, _⟩ => ⟨S32768x128, .bf16⟩
  | .hbm, ⟨63, _⟩ => ⟨S16x128, .f32⟩
  | .local _ .vmem, ⟨0, _⟩ => ⟨S4096x128, .bf16⟩
  | .local _ .vmem, ⟨1, _⟩ => ⟨S4096x128, .bf16⟩
  | .local _ .vmem, ⟨2, _⟩ => ⟨S16x4096, .f32⟩
  | .local _ .vmem, ⟨3, _⟩ => ⟨S16x4096, .f32⟩
  | .local _ .vmem, ⟨4, _⟩ => ⟨S16x128, .f32⟩
  | .local _ .vmem, ⟨5, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_c_4 : Ref sig .tc := ⟨.hbm, 23, rfl⟩
abbrev main_call1_v0 : Ref sig .tc := ⟨.hbm, 24, rfl⟩
abbrev main_call1_v1 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_c_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S16x128 : Shape := ⟨2, ![16, 128]⟩
abbrev S8x128x256 : Shape := ⟨3, ![8, 128, 256]⟩
abbrev S_ : Shape := ⟨0, ![]⟩
abbrev S32x8 : Shape := ⟨2, ![32, 8]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S128x256x1 : Shape := ⟨3, ![128, 256, 1]⟩
abbrev S128x256x8 : Shape := ⟨3, ![128, 256, 8]⟩
abbrev S8x32 : Shape := ⟨2, ![8, 32]⟩

abbrev nBuf : Space → Nat
  | .hbm => 72
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S8x128x256, .f32⟩
  | .hbm, ⟨2, _⟩ => ⟨S_, .f32⟩
  | .hbm, ⟨3, _⟩ => ⟨S32x8, .f32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S1x256, .i32⟩
  | .hbm, ⟨8, _⟩ => ⟨S1x256, .i32⟩
  | .hbm, ⟨9, _⟩ => ⟨S128, .i32⟩
  | .hbm, ⟨10, _⟩ => ⟨S128x1, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S_, .i32⟩
  | .hbm, ⟨22, _⟩ => ⟨S128x256, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i32⟩
  | .hbm, ⟨51, _⟩ => ⟨S128x256, .i32⟩
  | .hbm, ⟨52, _⟩ => ⟨S128x256, .i32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S_, .i32⟩
  | .hbm, ⟨57, _⟩ => ⟨S128x256, .i32⟩
  | .hbm, ⟨58, _⟩ => ⟨S128x256, .i32⟩
  | .hbm, ⟨59, _⟩ => ⟨S128x256, .i32⟩
  | .hbm, ⟨60, _⟩ => ⟨S128x256x1, .i32⟩
  | .hbm, ⟨61, _⟩ => ⟨S128x256x8, .f32⟩
  | .hbm, ⟨62, _⟩ => ⟨S8x128x256, .f32⟩
  | .hbm, ⟨63, _⟩ => ⟨S128x256x8, .f32⟩
  | .hbm, ⟨64, _⟩ => ⟨S_, .f32⟩
  | .hbm, ⟨65, _⟩ => ⟨S32x8, .f32⟩
  | .hbm, ⟨66, _⟩ => ⟨S32x8, .f32⟩
  | .hbm, ⟨67, _⟩ => ⟨S8x32, .f32⟩
  | .hbm, ⟨68, _⟩ => ⟨S_, .i32⟩
  | .hbm, ⟨69, _⟩ => ⟨S_, .f32⟩
  | .hbm, ⟨70, _⟩ => ⟨S16x128, .f32⟩
  | .hbm, ⟨71, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_c_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_14 : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel8.lean ====
abbrev S16384x512 : Shape := ⟨2, ![16384, 512]⟩
abbrev S16384x1024 : Shape := ⟨2, ![16384, 1024]⟩
abbrev S1x512 : Shape := ⟨2, ![1, 512]⟩
abbrev S1024x1024 : Shape := ⟨2, ![1024, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 19
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S16384x512 : Shape := ⟨2, ![16384, 512]⟩
abbrev S16384x1024 : Shape := ⟨2, ![16384, 1024]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 73
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S16384x512, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .bf16⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel9.lean ====
abbrev S16384x4096 : Shape := ⟨2, ![16384, 4096]⟩
abbrev S4096x1024 : Shape := ⟨2, ![4096, 1024]⟩
abbrev S16384x1024 : Shape := ⟨2, ![16384, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S16384x1024, .f32⟩
  | .hbm, ⟨7, _⟩ => ⟨S16384x1024, .f32⟩
  | .hbm, ⟨8, _⟩ => ⟨S16384x1024, .bf16⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S16384x4096 : Shape := ⟨2, ![16384, 4096]⟩
abbrev S4096x1024 : Shape := ⟨2, ![4096, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel10.lean ====
abbrev S16384x512 : Shape := ⟨2, ![16384, 512]⟩
abbrev S32x8 : Shape := ⟨2, ![32, 8]⟩
abbrev S1x16384x8x64 : Shape := ⟨4, ![1, 16384, 8, 64]⟩
abbrev S1x16384x1x8x64 : Shape := ⟨5, ![1, 16384, 1, 8, 64]⟩
abbrev S1x1x16384x8x64 : Shape := ⟨5, ![1, 1, 16384, 8, 64]⟩
abbrev S_ : Shape := ⟨0, ![]⟩
abbrev S1x1x256x64x8x64 : Shape := ⟨6, ![1, 1, 256, 64, 8, 64]⟩
abbrev S1x1x64x8x64 : Shape := ⟨5, ![1, 1, 64, 8, 64]⟩
abbrev S1x1x16512x8x64 : Shape := ⟨5, ![1, 1, 16512, 8, 64]⟩
abbrev S1x1x258x64x8x64 : Shape := ⟨6, ![1, 1, 258, 64, 8, 64]⟩
abbrev S1x1x256x192x8x64 : Shape := ⟨6, ![1, 1, 256, 192, 8, 64]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x8 : Shape := ⟨3, ![64, 192, 8]⟩
abbrev S64x8x192 : Shape := ⟨3, ![64, 8, 192]⟩
abbrev S1x1x1x64x8x192 : Shape := ⟨6, ![1, 1, 1, 64, 8, 192]⟩
abbrev S1x1x256x8x192x64 : Shape := ⟨6, ![1, 1, 256, 8, 192, 64]⟩
abbrev S1x1x256x64x8x192 : Shape := ⟨6, ![1, 1, 256, 64, 8, 192]⟩
abbrev S1x1x256x64x1x192 : Shape := ⟨6, ![1, 1, 256, 64, 1, 192]⟩
abbrev S1x1x256x64x8 : Shape := ⟨5, ![1, 1, 256, 64, 8]⟩
abbrev S1x1x256x64x8x1 : Shape := ⟨6, ![1, 1, 256, 64, 8, 1]⟩
abbrev S1x1x256x8x64x64 : Shape := ⟨6, ![1, 1, 256, 8, 64, 64]⟩
abbrev S1x1x16384x8 : Shape := ⟨4, ![1, 1, 16384, 8]⟩
abbrev S1x16384x1x8 : Shape := ⟨4, ![1, 16384, 1, 8]⟩
abbrev S1x16384x8 : Shape := ⟨3, ![1, 16384, 8]⟩
abbrev S1x4096x4x8x64 : Shape := ⟨5, ![1, 4096, 4, 8, 64]⟩
abbrev S1x4x4096x8x64 : Shape := ⟨5, ![1, 4, 4096, 8, 64]⟩
abbrev S1x4x64x64x8x64 : Shape := ⟨6, ![1, 4, 64, 64, 8, 64]⟩
abbrev S1x4x64x8x64 : Shape := ⟨5, ![1, 4, 64, 8, 64]⟩
abbrev S1x4x4224x8x64 : Shape := ⟨5, ![1, 4, 4224, 8, 64]⟩
abbrev S1x4x66x64x8x64 : Shape := ⟨6, ![1, 4, 66, 64, 8, 64]⟩
abbrev S1x4x64x192x8x64 : Shape := ⟨6, ![1, 4, 64, 192, 8, 64]⟩
abbrev S64x1x192 : Shape := ⟨3, ![64, 1, 192]⟩
abbrev S64x64x192 : Shape := ⟨3, ![64, 64, 192]⟩
abbrev S1x4x64x8x192x64 : Shape := ⟨6, ![1, 4, 64, 8, 192, 64]⟩
abbrev S1x4x64x64x8x192 : Shape := ⟨6, ![1, 4, 64, 64, 8, 192]⟩
abbrev S1x1x64x64x1x192 : Shape := ⟨6, ![1, 1, 64, 64, 1, 192]⟩
abbrev S1x4x64x64x8 : Shape := ⟨5, ![1, 4, 64, 64, 8]⟩
abbrev S1x4x64x64x8x1 : Shape := ⟨6, ![1, 4, 64, 64, 8, 1]⟩
abbrev S1x4x64x8x64x64 : Shape := ⟨6, ![1, 4, 64, 8, 64, 64]⟩
abbrev S1x4x4096x8 : Shape := ⟨4, ![1, 4, 4096, 8]⟩
abbrev S1x4096x4x8 : Shape := ⟨4, ![1, 4096, 4, 8]⟩
abbrev S1x1024x16x8x64 : Shape := ⟨5, ![1, 1024, 16, 8, 64]⟩
abbrev S1x16x1024x8x64 : Shape := ⟨5, ![1, 16, 1024, 8, 64]⟩
abbrev S1x16x16x64x8x64 : Shape := ⟨6, ![1, 16, 16, 64, 8, 64]⟩
abbrev S1x16x64x8x64 : Shape := ⟨5, ![1, 16, 64, 8, 64]⟩
abbrev S1x16x1152x8x64 : Shape := ⟨5, ![1, 16, 1152, 8, 64]⟩
abbrev S1x16x18x64x8x64 : Shape := ⟨6, ![1, 16, 18, 64, 8, 64]⟩
abbrev S1x16x16x192x8x64 : Shape := ⟨6, ![1, 16, 16, 192, 8, 64]⟩
abbrev S16 : Shape := ⟨1, ![16]⟩
abbrev S16x1 : Shape := ⟨2, ![16, 1]⟩
abbrev S16x192 : Shape := ⟨2, ![16, 192]⟩
abbrev S16x1x192 : Shape := ⟨3, ![16, 1, 192]⟩
abbrev S16x64x192 : Shape := ⟨3, ![16, 64, 192]⟩
abbrev S1x16x16x8x192x64 : Shape := ⟨6, ![1, 16, 16, 8, 192, 64]⟩
abbrev S1x16x16x64x8x192 : Shape := ⟨6, ![1, 16, 16, 64, 8, 192]⟩
abbrev S1x1x16x64x1x192 : Shape := ⟨6, ![1, 1, 16, 64, 1, 192]⟩
abbrev S1x16x16x64x8 : Shape := ⟨5, ![1, 16, 16, 64, 8]⟩
abbrev S1x16x16x64x8x1 : Shape := ⟨6, ![1, 16, 16, 64, 8, 1]⟩
abbrev S1x16x16x8x64x64 : Shape := ⟨6, ![1, 16, 16, 8, 64, 64]⟩
abbrev S1x16x1024x8 : Shape := ⟨4, ![1, 16, 1024, 8]⟩
abbrev S1x1024x16x8 : Shape := ⟨4, ![1, 1024, 16, 8]⟩
abbrev S1x16384x8x1 : Shape := ⟨4, ![1, 16384, 8, 1]⟩
abbrev S16384x8x1 : Shape := ⟨3, ![16384, 8, 1]⟩
abbrev S16384x8x64 : Shape := ⟨3, ![16384, 8, 64]⟩
abbrev S16384x8 : Shape := ⟨2, ![16384, 8]⟩
abbrev S16384x8x32 : Shape := ⟨3, ![16384, 8, 32]⟩
abbrev S8x32 : Shape := ⟨2, ![8, 32]⟩
abbrev S16x128 : Shape := ⟨2, ![16, 128]⟩
abbrev S128 : Shape := ⟨1, ![128]⟩
abbrev S1x256 : Shape := ⟨2, ![1, 256]⟩
abbrev S128x1 : Shape := ⟨2, ![128, 1]⟩
abbrev S128x256 : Shape := ⟨2, ![128, 256]⟩
abbrev S32768 : Shape := ⟨1, ![32768]⟩
abbrev S32768x1 : Shape := ⟨2, ![32768, 1]⟩
abbrev S1x128 : Shape := ⟨2, ![1, 128]⟩
abbrev S32768x128 : Shape := ⟨2, ![32768, 128]⟩
abbrev S16x32768 : Shape := ⟨2, ![16, 32768]⟩
abbrev S4096x128 : Shape := ⟨2, ![4096, 128]⟩
abbrev S16x4096 : Shape := ⟨2, ![16, 4096]⟩
abbrev S8x32768 : Shape := ⟨2, ![8, 32768]⟩
abbrev S8x128x256 : Shape := ⟨3, ![8, 128, 256]⟩
abbrev S64x128 : Shape := ⟨2, ![64, 128]⟩
abbrev S2x128x256 : Shape := ⟨3, ![2, 128, 256]⟩
abbrev S4224x128 : Shape := ⟨2, ![4224, 128]⟩
abbrev S128x128 : Shape := ⟨2, ![128, 128]⟩
abbrev S256x256 : Shape := ⟨2, ![256, 256]⟩
abbrev S256x128 : Shape := ⟨2, ![256, 128]⟩

abbrev nBuf : Space → Nat
  | .hbm => 693
  | .vmem => 40
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x512, .bf16⟩
  | 6 => ⟨S16384x512, .bf16⟩
  | 7 => ⟨S16384x512, .bf16⟩
  | 8 => ⟨S1x16384x8x64, .bf16⟩
  | 9 => ⟨S1x16384x8x64, .bf16⟩
  | 10 => ⟨S1x16384x8x64, .bf16⟩
  | 11 => ⟨S1x16384x1x8x64, .bf16⟩
  | 12 => ⟨S1x1x16384x8x64, .bf16⟩
  | 13 => ⟨S_, .i32⟩
  | 14 => ⟨S_, .bf16⟩
  | 15 => ⟨S1x1x16384x8x64, .bf16⟩
  | 16 => ⟨S1x1x256x64x8x64, .bf16⟩
  | 17 => ⟨S1x16384x1x8x64, .bf16⟩
  | 18 => ⟨S1x1x16384x8x64, .bf16⟩
  | 19 => ⟨S_, .i32⟩
  | 20 => ⟨S_, .bf16⟩
  | 21 => ⟨S1x1x16384x8x64, .bf16⟩
  | 22 => ⟨S_, .bf16⟩
  | 23 => ⟨S1x1x64x8x64, .bf16⟩
  | 24 => ⟨S1x1x16512x8x64, .bf16⟩
  | 25 => ⟨S1x1x258x64x8x64, .bf16⟩
  | 26 => ⟨S1x1x256x64x8x64, .bf16⟩
  | 27 => ⟨S1x1x256x64x8x64, .bf16⟩
  | 28 => ⟨S1x1x256x64x8x64, .bf16⟩
  | 29 => ⟨S1x1x256x192x8x64, .bf16⟩
  | 30 => ⟨S1x16384x1x8x64, .bf16⟩
  | 31 => ⟨S1x1x16384x8x64, .bf16⟩
  | 32 => ⟨S_, .i32⟩
  | 33 => ⟨S_, .bf16⟩
  | 34 => ⟨S1x1x16384x8x64, .bf16⟩
  | 35 => ⟨S_, .bf16⟩
  | 36 => ⟨S1x1x64x8x64, .bf16⟩
  | 37 => ⟨S1x1x16512x8x64, .bf16⟩
  | 38 => ⟨S1x1x258x64x8x64, .bf16⟩
  | 39 => ⟨S1x1x256x64x8x64, .bf16⟩
  | 40 => ⟨S1x1x256x64x8x64, .bf16⟩
  | 41 => ⟨S1x1x256x64x8x64, .bf16⟩
  | 42 => ⟨S1x1x256x192x8x64, .bf16⟩
  | 43 => ⟨S64, .i32⟩
  | 44 => ⟨S192, .i32⟩
  | 45 => ⟨S1x192, .i32⟩
  | 46 => ⟨S_, .i32⟩
  | 47 => ⟨S1x192, .i32⟩
  | 48 => ⟨S1x192, .i32⟩
  | 49 => ⟨S64x1, .i32⟩
  | 50 => ⟨S64x192, .i32⟩
  | 51 => ⟨S64x192, .i32⟩
  | 52 => ⟨S64x192, .i32⟩
  | 53 => ⟨S256, .i32⟩
  | 54 => ⟨S256x1, .i32⟩
  | 55 => ⟨S_, .i32⟩
  | 56 => ⟨S256x1, .i32⟩
  | 57 => ⟨S256x1, .i32⟩
  | 58 => ⟨S_, .i32⟩
  | 59 => ⟨S256x1, .i32⟩
  | 60 => ⟨S256x1, .i32⟩
  | 61 => ⟨S1x192, .i32⟩
  | 62 => ⟨S256x192, .i32⟩
  | 63 => ⟨S256x192, .i32⟩
  | 64 => ⟨S256x192, .i32⟩
  | 65 => ⟨S64x192, .i32⟩
  | 66 => ⟨S_, .i32⟩
  | 67 => ⟨S64x192, .i32⟩
  | 68 => ⟨S64x192, .i1⟩
  | 69 => ⟨S1x64x192, .i1⟩
  | 70 => ⟨S_, .i32⟩
  | 71 => ⟨S256x192, .i32⟩
  | 72 => ⟨S256x192, .i1⟩
  | 73 => ⟨S256x1x192, .i1⟩
  | 74 => ⟨S256x64x192, .i1⟩
  | 75 => ⟨S256x64x192, .i1⟩
  | 76 => ⟨S256x64x192, .i1⟩
  | 77 => ⟨S_, .i32⟩
  | 78 => ⟨S256x192, .i32⟩
  | 79 => ⟨S256x192, .i1⟩
  | 80 => ⟨S256x1x192, .i1⟩
  | 81 => ⟨S256x64x192, .i1⟩
  | 82 => ⟨S256x64x192, .i1⟩
  | 83 => ⟨S_, .i32⟩
  | 84 => ⟨S64x192, .i32⟩
  | 85 => ⟨S64x192, .i32⟩
  | 86 => ⟨S_, .i32⟩
  | 87 => ⟨S64x192, .i32⟩
  | 88 => ⟨S64x192, .i1⟩
  | 89 => ⟨S_, .i32⟩
  | 90 => ⟨S_, .i32⟩
  | 91 => ⟨S64x192, .i32⟩
  | 92 => ⟨S64x192, .i32⟩
  | 93 => ⟨S64x192, .i32⟩
  | 94 => ⟨S64x192, .i32⟩
  | 95 => ⟨S_, .i32⟩
  | 96 => ⟨S64x192, .i32⟩
  | 97 => ⟨S64x192, .i32⟩
  | 98 => ⟨S64x192, .f32⟩
  | 99 => ⟨S_, .f32⟩
  | 100 => ⟨S64x192, .f32⟩
  | 101 => ⟨S64x192, .f32⟩
  | 102 => ⟨S64x192, .f32⟩
  | 103 => ⟨S_, .f32⟩
  | 104 => ⟨S64x192, .f32⟩
  | 105 => ⟨S64x192, .f32⟩
  | 106 => ⟨S_, .f32⟩
  | 107 => ⟨S64x192, .f32⟩
  | 108 => ⟨S64x192, .f32⟩
  | 109 => ⟨S64x192, .i32⟩
  | 110 => ⟨S_, .i32⟩
  | 111 => ⟨S64x192, .i32⟩
  | 112 => ⟨S64x192, .i32⟩
  | 113 => ⟨S_, .i32⟩
  | 114 => ⟨S64x192, .i32⟩
  | 115 => ⟨S64x192, .i32⟩
  | 116 => ⟨S_, .i32⟩
  | 117 => ⟨S64x192, .i32⟩
  | 118 => ⟨S64x192, .i1⟩
  | 119 => ⟨S64x192, .i32⟩
  | 120 => ⟨S64x192, .i32⟩
  | 121 => ⟨S64x192, .i32⟩
  | 122 => ⟨S_, .i32⟩
  | 123 => ⟨S64x192, .i32⟩
  | 124 => ⟨S64x192, .i1⟩
  | 125 => ⟨S_, .i32⟩
  | 126 => ⟨S64x192, .i32⟩
  | 127 => ⟨S64x192, .i32⟩
  | _ => ⟨S16384x512, .f32⟩

abbrev hbmTy0_1 (i : Nat) : BufTy := match i % 128 with
  | 0 => ⟨S64x192, .i32⟩
  | 1 => ⟨S64x192x1, .i32⟩
  | 2 => ⟨S64x192x8, .f32⟩
  | 3 => ⟨S64x8x192, .f32⟩
  | 4 => ⟨S1x1x1x64x8x192, .f32⟩
  | 5 => ⟨S1x1x256x8x192x64, .f32⟩
  | 6 => ⟨S1x1x256x64x8x192, .f32⟩
  | 7 => ⟨S_, .f32⟩
  | 8 => ⟨S1x1x256x64x8x192, .f32⟩
  | 9 => ⟨S1x1x256x64x8x192, .f32⟩
  | 10 => ⟨S1x1x256x64x1x192, .i1⟩
  | 11 => ⟨S1x1x256x64x8x192, .f32⟩
  | 12 => ⟨S1x1x256x64x8x192, .f32⟩
  | 13 => ⟨S_, .f32⟩
  | 14 => ⟨S_, .f32⟩
  | 15 => ⟨S1x1x256x64x8x192, .i1⟩
  | 16 => ⟨S1x1x256x64x8x192, .f32⟩
  | 17 => ⟨S1x1x256x64x8x192, .f32⟩
  | 18 => ⟨S_, .f32⟩
  | 19 => ⟨S1x1x256x64x8, .f32⟩
  | 20 => ⟨S1x1x256x64x8x1, .f32⟩
  | 21 => ⟨S1x1x256x64x8x192, .f32⟩
  | 22 => ⟨S1x1x256x64x8x192, .f32⟩
  | 23 => ⟨S1x1x256x64x8x192, .f32⟩
  | 24 => ⟨S_, .f32⟩
  | 25 => ⟨S1x1x256x64x8, .f32⟩
  | 26 => ⟨S1x1x256x64x8x192, .bf16⟩
  | 27 => ⟨S1x1x256x8x64x64, .f32⟩
  | 28 => ⟨S1x1x256x64x8x64, .f32⟩
  | 29 => ⟨S1x1x256x64x8x1, .f32⟩
  | 30 => ⟨S1x1x256x64x8x64, .f32⟩
  | 31 => ⟨S1x1x256x64x8x64, .f32⟩
  | 32 => ⟨S1x1x16384x8x64, .f32⟩
  | 33 => ⟨S1x16384x1x8x64, .f32⟩
  | 34 => ⟨S1x16384x8x64, .f32⟩
  | 35 => ⟨S1x1x16384x8, .f32⟩
  | 36 => ⟨S1x16384x1x8, .f32⟩
  | 37 => ⟨S1x16384x8, .f32⟩
  | 38 => ⟨S1x1x16384x8, .f32⟩
  | 39 => ⟨S1x16384x1x8, .f32⟩
  | 40 => ⟨S1x16384x8, .f32⟩
  | 41 => ⟨S1x16384x8x64, .bf16⟩
  | 42 => ⟨S1x16384x8x64, .bf16⟩
  | 43 => ⟨S1x16384x8x64, .bf16⟩
  | 44 => ⟨S1x4096x4x8x64, .bf16⟩
  | 45 => ⟨S1x4x4096x8x64, .bf16⟩
  | 46 => ⟨S_, .i32⟩
  | 47 => ⟨S_, .bf16⟩
  | 48 => ⟨S1x4x4096x8x64, .bf16⟩
  | 49 => ⟨S1x4x64x64x8x64, .bf16⟩
  | 50 => ⟨S1x4096x4x8x64, .bf16⟩
  | 51 => ⟨S1x4x4096x8x64, .bf16⟩
  | 52 => ⟨S_, .i32⟩
  | 53 => ⟨S_, .bf16⟩
  | 54 => ⟨S1x4x4096x8x64, .bf16⟩
  | 55 => ⟨S_, .bf16⟩
  | 56 => ⟨S1x4x64x8x64, .bf16⟩
  | 57 => ⟨S1x4x4224x8x64, .bf16⟩
  | 58 => ⟨S1x4x66x64x8x64, .bf16⟩
  | 59 => ⟨S1x4x64x64x8x64, .bf16⟩
  | 60 => ⟨S1x4x64x64x8x64, .bf16⟩
  | 61 => ⟨S1x4x64x64x8x64, .bf16⟩
  | 62 => ⟨S1x4x64x192x8x64, .bf16⟩
  | 63 => ⟨S1x4096x4x8x64, .bf16⟩
  | 64 => ⟨S1x4x4096x8x64, .bf16⟩
  | 65 => ⟨S_, .i32⟩
  | 66 => ⟨S_, .bf16⟩
  | 67 => ⟨S1x4x4096x8x64, .bf16⟩
  | 68 => ⟨S_, .bf16⟩
  | 69 => ⟨S1x4x64x8x64, .bf16⟩
  | 70 => ⟨S1x4x4224x8x64, .bf16⟩
  | 71 => ⟨S1x4x66x64x8x64, .bf16⟩
  | 72 => ⟨S1x4x64x64x8x64, .bf16⟩
  | 73 => ⟨S1x4x64x64x8x64, .bf16⟩
  | 74 => ⟨S1x4x64x64x8x64, .bf16⟩
  | 75 => ⟨S1x4x64x192x8x64, .bf16⟩
  | 76 => ⟨S64, .i32⟩
  | 77 => ⟨S192, .i32⟩
  | 78 => ⟨S1x192, .i32⟩
  | 79 => ⟨S_, .i32⟩
  | 80 => ⟨S1x192, .i32⟩
  | 81 => ⟨S1x192, .i32⟩
  | 82 => ⟨S64x1, .i32⟩
  | 83 => ⟨S64x192, .i32⟩
  | 84 => ⟨S64x192, .i32⟩
  | 85 => ⟨S64x192, .i32⟩
  | 86 => ⟨S64, .i32⟩
  | 87 => ⟨S64x1, .i32⟩
  | 88 => ⟨S_, .i32⟩
  | 89 => ⟨S64x1, .i32⟩
  | 90 => ⟨S64x1, .i32⟩
  | 91 => ⟨S_, .i32⟩
  | 92 => ⟨S64x1, .i32⟩
  | 93 => ⟨S64x1, .i32⟩
  | 94 => ⟨S1x192, .i32⟩
  | 95 => ⟨S64x192, .i32⟩
  | 96 => ⟨S64x192, .i32⟩
  | 97 => ⟨S64x192, .i32⟩
  | 98 => ⟨S64x192, .i32⟩
  | 99 => ⟨S_, .i32⟩
  | 100 => ⟨S64x192, .i32⟩
  | 101 => ⟨S64x192, .i1⟩
  | 102 => ⟨S1x64x192, .i1⟩
  | 103 => ⟨S_, .i32⟩
  | 104 => ⟨S64x192, .i32⟩
  | 105 => ⟨S64x192, .i1⟩
  | 106 => ⟨S64x1x192, .i1⟩
  | 107 => ⟨S64x64x192, .i1⟩
  | 108 => ⟨S64x64x192, .i1⟩
  | 109 => ⟨S64x64x192, .i1⟩
  | 110 => ⟨S_, .i32⟩
  | 111 => ⟨S64x192, .i32⟩
  | 112 => ⟨S64x192, .i1⟩
  | 113 => ⟨S64x1x192, .i1⟩
  | 114 => ⟨S64x64x192, .i1⟩
  | 115 => ⟨S64x64x192, .i1⟩
  | 116 => ⟨S_, .i32⟩
  | 117 => ⟨S64x192, .i32⟩
  | 118 => ⟨S64x192, .i32⟩
  | 119 => ⟨S_, .i32⟩
  | 120 => ⟨S64x192, .i32⟩
  | 121 => ⟨S64x192, .i1⟩
  | 122 => ⟨S_, .i32⟩
  | 123 => ⟨S_, .i32⟩
  | 124 => ⟨S64x192, .i32⟩
  | 125 => ⟨S64x192, .i32⟩
  | 126 => ⟨S64x192, .i32⟩
  | 127 => ⟨S64x192, .i32⟩
  | _ => ⟨S16384x512, .f32⟩

abbrev hbmTy0_2 (i : Nat) : BufTy := match i % 128 with
  | 0 => ⟨S_, .i32⟩
  | 1 => ⟨S64x192, .i32⟩
  | 2 => ⟨S64x192, .i32⟩
  | 3 => ⟨S64x192, .f32⟩
  | 4 => ⟨S_, .f32⟩
  | 5 => ⟨S64x192, .f32⟩
  | 6 => ⟨S64x192, .f32⟩
  | 7 => ⟨S64x192, .f32⟩
  | 8 => ⟨S_, .f32⟩
  | 9 => ⟨S64x192, .f32⟩
  | 10 => ⟨S64x192, .f32⟩
  | 11 => ⟨S_, .f32⟩
  | 12 => ⟨S64x192, .f32⟩
  | 13 => ⟨S64x192, .f32⟩
  | 14 => ⟨S64x192, .i32⟩
  | 15 => ⟨S_, .i32⟩
  | 16 => ⟨S64x192, .i32⟩
  | 17 => ⟨S64x192, .i32⟩
  | 18 => ⟨S_, .i32⟩
  | 19 => ⟨S64x192, .i32⟩
  | 20 => ⟨S64x192, .i32⟩
  | 21 => ⟨S_, .i32⟩
  | 22 => ⟨S64x192, .i32⟩
  | 23 => ⟨S64x192, .i1⟩
  | 24 => ⟨S64x192, .i32⟩
  | 25 => ⟨S64x192, .i32⟩
  | 26 => ⟨S64x192, .i32⟩
  | 27 => ⟨S_, .i32⟩
  | 28 => ⟨S64x192, .i32⟩
  | 29 => ⟨S64x192, .i1⟩
  | 30 => ⟨S_, .i32⟩
  | 31 => ⟨S64x192, .i32⟩
  | 32 => ⟨S64x192, .i32⟩
  | 33 => ⟨S64x192, .i32⟩
  | 34 => ⟨S64x192x1, .i32⟩
  | 35 => ⟨S64x192x8, .f32⟩
  | 36 => ⟨S64x8x192, .f32⟩
  | 37 => ⟨S1x1x1x64x8x192, .f32⟩
  | 38 => ⟨S1x4x64x8x192x64, .f32⟩
  | 39 => ⟨S1x4x64x64x8x192, .f32⟩
  | 40 => ⟨S_, .f32⟩
  | 41 => ⟨S1x4x64x64x8x192, .f32⟩
  | 42 => ⟨S1x4x64x64x8x192, .f32⟩
  | 43 => ⟨S1x1x64x64x1x192, .i1⟩
  | 44 => ⟨S1x4x64x64x8x192, .f32⟩
  | 45 => ⟨S1x4x64x64x8x192, .f32⟩
  | 46 => ⟨S_, .f32⟩
  | 47 => ⟨S_, .f32⟩
  | 48 => ⟨S1x4x64x64x8x192, .i1⟩
  | 49 => ⟨S1x4x64x64x8x192, .f32⟩
  | 50 => ⟨S1x4x64x64x8x192, .f32⟩
  | 51 => ⟨S_, .f32⟩
  | 52 => ⟨S1x4x64x64x8, .f32⟩
  | 53 => ⟨S1x4x64x64x8x1, .f32⟩
  | 54 => ⟨S1x4x64x64x8x192, .f32⟩
  | 55 => ⟨S1x4x64x64x8x192, .f32⟩
  | 56 => ⟨S1x4x64x64x8x192, .f32⟩
  | 57 => ⟨S_, .f32⟩
  | 58 => ⟨S1x4x64x64x8, .f32⟩
  | 59 => ⟨S1x4x64x64x8x192, .bf16⟩
  | 60 => ⟨S1x4x64x8x64x64, .f32⟩
  | 61 => ⟨S1x4x64x64x8x64, .f32⟩
  | 62 => ⟨S1x4x64x64x8x1, .f32⟩
  | 63 => ⟨S1x4x64x64x8x64, .f32⟩
  | 64 => ⟨S1x4x64x64x8x64, .f32⟩
  | 65 => ⟨S1x4x4096x8x64, .f32⟩
  | 66 => ⟨S1x4096x4x8x64, .f32⟩
  | 67 => ⟨S1x16384x8x64, .f32⟩
  | 68 => ⟨S1x4x4096x8, .f32⟩
  | 69 => ⟨S1x4096x4x8, .f32⟩
  | 70 => ⟨S1x16384x8, .f32⟩
  | 71 => ⟨S1x4x4096x8, .f32⟩
  | 72 => ⟨S1x4096x4x8, .f32⟩
  | 73 => ⟨S1x16384x8, .f32⟩
  | 74 => ⟨S1x16384x8x64, .bf16⟩
  | 75 => ⟨S1x16384x8x64, .bf16⟩
  | 76 => ⟨S1x16384x8x64, .bf16⟩
  | 77 => ⟨S1x1024x16x8x64, .bf16⟩
  | 78 => ⟨S1x16x1024x8x64, .bf16⟩
  | 79 => ⟨S_, .i32⟩
  | 80 => ⟨S_, .bf16⟩
  | 81 => ⟨S1x16x1024x8x64, .bf16⟩
  | 82 => ⟨S1x16x16x64x8x64, .bf16⟩
  | 83 => ⟨S1x1024x16x8x64, .bf16⟩
  | 84 => ⟨S1x16x1024x8x64, .bf16⟩
  | 85 => ⟨S_, .i32⟩
  | 86 => ⟨S_, .bf16⟩
  | 87 => ⟨S1x16x1024x8x64, .bf16⟩
  | 88 => ⟨S_, .bf16⟩
  | 89 => ⟨S1x16x64x8x64, .bf16⟩
  | 90 => ⟨S1x16x1152x8x64, .bf16⟩
  | 91 => ⟨S1x16x18x64x8x64, .bf16⟩
  | 92 => ⟨S1x16x16x64x8x64, .bf16⟩
  | 93 => ⟨S1x16x16x64x8x64, .bf16⟩
  | 94 => ⟨S1x16x16x64x8x64, .bf16⟩
  | 95 => ⟨S1x16x16x192x8x64, .bf16⟩
  | 96 => ⟨S1x1024x16x8x64, .bf16⟩
  | 97 => ⟨S1x16x1024x8x64, .bf16⟩
  | 98 => ⟨S_, .i32⟩
  | 99 => ⟨S_, .bf16⟩
  | 100 => ⟨S1x16x1024x8x64, .bf16⟩
  | 101 => ⟨S_, .bf16⟩
  | 102 => ⟨S1x16x64x8x64, .bf16⟩
  | 103 => ⟨S1x16x1152x8x64, .bf16⟩
  | 104 => ⟨S1x16x18x64x8x64, .bf16⟩
  | 105 => ⟨S1x16x16x64x8x64, .bf16⟩
  | 106 => ⟨S1x16x16x64x8x64, .bf16⟩
  | 107 => ⟨S1x16x16x64x8x64, .bf16⟩
  | 108 => ⟨S1x16x16x192x8x64, .bf16⟩
  | 109 => ⟨S64, .i32⟩
  | 110 => ⟨S192, .i32⟩
  | 111 => ⟨S1x192, .i32⟩
  | 112 => ⟨S_, .i32⟩
  | 113 => ⟨S1x192, .i32⟩
  | 114 => ⟨S1x192, .i32⟩
  | 115 => ⟨S64x1, .i32⟩
  | 116 => ⟨S64x192, .i32⟩
  | 117 => ⟨S64x192, .i32⟩
  | 118 => ⟨S64x192, .i32⟩
  | 119 => ⟨S16, .i32⟩
  | 120 => ⟨S16x1, .i32⟩
  | 121 => ⟨S_, .i32⟩
  | 122 => ⟨S16x1, .i32⟩
  | 123 => ⟨S16x1, .i32⟩
  | 124 => ⟨S_, .i32⟩
  | 125 => ⟨S16x1, .i32⟩
  | 126 => ⟨S16x1, .i32⟩
  | 127 => ⟨S1x192, .i32⟩
  | _ => ⟨S16384x512, .f32⟩

abbrev hbmTy0_3 (i : Nat) : BufTy := match i % 128 with
  | 0 => ⟨S16x192, .i32⟩
  | 1 => ⟨S16x192, .i32⟩
  | 2 => ⟨S16x192, .i32⟩
  | 3 => ⟨S64x192, .i32⟩
  | 4 => ⟨S_, .i32⟩
  | 5 => ⟨S64x192, .i32⟩
  | 6 => ⟨S64x192, .i1⟩
  | 7 => ⟨S1x64x192, .i1⟩
  | 8 => ⟨S_, .i32⟩
  | 9 => ⟨S16x192, .i32⟩
  | 10 => ⟨S16x192, .i1⟩
  | 11 => ⟨S16x1x192, .i1⟩
  | 12 => ⟨S16x64x192, .i1⟩
  | 13 => ⟨S16x64x192, .i1⟩
  | 14 => ⟨S16x64x192, .i1⟩
  | 15 => ⟨S_, .i32⟩
  | 16 => ⟨S16x192, .i32⟩
  | 17 => ⟨S16x192, .i1⟩
  | 18 => ⟨S16x1x192, .i1⟩
  | 19 => ⟨S16x64x192, .i1⟩
  | 20 => ⟨S16x64x192, .i1⟩
  | 21 => ⟨S_, .i32⟩
  | 22 => ⟨S64x192, .i32⟩
  | 23 => ⟨S64x192, .i32⟩
  | 24 => ⟨S_, .i32⟩
  | 25 => ⟨S64x192, .i32⟩
  | 26 => ⟨S64x192, .i1⟩
  | 27 => ⟨S_, .i32⟩
  | 28 => ⟨S_, .i32⟩
  | 29 => ⟨S64x192, .i32⟩
  | 30 => ⟨S64x192, .i32⟩
  | 31 => ⟨S64x192, .i32⟩
  | 32 => ⟨S64x192, .i32⟩
  | 33 => ⟨S_, .i32⟩
  | 34 => ⟨S64x192, .i32⟩
  | 35 => ⟨S64x192, .i32⟩
  | 36 => ⟨S64x192, .f32⟩
  | 37 => ⟨S_, .f32⟩
  | 38 => ⟨S64x192, .f32⟩
  | 39 => ⟨S64x192, .f32⟩
  | 40 => ⟨S64x192, .f32⟩
  | 41 => ⟨S_, .f32⟩
  | 42 => ⟨S64x192, .f32⟩
  | 43 => ⟨S64x192, .f32⟩
  | 44 => ⟨S_, .f32⟩
  | 45 => ⟨S64x192, .f32⟩
  | 46 => ⟨S64x192, .f32⟩
  | 47 => ⟨S64x192, .i32⟩
  | 48 => ⟨S_, .i32⟩
  | 49 => ⟨S64x192, .i32⟩
  | 50 => ⟨S64x192, .i32⟩
  | 51 => ⟨S_, .i32⟩
  | 52 => ⟨S64x192, .i32⟩
  | 53 => ⟨S64x192, .i32⟩
  | 54 => ⟨S_, .i32⟩
  | 55 => ⟨S64x192, .i32⟩
  | 56 => ⟨S64x192, .i1⟩
  | 57 => ⟨S64x192, .i32⟩
  | 58 => ⟨S64x192, .i32⟩
  | 59 => ⟨S64x192, .i32⟩
  | 60 => ⟨S_, .i32⟩
  | 61 => ⟨S64x192, .i32⟩
  | 62 => ⟨S64x192, .i1⟩
  | 63 => ⟨S_, .i32⟩
  | 64 => ⟨S64x192, .i32⟩
  | 65 => ⟨S64x192, .i32⟩
  | 66 => ⟨S64x192, .i32⟩
  | 67 => ⟨S64x192x1, .i32⟩
  | 68 => ⟨S64x192x8, .f32⟩
  | 69 => ⟨S64x8x192, .f32⟩
  | 70 => ⟨S1x1x1x64x8x192, .f32⟩
  | 71 => ⟨S1x16x16x8x192x64, .f32⟩
  | 72 => ⟨S1x16x16x64x8x192, .f32⟩
  | 73 => ⟨S_, .f32⟩
  | 74 => ⟨S1x16x16x64x8x192, .f32⟩
  | 75 => ⟨S1x16x16x64x8x192, .f32⟩
  | 76 => ⟨S1x1x16x64x1x192, .i1⟩
  | 77 => ⟨S1x16x16x64x8x192, .f32⟩
  | 78 => ⟨S1x16x16x64x8x192, .f32⟩
  | 79 => ⟨S_, .f32⟩
  | 80 => ⟨S_, .f32⟩
  | 81 => ⟨S1x16x16x64x8x192, .i1⟩
  | 82 => ⟨S1x16x16x64x8x192, .f32⟩
  | 83 => ⟨S1x16x16x64x8x192, .f32⟩
  | 84 => ⟨S_, .f32⟩
  | 85 => ⟨S1x16x16x64x8, .f32⟩
  | 86 => ⟨S1x16x16x64x8x1, .f32⟩
  | 87 => ⟨S1x16x16x64x8x192, .f32⟩
  | 88 => ⟨S1x16x16x64x8x192, .f32⟩
  | 89 => ⟨S1x16x16x64x8x192, .f32⟩
  | 90 => ⟨S_, .f32⟩
  | 91 => ⟨S1x16x16x64x8, .f32⟩
  | 92 => ⟨S1x16x16x64x8x192, .bf16⟩
  | 93 => ⟨S1x16x16x8x64x64, .f32⟩
  | 94 => ⟨S1x16x16x64x8x64, .f32⟩
  | 95 => ⟨S1x16x16x64x8x1, .f32⟩
  | 96 => ⟨S1x16x16x64x8x64, .f32⟩
  | 97 => ⟨S1x16x16x64x8x64, .f32⟩
  | 98 => ⟨S1x16x1024x8x64, .f32⟩
  | 99 => ⟨S1x1024x16x8x64, .f32⟩
  | 100 => ⟨S1x16384x8x64, .f32⟩
  | 101 => ⟨S1x16x1024x8, .f32⟩
  | 102 => ⟨S1x1024x16x8, .f32⟩
  | 103 => ⟨S1x16384x8, .f32⟩
  | 104 => ⟨S1x16x1024x8, .f32⟩
  | 105 => ⟨S1x1024x16x8, .f32⟩
  | 106 => ⟨S1x16384x8, .f32⟩
  | 107 => ⟨S1x16384x8, .f32⟩
  | 108 => ⟨S1x16384x8, .f32⟩
  | 109 => ⟨S1x16384x8, .f32⟩
  | 110 => ⟨S1x16384x8, .f32⟩
  | 111 => ⟨S1x16384x8, .f32⟩
  | 112 => ⟨S1x16384x8, .f32⟩
  | 113 => ⟨S1x16384x8, .f32⟩
  | 114 => ⟨S1x16384x8, .f32⟩
  | 115 => ⟨S1x16384x8, .f32⟩
  | 116 => ⟨S1x16384x8, .f32⟩
  | 117 => ⟨S1x16384x8, .f32⟩
  | 118 => ⟨S1x16384x8, .f32⟩
  | 119 => ⟨S1x16384x8, .f32⟩
  | 120 => ⟨S1x16384x8x1, .f32⟩
  | 121 => ⟨S1x16384x8x64, .f32⟩
  | 122 => ⟨S1x16384x8x64, .f32⟩
  | 123 => ⟨S1x16384x8x1, .f32⟩
  | 124 => ⟨S1x16384x8x64, .f32⟩
  | 125 => ⟨S1x16384x8x64, .f32⟩
  | 126 => ⟨S1x16384x8x64, .f32⟩
  | 127 => ⟨S1x16384x8x1, .f32⟩
  | _ => ⟨S16384x512, .f32⟩

abbrev hbmTy0_4 (i : Nat) : BufTy := match i % 128 with
  | 0 => ⟨S1x16384x8x64, .f32⟩
  | 1 => ⟨S1x16384x8x64, .f32⟩
  | 2 => ⟨S1x16384x8x64, .f32⟩
  | 3 => ⟨S1x16384x8x1, .f32⟩
  | 4 => ⟨S1x16384x8x64, .f32⟩
  | 5 => ⟨S1x16384x8x64, .f32⟩
  | 6 => ⟨S1x16384x8, .f32⟩
  | 7 => ⟨S1x16384x8, .f32⟩
  | 8 => ⟨S16384x8x1, .f32⟩
  | 9 => ⟨S16384x8x64, .f32⟩
  | 10 => ⟨S16384x8x64, .f32⟩
  | 11 => ⟨S16384x8x64, .f32⟩
  | 12 => ⟨S_, .f32⟩
  | 13 => ⟨S16384x8, .f32⟩
  | 14 => ⟨S16384x8x1, .f32⟩
  | 15 => ⟨S16384x8x32, .f32⟩
  | 16 => ⟨S16384x8x32, .f32⟩
  | 17 => ⟨S16384x8x64, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .bf16⟩
  | 24 => ⟨S8x32, .f32⟩
  | 25 => ⟨S_, .i32⟩
  | 26 => ⟨S_, .f32⟩
  | 27 => ⟨S16x128, .f32⟩
  | 28 => ⟨S128, .i32⟩
  | 29 => ⟨S256, .i32⟩
  | 30 => ⟨S1x256, .i32⟩
  | 31 => ⟨S_, .i32⟩
  | 32 => ⟨S1x256, .i32⟩
  | 33 => ⟨S1x256, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S_, .i32⟩
  | 46 => ⟨S128x256, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i32⟩
  | 53 => ⟨S128x256, .f32⟩
  | 54 => ⟨S_, .f32⟩
  | 55 => ⟨S128x256, .f32⟩
  | 56 => ⟨S128x256, .f32⟩
  | 57 => ⟨S128x256, .f32⟩
  | 58 => ⟨S_, .f32⟩
  | 59 => ⟨S128x256, .f32⟩
  | 60 => ⟨S128x256, .f32⟩
  | 61 => ⟨S_, .f32⟩
  | 62 => ⟨S128x256, .f32⟩
  | 63 => ⟨S128x256, .f32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S128x256, .i32⟩
  | 75 => ⟨S128x256, .i32⟩
  | 76 => ⟨S128x256, .i32⟩
  | 77 => ⟨S32768, .i32⟩
  | 78 => ⟨S32768x1, .i32⟩
  | 79 => ⟨S128, .i32⟩
  | 80 => ⟨S1x128, .i32⟩
  | 81 => ⟨S32768x128, .i32⟩
  | 82 => ⟨S32768x128, .i32⟩
  | 83 => ⟨S32768x128, .i1⟩
  | 84 => ⟨S32768x128, .bf16⟩
  | 85 => ⟨S16x32768, .f32⟩
  | 86 => ⟨S8x32768, .f32⟩
  | 87 => ⟨S8x128x256, .f32⟩
  | 88 => ⟨S128, .i32⟩
  | 89 => ⟨S256, .i32⟩
  | 90 => ⟨S1x256, .i32⟩
  | 91 => ⟨S_, .i32⟩
  | 92 => ⟨S1x256, .i32⟩
  | 93 => ⟨S1x256, .i32⟩
  | 94 => ⟨S128x1, .i32⟩
  | 95 => ⟨S128x256, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .f32⟩
  | 103 => ⟨S_, .f32⟩
  | 104 => ⟨S8x128x256, .i1⟩
  | 105 => ⟨S8x128x256, .f32⟩
  | 106 => ⟨S8x128x256, .f32⟩
  | 107 => ⟨S16384x512, .bf16⟩
  | 108 => ⟨S16384x512, .bf16⟩
  | 109 => ⟨S8x128x256, .f32⟩
  | 110 => ⟨S8x32768, .f32⟩
  | 111 => ⟨S_, .i32⟩
  | 112 => ⟨S_, .f32⟩
  | 113 => ⟨S16x32768, .f32⟩
  | 114 => ⟨S128, .i32⟩
  | 115 => ⟨S256, .i32⟩
  | 116 => ⟨S1x256, .i32⟩
  | 117 => ⟨S_, .i32⟩
  | 118 => ⟨S1x256, .i32⟩
  | 119 => ⟨S1x256, .i32⟩
  | 120 => ⟨S128x1, .i32⟩
  | 121 => ⟨S128x256, .i32⟩
  | 122 => ⟨S128x256, .i32⟩
  | 123 => ⟨S128x256, .i32⟩
  | 124 => ⟨S_, .i32⟩
  | 125 => ⟨S128x256, .i32⟩
  | 126 => ⟨S128x256, .i32⟩
  | 127 => ⟨S_, .i32⟩
  | _ => ⟨S16384x512, .f32⟩

abbrev hbmTy0_5 (i : Nat) : BufTy := match i % 128 with
  | 0 => ⟨S128x256, .i32⟩
  | 1 => ⟨S128x256, .i1⟩
  | 2 => ⟨S_, .i32⟩
  | 3 => ⟨S_, .i32⟩
  | 4 => ⟨S128x256, .i32⟩
  | 5 => ⟨S128x256, .i32⟩
  | 6 => ⟨S128x256, .i32⟩
  | 7 => ⟨S128x256, .i32⟩
  | 8 => ⟨S_, .i32⟩
  | 9 => ⟨S128x256, .i32⟩
  | 10 => ⟨S128x256, .i32⟩
  | 11 => ⟨S128x256, .f32⟩
  | 12 => ⟨S_, .f32⟩
  | 13 => ⟨S128x256, .f32⟩
  | 14 => ⟨S128x256, .f32⟩
  | 15 => ⟨S128x256, .f32⟩
  | 16 => ⟨S_, .f32⟩
  | 17 => ⟨S128x256, .f32⟩
  | 18 => ⟨S128x256, .f32⟩
  | 19 => ⟨S_, .f32⟩
  | 20 => ⟨S128x256, .f32⟩
  | 21 => ⟨S128x256, .f32⟩
  | 22 => ⟨S128x256, .i32⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i32⟩
  | 29 => ⟨S_, .i32⟩
  | 30 => ⟨S128x256, .i32⟩
  | 31 => ⟨S128x256, .i1⟩
  | 32 => ⟨S128x256, .i32⟩
  | 33 => ⟨S128x256, .i32⟩
  | 34 => ⟨S128x256, .i32⟩
  | 35 => ⟨S32768, .i32⟩
  | 36 => ⟨S32768x1, .i32⟩
  | 37 => ⟨S128, .i32⟩
  | 38 => ⟨S1x128, .i32⟩
  | 39 => ⟨S32768x128, .i32⟩
  | 40 => ⟨S32768x128, .i32⟩
  | 41 => ⟨S32768x128, .i1⟩
  | 42 => ⟨S32768x128, .bf16⟩
  | 43 => ⟨S_, .f32⟩
  | 44 => ⟨S16x128, .f32⟩
  | 45 => ⟨S16x128, .f32⟩
  | 46 => ⟨S16384x512, .f32⟩
  | 47 => ⟨S_, .f32⟩
  | 48 => ⟨S16384x512, .f32⟩
  | 49 => ⟨S16384x512, .f32⟩
  | 50 => ⟨S16384x512, .bf16⟩
  | 51 => ⟨S8x32, .f32⟩
  | 52 => ⟨S32x8, .f32⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x512, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S16x128, .f32⟩
  | .local _ .vmem, ⟨3, _⟩ => ⟨S16x4096, .f32⟩
  | .local _ .vmem, ⟨4, _⟩ => ⟨S16x4096, .f32⟩
  | .local _ .vmem, ⟨5, _⟩ => ⟨S4096x128, .bf16⟩
  | .local _ .vmem, ⟨6, _⟩ => ⟨S4096x128, .bf16⟩
  | .local _ .vmem, ⟨7, _⟩ => ⟨S64x128, .bf16⟩
  | .local _ .vmem, ⟨8, _⟩ => ⟨S64x128, .bf16⟩
  | .local _ .vmem, ⟨9, _⟩ => ⟨S4096x128, .bf16⟩
  | .local _ .vmem, ⟨10, _⟩ => ⟨S4096x128, .bf16⟩
  | .local _ .vmem, ⟨11, _⟩ => ⟨S64x128, .bf16⟩
  | .local _ .vmem, ⟨12, _⟩ => ⟨S64x128, .bf16⟩
  | .local _ .vmem, ⟨13, _⟩ => ⟨S64x128, .bf16⟩
  | .local _ .vmem, ⟨14, _⟩ => ⟨S64x128, .bf16⟩
  | .local _ .vmem, ⟨15, _⟩ => ⟨S4096x128, .bf16⟩
  | .local _ .vmem, ⟨16, _⟩ => ⟨S4096x128, .bf16⟩
  | .local _ .vmem, ⟨17, _⟩ => ⟨S64x128, .bf16⟩
  | .local _ .vmem, ⟨18, _⟩ => ⟨S64x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .f32⟩
  | .local _ .vmem, ⟨22, _⟩ => ⟨S4096x128, .f32⟩
  | .local _ .vmem, ⟨23, _⟩ => ⟨S2x128x256, .f32⟩
  | .local _ .vmem, ⟨24, _⟩ => ⟨S2x128x256, .f32⟩
  | .local _ .vmem, ⟨25, _⟩ => ⟨S4096x128, .bf16⟩
  | .local _ .vmem, ⟨26, _⟩ => ⟨S4096x128, .bf16⟩
  | .local _ .vmem, ⟨27, _⟩ => ⟨S2x128x256, .f32⟩
  | .local _ .vmem, ⟨28, _⟩ => ⟨S2x128x256, .f32⟩
  | .local _ .vmem, ⟨29, _⟩ => ⟨S4096x128, .f32⟩
  | .local _ .vmem, ⟨30, _⟩ => ⟨S4224x128, .f32⟩
  | .local _ .vmem, ⟨31, _⟩ => ⟨S4224x128, .f32⟩
  | .local _ .vmem, ⟨32, _⟩ => ⟨S4096x128, .f32⟩
  | .local _ .vmem, ⟨33, _⟩ => ⟨S4096x128, .f32⟩
  | .local _ .vmem, ⟨34, _⟩ => ⟨S4096x128, .bf16⟩
  | .local _ .vmem, ⟨35, _⟩ => ⟨S4096x128, .bf16⟩
  | .local _ .vmem, ⟨36, _⟩ => ⟨S16x4096, .f32⟩
  | .local _ .vmem, ⟨37, _⟩ => ⟨S16x4096, .f32⟩
  | .local _ .vmem, ⟨38, _⟩ => ⟨S16x128, .f32⟩
  | .local _ .vmem, ⟨39, _⟩ => ⟨S16x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_c_12 : Ref sig .tc := ⟨.hbm, 90, rfl⟩
abbrev main_call3_v0 : Ref sig .tc := ⟨.hbm, 91, rfl⟩
abbrev main_call3_v1 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_c_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_call6_v0 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_27 : Ref sig .tc := ⟨.hbm, 180, rfl⟩
abbrev main_call7_v0 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_29 : Ref sig .tc := ⟨.hbm, 193, rfl⟩
abbrev main_call8_v0 : Ref sig .tc := ⟨.hbm, 194, rfl⟩
abbrev main_v147 : Ref sig .tc := ⟨.hbm, 195, rfl⟩
abbrev main_cst_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_31 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_c_32 : Ref sig .tc := ⟨.hbm, 216, rfl⟩
abbrev main_v166 : Ref sig .tc := ⟨.hbm, 217, rfl⟩
abbrev main_v167 : Ref sig .tc := ⟨.hbm, 218, rfl⟩
abbrev main_c_33 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_34 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_35 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_c_36 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_c_37 : Ref sig .tc := ⟨.hbm, 244, rfl⟩
abbrev main_v189 : Ref sig .tc := ⟨.hbm, 245, rfl⟩
abbrev main_v190 : Ref sig .tc := ⟨.hbm, 246, rfl⟩
abbrev main_c_38 : Ref sig .tc := ⟨.hbm, 247, rfl⟩
abbrev main_v191 : Ref sig .tc := ⟨.hbm, 248, rfl⟩
abbrev main_v192 : Ref sig .tc := ⟨.hbm, 249, rfl⟩
abbrev main_c_39 : Ref sig .tc := ⟨.hbm, 250, rfl⟩
abbrev main_c_40 : Ref sig .tc := ⟨.hbm, 251, rfl⟩
abbrev main_call9_v0 : Ref sig .tc := ⟨.hbm, 252, rfl⟩
abbrev main_call9_v1 : Ref sig .tc := ⟨.hbm, 253, rfl⟩
abbrev main_v193 : Ref sig .tc := ⟨.hbm, 254, rfl⟩
abbrev main_v194 : Ref sig .tc := ⟨.hbm, 255, rfl⟩
abbrev main_c_41 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_42 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_43 : Ref sig .tc := ⟨.hbm, 264, rfl⟩
abbrev main_v201 : Ref sig .tc := ⟨.hbm, 265, rfl⟩
abbrev main_v202 : Ref sig .tc := ⟨.hbm, 266, rfl⟩
abbrev main_cst_44 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_45 : Ref sig .tc := ⟨.hbm, 271, rfl⟩
abbrev main_v206 : Ref sig .tc := ⟨.hbm, 272, rfl⟩
abbrev main_v207 : Ref sig .tc := ⟨.hbm, 273, rfl⟩
abbrev main_c_46 : Ref sig .tc := ⟨.hbm, 274, rfl⟩
abbrev main_v208 : Ref sig .tc := ⟨.hbm, 275, rfl⟩
abbrev main_v209 : Ref sig .tc := ⟨.hbm, 276, rfl⟩
abbrev main_c_47 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_48 : Ref sig .tc := ⟨.hbm, 283, rfl⟩
abbrev main_v215 : Ref sig .tc := ⟨.hbm, 284, rfl⟩
abbrev main_v216 : Ref sig .tc := ⟨.hbm, 285, rfl⟩
abbrev main_c_49 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_cst_50 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_cst_51 : Ref sig .tc := ⟨.hbm, 302, rfl⟩
abbrev main_call11_v0 : Ref sig .tc := ⟨.hbm, 303, rfl⟩
abbrev main_call11_v1 : Ref sig .tc := ⟨.hbm, 304, rfl⟩
abbrev main_call11_v2 : Ref sig .tc := ⟨.hbm, 305, rfl⟩
abbrev main_v231 : Ref sig .tc := ⟨.hbm, 306, rfl⟩
abbrev main_cst_52 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_cst_53 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_c_54 : Ref sig .tc := ⟨.hbm, 335, rfl⟩
abbrev main_call12_v0 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_c_55 : Ref sig .tc := ⟨.hbm, 341, rfl⟩
abbrev main_call13_v0 : Ref sig .tc := ⟨.hbm, 342, rfl⟩
abbrev main_v262 : Ref sig .tc := ⟨.hbm, 343, rfl⟩
abbrev main_cst_56 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_c_57 : Ref sig .tc := ⟨.hbm, 354, rfl⟩
abbrev main_call14_v0 : Ref sig .tc := ⟨.hbm, 355, rfl⟩
abbrev main_v272 : Ref sig .tc := ⟨.hbm, 356, rfl⟩
abbrev main_cst_58 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_c_59 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_c_60 : Ref sig .tc := ⟨.hbm, 377, rfl⟩
abbrev main_v291 : Ref sig .tc := ⟨.hbm, 378, rfl⟩
abbrev main_v292 : Ref sig .tc := ⟨.hbm, 379, rfl⟩
abbrev main_c_61 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_c_62 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_c_63 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_c_64 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_c_65 : Ref sig .tc := ⟨.hbm, 405, rfl⟩
abbrev main_v314 : Ref sig .tc := ⟨.hbm, 406, rfl⟩
abbrev main_v315 : Ref sig .tc := ⟨.hbm, 407, rfl⟩
abbrev main_c_66 : Ref sig .tc := ⟨.hbm, 408, rfl⟩
abbrev main_v316 : Ref sig .tc := ⟨.hbm, 409, rfl⟩
abbrev main_v317 : Ref sig .tc := ⟨.hbm, 410, rfl⟩
abbrev main_c_67 : Ref sig .tc := ⟨.hbm, 411, rfl⟩
abbrev main_c_68 : Ref sig .tc := ⟨.hbm, 412, rfl⟩
abbrev main_call15_v0 : Ref sig .tc := ⟨.hbm, 413, rfl⟩
abbrev main_call15_v1 : Ref sig .tc := ⟨.hbm, 414, rfl⟩
abbrev main_v318 : Ref sig .tc := ⟨.hbm, 415, rfl⟩
abbrev main_v319 : Ref sig .tc := ⟨.hbm, 416, rfl⟩
abbrev main_c_69 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_cst_70 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_cst_71 : Ref sig .tc := ⟨.hbm, 425, rfl⟩
abbrev main_v326 : Ref sig .tc := ⟨.hbm, 426, rfl⟩
abbrev main_v327 : Ref sig .tc := ⟨.hbm, 427, rfl⟩
abbrev main_cst_72 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_c_73 : Ref sig .tc := ⟨.hbm, 432, rfl⟩
abbrev main_v331 : Ref sig .tc := ⟨.hbm, 433, rfl⟩
abbrev main_v332 : Ref sig .tc := ⟨.hbm, 434, rfl⟩
abbrev main_c_74 : Ref sig .tc := ⟨.hbm, 435, rfl⟩
abbrev main_v333 : Ref sig .tc := ⟨.hbm, 436, rfl⟩
abbrev main_v334 : Ref sig .tc := ⟨.hbm, 437, rfl⟩
abbrev main_c_75 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_c_76 : Ref sig .tc := ⟨.hbm, 444, rfl⟩
abbrev main_v340 : Ref sig .tc := ⟨.hbm, 445, rfl⟩
abbrev main_v341 : Ref sig .tc := ⟨.hbm, 446, rfl⟩
abbrev main_c_77 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_cst_78 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_cst_79 : Ref sig .tc := ⟨.hbm, 463, rfl⟩
abbrev main_call17_v0 : Ref sig .tc := ⟨.hbm, 464, rfl⟩
abbrev main_call17_v1 : Ref sig .tc := ⟨.hbm, 465, rfl⟩
abbrev main_call17_v2 : Ref sig .tc := ⟨.hbm, 466, rfl⟩
abbrev main_v356 : Ref sig .tc := ⟨.hbm, 467, rfl⟩
abbrev main_cst_80 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_cst_81 : Ref sig .tc := ⟨.hbm, 474, rfl⟩
abbrev main_v362 : Ref sig .tc := ⟨.hbm, 475, rfl⟩
abbrev main_v363 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_cst_82 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_cst_83 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_c_84 : Ref sig .tc := ⟨.hbm, 537, rfl⟩
abbrev main_call18_v0 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_c_85 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_v431 : Ref sig .tc := ⟨.hbm, 549, rfl⟩
abbrev main_c_86 : Ref sig .tc := ⟨.hbm, 550, rfl⟩
abbrev main_v432 : Ref sig .tc := ⟨.hbm, 551, rfl⟩
abbrev main_v433 : Ref sig .tc := ⟨.hbm, 552, rfl⟩
abbrev main_c_87 : Ref sig .tc := ⟨.hbm, 553, rfl⟩
abbrev main_v434 : Ref sig .tc := ⟨.hbm, 554, rfl⟩
abbrev main_v435 : Ref sig .tc := ⟨.hbm, 555, rfl⟩
abbrev main_c_88 : Ref sig .tc := ⟨.hbm, 556, rfl⟩
abbrev main_c_89 : Ref sig .tc := ⟨.hbm, 557, rfl⟩
abbrev main_call19_v0 : Ref sig .tc := ⟨.hbm, 558, rfl⟩
abbrev main_call19_v1 : Ref sig .tc := ⟨.hbm, 559, rfl⟩
abbrev main_v436 : Ref sig .tc := ⟨.hbm, 560, rfl⟩
abbrev main_v437 : Ref sig .tc := ⟨.hbm, 561, rfl⟩
abbrev main_c_90 : Ref sig .tc := ⟨.hbm, 562, rfl⟩
abbrev main_v438 : Ref sig .tc := ⟨.hbm, 563, rfl⟩
abbrev main_v439 : Ref sig .tc := ⟨.hbm, 564, rfl⟩
abbrev main_v440 : Ref sig .tc := ⟨.hbm, 565, rfl⟩
abbrev main_cst_91 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_cst_92 : Ref sig .tc := ⟨.hbm, 570, rfl⟩
abbrev main_v444 : Ref sig .tc := ⟨.hbm, 571, rfl⟩
abbrev main_v445 : Ref sig .tc := ⟨.hbm, 572, rfl⟩
abbrev main_cst_93 : Ref sig .tc := ⟨.hbm, 573, rfl⟩
abbrev main_v446 : Ref sig .tc := ⟨.hbm, 574, rfl⟩
abbrev main_v447 : Ref sig .tc := ⟨.hbm, 575, rfl⟩
abbrev main_v448 : Ref sig .tc := ⟨.hbm, 576, rfl⟩
abbrev main_c_94 : Ref sig .tc := ⟨.hbm, 577, rfl⟩
abbrev main_v449 : Ref sig .tc := ⟨.hbm, 578, rfl⟩
abbrev main_v450 : Ref sig .tc := ⟨.hbm, 579, rfl⟩
abbrev main_c_95 : Ref sig .tc := ⟨.hbm, 580, rfl⟩
abbrev main_v451 : Ref sig .tc := ⟨.hbm, 581, rfl⟩
abbrev main_v452 : Ref sig .tc := ⟨.hbm, 582, rfl⟩
abbrev main_c_96 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_v456 : Ref sig .tc := ⟨.hbm, 587, rfl⟩
abbrev main_v457 : Ref sig .tc := ⟨.hbm, 588, rfl⟩
abbrev main_v458 : Ref sig .tc := ⟨.hbm, 589, rfl⟩
abbrev main_v459 : Ref sig .tc := ⟨.hbm, 590, rfl⟩
abbrev main_v460 : Ref sig .tc := ⟨.hbm, 591, rfl⟩
abbrev main_v461 : Ref sig .tc := ⟨.hbm, 592, rfl⟩
abbrev main_v462 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_v468 : Ref sig .tc := ⟨.hbm, 599, rfl⟩
abbrev main_v469 : Ref sig .tc := ⟨.hbm, 600, rfl⟩
abbrev main_v470 : Ref sig .tc := ⟨.hbm, 601, rfl⟩
abbrev main_v471 : Ref sig .tc := ⟨.hbm, 602, rfl⟩
abbrev main_c_97 : Ref sig .tc := ⟨.hbm, 603, rfl⟩
abbrev main_v472 : Ref sig .tc := ⟨.hbm, 604, rfl⟩
abbrev main_v473 : Ref sig .tc := ⟨.hbm, 605, rfl⟩
abbrev main_v474 : Ref sig .tc := ⟨.hbm, 606, rfl⟩
abbrev main_v475 : Ref sig .tc := ⟨.hbm, 607, rfl⟩
abbrev main_v476 : Ref sig .tc := ⟨.hbm, 608, rfl⟩
abbrev main_v477 : Ref sig .tc := ⟨.hbm, 609, rfl⟩
abbrev main_v478 : Ref sig .tc := ⟨.hbm, 610, rfl⟩
abbrev main_c_98 : Ref sig .tc := ⟨.hbm, 611, rfl⟩
abbrev main_v479 : Ref sig .tc := ⟨.hbm, 612, rfl⟩
abbrev main_v480 : Ref sig .tc := ⟨.hbm, 613, rfl⟩
abbrev main_cst_99 : Ref sig .tc := ⟨.hbm, 614, rfl⟩
abbrev main_call21_v0 : Ref sig .tc := ⟨.hbm, 615, rfl⟩
abbrev main_call21_v1 : Ref sig .tc := ⟨.hbm, 616, rfl⟩
abbrev main_call21_v2 : Ref sig .tc := ⟨.hbm, 617, rfl⟩
abbrev main_v481 : Ref sig .tc := ⟨.hbm, 618, rfl⟩
abbrev main_v482 : Ref sig .tc := ⟨.hbm, 619, rfl⟩
abbrev main_v483_0 : Ref sig .tc := ⟨.hbm, 620, rfl⟩
abbrev main_v483_1 : Ref sig .tc := ⟨.hbm, 621, rfl⟩
abbrev main_v484 : Ref sig .tc := ⟨.hbm, 622, rfl⟩
abbrev main_c_100 : Ref sig .tc := ⟨.hbm, 623, rfl⟩
abbrev main_call22_v0 : Ref sig .tc := ⟨.hbm, 624, rfl⟩
abbrev main_v485 : Ref sig .tc := ⟨.hbm, 625, rfl⟩
abbrev main_v486 : Ref sig .tc := ⟨.hbm, 626, rfl⟩
abbrev main_v487 : Ref sig .tc := ⟨.hbm, 627, rfl⟩
abbrev main_v488 : Ref sig .tc := ⟨.hbm, 628, rfl⟩
abbrev main_c_101 : Ref sig .tc := ⟨.hbm, 629, rfl⟩
abbrev main_v489 : Ref sig .tc := ⟨.hbm, 630, rfl⟩
abbrev main_v490 : Ref sig .tc := ⟨.hbm, 631, rfl⟩
abbrev main_v491 : Ref sig .tc := ⟨.hbm, 632, rfl⟩
abbrev main_v492 : Ref sig .tc := ⟨.hbm, 633, rfl⟩
abbrev main_v493 : Ref sig .tc := ⟨.hbm, 634, rfl⟩
abbrev main_v494 : Ref sig .tc := ⟨.hbm, 635, rfl⟩
abbrev main_c_102 : Ref sig .tc := ⟨.hbm, 636, rfl⟩
abbrev main_v495 : Ref sig .tc := ⟨.hbm, 637, rfl⟩
abbrev main_v496 : Ref sig .tc := ⟨.hbm, 638, rfl⟩
abbrev main_c_103 : Ref sig .tc := ⟨.hbm, 639, rfl⟩
abbrev main_v497 : Ref sig .tc := ⟨.hbm, 640, rfl⟩
abbrev main_v498 : Ref sig .tc := ⟨.hbm, 641, rfl⟩
abbrev main_c_104 : Ref sig .tc := ⟨.hbm, 642, rfl⟩
abbrev main_c_105 : Ref sig .tc := ⟨.hbm, 643, rfl⟩
abbrev main_call23_v0 : Ref sig .tc := ⟨.hbm, 644, rfl⟩
abbrev main_call23_v1 : Ref sig .tc := ⟨.hbm, 645, rfl⟩
abbrev main_v499 : Ref sig .tc := ⟨.hbm, 646, rfl⟩
abbrev main_v500 : Ref sig .tc := ⟨.hbm, 647, rfl⟩
abbrev main_c_106 : Ref sig .tc := ⟨.hbm, 648, rfl⟩
abbrev main_v501 : Ref sig .tc := ⟨.hbm, 649, rfl⟩
abbrev main_v502 : Ref sig .tc := ⟨.hbm, 650, rfl⟩
abbrev main_v503 : Ref sig .tc := ⟨.hbm, 651, rfl⟩
abbrev main_cst_107 : Ref sig .tc := ⟨.hbm, 652, rfl⟩
abbrev main_v504 : Ref sig .tc := ⟨.hbm, 653, rfl⟩
abbrev main_v505 : Ref sig .tc := ⟨.hbm, 654, rfl⟩
abbrev main_v506 : Ref sig .tc := ⟨.hbm, 655, rfl⟩
abbrev main_cst_108 : Ref sig .tc := ⟨.hbm, 656, rfl⟩
abbrev main_v507 : Ref sig .tc := ⟨.hbm, 657, rfl⟩
abbrev main_v508 : Ref sig .tc := ⟨.hbm, 658, rfl⟩
abbrev main_cst_109 : Ref sig .tc := ⟨.hbm, 659, rfl⟩
abbrev main_v509 : Ref sig .tc := ⟨.hbm, 660, rfl⟩
abbrev main_v510 : Ref sig .tc := ⟨.hbm, 661, rfl⟩
abbrev main_v511 : Ref sig .tc := ⟨.hbm, 662, rfl⟩
abbrev main_c_110 : Ref sig .tc := ⟨.hbm, 663, rfl⟩
abbrev main_v512 : Ref sig .tc := ⟨.hbm, 664, rfl⟩
abbrev main_v513 : Ref sig .tc := ⟨.hbm, 665, rfl⟩
abbrev main_c_111 : Ref sig .tc := ⟨.hbm, 666, rfl⟩
abbrev main_v514 : Ref sig .tc := ⟨.hbm, 667, rfl⟩
abbrev main_v515 : Ref sig .tc := ⟨.hbm, 668, rfl⟩
abbrev main_c_112 : Ref sig .tc := ⟨.hbm, 669, rfl⟩
abbrev main_v516 : Ref sig .tc := ⟨.hbm, 670, rfl⟩
abbrev main_v517 : Ref sig .tc := ⟨.hbm, 671, rfl⟩
abbrev main_v518 : Ref sig .tc := ⟨.hbm, 672, rfl⟩
abbrev main_v519 : Ref sig .tc := ⟨.hbm, 673, rfl⟩
abbrev main_v520 : Ref sig .tc := ⟨.hbm, 674, rfl⟩
abbrev main_v521 : Ref sig .tc := ⟨.hbm, 675, rfl⟩
abbrev main_v522 : Ref sig .tc := ⟨.hbm, 676, rfl⟩
abbrev main_v523 : Ref sig .tc := ⟨.hbm, 677, rfl⟩
abbrev main_v524 : Ref sig .tc := ⟨.hbm, 678, rfl⟩
abbrev main_v525 : Ref sig .tc := ⟨.hbm, 679, rfl⟩
abbrev main_v526 : Ref sig .tc := ⟨.hbm, 680, rfl⟩
abbrev main_v527 : Ref sig .tc := ⟨.hbm, 681, rfl⟩
abbrev main_v528 : Ref sig .tc := ⟨.hbm, 682, rfl⟩
abbrev main_cst_113 : Ref sig .tc := ⟨.hbm, 683, rfl⟩
abbrev main_v529 : Ref sig .tc := ⟨.hbm, 684, rfl⟩
abbrev main_v530 : Ref sig .tc := ⟨.hbm, 685, rfl⟩
abbrev main_v531 : Ref sig .tc := ⟨.hbm, 686, rfl⟩
abbrev main_cst_114 : Ref sig .tc := ⟨.hbm, 687, rfl⟩
abbrev main_v532 : Ref sig .tc := ⟨.hbm, 688, rfl⟩
abbrev main_v533 : Ref sig .tc := ⟨.hbm, 689, rfl⟩
abbrev main_v534 : Ref sig .tc := ⟨.hbm, 690, rfl⟩
abbrev main_v535 : Ref sig .tc := ⟨.hbm, 691, rfl⟩
abbrev main_v536 : Ref sig .tc := ⟨.hbm, 692, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc1_scratch4 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc1_transform_4 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S64x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2x128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S4096x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== Kernel11.lean ====
abbrev S16384x512 : Shape := ⟨2, ![16384, 512]⟩
abbrev S32x8 : Shape := ⟨2, ![32, 8]⟩
abbrev S1x16384x8x64 : Shape := ⟨4, ![1, 16384, 8, 64]⟩
abbrev S1x16384x1x8x64 : Shape := ⟨5, ![1, 16384, 1, 8, 64]⟩
abbrev S1x1x16384x8x64 : Shape := ⟨5, ![1, 1, 16384, 8, 64]⟩
abbrev S_ : Shape := ⟨0, ![]⟩
abbrev S1x1x256x64x8x64 : Shape := ⟨6, ![1, 1, 256, 64, 8, 64]⟩
abbrev S1x1x64x8x64 : Shape := ⟨5, ![1, 1, 64, 8, 64]⟩
abbrev S1x1x16512x8x64 : Shape := ⟨5, ![1, 1, 16512, 8, 64]⟩
abbrev S1x1x258x64x8x64 : Shape := ⟨6, ![1, 1, 258, 64, 8, 64]⟩
abbrev S1x1x256x192x8x64 : Shape := ⟨6, ![1, 1, 256, 192, 8, 64]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x8 : Shape := ⟨3, ![64, 192, 8]⟩
abbrev S64x8x192 : Shape := ⟨3, ![64, 8, 192]⟩
abbrev S1x1x1x64x8x192 : Shape := ⟨6, ![1, 1, 1, 64, 8, 192]⟩
abbrev S1x1x256x8x192x64 : Shape := ⟨6, ![1, 1, 256, 8, 192, 64]⟩
abbrev S1x1x256x64x8x192 : Shape := ⟨6, ![1, 1, 256, 64, 8, 192]⟩
abbrev S1x1x256x64x1x192 : Shape := ⟨6, ![1, 1, 256, 64, 1, 192]⟩
abbrev S1x1x256x64x8 : Shape := ⟨5, ![1, 1, 256, 64, 8]⟩
abbrev S1x1x256x64x8x1 : Shape := ⟨6, ![1, 1, 256, 64, 8, 1]⟩
abbrev S1x1x256x8x64x64 : Shape := ⟨6, ![1, 1, 256, 8, 64, 64]⟩
abbrev S1x1x16384x8 : Shape := ⟨4, ![1, 1, 16384, 8]⟩
abbrev S1x16384x1x8 : Shape := ⟨4, ![1, 16384, 1, 8]⟩
abbrev S1x16384x8 : Shape := ⟨3, ![1, 16384, 8]⟩
abbrev S1x4096x4x8x64 : Shape := ⟨5, ![1, 4096, 4, 8, 64]⟩
abbrev S1x4x4096x8x64 : Shape := ⟨5, ![1, 4, 4096, 8, 64]⟩
abbrev S1x4x64x64x8x64 : Shape := ⟨6, ![1, 4, 64, 64, 8, 64]⟩
abbrev S1x4x64x8x64 : Shape := ⟨5, ![1, 4, 64, 8, 64]⟩
abbrev S1x4x4224x8x64 : Shape := ⟨5, ![1, 4, 4224, 8, 64]⟩
abbrev S1x4x66x64x8x64 : Shape := ⟨6, ![1, 4, 66, 64, 8, 64]⟩
abbrev S1x4x64x192x8x64 : Shape := ⟨6, ![1, 4, 64, 192, 8, 64]⟩
abbrev S64x1x192 : Shape := ⟨3, ![64, 1, 192]⟩
abbrev S64x64x192 : Shape := ⟨3, ![64, 64, 192]⟩
abbrev S1x4x64x8x192x64 : Shape := ⟨6, ![1, 4, 64, 8, 192, 64]⟩
abbrev S1x4x64x64x8x192 : Shape := ⟨6, ![1, 4, 64, 64, 8, 192]⟩
abbrev S1x1x64x64x1x192 : Shape := ⟨6, ![1, 1, 64, 64, 1, 192]⟩
abbrev S1x4x64x64x8 : Shape := ⟨5, ![1, 4, 64, 64, 8]⟩
abbrev S1x4x64x64x8x1 : Shape := ⟨6, ![1, 4, 64, 64, 8, 1]⟩
abbrev S1x4x64x8x64x64 : Shape := ⟨6, ![1, 4, 64, 8, 64, 64]⟩
abbrev S1x4x4096x8 : Shape := ⟨4, ![1, 4, 4096, 8]⟩
abbrev S1x4096x4x8 : Shape := ⟨4, ![1, 4096, 4, 8]⟩
abbrev S1x1024x16x8x64 : Shape := ⟨5, ![1, 1024, 16, 8, 64]⟩
abbrev S1x16x1024x8x64 : Shape := ⟨5, ![1, 16, 1024, 8, 64]⟩
abbrev S1x16x16x64x8x64 : Shape := ⟨6, ![1, 16, 16, 64, 8, 64]⟩
abbrev S1x16x64x8x64 : Shape := ⟨5, ![1, 16, 64, 8, 64]⟩
abbrev S1x16x1152x8x64 : Shape := ⟨5, ![1, 16, 1152, 8, 64]⟩
abbrev S1x16x18x64x8x64 : Shape := ⟨6, ![1, 16, 18, 64, 8, 64]⟩
abbrev S1x16x16x192x8x64 : Shape := ⟨6, ![1, 16, 16, 192, 8, 64]⟩
abbrev S16 : Shape := ⟨1, ![16]⟩
abbrev S16x1 : Shape := ⟨2, ![16, 1]⟩
abbrev S16x192 : Shape := ⟨2, ![16, 192]⟩
abbrev S16x1x192 : Shape := ⟨3, ![16, 1, 192]⟩
abbrev S16x64x192 : Shape := ⟨3, ![16, 64, 192]⟩
abbrev S1x16x16x8x192x64 : Shape := ⟨6, ![1, 16, 16, 8, 192, 64]⟩
abbrev S1x16x16x64x8x192 : Shape := ⟨6, ![1, 16, 16, 64, 8, 192]⟩
abbrev S1x1x16x64x1x192 : Shape := ⟨6, ![1, 1, 16, 64, 1, 192]⟩
abbrev S1x16x16x64x8 : Shape := ⟨5, ![1, 16, 16, 64, 8]⟩
abbrev S1x16x16x64x8x1 : Shape := ⟨6, ![1, 16, 16, 64, 8, 1]⟩
abbrev S1x16x16x8x64x64 : Shape := ⟨6, ![1, 16, 16, 8, 64, 64]⟩
abbrev S1x16x1024x8 : Shape := ⟨4, ![1, 16, 1024, 8]⟩
abbrev S1x1024x16x8 : Shape := ⟨4, ![1, 1024, 16, 8]⟩
abbrev S1x16384x8x1 : Shape := ⟨4, ![1, 16384, 8, 1]⟩
abbrev S16384x8x1 : Shape := ⟨3, ![16384, 8, 1]⟩
abbrev S16384x8x64 : Shape := ⟨3, ![16384, 8, 64]⟩
abbrev S16384x8 : Shape := ⟨2, ![16384, 8]⟩
abbrev S16384x8x32 : Shape := ⟨3, ![16384, 8, 32]⟩
abbrev S8x32 : Shape := ⟨2, ![8, 32]⟩
abbrev S16x128 : Shape := ⟨2, ![16, 128]⟩
abbrev S128 : Shape := ⟨1, ![128]⟩
abbrev S1x256 : Shape := ⟨2, ![1, 256]⟩
abbrev S128x1 : Shape := ⟨2, ![128, 1]⟩
abbrev S128x256 : Shape := ⟨2, ![128, 256]⟩
abbrev S32768 : Shape := ⟨1, ![32768]⟩
abbrev S32768x1 : Shape := ⟨2, ![32768, 1]⟩
abbrev S1x128 : Shape := ⟨2, ![1, 128]⟩
abbrev S32768x128 : Shape := ⟨2, ![32768, 128]⟩
abbrev S16x32768 : Shape := ⟨2, ![16, 32768]⟩
abbrev S4096x128 : Shape := ⟨2, ![4096, 128]⟩
abbrev S16x4096 : Shape := ⟨2, ![16, 4096]⟩
abbrev S8x32768 : Shape := ⟨2, ![8, 32768]⟩
abbrev S8x128x256 : Shape := ⟨3, ![8, 128, 256]⟩
abbrev S256x128 : Shape := ⟨2, ![256, 128]⟩
abbrev S2x128x256 : Shape := ⟨3, ![2, 128, 256]⟩
abbrev S4608x128 : Shape := ⟨2, ![4608, 128]⟩
abbrev S128x128 : Shape := ⟨2, ![128, 128]⟩
abbrev S256x256 : Shape := ⟨2, ![256, 256]⟩

abbrev nBuf : Space → Nat
  | .hbm => 693
  | .vmem => 40
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x512, .bf16⟩
  | 6 => ⟨S16384x512, .bf16⟩
  | 7 => ⟨S16384x512, .bf16⟩
  | 8 => ⟨S1x16384x8x64, .bf16⟩
  | 9 => ⟨S1x16384x8x64, .bf16⟩
  | 10 => ⟨S1x16384x8x64, .bf16⟩
  | 11 => ⟨S1x16384x1x8x64, .bf16⟩
  | 12 => ⟨S1x1x16384x8x64, .bf16⟩
  | 13 => ⟨S_, .i32⟩
  | 14 => ⟨S_, .bf16⟩
  | 15 => ⟨S1x1x16384x8x64, .bf16⟩
  | 16 => ⟨S1x1x256x64x8x64, .bf16⟩
  | 17 => ⟨S1x16384x1x8x64, .bf16⟩
  | 18 => ⟨S1x1x16384x8x64, .bf16⟩
  | 19 => ⟨S_, .i32⟩
  | 20 => ⟨S_, .bf16⟩
  | 21 => ⟨S1x1x16384x8x64, .bf16⟩
  | 22 => ⟨S_, .bf16⟩
  | 23 => ⟨S1x1x64x8x64, .bf16⟩
  | 24 => ⟨S1x1x16512x8x64, .bf16⟩
  | 25 => ⟨S1x1x258x64x8x64, .bf16⟩
  | 26 => ⟨S1x1x256x64x8x64, .bf16⟩
  | 27 => ⟨S1x1x256x64x8x64, .bf16⟩
  | 28 => ⟨S1x1x256x64x8x64, .bf16⟩
  | 29 => ⟨S1x1x256x192x8x64, .bf16⟩
  | 30 => ⟨S1x16384x1x8x64, .bf16⟩
  | 31 => ⟨S1x1x16384x8x64, .bf16⟩
  | 32 => ⟨S_, .i32⟩
  | 33 => ⟨S_, .bf16⟩
  | 34 => ⟨S1x1x16384x8x64, .bf16⟩
  | 35 => ⟨S_, .bf16⟩
  | 36 => ⟨S1x1x64x8x64, .bf16⟩
  | 37 => ⟨S1x1x16512x8x64, .bf16⟩
  | 38 => ⟨S1x1x258x64x8x64, .bf16⟩
  | 39 => ⟨S1x1x256x64x8x64, .bf16⟩
  | 40 => ⟨S1x1x256x64x8x64, .bf16⟩
  | 41 => ⟨S1x1x256x64x8x64, .bf16⟩
  | 42 => ⟨S1x1x256x192x8x64, .bf16⟩
  | 43 => ⟨S64, .i32⟩
  | 44 => ⟨S192, .i32⟩
  | 45 => ⟨S1x192, .i32⟩
  | 46 => ⟨S_, .i32⟩
  | 47 => ⟨S1x192, .i32⟩
  | 48 => ⟨S1x192, .i32⟩
  | 49 => ⟨S64x1, .i32⟩
  | 50 => ⟨S64x192, .i32⟩
  | 51 => ⟨S64x192, .i32⟩
  | 52 => ⟨S64x192, .i32⟩
  | 53 => ⟨S256, .i32⟩
  | 54 => ⟨S256x1, .i32⟩
  | 55 => ⟨S_, .i32⟩
  | 56 => ⟨S256x1, .i32⟩
  | 57 => ⟨S256x1, .i32⟩
  | 58 => ⟨S_, .i32⟩
  | 59 => ⟨S256x1, .i32⟩
  | 60 => ⟨S256x1, .i32⟩
  | 61 => ⟨S1x192, .i32⟩
  | 62 => ⟨S256x192, .i32⟩
  | 63 => ⟨S256x192, .i32⟩
  | 64 => ⟨S256x192, .i32⟩
  | 65 => ⟨S64x192, .i32⟩
  | 66 => ⟨S_, .i32⟩
  | 67 => ⟨S64x192, .i32⟩
  | 68 => ⟨S64x192, .i1⟩
  | 69 => ⟨S1x64x192, .i1⟩
  | 70 => ⟨S_, .i32⟩
  | 71 => ⟨S256x192, .i32⟩
  | 72 => ⟨S256x192, .i1⟩
  | 73 => ⟨S256x1x192, .i1⟩
  | 74 => ⟨S256x64x192, .i1⟩
  | 75 => ⟨S256x64x192, .i1⟩
  | 76 => ⟨S256x64x192, .i1⟩
  | 77 => ⟨S_, .i32⟩
  | 78 => ⟨S256x192, .i32⟩
  | 79 => ⟨S256x192, .i1⟩
  | 80 => ⟨S256x1x192, .i1⟩
  | 81 => ⟨S256x64x192, .i1⟩
  | 82 => ⟨S256x64x192, .i1⟩
  | 83 => ⟨S_, .i32⟩
  | 84 => ⟨S64x192, .i32⟩
  | 85 => ⟨S64x192, .i32⟩
  | 86 => ⟨S_, .i32⟩
  | 87 => ⟨S64x192, .i32⟩
  | 88 => ⟨S64x192, .i1⟩
  | 89 => ⟨S_, .i32⟩
  | 90 => ⟨S_, .i32⟩
  | 91 => ⟨S64x192, .i32⟩
  | 92 => ⟨S64x192, .i32⟩
  | 93 => ⟨S64x192, .i32⟩
  | 94 => ⟨S64x192, .i32⟩
  | 95 => ⟨S_, .i32⟩
  | 96 => ⟨S64x192, .i32⟩
  | 97 => ⟨S64x192, .i32⟩
  | 98 => ⟨S64x192, .f32⟩
  | 99 => ⟨S_, .f32⟩
  | 100 => ⟨S64x192, .f32⟩
  | 101 => ⟨S64x192, .f32⟩
  | 102 => ⟨S64x192, .f32⟩
  | 103 => ⟨S_, .f32⟩
  | 104 => ⟨S64x192, .f32⟩
  | 105 => ⟨S64x192, .f32⟩
  | 106 => ⟨S_, .f32⟩
  | 107 => ⟨S64x192, .f32⟩
  | 108 => ⟨S64x192, .f32⟩
  | 109 => ⟨S64x192, .i32⟩
  | 110 => ⟨S_, .i32⟩
  | 111 => ⟨S64x192, .i32⟩
  | 112 => ⟨S64x192, .i32⟩
  | 113 => ⟨S_, .i32⟩
  | 114 => ⟨S64x192, .i32⟩
  | 115 => ⟨S64x192, .i32⟩
  | 116 => ⟨S_, .i32⟩
  | 117 => ⟨S64x192, .i32⟩
  | 118 => ⟨S64x192, .i1⟩
  | 119 => ⟨S64x192, .i32⟩
  | 120 => ⟨S64x192, .i32⟩
  | 121 => ⟨S64x192, .i32⟩
  | 122 => ⟨S_, .i32⟩
  | 123 => ⟨S64x192, .i32⟩
  | 124 => ⟨S64x192, .i1⟩
  | 125 => ⟨S_, .i32⟩
  | 126 => ⟨S64x192, .i32⟩
  | 127 => ⟨S64x192, .i32⟩
  | _ => ⟨S16384x512, .f32⟩

abbrev hbmTy0_1 (i : Nat) : BufTy := match i % 128 with
  | 0 => ⟨S64x192, .i32⟩
  | 1 => ⟨S64x192x1, .i32⟩
  | 2 => ⟨S64x192x8, .f32⟩
  | 3 => ⟨S64x8x192, .f32⟩
  | 4 => ⟨S1x1x1x64x8x192, .f32⟩
  | 5 => ⟨S1x1x256x8x192x64, .f32⟩
  | 6 => ⟨S1x1x256x64x8x192, .f32⟩
  | 7 => ⟨S_, .f32⟩
  | 8 => ⟨S1x1x256x64x8x192, .f32⟩
  | 9 => ⟨S1x1x256x64x8x192, .f32⟩
  | 10 => ⟨S1x1x256x64x1x192, .i1⟩
  | 11 => ⟨S1x1x256x64x8x192, .f32⟩
  | 12 => ⟨S1x1x256x64x8x192, .f32⟩
  | 13 => ⟨S_, .f32⟩
  | 14 => ⟨S_, .f32⟩
  | 15 => ⟨S1x1x256x64x8x192, .i1⟩
  | 16 => ⟨S1x1x256x64x8x192, .f32⟩
  | 17 => ⟨S1x1x256x64x8x192, .f32⟩
  | 18 => ⟨S_, .f32⟩
  | 19 => ⟨S1x1x256x64x8, .f32⟩
  | 20 => ⟨S1x1x256x64x8x1, .f32⟩
  | 21 => ⟨S1x1x256x64x8x192, .f32⟩
  | 22 => ⟨S1x1x256x64x8x192, .f32⟩
  | 23 => ⟨S1x1x256x64x8x192, .f32⟩
  | 24 => ⟨S_, .f32⟩
  | 25 => ⟨S1x1x256x64x8, .f32⟩
  | 26 => ⟨S1x1x256x64x8x192, .bf16⟩
  | 27 => ⟨S1x1x256x8x64x64, .f32⟩
  | 28 => ⟨S1x1x256x64x8x64, .f32⟩
  | 29 => ⟨S1x1x256x64x8x1, .f32⟩
  | 30 => ⟨S1x1x256x64x8x64, .f32⟩
  | 31 => ⟨S1x1x256x64x8x64, .f32⟩
  | 32 => ⟨S1x1x16384x8x64, .f32⟩
  | 33 => ⟨S1x16384x1x8x64, .f32⟩
  | 34 => ⟨S1x16384x8x64, .f32⟩
  | 35 => ⟨S1x1x16384x8, .f32⟩
  | 36 => ⟨S1x16384x1x8, .f32⟩
  | 37 => ⟨S1x16384x8, .f32⟩
  | 38 => ⟨S1x1x16384x8, .f32⟩
  | 39 => ⟨S1x16384x1x8, .f32⟩
  | 40 => ⟨S1x16384x8, .f32⟩
  | 41 => ⟨S1x16384x8x64, .bf16⟩
  | 42 => ⟨S1x16384x8x64, .bf16⟩
  | 43 => ⟨S1x16384x8x64, .bf16⟩
  | 44 => ⟨S1x4096x4x8x64, .bf16⟩
  | 45 => ⟨S1x4x4096x8x64, .bf16⟩
  | 46 => ⟨S_, .i32⟩
  | 47 => ⟨S_, .bf16⟩
  | 48 => ⟨S1x4x4096x8x64, .bf16⟩
  | 49 => ⟨S1x4x64x64x8x64, .bf16⟩
  | 50 => ⟨S1x4096x4x8x64, .bf16⟩
  | 51 => ⟨S1x4x4096x8x64, .bf16⟩
  | 52 => ⟨S_, .i32⟩
  | 53 => ⟨S_, .bf16⟩
  | 54 => ⟨S1x4x4096x8x64, .bf16⟩
  | 55 => ⟨S_, .bf16⟩
  | 56 => ⟨S1x4x64x8x64, .bf16⟩
  | 57 => ⟨S1x4x4224x8x64, .bf16⟩
  | 58 => ⟨S1x4x66x64x8x64, .bf16⟩
  | 59 => ⟨S1x4x64x64x8x64, .bf16⟩
  | 60 => ⟨S1x4x64x64x8x64, .bf16⟩
  | 61 => ⟨S1x4x64x64x8x64, .bf16⟩
  | 62 => ⟨S1x4x64x192x8x64, .bf16⟩
  | 63 => ⟨S1x4096x4x8x64, .bf16⟩
  | 64 => ⟨S1x4x4096x8x64, .bf16⟩
  | 65 => ⟨S_, .i32⟩
  | 66 => ⟨S_, .bf16⟩
  | 67 => ⟨S1x4x4096x8x64, .bf16⟩
  | 68 => ⟨S_, .bf16⟩
  | 69 => ⟨S1x4x64x8x64, .bf16⟩
  | 70 => ⟨S1x4x4224x8x64, .bf16⟩
  | 71 => ⟨S1x4x66x64x8x64, .bf16⟩
  | 72 => ⟨S1x4x64x64x8x64, .bf16⟩
  | 73 => ⟨S1x4x64x64x8x64, .bf16⟩
  | 74 => ⟨S1x4x64x64x8x64, .bf16⟩
  | 75 => ⟨S1x4x64x192x8x64, .bf16⟩
  | 76 => ⟨S64, .i32⟩
  | 77 => ⟨S192, .i32⟩
  | 78 => ⟨S1x192, .i32⟩
  | 79 => ⟨S_, .i32⟩
  | 80 => ⟨S1x192, .i32⟩
  | 81 => ⟨S1x192, .i32⟩
  | 82 => ⟨S64x1, .i32⟩
  | 83 => ⟨S64x192, .i32⟩
  | 84 => ⟨S64x192, .i32⟩
  | 85 => ⟨S64x192, .i32⟩
  | 86 => ⟨S64, .i32⟩
  | 87 => ⟨S64x1, .i32⟩
  | 88 => ⟨S_, .i32⟩
  | 89 => ⟨S64x1, .i32⟩
  | 90 => ⟨S64x1, .i32⟩
  | 91 => ⟨S_, .i32⟩
  | 92 => ⟨S64x1, .i32⟩
  | 93 => ⟨S64x1, .i32⟩
  | 94 => ⟨S1x192, .i32⟩
  | 95 => ⟨S64x192, .i32⟩
  | 96 => ⟨S64x192, .i32⟩
  | 97 => ⟨S64x192, .i32⟩
  | 98 => ⟨S64x192, .i32⟩
  | 99 => ⟨S_, .i32⟩
  | 100 => ⟨S64x192, .i32⟩
  | 101 => ⟨S64x192, .i1⟩
  | 102 => ⟨S1x64x192, .i1⟩
  | 103 => ⟨S_, .i32⟩
  | 104 => ⟨S64x192, .i32⟩
  | 105 => ⟨S64x192, .i1⟩
  | 106 => ⟨S64x1x192, .i1⟩
  | 107 => ⟨S64x64x192, .i1⟩
  | 108 => ⟨S64x64x192, .i1⟩
  | 109 => ⟨S64x64x192, .i1⟩
  | 110 => ⟨S_, .i32⟩
  | 111 => ⟨S64x192, .i32⟩
  | 112 => ⟨S64x192, .i1⟩
  | 113 => ⟨S64x1x192, .i1⟩
  | 114 => ⟨S64x64x192, .i1⟩
  | 115 => ⟨S64x64x192, .i1⟩
  | 116 => ⟨S_, .i32⟩
  | 117 => ⟨S64x192, .i32⟩
  | 118 => ⟨S64x192, .i32⟩
  | 119 => ⟨S_, .i32⟩
  | 120 => ⟨S64x192, .i32⟩
  | 121 => ⟨S64x192, .i1⟩
  | 122 => ⟨S_, .i32⟩
  | 123 => ⟨S_, .i32⟩
  | 124 => ⟨S64x192, .i32⟩
  | 125 => ⟨S64x192, .i32⟩
  | 126 => ⟨S64x192, .i32⟩
  | 127 => ⟨S64x192, .i32⟩
  | _ => ⟨S16384x512, .f32⟩

abbrev hbmTy0_2 (i : Nat) : BufTy := match i % 128 with
  | 0 => ⟨S_, .i32⟩
  | 1 => ⟨S64x192, .i32⟩
  | 2 => ⟨S64x192, .i32⟩
  | 3 => ⟨S64x192, .f32⟩
  | 4 => ⟨S_, .f32⟩
  | 5 => ⟨S64x192, .f32⟩
  | 6 => ⟨S64x192, .f32⟩
  | 7 => ⟨S64x192, .f32⟩
  | 8 => ⟨S_, .f32⟩
  | 9 => ⟨S64x192, .f32⟩
  | 10 => ⟨S64x192, .f32⟩
  | 11 => ⟨S_, .f32⟩
  | 12 => ⟨S64x192, .f32⟩
  | 13 => ⟨S64x192, .f32⟩
  | 14 => ⟨S64x192, .i32⟩
  | 15 => ⟨S_, .i32⟩
  | 16 => ⟨S64x192, .i32⟩
  | 17 => ⟨S64x192, .i32⟩
  | 18 => ⟨S_, .i32⟩
  | 19 => ⟨S64x192, .i32⟩
  | 20 => ⟨S64x192, .i32⟩
  | 21 => ⟨S_, .i32⟩
  | 22 => ⟨S64x192, .i32⟩
  | 23 => ⟨S64x192, .i1⟩
  | 24 => ⟨S64x192, .i32⟩
  | 25 => ⟨S64x192, .i32⟩
  | 26 => ⟨S64x192, .i32⟩
  | 27 => ⟨S_, .i32⟩
  | 28 => ⟨S64x192, .i32⟩
  | 29 => ⟨S64x192, .i1⟩
  | 30 => ⟨S_, .i32⟩
  | 31 => ⟨S64x192, .i32⟩
  | 32 => ⟨S64x192, .i32⟩
  | 33 => ⟨S64x192, .i32⟩
  | 34 => ⟨S64x192x1, .i32⟩
  | 35 => ⟨S64x192x8, .f32⟩
  | 36 => ⟨S64x8x192, .f32⟩
  | 37 => ⟨S1x1x1x64x8x192, .f32⟩
  | 38 => ⟨S1x4x64x8x192x64, .f32⟩
  | 39 => ⟨S1x4x64x64x8x192, .f32⟩
  | 40 => ⟨S_, .f32⟩
  | 41 => ⟨S1x4x64x64x8x192, .f32⟩
  | 42 => ⟨S1x4x64x64x8x192, .f32⟩
  | 43 => ⟨S1x1x64x64x1x192, .i1⟩
  | 44 => ⟨S1x4x64x64x8x192, .f32⟩
  | 45 => ⟨S1x4x64x64x8x192, .f32⟩
  | 46 => ⟨S_, .f32⟩
  | 47 => ⟨S_, .f32⟩
  | 48 => ⟨S1x4x64x64x8x192, .i1⟩
  | 49 => ⟨S1x4x64x64x8x192, .f32⟩
  | 50 => ⟨S1x4x64x64x8x192, .f32⟩
  | 51 => ⟨S_, .f32⟩
  | 52 => ⟨S1x4x64x64x8, .f32⟩
  | 53 => ⟨S1x4x64x64x8x1, .f32⟩
  | 54 => ⟨S1x4x64x64x8x192, .f32⟩
  | 55 => ⟨S1x4x64x64x8x192, .f32⟩
  | 56 => ⟨S1x4x64x64x8x192, .f32⟩
  | 57 => ⟨S_, .f32⟩
  | 58 => ⟨S1x4x64x64x8, .f32⟩
  | 59 => ⟨S1x4x64x64x8x192, .bf16⟩
  | 60 => ⟨S1x4x64x8x64x64, .f32⟩
  | 61 => ⟨S1x4x64x64x8x64, .f32⟩
  | 62 => ⟨S1x4x64x64x8x1, .f32⟩
  | 63 => ⟨S1x4x64x64x8x64, .f32⟩
  | 64 => ⟨S1x4x64x64x8x64, .f32⟩
  | 65 => ⟨S1x4x4096x8x64, .f32⟩
  | 66 => ⟨S1x4096x4x8x64, .f32⟩
  | 67 => ⟨S1x16384x8x64, .f32⟩
  | 68 => ⟨S1x4x4096x8, .f32⟩
  | 69 => ⟨S1x4096x4x8, .f32⟩
  | 70 => ⟨S1x16384x8, .f32⟩
  | 71 => ⟨S1x4x4096x8, .f32⟩
  | 72 => ⟨S1x4096x4x8, .f32⟩
  | 73 => ⟨S1x16384x8, .f32⟩
  | 74 => ⟨S1x16384x8x64, .bf16⟩
  | 75 => ⟨S1x16384x8x64, .bf16⟩
  | 76 => ⟨S1x16384x8x64, .bf16⟩
  | 77 => ⟨S1x1024x16x8x64, .bf16⟩
  | 78 => ⟨S1x16x1024x8x64, .bf16⟩
  | 79 => ⟨S_, .i32⟩
  | 80 => ⟨S_, .bf16⟩
  | 81 => ⟨S1x16x1024x8x64, .bf16⟩
  | 82 => ⟨S1x16x16x64x8x64, .bf16⟩
  | 83 => ⟨S1x1024x16x8x64, .bf16⟩
  | 84 => ⟨S1x16x1024x8x64, .bf16⟩
  | 85 => ⟨S_, .i32⟩
  | 86 => ⟨S_, .bf16⟩
  | 87 => ⟨S1x16x1024x8x64, .bf16⟩
  | 88 => ⟨S_, .bf16⟩
  | 89 => ⟨S1x16x64x8x64, .bf16⟩
  | 90 => ⟨S1x16x1152x8x64, .bf16⟩
  | 91 => ⟨S1x16x18x64x8x64, .bf16⟩
  | 92 => ⟨S1x16x16x64x8x64, .bf16⟩
  | 93 => ⟨S1x16x16x64x8x64, .bf16⟩
  | 94 => ⟨S1x16x16x64x8x64, .bf16⟩
  | 95 => ⟨S1x16x16x192x8x64, .bf16⟩
  | 96 => ⟨S1x1024x16x8x64, .bf16⟩
  | 97 => ⟨S1x16x1024x8x64, .bf16⟩
  | 98 => ⟨S_, .i32⟩
  | 99 => ⟨S_, .bf16⟩
  | 100 => ⟨S1x16x1024x8x64, .bf16⟩
  | 101 => ⟨S_, .bf16⟩
  | 102 => ⟨S1x16x64x8x64, .bf16⟩
  | 103 => ⟨S1x16x1152x8x64, .bf16⟩
  | 104 => ⟨S1x16x18x64x8x64, .bf16⟩
  | 105 => ⟨S1x16x16x64x8x64, .bf16⟩
  | 106 => ⟨S1x16x16x64x8x64, .bf16⟩
  | 107 => ⟨S1x16x16x64x8x64, .bf16⟩
  | 108 => ⟨S1x16x16x192x8x64, .bf16⟩
  | 109 => ⟨S64, .i32⟩
  | 110 => ⟨S192, .i32⟩
  | 111 => ⟨S1x192, .i32⟩
  | 112 => ⟨S_, .i32⟩
  | 113 => ⟨S1x192, .i32⟩
  | 114 => ⟨S1x192, .i32⟩
  | 115 => ⟨S64x1, .i32⟩
  | 116 => ⟨S64x192, .i32⟩
  | 117 => ⟨S64x192, .i32⟩
  | 118 => ⟨S64x192, .i32⟩
  | 119 => ⟨S16, .i32⟩
  | 120 => ⟨S16x1, .i32⟩
  | 121 => ⟨S_, .i32⟩
  | 122 => ⟨S16x1, .i32⟩
  | 123 => ⟨S16x1, .i32⟩
  | 124 => ⟨S_, .i32⟩
  | 125 => ⟨S16x1, .i32⟩
  | 126 => ⟨S16x1, .i32⟩
  | 127 => ⟨S1x192, .i32⟩
  | _ => ⟨S16384x512, .f32⟩

abbrev hbmTy0_3 (i : Nat) : BufTy := match i % 128 with
  | 0 => ⟨S16x192, .i32⟩
  | 1 => ⟨S16x192, .i32⟩
  | 2 => ⟨S16x192, .i32⟩
  | 3 => ⟨S64x192, .i32⟩
  | 4 => ⟨S_, .i32⟩
  | 5 => ⟨S64x192, .i32⟩
  | 6 => ⟨S64x192, .i1⟩
  | 7 => ⟨S1x64x192, .i1⟩
  | 8 => ⟨S_, .i32⟩
  | 9 => ⟨S16x192, .i32⟩
  | 10 => ⟨S16x192, .i1⟩
  | 11 => ⟨S16x1x192, .i1⟩
  | 12 => ⟨S16x64x192, .i1⟩
  | 13 => ⟨S16x64x192, .i1⟩
  | 14 => ⟨S16x64x192, .i1⟩
  | 15 => ⟨S_, .i32⟩
  | 16 => ⟨S16x192, .i32⟩
  | 17 => ⟨S16x192, .i1⟩
  | 18 => ⟨S16x1x192, .i1⟩
  | 19 => ⟨S16x64x192, .i1⟩
  | 20 => ⟨S16x64x192, .i1⟩
  | 21 => ⟨S_, .i32⟩
  | 22 => ⟨S64x192, .i32⟩
  | 23 => ⟨S64x192, .i32⟩
  | 24 => ⟨S_, .i32⟩
  | 25 => ⟨S64x192, .i32⟩
  | 26 => ⟨S64x192, .i1⟩
  | 27 => ⟨S_, .i32⟩
  | 28 => ⟨S_, .i32⟩
  | 29 => ⟨S64x192, .i32⟩
  | 30 => ⟨S64x192, .i32⟩
  | 31 => ⟨S64x192, .i32⟩
  | 32 => ⟨S64x192, .i32⟩
  | 33 => ⟨S_, .i32⟩
  | 34 => ⟨S64x192, .i32⟩
  | 35 => ⟨S64x192, .i32⟩
  | 36 => ⟨S64x192, .f32⟩
  | 37 => ⟨S_, .f32⟩
  | 38 => ⟨S64x192, .f32⟩
  | 39 => ⟨S64x192, .f32⟩
  | 40 => ⟨S64x192, .f32⟩
  | 41 => ⟨S_, .f32⟩
  | 42 => ⟨S64x192, .f32⟩
  | 43 => ⟨S64x192, .f32⟩
  | 44 => ⟨S_, .f32⟩
  | 45 => ⟨S64x192, .f32⟩
  | 46 => ⟨S64x192, .f32⟩
  | 47 => ⟨S64x192, .i32⟩
  | 48 => ⟨S_, .i32⟩
  | 49 => ⟨S64x192, .i32⟩
  | 50 => ⟨S64x192, .i32⟩
  | 51 => ⟨S_, .i32⟩
  | 52 => ⟨S64x192, .i32⟩
  | 53 => ⟨S64x192, .i32⟩
  | 54 => ⟨S_, .i32⟩
  | 55 => ⟨S64x192, .i32⟩
  | 56 => ⟨S64x192, .i1⟩
  | 57 => ⟨S64x192, .i32⟩
  | 58 => ⟨S64x192, .i32⟩
  | 59 => ⟨S64x192, .i32⟩
  | 60 => ⟨S_, .i32⟩
  | 61 => ⟨S64x192, .i32⟩
  | 62 => ⟨S64x192, .i1⟩
  | 63 => ⟨S_, .i32⟩
  | 64 => ⟨S64x192, .i32⟩
  | 65 => ⟨S64x192, .i32⟩
  | 66 => ⟨S64x192, .i32⟩
  | 67 => ⟨S64x192x1, .i32⟩
  | 68 => ⟨S64x192x8, .f32⟩
  | 69 => ⟨S64x8x192, .f32⟩
  | 70 => ⟨S1x1x1x64x8x192, .f32⟩
  | 71 => ⟨S1x16x16x8x192x64, .f32⟩
  | 72 => ⟨S1x16x16x64x8x192, .f32⟩
  | 73 => ⟨S_, .f32⟩
  | 74 => ⟨S1x16x16x64x8x192, .f32⟩
  | 75 => ⟨S1x16x16x64x8x192, .f32⟩
  | 76 => ⟨S1x1x16x64x1x192, .i1⟩
  | 77 => ⟨S1x16x16x64x8x192, .f32⟩
  | 78 => ⟨S1x16x16x64x8x192, .f32⟩
  | 79 => ⟨S_, .f32⟩
  | 80 => ⟨S_, .f32⟩
  | 81 => ⟨S1x16x16x64x8x192, .i1⟩
  | 82 => ⟨S1x16x16x64x8x192, .f32⟩
  | 83 => ⟨S1x16x16x64x8x192, .f32⟩
  | 84 => ⟨S_, .f32⟩
  | 85 => ⟨S1x16x16x64x8, .f32⟩
  | 86 => ⟨S1x16x16x64x8x1, .f32⟩
  | 87 => ⟨S1x16x16x64x8x192, .f32⟩
  | 88 => ⟨S1x16x16x64x8x192, .f32⟩
  | 89 => ⟨S1x16x16x64x8x192, .f32⟩
  | 90 => ⟨S_, .f32⟩
  | 91 => ⟨S1x16x16x64x8, .f32⟩
  | 92 => ⟨S1x16x16x64x8x192, .bf16⟩
  | 93 => ⟨S1x16x16x8x64x64, .f32⟩
  | 94 => ⟨S1x16x16x64x8x64, .f32⟩
  | 95 => ⟨S1x16x16x64x8x1, .f32⟩
  | 96 => ⟨S1x16x16x64x8x64, .f32⟩
  | 97 => ⟨S1x16x16x64x8x64, .f32⟩
  | 98 => ⟨S1x16x1024x8x64, .f32⟩
  | 99 => ⟨S1x1024x16x8x64, .f32⟩
  | 100 => ⟨S1x16384x8x64, .f32⟩
  | 101 => ⟨S1x16x1024x8, .f32⟩
  | 102 => ⟨S1x1024x16x8, .f32⟩
  | 103 => ⟨S1x16384x8, .f32⟩
  | 104 => ⟨S1x16x1024x8, .f32⟩
  | 105 => ⟨S1x1024x16x8, .f32⟩
  | 106 => ⟨S1x16384x8, .f32⟩
  | 107 => ⟨S1x16384x8, .f32⟩
  | 108 => ⟨S1x16384x8, .f32⟩
  | 109 => ⟨S1x16384x8, .f32⟩
  | 110 => ⟨S1x16384x8, .f32⟩
  | 111 => ⟨S1x16384x8, .f32⟩
  | 112 => ⟨S1x16384x8, .f32⟩
  | 113 => ⟨S1x16384x8, .f32⟩
  | 114 => ⟨S1x16384x8, .f32⟩
  | 115 => ⟨S1x16384x8, .f32⟩
  | 116 => ⟨S1x16384x8, .f32⟩
  | 117 => ⟨S1x16384x8, .f32⟩
  | 118 => ⟨S1x16384x8, .f32⟩
  | 119 => ⟨S1x16384x8, .f32⟩
  | 120 => ⟨S1x16384x8x1, .f32⟩
  | 121 => ⟨S1x16384x8x64, .f32⟩
  | 122 => ⟨S1x16384x8x64, .f32⟩
  | 123 => ⟨S1x16384x8x1, .f32⟩
  | 124 => ⟨S1x16384x8x64, .f32⟩
  | 125 => ⟨S1x16384x8x64, .f32⟩
  | 126 => ⟨S1x16384x8x64, .f32⟩
  | 127 => ⟨S1x16384x8x1, .f32⟩
  | _ => ⟨S16384x512, .f32⟩

abbrev hbmTy0_4 (i : Nat) : BufTy := match i % 128 with
  | 0 => ⟨S1x16384x8x64, .f32⟩
  | 1 => ⟨S1x16384x8x64, .f32⟩
  | 2 => ⟨S1x16384x8x64, .f32⟩
  | 3 => ⟨S1x16384x8x1, .f32⟩
  | 4 => ⟨S1x16384x8x64, .f32⟩
  | 5 => ⟨S1x16384x8x64, .f32⟩
  | 6 => ⟨S1x16384x8, .f32⟩
  | 7 => ⟨S1x16384x8, .f32⟩
  | 8 => ⟨S16384x8x1, .f32⟩
  | 9 => ⟨S16384x8x64, .f32⟩
  | 10 => ⟨S16384x8x64, .f32⟩
  | 11 => ⟨S16384x8x64, .f32⟩
  | 12 => ⟨S_, .f32⟩
  | 13 => ⟨S16384x8, .f32⟩
  | 14 => ⟨S16384x8x1, .f32⟩
  | 15 => ⟨S16384x8x32, .f32⟩
  | 16 => ⟨S16384x8x32, .f32⟩
  | 17 => ⟨S16384x8x64, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .bf16⟩
  | 24 => ⟨S8x32, .f32⟩
  | 25 => ⟨S_, .i32⟩
  | 26 => ⟨S_, .f32⟩
  | 27 => ⟨S16x128, .f32⟩
  | 28 => ⟨S128, .i32⟩
  | 29 => ⟨S256, .i32⟩
  | 30 => ⟨S1x256, .i32⟩
  | 31 => ⟨S_, .i32⟩
  | 32 => ⟨S1x256, .i32⟩
  | 33 => ⟨S1x256, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S_, .i32⟩
  | 46 => ⟨S128x256, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i32⟩
  | 53 => ⟨S128x256, .f32⟩
  | 54 => ⟨S_, .f32⟩
  | 55 => ⟨S128x256, .f32⟩
  | 56 => ⟨S128x256, .f32⟩
  | 57 => ⟨S128x256, .f32⟩
  | 58 => ⟨S_, .f32⟩
  | 59 => ⟨S128x256, .f32⟩
  | 60 => ⟨S128x256, .f32⟩
  | 61 => ⟨S_, .f32⟩
  | 62 => ⟨S128x256, .f32⟩
  | 63 => ⟨S128x256, .f32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S128x256, .i32⟩
  | 75 => ⟨S128x256, .i32⟩
  | 76 => ⟨S128x256, .i32⟩
  | 77 => ⟨S32768, .i32⟩
  | 78 => ⟨S32768x1, .i32⟩
  | 79 => ⟨S128, .i32⟩
  | 80 => ⟨S1x128, .i32⟩
  | 81 => ⟨S32768x128, .i32⟩
  | 82 => ⟨S32768x128, .i32⟩
  | 83 => ⟨S32768x128, .i1⟩
  | 84 => ⟨S32768x128, .bf16⟩
  | 85 => ⟨S16x32768, .f32⟩
  | 86 => ⟨S8x32768, .f32⟩
  | 87 => ⟨S8x128x256, .f32⟩
  | 88 => ⟨S128, .i32⟩
  | 89 => ⟨S256, .i32⟩
  | 90 => ⟨S1x256, .i32⟩
  | 91 => ⟨S_, .i32⟩
  | 92 => ⟨S1x256, .i32⟩
  | 93 => ⟨S1x256, .i32⟩
  | 94 => ⟨S128x1, .i32⟩
  | 95 => ⟨S128x256, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .f32⟩
  | 103 => ⟨S_, .f32⟩
  | 104 => ⟨S8x128x256, .i1⟩
  | 105 => ⟨S8x128x256, .f32⟩
  | 106 => ⟨S8x128x256, .f32⟩
  | 107 => ⟨S16384x512, .bf16⟩
  | 108 => ⟨S16384x512, .bf16⟩
  | 109 => ⟨S8x128x256, .f32⟩
  | 110 => ⟨S8x32768, .f32⟩
  | 111 => ⟨S_, .i32⟩
  | 112 => ⟨S_, .f32⟩
  | 113 => ⟨S16x32768, .f32⟩
  | 114 => ⟨S128, .i32⟩
  | 115 => ⟨S256, .i32⟩
  | 116 => ⟨S1x256, .i32⟩
  | 117 => ⟨S_, .i32⟩
  | 118 => ⟨S1x256, .i32⟩
  | 119 => ⟨S1x256, .i32⟩
  | 120 => ⟨S128x1, .i32⟩
  | 121 => ⟨S128x256, .i32⟩
  | 122 => ⟨S128x256, .i32⟩
  | 123 => ⟨S128x256, .i32⟩
  | 124 => ⟨S_, .i32⟩
  | 125 => ⟨S128x256, .i32⟩
  | 126 => ⟨S128x256, .i32⟩
  | 127 => ⟨S_, .i32⟩
  | _ => ⟨S16384x512, .f32⟩

abbrev hbmTy0_5 (i : Nat) : BufTy := match i % 128 with
  | 0 => ⟨S128x256, .i32⟩
  | 1 => ⟨S128x256, .i1⟩
  | 2 => ⟨S_, .i32⟩
  | 3 => ⟨S_, .i32⟩
  | 4 => ⟨S128x256, .i32⟩
  | 5 => ⟨S128x256, .i32⟩
  | 6 => ⟨S128x256, .i32⟩
  | 7 => ⟨S128x256, .i32⟩
  | 8 => ⟨S_, .i32⟩
  | 9 => ⟨S128x256, .i32⟩
  | 10 => ⟨S128x256, .i32⟩
  | 11 => ⟨S128x256, .f32⟩
  | 12 => ⟨S_, .f32⟩
  | 13 => ⟨S128x256, .f32⟩
  | 14 => ⟨S128x256, .f32⟩
  | 15 => ⟨S128x256, .f32⟩
  | 16 => ⟨S_, .f32⟩
  | 17 => ⟨S128x256, .f32⟩
  | 18 => ⟨S128x256, .f32⟩
  | 19 => ⟨S_, .f32⟩
  | 20 => ⟨S128x256, .f32⟩
  | 21 => ⟨S128x256, .f32⟩
  | 22 => ⟨S128x256, .i32⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i32⟩
  | 29 => ⟨S_, .i32⟩
  | 30 => ⟨S128x256, .i32⟩
  | 31 => ⟨S128x256, .i1⟩
  | 32 => ⟨S128x256, .i32⟩
  | 33 => ⟨S128x256, .i32⟩
  | 34 => ⟨S128x256, .i32⟩
  | 35 => ⟨S32768, .i32⟩
  | 36 => ⟨S32768x1, .i32⟩
  | 37 => ⟨S128, .i32⟩
  | 38 => ⟨S1x128, .i32⟩
  | 39 => ⟨S32768x128, .i32⟩
  | 40 => ⟨S32768x128, .i32⟩
  | 41 => ⟨S32768x128, .i1⟩
  | 42 => ⟨S32768x128, .bf16⟩
  | 43 => ⟨S_, .f32⟩
  | 44 => ⟨S16x128, .f32⟩
  | 45 => ⟨S16x128, .f32⟩
  | 46 => ⟨S16384x512, .f32⟩
  | 47 => ⟨S_, .f32⟩
  | 48 => ⟨S16384x512, .f32⟩
  | 49 => ⟨S16384x512, .f32⟩
  | 50 => ⟨S16384x512, .bf16⟩
  | 51 => ⟨S8x32, .f32⟩
  | 52 => ⟨S32x8, .f32⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x512, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S16x128, .f32⟩
  | .local _ .vmem, ⟨3, _⟩ => ⟨S16x4096, .f32⟩
  | .local _ .vmem, ⟨4, _⟩ => ⟨S16x4096, .f32⟩
  | .local _ .vmem, ⟨5, _⟩ => ⟨S4096x128, .bf16⟩
  | .local _ .vmem, ⟨6, _⟩ => ⟨S4096x128, .bf16⟩
  | .local _ .vmem, ⟨7, _⟩ => ⟨S256x128, .bf16⟩
  | .local _ .vmem, ⟨8, _⟩ => ⟨S256x128, .bf16⟩
  | .local _ .vmem, ⟨9, _⟩ => ⟨S4096x128, .bf16⟩
  | .local _ .vmem, ⟨10, _⟩ => ⟨S4096x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S4096x128, .bf16⟩
  | .local _ .vmem, ⟨16, _⟩ => ⟨S4096x128, .bf16⟩
  | .local _ .vmem, ⟨17, _⟩ => ⟨S256x128, .bf16⟩
  | .local _ .vmem, ⟨18, _⟩ => ⟨S256x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .f32⟩
  | .local _ .vmem, ⟨22, _⟩ => ⟨S4096x128, .f32⟩
  | .local _ .vmem, ⟨23, _⟩ => ⟨S2x128x256, .f32⟩
  | .local _ .vmem, ⟨24, _⟩ => ⟨S2x128x256, .f32⟩
  | .local _ .vmem, ⟨25, _⟩ => ⟨S4096x128, .bf16⟩
  | .local _ .vmem, ⟨26, _⟩ => ⟨S4096x128, .bf16⟩
  | .local _ .vmem, ⟨27, _⟩ => ⟨S2x128x256, .f32⟩
  | .local _ .vmem, ⟨28, _⟩ => ⟨S2x128x256, .f32⟩
  | .local _ .vmem, ⟨29, _⟩ => ⟨S4096x128, .f32⟩
  | .local _ .vmem, ⟨30, _⟩ => ⟨S4608x128, .f32⟩
  | .local _ .vmem, ⟨31, _⟩ => ⟨S4608x128, .f32⟩
  | .local _ .vmem, ⟨32, _⟩ => ⟨S4096x128, .f32⟩
  | .local _ .vmem, ⟨33, _⟩ => ⟨S4096x128, .f32⟩
  | .local _ .vmem, ⟨34, _⟩ => ⟨S4096x128, .bf16⟩
  | .local _ .vmem, ⟨35, _⟩ => ⟨S4096x128, .bf16⟩
  | .local _ .vmem, ⟨36, _⟩ => ⟨S16x4096, .f32⟩
  | .local _ .vmem, ⟨37, _⟩ => ⟨S16x4096, .f32⟩
  | .local _ .vmem, ⟨38, _⟩ => ⟨S16x128, .f32⟩
  | .local _ .vmem, ⟨39, _⟩ => ⟨S16x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_c_12 : Ref sig .tc := ⟨.hbm, 90, rfl⟩
abbrev main_call3_v0 : Ref sig .tc := ⟨.hbm, 91, rfl⟩
abbrev main_call3_v1 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_c_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_call6_v0 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_27 : Ref sig .tc := ⟨.hbm, 180, rfl⟩
abbrev main_call7_v0 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_29 : Ref sig .tc := ⟨.hbm, 193, rfl⟩
abbrev main_call8_v0 : Ref sig .tc := ⟨.hbm, 194, rfl⟩
abbrev main_v147 : Ref sig .tc := ⟨.hbm, 195, rfl⟩
abbrev main_cst_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_31 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_c_32 : Ref sig .tc := ⟨.hbm, 216, rfl⟩
abbrev main_v166 : Ref sig .tc := ⟨.hbm, 217, rfl⟩
abbrev main_v167 : Ref sig .tc := ⟨.hbm, 218, rfl⟩
abbrev main_c_33 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_34 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_35 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_c_36 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_c_37 : Ref sig .tc := ⟨.hbm, 244, rfl⟩
abbrev main_v189 : Ref sig .tc := ⟨.hbm, 245, rfl⟩
abbrev main_v190 : Ref sig .tc := ⟨.hbm, 246, rfl⟩
abbrev main_c_38 : Ref sig .tc := ⟨.hbm, 247, rfl⟩
abbrev main_v191 : Ref sig .tc := ⟨.hbm, 248, rfl⟩
abbrev main_v192 : Ref sig .tc := ⟨.hbm, 249, rfl⟩
abbrev main_c_39 : Ref sig .tc := ⟨.hbm, 250, rfl⟩
abbrev main_c_40 : Ref sig .tc := ⟨.hbm, 251, rfl⟩
abbrev main_call9_v0 : Ref sig .tc := ⟨.hbm, 252, rfl⟩
abbrev main_call9_v1 : Ref sig .tc := ⟨.hbm, 253, rfl⟩
abbrev main_v193 : Ref sig .tc := ⟨.hbm, 254, rfl⟩
abbrev main_v194 : Ref sig .tc := ⟨.hbm, 255, rfl⟩
abbrev main_c_41 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_42 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_43 : Ref sig .tc := ⟨.hbm, 264, rfl⟩
abbrev main_v201 : Ref sig .tc := ⟨.hbm, 265, rfl⟩
abbrev main_v202 : Ref sig .tc := ⟨.hbm, 266, rfl⟩
abbrev main_cst_44 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_45 : Ref sig .tc := ⟨.hbm, 271, rfl⟩
abbrev main_v206 : Ref sig .tc := ⟨.hbm, 272, rfl⟩
abbrev main_v207 : Ref sig .tc := ⟨.hbm, 273, rfl⟩
abbrev main_c_46 : Ref sig .tc := ⟨.hbm, 274, rfl⟩
abbrev main_v208 : Ref sig .tc := ⟨.hbm, 275, rfl⟩
abbrev main_v209 : Ref sig .tc := ⟨.hbm, 276, rfl⟩
abbrev main_c_47 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_48 : Ref sig .tc := ⟨.hbm, 283, rfl⟩
abbrev main_v215 : Ref sig .tc := ⟨.hbm, 284, rfl⟩
abbrev main_v216 : Ref sig .tc := ⟨.hbm, 285, rfl⟩
abbrev main_c_49 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_cst_50 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_cst_51 : Ref sig .tc := ⟨.hbm, 302, rfl⟩
abbrev main_call11_v0 : Ref sig .tc := ⟨.hbm, 303, rfl⟩
abbrev main_call11_v1 : Ref sig .tc := ⟨.hbm, 304, rfl⟩
abbrev main_call11_v2 : Ref sig .tc := ⟨.hbm, 305, rfl⟩
abbrev main_v231 : Ref sig .tc := ⟨.hbm, 306, rfl⟩
abbrev main_cst_52 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_cst_53 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_c_54 : Ref sig .tc := ⟨.hbm, 335, rfl⟩
abbrev main_call12_v0 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_c_55 : Ref sig .tc := ⟨.hbm, 341, rfl⟩
abbrev main_call13_v0 : Ref sig .tc := ⟨.hbm, 342, rfl⟩
abbrev main_v262 : Ref sig .tc := ⟨.hbm, 343, rfl⟩
abbrev main_cst_56 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_c_57 : Ref sig .tc := ⟨.hbm, 354, rfl⟩
abbrev main_call14_v0 : Ref sig .tc := ⟨.hbm, 355, rfl⟩
abbrev main_v272 : Ref sig .tc := ⟨.hbm, 356, rfl⟩
abbrev main_cst_58 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_c_59 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_c_60 : Ref sig .tc := ⟨.hbm, 377, rfl⟩
abbrev main_v291 : Ref sig .tc := ⟨.hbm, 378, rfl⟩
abbrev main_v292 : Ref sig .tc := ⟨.hbm, 379, rfl⟩
abbrev main_c_61 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_c_62 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_c_63 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_c_64 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_c_65 : Ref sig .tc := ⟨.hbm, 405, rfl⟩
abbrev main_v314 : Ref sig .tc := ⟨.hbm, 406, rfl⟩
abbrev main_v315 : Ref sig .tc := ⟨.hbm, 407, rfl⟩
abbrev main_c_66 : Ref sig .tc := ⟨.hbm, 408, rfl⟩
abbrev main_v316 : Ref sig .tc := ⟨.hbm, 409, rfl⟩
abbrev main_v317 : Ref sig .tc := ⟨.hbm, 410, rfl⟩
abbrev main_c_67 : Ref sig .tc := ⟨.hbm, 411, rfl⟩
abbrev main_c_68 : Ref sig .tc := ⟨.hbm, 412, rfl⟩
abbrev main_call15_v0 : Ref sig .tc := ⟨.hbm, 413, rfl⟩
abbrev main_call15_v1 : Ref sig .tc := ⟨.hbm, 414, rfl⟩
abbrev main_v318 : Ref sig .tc := ⟨.hbm, 415, rfl⟩
abbrev main_v319 : Ref sig .tc := ⟨.hbm, 416, rfl⟩
abbrev main_c_69 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_cst_70 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_cst_71 : Ref sig .tc := ⟨.hbm, 425, rfl⟩
abbrev main_v326 : Ref sig .tc := ⟨.hbm, 426, rfl⟩
abbrev main_v327 : Ref sig .tc := ⟨.hbm, 427, rfl⟩
abbrev main_cst_72 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_c_73 : Ref sig .tc := ⟨.hbm, 432, rfl⟩
abbrev main_v331 : Ref sig .tc := ⟨.hbm, 433, rfl⟩
abbrev main_v332 : Ref sig .tc := ⟨.hbm, 434, rfl⟩
abbrev main_c_74 : Ref sig .tc := ⟨.hbm, 435, rfl⟩
abbrev main_v333 : Ref sig .tc := ⟨.hbm, 436, rfl⟩
abbrev main_v334 : Ref sig .tc := ⟨.hbm, 437, rfl⟩
abbrev main_c_75 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_c_76 : Ref sig .tc := ⟨.hbm, 444, rfl⟩
abbrev main_v340 : Ref sig .tc := ⟨.hbm, 445, rfl⟩
abbrev main_v341 : Ref sig .tc := ⟨.hbm, 446, rfl⟩
abbrev main_c_77 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_cst_78 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_cst_79 : Ref sig .tc := ⟨.hbm, 463, rfl⟩
abbrev main_call17_v0 : Ref sig .tc := ⟨.hbm, 464, rfl⟩
abbrev main_call17_v1 : Ref sig .tc := ⟨.hbm, 465, rfl⟩
abbrev main_call17_v2 : Ref sig .tc := ⟨.hbm, 466, rfl⟩
abbrev main_v356 : Ref sig .tc := ⟨.hbm, 467, rfl⟩
abbrev main_cst_80 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_cst_81 : Ref sig .tc := ⟨.hbm, 474, rfl⟩
abbrev main_v362 : Ref sig .tc := ⟨.hbm, 475, rfl⟩
abbrev main_v363 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_cst_82 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_cst_83 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_c_84 : Ref sig .tc := ⟨.hbm, 537, rfl⟩
abbrev main_call18_v0 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_c_85 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_v431 : Ref sig .tc := ⟨.hbm, 549, rfl⟩
abbrev main_c_86 : Ref sig .tc := ⟨.hbm, 550, rfl⟩
abbrev main_v432 : Ref sig .tc := ⟨.hbm, 551, rfl⟩
abbrev main_v433 : Ref sig .tc := ⟨.hbm, 552, rfl⟩
abbrev main_c_87 : Ref sig .tc := ⟨.hbm, 553, rfl⟩
abbrev main_v434 : Ref sig .tc := ⟨.hbm, 554, rfl⟩
abbrev main_v435 : Ref sig .tc := ⟨.hbm, 555, rfl⟩
abbrev main_c_88 : Ref sig .tc := ⟨.hbm, 556, rfl⟩
abbrev main_c_89 : Ref sig .tc := ⟨.hbm, 557, rfl⟩
abbrev main_call19_v0 : Ref sig .tc := ⟨.hbm, 558, rfl⟩
abbrev main_call19_v1 : Ref sig .tc := ⟨.hbm, 559, rfl⟩
abbrev main_v436 : Ref sig .tc := ⟨.hbm, 560, rfl⟩
abbrev main_v437 : Ref sig .tc := ⟨.hbm, 561, rfl⟩
abbrev main_c_90 : Ref sig .tc := ⟨.hbm, 562, rfl⟩
abbrev main_v438 : Ref sig .tc := ⟨.hbm, 563, rfl⟩
abbrev main_v439 : Ref sig .tc := ⟨.hbm, 564, rfl⟩
abbrev main_v440 : Ref sig .tc := ⟨.hbm, 565, rfl⟩
abbrev main_cst_91 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_cst_92 : Ref sig .tc := ⟨.hbm, 570, rfl⟩
abbrev main_v444 : Ref sig .tc := ⟨.hbm, 571, rfl⟩
abbrev main_v445 : Ref sig .tc := ⟨.hbm, 572, rfl⟩
abbrev main_cst_93 : Ref sig .tc := ⟨.hbm, 573, rfl⟩
abbrev main_v446 : Ref sig .tc := ⟨.hbm, 574, rfl⟩
abbrev main_v447 : Ref sig .tc := ⟨.hbm, 575, rfl⟩
abbrev main_v448 : Ref sig .tc := ⟨.hbm, 576, rfl⟩
abbrev main_c_94 : Ref sig .tc := ⟨.hbm, 577, rfl⟩
abbrev main_v449 : Ref sig .tc := ⟨.hbm, 578, rfl⟩
abbrev main_v450 : Ref sig .tc := ⟨.hbm, 579, rfl⟩
abbrev main_c_95 : Ref sig .tc := ⟨.hbm, 580, rfl⟩
abbrev main_v451 : Ref sig .tc := ⟨.hbm, 581, rfl⟩
abbrev main_v452 : Ref sig .tc := ⟨.hbm, 582, rfl⟩
abbrev main_c_96 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_v456 : Ref sig .tc := ⟨.hbm, 587, rfl⟩
abbrev main_v457 : Ref sig .tc := ⟨.hbm, 588, rfl⟩
abbrev main_v458 : Ref sig .tc := ⟨.hbm, 589, rfl⟩
abbrev main_v459 : Ref sig .tc := ⟨.hbm, 590, rfl⟩
abbrev main_v460 : Ref sig .tc := ⟨.hbm, 591, rfl⟩
abbrev main_v461 : Ref sig .tc := ⟨.hbm, 592, rfl⟩
abbrev main_v462 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_v468 : Ref sig .tc := ⟨.hbm, 599, rfl⟩
abbrev main_v469 : Ref sig .tc := ⟨.hbm, 600, rfl⟩
abbrev main_v470 : Ref sig .tc := ⟨.hbm, 601, rfl⟩
abbrev main_v471 : Ref sig .tc := ⟨.hbm, 602, rfl⟩
abbrev main_c_97 : Ref sig .tc := ⟨.hbm, 603, rfl⟩
abbrev main_v472 : Ref sig .tc := ⟨.hbm, 604, rfl⟩
abbrev main_v473 : Ref sig .tc := ⟨.hbm, 605, rfl⟩
abbrev main_v474 : Ref sig .tc := ⟨.hbm, 606, rfl⟩
abbrev main_v475 : Ref sig .tc := ⟨.hbm, 607, rfl⟩
abbrev main_v476 : Ref sig .tc := ⟨.hbm, 608, rfl⟩
abbrev main_v477 : Ref sig .tc := ⟨.hbm, 609, rfl⟩
abbrev main_v478 : Ref sig .tc := ⟨.hbm, 610, rfl⟩
abbrev main_c_98 : Ref sig .tc := ⟨.hbm, 611, rfl⟩
abbrev main_v479 : Ref sig .tc := ⟨.hbm, 612, rfl⟩
abbrev main_v480 : Ref sig .tc := ⟨.hbm, 613, rfl⟩
abbrev main_cst_99 : Ref sig .tc := ⟨.hbm, 614, rfl⟩
abbrev main_call21_v0 : Ref sig .tc := ⟨.hbm, 615, rfl⟩
abbrev main_call21_v1 : Ref sig .tc := ⟨.hbm, 616, rfl⟩
abbrev main_call21_v2 : Ref sig .tc := ⟨.hbm, 617, rfl⟩
abbrev main_v481 : Ref sig .tc := ⟨.hbm, 618, rfl⟩
abbrev main_v482 : Ref sig .tc := ⟨.hbm, 619, rfl⟩
abbrev main_v483_0 : Ref sig .tc := ⟨.hbm, 620, rfl⟩
abbrev main_v483_1 : Ref sig .tc := ⟨.hbm, 621, rfl⟩
abbrev main_v484 : Ref sig .tc := ⟨.hbm, 622, rfl⟩
abbrev main_c_100 : Ref sig .tc := ⟨.hbm, 623, rfl⟩
abbrev main_call22_v0 : Ref sig .tc := ⟨.hbm, 624, rfl⟩
abbrev main_v485 : Ref sig .tc := ⟨.hbm, 625, rfl⟩
abbrev main_v486 : Ref sig .tc := ⟨.hbm, 626, rfl⟩
abbrev main_v487 : Ref sig .tc := ⟨.hbm, 627, rfl⟩
abbrev main_v488 : Ref sig .tc := ⟨.hbm, 628, rfl⟩
abbrev main_c_101 : Ref sig .tc := ⟨.hbm, 629, rfl⟩
abbrev main_v489 : Ref sig .tc := ⟨.hbm, 630, rfl⟩
abbrev main_v490 : Ref sig .tc := ⟨.hbm, 631, rfl⟩
abbrev main_v491 : Ref sig .tc := ⟨.hbm, 632, rfl⟩
abbrev main_v492 : Ref sig .tc := ⟨.hbm, 633, rfl⟩
abbrev main_v493 : Ref sig .tc := ⟨.hbm, 634, rfl⟩
abbrev main_v494 : Ref sig .tc := ⟨.hbm, 635, rfl⟩
abbrev main_c_102 : Ref sig .tc := ⟨.hbm, 636, rfl⟩
abbrev main_v495 : Ref sig .tc := ⟨.hbm, 637, rfl⟩
abbrev main_v496 : Ref sig .tc := ⟨.hbm, 638, rfl⟩
abbrev main_c_103 : Ref sig .tc := ⟨.hbm, 639, rfl⟩
abbrev main_v497 : Ref sig .tc := ⟨.hbm, 640, rfl⟩
abbrev main_v498 : Ref sig .tc := ⟨.hbm, 641, rfl⟩
abbrev main_c_104 : Ref sig .tc := ⟨.hbm, 642, rfl⟩
abbrev main_c_105 : Ref sig .tc := ⟨.hbm, 643, rfl⟩
abbrev main_call23_v0 : Ref sig .tc := ⟨.hbm, 644, rfl⟩
abbrev main_call23_v1 : Ref sig .tc := ⟨.hbm, 645, rfl⟩
abbrev main_v499 : Ref sig .tc := ⟨.hbm, 646, rfl⟩
abbrev main_v500 : Ref sig .tc := ⟨.hbm, 647, rfl⟩
abbrev main_c_106 : Ref sig .tc := ⟨.hbm, 648, rfl⟩
abbrev main_v501 : Ref sig .tc := ⟨.hbm, 649, rfl⟩
abbrev main_v502 : Ref sig .tc := ⟨.hbm, 650, rfl⟩
abbrev main_v503 : Ref sig .tc := ⟨.hbm, 651, rfl⟩
abbrev main_cst_107 : Ref sig .tc := ⟨.hbm, 652, rfl⟩
abbrev main_v504 : Ref sig .tc := ⟨.hbm, 653, rfl⟩
abbrev main_v505 : Ref sig .tc := ⟨.hbm, 654, rfl⟩
abbrev main_v506 : Ref sig .tc := ⟨.hbm, 655, rfl⟩
abbrev main_cst_108 : Ref sig .tc := ⟨.hbm, 656, rfl⟩
abbrev main_v507 : Ref sig .tc := ⟨.hbm, 657, rfl⟩
abbrev main_v508 : Ref sig .tc := ⟨.hbm, 658, rfl⟩
abbrev main_cst_109 : Ref sig .tc := ⟨.hbm, 659, rfl⟩
abbrev main_v509 : Ref sig .tc := ⟨.hbm, 660, rfl⟩
abbrev main_v510 : Ref sig .tc := ⟨.hbm, 661, rfl⟩
abbrev main_v511 : Ref sig .tc := ⟨.hbm, 662, rfl⟩
abbrev main_c_110 : Ref sig .tc := ⟨.hbm, 663, rfl⟩
abbrev main_v512 : Ref sig .tc := ⟨.hbm, 664, rfl⟩
abbrev main_v513 : Ref sig .tc := ⟨.hbm, 665, rfl⟩
abbrev main_c_111 : Ref sig .tc := ⟨.hbm, 666, rfl⟩
abbrev main_v514 : Ref sig .tc := ⟨.hbm, 667, rfl⟩
abbrev main_v515 : Ref sig .tc := ⟨.hbm, 668, rfl⟩
abbrev main_c_112 : Ref sig .tc := ⟨.hbm, 669, rfl⟩
abbrev main_v516 : Ref sig .tc := ⟨.hbm, 670, rfl⟩
abbrev main_v517 : Ref sig .tc := ⟨.hbm, 671, rfl⟩
abbrev main_v518 : Ref sig .tc := ⟨.hbm, 672, rfl⟩
abbrev main_v519 : Ref sig .tc := ⟨.hbm, 673, rfl⟩
abbrev main_v520 : Ref sig .tc := ⟨.hbm, 674, rfl⟩
abbrev main_v521 : Ref sig .tc := ⟨.hbm, 675, rfl⟩
abbrev main_v522 : Ref sig .tc := ⟨.hbm, 676, rfl⟩
abbrev main_v523 : Ref sig .tc := ⟨.hbm, 677, rfl⟩
abbrev main_v524 : Ref sig .tc := ⟨.hbm, 678, rfl⟩
abbrev main_v525 : Ref sig .tc := ⟨.hbm, 679, rfl⟩
abbrev main_v526 : Ref sig .tc := ⟨.hbm, 680, rfl⟩
abbrev main_v527 : Ref sig .tc := ⟨.hbm, 681, rfl⟩
abbrev main_v528 : Ref sig .tc := ⟨.hbm, 682, rfl⟩
abbrev main_cst_113 : Ref sig .tc := ⟨.hbm, 683, rfl⟩
abbrev main_v529 : Ref sig .tc := ⟨.hbm, 684, rfl⟩
abbrev main_v530 : Ref sig .tc := ⟨.hbm, 685, rfl⟩
abbrev main_v531 : Ref sig .tc := ⟨.hbm, 686, rfl⟩
abbrev main_cst_114 : Ref sig .tc := ⟨.hbm, 687, rfl⟩
abbrev main_v532 : Ref sig .tc := ⟨.hbm, 688, rfl⟩
abbrev main_v533 : Ref sig .tc := ⟨.hbm, 689, rfl⟩
abbrev main_v534 : Ref sig .tc := ⟨.hbm, 690, rfl⟩
abbrev main_v535 : Ref sig .tc := ⟨.hbm, 691, rfl⟩
abbrev main_v536 : Ref sig .tc := ⟨.hbm, 692, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc1_scratch4 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg0.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2x128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S4096x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== Kernel12.lean ====
abbrev S16384x512 : Shape := ⟨2, ![16384, 512]⟩
abbrev S32x8 : Shape := ⟨2, ![32, 8]⟩
abbrev S1x16384x8x64 : Shape := ⟨4, ![1, 16384, 8, 64]⟩
abbrev S1x16384x1x8x64 : Shape := ⟨5, ![1, 16384, 1, 8, 64]⟩
abbrev S1x1x16384x8x64 : Shape := ⟨5, ![1, 1, 16384, 8, 64]⟩
abbrev S_ : Shape := ⟨0, ![]⟩
abbrev S1x1x256x64x8x64 : Shape := ⟨6, ![1, 1, 256, 64, 8, 64]⟩
abbrev S1x1x64x8x64 : Shape := ⟨5, ![1, 1, 64, 8, 64]⟩
abbrev S1x1x16512x8x64 : Shape := ⟨5, ![1, 1, 16512, 8, 64]⟩
abbrev S1x1x258x64x8x64 : Shape := ⟨6, ![1, 1, 258, 64, 8, 64]⟩
abbrev S1x1x256x192x8x64 : Shape := ⟨6, ![1, 1, 256, 192, 8, 64]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x8 : Shape := ⟨3, ![64, 192, 8]⟩
abbrev S64x8x192 : Shape := ⟨3, ![64, 8, 192]⟩
abbrev S1x1x1x64x8x192 : Shape := ⟨6, ![1, 1, 1, 64, 8, 192]⟩
abbrev S1x1x256x8x192x64 : Shape := ⟨6, ![1, 1, 256, 8, 192, 64]⟩
abbrev S1x1x256x64x8x192 : Shape := ⟨6, ![1, 1, 256, 64, 8, 192]⟩
abbrev S1x1x256x64x1x192 : Shape := ⟨6, ![1, 1, 256, 64, 1, 192]⟩
abbrev S1x1x256x64x8 : Shape := ⟨5, ![1, 1, 256, 64, 8]⟩
abbrev S1x1x256x64x8x1 : Shape := ⟨6, ![1, 1, 256, 64, 8, 1]⟩
abbrev S1x1x256x8x64x64 : Shape := ⟨6, ![1, 1, 256, 8, 64, 64]⟩
abbrev S1x1x16384x8 : Shape := ⟨4, ![1, 1, 16384, 8]⟩
abbrev S1x16384x1x8 : Shape := ⟨4, ![1, 16384, 1, 8]⟩
abbrev S1x16384x8 : Shape := ⟨3, ![1, 16384, 8]⟩
abbrev S1x4096x4x8x64 : Shape := ⟨5, ![1, 4096, 4, 8, 64]⟩
abbrev S1x4x4096x8x64 : Shape := ⟨5, ![1, 4, 4096, 8, 64]⟩
abbrev S1x4x64x64x8x64 : Shape := ⟨6, ![1, 4, 64, 64, 8, 64]⟩
abbrev S1x4x64x8x64 : Shape := ⟨5, ![1, 4, 64, 8, 64]⟩
abbrev S1x4x4224x8x64 : Shape := ⟨5, ![1, 4, 4224, 8, 64]⟩
abbrev S1x4x66x64x8x64 : Shape := ⟨6, ![1, 4, 66, 64, 8, 64]⟩
abbrev S1x4x64x192x8x64 : Shape := ⟨6, ![1, 4, 64, 192, 8, 64]⟩
abbrev S64x1x192 : Shape := ⟨3, ![64, 1, 192]⟩
abbrev S64x64x192 : Shape := ⟨3, ![64, 64, 192]⟩
abbrev S1x4x64x8x192x64 : Shape := ⟨6, ![1, 4, 64, 8, 192, 64]⟩
abbrev S1x4x64x64x8x192 : Shape := ⟨6, ![1, 4, 64, 64, 8, 192]⟩
abbrev S1x1x64x64x1x192 : Shape := ⟨6, ![1, 1, 64, 64, 1, 192]⟩
abbrev S1x4x64x64x8 : Shape := ⟨5, ![1, 4, 64, 64, 8]⟩
abbrev S1x4x64x64x8x1 : Shape := ⟨6, ![1, 4, 64, 64, 8, 1]⟩
abbrev S1x4x64x8x64x64 : Shape := ⟨6, ![1, 4, 64, 8, 64, 64]⟩
abbrev S1x4x4096x8 : Shape := ⟨4, ![1, 4, 4096, 8]⟩
abbrev S1x4096x4x8 : Shape := ⟨4, ![1, 4096, 4, 8]⟩
abbrev S1x1024x16x8x64 : Shape := ⟨5, ![1, 1024, 16, 8, 64]⟩
abbrev S1x16x1024x8x64 : Shape := ⟨5, ![1, 16, 1024, 8, 64]⟩
abbrev S1x16x16x64x8x64 : Shape := ⟨6, ![1, 16, 16, 64, 8, 64]⟩
abbrev S1x16x64x8x64 : Shape := ⟨5, ![1, 16, 64, 8, 64]⟩
abbrev S1x16x1152x8x64 : Shape := ⟨5, ![1, 16, 1152, 8, 64]⟩
abbrev S1x16x18x64x8x64 : Shape := ⟨6, ![1, 16, 18, 64, 8, 64]⟩
abbrev S1x16x16x192x8x64 : Shape := ⟨6, ![1, 16, 16, 192, 8, 64]⟩
abbrev S16 : Shape := ⟨1, ![16]⟩
abbrev S16x1 : Shape := ⟨2, ![16, 1]⟩
abbrev S16x192 : Shape := ⟨2, ![16, 192]⟩
abbrev S16x1x192 : Shape := ⟨3, ![16, 1, 192]⟩
abbrev S16x64x192 : Shape := ⟨3, ![16, 64, 192]⟩
abbrev S1x16x16x8x192x64 : Shape := ⟨6, ![1, 16, 16, 8, 192, 64]⟩
abbrev S1x16x16x64x8x192 : Shape := ⟨6, ![1, 16, 16, 64, 8, 192]⟩
abbrev S1x1x16x64x1x192 : Shape := ⟨6, ![1, 1, 16, 64, 1, 192]⟩
abbrev S1x16x16x64x8 : Shape := ⟨5, ![1, 16, 16, 64, 8]⟩
abbrev S1x16x16x64x8x1 : Shape := ⟨6, ![1, 16, 16, 64, 8, 1]⟩
abbrev S1x16x16x8x64x64 : Shape := ⟨6, ![1, 16, 16, 8, 64, 64]⟩
abbrev S1x16x1024x8 : Shape := ⟨4, ![1, 16, 1024, 8]⟩
abbrev S1x1024x16x8 : Shape := ⟨4, ![1, 1024, 16, 8]⟩
abbrev S1x16384x8x1 : Shape := ⟨4, ![1, 16384, 8, 1]⟩
abbrev S16384x8x1 : Shape := ⟨3, ![16384, 8, 1]⟩
abbrev S16384x8x64 : Shape := ⟨3, ![16384, 8, 64]⟩
abbrev S16384x8 : Shape := ⟨2, ![16384, 8]⟩
abbrev S16384x8x32 : Shape := ⟨3, ![16384, 8, 32]⟩
abbrev S8x32 : Shape := ⟨2, ![8, 32]⟩
abbrev S16x128 : Shape := ⟨2, ![16, 128]⟩
abbrev S128 : Shape := ⟨1, ![128]⟩
abbrev S1x256 : Shape := ⟨2, ![1, 256]⟩
abbrev S128x1 : Shape := ⟨2, ![128, 1]⟩
abbrev S128x256 : Shape := ⟨2, ![128, 256]⟩
abbrev S32768 : Shape := ⟨1, ![32768]⟩
abbrev S32768x1 : Shape := ⟨2, ![32768, 1]⟩
abbrev S1x128 : Shape := ⟨2, ![1, 128]⟩
abbrev S32768x128 : Shape := ⟨2, ![32768, 128]⟩
abbrev S16x32768 : Shape := ⟨2, ![16, 32768]⟩
abbrev S4096x128 : Shape := ⟨2, ![4096, 128]⟩
abbrev S16x4096 : Shape := ⟨2, ![16, 4096]⟩
abbrev S8x32768 : Shape := ⟨2, ![8, 32768]⟩
abbrev S8x128x256 : Shape := ⟨3, ![8, 128, 256]⟩
abbrev S1024x128 : Shape := ⟨2, ![1024, 128]⟩
abbrev S2x128x256 : Shape := ⟨3, ![2, 128, 256]⟩
abbrev S6144x128 : Shape := ⟨2, ![6144, 128]⟩
abbrev S128x128 : Shape := ⟨2, ![128, 128]⟩
abbrev S256x256 : Shape := ⟨2, ![256, 256]⟩
abbrev S256x128 : Shape := ⟨2, ![256, 128]⟩

abbrev nBuf : Space → Nat
  | .hbm => 693
  | .vmem => 40
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x512, .bf16⟩
  | 6 => ⟨S16384x512, .bf16⟩
  | 7 => ⟨S16384x512, .bf16⟩
  | 8 => ⟨S1x16384x8x64, .bf16⟩
  | 9 => ⟨S1x16384x8x64, .bf16⟩
  | 10 => ⟨S1x16384x8x64, .bf16⟩
  | 11 => ⟨S1x16384x1x8x64, .bf16⟩
  | 12 => ⟨S1x1x16384x8x64, .bf16⟩
  | 13 => ⟨S_, .i32⟩
  | 14 => ⟨S_, .bf16⟩
  | 15 => ⟨S1x1x16384x8x64, .bf16⟩
  | 16 => ⟨S1x1x256x64x8x64, .bf16⟩
  | 17 => ⟨S1x16384x1x8x64, .bf16⟩
  | 18 => ⟨S1x1x16384x8x64, .bf16⟩
  | 19 => ⟨S_, .i32⟩
  | 20 => ⟨S_, .bf16⟩
  | 21 => ⟨S1x1x16384x8x64, .bf16⟩
  | 22 => ⟨S_, .bf16⟩
  | 23 => ⟨S1x1x64x8x64, .bf16⟩
  | 24 => ⟨S1x1x16512x8x64, .bf16⟩
  | 25 => ⟨S1x1x258x64x8x64, .bf16⟩
  | 26 => ⟨S1x1x256x64x8x64, .bf16⟩
  | 27 => ⟨S1x1x256x64x8x64, .bf16⟩
  | 28 => ⟨S1x1x256x64x8x64, .bf16⟩
  | 29 => ⟨S1x1x256x192x8x64, .bf16⟩
  | 30 => ⟨S1x16384x1x8x64, .bf16⟩
  | 31 => ⟨S1x1x16384x8x64, .bf16⟩
  | 32 => ⟨S_, .i32⟩
  | 33 => ⟨S_, .bf16⟩
  | 34 => ⟨S1x1x16384x8x64, .bf16⟩
  | 35 => ⟨S_, .bf16⟩
  | 36 => ⟨S1x1x64x8x64, .bf16⟩
  | 37 => ⟨S1x1x16512x8x64, .bf16⟩
  | 38 => ⟨S1x1x258x64x8x64, .bf16⟩
  | 39 => ⟨S1x1x256x64x8x64, .bf16⟩
  | 40 => ⟨S1x1x256x64x8x64, .bf16⟩
  | 41 => ⟨S1x1x256x64x8x64, .bf16⟩
  | 42 => ⟨S1x1x256x192x8x64, .bf16⟩
  | 43 => ⟨S64, .i32⟩
  | 44 => ⟨S192, .i32⟩
  | 45 => ⟨S1x192, .i32⟩
  | 46 => ⟨S_, .i32⟩
  | 47 => ⟨S1x192, .i32⟩
  | 48 => ⟨S1x192, .i32⟩
  | 49 => ⟨S64x1, .i32⟩
  | 50 => ⟨S64x192, .i32⟩
  | 51 => ⟨S64x192, .i32⟩
  | 52 => ⟨S64x192, .i32⟩
  | 53 => ⟨S256, .i32⟩
  | 54 => ⟨S256x1, .i32⟩
  | 55 => ⟨S_, .i32⟩
  | 56 => ⟨S256x1, .i32⟩
  | 57 => ⟨S256x1, .i32⟩
  | 58 => ⟨S_, .i32⟩
  | 59 => ⟨S256x1, .i32⟩
  | 60 => ⟨S256x1, .i32⟩
  | 61 => ⟨S1x192, .i32⟩
  | 62 => ⟨S256x192, .i32⟩
  | 63 => ⟨S256x192, .i32⟩
  | 64 => ⟨S256x192, .i32⟩
  | 65 => ⟨S64x192, .i32⟩
  | 66 => ⟨S_, .i32⟩
  | 67 => ⟨S64x192, .i32⟩
  | 68 => ⟨S64x192, .i1⟩
  | 69 => ⟨S1x64x192, .i1⟩
  | 70 => ⟨S_, .i32⟩
  | 71 => ⟨S256x192, .i32⟩
  | 72 => ⟨S256x192, .i1⟩
  | 73 => ⟨S256x1x192, .i1⟩
  | 74 => ⟨S256x64x192, .i1⟩
  | 75 => ⟨S256x64x192, .i1⟩
  | 76 => ⟨S256x64x192, .i1⟩
  | 77 => ⟨S_, .i32⟩
  | 78 => ⟨S256x192, .i32⟩
  | 79 => ⟨S256x192, .i1⟩
  | 80 => ⟨S256x1x192, .i1⟩
  | 81 => ⟨S256x64x192, .i1⟩
  | 82 => ⟨S256x64x192, .i1⟩
  | 83 => ⟨S_, .i32⟩
  | 84 => ⟨S64x192, .i32⟩
  | 85 => ⟨S64x192, .i32⟩
  | 86 => ⟨S_, .i32⟩
  | 87 => ⟨S64x192, .i32⟩
  | 88 => ⟨S64x192, .i1⟩
  | 89 => ⟨S_, .i32⟩
  | 90 => ⟨S_, .i32⟩
  | 91 => ⟨S64x192, .i32⟩
  | 92 => ⟨S64x192, .i32⟩
  | 93 => ⟨S64x192, .i32⟩
  | 94 => ⟨S64x192, .i32⟩
  | 95 => ⟨S_, .i32⟩
  | 96 => ⟨S64x192, .i32⟩
  | 97 => ⟨S64x192, .i32⟩
  | 98 => ⟨S64x192, .f32⟩
  | 99 => ⟨S_, .f32⟩
  | 100 => ⟨S64x192, .f32⟩
  | 101 => ⟨S64x192, .f32⟩
  | 102 => ⟨S64x192, .f32⟩
  | 103 => ⟨S_, .f32⟩
  | 104 => ⟨S64x192, .f32⟩
  | 105 => ⟨S64x192, .f32⟩
  | 106 => ⟨S_, .f32⟩
  | 107 => ⟨S64x192, .f32⟩
  | 108 => ⟨S64x192, .f32⟩
  | 109 => ⟨S64x192, .i32⟩
  | 110 => ⟨S_, .i32⟩
  | 111 => ⟨S64x192, .i32⟩
  | 112 => ⟨S64x192, .i32⟩
  | 113 => ⟨S_, .i32⟩
  | 114 => ⟨S64x192, .i32⟩
  | 115 => ⟨S64x192, .i32⟩
  | 116 => ⟨S_, .i32⟩
  | 117 => ⟨S64x192, .i32⟩
  | 118 => ⟨S64x192, .i1⟩
  | 119 => ⟨S64x192, .i32⟩
  | 120 => ⟨S64x192, .i32⟩
  | 121 => ⟨S64x192, .i32⟩
  | 122 => ⟨S_, .i32⟩
  | 123 => ⟨S64x192, .i32⟩
  | 124 => ⟨S64x192, .i1⟩
  | 125 => ⟨S_, .i32⟩
  | 126 => ⟨S64x192, .i32⟩
  | 127 => ⟨S64x192, .i32⟩
  | _ => ⟨S16384x512, .f32⟩

abbrev hbmTy0_1 (i : Nat) : BufTy := match i % 128 with
  | 0 => ⟨S64x192, .i32⟩
  | 1 => ⟨S64x192x1, .i32⟩
  | 2 => ⟨S64x192x8, .f32⟩
  | 3 => ⟨S64x8x192, .f32⟩
  | 4 => ⟨S1x1x1x64x8x192, .f32⟩
  | 5 => ⟨S1x1x256x8x192x64, .f32⟩
  | 6 => ⟨S1x1x256x64x8x192, .f32⟩
  | 7 => ⟨S_, .f32⟩
  | 8 => ⟨S1x1x256x64x8x192, .f32⟩
  | 9 => ⟨S1x1x256x64x8x192, .f32⟩
  | 10 => ⟨S1x1x256x64x1x192, .i1⟩
  | 11 => ⟨S1x1x256x64x8x192, .f32⟩
  | 12 => ⟨S1x1x256x64x8x192, .f32⟩
  | 13 => ⟨S_, .f32⟩
  | 14 => ⟨S_, .f32⟩
  | 15 => ⟨S1x1x256x64x8x192, .i1⟩
  | 16 => ⟨S1x1x256x64x8x192, .f32⟩
  | 17 => ⟨S1x1x256x64x8x192, .f32⟩
  | 18 => ⟨S_, .f32⟩
  | 19 => ⟨S1x1x256x64x8, .f32⟩
  | 20 => ⟨S1x1x256x64x8x1, .f32⟩
  | 21 => ⟨S1x1x256x64x8x192, .f32⟩
  | 22 => ⟨S1x1x256x64x8x192, .f32⟩
  | 23 => ⟨S1x1x256x64x8x192, .f32⟩
  | 24 => ⟨S_, .f32⟩
  | 25 => ⟨S1x1x256x64x8, .f32⟩
  | 26 => ⟨S1x1x256x64x8x192, .bf16⟩
  | 27 => ⟨S1x1x256x8x64x64, .f32⟩
  | 28 => ⟨S1x1x256x64x8x64, .f32⟩
  | 29 => ⟨S1x1x256x64x8x1, .f32⟩
  | 30 => ⟨S1x1x256x64x8x64, .f32⟩
  | 31 => ⟨S1x1x256x64x8x64, .f32⟩
  | 32 => ⟨S1x1x16384x8x64, .f32⟩
  | 33 => ⟨S1x16384x1x8x64, .f32⟩
  | 34 => ⟨S1x16384x8x64, .f32⟩
  | 35 => ⟨S1x1x16384x8, .f32⟩
  | 36 => ⟨S1x16384x1x8, .f32⟩
  | 37 => ⟨S1x16384x8, .f32⟩
  | 38 => ⟨S1x1x16384x8, .f32⟩
  | 39 => ⟨S1x16384x1x8, .f32⟩
  | 40 => ⟨S1x16384x8, .f32⟩
  | 41 => ⟨S1x16384x8x64, .bf16⟩
  | 42 => ⟨S1x16384x8x64, .bf16⟩
  | 43 => ⟨S1x16384x8x64, .bf16⟩
  | 44 => ⟨S1x4096x4x8x64, .bf16⟩
  | 45 => ⟨S1x4x4096x8x64, .bf16⟩
  | 46 => ⟨S_, .i32⟩
  | 47 => ⟨S_, .bf16⟩
  | 48 => ⟨S1x4x4096x8x64, .bf16⟩
  | 49 => ⟨S1x4x64x64x8x64, .bf16⟩
  | 50 => ⟨S1x4096x4x8x64, .bf16⟩
  | 51 => ⟨S1x4x4096x8x64, .bf16⟩
  | 52 => ⟨S_, .i32⟩
  | 53 => ⟨S_, .bf16⟩
  | 54 => ⟨S1x4x4096x8x64, .bf16⟩
  | 55 => ⟨S_, .bf16⟩
  | 56 => ⟨S1x4x64x8x64, .bf16⟩
  | 57 => ⟨S1x4x4224x8x64, .bf16⟩
  | 58 => ⟨S1x4x66x64x8x64, .bf16⟩
  | 59 => ⟨S1x4x64x64x8x64, .bf16⟩
  | 60 => ⟨S1x4x64x64x8x64, .bf16⟩
  | 61 => ⟨S1x4x64x64x8x64, .bf16⟩
  | 62 => ⟨S1x4x64x192x8x64, .bf16⟩
  | 63 => ⟨S1x4096x4x8x64, .bf16⟩
  | 64 => ⟨S1x4x4096x8x64, .bf16⟩
  | 65 => ⟨S_, .i32⟩
  | 66 => ⟨S_, .bf16⟩
  | 67 => ⟨S1x4x4096x8x64, .bf16⟩
  | 68 => ⟨S_, .bf16⟩
  | 69 => ⟨S1x4x64x8x64, .bf16⟩
  | 70 => ⟨S1x4x4224x8x64, .bf16⟩
  | 71 => ⟨S1x4x66x64x8x64, .bf16⟩
  | 72 => ⟨S1x4x64x64x8x64, .bf16⟩
  | 73 => ⟨S1x4x64x64x8x64, .bf16⟩
  | 74 => ⟨S1x4x64x64x8x64, .bf16⟩
  | 75 => ⟨S1x4x64x192x8x64, .bf16⟩
  | 76 => ⟨S64, .i32⟩
  | 77 => ⟨S192, .i32⟩
  | 78 => ⟨S1x192, .i32⟩
  | 79 => ⟨S_, .i32⟩
  | 80 => ⟨S1x192, .i32⟩
  | 81 => ⟨S1x192, .i32⟩
  | 82 => ⟨S64x1, .i32⟩
  | 83 => ⟨S64x192, .i32⟩
  | 84 => ⟨S64x192, .i32⟩
  | 85 => ⟨S64x192, .i32⟩
  | 86 => ⟨S64, .i32⟩
  | 87 => ⟨S64x1, .i32⟩
  | 88 => ⟨S_, .i32⟩
  | 89 => ⟨S64x1, .i32⟩
  | 90 => ⟨S64x1, .i32⟩
  | 91 => ⟨S_, .i32⟩
  | 92 => ⟨S64x1, .i32⟩
  | 93 => ⟨S64x1, .i32⟩
  | 94 => ⟨S1x192, .i32⟩
  | 95 => ⟨S64x192, .i32⟩
  | 96 => ⟨S64x192, .i32⟩
  | 97 => ⟨S64x192, .i32⟩
  | 98 => ⟨S64x192, .i32⟩
  | 99 => ⟨S_, .i32⟩
  | 100 => ⟨S64x192, .i32⟩
  | 101 => ⟨S64x192, .i1⟩
  | 102 => ⟨S1x64x192, .i1⟩
  | 103 => ⟨S_, .i32⟩
  | 104 => ⟨S64x192, .i32⟩
  | 105 => ⟨S64x192, .i1⟩
  | 106 => ⟨S64x1x192, .i1⟩
  | 107 => ⟨S64x64x192, .i1⟩
  | 108 => ⟨S64x64x192, .i1⟩
  | 109 => ⟨S64x64x192, .i1⟩
  | 110 => ⟨S_, .i32⟩
  | 111 => ⟨S64x192, .i32⟩
  | 112 => ⟨S64x192, .i1⟩
  | 113 => ⟨S64x1x192, .i1⟩
  | 114 => ⟨S64x64x192, .i1⟩
  | 115 => ⟨S64x64x192, .i1⟩
  | 116 => ⟨S_, .i32⟩
  | 117 => ⟨S64x192, .i32⟩
  | 118 => ⟨S64x192, .i32⟩
  | 119 => ⟨S_, .i32⟩
  | 120 => ⟨S64x192, .i32⟩
  | 121 => ⟨S64x192, .i1⟩
  | 122 => ⟨S_, .i32⟩
  | 123 => ⟨S_, .i32⟩
  | 124 => ⟨S64x192, .i32⟩
  | 125 => ⟨S64x192, .i32⟩
  | 126 => ⟨S64x192, .i32⟩
  | 127 => ⟨S64x192, .i32⟩
  | _ => ⟨S16384x512, .f32⟩

abbrev hbmTy0_2 (i : Nat) : BufTy := match i % 128 with
  | 0 => ⟨S_, .i32⟩
  | 1 => ⟨S64x192, .i32⟩
  | 2 => ⟨S64x192, .i32⟩
  | 3 => ⟨S64x192, .f32⟩
  | 4 => ⟨S_, .f32⟩
  | 5 => ⟨S64x192, .f32⟩
  | 6 => ⟨S64x192, .f32⟩
  | 7 => ⟨S64x192, .f32⟩
  | 8 => ⟨S_, .f32⟩
  | 9 => ⟨S64x192, .f32⟩
  | 10 => ⟨S64x192, .f32⟩
  | 11 => ⟨S_, .f32⟩
  | 12 => ⟨S64x192, .f32⟩
  | 13 => ⟨S64x192, .f32⟩
  | 14 => ⟨S64x192, .i32⟩
  | 15 => ⟨S_, .i32⟩
  | 16 => ⟨S64x192, .i32⟩
  | 17 => ⟨S64x192, .i32⟩
  | 18 => ⟨S_, .i32⟩
  | 19 => ⟨S64x192, .i32⟩
  | 20 => ⟨S64x192, .i32⟩
  | 21 => ⟨S_, .i32⟩
  | 22 => ⟨S64x192, .i32⟩
  | 23 => ⟨S64x192, .i1⟩
  | 24 => ⟨S64x192, .i32⟩
  | 25 => ⟨S64x192, .i32⟩
  | 26 => ⟨S64x192, .i32⟩
  | 27 => ⟨S_, .i32⟩
  | 28 => ⟨S64x192, .i32⟩
  | 29 => ⟨S64x192, .i1⟩
  | 30 => ⟨S_, .i32⟩
  | 31 => ⟨S64x192, .i32⟩
  | 32 => ⟨S64x192, .i32⟩
  | 33 => ⟨S64x192, .i32⟩
  | 34 => ⟨S64x192x1, .i32⟩
  | 35 => ⟨S64x192x8, .f32⟩
  | 36 => ⟨S64x8x192, .f32⟩
  | 37 => ⟨S1x1x1x64x8x192, .f32⟩
  | 38 => ⟨S1x4x64x8x192x64, .f32⟩
  | 39 => ⟨S1x4x64x64x8x192, .f32⟩
  | 40 => ⟨S_, .f32⟩
  | 41 => ⟨S1x4x64x64x8x192, .f32⟩
  | 42 => ⟨S1x4x64x64x8x192, .f32⟩
  | 43 => ⟨S1x1x64x64x1x192, .i1⟩
  | 44 => ⟨S1x4x64x64x8x192, .f32⟩
  | 45 => ⟨S1x4x64x64x8x192, .f32⟩
  | 46 => ⟨S_, .f32⟩
  | 47 => ⟨S_, .f32⟩
  | 48 => ⟨S1x4x64x64x8x192, .i1⟩
  | 49 => ⟨S1x4x64x64x8x192, .f32⟩
  | 50 => ⟨S1x4x64x64x8x192, .f32⟩
  | 51 => ⟨S_, .f32⟩
  | 52 => ⟨S1x4x64x64x8, .f32⟩
  | 53 => ⟨S1x4x64x64x8x1, .f32⟩
  | 54 => ⟨S1x4x64x64x8x192, .f32⟩
  | 55 => ⟨S1x4x64x64x8x192, .f32⟩
  | 56 => ⟨S1x4x64x64x8x192, .f32⟩
  | 57 => ⟨S_, .f32⟩
  | 58 => ⟨S1x4x64x64x8, .f32⟩
  | 59 => ⟨S1x4x64x64x8x192, .bf16⟩
  | 60 => ⟨S1x4x64x8x64x64, .f32⟩
  | 61 => ⟨S1x4x64x64x8x64, .f32⟩
  | 62 => ⟨S1x4x64x64x8x1, .f32⟩
  | 63 => ⟨S1x4x64x64x8x64, .f32⟩
  | 64 => ⟨S1x4x64x64x8x64, .f32⟩
  | 65 => ⟨S1x4x4096x8x64, .f32⟩
  | 66 => ⟨S1x4096x4x8x64, .f32⟩
  | 67 => ⟨S1x16384x8x64, .f32⟩
  | 68 => ⟨S1x4x4096x8, .f32⟩
  | 69 => ⟨S1x4096x4x8, .f32⟩
  | 70 => ⟨S1x16384x8, .f32⟩
  | 71 => ⟨S1x4x4096x8, .f32⟩
  | 72 => ⟨S1x4096x4x8, .f32⟩
  | 73 => ⟨S1x16384x8, .f32⟩
  | 74 => ⟨S1x16384x8x64, .bf16⟩
  | 75 => ⟨S1x16384x8x64, .bf16⟩
  | 76 => ⟨S1x16384x8x64, .bf16⟩
  | 77 => ⟨S1x1024x16x8x64, .bf16⟩
  | 78 => ⟨S1x16x1024x8x64, .bf16⟩
  | 79 => ⟨S_, .i32⟩
  | 80 => ⟨S_, .bf16⟩
  | 81 => ⟨S1x16x1024x8x64, .bf16⟩
  | 82 => ⟨S1x16x16x64x8x64, .bf16⟩
  | 83 => ⟨S1x1024x16x8x64, .bf16⟩
  | 84 => ⟨S1x16x1024x8x64, .bf16⟩
  | 85 => ⟨S_, .i32⟩
  | 86 => ⟨S_, .bf16⟩
  | 87 => ⟨S1x16x1024x8x64, .bf16⟩
  | 88 => ⟨S_, .bf16⟩
  | 89 => ⟨S1x16x64x8x64, .bf16⟩
  | 90 => ⟨S1x16x1152x8x64, .bf16⟩
  | 91 => ⟨S1x16x18x64x8x64, .bf16⟩
  | 92 => ⟨S1x16x16x64x8x64, .bf16⟩
  | 93 => ⟨S1x16x16x64x8x64, .bf16⟩
  | 94 => ⟨S1x16x16x64x8x64, .bf16⟩
  | 95 => ⟨S1x16x16x192x8x64, .bf16⟩
  | 96 => ⟨S1x1024x16x8x64, .bf16⟩
  | 97 => ⟨S1x16x1024x8x64, .bf16⟩
  | 98 => ⟨S_, .i32⟩
  | 99 => ⟨S_, .bf16⟩
  | 100 => ⟨S1x16x1024x8x64, .bf16⟩
  | 101 => ⟨S_, .bf16⟩
  | 102 => ⟨S1x16x64x8x64, .bf16⟩
  | 103 => ⟨S1x16x1152x8x64, .bf16⟩
  | 104 => ⟨S1x16x18x64x8x64, .bf16⟩
  | 105 => ⟨S1x16x16x64x8x64, .bf16⟩
  | 106 => ⟨S1x16x16x64x8x64, .bf16⟩
  | 107 => ⟨S1x16x16x64x8x64, .bf16⟩
  | 108 => ⟨S1x16x16x192x8x64, .bf16⟩
  | 109 => ⟨S64, .i32⟩
  | 110 => ⟨S192, .i32⟩
  | 111 => ⟨S1x192, .i32⟩
  | 112 => ⟨S_, .i32⟩
  | 113 => ⟨S1x192, .i32⟩
  | 114 => ⟨S1x192, .i32⟩
  | 115 => ⟨S64x1, .i32⟩
  | 116 => ⟨S64x192, .i32⟩
  | 117 => ⟨S64x192, .i32⟩
  | 118 => ⟨S64x192, .i32⟩
  | 119 => ⟨S16, .i32⟩
  | 120 => ⟨S16x1, .i32⟩
  | 121 => ⟨S_, .i32⟩
  | 122 => ⟨S16x1, .i32⟩
  | 123 => ⟨S16x1, .i32⟩
  | 124 => ⟨S_, .i32⟩
  | 125 => ⟨S16x1, .i32⟩
  | 126 => ⟨S16x1, .i32⟩
  | 127 => ⟨S1x192, .i32⟩
  | _ => ⟨S16384x512, .f32⟩

abbrev hbmTy0_3 (i : Nat) : BufTy := match i % 128 with
  | 0 => ⟨S16x192, .i32⟩
  | 1 => ⟨S16x192, .i32⟩
  | 2 => ⟨S16x192, .i32⟩
  | 3 => ⟨S64x192, .i32⟩
  | 4 => ⟨S_, .i32⟩
  | 5 => ⟨S64x192, .i32⟩
  | 6 => ⟨S64x192, .i1⟩
  | 7 => ⟨S1x64x192, .i1⟩
  | 8 => ⟨S_, .i32⟩
  | 9 => ⟨S16x192, .i32⟩
  | 10 => ⟨S16x192, .i1⟩
  | 11 => ⟨S16x1x192, .i1⟩
  | 12 => ⟨S16x64x192, .i1⟩
  | 13 => ⟨S16x64x192, .i1⟩
  | 14 => ⟨S16x64x192, .i1⟩
  | 15 => ⟨S_, .i32⟩
  | 16 => ⟨S16x192, .i32⟩
  | 17 => ⟨S16x192, .i1⟩
  | 18 => ⟨S16x1x192, .i1⟩
  | 19 => ⟨S16x64x192, .i1⟩
  | 20 => ⟨S16x64x192, .i1⟩
  | 21 => ⟨S_, .i32⟩
  | 22 => ⟨S64x192, .i32⟩
  | 23 => ⟨S64x192, .i32⟩
  | 24 => ⟨S_, .i32⟩
  | 25 => ⟨S64x192, .i32⟩
  | 26 => ⟨S64x192, .i1⟩
  | 27 => ⟨S_, .i32⟩
  | 28 => ⟨S_, .i32⟩
  | 29 => ⟨S64x192, .i32⟩
  | 30 => ⟨S64x192, .i32⟩
  | 31 => ⟨S64x192, .i32⟩
  | 32 => ⟨S64x192, .i32⟩
  | 33 => ⟨S_, .i32⟩
  | 34 => ⟨S64x192, .i32⟩
  | 35 => ⟨S64x192, .i32⟩
  | 36 => ⟨S64x192, .f32⟩
  | 37 => ⟨S_, .f32⟩
  | 38 => ⟨S64x192, .f32⟩
  | 39 => ⟨S64x192, .f32⟩
  | 40 => ⟨S64x192, .f32⟩
  | 41 => ⟨S_, .f32⟩
  | 42 => ⟨S64x192, .f32⟩
  | 43 => ⟨S64x192, .f32⟩
  | 44 => ⟨S_, .f32⟩
  | 45 => ⟨S64x192, .f32⟩
  | 46 => ⟨S64x192, .f32⟩
  | 47 => ⟨S64x192, .i32⟩
  | 48 => ⟨S_, .i32⟩
  | 49 => ⟨S64x192, .i32⟩
  | 50 => ⟨S64x192, .i32⟩
  | 51 => ⟨S_, .i32⟩
  | 52 => ⟨S64x192, .i32⟩
  | 53 => ⟨S64x192, .i32⟩
  | 54 => ⟨S_, .i32⟩
  | 55 => ⟨S64x192, .i32⟩
  | 56 => ⟨S64x192, .i1⟩
  | 57 => ⟨S64x192, .i32⟩
  | 58 => ⟨S64x192, .i32⟩
  | 59 => ⟨S64x192, .i32⟩
  | 60 => ⟨S_, .i32⟩
  | 61 => ⟨S64x192, .i32⟩
  | 62 => ⟨S64x192, .i1⟩
  | 63 => ⟨S_, .i32⟩
  | 64 => ⟨S64x192, .i32⟩
  | 65 => ⟨S64x192, .i32⟩
  | 66 => ⟨S64x192, .i32⟩
  | 67 => ⟨S64x192x1, .i32⟩
  | 68 => ⟨S64x192x8, .f32⟩
  | 69 => ⟨S64x8x192, .f32⟩
  | 70 => ⟨S1x1x1x64x8x192, .f32⟩
  | 71 => ⟨S1x16x16x8x192x64, .f32⟩
  | 72 => ⟨S1x16x16x64x8x192, .f32⟩
  | 73 => ⟨S_, .f32⟩
  | 74 => ⟨S1x16x16x64x8x192, .f32⟩
  | 75 => ⟨S1x16x16x64x8x192, .f32⟩
  | 76 => ⟨S1x1x16x64x1x192, .i1⟩
  | 77 => ⟨S1x16x16x64x8x192, .f32⟩
  | 78 => ⟨S1x16x16x64x8x192, .f32⟩
  | 79 => ⟨S_, .f32⟩
  | 80 => ⟨S_, .f32⟩
  | 81 => ⟨S1x16x16x64x8x192, .i1⟩
  | 82 => ⟨S1x16x16x64x8x192, .f32⟩
  | 83 => ⟨S1x16x16x64x8x192, .f32⟩
  | 84 => ⟨S_, .f32⟩
  | 85 => ⟨S1x16x16x64x8, .f32⟩
  | 86 => ⟨S1x16x16x64x8x1, .f32⟩
  | 87 => ⟨S1x16x16x64x8x192, .f32⟩
  | 88 => ⟨S1x16x16x64x8x192, .f32⟩
  | 89 => ⟨S1x16x16x64x8x192, .f32⟩
  | 90 => ⟨S_, .f32⟩
  | 91 => ⟨S1x16x16x64x8, .f32⟩
  | 92 => ⟨S1x16x16x64x8x192, .bf16⟩
  | 93 => ⟨S1x16x16x8x64x64, .f32⟩
  | 94 => ⟨S1x16x16x64x8x64, .f32⟩
  | 95 => ⟨S1x16x16x64x8x1, .f32⟩
  | 96 => ⟨S1x16x16x64x8x64, .f32⟩
  | 97 => ⟨S1x16x16x64x8x64, .f32⟩
  | 98 => ⟨S1x16x1024x8x64, .f32⟩
  | 99 => ⟨S1x1024x16x8x64, .f32⟩
  | 100 => ⟨S1x16384x8x64, .f32⟩
  | 101 => ⟨S1x16x1024x8, .f32⟩
  | 102 => ⟨S1x1024x16x8, .f32⟩
  | 103 => ⟨S1x16384x8, .f32⟩
  | 104 => ⟨S1x16x1024x8, .f32⟩
  | 105 => ⟨S1x1024x16x8, .f32⟩
  | 106 => ⟨S1x16384x8, .f32⟩
  | 107 => ⟨S1x16384x8, .f32⟩
  | 108 => ⟨S1x16384x8, .f32⟩
  | 109 => ⟨S1x16384x8, .f32⟩
  | 110 => ⟨S1x16384x8, .f32⟩
  | 111 => ⟨S1x16384x8, .f32⟩
  | 112 => ⟨S1x16384x8, .f32⟩
  | 113 => ⟨S1x16384x8, .f32⟩
  | 114 => ⟨S1x16384x8, .f32⟩
  | 115 => ⟨S1x16384x8, .f32⟩
  | 116 => ⟨S1x16384x8, .f32⟩
  | 117 => ⟨S1x16384x8, .f32⟩
  | 118 => ⟨S1x16384x8, .f32⟩
  | 119 => ⟨S1x16384x8, .f32⟩
  | 120 => ⟨S1x16384x8x1, .f32⟩
  | 121 => ⟨S1x16384x8x64, .f32⟩
  | 122 => ⟨S1x16384x8x64, .f32⟩
  | 123 => ⟨S1x16384x8x1, .f32⟩
  | 124 => ⟨S1x16384x8x64, .f32⟩
  | 125 => ⟨S1x16384x8x64, .f32⟩
  | 126 => ⟨S1x16384x8x64, .f32⟩
  | 127 => ⟨S1x16384x8x1, .f32⟩
  | _ => ⟨S16384x512, .f32⟩

abbrev hbmTy0_4 (i : Nat) : BufTy := match i % 128 with
  | 0 => ⟨S1x16384x8x64, .f32⟩
  | 1 => ⟨S1x16384x8x64, .f32⟩
  | 2 => ⟨S1x16384x8x64, .f32⟩
  | 3 => ⟨S1x16384x8x1, .f32⟩
  | 4 => ⟨S1x16384x8x64, .f32⟩
  | 5 => ⟨S1x16384x8x64, .f32⟩
  | 6 => ⟨S1x16384x8, .f32⟩
  | 7 => ⟨S1x16384x8, .f32⟩
  | 8 => ⟨S16384x8x1, .f32⟩
  | 9 => ⟨S16384x8x64, .f32⟩
  | 10 => ⟨S16384x8x64, .f32⟩
  | 11 => ⟨S16384x8x64, .f32⟩
  | 12 => ⟨S_, .f32⟩
  | 13 => ⟨S16384x8, .f32⟩
  | 14 => ⟨S16384x8x1, .f32⟩
  | 15 => ⟨S16384x8x32, .f32⟩
  | 16 => ⟨S16384x8x32, .f32⟩
  | 17 => ⟨S16384x8x64, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .bf16⟩
  | 24 => ⟨S8x32, .f32⟩
  | 25 => ⟨S_, .i32⟩
  | 26 => ⟨S_, .f32⟩
  | 27 => ⟨S16x128, .f32⟩
  | 28 => ⟨S128, .i32⟩
  | 29 => ⟨S256, .i32⟩
  | 30 => ⟨S1x256, .i32⟩
  | 31 => ⟨S_, .i32⟩
  | 32 => ⟨S1x256, .i32⟩
  | 33 => ⟨S1x256, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S_, .i32⟩
  | 46 => ⟨S128x256, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i32⟩
  | 53 => ⟨S128x256, .f32⟩
  | 54 => ⟨S_, .f32⟩
  | 55 => ⟨S128x256, .f32⟩
  | 56 => ⟨S128x256, .f32⟩
  | 57 => ⟨S128x256, .f32⟩
  | 58 => ⟨S_, .f32⟩
  | 59 => ⟨S128x256, .f32⟩
  | 60 => ⟨S128x256, .f32⟩
  | 61 => ⟨S_, .f32⟩
  | 62 => ⟨S128x256, .f32⟩
  | 63 => ⟨S128x256, .f32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S128x256, .i32⟩
  | 75 => ⟨S128x256, .i32⟩
  | 76 => ⟨S128x256, .i32⟩
  | 77 => ⟨S32768, .i32⟩
  | 78 => ⟨S32768x1, .i32⟩
  | 79 => ⟨S128, .i32⟩
  | 80 => ⟨S1x128, .i32⟩
  | 81 => ⟨S32768x128, .i32⟩
  | 82 => ⟨S32768x128, .i32⟩
  | 83 => ⟨S32768x128, .i1⟩
  | 84 => ⟨S32768x128, .bf16⟩
  | 85 => ⟨S16x32768, .f32⟩
  | 86 => ⟨S8x32768, .f32⟩
  | 87 => ⟨S8x128x256, .f32⟩
  | 88 => ⟨S128, .i32⟩
  | 89 => ⟨S256, .i32⟩
  | 90 => ⟨S1x256, .i32⟩
  | 91 => ⟨S_, .i32⟩
  | 92 => ⟨S1x256, .i32⟩
  | 93 => ⟨S1x256, .i32⟩
  | 94 => ⟨S128x1, .i32⟩
  | 95 => ⟨S128x256, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .f32⟩
  | 103 => ⟨S_, .f32⟩
  | 104 => ⟨S8x128x256, .i1⟩
  | 105 => ⟨S8x128x256, .f32⟩
  | 106 => ⟨S8x128x256, .f32⟩
  | 107 => ⟨S16384x512, .bf16⟩
  | 108 => ⟨S16384x512, .bf16⟩
  | 109 => ⟨S8x128x256, .f32⟩
  | 110 => ⟨S8x32768, .f32⟩
  | 111 => ⟨S_, .i32⟩
  | 112 => ⟨S_, .f32⟩
  | 113 => ⟨S16x32768, .f32⟩
  | 114 => ⟨S128, .i32⟩
  | 115 => ⟨S256, .i32⟩
  | 116 => ⟨S1x256, .i32⟩
  | 117 => ⟨S_, .i32⟩
  | 118 => ⟨S1x256, .i32⟩
  | 119 => ⟨S1x256, .i32⟩
  | 120 => ⟨S128x1, .i32⟩
  | 121 => ⟨S128x256, .i32⟩
  | 122 => ⟨S128x256, .i32⟩
  | 123 => ⟨S128x256, .i32⟩
  | 124 => ⟨S_, .i32⟩
  | 125 => ⟨S128x256, .i32⟩
  | 126 => ⟨S128x256, .i32⟩
  | 127 => ⟨S_, .i32⟩
  | _ => ⟨S16384x512, .f32⟩

abbrev hbmTy0_5 (i : Nat) : BufTy := match i % 128 with
  | 0 => ⟨S128x256, .i32⟩
  | 1 => ⟨S128x256, .i1⟩
  | 2 => ⟨S_, .i32⟩
  | 3 => ⟨S_, .i32⟩
  | 4 => ⟨S128x256, .i32⟩
  | 5 => ⟨S128x256, .i32⟩
  | 6 => ⟨S128x256, .i32⟩
  | 7 => ⟨S128x256, .i32⟩
  | 8 => ⟨S_, .i32⟩
  | 9 => ⟨S128x256, .i32⟩
  | 10 => ⟨S128x256, .i32⟩
  | 11 => ⟨S128x256, .f32⟩
  | 12 => ⟨S_, .f32⟩
  | 13 => ⟨S128x256, .f32⟩
  | 14 => ⟨S128x256, .f32⟩
  | 15 => ⟨S128x256, .f32⟩
  | 16 => ⟨S_, .f32⟩
  | 17 => ⟨S128x256, .f32⟩
  | 18 => ⟨S128x256, .f32⟩
  | 19 => ⟨S_, .f32⟩
  | 20 => ⟨S128x256, .f32⟩
  | 21 => ⟨S128x256, .f32⟩
  | 22 => ⟨S128x256, .i32⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i32⟩
  | 29 => ⟨S_, .i32⟩
  | 30 => ⟨S128x256, .i32⟩
  | 31 => ⟨S128x256, .i1⟩
  | 32 => ⟨S128x256, .i32⟩
  | 33 => ⟨S128x256, .i32⟩
  | 34 => ⟨S128x256, .i32⟩
  | 35 => ⟨S32768, .i32⟩
  | 36 => ⟨S32768x1, .i32⟩
  | 37 => ⟨S128, .i32⟩
  | 38 => ⟨S1x128, .i32⟩
  | 39 => ⟨S32768x128, .i32⟩
  | 40 => ⟨S32768x128, .i32⟩
  | 41 => ⟨S32768x128, .i1⟩
  | 42 => ⟨S32768x128, .bf16⟩
  | 43 => ⟨S_, .f32⟩
  | 44 => ⟨S16x128, .f32⟩
  | 45 => ⟨S16x128, .f32⟩
  | 46 => ⟨S16384x512, .f32⟩
  | 47 => ⟨S_, .f32⟩
  | 48 => ⟨S16384x512, .f32⟩
  | 49 => ⟨S16384x512, .f32⟩
  | 50 => ⟨S16384x512, .bf16⟩
  | 51 => ⟨S8x32, .f32⟩
  | 52 => ⟨S32x8, .f32⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x512, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S16x128, .f32⟩
  | .local _ .vmem, ⟨3, _⟩ => ⟨S16x4096, .f32⟩
  | .local _ .vmem, ⟨4, _⟩ => ⟨S16x4096, .f32⟩
  | .local _ .vmem, ⟨5, _⟩ => ⟨S4096x128, .bf16⟩
  | .local _ .vmem, ⟨6, _⟩ => ⟨S4096x128, .bf16⟩
  | .local _ .vmem, ⟨7, _⟩ => ⟨S1024x128, .bf16⟩
  | .local _ .vmem, ⟨8, _⟩ => ⟨S1024x128, .bf16⟩
  | .local _ .vmem, ⟨9, _⟩ => ⟨S4096x128, .bf16⟩
  | .local _ .vmem, ⟨10, _⟩ => ⟨S4096x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S4096x128, .bf16⟩
  | .local _ .vmem, ⟨16, _⟩ => ⟨S4096x128, .bf16⟩
  | .local _ .vmem, ⟨17, _⟩ => ⟨S1024x128, .bf16⟩
  | .local _ .vmem, ⟨18, _⟩ => ⟨S1024x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .f32⟩
  | .local _ .vmem, ⟨22, _⟩ => ⟨S4096x128, .f32⟩
  | .local _ .vmem, ⟨23, _⟩ => ⟨S2x128x256, .f32⟩
  | .local _ .vmem, ⟨24, _⟩ => ⟨S2x128x256, .f32⟩
  | .local _ .vmem, ⟨25, _⟩ => ⟨S4096x128, .bf16⟩
  | .local _ .vmem, ⟨26, _⟩ => ⟨S4096x128, .bf16⟩
  | .local _ .vmem, ⟨27, _⟩ => ⟨S2x128x256, .f32⟩
  | .local _ .vmem, ⟨28, _⟩ => ⟨S2x128x256, .f32⟩
  | .local _ .vmem, ⟨29, _⟩ => ⟨S4096x128, .f32⟩
  | .local _ .vmem, ⟨30, _⟩ => ⟨S6144x128, .f32⟩
  | .local _ .vmem, ⟨31, _⟩ => ⟨S6144x128, .f32⟩
  | .local _ .vmem, ⟨32, _⟩ => ⟨S4096x128, .f32⟩
  | .local _ .vmem, ⟨33, _⟩ => ⟨S4096x128, .f32⟩
  | .local _ .vmem, ⟨34, _⟩ => ⟨S4096x128, .bf16⟩
  | .local _ .vmem, ⟨35, _⟩ => ⟨S4096x128, .bf16⟩
  | .local _ .vmem, ⟨36, _⟩ => ⟨S16x4096, .f32⟩
  | .local _ .vmem, ⟨37, _⟩ => ⟨S16x4096, .f32⟩
  | .local _ .vmem, ⟨38, _⟩ => ⟨S16x128, .f32⟩
  | .local _ .vmem, ⟨39, _⟩ => ⟨S16x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_c_12 : Ref sig .tc := ⟨.hbm, 90, rfl⟩
abbrev main_call3_v0 : Ref sig .tc := ⟨.hbm, 91, rfl⟩
abbrev main_call3_v1 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_c_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_call6_v0 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_27 : Ref sig .tc := ⟨.hbm, 180, rfl⟩
abbrev main_call7_v0 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_29 : Ref sig .tc := ⟨.hbm, 193, rfl⟩
abbrev main_call8_v0 : Ref sig .tc := ⟨.hbm, 194, rfl⟩
abbrev main_v147 : Ref sig .tc := ⟨.hbm, 195, rfl⟩
abbrev main_cst_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_31 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_c_32 : Ref sig .tc := ⟨.hbm, 216, rfl⟩
abbrev main_v166 : Ref sig .tc := ⟨.hbm, 217, rfl⟩
abbrev main_v167 : Ref sig .tc := ⟨.hbm, 218, rfl⟩
abbrev main_c_33 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_34 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_35 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_c_36 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_c_37 : Ref sig .tc := ⟨.hbm, 244, rfl⟩
abbrev main_v189 : Ref sig .tc := ⟨.hbm, 245, rfl⟩
abbrev main_v190 : Ref sig .tc := ⟨.hbm, 246, rfl⟩
abbrev main_c_38 : Ref sig .tc := ⟨.hbm, 247, rfl⟩
abbrev main_v191 : Ref sig .tc := ⟨.hbm, 248, rfl⟩
abbrev main_v192 : Ref sig .tc := ⟨.hbm, 249, rfl⟩
abbrev main_c_39 : Ref sig .tc := ⟨.hbm, 250, rfl⟩
abbrev main_c_40 : Ref sig .tc := ⟨.hbm, 251, rfl⟩
abbrev main_call9_v0 : Ref sig .tc := ⟨.hbm, 252, rfl⟩
abbrev main_call9_v1 : Ref sig .tc := ⟨.hbm, 253, rfl⟩
abbrev main_v193 : Ref sig .tc := ⟨.hbm, 254, rfl⟩
abbrev main_v194 : Ref sig .tc := ⟨.hbm, 255, rfl⟩
abbrev main_c_41 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_42 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_43 : Ref sig .tc := ⟨.hbm, 264, rfl⟩
abbrev main_v201 : Ref sig .tc := ⟨.hbm, 265, rfl⟩
abbrev main_v202 : Ref sig .tc := ⟨.hbm, 266, rfl⟩
abbrev main_cst_44 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_45 : Ref sig .tc := ⟨.hbm, 271, rfl⟩
abbrev main_v206 : Ref sig .tc := ⟨.hbm, 272, rfl⟩
abbrev main_v207 : Ref sig .tc := ⟨.hbm, 273, rfl⟩
abbrev main_c_46 : Ref sig .tc := ⟨.hbm, 274, rfl⟩
abbrev main_v208 : Ref sig .tc := ⟨.hbm, 275, rfl⟩
abbrev main_v209 : Ref sig .tc := ⟨.hbm, 276, rfl⟩
abbrev main_c_47 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_48 : Ref sig .tc := ⟨.hbm, 283, rfl⟩
abbrev main_v215 : Ref sig .tc := ⟨.hbm, 284, rfl⟩
abbrev main_v216 : Ref sig .tc := ⟨.hbm, 285, rfl⟩
abbrev main_c_49 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_cst_50 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_cst_51 : Ref sig .tc := ⟨.hbm, 302, rfl⟩
abbrev main_call11_v0 : Ref sig .tc := ⟨.hbm, 303, rfl⟩
abbrev main_call11_v1 : Ref sig .tc := ⟨.hbm, 304, rfl⟩
abbrev main_call11_v2 : Ref sig .tc := ⟨.hbm, 305, rfl⟩
abbrev main_v231 : Ref sig .tc := ⟨.hbm, 306, rfl⟩
abbrev main_cst_52 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_cst_53 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_c_54 : Ref sig .tc := ⟨.hbm, 335, rfl⟩
abbrev main_call12_v0 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_c_55 : Ref sig .tc := ⟨.hbm, 341, rfl⟩
abbrev main_call13_v0 : Ref sig .tc := ⟨.hbm, 342, rfl⟩
abbrev main_v262 : Ref sig .tc := ⟨.hbm, 343, rfl⟩
abbrev main_cst_56 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_c_57 : Ref sig .tc := ⟨.hbm, 354, rfl⟩
abbrev main_call14_v0 : Ref sig .tc := ⟨.hbm, 355, rfl⟩
abbrev main_v272 : Ref sig .tc := ⟨.hbm, 356, rfl⟩
abbrev main_cst_58 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_c_59 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_c_60 : Ref sig .tc := ⟨.hbm, 377, rfl⟩
abbrev main_v291 : Ref sig .tc := ⟨.hbm, 378, rfl⟩
abbrev main_v292 : Ref sig .tc := ⟨.hbm, 379, rfl⟩
abbrev main_c_61 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_c_62 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_c_63 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_c_64 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_c_65 : Ref sig .tc := ⟨.hbm, 405, rfl⟩
abbrev main_v314 : Ref sig .tc := ⟨.hbm, 406, rfl⟩
abbrev main_v315 : Ref sig .tc := ⟨.hbm, 407, rfl⟩
abbrev main_c_66 : Ref sig .tc := ⟨.hbm, 408, rfl⟩
abbrev main_v316 : Ref sig .tc := ⟨.hbm, 409, rfl⟩
abbrev main_v317 : Ref sig .tc := ⟨.hbm, 410, rfl⟩
abbrev main_c_67 : Ref sig .tc := ⟨.hbm, 411, rfl⟩
abbrev main_c_68 : Ref sig .tc := ⟨.hbm, 412, rfl⟩
abbrev main_call15_v0 : Ref sig .tc := ⟨.hbm, 413, rfl⟩
abbrev main_call15_v1 : Ref sig .tc := ⟨.hbm, 414, rfl⟩
abbrev main_v318 : Ref sig .tc := ⟨.hbm, 415, rfl⟩
abbrev main_v319 : Ref sig .tc := ⟨.hbm, 416, rfl⟩
abbrev main_c_69 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_cst_70 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_cst_71 : Ref sig .tc := ⟨.hbm, 425, rfl⟩
abbrev main_v326 : Ref sig .tc := ⟨.hbm, 426, rfl⟩
abbrev main_v327 : Ref sig .tc := ⟨.hbm, 427, rfl⟩
abbrev main_cst_72 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_c_73 : Ref sig .tc := ⟨.hbm, 432, rfl⟩
abbrev main_v331 : Ref sig .tc := ⟨.hbm, 433, rfl⟩
abbrev main_v332 : Ref sig .tc := ⟨.hbm, 434, rfl⟩
abbrev main_c_74 : Ref sig .tc := ⟨.hbm, 435, rfl⟩
abbrev main_v333 : Ref sig .tc := ⟨.hbm, 436, rfl⟩
abbrev main_v334 : Ref sig .tc := ⟨.hbm, 437, rfl⟩
abbrev main_c_75 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_c_76 : Ref sig .tc := ⟨.hbm, 444, rfl⟩
abbrev main_v340 : Ref sig .tc := ⟨.hbm, 445, rfl⟩
abbrev main_v341 : Ref sig .tc := ⟨.hbm, 446, rfl⟩
abbrev main_c_77 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_cst_78 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_cst_79 : Ref sig .tc := ⟨.hbm, 463, rfl⟩
abbrev main_call17_v0 : Ref sig .tc := ⟨.hbm, 464, rfl⟩
abbrev main_call17_v1 : Ref sig .tc := ⟨.hbm, 465, rfl⟩
abbrev main_call17_v2 : Ref sig .tc := ⟨.hbm, 466, rfl⟩
abbrev main_v356 : Ref sig .tc := ⟨.hbm, 467, rfl⟩
abbrev main_cst_80 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_cst_81 : Ref sig .tc := ⟨.hbm, 474, rfl⟩
abbrev main_v362 : Ref sig .tc := ⟨.hbm, 475, rfl⟩
abbrev main_v363 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_cst_82 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_cst_83 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_c_84 : Ref sig .tc := ⟨.hbm, 537, rfl⟩
abbrev main_call18_v0 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_c_85 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_v431 : Ref sig .tc := ⟨.hbm, 549, rfl⟩
abbrev main_c_86 : Ref sig .tc := ⟨.hbm, 550, rfl⟩
abbrev main_v432 : Ref sig .tc := ⟨.hbm, 551, rfl⟩
abbrev main_v433 : Ref sig .tc := ⟨.hbm, 552, rfl⟩
abbrev main_c_87 : Ref sig .tc := ⟨.hbm, 553, rfl⟩
abbrev main_v434 : Ref sig .tc := ⟨.hbm, 554, rfl⟩
abbrev main_v435 : Ref sig .tc := ⟨.hbm, 555, rfl⟩
abbrev main_c_88 : Ref sig .tc := ⟨.hbm, 556, rfl⟩
abbrev main_c_89 : Ref sig .tc := ⟨.hbm, 557, rfl⟩
abbrev main_call19_v0 : Ref sig .tc := ⟨.hbm, 558, rfl⟩
abbrev main_call19_v1 : Ref sig .tc := ⟨.hbm, 559, rfl⟩
abbrev main_v436 : Ref sig .tc := ⟨.hbm, 560, rfl⟩
abbrev main_v437 : Ref sig .tc := ⟨.hbm, 561, rfl⟩
abbrev main_c_90 : Ref sig .tc := ⟨.hbm, 562, rfl⟩
abbrev main_v438 : Ref sig .tc := ⟨.hbm, 563, rfl⟩
abbrev main_v439 : Ref sig .tc := ⟨.hbm, 564, rfl⟩
abbrev main_v440 : Ref sig .tc := ⟨.hbm, 565, rfl⟩
abbrev main_cst_91 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_cst_92 : Ref sig .tc := ⟨.hbm, 570, rfl⟩
abbrev main_v444 : Ref sig .tc := ⟨.hbm, 571, rfl⟩
abbrev main_v445 : Ref sig .tc := ⟨.hbm, 572, rfl⟩
abbrev main_cst_93 : Ref sig .tc := ⟨.hbm, 573, rfl⟩
abbrev main_v446 : Ref sig .tc := ⟨.hbm, 574, rfl⟩
abbrev main_v447 : Ref sig .tc := ⟨.hbm, 575, rfl⟩
abbrev main_v448 : Ref sig .tc := ⟨.hbm, 576, rfl⟩
abbrev main_c_94 : Ref sig .tc := ⟨.hbm, 577, rfl⟩
abbrev main_v449 : Ref sig .tc := ⟨.hbm, 578, rfl⟩
abbrev main_v450 : Ref sig .tc := ⟨.hbm, 579, rfl⟩
abbrev main_c_95 : Ref sig .tc := ⟨.hbm, 580, rfl⟩
abbrev main_v451 : Ref sig .tc := ⟨.hbm, 581, rfl⟩
abbrev main_v452 : Ref sig .tc := ⟨.hbm, 582, rfl⟩
abbrev main_c_96 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_v456 : Ref sig .tc := ⟨.hbm, 587, rfl⟩
abbrev main_v457 : Ref sig .tc := ⟨.hbm, 588, rfl⟩
abbrev main_v458 : Ref sig .tc := ⟨.hbm, 589, rfl⟩
abbrev main_v459 : Ref sig .tc := ⟨.hbm, 590, rfl⟩
abbrev main_v460 : Ref sig .tc := ⟨.hbm, 591, rfl⟩
abbrev main_v461 : Ref sig .tc := ⟨.hbm, 592, rfl⟩
abbrev main_v462 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_v468 : Ref sig .tc := ⟨.hbm, 599, rfl⟩
abbrev main_v469 : Ref sig .tc := ⟨.hbm, 600, rfl⟩
abbrev main_v470 : Ref sig .tc := ⟨.hbm, 601, rfl⟩
abbrev main_v471 : Ref sig .tc := ⟨.hbm, 602, rfl⟩
abbrev main_c_97 : Ref sig .tc := ⟨.hbm, 603, rfl⟩
abbrev main_v472 : Ref sig .tc := ⟨.hbm, 604, rfl⟩
abbrev main_v473 : Ref sig .tc := ⟨.hbm, 605, rfl⟩
abbrev main_v474 : Ref sig .tc := ⟨.hbm, 606, rfl⟩
abbrev main_v475 : Ref sig .tc := ⟨.hbm, 607, rfl⟩
abbrev main_v476 : Ref sig .tc := ⟨.hbm, 608, rfl⟩
abbrev main_v477 : Ref sig .tc := ⟨.hbm, 609, rfl⟩
abbrev main_v478 : Ref sig .tc := ⟨.hbm, 610, rfl⟩
abbrev main_c_98 : Ref sig .tc := ⟨.hbm, 611, rfl⟩
abbrev main_v479 : Ref sig .tc := ⟨.hbm, 612, rfl⟩
abbrev main_v480 : Ref sig .tc := ⟨.hbm, 613, rfl⟩
abbrev main_cst_99 : Ref sig .tc := ⟨.hbm, 614, rfl⟩
abbrev main_call21_v0 : Ref sig .tc := ⟨.hbm, 615, rfl⟩
abbrev main_call21_v1 : Ref sig .tc := ⟨.hbm, 616, rfl⟩
abbrev main_call21_v2 : Ref sig .tc := ⟨.hbm, 617, rfl⟩
abbrev main_v481 : Ref sig .tc := ⟨.hbm, 618, rfl⟩
abbrev main_v482 : Ref sig .tc := ⟨.hbm, 619, rfl⟩
abbrev main_v483_0 : Ref sig .tc := ⟨.hbm, 620, rfl⟩
abbrev main_v483_1 : Ref sig .tc := ⟨.hbm, 621, rfl⟩
abbrev main_v484 : Ref sig .tc := ⟨.hbm, 622, rfl⟩
abbrev main_c_100 : Ref sig .tc := ⟨.hbm, 623, rfl⟩
abbrev main_call22_v0 : Ref sig .tc := ⟨.hbm, 624, rfl⟩
abbrev main_v485 : Ref sig .tc := ⟨.hbm, 625, rfl⟩
abbrev main_v486 : Ref sig .tc := ⟨.hbm, 626, rfl⟩
abbrev main_v487 : Ref sig .tc := ⟨.hbm, 627, rfl⟩
abbrev main_v488 : Ref sig .tc := ⟨.hbm, 628, rfl⟩
abbrev main_c_101 : Ref sig .tc := ⟨.hbm, 629, rfl⟩
abbrev main_v489 : Ref sig .tc := ⟨.hbm, 630, rfl⟩
abbrev main_v490 : Ref sig .tc := ⟨.hbm, 631, rfl⟩
abbrev main_v491 : Ref sig .tc := ⟨.hbm, 632, rfl⟩
abbrev main_v492 : Ref sig .tc := ⟨.hbm, 633, rfl⟩
abbrev main_v493 : Ref sig .tc := ⟨.hbm, 634, rfl⟩
abbrev main_v494 : Ref sig .tc := ⟨.hbm, 635, rfl⟩
abbrev main_c_102 : Ref sig .tc := ⟨.hbm, 636, rfl⟩
abbrev main_v495 : Ref sig .tc := ⟨.hbm, 637, rfl⟩
abbrev main_v496 : Ref sig .tc := ⟨.hbm, 638, rfl⟩
abbrev main_c_103 : Ref sig .tc := ⟨.hbm, 639, rfl⟩
abbrev main_v497 : Ref sig .tc := ⟨.hbm, 640, rfl⟩
abbrev main_v498 : Ref sig .tc := ⟨.hbm, 641, rfl⟩
abbrev main_c_104 : Ref sig .tc := ⟨.hbm, 642, rfl⟩
abbrev main_c_105 : Ref sig .tc := ⟨.hbm, 643, rfl⟩
abbrev main_call23_v0 : Ref sig .tc := ⟨.hbm, 644, rfl⟩
abbrev main_call23_v1 : Ref sig .tc := ⟨.hbm, 645, rfl⟩
abbrev main_v499 : Ref sig .tc := ⟨.hbm, 646, rfl⟩
abbrev main_v500 : Ref sig .tc := ⟨.hbm, 647, rfl⟩
abbrev main_c_106 : Ref sig .tc := ⟨.hbm, 648, rfl⟩
abbrev main_v501 : Ref sig .tc := ⟨.hbm, 649, rfl⟩
abbrev main_v502 : Ref sig .tc := ⟨.hbm, 650, rfl⟩
abbrev main_v503 : Ref sig .tc := ⟨.hbm, 651, rfl⟩
abbrev main_cst_107 : Ref sig .tc := ⟨.hbm, 652, rfl⟩
abbrev main_v504 : Ref sig .tc := ⟨.hbm, 653, rfl⟩
abbrev main_v505 : Ref sig .tc := ⟨.hbm, 654, rfl⟩
abbrev main_v506 : Ref sig .tc := ⟨.hbm, 655, rfl⟩
abbrev main_cst_108 : Ref sig .tc := ⟨.hbm, 656, rfl⟩
abbrev main_v507 : Ref sig .tc := ⟨.hbm, 657, rfl⟩
abbrev main_v508 : Ref sig .tc := ⟨.hbm, 658, rfl⟩
abbrev main_cst_109 : Ref sig .tc := ⟨.hbm, 659, rfl⟩
abbrev main_v509 : Ref sig .tc := ⟨.hbm, 660, rfl⟩
abbrev main_v510 : Ref sig .tc := ⟨.hbm, 661, rfl⟩
abbrev main_v511 : Ref sig .tc := ⟨.hbm, 662, rfl⟩
abbrev main_c_110 : Ref sig .tc := ⟨.hbm, 663, rfl⟩
abbrev main_v512 : Ref sig .tc := ⟨.hbm, 664, rfl⟩
abbrev main_v513 : Ref sig .tc := ⟨.hbm, 665, rfl⟩
abbrev main_c_111 : Ref sig .tc := ⟨.hbm, 666, rfl⟩
abbrev main_v514 : Ref sig .tc := ⟨.hbm, 667, rfl⟩
abbrev main_v515 : Ref sig .tc := ⟨.hbm, 668, rfl⟩
abbrev main_c_112 : Ref sig .tc := ⟨.hbm, 669, rfl⟩
abbrev main_v516 : Ref sig .tc := ⟨.hbm, 670, rfl⟩
abbrev main_v517 : Ref sig .tc := ⟨.hbm, 671, rfl⟩
abbrev main_v518 : Ref sig .tc := ⟨.hbm, 672, rfl⟩
abbrev main_v519 : Ref sig .tc := ⟨.hbm, 673, rfl⟩
abbrev main_v520 : Ref sig .tc := ⟨.hbm, 674, rfl⟩
abbrev main_v521 : Ref sig .tc := ⟨.hbm, 675, rfl⟩
abbrev main_v522 : Ref sig .tc := ⟨.hbm, 676, rfl⟩
abbrev main_v523 : Ref sig .tc := ⟨.hbm, 677, rfl⟩
abbrev main_v524 : Ref sig .tc := ⟨.hbm, 678, rfl⟩
abbrev main_v525 : Ref sig .tc := ⟨.hbm, 679, rfl⟩
abbrev main_v526 : Ref sig .tc := ⟨.hbm, 680, rfl⟩
abbrev main_v527 : Ref sig .tc := ⟨.hbm, 681, rfl⟩
abbrev main_v528 : Ref sig .tc := ⟨.hbm, 682, rfl⟩
abbrev main_cst_113 : Ref sig .tc := ⟨.hbm, 683, rfl⟩
abbrev main_v529 : Ref sig .tc := ⟨.hbm, 684, rfl⟩
abbrev main_v530 : Ref sig .tc := ⟨.hbm, 685, rfl⟩
abbrev main_v531 : Ref sig .tc := ⟨.hbm, 686, rfl⟩
abbrev main_cst_114 : Ref sig .tc := ⟨.hbm, 687, rfl⟩
abbrev main_v532 : Ref sig .tc := ⟨.hbm, 688, rfl⟩
abbrev main_v533 : Ref sig .tc := ⟨.hbm, 689, rfl⟩
abbrev main_v534 : Ref sig .tc := ⟨.hbm, 690, rfl⟩
abbrev main_v535 : Ref sig .tc := ⟨.hbm, 691, rfl⟩
abbrev main_v536 : Ref sig .tc := ⟨.hbm, 692, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc1_scratch3 : Ref sig .tc := ⟨.vmem, 32, rfl⟩
abbrev cc1_scratch4 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  ![v2.toNat, arg0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  ![v2.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2x128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S4096x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== Kernel13.lean ====
abbrev S16384x512 : Shape := ⟨2, ![16384, 512]⟩
abbrev S32x8 : Shape := ⟨2, ![32, 8]⟩
abbrev S1x16384x8x64 : Shape := ⟨4, ![1, 16384, 8, 64]⟩
abbrev S1x16384x1x8x64 : Shape := ⟨5, ![1, 16384, 1, 8, 64]⟩
abbrev S1x1x16384x8x64 : Shape := ⟨5, ![1, 1, 16384, 8, 64]⟩
abbrev S_ : Shape := ⟨0, ![]⟩
abbrev S1x1x256x64x8x64 : Shape := ⟨6, ![1, 1, 256, 64, 8, 64]⟩
abbrev S1x1x64x8x64 : Shape := ⟨5, ![1, 1, 64, 8, 64]⟩
abbrev S1x1x16512x8x64 : Shape := ⟨5, ![1, 1, 16512, 8, 64]⟩
abbrev S1x1x258x64x8x64 : Shape := ⟨6, ![1, 1, 258, 64, 8, 64]⟩
abbrev S1x1x256x192x8x64 : Shape := ⟨6, ![1, 1, 256, 192, 8, 64]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x8 : Shape := ⟨3, ![64, 192, 8]⟩
abbrev S64x8x192 : Shape := ⟨3, ![64, 8, 192]⟩
abbrev S1x1x1x64x8x192 : Shape := ⟨6, ![1, 1, 1, 64, 8, 192]⟩
abbrev S1x1x256x8x192x64 : Shape := ⟨6, ![1, 1, 256, 8, 192, 64]⟩
abbrev S1x1x256x64x8x192 : Shape := ⟨6, ![1, 1, 256, 64, 8, 192]⟩
abbrev S1x1x256x64x1x192 : Shape := ⟨6, ![1, 1, 256, 64, 1, 192]⟩
abbrev S1x1x256x64x8 : Shape := ⟨5, ![1, 1, 256, 64, 8]⟩
abbrev S1x1x256x64x8x1 : Shape := ⟨6, ![1, 1, 256, 64, 8, 1]⟩
abbrev S1x1x256x8x64x64 : Shape := ⟨6, ![1, 1, 256, 8, 64, 64]⟩
abbrev S1x1x16384x8 : Shape := ⟨4, ![1, 1, 16384, 8]⟩
abbrev S1x16384x1x8 : Shape := ⟨4, ![1, 16384, 1, 8]⟩
abbrev S1x16384x8 : Shape := ⟨3, ![1, 16384, 8]⟩
abbrev S1x4096x4x8x64 : Shape := ⟨5, ![1, 4096, 4, 8, 64]⟩
abbrev S1x4x4096x8x64 : Shape := ⟨5, ![1, 4, 4096, 8, 64]⟩
abbrev S1x4x64x64x8x64 : Shape := ⟨6, ![1, 4, 64, 64, 8, 64]⟩
abbrev S1x4x64x8x64 : Shape := ⟨5, ![1, 4, 64, 8, 64]⟩
abbrev S1x4x4224x8x64 : Shape := ⟨5, ![1, 4, 4224, 8, 64]⟩
abbrev S1x4x66x64x8x64 : Shape := ⟨6, ![1, 4, 66, 64, 8, 64]⟩
abbrev S1x4x64x192x8x64 : Shape := ⟨6, ![1, 4, 64, 192, 8, 64]⟩
abbrev S64x1x192 : Shape := ⟨3, ![64, 1, 192]⟩
abbrev S64x64x192 : Shape := ⟨3, ![64, 64, 192]⟩
abbrev S1x4x64x8x192x64 : Shape := ⟨6, ![1, 4, 64, 8, 192, 64]⟩
abbrev S1x4x64x64x8x192 : Shape := ⟨6, ![1, 4, 64, 64, 8, 192]⟩
abbrev S1x1x64x64x1x192 : Shape := ⟨6, ![1, 1, 64, 64, 1, 192]⟩
abbrev S1x4x64x64x8 : Shape := ⟨5, ![1, 4, 64, 64, 8]⟩
abbrev S1x4x64x64x8x1 : Shape := ⟨6, ![1, 4, 64, 64, 8, 1]⟩
abbrev S1x4x64x8x64x64 : Shape := ⟨6, ![1, 4, 64, 8, 64, 64]⟩
abbrev S1x4x4096x8 : Shape := ⟨4, ![1, 4, 4096, 8]⟩
abbrev S1x4096x4x8 : Shape := ⟨4, ![1, 4096, 4, 8]⟩
abbrev S1x1024x16x8x64 : Shape := ⟨5, ![1, 1024, 16, 8, 64]⟩
abbrev S1x16x1024x8x64 : Shape := ⟨5, ![1, 16, 1024, 8, 64]⟩
abbrev S1x16x16x64x8x64 : Shape := ⟨6, ![1, 16, 16, 64, 8, 64]⟩
abbrev S1x16x64x8x64 : Shape := ⟨5, ![1, 16, 64, 8, 64]⟩
abbrev S1x16x1152x8x64 : Shape := ⟨5, ![1, 16, 1152, 8, 64]⟩
abbrev S1x16x18x64x8x64 : Shape := ⟨6, ![1, 16, 18, 64, 8, 64]⟩
abbrev S1x16x16x192x8x64 : Shape := ⟨6, ![1, 16, 16, 192, 8, 64]⟩
abbrev S16 : Shape := ⟨1, ![16]⟩
abbrev S16x1 : Shape := ⟨2, ![16, 1]⟩
abbrev S16x192 : Shape := ⟨2, ![16, 192]⟩
abbrev S16x1x192 : Shape := ⟨3, ![16, 1, 192]⟩
abbrev S16x64x192 : Shape := ⟨3, ![16, 64, 192]⟩
abbrev S1x16x16x8x192x64 : Shape := ⟨6, ![1, 16, 16, 8, 192, 64]⟩
abbrev S1x16x16x64x8x192 : Shape := ⟨6, ![1, 16, 16, 64, 8, 192]⟩
abbrev S1x1x16x64x1x192 : Shape := ⟨6, ![1, 1, 16, 64, 1, 192]⟩
abbrev S1x16x16x64x8 : Shape := ⟨5, ![1, 16, 16, 64, 8]⟩
abbrev S1x16x16x64x8x1 : Shape := ⟨6, ![1, 16, 16, 64, 8, 1]⟩
abbrev S1x16x16x8x64x64 : Shape := ⟨6, ![1, 16, 16, 8, 64, 64]⟩
abbrev S1x16x1024x8 : Shape := ⟨4, ![1, 16, 1024, 8]⟩
abbrev S1x1024x16x8 : Shape := ⟨4, ![1, 1024, 16, 8]⟩
abbrev S1x16384x8x1 : Shape := ⟨4, ![1, 16384, 8, 1]⟩
abbrev S16384x8x1 : Shape := ⟨3, ![16384, 8, 1]⟩
abbrev S16384x8x64 : Shape := ⟨3, ![16384, 8, 64]⟩
abbrev S16384x8 : Shape := ⟨2, ![16384, 8]⟩
abbrev S16384x8x32 : Shape := ⟨3, ![16384, 8, 32]⟩
abbrev S8x32 : Shape := ⟨2, ![8, 32]⟩
abbrev S16x128 : Shape := ⟨2, ![16, 128]⟩
abbrev S128 : Shape := ⟨1, ![128]⟩
abbrev S1x256 : Shape := ⟨2, ![1, 256]⟩
abbrev S128x1 : Shape := ⟨2, ![128, 1]⟩
abbrev S128x256 : Shape := ⟨2, ![128, 256]⟩
abbrev S32768 : Shape := ⟨1, ![32768]⟩
abbrev S32768x1 : Shape := ⟨2, ![32768, 1]⟩
abbrev S1x128 : Shape := ⟨2, ![1, 128]⟩
abbrev S32768x128 : Shape := ⟨2, ![32768, 128]⟩
abbrev S16x32768 : Shape := ⟨2, ![16, 32768]⟩
abbrev S4096x128 : Shape := ⟨2, ![4096, 128]⟩
abbrev S16x4096 : Shape := ⟨2, ![16, 4096]⟩
abbrev S8x32768 : Shape := ⟨2, ![8, 32768]⟩
abbrev S8x128x256 : Shape := ⟨3, ![8, 128, 256]⟩
abbrev S64x128 : Shape := ⟨2, ![64, 128]⟩
abbrev S2x128x256 : Shape := ⟨3, ![2, 128, 256]⟩
abbrev S4224x128 : Shape := ⟨2, ![4224, 128]⟩
abbrev S256x128 : Shape := ⟨2, ![256, 128]⟩
abbrev S1x128x256 : Shape := ⟨3, ![1, 128, 256]⟩
abbrev S128x512 : Shape := ⟨2, ![128, 512]⟩
abbrev S128x128 : Shape := ⟨2, ![128, 128]⟩
abbrev S512x128 : Shape := ⟨2, ![512, 128]⟩
abbrev S1x512 : Shape := ⟨2, ![1, 512]⟩

abbrev nBuf : Space → Nat
  | .hbm => 623
  | .vmem => 40
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x512, .bf16⟩
  | 6 => ⟨S16384x512, .bf16⟩
  | 7 => ⟨S16384x512, .bf16⟩
  | 8 => ⟨S1x16384x8x64, .bf16⟩
  | 9 => ⟨S1x16384x8x64, .bf16⟩
  | 10 => ⟨S1x16384x8x64, .bf16⟩
  | 11 => ⟨S1x16384x1x8x64, .bf16⟩
  | 12 => ⟨S1x1x16384x8x64, .bf16⟩
  | 13 => ⟨S_, .i32⟩
  | 14 => ⟨S_, .bf16⟩
  | 15 => ⟨S1x1x16384x8x64, .bf16⟩
  | 16 => ⟨S1x1x256x64x8x64, .bf16⟩
  | 17 => ⟨S1x16384x1x8x64, .bf16⟩
  | 18 => ⟨S1x1x16384x8x64, .bf16⟩
  | 19 => ⟨S_, .i32⟩
  | 20 => ⟨S_, .bf16⟩
  | 21 => ⟨S1x1x16384x8x64, .bf16⟩
  | 22 => ⟨S_, .bf16⟩
  | 23 => ⟨S1x1x64x8x64, .bf16⟩
  | 24 => ⟨S1x1x16512x8x64, .bf16⟩
  | 25 => ⟨S1x1x258x64x8x64, .bf16⟩
  | 26 => ⟨S1x1x256x64x8x64, .bf16⟩
  | 27 => ⟨S1x1x256x64x8x64, .bf16⟩
  | 28 => ⟨S1x1x256x64x8x64, .bf16⟩
  | 29 => ⟨S1x1x256x192x8x64, .bf16⟩
  | 30 => ⟨S1x16384x1x8x64, .bf16⟩
  | 31 => ⟨S1x1x16384x8x64, .bf16⟩
  | 32 => ⟨S_, .i32⟩
  | 33 => ⟨S_, .bf16⟩
  | 34 => ⟨S1x1x16384x8x64, .bf16⟩
  | 35 => ⟨S_, .bf16⟩
  | 36 => ⟨S1x1x64x8x64, .bf16⟩
  | 37 => ⟨S1x1x16512x8x64, .bf16⟩
  | 38 => ⟨S1x1x258x64x8x64, .bf16⟩
  | 39 => ⟨S1x1x256x64x8x64, .bf16⟩
  | 40 => ⟨S1x1x256x64x8x64, .bf16⟩
  | 41 => ⟨S1x1x256x64x8x64, .bf16⟩
  | 42 => ⟨S1x1x256x192x8x64, .bf16⟩
  | 43 => ⟨S64, .i32⟩
  | 44 => ⟨S192, .i32⟩
  | 45 => ⟨S1x192, .i32⟩
  | 46 => ⟨S_, .i32⟩
  | 47 => ⟨S1x192, .i32⟩
  | 48 => ⟨S1x192, .i32⟩
  | 49 => ⟨S64x1, .i32⟩
  | 50 => ⟨S64x192, .i32⟩
  | 51 => ⟨S64x192, .i32⟩
  | 52 => ⟨S64x192, .i32⟩
  | 53 => ⟨S256, .i32⟩
  | 54 => ⟨S256x1, .i32⟩
  | 55 => ⟨S_, .i32⟩
  | 56 => ⟨S256x1, .i32⟩
  | 57 => ⟨S256x1, .i32⟩
  | 58 => ⟨S_, .i32⟩
  | 59 => ⟨S256x1, .i32⟩
  | 60 => ⟨S256x1, .i32⟩
  | 61 => ⟨S1x192, .i32⟩
  | 62 => ⟨S256x192, .i32⟩
  | 63 => ⟨S256x192, .i32⟩
  | 64 => ⟨S256x192, .i32⟩
  | 65 => ⟨S64x192, .i32⟩
  | 66 => ⟨S_, .i32⟩
  | 67 => ⟨S64x192, .i32⟩
  | 68 => ⟨S64x192, .i1⟩
  | 69 => ⟨S1x64x192, .i1⟩
  | 70 => ⟨S_, .i32⟩
  | 71 => ⟨S256x192, .i32⟩
  | 72 => ⟨S256x192, .i1⟩
  | 73 => ⟨S256x1x192, .i1⟩
  | 74 => ⟨S256x64x192, .i1⟩
  | 75 => ⟨S256x64x192, .i1⟩
  | 76 => ⟨S256x64x192, .i1⟩
  | 77 => ⟨S_, .i32⟩
  | 78 => ⟨S256x192, .i32⟩
  | 79 => ⟨S256x192, .i1⟩
  | 80 => ⟨S256x1x192, .i1⟩
  | 81 => ⟨S256x64x192, .i1⟩
  | 82 => ⟨S256x64x192, .i1⟩
  | 83 => ⟨S_, .i32⟩
  | 84 => ⟨S64x192, .i32⟩
  | 85 => ⟨S64x192, .i32⟩
  | 86 => ⟨S_, .i32⟩
  | 87 => ⟨S64x192, .i32⟩
  | 88 => ⟨S64x192, .i1⟩
  | 89 => ⟨S_, .i32⟩
  | 90 => ⟨S_, .i32⟩
  | 91 => ⟨S64x192, .i32⟩
  | 92 => ⟨S64x192, .i32⟩
  | 93 => ⟨S64x192, .i32⟩
  | 94 => ⟨S64x192, .i32⟩
  | 95 => ⟨S_, .i32⟩
  | 96 => ⟨S64x192, .i32⟩
  | 97 => ⟨S64x192, .i32⟩
  | 98 => ⟨S64x192, .f32⟩
  | 99 => ⟨S_, .f32⟩
  | 100 => ⟨S64x192, .f32⟩
  | 101 => ⟨S64x192, .f32⟩
  | 102 => ⟨S64x192, .f32⟩
  | 103 => ⟨S_, .f32⟩
  | 104 => ⟨S64x192, .f32⟩
  | 105 => ⟨S64x192, .f32⟩
  | 106 => ⟨S_, .f32⟩
  | 107 => ⟨S64x192, .f32⟩
  | 108 => ⟨S64x192, .f32⟩
  | 109 => ⟨S64x192, .i32⟩
  | 110 => ⟨S_, .i32⟩
  | 111 => ⟨S64x192, .i32⟩
  | 112 => ⟨S64x192, .i32⟩
  | 113 => ⟨S_, .i32⟩
  | 114 => ⟨S64x192, .i32⟩
  | 115 => ⟨S64x192, .i32⟩
  | 116 => ⟨S_, .i32⟩
  | 117 => ⟨S64x192, .i32⟩
  | 118 => ⟨S64x192, .i1⟩
  | 119 => ⟨S64x192, .i32⟩
  | 120 => ⟨S64x192, .i32⟩
  | 121 => ⟨S64x192, .i32⟩
  | 122 => ⟨S_, .i32⟩
  | 123 => ⟨S64x192, .i32⟩
  | 124 => ⟨S64x192, .i1⟩
  | 125 => ⟨S_, .i32⟩
  | 126 => ⟨S64x192, .i32⟩
  | 127 => ⟨S64x192, .i32⟩
  | _ => ⟨S16384x512, .f32⟩

abbrev hbmTy0_1 (i : Nat) : BufTy := match i % 128 with
  | 0 => ⟨S64x192, .i32⟩
  | 1 => ⟨S64x192x1, .i32⟩
  | 2 => ⟨S64x192x8, .f32⟩
  | 3 => ⟨S64x8x192, .f32⟩
  | 4 => ⟨S1x1x1x64x8x192, .f32⟩
  | 5 => ⟨S1x1x256x8x192x64, .f32⟩
  | 6 => ⟨S1x1x256x64x8x192, .f32⟩
  | 7 => ⟨S_, .f32⟩
  | 8 => ⟨S1x1x256x64x8x192, .f32⟩
  | 9 => ⟨S1x1x256x64x8x192, .f32⟩
  | 10 => ⟨S1x1x256x64x1x192, .i1⟩
  | 11 => ⟨S1x1x256x64x8x192, .f32⟩
  | 12 => ⟨S1x1x256x64x8x192, .f32⟩
  | 13 => ⟨S_, .f32⟩
  | 14 => ⟨S_, .f32⟩
  | 15 => ⟨S1x1x256x64x8x192, .i1⟩
  | 16 => ⟨S1x1x256x64x8x192, .f32⟩
  | 17 => ⟨S1x1x256x64x8x192, .f32⟩
  | 18 => ⟨S_, .f32⟩
  | 19 => ⟨S1x1x256x64x8, .f32⟩
  | 20 => ⟨S1x1x256x64x8x1, .f32⟩
  | 21 => ⟨S1x1x256x64x8x192, .f32⟩
  | 22 => ⟨S1x1x256x64x8x192, .f32⟩
  | 23 => ⟨S1x1x256x64x8x192, .f32⟩
  | 24 => ⟨S_, .f32⟩
  | 25 => ⟨S1x1x256x64x8, .f32⟩
  | 26 => ⟨S1x1x256x64x8x192, .bf16⟩
  | 27 => ⟨S1x1x256x8x64x64, .f32⟩
  | 28 => ⟨S1x1x256x64x8x64, .f32⟩
  | 29 => ⟨S1x1x256x64x8x1, .f32⟩
  | 30 => ⟨S1x1x256x64x8x64, .f32⟩
  | 31 => ⟨S1x1x256x64x8x64, .f32⟩
  | 32 => ⟨S1x1x16384x8x64, .f32⟩
  | 33 => ⟨S1x16384x1x8x64, .f32⟩
  | 34 => ⟨S1x16384x8x64, .f32⟩
  | 35 => ⟨S1x1x16384x8, .f32⟩
  | 36 => ⟨S1x16384x1x8, .f32⟩
  | 37 => ⟨S1x16384x8, .f32⟩
  | 38 => ⟨S1x1x16384x8, .f32⟩
  | 39 => ⟨S1x16384x1x8, .f32⟩
  | 40 => ⟨S1x16384x8, .f32⟩
  | 41 => ⟨S1x16384x8x64, .bf16⟩
  | 42 => ⟨S1x16384x8x64, .bf16⟩
  | 43 => ⟨S1x16384x8x64, .bf16⟩
  | 44 => ⟨S1x4096x4x8x64, .bf16⟩
  | 45 => ⟨S1x4x4096x8x64, .bf16⟩
  | 46 => ⟨S_, .i32⟩
  | 47 => ⟨S_, .bf16⟩
  | 48 => ⟨S1x4x4096x8x64, .bf16⟩
  | 49 => ⟨S1x4x64x64x8x64, .bf16⟩
  | 50 => ⟨S1x4096x4x8x64, .bf16⟩
  | 51 => ⟨S1x4x4096x8x64, .bf16⟩
  | 52 => ⟨S_, .i32⟩
  | 53 => ⟨S_, .bf16⟩
  | 54 => ⟨S1x4x4096x8x64, .bf16⟩
  | 55 => ⟨S_, .bf16⟩
  | 56 => ⟨S1x4x64x8x64, .bf16⟩
  | 57 => ⟨S1x4x4224x8x64, .bf16⟩
  | 58 => ⟨S1x4x66x64x8x64, .bf16⟩
  | 59 => ⟨S1x4x64x64x8x64, .bf16⟩
  | 60 => ⟨S1x4x64x64x8x64, .bf16⟩
  | 61 => ⟨S1x4x64x64x8x64, .bf16⟩
  | 62 => ⟨S1x4x64x192x8x64, .bf16⟩
  | 63 => ⟨S1x4096x4x8x64, .bf16⟩
  | 64 => ⟨S1x4x4096x8x64, .bf16⟩
  | 65 => ⟨S_, .i32⟩
  | 66 => ⟨S_, .bf16⟩
  | 67 => ⟨S1x4x4096x8x64, .bf16⟩
  | 68 => ⟨S_, .bf16⟩
  | 69 => ⟨S1x4x64x8x64, .bf16⟩
  | 70 => ⟨S1x4x4224x8x64, .bf16⟩
  | 71 => ⟨S1x4x66x64x8x64, .bf16⟩
  | 72 => ⟨S1x4x64x64x8x64, .bf16⟩
  | 73 => ⟨S1x4x64x64x8x64, .bf16⟩
  | 74 => ⟨S1x4x64x64x8x64, .bf16⟩
  | 75 => ⟨S1x4x64x192x8x64, .bf16⟩
  | 76 => ⟨S64, .i32⟩
  | 77 => ⟨S192, .i32⟩
  | 78 => ⟨S1x192, .i32⟩
  | 79 => ⟨S_, .i32⟩
  | 80 => ⟨S1x192, .i32⟩
  | 81 => ⟨S1x192, .i32⟩
  | 82 => ⟨S64x1, .i32⟩
  | 83 => ⟨S64x192, .i32⟩
  | 84 => ⟨S64x192, .i32⟩
  | 85 => ⟨S64x192, .i32⟩
  | 86 => ⟨S64, .i32⟩
  | 87 => ⟨S64x1, .i32⟩
  | 88 => ⟨S_, .i32⟩
  | 89 => ⟨S64x1, .i32⟩
  | 90 => ⟨S64x1, .i32⟩
  | 91 => ⟨S_, .i32⟩
  | 92 => ⟨S64x1, .i32⟩
  | 93 => ⟨S64x1, .i32⟩
  | 94 => ⟨S1x192, .i32⟩
  | 95 => ⟨S64x192, .i32⟩
  | 96 => ⟨S64x192, .i32⟩
  | 97 => ⟨S64x192, .i32⟩
  | 98 => ⟨S64x192, .i32⟩
  | 99 => ⟨S_, .i32⟩
  | 100 => ⟨S64x192, .i32⟩
  | 101 => ⟨S64x192, .i1⟩
  | 102 => ⟨S1x64x192, .i1⟩
  | 103 => ⟨S_, .i32⟩
  | 104 => ⟨S64x192, .i32⟩
  | 105 => ⟨S64x192, .i1⟩
  | 106 => ⟨S64x1x192, .i1⟩
  | 107 => ⟨S64x64x192, .i1⟩
  | 108 => ⟨S64x64x192, .i1⟩
  | 109 => ⟨S64x64x192, .i1⟩
  | 110 => ⟨S_, .i32⟩
  | 111 => ⟨S64x192, .i32⟩
  | 112 => ⟨S64x192, .i1⟩
  | 113 => ⟨S64x1x192, .i1⟩
  | 114 => ⟨S64x64x192, .i1⟩
  | 115 => ⟨S64x64x192, .i1⟩
  | 116 => ⟨S_, .i32⟩
  | 117 => ⟨S64x192, .i32⟩
  | 118 => ⟨S64x192, .i32⟩
  | 119 => ⟨S_, .i32⟩
  | 120 => ⟨S64x192, .i32⟩
  | 121 => ⟨S64x192, .i1⟩
  | 122 => ⟨S_, .i32⟩
  | 123 => ⟨S_, .i32⟩
  | 124 => ⟨S64x192, .i32⟩
  | 125 => ⟨S64x192, .i32⟩
  | 126 => ⟨S64x192, .i32⟩
  | 127 => ⟨S64x192, .i32⟩
  | _ => ⟨S16384x512, .f32⟩

abbrev hbmTy0_2 (i : Nat) : BufTy := match i % 128 with
  | 0 => ⟨S_, .i32⟩
  | 1 => ⟨S64x192, .i32⟩
  | 2 => ⟨S64x192, .i32⟩
  | 3 => ⟨S64x192, .f32⟩
  | 4 => ⟨S_, .f32⟩
  | 5 => ⟨S64x192, .f32⟩
  | 6 => ⟨S64x192, .f32⟩
  | 7 => ⟨S64x192, .f32⟩
  | 8 => ⟨S_, .f32⟩
  | 9 => ⟨S64x192, .f32⟩
  | 10 => ⟨S64x192, .f32⟩
  | 11 => ⟨S_, .f32⟩
  | 12 => ⟨S64x192, .f32⟩
  | 13 => ⟨S64x192, .f32⟩
  | 14 => ⟨S64x192, .i32⟩
  | 15 => ⟨S_, .i32⟩
  | 16 => ⟨S64x192, .i32⟩
  | 17 => ⟨S64x192, .i32⟩
  | 18 => ⟨S_, .i32⟩
  | 19 => ⟨S64x192, .i32⟩
  | 20 => ⟨S64x192, .i32⟩
  | 21 => ⟨S_, .i32⟩
  | 22 => ⟨S64x192, .i32⟩
  | 23 => ⟨S64x192, .i1⟩
  | 24 => ⟨S64x192, .i32⟩
  | 25 => ⟨S64x192, .i32⟩
  | 26 => ⟨S64x192, .i32⟩
  | 27 => ⟨S_, .i32⟩
  | 28 => ⟨S64x192, .i32⟩
  | 29 => ⟨S64x192, .i1⟩
  | 30 => ⟨S_, .i32⟩
  | 31 => ⟨S64x192, .i32⟩
  | 32 => ⟨S64x192, .i32⟩
  | 33 => ⟨S64x192, .i32⟩
  | 34 => ⟨S64x192x1, .i32⟩
  | 35 => ⟨S64x192x8, .f32⟩
  | 36 => ⟨S64x8x192, .f32⟩
  | 37 => ⟨S1x1x1x64x8x192, .f32⟩
  | 38 => ⟨S1x4x64x8x192x64, .f32⟩
  | 39 => ⟨S1x4x64x64x8x192, .f32⟩
  | 40 => ⟨S_, .f32⟩
  | 41 => ⟨S1x4x64x64x8x192, .f32⟩
  | 42 => ⟨S1x4x64x64x8x192, .f32⟩
  | 43 => ⟨S1x1x64x64x1x192, .i1⟩
  | 44 => ⟨S1x4x64x64x8x192, .f32⟩
  | 45 => ⟨S1x4x64x64x8x192, .f32⟩
  | 46 => ⟨S_, .f32⟩
  | 47 => ⟨S_, .f32⟩
  | 48 => ⟨S1x4x64x64x8x192, .i1⟩
  | 49 => ⟨S1x4x64x64x8x192, .f32⟩
  | 50 => ⟨S1x4x64x64x8x192, .f32⟩
  | 51 => ⟨S_, .f32⟩
  | 52 => ⟨S1x4x64x64x8, .f32⟩
  | 53 => ⟨S1x4x64x64x8x1, .f32⟩
  | 54 => ⟨S1x4x64x64x8x192, .f32⟩
  | 55 => ⟨S1x4x64x64x8x192, .f32⟩
  | 56 => ⟨S1x4x64x64x8x192, .f32⟩
  | 57 => ⟨S_, .f32⟩
  | 58 => ⟨S1x4x64x64x8, .f32⟩
  | 59 => ⟨S1x4x64x64x8x192, .bf16⟩
  | 60 => ⟨S1x4x64x8x64x64, .f32⟩
  | 61 => ⟨S1x4x64x64x8x64, .f32⟩
  | 62 => ⟨S1x4x64x64x8x1, .f32⟩
  | 63 => ⟨S1x4x64x64x8x64, .f32⟩
  | 64 => ⟨S1x4x64x64x8x64, .f32⟩
  | 65 => ⟨S1x4x4096x8x64, .f32⟩
  | 66 => ⟨S1x4096x4x8x64, .f32⟩
  | 67 => ⟨S1x16384x8x64, .f32⟩
  | 68 => ⟨S1x4x4096x8, .f32⟩
  | 69 => ⟨S1x4096x4x8, .f32⟩
  | 70 => ⟨S1x16384x8, .f32⟩
  | 71 => ⟨S1x4x4096x8, .f32⟩
  | 72 => ⟨S1x4096x4x8, .f32⟩
  | 73 => ⟨S1x16384x8, .f32⟩
  | 74 => ⟨S1x16384x8x64, .bf16⟩
  | 75 => ⟨S1x16384x8x64, .bf16⟩
  | 76 => ⟨S1x16384x8x64, .bf16⟩
  | 77 => ⟨S1x1024x16x8x64, .bf16⟩
  | 78 => ⟨S1x16x1024x8x64, .bf16⟩
  | 79 => ⟨S_, .i32⟩
  | 80 => ⟨S_, .bf16⟩
  | 81 => ⟨S1x16x1024x8x64, .bf16⟩
  | 82 => ⟨S1x16x16x64x8x64, .bf16⟩
  | 83 => ⟨S1x1024x16x8x64, .bf16⟩
  | 84 => ⟨S1x16x1024x8x64, .bf16⟩
  | 85 => ⟨S_, .i32⟩
  | 86 => ⟨S_, .bf16⟩
  | 87 => ⟨S1x16x1024x8x64, .bf16⟩
  | 88 => ⟨S_, .bf16⟩
  | 89 => ⟨S1x16x64x8x64, .bf16⟩
  | 90 => ⟨S1x16x1152x8x64, .bf16⟩
  | 91 => ⟨S1x16x18x64x8x64, .bf16⟩
  | 92 => ⟨S1x16x16x64x8x64, .bf16⟩
  | 93 => ⟨S1x16x16x64x8x64, .bf16⟩
  | 94 => ⟨S1x16x16x64x8x64, .bf16⟩
  | 95 => ⟨S1x16x16x192x8x64, .bf16⟩
  | 96 => ⟨S1x1024x16x8x64, .bf16⟩
  | 97 => ⟨S1x16x1024x8x64, .bf16⟩
  | 98 => ⟨S_, .i32⟩
  | 99 => ⟨S_, .bf16⟩
  | 100 => ⟨S1x16x1024x8x64, .bf16⟩
  | 101 => ⟨S_, .bf16⟩
  | 102 => ⟨S1x16x64x8x64, .bf16⟩
  | 103 => ⟨S1x16x1152x8x64, .bf16⟩
  | 104 => ⟨S1x16x18x64x8x64, .bf16⟩
  | 105 => ⟨S1x16x16x64x8x64, .bf16⟩
  | 106 => ⟨S1x16x16x64x8x64, .bf16⟩
  | 107 => ⟨S1x16x16x64x8x64, .bf16⟩
  | 108 => ⟨S1x16x16x192x8x64, .bf16⟩
  | 109 => ⟨S64, .i32⟩
  | 110 => ⟨S192, .i32⟩
  | 111 => ⟨S1x192, .i32⟩
  | 112 => ⟨S_, .i32⟩
  | 113 => ⟨S1x192, .i32⟩
  | 114 => ⟨S1x192, .i32⟩
  | 115 => ⟨S64x1, .i32⟩
  | 116 => ⟨S64x192, .i32⟩
  | 117 => ⟨S64x192, .i32⟩
  | 118 => ⟨S64x192, .i32⟩
  | 119 => ⟨S16, .i32⟩
  | 120 => ⟨S16x1, .i32⟩
  | 121 => ⟨S_, .i32⟩
  | 122 => ⟨S16x1, .i32⟩
  | 123 => ⟨S16x1, .i32⟩
  | 124 => ⟨S_, .i32⟩
  | 125 => ⟨S16x1, .i32⟩
  | 126 => ⟨S16x1, .i32⟩
  | 127 => ⟨S1x192, .i32⟩
  | _ => ⟨S16384x512, .f32⟩

abbrev hbmTy0_3 (i : Nat) : BufTy := match i % 128 with
  | 0 => ⟨S16x192, .i32⟩
  | 1 => ⟨S16x192, .i32⟩
  | 2 => ⟨S16x192, .i32⟩
  | 3 => ⟨S64x192, .i32⟩
  | 4 => ⟨S_, .i32⟩
  | 5 => ⟨S64x192, .i32⟩
  | 6 => ⟨S64x192, .i1⟩
  | 7 => ⟨S1x64x192, .i1⟩
  | 8 => ⟨S_, .i32⟩
  | 9 => ⟨S16x192, .i32⟩
  | 10 => ⟨S16x192, .i1⟩
  | 11 => ⟨S16x1x192, .i1⟩
  | 12 => ⟨S16x64x192, .i1⟩
  | 13 => ⟨S16x64x192, .i1⟩
  | 14 => ⟨S16x64x192, .i1⟩
  | 15 => ⟨S_, .i32⟩
  | 16 => ⟨S16x192, .i32⟩
  | 17 => ⟨S16x192, .i1⟩
  | 18 => ⟨S16x1x192, .i1⟩
  | 19 => ⟨S16x64x192, .i1⟩
  | 20 => ⟨S16x64x192, .i1⟩
  | 21 => ⟨S_, .i32⟩
  | 22 => ⟨S64x192, .i32⟩
  | 23 => ⟨S64x192, .i32⟩
  | 24 => ⟨S_, .i32⟩
  | 25 => ⟨S64x192, .i32⟩
  | 26 => ⟨S64x192, .i1⟩
  | 27 => ⟨S_, .i32⟩
  | 28 => ⟨S_, .i32⟩
  | 29 => ⟨S64x192, .i32⟩
  | 30 => ⟨S64x192, .i32⟩
  | 31 => ⟨S64x192, .i32⟩
  | 32 => ⟨S64x192, .i32⟩
  | 33 => ⟨S_, .i32⟩
  | 34 => ⟨S64x192, .i32⟩
  | 35 => ⟨S64x192, .i32⟩
  | 36 => ⟨S64x192, .f32⟩
  | 37 => ⟨S_, .f32⟩
  | 38 => ⟨S64x192, .f32⟩
  | 39 => ⟨S64x192, .f32⟩
  | 40 => ⟨S64x192, .f32⟩
  | 41 => ⟨S_, .f32⟩
  | 42 => ⟨S64x192, .f32⟩
  | 43 => ⟨S64x192, .f32⟩
  | 44 => ⟨S_, .f32⟩
  | 45 => ⟨S64x192, .f32⟩
  | 46 => ⟨S64x192, .f32⟩
  | 47 => ⟨S64x192, .i32⟩
  | 48 => ⟨S_, .i32⟩
  | 49 => ⟨S64x192, .i32⟩
  | 50 => ⟨S64x192, .i32⟩
  | 51 => ⟨S_, .i32⟩
  | 52 => ⟨S64x192, .i32⟩
  | 53 => ⟨S64x192, .i32⟩
  | 54 => ⟨S_, .i32⟩
  | 55 => ⟨S64x192, .i32⟩
  | 56 => ⟨S64x192, .i1⟩
  | 57 => ⟨S64x192, .i32⟩
  | 58 => ⟨S64x192, .i32⟩
  | 59 => ⟨S64x192, .i32⟩
  | 60 => ⟨S_, .i32⟩
  | 61 => ⟨S64x192, .i32⟩
  | 62 => ⟨S64x192, .i1⟩
  | 63 => ⟨S_, .i32⟩
  | 64 => ⟨S64x192, .i32⟩
  | 65 => ⟨S64x192, .i32⟩
  | 66 => ⟨S64x192, .i32⟩
  | 67 => ⟨S64x192x1, .i32⟩
  | 68 => ⟨S64x192x8, .f32⟩
  | 69 => ⟨S64x8x192, .f32⟩
  | 70 => ⟨S1x1x1x64x8x192, .f32⟩
  | 71 => ⟨S1x16x16x8x192x64, .f32⟩
  | 72 => ⟨S1x16x16x64x8x192, .f32⟩
  | 73 => ⟨S_, .f32⟩
  | 74 => ⟨S1x16x16x64x8x192, .f32⟩
  | 75 => ⟨S1x16x16x64x8x192, .f32⟩
  | 76 => ⟨S1x1x16x64x1x192, .i1⟩
  | 77 => ⟨S1x16x16x64x8x192, .f32⟩
  | 78 => ⟨S1x16x16x64x8x192, .f32⟩
  | 79 => ⟨S_, .f32⟩
  | 80 => ⟨S_, .f32⟩
  | 81 => ⟨S1x16x16x64x8x192, .i1⟩
  | 82 => ⟨S1x16x16x64x8x192, .f32⟩
  | 83 => ⟨S1x16x16x64x8x192, .f32⟩
  | 84 => ⟨S_, .f32⟩
  | 85 => ⟨S1x16x16x64x8, .f32⟩
  | 86 => ⟨S1x16x16x64x8x1, .f32⟩
  | 87 => ⟨S1x16x16x64x8x192, .f32⟩
  | 88 => ⟨S1x16x16x64x8x192, .f32⟩
  | 89 => ⟨S1x16x16x64x8x192, .f32⟩
  | 90 => ⟨S_, .f32⟩
  | 91 => ⟨S1x16x16x64x8, .f32⟩
  | 92 => ⟨S1x16x16x64x8x192, .bf16⟩
  | 93 => ⟨S1x16x16x8x64x64, .f32⟩
  | 94 => ⟨S1x16x16x64x8x64, .f32⟩
  | 95 => ⟨S1x16x16x64x8x1, .f32⟩
  | 96 => ⟨S1x16x16x64x8x64, .f32⟩
  | 97 => ⟨S1x16x16x64x8x64, .f32⟩
  | 98 => ⟨S1x16x1024x8x64, .f32⟩
  | 99 => ⟨S1x1024x16x8x64, .f32⟩
  | 100 => ⟨S1x16384x8x64, .f32⟩
  | 101 => ⟨S1x16x1024x8, .f32⟩
  | 102 => ⟨S1x1024x16x8, .f32⟩
  | 103 => ⟨S1x16384x8, .f32⟩
  | 104 => ⟨S1x16x1024x8, .f32⟩
  | 105 => ⟨S1x1024x16x8, .f32⟩
  | 106 => ⟨S1x16384x8, .f32⟩
  | 107 => ⟨S1x16384x8, .f32⟩
  | 108 => ⟨S1x16384x8, .f32⟩
  | 109 => ⟨S1x16384x8, .f32⟩
  | 110 => ⟨S1x16384x8, .f32⟩
  | 111 => ⟨S1x16384x8, .f32⟩
  | 112 => ⟨S1x16384x8, .f32⟩
  | 113 => ⟨S1x16384x8, .f32⟩
  | 114 => ⟨S1x16384x8, .f32⟩
  | 115 => ⟨S1x16384x8, .f32⟩
  | 116 => ⟨S1x16384x8, .f32⟩
  | 117 => ⟨S1x16384x8, .f32⟩
  | 118 => ⟨S1x16384x8, .f32⟩
  | 119 => ⟨S1x16384x8, .f32⟩
  | 120 => ⟨S1x16384x8x1, .f32⟩
  | 121 => ⟨S1x16384x8x64, .f32⟩
  | 122 => ⟨S1x16384x8x64, .f32⟩
  | 123 => ⟨S1x16384x8x1, .f32⟩
  | 124 => ⟨S1x16384x8x64, .f32⟩
  | 125 => ⟨S1x16384x8x64, .f32⟩
  | 126 => ⟨S1x16384x8x64, .f32⟩
  | 127 => ⟨S1x16384x8x1, .f32⟩
  | _ => ⟨S16384x512, .f32⟩

abbrev hbmTy0_4 (i : Nat) : BufTy := match i % 128 with
  | 0 => ⟨S1x16384x8x64, .f32⟩
  | 1 => ⟨S1x16384x8x64, .f32⟩
  | 2 => ⟨S1x16384x8x64, .f32⟩
  | 3 => ⟨S1x16384x8x1, .f32⟩
  | 4 => ⟨S1x16384x8x64, .f32⟩
  | 5 => ⟨S1x16384x8x64, .f32⟩
  | 6 => ⟨S1x16384x8, .f32⟩
  | 7 => ⟨S1x16384x8, .f32⟩
  | 8 => ⟨S16384x8x1, .f32⟩
  | 9 => ⟨S16384x8x64, .f32⟩
  | 10 => ⟨S16384x8x64, .f32⟩
  | 11 => ⟨S16384x8x64, .f32⟩
  | 12 => ⟨S_, .f32⟩
  | 13 => ⟨S16384x8, .f32⟩
  | 14 => ⟨S16384x8x1, .f32⟩
  | 15 => ⟨S16384x8x32, .f32⟩
  | 16 => ⟨S16384x8x32, .f32⟩
  | 17 => ⟨S16384x8x64, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .bf16⟩
  | 24 => ⟨S8x32, .f32⟩
  | 25 => ⟨S_, .i32⟩
  | 26 => ⟨S_, .f32⟩
  | 27 => ⟨S16x128, .f32⟩
  | 28 => ⟨S128, .i32⟩
  | 29 => ⟨S256, .i32⟩
  | 30 => ⟨S1x256, .i32⟩
  | 31 => ⟨S_, .i32⟩
  | 32 => ⟨S1x256, .i32⟩
  | 33 => ⟨S1x256, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S_, .i32⟩
  | 46 => ⟨S128x256, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i32⟩
  | 53 => ⟨S128x256, .f32⟩
  | 54 => ⟨S_, .f32⟩
  | 55 => ⟨S128x256, .f32⟩
  | 56 => ⟨S128x256, .f32⟩
  | 57 => ⟨S128x256, .f32⟩
  | 58 => ⟨S_, .f32⟩
  | 59 => ⟨S128x256, .f32⟩
  | 60 => ⟨S128x256, .f32⟩
  | 61 => ⟨S_, .f32⟩
  | 62 => ⟨S128x256, .f32⟩
  | 63 => ⟨S128x256, .f32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S128x256, .i32⟩
  | 75 => ⟨S128x256, .i32⟩
  | 76 => ⟨S128x256, .i32⟩
  | 77 => ⟨S32768, .i32⟩
  | 78 => ⟨S32768x1, .i32⟩
  | 79 => ⟨S128, .i32⟩
  | 80 => ⟨S1x128, .i32⟩
  | 81 => ⟨S32768x128, .i32⟩
  | 82 => ⟨S32768x128, .i32⟩
  | 83 => ⟨S32768x128, .i1⟩
  | 84 => ⟨S32768x128, .bf16⟩
  | 85 => ⟨S16x32768, .f32⟩
  | 86 => ⟨S8x32768, .f32⟩
  | 87 => ⟨S8x128x256, .f32⟩
  | 88 => ⟨S128, .i32⟩
  | 89 => ⟨S256, .i32⟩
  | 90 => ⟨S1x256, .i32⟩
  | 91 => ⟨S_, .i32⟩
  | 92 => ⟨S1x256, .i32⟩
  | 93 => ⟨S1x256, .i32⟩
  | 94 => ⟨S128x1, .i32⟩
  | 95 => ⟨S128x256, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .f32⟩
  | 103 => ⟨S_, .f32⟩
  | 104 => ⟨S8x128x256, .i1⟩
  | 105 => ⟨S8x128x256, .f32⟩
  | 106 => ⟨S8x128x256, .f32⟩
  | 107 => ⟨S16384x512, .bf16⟩
  | 108 => ⟨S8x128x256, .f32⟩
  | 109 => ⟨S16384x512, .bf16⟩
  | 110 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x512, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S16x128, .f32⟩
  | .local _ .vmem, ⟨3, _⟩ => ⟨S16x4096, .f32⟩
  | .local _ .vmem, ⟨4, _⟩ => ⟨S16x4096, .f32⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S64x128, .bf16⟩
  | .local _ .vmem, ⟨10, _⟩ => ⟨S64x128, .bf16⟩
  | .local _ .vmem, ⟨11, _⟩ => ⟨S4096x128, .bf16⟩
  | .local _ .vmem, ⟨12, _⟩ => ⟨S4096x128, .bf16⟩
  | .local _ .vmem, ⟨13, _⟩ => ⟨S64x128, .bf16⟩
  | .local _ .vmem, ⟨14, _⟩ => ⟨S64x128, .bf16⟩
  | .local _ .vmem, ⟨15, _⟩ => ⟨S64x128, .bf16⟩
  | .local _ .vmem, ⟨16, _⟩ => ⟨S64x128, .bf16⟩
  | .local _ .vmem, ⟨17, _⟩ => ⟨S4096x128, .bf16⟩
  | .local _ .vmem, ⟨18, _⟩ => ⟨S4096x128, .bf16⟩
  | .local _ .vmem, ⟨19, _⟩ => ⟨S64x128, .bf16⟩
  | .local _ .vmem, ⟨20, _⟩ => ⟨S64x128, .bf16⟩
  | .local _ .vmem, ⟨21, _⟩ => ⟨S64x128, .f32⟩
  | .local _ .vmem, ⟨22, _⟩ => ⟨S64x128, .f32⟩
  | .local _ .vmem, ⟨23, _⟩ => ⟨S4096x128, .f32⟩
  | .local _ .vmem, ⟨24, _⟩ => ⟨S4096x128, .f32⟩
  | .local _ .vmem, ⟨25, _⟩ => ⟨S64x128, .f32⟩
  | .local _ .vmem, ⟨26, _⟩ => ⟨S64x128, .f32⟩
  | .local _ .vmem, ⟨27, _⟩ => ⟨S2x128x256, .f32⟩
  | .local _ .vmem, ⟨28, _⟩ => ⟨S2x128x256, .f32⟩
  | .local _ .vmem, ⟨29, _⟩ => ⟨S4096x128, .bf16⟩
  | .local _ .vmem, ⟨30, _⟩ => ⟨S4096x128, .bf16⟩
  | .local _ .vmem, ⟨31, _⟩ => ⟨S4096x128, .bf16⟩
  | .local _ .vmem, ⟨32, _⟩ => ⟨S4096x128, .bf16⟩
  | .local _ .vmem, ⟨33, _⟩ => ⟨S4096x128, .f32⟩
  | .local _ .vmem, ⟨34, _⟩ => ⟨S4096x128, .f32⟩
  | .local _ .vmem, ⟨35, _⟩ => ⟨S4224x128, .f32⟩
  | .local _ .vmem, ⟨36, _⟩ => ⟨S4224x128, .f32⟩
  | .local _ .vmem, ⟨37, _⟩ => ⟨S4224x128, .f32⟩
  | .local _ .vmem, ⟨38, _⟩ => ⟨S4096x128, .f32⟩
  | .local _ .vmem, ⟨39, _⟩ => ⟨S4096x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_c_12 : Ref sig .tc := ⟨.hbm, 90, rfl⟩
abbrev main_call3_v0 : Ref sig .tc := ⟨.hbm, 91, rfl⟩
abbrev main_call3_v1 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_c_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_call6_v0 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_27 : Ref sig .tc := ⟨.hbm, 180, rfl⟩
abbrev main_call7_v0 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_29 : Ref sig .tc := ⟨.hbm, 193, rfl⟩
abbrev main_call8_v0 : Ref sig .tc := ⟨.hbm, 194, rfl⟩
abbrev main_v147 : Ref sig .tc := ⟨.hbm, 195, rfl⟩
abbrev main_cst_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_31 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_c_32 : Ref sig .tc := ⟨.hbm, 216, rfl⟩
abbrev main_v166 : Ref sig .tc := ⟨.hbm, 217, rfl⟩
abbrev main_v167 : Ref sig .tc := ⟨.hbm, 218, rfl⟩
abbrev main_c_33 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_34 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_35 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_c_36 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_c_37 : Ref sig .tc := ⟨.hbm, 244, rfl⟩
abbrev main_v189 : Ref sig .tc := ⟨.hbm, 245, rfl⟩
abbrev main_v190 : Ref sig .tc := ⟨.hbm, 246, rfl⟩
abbrev main_c_38 : Ref sig .tc := ⟨.hbm, 247, rfl⟩
abbrev main_v191 : Ref sig .tc := ⟨.hbm, 248, rfl⟩
abbrev main_v192 : Ref sig .tc := ⟨.hbm, 249, rfl⟩
abbrev main_c_39 : Ref sig .tc := ⟨.hbm, 250, rfl⟩
abbrev main_c_40 : Ref sig .tc := ⟨.hbm, 251, rfl⟩
abbrev main_call9_v0 : Ref sig .tc := ⟨.hbm, 252, rfl⟩
abbrev main_call9_v1 : Ref sig .tc := ⟨.hbm, 253, rfl⟩
abbrev main_v193 : Ref sig .tc := ⟨.hbm, 254, rfl⟩
abbrev main_v194 : Ref sig .tc := ⟨.hbm, 255, rfl⟩
abbrev main_c_41 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_42 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_43 : Ref sig .tc := ⟨.hbm, 264, rfl⟩
abbrev main_v201 : Ref sig .tc := ⟨.hbm, 265, rfl⟩
abbrev main_v202 : Ref sig .tc := ⟨.hbm, 266, rfl⟩
abbrev main_cst_44 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_45 : Ref sig .tc := ⟨.hbm, 271, rfl⟩
abbrev main_v206 : Ref sig .tc := ⟨.hbm, 272, rfl⟩
abbrev main_v207 : Ref sig .tc := ⟨.hbm, 273, rfl⟩
abbrev main_c_46 : Ref sig .tc := ⟨.hbm, 274, rfl⟩
abbrev main_v208 : Ref sig .tc := ⟨.hbm, 275, rfl⟩
abbrev main_v209 : Ref sig .tc := ⟨.hbm, 276, rfl⟩
abbrev main_c_47 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_48 : Ref sig .tc := ⟨.hbm, 283, rfl⟩
abbrev main_v215 : Ref sig .tc := ⟨.hbm, 284, rfl⟩
abbrev main_v216 : Ref sig .tc := ⟨.hbm, 285, rfl⟩
abbrev main_c_49 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_cst_50 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_cst_51 : Ref sig .tc := ⟨.hbm, 302, rfl⟩
abbrev main_call11_v0 : Ref sig .tc := ⟨.hbm, 303, rfl⟩
abbrev main_call11_v1 : Ref sig .tc := ⟨.hbm, 304, rfl⟩
abbrev main_call11_v2 : Ref sig .tc := ⟨.hbm, 305, rfl⟩
abbrev main_v231 : Ref sig .tc := ⟨.hbm, 306, rfl⟩
abbrev main_cst_52 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_cst_53 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_c_54 : Ref sig .tc := ⟨.hbm, 335, rfl⟩
abbrev main_call12_v0 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_c_55 : Ref sig .tc := ⟨.hbm, 341, rfl⟩
abbrev main_call13_v0 : Ref sig .tc := ⟨.hbm, 342, rfl⟩
abbrev main_v262 : Ref sig .tc := ⟨.hbm, 343, rfl⟩
abbrev main_cst_56 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_c_57 : Ref sig .tc := ⟨.hbm, 354, rfl⟩
abbrev main_call14_v0 : Ref sig .tc := ⟨.hbm, 355, rfl⟩
abbrev main_v272 : Ref sig .tc := ⟨.hbm, 356, rfl⟩
abbrev main_cst_58 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_c_59 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_c_60 : Ref sig .tc := ⟨.hbm, 377, rfl⟩
abbrev main_v291 : Ref sig .tc := ⟨.hbm, 378, rfl⟩
abbrev main_v292 : Ref sig .tc := ⟨.hbm, 379, rfl⟩
abbrev main_c_61 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_c_62 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_c_63 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_c_64 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_c_65 : Ref sig .tc := ⟨.hbm, 405, rfl⟩
abbrev main_v314 : Ref sig .tc := ⟨.hbm, 406, rfl⟩
abbrev main_v315 : Ref sig .tc := ⟨.hbm, 407, rfl⟩
abbrev main_c_66 : Ref sig .tc := ⟨.hbm, 408, rfl⟩
abbrev main_v316 : Ref sig .tc := ⟨.hbm, 409, rfl⟩
abbrev main_v317 : Ref sig .tc := ⟨.hbm, 410, rfl⟩
abbrev main_c_67 : Ref sig .tc := ⟨.hbm, 411, rfl⟩
abbrev main_c_68 : Ref sig .tc := ⟨.hbm, 412, rfl⟩
abbrev main_call15_v0 : Ref sig .tc := ⟨.hbm, 413, rfl⟩
abbrev main_call15_v1 : Ref sig .tc := ⟨.hbm, 414, rfl⟩
abbrev main_v318 : Ref sig .tc := ⟨.hbm, 415, rfl⟩
abbrev main_v319 : Ref sig .tc := ⟨.hbm, 416, rfl⟩
abbrev main_c_69 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_cst_70 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_cst_71 : Ref sig .tc := ⟨.hbm, 425, rfl⟩
abbrev main_v326 : Ref sig .tc := ⟨.hbm, 426, rfl⟩
abbrev main_v327 : Ref sig .tc := ⟨.hbm, 427, rfl⟩
abbrev main_cst_72 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_c_73 : Ref sig .tc := ⟨.hbm, 432, rfl⟩
abbrev main_v331 : Ref sig .tc := ⟨.hbm, 433, rfl⟩
abbrev main_v332 : Ref sig .tc := ⟨.hbm, 434, rfl⟩
abbrev main_c_74 : Ref sig .tc := ⟨.hbm, 435, rfl⟩
abbrev main_v333 : Ref sig .tc := ⟨.hbm, 436, rfl⟩
abbrev main_v334 : Ref sig .tc := ⟨.hbm, 437, rfl⟩
abbrev main_c_75 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_c_76 : Ref sig .tc := ⟨.hbm, 444, rfl⟩
abbrev main_v340 : Ref sig .tc := ⟨.hbm, 445, rfl⟩
abbrev main_v341 : Ref sig .tc := ⟨.hbm, 446, rfl⟩
abbrev main_c_77 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_cst_78 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_cst_79 : Ref sig .tc := ⟨.hbm, 463, rfl⟩
abbrev main_call17_v0 : Ref sig .tc := ⟨.hbm, 464, rfl⟩
abbrev main_call17_v1 : Ref sig .tc := ⟨.hbm, 465, rfl⟩
abbrev main_call17_v2 : Ref sig .tc := ⟨.hbm, 466, rfl⟩
abbrev main_v356 : Ref sig .tc := ⟨.hbm, 467, rfl⟩
abbrev main_cst_80 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_cst_81 : Ref sig .tc := ⟨.hbm, 474, rfl⟩
abbrev main_v362 : Ref sig .tc := ⟨.hbm, 475, rfl⟩
abbrev main_v363 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_cst_82 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_cst_83 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_c_84 : Ref sig .tc := ⟨.hbm, 537, rfl⟩
abbrev main_call18_v0 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_c_85 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_v431 : Ref sig .tc := ⟨.hbm, 549, rfl⟩
abbrev main_c_86 : Ref sig .tc := ⟨.hbm, 550, rfl⟩
abbrev main_v432 : Ref sig .tc := ⟨.hbm, 551, rfl⟩
abbrev main_v433 : Ref sig .tc := ⟨.hbm, 552, rfl⟩
abbrev main_c_87 : Ref sig .tc := ⟨.hbm, 553, rfl⟩
abbrev main_v434 : Ref sig .tc := ⟨.hbm, 554, rfl⟩
abbrev main_v435 : Ref sig .tc := ⟨.hbm, 555, rfl⟩
abbrev main_c_88 : Ref sig .tc := ⟨.hbm, 556, rfl⟩
abbrev main_c_89 : Ref sig .tc := ⟨.hbm, 557, rfl⟩
abbrev main_call19_v0 : Ref sig .tc := ⟨.hbm, 558, rfl⟩
abbrev main_call19_v1 : Ref sig .tc := ⟨.hbm, 559, rfl⟩
abbrev main_v436 : Ref sig .tc := ⟨.hbm, 560, rfl⟩
abbrev main_v437 : Ref sig .tc := ⟨.hbm, 561, rfl⟩
abbrev main_c_90 : Ref sig .tc := ⟨.hbm, 562, rfl⟩
abbrev main_v438 : Ref sig .tc := ⟨.hbm, 563, rfl⟩
abbrev main_v439 : Ref sig .tc := ⟨.hbm, 564, rfl⟩
abbrev main_v440 : Ref sig .tc := ⟨.hbm, 565, rfl⟩
abbrev main_cst_91 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_cst_92 : Ref sig .tc := ⟨.hbm, 570, rfl⟩
abbrev main_v444 : Ref sig .tc := ⟨.hbm, 571, rfl⟩
abbrev main_v445 : Ref sig .tc := ⟨.hbm, 572, rfl⟩
abbrev main_cst_93 : Ref sig .tc := ⟨.hbm, 573, rfl⟩
abbrev main_v446 : Ref sig .tc := ⟨.hbm, 574, rfl⟩
abbrev main_v447 : Ref sig .tc := ⟨.hbm, 575, rfl⟩
abbrev main_v448 : Ref sig .tc := ⟨.hbm, 576, rfl⟩
abbrev main_c_94 : Ref sig .tc := ⟨.hbm, 577, rfl⟩
abbrev main_v449 : Ref sig .tc := ⟨.hbm, 578, rfl⟩
abbrev main_v450 : Ref sig .tc := ⟨.hbm, 579, rfl⟩
abbrev main_c_95 : Ref sig .tc := ⟨.hbm, 580, rfl⟩
abbrev main_v451 : Ref sig .tc := ⟨.hbm, 581, rfl⟩
abbrev main_v452 : Ref sig .tc := ⟨.hbm, 582, rfl⟩
abbrev main_c_96 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_v456 : Ref sig .tc := ⟨.hbm, 587, rfl⟩
abbrev main_v457 : Ref sig .tc := ⟨.hbm, 588, rfl⟩
abbrev main_v458 : Ref sig .tc := ⟨.hbm, 589, rfl⟩
abbrev main_v459 : Ref sig .tc := ⟨.hbm, 590, rfl⟩
abbrev main_v460 : Ref sig .tc := ⟨.hbm, 591, rfl⟩
abbrev main_v461 : Ref sig .tc := ⟨.hbm, 592, rfl⟩
abbrev main_v462 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_v468 : Ref sig .tc := ⟨.hbm, 599, rfl⟩
abbrev main_v469 : Ref sig .tc := ⟨.hbm, 600, rfl⟩
abbrev main_v470 : Ref sig .tc := ⟨.hbm, 601, rfl⟩
abbrev main_v471 : Ref sig .tc := ⟨.hbm, 602, rfl⟩
abbrev main_c_97 : Ref sig .tc := ⟨.hbm, 603, rfl⟩
abbrev main_v472 : Ref sig .tc := ⟨.hbm, 604, rfl⟩
abbrev main_v473 : Ref sig .tc := ⟨.hbm, 605, rfl⟩
abbrev main_v474 : Ref sig .tc := ⟨.hbm, 606, rfl⟩
abbrev main_v475 : Ref sig .tc := ⟨.hbm, 607, rfl⟩
abbrev main_v476 : Ref sig .tc := ⟨.hbm, 608, rfl⟩
abbrev main_v477 : Ref sig .tc := ⟨.hbm, 609, rfl⟩
abbrev main_v478 : Ref sig .tc := ⟨.hbm, 610, rfl⟩
abbrev main_c_98 : Ref sig .tc := ⟨.hbm, 611, rfl⟩
abbrev main_v479 : Ref sig .tc := ⟨.hbm, 612, rfl⟩
abbrev main_v480 : Ref sig .tc := ⟨.hbm, 613, rfl⟩
abbrev main_cst_99 : Ref sig .tc := ⟨.hbm, 614, rfl⟩
abbrev main_call21_v0 : Ref sig .tc := ⟨.hbm, 615, rfl⟩
abbrev main_call21_v1 : Ref sig .tc := ⟨.hbm, 616, rfl⟩
abbrev main_call21_v2 : Ref sig .tc := ⟨.hbm, 617, rfl⟩
abbrev main_v481 : Ref sig .tc := ⟨.hbm, 618, rfl⟩
abbrev main_v482 : Ref sig .tc := ⟨.hbm, 619, rfl⟩
abbrev main_v483 : Ref sig .tc := ⟨.hbm, 620, rfl⟩
abbrev main_v484_0 : Ref sig .tc := ⟨.hbm, 621, rfl⟩
abbrev main_v484_1 : Ref sig .tc := ⟨.hbm, 622, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc1_scratch4 : Ref sig .tc := ⟨.vmem, 37, rfl⟩
abbrev cc1_scratch5 : Ref sig .tc := ⟨.vmem, 38, rfl⟩
abbrev cc1_scratch6 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc1_transform_8 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  ![v2.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S64x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S4096x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S4096x128 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== Kernel14.lean ====
abbrev S16384x512 : Shape := ⟨2, ![16384, 512]⟩
abbrev S32x8 : Shape := ⟨2, ![32, 8]⟩
abbrev S1x16384x8x64 : Shape := ⟨4, ![1, 16384, 8, 64]⟩
abbrev S1x16384x1x8x64 : Shape := ⟨5, ![1, 16384, 1, 8, 64]⟩
abbrev S1x1x16384x8x64 : Shape := ⟨5, ![1, 1, 16384, 8, 64]⟩
abbrev S_ : Shape := ⟨0, ![]⟩
abbrev S1x1x256x64x8x64 : Shape := ⟨6, ![1, 1, 256, 64, 8, 64]⟩
abbrev S1x1x64x8x64 : Shape := ⟨5, ![1, 1, 64, 8, 64]⟩
abbrev S1x1x16512x8x64 : Shape := ⟨5, ![1, 1, 16512, 8, 64]⟩
abbrev S1x1x258x64x8x64 : Shape := ⟨6, ![1, 1, 258, 64, 8, 64]⟩
abbrev S1x1x256x192x8x64 : Shape := ⟨6, ![1, 1, 256, 192, 8, 64]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x8 : Shape := ⟨3, ![64, 192, 8]⟩
abbrev S64x8x192 : Shape := ⟨3, ![64, 8, 192]⟩
abbrev S1x1x1x64x8x192 : Shape := ⟨6, ![1, 1, 1, 64, 8, 192]⟩
abbrev S1x1x256x8x192x64 : Shape := ⟨6, ![1, 1, 256, 8, 192, 64]⟩
abbrev S1x1x256x64x8x192 : Shape := ⟨6, ![1, 1, 256, 64, 8, 192]⟩
abbrev S1x1x256x64x1x192 : Shape := ⟨6, ![1, 1, 256, 64, 1, 192]⟩
abbrev S1x1x256x64x8 : Shape := ⟨5, ![1, 1, 256, 64, 8]⟩
abbrev S1x1x256x64x8x1 : Shape := ⟨6, ![1, 1, 256, 64, 8, 1]⟩
abbrev S1x1x256x8x64x64 : Shape := ⟨6, ![1, 1, 256, 8, 64, 64]⟩
abbrev S1x1x16384x8 : Shape := ⟨4, ![1, 1, 16384, 8]⟩
abbrev S1x16384x1x8 : Shape := ⟨4, ![1, 16384, 1, 8]⟩
abbrev S1x16384x8 : Shape := ⟨3, ![1, 16384, 8]⟩
abbrev S1x4096x4x8x64 : Shape := ⟨5, ![1, 4096, 4, 8, 64]⟩
abbrev S1x4x4096x8x64 : Shape := ⟨5, ![1, 4, 4096, 8, 64]⟩
abbrev S1x4x64x64x8x64 : Shape := ⟨6, ![1, 4, 64, 64, 8, 64]⟩
abbrev S1x4x64x8x64 : Shape := ⟨5, ![1, 4, 64, 8, 64]⟩
abbrev S1x4x4224x8x64 : Shape := ⟨5, ![1, 4, 4224, 8, 64]⟩
abbrev S1x4x66x64x8x64 : Shape := ⟨6, ![1, 4, 66, 64, 8, 64]⟩
abbrev S1x4x64x192x8x64 : Shape := ⟨6, ![1, 4, 64, 192, 8, 64]⟩
abbrev S64x1x192 : Shape := ⟨3, ![64, 1, 192]⟩
abbrev S64x64x192 : Shape := ⟨3, ![64, 64, 192]⟩
abbrev S1x4x64x8x192x64 : Shape := ⟨6, ![1, 4, 64, 8, 192, 64]⟩
abbrev S1x4x64x64x8x192 : Shape := ⟨6, ![1, 4, 64, 64, 8, 192]⟩
abbrev S1x1x64x64x1x192 : Shape := ⟨6, ![1, 1, 64, 64, 1, 192]⟩
abbrev S1x4x64x64x8 : Shape := ⟨5, ![1, 4, 64, 64, 8]⟩
abbrev S1x4x64x64x8x1 : Shape := ⟨6, ![1, 4, 64, 64, 8, 1]⟩
abbrev S1x4x64x8x64x64 : Shape := ⟨6, ![1, 4, 64, 8, 64, 64]⟩
abbrev S1x4x4096x8 : Shape := ⟨4, ![1, 4, 4096, 8]⟩
abbrev S1x4096x4x8 : Shape := ⟨4, ![1, 4096, 4, 8]⟩
abbrev S1x1024x16x8x64 : Shape := ⟨5, ![1, 1024, 16, 8, 64]⟩
abbrev S1x16x1024x8x64 : Shape := ⟨5, ![1, 16, 1024, 8, 64]⟩
abbrev S1x16x16x64x8x64 : Shape := ⟨6, ![1, 16, 16, 64, 8, 64]⟩
abbrev S1x16x64x8x64 : Shape := ⟨5, ![1, 16, 64, 8, 64]⟩
abbrev S1x16x1152x8x64 : Shape := ⟨5, ![1, 16, 1152, 8, 64]⟩
abbrev S1x16x18x64x8x64 : Shape := ⟨6, ![1, 16, 18, 64, 8, 64]⟩
abbrev S1x16x16x192x8x64 : Shape := ⟨6, ![1, 16, 16, 192, 8, 64]⟩
abbrev S16 : Shape := ⟨1, ![16]⟩
abbrev S16x1 : Shape := ⟨2, ![16, 1]⟩
abbrev S16x192 : Shape := ⟨2, ![16, 192]⟩
abbrev S16x1x192 : Shape := ⟨3, ![16, 1, 192]⟩
abbrev S16x64x192 : Shape := ⟨3, ![16, 64, 192]⟩
abbrev S1x16x16x8x192x64 : Shape := ⟨6, ![1, 16, 16, 8, 192, 64]⟩
abbrev S1x16x16x64x8x192 : Shape := ⟨6, ![1, 16, 16, 64, 8, 192]⟩
abbrev S1x1x16x64x1x192 : Shape := ⟨6, ![1, 1, 16, 64, 1, 192]⟩
abbrev S1x16x16x64x8 : Shape := ⟨5, ![1, 16, 16, 64, 8]⟩
abbrev S1x16x16x64x8x1 : Shape := ⟨6, ![1, 16, 16, 64, 8, 1]⟩
abbrev S1x16x16x8x64x64 : Shape := ⟨6, ![1, 16, 16, 8, 64, 64]⟩
abbrev S1x16x1024x8 : Shape := ⟨4, ![1, 16, 1024, 8]⟩
abbrev S1x1024x16x8 : Shape := ⟨4, ![1, 1024, 16, 8]⟩
abbrev S1x16384x8x1 : Shape := ⟨4, ![1, 16384, 8, 1]⟩
abbrev S16384x8x1 : Shape := ⟨3, ![16384, 8, 1]⟩
abbrev S16384x8x64 : Shape := ⟨3, ![16384, 8, 64]⟩
abbrev S16384x8 : Shape := ⟨2, ![16384, 8]⟩
abbrev S16384x8x32 : Shape := ⟨3, ![16384, 8, 32]⟩
abbrev S8x32 : Shape := ⟨2, ![8, 32]⟩
abbrev S16x128 : Shape := ⟨2, ![16, 128]⟩
abbrev S128 : Shape := ⟨1, ![128]⟩
abbrev S1x256 : Shape := ⟨2, ![1, 256]⟩
abbrev S128x1 : Shape := ⟨2, ![128, 1]⟩
abbrev S128x256 : Shape := ⟨2, ![128, 256]⟩
abbrev S32768 : Shape := ⟨1, ![32768]⟩
abbrev S32768x1 : Shape := ⟨2, ![32768, 1]⟩
abbrev S1x128 : Shape := ⟨2, ![1, 128]⟩
abbrev S32768x128 : Shape := ⟨2, ![32768, 128]⟩
abbrev S16x32768 : Shape := ⟨2, ![16, 32768]⟩
abbrev S4096x128 : Shape := ⟨2, ![4096, 128]⟩
abbrev S16x4096 : Shape := ⟨2, ![16, 4096]⟩
abbrev S8x32768 : Shape := ⟨2, ![8, 32768]⟩
abbrev S8x128x256 : Shape := ⟨3, ![8, 128, 256]⟩
abbrev S256x128 : Shape := ⟨2, ![256, 128]⟩
abbrev S2x128x256 : Shape := ⟨3, ![2, 128, 256]⟩
abbrev S4608x128 : Shape := ⟨2, ![4608, 128]⟩
abbrev S1x128x256 : Shape := ⟨3, ![1, 128, 256]⟩
abbrev S128x512 : Shape := ⟨2, ![128, 512]⟩
abbrev S128x128 : Shape := ⟨2, ![128, 128]⟩
abbrev S512x128 : Shape := ⟨2, ![512, 128]⟩
abbrev S1x512 : Shape := ⟨2, ![1, 512]⟩

abbrev nBuf : Space → Nat
  | .hbm => 623
  | .vmem => 40
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x512, .bf16⟩
  | 6 => ⟨S16384x512, .bf16⟩
  | 7 => ⟨S16384x512, .bf16⟩
  | 8 => ⟨S1x16384x8x64, .bf16⟩
  | 9 => ⟨S1x16384x8x64, .bf16⟩
  | 10 => ⟨S1x16384x8x64, .bf16⟩
  | 11 => ⟨S1x16384x1x8x64, .bf16⟩
  | 12 => ⟨S1x1x16384x8x64, .bf16⟩
  | 13 => ⟨S_, .i32⟩
  | 14 => ⟨S_, .bf16⟩
  | 15 => ⟨S1x1x16384x8x64, .bf16⟩
  | 16 => ⟨S1x1x256x64x8x64, .bf16⟩
  | 17 => ⟨S1x16384x1x8x64, .bf16⟩
  | 18 => ⟨S1x1x16384x8x64, .bf16⟩
  | 19 => ⟨S_, .i32⟩
  | 20 => ⟨S_, .bf16⟩
  | 21 => ⟨S1x1x16384x8x64, .bf16⟩
  | 22 => ⟨S_, .bf16⟩
  | 23 => ⟨S1x1x64x8x64, .bf16⟩
  | 24 => ⟨S1x1x16512x8x64, .bf16⟩
  | 25 => ⟨S1x1x258x64x8x64, .bf16⟩
  | 26 => ⟨S1x1x256x64x8x64, .bf16⟩
  | 27 => ⟨S1x1x256x64x8x64, .bf16⟩
  | 28 => ⟨S1x1x256x64x8x64, .bf16⟩
  | 29 => ⟨S1x1x256x192x8x64, .bf16⟩
  | 30 => ⟨S1x16384x1x8x64, .bf16⟩
  | 31 => ⟨S1x1x16384x8x64, .bf16⟩
  | 32 => ⟨S_, .i32⟩
  | 33 => ⟨S_, .bf16⟩
  | 34 => ⟨S1x1x16384x8x64, .bf16⟩
  | 35 => ⟨S_, .bf16⟩
  | 36 => ⟨S1x1x64x8x64, .bf16⟩
  | 37 => ⟨S1x1x16512x8x64, .bf16⟩
  | 38 => ⟨S1x1x258x64x8x64, .bf16⟩
  | 39 => ⟨S1x1x256x64x8x64, .bf16⟩
  | 40 => ⟨S1x1x256x64x8x64, .bf16⟩
  | 41 => ⟨S1x1x256x64x8x64, .bf16⟩
  | 42 => ⟨S1x1x256x192x8x64, .bf16⟩
  | 43 => ⟨S64, .i32⟩
  | 44 => ⟨S192, .i32⟩
  | 45 => ⟨S1x192, .i32⟩
  | 46 => ⟨S_, .i32⟩
  | 47 => ⟨S1x192, .i32⟩
  | 48 => ⟨S1x192, .i32⟩
  | 49 => ⟨S64x1, .i32⟩
  | 50 => ⟨S64x192, .i32⟩
  | 51 => ⟨S64x192, .i32⟩
  | 52 => ⟨S64x192, .i32⟩
  | 53 => ⟨S256, .i32⟩
  | 54 => ⟨S256x1, .i32⟩
  | 55 => ⟨S_, .i32⟩
  | 56 => ⟨S256x1, .i32⟩
  | 57 => ⟨S256x1, .i32⟩
  | 58 => ⟨S_, .i32⟩
  | 59 => ⟨S256x1, .i32⟩
  | 60 => ⟨S256x1, .i32⟩
  | 61 => ⟨S1x192, .i32⟩
  | 62 => ⟨S256x192, .i32⟩
  | 63 => ⟨S256x192, .i32⟩
  | 64 => ⟨S256x192, .i32⟩
  | 65 => ⟨S64x192, .i32⟩
  | 66 => ⟨S_, .i32⟩
  | 67 => ⟨S64x192, .i32⟩
  | 68 => ⟨S64x192, .i1⟩
  | 69 => ⟨S1x64x192, .i1⟩
  | 70 => ⟨S_, .i32⟩
  | 71 => ⟨S256x192, .i32⟩
  | 72 => ⟨S256x192, .i1⟩
  | 73 => ⟨S256x1x192, .i1⟩
  | 74 => ⟨S256x64x192, .i1⟩
  | 75 => ⟨S256x64x192, .i1⟩
  | 76 => ⟨S256x64x192, .i1⟩
  | 77 => ⟨S_, .i32⟩
  | 78 => ⟨S256x192, .i32⟩
  | 79 => ⟨S256x192, .i1⟩
  | 80 => ⟨S256x1x192, .i1⟩
  | 81 => ⟨S256x64x192, .i1⟩
  | 82 => ⟨S256x64x192, .i1⟩
  | 83 => ⟨S_, .i32⟩
  | 84 => ⟨S64x192, .i32⟩
  | 85 => ⟨S64x192, .i32⟩
  | 86 => ⟨S_, .i32⟩
  | 87 => ⟨S64x192, .i32⟩
  | 88 => ⟨S64x192, .i1⟩
  | 89 => ⟨S_, .i32⟩
  | 90 => ⟨S_, .i32⟩
  | 91 => ⟨S64x192, .i32⟩
  | 92 => ⟨S64x192, .i32⟩
  | 93 => ⟨S64x192, .i32⟩
  | 94 => ⟨S64x192, .i32⟩
  | 95 => ⟨S_, .i32⟩
  | 96 => ⟨S64x192, .i32⟩
  | 97 => ⟨S64x192, .i32⟩
  | 98 => ⟨S64x192, .f32⟩
  | 99 => ⟨S_, .f32⟩
  | 100 => ⟨S64x192, .f32⟩
  | 101 => ⟨S64x192, .f32⟩
  | 102 => ⟨S64x192, .f32⟩
  | 103 => ⟨S_, .f32⟩
  | 104 => ⟨S64x192, .f32⟩
  | 105 => ⟨S64x192, .f32⟩
  | 106 => ⟨S_, .f32⟩
  | 107 => ⟨S64x192, .f32⟩
  | 108 => ⟨S64x192, .f32⟩
  | 109 => ⟨S64x192, .i32⟩
  | 110 => ⟨S_, .i32⟩
  | 111 => ⟨S64x192, .i32⟩
  | 112 => ⟨S64x192, .i32⟩
  | 113 => ⟨S_, .i32⟩
  | 114 => ⟨S64x192, .i32⟩
  | 115 => ⟨S64x192, .i32⟩
  | 116 => ⟨S_, .i32⟩
  | 117 => ⟨S64x192, .i32⟩
  | 118 => ⟨S64x192, .i1⟩
  | 119 => ⟨S64x192, .i32⟩
  | 120 => ⟨S64x192, .i32⟩
  | 121 => ⟨S64x192, .i32⟩
  | 122 => ⟨S_, .i32⟩
  | 123 => ⟨S64x192, .i32⟩
  | 124 => ⟨S64x192, .i1⟩
  | 125 => ⟨S_, .i32⟩
  | 126 => ⟨S64x192, .i32⟩
  | 127 => ⟨S64x192, .i32⟩
  | _ => ⟨S16384x512, .f32⟩

abbrev hbmTy0_1 (i : Nat) : BufTy := match i % 128 with
  | 0 => ⟨S64x192, .i32⟩
  | 1 => ⟨S64x192x1, .i32⟩
  | 2 => ⟨S64x192x8, .f32⟩
  | 3 => ⟨S64x8x192, .f32⟩
  | 4 => ⟨S1x1x1x64x8x192, .f32⟩
  | 5 => ⟨S1x1x256x8x192x64, .f32⟩
  | 6 => ⟨S1x1x256x64x8x192, .f32⟩
  | 7 => ⟨S_, .f32⟩
  | 8 => ⟨S1x1x256x64x8x192, .f32⟩
  | 9 => ⟨S1x1x256x64x8x192, .f32⟩
  | 10 => ⟨S1x1x256x64x1x192, .i1⟩
  | 11 => ⟨S1x1x256x64x8x192, .f32⟩
  | 12 => ⟨S1x1x256x64x8x192, .f32⟩
  | 13 => ⟨S_, .f32⟩
  | 14 => ⟨S_, .f32⟩
  | 15 => ⟨S1x1x256x64x8x192, .i1⟩
  | 16 => ⟨S1x1x256x64x8x192, .f32⟩
  | 17 => ⟨S1x1x256x64x8x192, .f32⟩
  | 18 => ⟨S_, .f32⟩
  | 19 => ⟨S1x1x256x64x8, .f32⟩
  | 20 => ⟨S1x1x256x64x8x1, .f32⟩
  | 21 => ⟨S1x1x256x64x8x192, .f32⟩
  | 22 => ⟨S1x1x256x64x8x192, .f32⟩
  | 23 => ⟨S1x1x256x64x8x192, .f32⟩
  | 24 => ⟨S_, .f32⟩
  | 25 => ⟨S1x1x256x64x8, .f32⟩
  | 26 => ⟨S1x1x256x64x8x192, .bf16⟩
  | 27 => ⟨S1x1x256x8x64x64, .f32⟩
  | 28 => ⟨S1x1x256x64x8x64, .f32⟩
  | 29 => ⟨S1x1x256x64x8x1, .f32⟩
  | 30 => ⟨S1x1x256x64x8x64, .f32⟩
  | 31 => ⟨S1x1x256x64x8x64, .f32⟩
  | 32 => ⟨S1x1x16384x8x64, .f32⟩
  | 33 => ⟨S1x16384x1x8x64, .f32⟩
  | 34 => ⟨S1x16384x8x64, .f32⟩
  | 35 => ⟨S1x1x16384x8, .f32⟩
  | 36 => ⟨S1x16384x1x8, .f32⟩
  | 37 => ⟨S1x16384x8, .f32⟩
  | 38 => ⟨S1x1x16384x8, .f32⟩
  | 39 => ⟨S1x16384x1x8, .f32⟩
  | 40 => ⟨S1x16384x8, .f32⟩
  | 41 => ⟨S1x16384x8x64, .bf16⟩
  | 42 => ⟨S1x16384x8x64, .bf16⟩
  | 43 => ⟨S1x16384x8x64, .bf16⟩
  | 44 => ⟨S1x4096x4x8x64, .bf16⟩
  | 45 => ⟨S1x4x4096x8x64, .bf16⟩
  | 46 => ⟨S_, .i32⟩
  | 47 => ⟨S_, .bf16⟩
  | 48 => ⟨S1x4x4096x8x64, .bf16⟩
  | 49 => ⟨S1x4x64x64x8x64, .bf16⟩
  | 50 => ⟨S1x4096x4x8x64, .bf16⟩
  | 51 => ⟨S1x4x4096x8x64, .bf16⟩
  | 52 => ⟨S_, .i32⟩
  | 53 => ⟨S_, .bf16⟩
  | 54 => ⟨S1x4x4096x8x64, .bf16⟩
  | 55 => ⟨S_, .bf16⟩
  | 56 => ⟨S1x4x64x8x64, .bf16⟩
  | 57 => ⟨S1x4x4224x8x64, .bf16⟩
  | 58 => ⟨S1x4x66x64x8x64, .bf16⟩
  | 59 => ⟨S1x4x64x64x8x64, .bf16⟩
  | 60 => ⟨S1x4x64x64x8x64, .bf16⟩
  | 61 => ⟨S1x4x64x64x8x64, .bf16⟩
  | 62 => ⟨S1x4x64x192x8x64, .bf16⟩
  | 63 => ⟨S1x4096x4x8x64, .bf16⟩
  | 64 => ⟨S1x4x4096x8x64, .bf16⟩
  | 65 => ⟨S_, .i32⟩
  | 66 => ⟨S_, .bf16⟩
  | 67 => ⟨S1x4x4096x8x64, .bf16⟩
  | 68 => ⟨S_, .bf16⟩
  | 69 => ⟨S1x4x64x8x64, .bf16⟩
  | 70 => ⟨S1x4x4224x8x64, .bf16⟩
  | 71 => ⟨S1x4x66x64x8x64, .bf16⟩
  | 72 => ⟨S1x4x64x64x8x64, .bf16⟩
  | 73 => ⟨S1x4x64x64x8x64, .bf16⟩
  | 74 => ⟨S1x4x64x64x8x64, .bf16⟩
  | 75 => ⟨S1x4x64x192x8x64, .bf16⟩
  | 76 => ⟨S64, .i32⟩
  | 77 => ⟨S192, .i32⟩
  | 78 => ⟨S1x192, .i32⟩
  | 79 => ⟨S_, .i32⟩
  | 80 => ⟨S1x192, .i32⟩
  | 81 => ⟨S1x192, .i32⟩
  | 82 => ⟨S64x1, .i32⟩
  | 83 => ⟨S64x192, .i32⟩
  | 84 => ⟨S64x192, .i32⟩
  | 85 => ⟨S64x192, .i32⟩
  | 86 => ⟨S64, .i32⟩
  | 87 => ⟨S64x1, .i32⟩
  | 88 => ⟨S_, .i32⟩
  | 89 => ⟨S64x1, .i32⟩
  | 90 => ⟨S64x1, .i32⟩
  | 91 => ⟨S_, .i32⟩
  | 92 => ⟨S64x1, .i32⟩
  | 93 => ⟨S64x1, .i32⟩
  | 94 => ⟨S1x192, .i32⟩
  | 95 => ⟨S64x192, .i32⟩
  | 96 => ⟨S64x192, .i32⟩
  | 97 => ⟨S64x192, .i32⟩
  | 98 => ⟨S64x192, .i32⟩
  | 99 => ⟨S_, .i32⟩
  | 100 => ⟨S64x192, .i32⟩
  | 101 => ⟨S64x192, .i1⟩
  | 102 => ⟨S1x64x192, .i1⟩
  | 103 => ⟨S_, .i32⟩
  | 104 => ⟨S64x192, .i32⟩
  | 105 => ⟨S64x192, .i1⟩
  | 106 => ⟨S64x1x192, .i1⟩
  | 107 => ⟨S64x64x192, .i1⟩
  | 108 => ⟨S64x64x192, .i1⟩
  | 109 => ⟨S64x64x192, .i1⟩
  | 110 => ⟨S_, .i32⟩
  | 111 => ⟨S64x192, .i32⟩
  | 112 => ⟨S64x192, .i1⟩
  | 113 => ⟨S64x1x192, .i1⟩
  | 114 => ⟨S64x64x192, .i1⟩
  | 115 => ⟨S64x64x192, .i1⟩
  | 116 => ⟨S_, .i32⟩
  | 117 => ⟨S64x192, .i32⟩
  | 118 => ⟨S64x192, .i32⟩
  | 119 => ⟨S_, .i32⟩
  | 120 => ⟨S64x192, .i32⟩
  | 121 => ⟨S64x192, .i1⟩
  | 122 => ⟨S_, .i32⟩
  | 123 => ⟨S_, .i32⟩
  | 124 => ⟨S64x192, .i32⟩
  | 125 => ⟨S64x192, .i32⟩
  | 126 => ⟨S64x192, .i32⟩
  | 127 => ⟨S64x192, .i32⟩
  | _ => ⟨S16384x512, .f32⟩

abbrev hbmTy0_2 (i : Nat) : BufTy := match i % 128 with
  | 0 => ⟨S_, .i32⟩
  | 1 => ⟨S64x192, .i32⟩
  | 2 => ⟨S64x192, .i32⟩
  | 3 => ⟨S64x192, .f32⟩
  | 4 => ⟨S_, .f32⟩
  | 5 => ⟨S64x192, .f32⟩
  | 6 => ⟨S64x192, .f32⟩
  | 7 => ⟨S64x192, .f32⟩
  | 8 => ⟨S_, .f32⟩
  | 9 => ⟨S64x192, .f32⟩
  | 10 => ⟨S64x192, .f32⟩
  | 11 => ⟨S_, .f32⟩
  | 12 => ⟨S64x192, .f32⟩
  | 13 => ⟨S64x192, .f32⟩
  | 14 => ⟨S64x192, .i32⟩
  | 15 => ⟨S_, .i32⟩
  | 16 => ⟨S64x192, .i32⟩
  | 17 => ⟨S64x192, .i32⟩
  | 18 => ⟨S_, .i32⟩
  | 19 => ⟨S64x192, .i32⟩
  | 20 => ⟨S64x192, .i32⟩
  | 21 => ⟨S_, .i32⟩
  | 22 => ⟨S64x192, .i32⟩
  | 23 => ⟨S64x192, .i1⟩
  | 24 => ⟨S64x192, .i32⟩
  | 25 => ⟨S64x192, .i32⟩
  | 26 => ⟨S64x192, .i32⟩
  | 27 => ⟨S_, .i32⟩
  | 28 => ⟨S64x192, .i32⟩
  | 29 => ⟨S64x192, .i1⟩
  | 30 => ⟨S_, .i32⟩
  | 31 => ⟨S64x192, .i32⟩
  | 32 => ⟨S64x192, .i32⟩
  | 33 => ⟨S64x192, .i32⟩
  | 34 => ⟨S64x192x1, .i32⟩
  | 35 => ⟨S64x192x8, .f32⟩
  | 36 => ⟨S64x8x192, .f32⟩
  | 37 => ⟨S1x1x1x64x8x192, .f32⟩
  | 38 => ⟨S1x4x64x8x192x64, .f32⟩
  | 39 => ⟨S1x4x64x64x8x192, .f32⟩
  | 40 => ⟨S_, .f32⟩
  | 41 => ⟨S1x4x64x64x8x192, .f32⟩
  | 42 => ⟨S1x4x64x64x8x192, .f32⟩
  | 43 => ⟨S1x1x64x64x1x192, .i1⟩
  | 44 => ⟨S1x4x64x64x8x192, .f32⟩
  | 45 => ⟨S1x4x64x64x8x192, .f32⟩
  | 46 => ⟨S_, .f32⟩
  | 47 => ⟨S_, .f32⟩
  | 48 => ⟨S1x4x64x64x8x192, .i1⟩
  | 49 => ⟨S1x4x64x64x8x192, .f32⟩
  | 50 => ⟨S1x4x64x64x8x192, .f32⟩
  | 51 => ⟨S_, .f32⟩
  | 52 => ⟨S1x4x64x64x8, .f32⟩
  | 53 => ⟨S1x4x64x64x8x1, .f32⟩
  | 54 => ⟨S1x4x64x64x8x192, .f32⟩
  | 55 => ⟨S1x4x64x64x8x192, .f32⟩
  | 56 => ⟨S1x4x64x64x8x192, .f32⟩
  | 57 => ⟨S_, .f32⟩
  | 58 => ⟨S1x4x64x64x8, .f32⟩
  | 59 => ⟨S1x4x64x64x8x192, .bf16⟩
  | 60 => ⟨S1x4x64x8x64x64, .f32⟩
  | 61 => ⟨S1x4x64x64x8x64, .f32⟩
  | 62 => ⟨S1x4x64x64x8x1, .f32⟩
  | 63 => ⟨S1x4x64x64x8x64, .f32⟩
  | 64 => ⟨S1x4x64x64x8x64, .f32⟩
  | 65 => ⟨S1x4x4096x8x64, .f32⟩
  | 66 => ⟨S1x4096x4x8x64, .f32⟩
  | 67 => ⟨S1x16384x8x64, .f32⟩
  | 68 => ⟨S1x4x4096x8, .f32⟩
  | 69 => ⟨S1x4096x4x8, .f32⟩
  | 70 => ⟨S1x16384x8, .f32⟩
  | 71 => ⟨S1x4x4096x8, .f32⟩
  | 72 => ⟨S1x4096x4x8, .f32⟩
  | 73 => ⟨S1x16384x8, .f32⟩
  | 74 => ⟨S1x16384x8x64, .bf16⟩
  | 75 => ⟨S1x16384x8x64, .bf16⟩
  | 76 => ⟨S1x16384x8x64, .bf16⟩
  | 77 => ⟨S1x1024x16x8x64, .bf16⟩
  | 78 => ⟨S1x16x1024x8x64, .bf16⟩
  | 79 => ⟨S_, .i32⟩
  | 80 => ⟨S_, .bf16⟩
  | 81 => ⟨S1x16x1024x8x64, .bf16⟩
  | 82 => ⟨S1x16x16x64x8x64, .bf16⟩
  | 83 => ⟨S1x1024x16x8x64, .bf16⟩
  | 84 => ⟨S1x16x1024x8x64, .bf16⟩
  | 85 => ⟨S_, .i32⟩
  | 86 => ⟨S_, .bf16⟩
  | 87 => ⟨S1x16x1024x8x64, .bf16⟩
  | 88 => ⟨S_, .bf16⟩
  | 89 => ⟨S1x16x64x8x64, .bf16⟩
  | 90 => ⟨S1x16x1152x8x64, .bf16⟩
  | 91 => ⟨S1x16x18x64x8x64, .bf16⟩
  | 92 => ⟨S1x16x16x64x8x64, .bf16⟩
  | 93 => ⟨S1x16x16x64x8x64, .bf16⟩
  | 94 => ⟨S1x16x16x64x8x64, .bf16⟩
  | 95 => ⟨S1x16x16x192x8x64, .bf16⟩
  | 96 => ⟨S1x1024x16x8x64, .bf16⟩
  | 97 => ⟨S1x16x1024x8x64, .bf16⟩
  | 98 => ⟨S_, .i32⟩
  | 99 => ⟨S_, .bf16⟩
  | 100 => ⟨S1x16x1024x8x64, .bf16⟩
  | 101 => ⟨S_, .bf16⟩
  | 102 => ⟨S1x16x64x8x64, .bf16⟩
  | 103 => ⟨S1x16x1152x8x64, .bf16⟩
  | 104 => ⟨S1x16x18x64x8x64, .bf16⟩
  | 105 => ⟨S1x16x16x64x8x64, .bf16⟩
  | 106 => ⟨S1x16x16x64x8x64, .bf16⟩
  | 107 => ⟨S1x16x16x64x8x64, .bf16⟩
  | 108 => ⟨S1x16x16x192x8x64, .bf16⟩
  | 109 => ⟨S64, .i32⟩
  | 110 => ⟨S192, .i32⟩
  | 111 => ⟨S1x192, .i32⟩
  | 112 => ⟨S_, .i32⟩
  | 113 => ⟨S1x192, .i32⟩
  | 114 => ⟨S1x192, .i32⟩
  | 115 => ⟨S64x1, .i32⟩
  | 116 => ⟨S64x192, .i32⟩
  | 117 => ⟨S64x192, .i32⟩
  | 118 => ⟨S64x192, .i32⟩
  | 119 => ⟨S16, .i32⟩
  | 120 => ⟨S16x1, .i32⟩
  | 121 => ⟨S_, .i32⟩
  | 122 => ⟨S16x1, .i32⟩
  | 123 => ⟨S16x1, .i32⟩
  | 124 => ⟨S_, .i32⟩
  | 125 => ⟨S16x1, .i32⟩
  | 126 => ⟨S16x1, .i32⟩
  | 127 => ⟨S1x192, .i32⟩
  | _ => ⟨S16384x512, .f32⟩

abbrev hbmTy0_3 (i : Nat) : BufTy := match i % 128 with
  | 0 => ⟨S16x192, .i32⟩
  | 1 => ⟨S16x192, .i32⟩
  | 2 => ⟨S16x192, .i32⟩
  | 3 => ⟨S64x192, .i32⟩
  | 4 => ⟨S_, .i32⟩
  | 5 => ⟨S64x192, .i32⟩
  | 6 => ⟨S64x192, .i1⟩
  | 7 => ⟨S1x64x192, .i1⟩
  | 8 => ⟨S_, .i32⟩
  | 9 => ⟨S16x192, .i32⟩
  | 10 => ⟨S16x192, .i1⟩
  | 11 => ⟨S16x1x192, .i1⟩
  | 12 => ⟨S16x64x192, .i1⟩
  | 13 => ⟨S16x64x192, .i1⟩
  | 14 => ⟨S16x64x192, .i1⟩
  | 15 => ⟨S_, .i32⟩
  | 16 => ⟨S16x192, .i32⟩
  | 17 => ⟨S16x192, .i1⟩
  | 18 => ⟨S16x1x192, .i1⟩
  | 19 => ⟨S16x64x192, .i1⟩
  | 20 => ⟨S16x64x192, .i1⟩
  | 21 => ⟨S_, .i32⟩
  | 22 => ⟨S64x192, .i32⟩
  | 23 => ⟨S64x192, .i32⟩
  | 24 => ⟨S_, .i32⟩
  | 25 => ⟨S64x192, .i32⟩
  | 26 => ⟨S64x192, .i1⟩
  | 27 => ⟨S_, .i32⟩
  | 28 => ⟨S_, .i32⟩
  | 29 => ⟨S64x192, .i32⟩
  | 30 => ⟨S64x192, .i32⟩
  | 31 => ⟨S64x192, .i32⟩
  | 32 => ⟨S64x192, .i32⟩
  | 33 => ⟨S_, .i32⟩
  | 34 => ⟨S64x192, .i32⟩
  | 35 => ⟨S64x192, .i32⟩
  | 36 => ⟨S64x192, .f32⟩
  | 37 => ⟨S_, .f32⟩
  | 38 => ⟨S64x192, .f32⟩
  | 39 => ⟨S64x192, .f32⟩
  | 40 => ⟨S64x192, .f32⟩
  | 41 => ⟨S_, .f32⟩
  | 42 => ⟨S64x192, .f32⟩
  | 43 => ⟨S64x192, .f32⟩
  | 44 => ⟨S_, .f32⟩
  | 45 => ⟨S64x192, .f32⟩
  | 46 => ⟨S64x192, .f32⟩
  | 47 => ⟨S64x192, .i32⟩
  | 48 => ⟨S_, .i32⟩
  | 49 => ⟨S64x192, .i32⟩
  | 50 => ⟨S64x192, .i32⟩
  | 51 => ⟨S_, .i32⟩
  | 52 => ⟨S64x192, .i32⟩
  | 53 => ⟨S64x192, .i32⟩
  | 54 => ⟨S_, .i32⟩
  | 55 => ⟨S64x192, .i32⟩
  | 56 => ⟨S64x192, .i1⟩
  | 57 => ⟨S64x192, .i32⟩
  | 58 => ⟨S64x192, .i32⟩
  | 59 => ⟨S64x192, .i32⟩
  | 60 => ⟨S_, .i32⟩
  | 61 => ⟨S64x192, .i32⟩
  | 62 => ⟨S64x192, .i1⟩
  | 63 => ⟨S_, .i32⟩
  | 64 => ⟨S64x192, .i32⟩
  | 65 => ⟨S64x192, .i32⟩
  | 66 => ⟨S64x192, .i32⟩
  | 67 => ⟨S64x192x1, .i32⟩
  | 68 => ⟨S64x192x8, .f32⟩
  | 69 => ⟨S64x8x192, .f32⟩
  | 70 => ⟨S1x1x1x64x8x192, .f32⟩
  | 71 => ⟨S1x16x16x8x192x64, .f32⟩
  | 72 => ⟨S1x16x16x64x8x192, .f32⟩
  | 73 => ⟨S_, .f32⟩
  | 74 => ⟨S1x16x16x64x8x192, .f32⟩
  | 75 => ⟨S1x16x16x64x8x192, .f32⟩
  | 76 => ⟨S1x1x16x64x1x192, .i1⟩
  | 77 => ⟨S1x16x16x64x8x192, .f32⟩
  | 78 => ⟨S1x16x16x64x8x192, .f32⟩
  | 79 => ⟨S_, .f32⟩
  | 80 => ⟨S_, .f32⟩
  | 81 => ⟨S1x16x16x64x8x192, .i1⟩
  | 82 => ⟨S1x16x16x64x8x192, .f32⟩
  | 83 => ⟨S1x16x16x64x8x192, .f32⟩
  | 84 => ⟨S_, .f32⟩
  | 85 => ⟨S1x16x16x64x8, .f32⟩
  | 86 => ⟨S1x16x16x64x8x1, .f32⟩
  | 87 => ⟨S1x16x16x64x8x192, .f32⟩
  | 88 => ⟨S1x16x16x64x8x192, .f32⟩
  | 89 => ⟨S1x16x16x64x8x192, .f32⟩
  | 90 => ⟨S_, .f32⟩
  | 91 => ⟨S1x16x16x64x8, .f32⟩
  | 92 => ⟨S1x16x16x64x8x192, .bf16⟩
  | 93 => ⟨S1x16x16x8x64x64, .f32⟩
  | 94 => ⟨S1x16x16x64x8x64, .f32⟩
  | 95 => ⟨S1x16x16x64x8x1, .f32⟩
  | 96 => ⟨S1x16x16x64x8x64, .f32⟩
  | 97 => ⟨S1x16x16x64x8x64, .f32⟩
  | 98 => ⟨S1x16x1024x8x64, .f32⟩
  | 99 => ⟨S1x1024x16x8x64, .f32⟩
  | 100 => ⟨S1x16384x8x64, .f32⟩
  | 101 => ⟨S1x16x1024x8, .f32⟩
  | 102 => ⟨S1x1024x16x8, .f32⟩
  | 103 => ⟨S1x16384x8, .f32⟩
  | 104 => ⟨S1x16x1024x8, .f32⟩
  | 105 => ⟨S1x1024x16x8, .f32⟩
  | 106 => ⟨S1x16384x8, .f32⟩
  | 107 => ⟨S1x16384x8, .f32⟩
  | 108 => ⟨S1x16384x8, .f32⟩
  | 109 => ⟨S1x16384x8, .f32⟩
  | 110 => ⟨S1x16384x8, .f32⟩
  | 111 => ⟨S1x16384x8, .f32⟩
  | 112 => ⟨S1x16384x8, .f32⟩
  | 113 => ⟨S1x16384x8, .f32⟩
  | 114 => ⟨S1x16384x8, .f32⟩
  | 115 => ⟨S1x16384x8, .f32⟩
  | 116 => ⟨S1x16384x8, .f32⟩
  | 117 => ⟨S1x16384x8, .f32⟩
  | 118 => ⟨S1x16384x8, .f32⟩
  | 119 => ⟨S1x16384x8, .f32⟩
  | 120 => ⟨S1x16384x8x1, .f32⟩
  | 121 => ⟨S1x16384x8x64, .f32⟩
  | 122 => ⟨S1x16384x8x64, .f32⟩
  | 123 => ⟨S1x16384x8x1, .f32⟩
  | 124 => ⟨S1x16384x8x64, .f32⟩
  | 125 => ⟨S1x16384x8x64, .f32⟩
  | 126 => ⟨S1x16384x8x64, .f32⟩
  | 127 => ⟨S1x16384x8x1, .f32⟩
  | _ => ⟨S16384x512, .f32⟩

abbrev hbmTy0_4 (i : Nat) : BufTy := match i % 128 with
  | 0 => ⟨S1x16384x8x64, .f32⟩
  | 1 => ⟨S1x16384x8x64, .f32⟩
  | 2 => ⟨S1x16384x8x64, .f32⟩
  | 3 => ⟨S1x16384x8x1, .f32⟩
  | 4 => ⟨S1x16384x8x64, .f32⟩
  | 5 => ⟨S1x16384x8x64, .f32⟩
  | 6 => ⟨S1x16384x8, .f32⟩
  | 7 => ⟨S1x16384x8, .f32⟩
  | 8 => ⟨S16384x8x1, .f32⟩
  | 9 => ⟨S16384x8x64, .f32⟩
  | 10 => ⟨S16384x8x64, .f32⟩
  | 11 => ⟨S16384x8x64, .f32⟩
  | 12 => ⟨S_, .f32⟩
  | 13 => ⟨S16384x8, .f32⟩
  | 14 => ⟨S16384x8x1, .f32⟩
  | 15 => ⟨S16384x8x32, .f32⟩
  | 16 => ⟨S16384x8x32, .f32⟩
  | 17 => ⟨S16384x8x64, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .bf16⟩
  | 24 => ⟨S8x32, .f32⟩
  | 25 => ⟨S_, .i32⟩
  | 26 => ⟨S_, .f32⟩
  | 27 => ⟨S16x128, .f32⟩
  | 28 => ⟨S128, .i32⟩
  | 29 => ⟨S256, .i32⟩
  | 30 => ⟨S1x256, .i32⟩
  | 31 => ⟨S_, .i32⟩
  | 32 => ⟨S1x256, .i32⟩
  | 33 => ⟨S1x256, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S_, .i32⟩
  | 46 => ⟨S128x256, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i32⟩
  | 53 => ⟨S128x256, .f32⟩
  | 54 => ⟨S_, .f32⟩
  | 55 => ⟨S128x256, .f32⟩
  | 56 => ⟨S128x256, .f32⟩
  | 57 => ⟨S128x256, .f32⟩
  | 58 => ⟨S_, .f32⟩
  | 59 => ⟨S128x256, .f32⟩
  | 60 => ⟨S128x256, .f32⟩
  | 61 => ⟨S_, .f32⟩
  | 62 => ⟨S128x256, .f32⟩
  | 63 => ⟨S128x256, .f32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S128x256, .i32⟩
  | 75 => ⟨S128x256, .i32⟩
  | 76 => ⟨S128x256, .i32⟩
  | 77 => ⟨S32768, .i32⟩
  | 78 => ⟨S32768x1, .i32⟩
  | 79 => ⟨S128, .i32⟩
  | 80 => ⟨S1x128, .i32⟩
  | 81 => ⟨S32768x128, .i32⟩
  | 82 => ⟨S32768x128, .i32⟩
  | 83 => ⟨S32768x128, .i1⟩
  | 84 => ⟨S32768x128, .bf16⟩
  | 85 => ⟨S16x32768, .f32⟩
  | 86 => ⟨S8x32768, .f32⟩
  | 87 => ⟨S8x128x256, .f32⟩
  | 88 => ⟨S128, .i32⟩
  | 89 => ⟨S256, .i32⟩
  | 90 => ⟨S1x256, .i32⟩
  | 91 => ⟨S_, .i32⟩
  | 92 => ⟨S1x256, .i32⟩
  | 93 => ⟨S1x256, .i32⟩
  | 94 => ⟨S128x1, .i32⟩
  | 95 => ⟨S128x256, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .f32⟩
  | 103 => ⟨S_, .f32⟩
  | 104 => ⟨S8x128x256, .i1⟩
  | 105 => ⟨S8x128x256, .f32⟩
  | 106 => ⟨S8x128x256, .f32⟩
  | 107 => ⟨S16384x512, .bf16⟩
  | 108 => ⟨S8x128x256, .f32⟩
  | 109 => ⟨S16384x512, .bf16⟩
  | 110 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x512, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S16x128, .f32⟩
  | .local _ .vmem, ⟨3, _⟩ => ⟨S16x4096, .f32⟩
  | .local _ .vmem, ⟨4, _⟩ => ⟨S16x4096, .f32⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S256x128, .bf16⟩
  | .local _ .vmem, ⟨10, _⟩ => ⟨S256x128, .bf16⟩
  | .local _ .vmem, ⟨11, _⟩ => ⟨S4096x128, .bf16⟩
  | .local _ .vmem, ⟨12, _⟩ => ⟨S4096x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S4096x128, .bf16⟩
  | .local _ .vmem, ⟨18, _⟩ => ⟨S4096x128, .bf16⟩
  | .local _ .vmem, ⟨19, _⟩ => ⟨S256x128, .bf16⟩
  | .local _ .vmem, ⟨20, _⟩ => ⟨S256x128, .bf16⟩
  | .local _ .vmem, ⟨21, _⟩ => ⟨S256x128, .f32⟩
  | .local _ .vmem, ⟨22, _⟩ => ⟨S256x128, .f32⟩
  | .local _ .vmem, ⟨23, _⟩ => ⟨S4096x128, .f32⟩
  | .local _ .vmem, ⟨24, _⟩ => ⟨S4096x128, .f32⟩
  | .local _ .vmem, ⟨25, _⟩ => ⟨S256x128, .f32⟩
  | .local _ .vmem, ⟨26, _⟩ => ⟨S256x128, .f32⟩
  | .local _ .vmem, ⟨27, _⟩ => ⟨S2x128x256, .f32⟩
  | .local _ .vmem, ⟨28, _⟩ => ⟨S2x128x256, .f32⟩
  | .local _ .vmem, ⟨29, _⟩ => ⟨S4096x128, .bf16⟩
  | .local _ .vmem, ⟨30, _⟩ => ⟨S4096x128, .bf16⟩
  | .local _ .vmem, ⟨31, _⟩ => ⟨S4096x128, .bf16⟩
  | .local _ .vmem, ⟨32, _⟩ => ⟨S4096x128, .bf16⟩
  | .local _ .vmem, ⟨33, _⟩ => ⟨S4096x128, .f32⟩
  | .local _ .vmem, ⟨34, _⟩ => ⟨S4096x128, .f32⟩
  | .local _ .vmem, ⟨35, _⟩ => ⟨S4608x128, .f32⟩
  | .local _ .vmem, ⟨36, _⟩ => ⟨S4608x128, .f32⟩
  | .local _ .vmem, ⟨37, _⟩ => ⟨S4608x128, .f32⟩
  | .local _ .vmem, ⟨38, _⟩ => ⟨S4096x128, .f32⟩
  | .local _ .vmem, ⟨39, _⟩ => ⟨S4096x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_c_12 : Ref sig .tc := ⟨.hbm, 90, rfl⟩
abbrev main_call3_v0 : Ref sig .tc := ⟨.hbm, 91, rfl⟩
abbrev main_call3_v1 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_c_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_call6_v0 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_27 : Ref sig .tc := ⟨.hbm, 180, rfl⟩
abbrev main_call7_v0 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_29 : Ref sig .tc := ⟨.hbm, 193, rfl⟩
abbrev main_call8_v0 : Ref sig .tc := ⟨.hbm, 194, rfl⟩
abbrev main_v147 : Ref sig .tc := ⟨.hbm, 195, rfl⟩
abbrev main_cst_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_31 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_c_32 : Ref sig .tc := ⟨.hbm, 216, rfl⟩
abbrev main_v166 : Ref sig .tc := ⟨.hbm, 217, rfl⟩
abbrev main_v167 : Ref sig .tc := ⟨.hbm, 218, rfl⟩
abbrev main_c_33 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_34 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_35 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_c_36 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_c_37 : Ref sig .tc := ⟨.hbm, 244, rfl⟩
abbrev main_v189 : Ref sig .tc := ⟨.hbm, 245, rfl⟩
abbrev main_v190 : Ref sig .tc := ⟨.hbm, 246, rfl⟩
abbrev main_c_38 : Ref sig .tc := ⟨.hbm, 247, rfl⟩
abbrev main_v191 : Ref sig .tc := ⟨.hbm, 248, rfl⟩
abbrev main_v192 : Ref sig .tc := ⟨.hbm, 249, rfl⟩
abbrev main_c_39 : Ref sig .tc := ⟨.hbm, 250, rfl⟩
abbrev main_c_40 : Ref sig .tc := ⟨.hbm, 251, rfl⟩
abbrev main_call9_v0 : Ref sig .tc := ⟨.hbm, 252, rfl⟩
abbrev main_call9_v1 : Ref sig .tc := ⟨.hbm, 253, rfl⟩
abbrev main_v193 : Ref sig .tc := ⟨.hbm, 254, rfl⟩
abbrev main_v194 : Ref sig .tc := ⟨.hbm, 255, rfl⟩
abbrev main_c_41 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_42 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_43 : Ref sig .tc := ⟨.hbm, 264, rfl⟩
abbrev main_v201 : Ref sig .tc := ⟨.hbm, 265, rfl⟩
abbrev main_v202 : Ref sig .tc := ⟨.hbm, 266, rfl⟩
abbrev main_cst_44 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_45 : Ref sig .tc := ⟨.hbm, 271, rfl⟩
abbrev main_v206 : Ref sig .tc := ⟨.hbm, 272, rfl⟩
abbrev main_v207 : Ref sig .tc := ⟨.hbm, 273, rfl⟩
abbrev main_c_46 : Ref sig .tc := ⟨.hbm, 274, rfl⟩
abbrev main_v208 : Ref sig .tc := ⟨.hbm, 275, rfl⟩
abbrev main_v209 : Ref sig .tc := ⟨.hbm, 276, rfl⟩
abbrev main_c_47 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_48 : Ref sig .tc := ⟨.hbm, 283, rfl⟩
abbrev main_v215 : Ref sig .tc := ⟨.hbm, 284, rfl⟩
abbrev main_v216 : Ref sig .tc := ⟨.hbm, 285, rfl⟩
abbrev main_c_49 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_cst_50 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_cst_51 : Ref sig .tc := ⟨.hbm, 302, rfl⟩
abbrev main_call11_v0 : Ref sig .tc := ⟨.hbm, 303, rfl⟩
abbrev main_call11_v1 : Ref sig .tc := ⟨.hbm, 304, rfl⟩
abbrev main_call11_v2 : Ref sig .tc := ⟨.hbm, 305, rfl⟩
abbrev main_v231 : Ref sig .tc := ⟨.hbm, 306, rfl⟩
abbrev main_cst_52 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_cst_53 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_c_54 : Ref sig .tc := ⟨.hbm, 335, rfl⟩
abbrev main_call12_v0 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_c_55 : Ref sig .tc := ⟨.hbm, 341, rfl⟩
abbrev main_call13_v0 : Ref sig .tc := ⟨.hbm, 342, rfl⟩
abbrev main_v262 : Ref sig .tc := ⟨.hbm, 343, rfl⟩
abbrev main_cst_56 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_c_57 : Ref sig .tc := ⟨.hbm, 354, rfl⟩
abbrev main_call14_v0 : Ref sig .tc := ⟨.hbm, 355, rfl⟩
abbrev main_v272 : Ref sig .tc := ⟨.hbm, 356, rfl⟩
abbrev main_cst_58 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_c_59 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_c_60 : Ref sig .tc := ⟨.hbm, 377, rfl⟩
abbrev main_v291 : Ref sig .tc := ⟨.hbm, 378, rfl⟩
abbrev main_v292 : Ref sig .tc := ⟨.hbm, 379, rfl⟩
abbrev main_c_61 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_c_62 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_c_63 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_c_64 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_c_65 : Ref sig .tc := ⟨.hbm, 405, rfl⟩
abbrev main_v314 : Ref sig .tc := ⟨.hbm, 406, rfl⟩
abbrev main_v315 : Ref sig .tc := ⟨.hbm, 407, rfl⟩
abbrev main_c_66 : Ref sig .tc := ⟨.hbm, 408, rfl⟩
abbrev main_v316 : Ref sig .tc := ⟨.hbm, 409, rfl⟩
abbrev main_v317 : Ref sig .tc := ⟨.hbm, 410, rfl⟩
abbrev main_c_67 : Ref sig .tc := ⟨.hbm, 411, rfl⟩
abbrev main_c_68 : Ref sig .tc := ⟨.hbm, 412, rfl⟩
abbrev main_call15_v0 : Ref sig .tc := ⟨.hbm, 413, rfl⟩
abbrev main_call15_v1 : Ref sig .tc := ⟨.hbm, 414, rfl⟩
abbrev main_v318 : Ref sig .tc := ⟨.hbm, 415, rfl⟩
abbrev main_v319 : Ref sig .tc := ⟨.hbm, 416, rfl⟩
abbrev main_c_69 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_cst_70 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_cst_71 : Ref sig .tc := ⟨.hbm, 425, rfl⟩
abbrev main_v326 : Ref sig .tc := ⟨.hbm, 426, rfl⟩
abbrev main_v327 : Ref sig .tc := ⟨.hbm, 427, rfl⟩
abbrev main_cst_72 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_c_73 : Ref sig .tc := ⟨.hbm, 432, rfl⟩
abbrev main_v331 : Ref sig .tc := ⟨.hbm, 433, rfl⟩
abbrev main_v332 : Ref sig .tc := ⟨.hbm, 434, rfl⟩
abbrev main_c_74 : Ref sig .tc := ⟨.hbm, 435, rfl⟩
abbrev main_v333 : Ref sig .tc := ⟨.hbm, 436, rfl⟩
abbrev main_v334 : Ref sig .tc := ⟨.hbm, 437, rfl⟩
abbrev main_c_75 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_c_76 : Ref sig .tc := ⟨.hbm, 444, rfl⟩
abbrev main_v340 : Ref sig .tc := ⟨.hbm, 445, rfl⟩
abbrev main_v341 : Ref sig .tc := ⟨.hbm, 446, rfl⟩
abbrev main_c_77 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_cst_78 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_cst_79 : Ref sig .tc := ⟨.hbm, 463, rfl⟩
abbrev main_call17_v0 : Ref sig .tc := ⟨.hbm, 464, rfl⟩
abbrev main_call17_v1 : Ref sig .tc := ⟨.hbm, 465, rfl⟩
abbrev main_call17_v2 : Ref sig .tc := ⟨.hbm, 466, rfl⟩
abbrev main_v356 : Ref sig .tc := ⟨.hbm, 467, rfl⟩
abbrev main_cst_80 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_cst_81 : Ref sig .tc := ⟨.hbm, 474, rfl⟩
abbrev main_v362 : Ref sig .tc := ⟨.hbm, 475, rfl⟩
abbrev main_v363 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_cst_82 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_cst_83 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_c_84 : Ref sig .tc := ⟨.hbm, 537, rfl⟩
abbrev main_call18_v0 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_c_85 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_v431 : Ref sig .tc := ⟨.hbm, 549, rfl⟩
abbrev main_c_86 : Ref sig .tc := ⟨.hbm, 550, rfl⟩
abbrev main_v432 : Ref sig .tc := ⟨.hbm, 551, rfl⟩
abbrev main_v433 : Ref sig .tc := ⟨.hbm, 552, rfl⟩
abbrev main_c_87 : Ref sig .tc := ⟨.hbm, 553, rfl⟩
abbrev main_v434 : Ref sig .tc := ⟨.hbm, 554, rfl⟩
abbrev main_v435 : Ref sig .tc := ⟨.hbm, 555, rfl⟩
abbrev main_c_88 : Ref sig .tc := ⟨.hbm, 556, rfl⟩
abbrev main_c_89 : Ref sig .tc := ⟨.hbm, 557, rfl⟩
abbrev main_call19_v0 : Ref sig .tc := ⟨.hbm, 558, rfl⟩
abbrev main_call19_v1 : Ref sig .tc := ⟨.hbm, 559, rfl⟩
abbrev main_v436 : Ref sig .tc := ⟨.hbm, 560, rfl⟩
abbrev main_v437 : Ref sig .tc := ⟨.hbm, 561, rfl⟩
abbrev main_c_90 : Ref sig .tc := ⟨.hbm, 562, rfl⟩
abbrev main_v438 : Ref sig .tc := ⟨.hbm, 563, rfl⟩
abbrev main_v439 : Ref sig .tc := ⟨.hbm, 564, rfl⟩
abbrev main_v440 : Ref sig .tc := ⟨.hbm, 565, rfl⟩
abbrev main_cst_91 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_cst_92 : Ref sig .tc := ⟨.hbm, 570, rfl⟩
abbrev main_v444 : Ref sig .tc := ⟨.hbm, 571, rfl⟩
abbrev main_v445 : Ref sig .tc := ⟨.hbm, 572, rfl⟩
abbrev main_cst_93 : Ref sig .tc := ⟨.hbm, 573, rfl⟩
abbrev main_v446 : Ref sig .tc := ⟨.hbm, 574, rfl⟩
abbrev main_v447 : Ref sig .tc := ⟨.hbm, 575, rfl⟩
abbrev main_v448 : Ref sig .tc := ⟨.hbm, 576, rfl⟩
abbrev main_c_94 : Ref sig .tc := ⟨.hbm, 577, rfl⟩
abbrev main_v449 : Ref sig .tc := ⟨.hbm, 578, rfl⟩
abbrev main_v450 : Ref sig .tc := ⟨.hbm, 579, rfl⟩
abbrev main_c_95 : Ref sig .tc := ⟨.hbm, 580, rfl⟩
abbrev main_v451 : Ref sig .tc := ⟨.hbm, 581, rfl⟩
abbrev main_v452 : Ref sig .tc := ⟨.hbm, 582, rfl⟩
abbrev main_c_96 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_v456 : Ref sig .tc := ⟨.hbm, 587, rfl⟩
abbrev main_v457 : Ref sig .tc := ⟨.hbm, 588, rfl⟩
abbrev main_v458 : Ref sig .tc := ⟨.hbm, 589, rfl⟩
abbrev main_v459 : Ref sig .tc := ⟨.hbm, 590, rfl⟩
abbrev main_v460 : Ref sig .tc := ⟨.hbm, 591, rfl⟩
abbrev main_v461 : Ref sig .tc := ⟨.hbm, 592, rfl⟩
abbrev main_v462 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_v468 : Ref sig .tc := ⟨.hbm, 599, rfl⟩
abbrev main_v469 : Ref sig .tc := ⟨.hbm, 600, rfl⟩
abbrev main_v470 : Ref sig .tc := ⟨.hbm, 601, rfl⟩
abbrev main_v471 : Ref sig .tc := ⟨.hbm, 602, rfl⟩
abbrev main_c_97 : Ref sig .tc := ⟨.hbm, 603, rfl⟩
abbrev main_v472 : Ref sig .tc := ⟨.hbm, 604, rfl⟩
abbrev main_v473 : Ref sig .tc := ⟨.hbm, 605, rfl⟩
abbrev main_v474 : Ref sig .tc := ⟨.hbm, 606, rfl⟩
abbrev main_v475 : Ref sig .tc := ⟨.hbm, 607, rfl⟩
abbrev main_v476 : Ref sig .tc := ⟨.hbm, 608, rfl⟩
abbrev main_v477 : Ref sig .tc := ⟨.hbm, 609, rfl⟩
abbrev main_v478 : Ref sig .tc := ⟨.hbm, 610, rfl⟩
abbrev main_c_98 : Ref sig .tc := ⟨.hbm, 611, rfl⟩
abbrev main_v479 : Ref sig .tc := ⟨.hbm, 612, rfl⟩
abbrev main_v480 : Ref sig .tc := ⟨.hbm, 613, rfl⟩
abbrev main_cst_99 : Ref sig .tc := ⟨.hbm, 614, rfl⟩
abbrev main_call21_v0 : Ref sig .tc := ⟨.hbm, 615, rfl⟩
abbrev main_call21_v1 : Ref sig .tc := ⟨.hbm, 616, rfl⟩
abbrev main_call21_v2 : Ref sig .tc := ⟨.hbm, 617, rfl⟩
abbrev main_v481 : Ref sig .tc := ⟨.hbm, 618, rfl⟩
abbrev main_v482 : Ref sig .tc := ⟨.hbm, 619, rfl⟩
abbrev main_v483 : Ref sig .tc := ⟨.hbm, 620, rfl⟩
abbrev main_v484_0 : Ref sig .tc := ⟨.hbm, 621, rfl⟩
abbrev main_v484_1 : Ref sig .tc := ⟨.hbm, 622, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc1_scratch4 : Ref sig .tc := ⟨.vmem, 37, rfl⟩
abbrev cc1_scratch5 : Ref sig .tc := ⟨.vmem, 38, rfl⟩
abbrev cc1_scratch6 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg0.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c63_i32 : BitVec 32 := 63#32
  let v2 : BitVec 32 := Scalar.minsi v1 c63_i32
  let c0_i32 : BitVec 32 := 0#32
  ![v2.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S4096x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S4096x128 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== Kernel15.lean ====
abbrev S16384x512 : Shape := ⟨2, ![16384, 512]⟩
abbrev S32x8 : Shape := ⟨2, ![32, 8]⟩
abbrev S1x16384x8x64 : Shape := ⟨4, ![1, 16384, 8, 64]⟩
abbrev S1x16384x1x8x64 : Shape := ⟨5, ![1, 16384, 1, 8, 64]⟩
abbrev S1x1x16384x8x64 : Shape := ⟨5, ![1, 1, 16384, 8, 64]⟩
abbrev S_ : Shape := ⟨0, ![]⟩
abbrev S1x1x256x64x8x64 : Shape := ⟨6, ![1, 1, 256, 64, 8, 64]⟩
abbrev S1x1x64x8x64 : Shape := ⟨5, ![1, 1, 64, 8, 64]⟩
abbrev S1x1x16512x8x64 : Shape := ⟨5, ![1, 1, 16512, 8, 64]⟩
abbrev S1x1x258x64x8x64 : Shape := ⟨6, ![1, 1, 258, 64, 8, 64]⟩
abbrev S1x1x256x192x8x64 : Shape := ⟨6, ![1, 1, 256, 192, 8, 64]⟩
abbrev S64 : Shape := ⟨1, ![64]⟩
abbrev S192 : Shape := ⟨1, ![192]⟩
abbrev S1x192 : Shape := ⟨2, ![1, 192]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x8 : Shape := ⟨3, ![64, 192, 8]⟩
abbrev S64x8x192 : Shape := ⟨3, ![64, 8, 192]⟩
abbrev S1x1x1x64x8x192 : Shape := ⟨6, ![1, 1, 1, 64, 8, 192]⟩
abbrev S1x1x256x8x192x64 : Shape := ⟨6, ![1, 1, 256, 8, 192, 64]⟩
abbrev S1x1x256x64x8x192 : Shape := ⟨6, ![1, 1, 256, 64, 8, 192]⟩
abbrev S1x1x256x64x1x192 : Shape := ⟨6, ![1, 1, 256, 64, 1, 192]⟩
abbrev S1x1x256x64x8 : Shape := ⟨5, ![1, 1, 256, 64, 8]⟩
abbrev S1x1x256x64x8x1 : Shape := ⟨6, ![1, 1, 256, 64, 8, 1]⟩
abbrev S1x1x256x8x64x64 : Shape := ⟨6, ![1, 1, 256, 8, 64, 64]⟩
abbrev S1x1x16384x8 : Shape := ⟨4, ![1, 1, 16384, 8]⟩
abbrev S1x16384x1x8 : Shape := ⟨4, ![1, 16384, 1, 8]⟩
abbrev S1x16384x8 : Shape := ⟨3, ![1, 16384, 8]⟩
abbrev S1x4096x4x8x64 : Shape := ⟨5, ![1, 4096, 4, 8, 64]⟩
abbrev S1x4x4096x8x64 : Shape := ⟨5, ![1, 4, 4096, 8, 64]⟩
abbrev S1x4x64x64x8x64 : Shape := ⟨6, ![1, 4, 64, 64, 8, 64]⟩
abbrev S1x4x64x8x64 : Shape := ⟨5, ![1, 4, 64, 8, 64]⟩
abbrev S1x4x4224x8x64 : Shape := ⟨5, ![1, 4, 4224, 8, 64]⟩
abbrev S1x4x66x64x8x64 : Shape := ⟨6, ![1, 4, 66, 64, 8, 64]⟩
abbrev S1x4x64x192x8x64 : Shape := ⟨6, ![1, 4, 64, 192, 8, 64]⟩
abbrev S64x1x192 : Shape := ⟨3, ![64, 1, 192]⟩
abbrev S64x64x192 : Shape := ⟨3, ![64, 64, 192]⟩
abbrev S1x4x64x8x192x64 : Shape := ⟨6, ![1, 4, 64, 8, 192, 64]⟩
abbrev S1x4x64x64x8x192 : Shape := ⟨6, ![1, 4, 64, 64, 8, 192]⟩
abbrev S1x1x64x64x1x192 : Shape := ⟨6, ![1, 1, 64, 64, 1, 192]⟩
abbrev S1x4x64x64x8 : Shape := ⟨5, ![1, 4, 64, 64, 8]⟩
abbrev S1x4x64x64x8x1 : Shape := ⟨6, ![1, 4, 64, 64, 8, 1]⟩
abbrev S1x4x64x8x64x64 : Shape := ⟨6, ![1, 4, 64, 8, 64, 64]⟩
abbrev S1x4x4096x8 : Shape := ⟨4, ![1, 4, 4096, 8]⟩
abbrev S1x4096x4x8 : Shape := ⟨4, ![1, 4096, 4, 8]⟩
abbrev S1x1024x16x8x64 : Shape := ⟨5, ![1, 1024, 16, 8, 64]⟩
abbrev S1x16x1024x8x64 : Shape := ⟨5, ![1, 16, 1024, 8, 64]⟩
abbrev S1x16x16x64x8x64 : Shape := ⟨6, ![1, 16, 16, 64, 8, 64]⟩
abbrev S1x16x64x8x64 : Shape := ⟨5, ![1, 16, 64, 8, 64]⟩
abbrev S1x16x1152x8x64 : Shape := ⟨5, ![1, 16, 1152, 8, 64]⟩
abbrev S1x16x18x64x8x64 : Shape := ⟨6, ![1, 16, 18, 64, 8, 64]⟩
abbrev S1x16x16x192x8x64 : Shape := ⟨6, ![1, 16, 16, 192, 8, 64]⟩
abbrev S16 : Shape := ⟨1, ![16]⟩
abbrev S16x1 : Shape := ⟨2, ![16, 1]⟩
abbrev S16x192 : Shape := ⟨2, ![16, 192]⟩
abbrev S16x1x192 : Shape := ⟨3, ![16, 1, 192]⟩
abbrev S16x64x192 : Shape := ⟨3, ![16, 64, 192]⟩
abbrev S1x16x16x8x192x64 : Shape := ⟨6, ![1, 16, 16, 8, 192, 64]⟩
abbrev S1x16x16x64x8x192 : Shape := ⟨6, ![1, 16, 16, 64, 8, 192]⟩
abbrev S1x1x16x64x1x192 : Shape := ⟨6, ![1, 1, 16, 64, 1, 192]⟩
abbrev S1x16x16x64x8 : Shape := ⟨5, ![1, 16, 16, 64, 8]⟩
abbrev S1x16x16x64x8x1 : Shape := ⟨6, ![1, 16, 16, 64, 8, 1]⟩
abbrev S1x16x16x8x64x64 : Shape := ⟨6, ![1, 16, 16, 8, 64, 64]⟩
abbrev S1x16x1024x8 : Shape := ⟨4, ![1, 16, 1024, 8]⟩
abbrev S1x1024x16x8 : Shape := ⟨4, ![1, 1024, 16, 8]⟩
abbrev S1x16384x8x1 : Shape := ⟨4, ![1, 16384, 8, 1]⟩
abbrev S16384x8x1 : Shape := ⟨3, ![16384, 8, 1]⟩
abbrev S16384x8x64 : Shape := ⟨3, ![16384, 8, 64]⟩
abbrev S16384x8 : Shape := ⟨2, ![16384, 8]⟩
abbrev S16384x8x32 : Shape := ⟨3, ![16384, 8, 32]⟩
abbrev S8x32 : Shape := ⟨2, ![8, 32]⟩
abbrev S16x128 : Shape := ⟨2, ![16, 128]⟩
abbrev S128 : Shape := ⟨1, ![128]⟩
abbrev S1x256 : Shape := ⟨2, ![1, 256]⟩
abbrev S128x1 : Shape := ⟨2, ![128, 1]⟩
abbrev S128x256 : Shape := ⟨2, ![128, 256]⟩
abbrev S32768 : Shape := ⟨1, ![32768]⟩
abbrev S32768x1 : Shape := ⟨2, ![32768, 1]⟩
abbrev S1x128 : Shape := ⟨2, ![1, 128]⟩
abbrev S32768x128 : Shape := ⟨2, ![32768, 128]⟩
abbrev S16x32768 : Shape := ⟨2, ![16, 32768]⟩
abbrev S4096x128 : Shape := ⟨2, ![4096, 128]⟩
abbrev S16x4096 : Shape := ⟨2, ![16, 4096]⟩
abbrev S8x32768 : Shape := ⟨2, ![8, 32768]⟩
abbrev S8x128x256 : Shape := ⟨3, ![8, 128, 256]⟩
abbrev S1024x128 : Shape := ⟨2, ![1024, 128]⟩
abbrev S2x128x256 : Shape := ⟨3, ![2, 128, 256]⟩
abbrev S6144x128 : Shape := ⟨2, ![6144, 128]⟩
abbrev S256x128 : Shape := ⟨2, ![256, 128]⟩
abbrev S1x128x256 : Shape := ⟨3, ![1, 128, 256]⟩
abbrev S128x512 : Shape := ⟨2, ![128, 512]⟩
abbrev S128x128 : Shape := ⟨2, ![128, 128]⟩
abbrev S512x128 : Shape := ⟨2, ![512, 128]⟩
abbrev S1x512 : Shape := ⟨2, ![1, 512]⟩

abbrev nBuf : Space → Nat
  | .hbm => 623
  | .vmem => 40
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S32x8, .f32⟩
  | 4 => ⟨S16384x512, .f32⟩
  | 5 => ⟨S16384x512, .bf16⟩
  | 6 => ⟨S16384x512, .bf16⟩
  | 7 => ⟨S16384x512, .bf16⟩
  | 8 => ⟨S1x16384x8x64, .bf16⟩
  | 9 => ⟨S1x16384x8x64, .bf16⟩
  | 10 => ⟨S1x16384x8x64, .bf16⟩
  | 11 => ⟨S1x16384x1x8x64, .bf16⟩
  | 12 => ⟨S1x1x16384x8x64, .bf16⟩
  | 13 => ⟨S_, .i32⟩
  | 14 => ⟨S_, .bf16⟩
  | 15 => ⟨S1x1x16384x8x64, .bf16⟩
  | 16 => ⟨S1x1x256x64x8x64, .bf16⟩
  | 17 => ⟨S1x16384x1x8x64, .bf16⟩
  | 18 => ⟨S1x1x16384x8x64, .bf16⟩
  | 19 => ⟨S_, .i32⟩
  | 20 => ⟨S_, .bf16⟩
  | 21 => ⟨S1x1x16384x8x64, .bf16⟩
  | 22 => ⟨S_, .bf16⟩
  | 23 => ⟨S1x1x64x8x64, .bf16⟩
  | 24 => ⟨S1x1x16512x8x64, .bf16⟩
  | 25 => ⟨S1x1x258x64x8x64, .bf16⟩
  | 26 => ⟨S1x1x256x64x8x64, .bf16⟩
  | 27 => ⟨S1x1x256x64x8x64, .bf16⟩
  | 28 => ⟨S1x1x256x64x8x64, .bf16⟩
  | 29 => ⟨S1x1x256x192x8x64, .bf16⟩
  | 30 => ⟨S1x16384x1x8x64, .bf16⟩
  | 31 => ⟨S1x1x16384x8x64, .bf16⟩
  | 32 => ⟨S_, .i32⟩
  | 33 => ⟨S_, .bf16⟩
  | 34 => ⟨S1x1x16384x8x64, .bf16⟩
  | 35 => ⟨S_, .bf16⟩
  | 36 => ⟨S1x1x64x8x64, .bf16⟩
  | 37 => ⟨S1x1x16512x8x64, .bf16⟩
  | 38 => ⟨S1x1x258x64x8x64, .bf16⟩
  | 39 => ⟨S1x1x256x64x8x64, .bf16⟩
  | 40 => ⟨S1x1x256x64x8x64, .bf16⟩
  | 41 => ⟨S1x1x256x64x8x64, .bf16⟩
  | 42 => ⟨S1x1x256x192x8x64, .bf16⟩
  | 43 => ⟨S64, .i32⟩
  | 44 => ⟨S192, .i32⟩
  | 45 => ⟨S1x192, .i32⟩
  | 46 => ⟨S_, .i32⟩
  | 47 => ⟨S1x192, .i32⟩
  | 48 => ⟨S1x192, .i32⟩
  | 49 => ⟨S64x1, .i32⟩
  | 50 => ⟨S64x192, .i32⟩
  | 51 => ⟨S64x192, .i32⟩
  | 52 => ⟨S64x192, .i32⟩
  | 53 => ⟨S256, .i32⟩
  | 54 => ⟨S256x1, .i32⟩
  | 55 => ⟨S_, .i32⟩
  | 56 => ⟨S256x1, .i32⟩
  | 57 => ⟨S256x1, .i32⟩
  | 58 => ⟨S_, .i32⟩
  | 59 => ⟨S256x1, .i32⟩
  | 60 => ⟨S256x1, .i32⟩
  | 61 => ⟨S1x192, .i32⟩
  | 62 => ⟨S256x192, .i32⟩
  | 63 => ⟨S256x192, .i32⟩
  | 64 => ⟨S256x192, .i32⟩
  | 65 => ⟨S64x192, .i32⟩
  | 66 => ⟨S_, .i32⟩
  | 67 => ⟨S64x192, .i32⟩
  | 68 => ⟨S64x192, .i1⟩
  | 69 => ⟨S1x64x192, .i1⟩
  | 70 => ⟨S_, .i32⟩
  | 71 => ⟨S256x192, .i32⟩
  | 72 => ⟨S256x192, .i1⟩
  | 73 => ⟨S256x1x192, .i1⟩
  | 74 => ⟨S256x64x192, .i1⟩
  | 75 => ⟨S256x64x192, .i1⟩
  | 76 => ⟨S256x64x192, .i1⟩
  | 77 => ⟨S_, .i32⟩
  | 78 => ⟨S256x192, .i32⟩
  | 79 => ⟨S256x192, .i1⟩
  | 80 => ⟨S256x1x192, .i1⟩
  | 81 => ⟨S256x64x192, .i1⟩
  | 82 => ⟨S256x64x192, .i1⟩
  | 83 => ⟨S_, .i32⟩
  | 84 => ⟨S64x192, .i32⟩
  | 85 => ⟨S64x192, .i32⟩
  | 86 => ⟨S_, .i32⟩
  | 87 => ⟨S64x192, .i32⟩
  | 88 => ⟨S64x192, .i1⟩
  | 89 => ⟨S_, .i32⟩
  | 90 => ⟨S_, .i32⟩
  | 91 => ⟨S64x192, .i32⟩
  | 92 => ⟨S64x192, .i32⟩
  | 93 => ⟨S64x192, .i32⟩
  | 94 => ⟨S64x192, .i32⟩
  | 95 => ⟨S_, .i32⟩
  | 96 => ⟨S64x192, .i32⟩
  | 97 => ⟨S64x192, .i32⟩
  | 98 => ⟨S64x192, .f32⟩
  | 99 => ⟨S_, .f32⟩
  | 100 => ⟨S64x192, .f32⟩
  | 101 => ⟨S64x192, .f32⟩
  | 102 => ⟨S64x192, .f32⟩
  | 103 => ⟨S_, .f32⟩
  | 104 => ⟨S64x192, .f32⟩
  | 105 => ⟨S64x192, .f32⟩
  | 106 => ⟨S_, .f32⟩
  | 107 => ⟨S64x192, .f32⟩
  | 108 => ⟨S64x192, .f32⟩
  | 109 => ⟨S64x192, .i32⟩
  | 110 => ⟨S_, .i32⟩
  | 111 => ⟨S64x192, .i32⟩
  | 112 => ⟨S64x192, .i32⟩
  | 113 => ⟨S_, .i32⟩
  | 114 => ⟨S64x192, .i32⟩
  | 115 => ⟨S64x192, .i32⟩
  | 116 => ⟨S_, .i32⟩
  | 117 => ⟨S64x192, .i32⟩
  | 118 => ⟨S64x192, .i1⟩
  | 119 => ⟨S64x192, .i32⟩
  | 120 => ⟨S64x192, .i32⟩
  | 121 => ⟨S64x192, .i32⟩
  | 122 => ⟨S_, .i32⟩
  | 123 => ⟨S64x192, .i32⟩
  | 124 => ⟨S64x192, .i1⟩
  | 125 => ⟨S_, .i32⟩
  | 126 => ⟨S64x192, .i32⟩
  | 127 => ⟨S64x192, .i32⟩
  | _ => ⟨S16384x512, .f32⟩

abbrev hbmTy0_1 (i : Nat) : BufTy := match i % 128 with
  | 0 => ⟨S64x192, .i32⟩
  | 1 => ⟨S64x192x1, .i32⟩
  | 2 => ⟨S64x192x8, .f32⟩
  | 3 => ⟨S64x8x192, .f32⟩
  | 4 => ⟨S1x1x1x64x8x192, .f32⟩
  | 5 => ⟨S1x1x256x8x192x64, .f32⟩
  | 6 => ⟨S1x1x256x64x8x192, .f32⟩
  | 7 => ⟨S_, .f32⟩
  | 8 => ⟨S1x1x256x64x8x192, .f32⟩
  | 9 => ⟨S1x1x256x64x8x192, .f32⟩
  | 10 => ⟨S1x1x256x64x1x192, .i1⟩
  | 11 => ⟨S1x1x256x64x8x192, .f32⟩
  | 12 => ⟨S1x1x256x64x8x192, .f32⟩
  | 13 => ⟨S_, .f32⟩
  | 14 => ⟨S_, .f32⟩
  | 15 => ⟨S1x1x256x64x8x192, .i1⟩
  | 16 => ⟨S1x1x256x64x8x192, .f32⟩
  | 17 => ⟨S1x1x256x64x8x192, .f32⟩
  | 18 => ⟨S_, .f32⟩
  | 19 => ⟨S1x1x256x64x8, .f32⟩
  | 20 => ⟨S1x1x256x64x8x1, .f32⟩
  | 21 => ⟨S1x1x256x64x8x192, .f32⟩
  | 22 => ⟨S1x1x256x64x8x192, .f32⟩
  | 23 => ⟨S1x1x256x64x8x192, .f32⟩
  | 24 => ⟨S_, .f32⟩
  | 25 => ⟨S1x1x256x64x8, .f32⟩
  | 26 => ⟨S1x1x256x64x8x192, .bf16⟩
  | 27 => ⟨S1x1x256x8x64x64, .f32⟩
  | 28 => ⟨S1x1x256x64x8x64, .f32⟩
  | 29 => ⟨S1x1x256x64x8x1, .f32⟩
  | 30 => ⟨S1x1x256x64x8x64, .f32⟩
  | 31 => ⟨S1x1x256x64x8x64, .f32⟩
  | 32 => ⟨S1x1x16384x8x64, .f32⟩
  | 33 => ⟨S1x16384x1x8x64, .f32⟩
  | 34 => ⟨S1x16384x8x64, .f32⟩
  | 35 => ⟨S1x1x16384x8, .f32⟩
  | 36 => ⟨S1x16384x1x8, .f32⟩
  | 37 => ⟨S1x16384x8, .f32⟩
  | 38 => ⟨S1x1x16384x8, .f32⟩
  | 39 => ⟨S1x16384x1x8, .f32⟩
  | 40 => ⟨S1x16384x8, .f32⟩
  | 41 => ⟨S1x16384x8x64, .bf16⟩
  | 42 => ⟨S1x16384x8x64, .bf16⟩
  | 43 => ⟨S1x16384x8x64, .bf16⟩
  | 44 => ⟨S1x4096x4x8x64, .bf16⟩
  | 45 => ⟨S1x4x4096x8x64, .bf16⟩
  | 46 => ⟨S_, .i32⟩
  | 47 => ⟨S_, .bf16⟩
  | 48 => ⟨S1x4x4096x8x64, .bf16⟩
  | 49 => ⟨S1x4x64x64x8x64, .bf16⟩
  | 50 => ⟨S1x4096x4x8x64, .bf16⟩
  | 51 => ⟨S1x4x4096x8x64, .bf16⟩
  | 52 => ⟨S_, .i32⟩
  | 53 => ⟨S_, .bf16⟩
  | 54 => ⟨S1x4x4096x8x64, .bf16⟩
  | 55 => ⟨S_, .bf16⟩
  | 56 => ⟨S1x4x64x8x64, .bf16⟩
  | 57 => ⟨S1x4x4224x8x64, .bf16⟩
  | 58 => ⟨S1x4x66x64x8x64, .bf16⟩
  | 59 => ⟨S1x4x64x64x8x64, .bf16⟩
  | 60 => ⟨S1x4x64x64x8x64, .bf16⟩
  | 61 => ⟨S1x4x64x64x8x64, .bf16⟩
  | 62 => ⟨S1x4x64x192x8x64, .bf16⟩
  | 63 => ⟨S1x4096x4x8x64, .bf16⟩
  | 64 => ⟨S1x4x4096x8x64, .bf16⟩
  | 65 => ⟨S_, .i32⟩
  | 66 => ⟨S_, .bf16⟩
  | 67 => ⟨S1x4x4096x8x64, .bf16⟩
  | 68 => ⟨S_, .bf16⟩
  | 69 => ⟨S1x4x64x8x64, .bf16⟩
  | 70 => ⟨S1x4x4224x8x64, .bf16⟩
  | 71 => ⟨S1x4x66x64x8x64, .bf16⟩
  | 72 => ⟨S1x4x64x64x8x64, .bf16⟩
  | 73 => ⟨S1x4x64x64x8x64, .bf16⟩
  | 74 => ⟨S1x4x64x64x8x64, .bf16⟩
  | 75 => ⟨S1x4x64x192x8x64, .bf16⟩
  | 76 => ⟨S64, .i32⟩
  | 77 => ⟨S192, .i32⟩
  | 78 => ⟨S1x192, .i32⟩
  | 79 => ⟨S_, .i32⟩
  | 80 => ⟨S1x192, .i32⟩
  | 81 => ⟨S1x192, .i32⟩
  | 82 => ⟨S64x1, .i32⟩
  | 83 => ⟨S64x192, .i32⟩
  | 84 => ⟨S64x192, .i32⟩
  | 85 => ⟨S64x192, .i32⟩
  | 86 => ⟨S64, .i32⟩
  | 87 => ⟨S64x1, .i32⟩
  | 88 => ⟨S_, .i32⟩
  | 89 => ⟨S64x1, .i32⟩
  | 90 => ⟨S64x1, .i32⟩
  | 91 => ⟨S_, .i32⟩
  | 92 => ⟨S64x1, .i32⟩
  | 93 => ⟨S64x1, .i32⟩
  | 94 => ⟨S1x192, .i32⟩
  | 95 => ⟨S64x192, .i32⟩
  | 96 => ⟨S64x192, .i32⟩
  | 97 => ⟨S64x192, .i32⟩
  | 98 => ⟨S64x192, .i32⟩
  | 99 => ⟨S_, .i32⟩
  | 100 => ⟨S64x192, .i32⟩
  | 101 => ⟨S64x192, .i1⟩
  | 102 => ⟨S1x64x192, .i1⟩
  | 103 => ⟨S_, .i32⟩
  | 104 => ⟨S64x192, .i32⟩
  | 105 => ⟨S64x192, .i1⟩
  | 106 => ⟨S64x1x192, .i1⟩
  | 107 => ⟨S64x64x192, .i1⟩
  | 108 => ⟨S64x64x192, .i1⟩
  | 109 => ⟨S64x64x192, .i1⟩
  | 110 => ⟨S_, .i32⟩
  | 111 => ⟨S64x192, .i32⟩
  | 112 => ⟨S64x192, .i1⟩
  | 113 => ⟨S64x1x192, .i1⟩
  | 114 => ⟨S64x64x192, .i1⟩
  | 115 => ⟨S64x64x192, .i1⟩
  | 116 => ⟨S_, .i32⟩
  | 117 => ⟨S64x192, .i32⟩
  | 118 => ⟨S64x192, .i32⟩
  | 119 => ⟨S_, .i32⟩
  | 120 => ⟨S64x192, .i32⟩
  | 121 => ⟨S64x192, .i1⟩
  | 122 => ⟨S_, .i32⟩
  | 123 => ⟨S_, .i32⟩
  | 124 => ⟨S64x192, .i32⟩
  | 125 => ⟨S64x192, .i32⟩
  | 126 => ⟨S64x192, .i32⟩
  | 127 => ⟨S64x192, .i32⟩
  | _ => ⟨S16384x512, .f32⟩

abbrev hbmTy0_2 (i : Nat) : BufTy := match i % 128 with
  | 0 => ⟨S_, .i32⟩
  | 1 => ⟨S64x192, .i32⟩
  | 2 => ⟨S64x192, .i32⟩
  | 3 => ⟨S64x192, .f32⟩
  | 4 => ⟨S_, .f32⟩
  | 5 => ⟨S64x192, .f32⟩
  | 6 => ⟨S64x192, .f32⟩
  | 7 => ⟨S64x192, .f32⟩
  | 8 => ⟨S_, .f32⟩
  | 9 => ⟨S64x192, .f32⟩
  | 10 => ⟨S64x192, .f32⟩
  | 11 => ⟨S_, .f32⟩
  | 12 => ⟨S64x192, .f32⟩
  | 13 => ⟨S64x192, .f32⟩
  | 14 => ⟨S64x192, .i32⟩
  | 15 => ⟨S_, .i32⟩
  | 16 => ⟨S64x192, .i32⟩
  | 17 => ⟨S64x192, .i32⟩
  | 18 => ⟨S_, .i32⟩
  | 19 => ⟨S64x192, .i32⟩
  | 20 => ⟨S64x192, .i32⟩
  | 21 => ⟨S_, .i32⟩
  | 22 => ⟨S64x192, .i32⟩
  | 23 => ⟨S64x192, .i1⟩
  | 24 => ⟨S64x192, .i32⟩
  | 25 => ⟨S64x192, .i32⟩
  | 26 => ⟨S64x192, .i32⟩
  | 27 => ⟨S_, .i32⟩
  | 28 => ⟨S64x192, .i32⟩
  | 29 => ⟨S64x192, .i1⟩
  | 30 => ⟨S_, .i32⟩
  | 31 => ⟨S64x192, .i32⟩
  | 32 => ⟨S64x192, .i32⟩
  | 33 => ⟨S64x192, .i32⟩
  | 34 => ⟨S64x192x1, .i32⟩
  | 35 => ⟨S64x192x8, .f32⟩
  | 36 => ⟨S64x8x192, .f32⟩
  | 37 => ⟨S1x1x1x64x8x192, .f32⟩
  | 38 => ⟨S1x4x64x8x192x64, .f32⟩
  | 39 => ⟨S1x4x64x64x8x192, .f32⟩
  | 40 => ⟨S_, .f32⟩
  | 41 => ⟨S1x4x64x64x8x192, .f32⟩
  | 42 => ⟨S1x4x64x64x8x192, .f32⟩
  | 43 => ⟨S1x1x64x64x1x192, .i1⟩
  | 44 => ⟨S1x4x64x64x8x192, .f32⟩
  | 45 => ⟨S1x4x64x64x8x192, .f32⟩
  | 46 => ⟨S_, .f32⟩
  | 47 => ⟨S_, .f32⟩
  | 48 => ⟨S1x4x64x64x8x192, .i1⟩
  | 49 => ⟨S1x4x64x64x8x192, .f32⟩
  | 50 => ⟨S1x4x64x64x8x192, .f32⟩
  | 51 => ⟨S_, .f32⟩
  | 52 => ⟨S1x4x64x64x8, .f32⟩
  | 53 => ⟨S1x4x64x64x8x1, .f32⟩
  | 54 => ⟨S1x4x64x64x8x192, .f32⟩
  | 55 => ⟨S1x4x64x64x8x192, .f32⟩
  | 56 => ⟨S1x4x64x64x8x192, .f32⟩
  | 57 => ⟨S_, .f32⟩
  | 58 => ⟨S1x4x64x64x8, .f32⟩
  | 59 => ⟨S1x4x64x64x8x192, .bf16⟩
  | 60 => ⟨S1x4x64x8x64x64, .f32⟩
  | 61 => ⟨S1x4x64x64x8x64, .f32⟩
  | 62 => ⟨S1x4x64x64x8x1, .f32⟩
  | 63 => ⟨S1x4x64x64x8x64, .f32⟩
  | 64 => ⟨S1x4x64x64x8x64, .f32⟩
  | 65 => ⟨S1x4x4096x8x64, .f32⟩
  | 66 => ⟨S1x4096x4x8x64, .f32⟩
  | 67 => ⟨S1x16384x8x64, .f32⟩
  | 68 => ⟨S1x4x4096x8, .f32⟩
  | 69 => ⟨S1x4096x4x8, .f32⟩
  | 70 => ⟨S1x16384x8, .f32⟩
  | 71 => ⟨S1x4x4096x8, .f32⟩
  | 72 => ⟨S1x4096x4x8, .f32⟩
  | 73 => ⟨S1x16384x8, .f32⟩
  | 74 => ⟨S1x16384x8x64, .bf16⟩
  | 75 => ⟨S1x16384x8x64, .bf16⟩
  | 76 => ⟨S1x16384x8x64, .bf16⟩
  | 77 => ⟨S1x1024x16x8x64, .bf16⟩
  | 78 => ⟨S1x16x1024x8x64, .bf16⟩
  | 79 => ⟨S_, .i32⟩
  | 80 => ⟨S_, .bf16⟩
  | 81 => ⟨S1x16x1024x8x64, .bf16⟩
  | 82 => ⟨S1x16x16x64x8x64, .bf16⟩
  | 83 => ⟨S1x1024x16x8x64, .bf16⟩
  | 84 => ⟨S1x16x1024x8x64, .bf16⟩
  | 85 => ⟨S_, .i32⟩
  | 86 => ⟨S_, .bf16⟩
  | 87 => ⟨S1x16x1024x8x64, .bf16⟩
  | 88 => ⟨S_, .bf16⟩
  | 89 => ⟨S1x16x64x8x64, .bf16⟩
  | 90 => ⟨S1x16x1152x8x64, .bf16⟩
  | 91 => ⟨S1x16x18x64x8x64, .bf16⟩
  | 92 => ⟨S1x16x16x64x8x64, .bf16⟩
  | 93 => ⟨S1x16x16x64x8x64, .bf16⟩
  | 94 => ⟨S1x16x16x64x8x64, .bf16⟩
  | 95 => ⟨S1x16x16x192x8x64, .bf16⟩
  | 96 => ⟨S1x1024x16x8x64, .bf16⟩
  | 97 => ⟨S1x16x1024x8x64, .bf16⟩
  | 98 => ⟨S_, .i32⟩
  | 99 => ⟨S_, .bf16⟩
  | 100 => ⟨S1x16x1024x8x64, .bf16⟩
  | 101 => ⟨S_, .bf16⟩
  | 102 => ⟨S1x16x64x8x64, .bf16⟩
  | 103 => ⟨S1x16x1152x8x64, .bf16⟩
  | 104 => ⟨S1x16x18x64x8x64, .bf16⟩
  | 105 => ⟨S1x16x16x64x8x64, .bf16⟩
  | 106 => ⟨S1x16x16x64x8x64, .bf16⟩
  | 107 => ⟨S1x16x16x64x8x64, .bf16⟩
  | 108 => ⟨S1x16x16x192x8x64, .bf16⟩
  | 109 => ⟨S64, .i32⟩
  | 110 => ⟨S192, .i32⟩
  | 111 => ⟨S1x192, .i32⟩
  | 112 => ⟨S_, .i32⟩
  | 113 => ⟨S1x192, .i32⟩
  | 114 => ⟨S1x192, .i32⟩
  | 115 => ⟨S64x1, .i32⟩
  | 116 => ⟨S64x192, .i32⟩
  | 117 => ⟨S64x192, .i32⟩
  | 118 => ⟨S64x192, .i32⟩
  | 119 => ⟨S16, .i32⟩
  | 120 => ⟨S16x1, .i32⟩
  | 121 => ⟨S_, .i32⟩
  | 122 => ⟨S16x1, .i32⟩
  | 123 => ⟨S16x1, .i32⟩
  | 124 => ⟨S_, .i32⟩
  | 125 => ⟨S16x1, .i32⟩
  | 126 => ⟨S16x1, .i32⟩
  | 127 => ⟨S1x192, .i32⟩
  | _ => ⟨S16384x512, .f32⟩

abbrev hbmTy0_3 (i : Nat) : BufTy := match i % 128 with
  | 0 => ⟨S16x192, .i32⟩
  | 1 => ⟨S16x192, .i32⟩
  | 2 => ⟨S16x192, .i32⟩
  | 3 => ⟨S64x192, .i32⟩
  | 4 => ⟨S_, .i32⟩
  | 5 => ⟨S64x192, .i32⟩
  | 6 => ⟨S64x192, .i1⟩
  | 7 => ⟨S1x64x192, .i1⟩
  | 8 => ⟨S_, .i32⟩
  | 9 => ⟨S16x192, .i32⟩
  | 10 => ⟨S16x192, .i1⟩
  | 11 => ⟨S16x1x192, .i1⟩
  | 12 => ⟨S16x64x192, .i1⟩
  | 13 => ⟨S16x64x192, .i1⟩
  | 14 => ⟨S16x64x192, .i1⟩
  | 15 => ⟨S_, .i32⟩
  | 16 => ⟨S16x192, .i32⟩
  | 17 => ⟨S16x192, .i1⟩
  | 18 => ⟨S16x1x192, .i1⟩
  | 19 => ⟨S16x64x192, .i1⟩
  | 20 => ⟨S16x64x192, .i1⟩
  | 21 => ⟨S_, .i32⟩
  | 22 => ⟨S64x192, .i32⟩
  | 23 => ⟨S64x192, .i32⟩
  | 24 => ⟨S_, .i32⟩
  | 25 => ⟨S64x192, .i32⟩
  | 26 => ⟨S64x192, .i1⟩
  | 27 => ⟨S_, .i32⟩
  | 28 => ⟨S_, .i32⟩
  | 29 => ⟨S64x192, .i32⟩
  | 30 => ⟨S64x192, .i32⟩
  | 31 => ⟨S64x192, .i32⟩
  | 32 => ⟨S64x192, .i32⟩
  | 33 => ⟨S_, .i32⟩
  | 34 => ⟨S64x192, .i32⟩
  | 35 => ⟨S64x192, .i32⟩
  | 36 => ⟨S64x192, .f32⟩
  | 37 => ⟨S_, .f32⟩
  | 38 => ⟨S64x192, .f32⟩
  | 39 => ⟨S64x192, .f32⟩
  | 40 => ⟨S64x192, .f32⟩
  | 41 => ⟨S_, .f32⟩
  | 42 => ⟨S64x192, .f32⟩
  | 43 => ⟨S64x192, .f32⟩
  | 44 => ⟨S_, .f32⟩
  | 45 => ⟨S64x192, .f32⟩
  | 46 => ⟨S64x192, .f32⟩
  | 47 => ⟨S64x192, .i32⟩
  | 48 => ⟨S_, .i32⟩
  | 49 => ⟨S64x192, .i32⟩
  | 50 => ⟨S64x192, .i32⟩
  | 51 => ⟨S_, .i32⟩
  | 52 => ⟨S64x192, .i32⟩
  | 53 => ⟨S64x192, .i32⟩
  | 54 => ⟨S_, .i32⟩
  | 55 => ⟨S64x192, .i32⟩
  | 56 => ⟨S64x192, .i1⟩
  | 57 => ⟨S64x192, .i32⟩
  | 58 => ⟨S64x192, .i32⟩
  | 59 => ⟨S64x192, .i32⟩
  | 60 => ⟨S_, .i32⟩
  | 61 => ⟨S64x192, .i32⟩
  | 62 => ⟨S64x192, .i1⟩
  | 63 => ⟨S_, .i32⟩
  | 64 => ⟨S64x192, .i32⟩
  | 65 => ⟨S64x192, .i32⟩
  | 66 => ⟨S64x192, .i32⟩
  | 67 => ⟨S64x192x1, .i32⟩
  | 68 => ⟨S64x192x8, .f32⟩
  | 69 => ⟨S64x8x192, .f32⟩
  | 70 => ⟨S1x1x1x64x8x192, .f32⟩
  | 71 => ⟨S1x16x16x8x192x64, .f32⟩
  | 72 => ⟨S1x16x16x64x8x192, .f32⟩
  | 73 => ⟨S_, .f32⟩
  | 74 => ⟨S1x16x16x64x8x192, .f32⟩
  | 75 => ⟨S1x16x16x64x8x192, .f32⟩
  | 76 => ⟨S1x1x16x64x1x192, .i1⟩
  | 77 => ⟨S1x16x16x64x8x192, .f32⟩
  | 78 => ⟨S1x16x16x64x8x192, .f32⟩
  | 79 => ⟨S_, .f32⟩
  | 80 => ⟨S_, .f32⟩
  | 81 => ⟨S1x16x16x64x8x192, .i1⟩
  | 82 => ⟨S1x16x16x64x8x192, .f32⟩
  | 83 => ⟨S1x16x16x64x8x192, .f32⟩
  | 84 => ⟨S_, .f32⟩
  | 85 => ⟨S1x16x16x64x8, .f32⟩
  | 86 => ⟨S1x16x16x64x8x1, .f32⟩
  | 87 => ⟨S1x16x16x64x8x192, .f32⟩
  | 88 => ⟨S1x16x16x64x8x192, .f32⟩
  | 89 => ⟨S1x16x16x64x8x192, .f32⟩
  | 90 => ⟨S_, .f32⟩
  | 91 => ⟨S1x16x16x64x8, .f32⟩
  | 92 => ⟨S1x16x16x64x8x192, .bf16⟩
  | 93 => ⟨S1x16x16x8x64x64, .f32⟩
  | 94 => ⟨S1x16x16x64x8x64, .f32⟩
  | 95 => ⟨S1x16x16x64x8x1, .f32⟩
  | 96 => ⟨S1x16x16x64x8x64, .f32⟩
  | 97 => ⟨S1x16x16x64x8x64, .f32⟩
  | 98 => ⟨S1x16x1024x8x64, .f32⟩
  | 99 => ⟨S1x1024x16x8x64, .f32⟩
  | 100 => ⟨S1x16384x8x64, .f32⟩
  | 101 => ⟨S1x16x1024x8, .f32⟩
  | 102 => ⟨S1x1024x16x8, .f32⟩
  | 103 => ⟨S1x16384x8, .f32⟩
  | 104 => ⟨S1x16x1024x8, .f32⟩
  | 105 => ⟨S1x1024x16x8, .f32⟩
  | 106 => ⟨S1x16384x8, .f32⟩
  | 107 => ⟨S1x16384x8, .f32⟩
  | 108 => ⟨S1x16384x8, .f32⟩
  | 109 => ⟨S1x16384x8, .f32⟩
  | 110 => ⟨S1x16384x8, .f32⟩
  | 111 => ⟨S1x16384x8, .f32⟩
  | 112 => ⟨S1x16384x8, .f32⟩
  | 113 => ⟨S1x16384x8, .f32⟩
  | 114 => ⟨S1x16384x8, .f32⟩
  | 115 => ⟨S1x16384x8, .f32⟩
  | 116 => ⟨S1x16384x8, .f32⟩
  | 117 => ⟨S1x16384x8, .f32⟩
  | 118 => ⟨S1x16384x8, .f32⟩
  | 119 => ⟨S1x16384x8, .f32⟩
  | 120 => ⟨S1x16384x8x1, .f32⟩
  | 121 => ⟨S1x16384x8x64, .f32⟩
  | 122 => ⟨S1x16384x8x64, .f32⟩
  | 123 => ⟨S1x16384x8x1, .f32⟩
  | 124 => ⟨S1x16384x8x64, .f32⟩
  | 125 => ⟨S1x16384x8x64, .f32⟩
  | 126 => ⟨S1x16384x8x64, .f32⟩
  | 127 => ⟨S1x16384x8x1, .f32⟩
  | _ => ⟨S16384x512, .f32⟩

abbrev hbmTy0_4 (i : Nat) : BufTy := match i % 128 with
  | 0 => ⟨S1x16384x8x64, .f32⟩
  | 1 => ⟨S1x16384x8x64, .f32⟩
  | 2 => ⟨S1x16384x8x64, .f32⟩
  | 3 => ⟨S1x16384x8x1, .f32⟩
  | 4 => ⟨S1x16384x8x64, .f32⟩
  | 5 => ⟨S1x16384x8x64, .f32⟩
  | 6 => ⟨S1x16384x8, .f32⟩
  | 7 => ⟨S1x16384x8, .f32⟩
  | 8 => ⟨S16384x8x1, .f32⟩
  | 9 => ⟨S16384x8x64, .f32⟩
  | 10 => ⟨S16384x8x64, .f32⟩
  | 11 => ⟨S16384x8x64, .f32⟩
  | 12 => ⟨S_, .f32⟩
  | 13 => ⟨S16384x8, .f32⟩
  | 14 => ⟨S16384x8x1, .f32⟩
  | 15 => ⟨S16384x8x32, .f32⟩
  | 16 => ⟨S16384x8x32, .f32⟩
  | 17 => ⟨S16384x8x64, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .bf16⟩
  | 24 => ⟨S8x32, .f32⟩
  | 25 => ⟨S_, .i32⟩
  | 26 => ⟨S_, .f32⟩
  | 27 => ⟨S16x128, .f32⟩
  | 28 => ⟨S128, .i32⟩
  | 29 => ⟨S256, .i32⟩
  | 30 => ⟨S1x256, .i32⟩
  | 31 => ⟨S_, .i32⟩
  | 32 => ⟨S1x256, .i32⟩
  | 33 => ⟨S1x256, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S_, .i32⟩
  | 46 => ⟨S128x256, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i32⟩
  | 53 => ⟨S128x256, .f32⟩
  | 54 => ⟨S_, .f32⟩
  | 55 => ⟨S128x256, .f32⟩
  | 56 => ⟨S128x256, .f32⟩
  | 57 => ⟨S128x256, .f32⟩
  | 58 => ⟨S_, .f32⟩
  | 59 => ⟨S128x256, .f32⟩
  | 60 => ⟨S128x256, .f32⟩
  | 61 => ⟨S_, .f32⟩
  | 62 => ⟨S128x256, .f32⟩
  | 63 => ⟨S128x256, .f32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S128x256, .i32⟩
  | 75 => ⟨S128x256, .i32⟩
  | 76 => ⟨S128x256, .i32⟩
  | 77 => ⟨S32768, .i32⟩
  | 78 => ⟨S32768x1, .i32⟩
  | 79 => ⟨S128, .i32⟩
  | 80 => ⟨S1x128, .i32⟩
  | 81 => ⟨S32768x128, .i32⟩
  | 82 => ⟨S32768x128, .i32⟩
  | 83 => ⟨S32768x128, .i1⟩
  | 84 => ⟨S32768x128, .bf16⟩
  | 85 => ⟨S16x32768, .f32⟩
  | 86 => ⟨S8x32768, .f32⟩
  | 87 => ⟨S8x128x256, .f32⟩
  | 88 => ⟨S128, .i32⟩
  | 89 => ⟨S256, .i32⟩
  | 90 => ⟨S1x256, .i32⟩
  | 91 => ⟨S_, .i32⟩
  | 92 => ⟨S1x256, .i32⟩
  | 93 => ⟨S1x256, .i32⟩
  | 94 => ⟨S128x1, .i32⟩
  | 95 => ⟨S128x256, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .f32⟩
  | 103 => ⟨S_, .f32⟩
  | 104 => ⟨S8x128x256, .i1⟩
  | 105 => ⟨S8x128x256, .f32⟩
  | 106 => ⟨S8x128x256, .f32⟩
  | 107 => ⟨S16384x512, .bf16⟩
  | 108 => ⟨S8x128x256, .f32⟩
  | 109 => ⟨S16384x512, .bf16⟩
  | 110 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x512, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S16x128, .f32⟩
  | .local _ .vmem, ⟨3, _⟩ => ⟨S16x4096, .f32⟩
  | .local _ .vmem, ⟨4, _⟩ => ⟨S16x4096, .f32⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S1024x128, .bf16⟩
  | .local _ .vmem, ⟨10, _⟩ => ⟨S1024x128, .bf16⟩
  | .local _ .vmem, ⟨11, _⟩ => ⟨S4096x128, .bf16⟩
  | .local _ .vmem, ⟨12, _⟩ => ⟨S4096x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S4096x128, .bf16⟩
  | .local _ .vmem, ⟨18, _⟩ => ⟨S4096x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .f32⟩
  | .local _ .vmem, ⟨22, _⟩ => ⟨S1024x128, .f32⟩
  | .local _ .vmem, ⟨23, _⟩ => ⟨S4096x128, .f32⟩
  | .local _ .vmem, ⟨24, _⟩ => ⟨S4096x128, .f32⟩
  | .local _ .vmem, ⟨25, _⟩ => ⟨S1024x128, .f32⟩
  | .local _ .vmem, ⟨26, _⟩ => ⟨S1024x128, .f32⟩
  | .local _ .vmem, ⟨27, _⟩ => ⟨S2x128x256, .f32⟩
  | .local _ .vmem, ⟨28, _⟩ => ⟨S2x128x256, .f32⟩
  | .local _ .vmem, ⟨29, _⟩ => ⟨S4096x128, .bf16⟩
  | .local _ .vmem, ⟨30, _⟩ => ⟨S4096x128, .bf16⟩
  | .local _ .vmem, ⟨31, _⟩ => ⟨S4096x128, .bf16⟩
  | .local _ .vmem, ⟨32, _⟩ => ⟨S4096x128, .bf16⟩
  | .local _ .vmem, ⟨33, _⟩ => ⟨S4096x128, .f32⟩
  | .local _ .vmem, ⟨34, _⟩ => ⟨S4096x128, .f32⟩
  | .local _ .vmem, ⟨35, _⟩ => ⟨S6144x128, .f32⟩
  | .local _ .vmem, ⟨36, _⟩ => ⟨S6144x128, .f32⟩
  | .local _ .vmem, ⟨37, _⟩ => ⟨S6144x128, .f32⟩
  | .local _ .vmem, ⟨38, _⟩ => ⟨S4096x128, .f32⟩
  | .local _ .vmem, ⟨39, _⟩ => ⟨S4096x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_c_12 : Ref sig .tc := ⟨.hbm, 90, rfl⟩
abbrev main_call3_v0 : Ref sig .tc := ⟨.hbm, 91, rfl⟩
abbrev main_call3_v1 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_c_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_call6_v0 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_27 : Ref sig .tc := ⟨.hbm, 180, rfl⟩
abbrev main_call7_v0 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_29 : Ref sig .tc := ⟨.hbm, 193, rfl⟩
abbrev main_call8_v0 : Ref sig .tc := ⟨.hbm, 194, rfl⟩
abbrev main_v147 : Ref sig .tc := ⟨.hbm, 195, rfl⟩
abbrev main_cst_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_31 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_c_32 : Ref sig .tc := ⟨.hbm, 216, rfl⟩
abbrev main_v166 : Ref sig .tc := ⟨.hbm, 217, rfl⟩
abbrev main_v167 : Ref sig .tc := ⟨.hbm, 218, rfl⟩
abbrev main_c_33 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_34 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_c_35 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_c_36 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_c_37 : Ref sig .tc := ⟨.hbm, 244, rfl⟩
abbrev main_v189 : Ref sig .tc := ⟨.hbm, 245, rfl⟩
abbrev main_v190 : Ref sig .tc := ⟨.hbm, 246, rfl⟩
abbrev main_c_38 : Ref sig .tc := ⟨.hbm, 247, rfl⟩
abbrev main_v191 : Ref sig .tc := ⟨.hbm, 248, rfl⟩
abbrev main_v192 : Ref sig .tc := ⟨.hbm, 249, rfl⟩
abbrev main_c_39 : Ref sig .tc := ⟨.hbm, 250, rfl⟩
abbrev main_c_40 : Ref sig .tc := ⟨.hbm, 251, rfl⟩
abbrev main_call9_v0 : Ref sig .tc := ⟨.hbm, 252, rfl⟩
abbrev main_call9_v1 : Ref sig .tc := ⟨.hbm, 253, rfl⟩
abbrev main_v193 : Ref sig .tc := ⟨.hbm, 254, rfl⟩
abbrev main_v194 : Ref sig .tc := ⟨.hbm, 255, rfl⟩
abbrev main_c_41 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_42 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_43 : Ref sig .tc := ⟨.hbm, 264, rfl⟩
abbrev main_v201 : Ref sig .tc := ⟨.hbm, 265, rfl⟩
abbrev main_v202 : Ref sig .tc := ⟨.hbm, 266, rfl⟩
abbrev main_cst_44 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_c_45 : Ref sig .tc := ⟨.hbm, 271, rfl⟩
abbrev main_v206 : Ref sig .tc := ⟨.hbm, 272, rfl⟩
abbrev main_v207 : Ref sig .tc := ⟨.hbm, 273, rfl⟩
abbrev main_c_46 : Ref sig .tc := ⟨.hbm, 274, rfl⟩
abbrev main_v208 : Ref sig .tc := ⟨.hbm, 275, rfl⟩
abbrev main_v209 : Ref sig .tc := ⟨.hbm, 276, rfl⟩
abbrev main_c_47 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_48 : Ref sig .tc := ⟨.hbm, 283, rfl⟩
abbrev main_v215 : Ref sig .tc := ⟨.hbm, 284, rfl⟩
abbrev main_v216 : Ref sig .tc := ⟨.hbm, 285, rfl⟩
abbrev main_c_49 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_cst_50 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_cst_51 : Ref sig .tc := ⟨.hbm, 302, rfl⟩
abbrev main_call11_v0 : Ref sig .tc := ⟨.hbm, 303, rfl⟩
abbrev main_call11_v1 : Ref sig .tc := ⟨.hbm, 304, rfl⟩
abbrev main_call11_v2 : Ref sig .tc := ⟨.hbm, 305, rfl⟩
abbrev main_v231 : Ref sig .tc := ⟨.hbm, 306, rfl⟩
abbrev main_cst_52 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_cst_53 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_c_54 : Ref sig .tc := ⟨.hbm, 335, rfl⟩
abbrev main_call12_v0 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_c_55 : Ref sig .tc := ⟨.hbm, 341, rfl⟩
abbrev main_call13_v0 : Ref sig .tc := ⟨.hbm, 342, rfl⟩
abbrev main_v262 : Ref sig .tc := ⟨.hbm, 343, rfl⟩
abbrev main_cst_56 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_c_57 : Ref sig .tc := ⟨.hbm, 354, rfl⟩
abbrev main_call14_v0 : Ref sig .tc := ⟨.hbm, 355, rfl⟩
abbrev main_v272 : Ref sig .tc := ⟨.hbm, 356, rfl⟩
abbrev main_cst_58 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_c_59 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_c_60 : Ref sig .tc := ⟨.hbm, 377, rfl⟩
abbrev main_v291 : Ref sig .tc := ⟨.hbm, 378, rfl⟩
abbrev main_v292 : Ref sig .tc := ⟨.hbm, 379, rfl⟩
abbrev main_c_61 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_c_62 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_c_63 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_c_64 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_c_65 : Ref sig .tc := ⟨.hbm, 405, rfl⟩
abbrev main_v314 : Ref sig .tc := ⟨.hbm, 406, rfl⟩
abbrev main_v315 : Ref sig .tc := ⟨.hbm, 407, rfl⟩
abbrev main_c_66 : Ref sig .tc := ⟨.hbm, 408, rfl⟩
abbrev main_v316 : Ref sig .tc := ⟨.hbm, 409, rfl⟩
abbrev main_v317 : Ref sig .tc := ⟨.hbm, 410, rfl⟩
abbrev main_c_67 : Ref sig .tc := ⟨.hbm, 411, rfl⟩
abbrev main_c_68 : Ref sig .tc := ⟨.hbm, 412, rfl⟩
abbrev main_call15_v0 : Ref sig .tc := ⟨.hbm, 413, rfl⟩
abbrev main_call15_v1 : Ref sig .tc := ⟨.hbm, 414, rfl⟩
abbrev main_v318 : Ref sig .tc := ⟨.hbm, 415, rfl⟩
abbrev main_v319 : Ref sig .tc := ⟨.hbm, 416, rfl⟩
abbrev main_c_69 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_cst_70 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_cst_71 : Ref sig .tc := ⟨.hbm, 425, rfl⟩
abbrev main_v326 : Ref sig .tc := ⟨.hbm, 426, rfl⟩
abbrev main_v327 : Ref sig .tc := ⟨.hbm, 427, rfl⟩
abbrev main_cst_72 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_c_73 : Ref sig .tc := ⟨.hbm, 432, rfl⟩
abbrev main_v331 : Ref sig .tc := ⟨.hbm, 433, rfl⟩
abbrev main_v332 : Ref sig .tc := ⟨.hbm, 434, rfl⟩
abbrev main_c_74 : Ref sig .tc := ⟨.hbm, 435, rfl⟩
abbrev main_v333 : Ref sig .tc := ⟨.hbm, 436, rfl⟩
abbrev main_v334 : Ref sig .tc := ⟨.hbm, 437, rfl⟩
abbrev main_c_75 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_c_76 : Ref sig .tc := ⟨.hbm, 444, rfl⟩
abbrev main_v340 : Ref sig .tc := ⟨.hbm, 445, rfl⟩
abbrev main_v341 : Ref sig .tc := ⟨.hbm, 446, rfl⟩
abbrev main_c_77 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_cst_78 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_cst_79 : Ref sig .tc := ⟨.hbm, 463, rfl⟩
abbrev main_call17_v0 : Ref sig .tc := ⟨.hbm, 464, rfl⟩
abbrev main_call17_v1 : Ref sig .tc := ⟨.hbm, 465, rfl⟩
abbrev main_call17_v2 : Ref sig .tc := ⟨.hbm, 466, rfl⟩
abbrev main_v356 : Ref sig .tc := ⟨.hbm, 467, rfl⟩
abbrev main_cst_80 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_cst_81 : Ref sig .tc := ⟨.hbm, 474, rfl⟩
abbrev main_v362 : Ref sig .tc := ⟨.hbm, 475, rfl⟩
abbrev main_v363 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_v384 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_v388 : Ref sig .tc := ⟨.hbm, 501, rfl⟩
abbrev main_v389 : Ref sig .tc := ⟨.hbm, 502, rfl⟩
abbrev main_v390 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_v410 : Ref sig .tc := ⟨.hbm, 523, rfl⟩
abbrev main_cst_82 : Ref sig .tc := ⟨.hbm, 524, rfl⟩
abbrev main_v411 : Ref sig .tc := ⟨.hbm, 525, rfl⟩
abbrev main_v412 : Ref sig .tc := ⟨.hbm, 526, rfl⟩
abbrev main_v413 : Ref sig .tc := ⟨.hbm, 527, rfl⟩
abbrev main_v414 : Ref sig .tc := ⟨.hbm, 528, rfl⟩
abbrev main_v415 : Ref sig .tc := ⟨.hbm, 529, rfl⟩
abbrev main_v416 : Ref sig .tc := ⟨.hbm, 530, rfl⟩
abbrev main_v417 : Ref sig .tc := ⟨.hbm, 531, rfl⟩
abbrev main_cst_83 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_c_84 : Ref sig .tc := ⟨.hbm, 537, rfl⟩
abbrev main_call18_v0 : Ref sig .tc := ⟨.hbm, 538, rfl⟩
abbrev main_v422 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_c_85 : Ref sig .tc := ⟨.hbm, 543, rfl⟩
abbrev main_v426 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_v431 : Ref sig .tc := ⟨.hbm, 549, rfl⟩
abbrev main_c_86 : Ref sig .tc := ⟨.hbm, 550, rfl⟩
abbrev main_v432 : Ref sig .tc := ⟨.hbm, 551, rfl⟩
abbrev main_v433 : Ref sig .tc := ⟨.hbm, 552, rfl⟩
abbrev main_c_87 : Ref sig .tc := ⟨.hbm, 553, rfl⟩
abbrev main_v434 : Ref sig .tc := ⟨.hbm, 554, rfl⟩
abbrev main_v435 : Ref sig .tc := ⟨.hbm, 555, rfl⟩
abbrev main_c_88 : Ref sig .tc := ⟨.hbm, 556, rfl⟩
abbrev main_c_89 : Ref sig .tc := ⟨.hbm, 557, rfl⟩
abbrev main_call19_v0 : Ref sig .tc := ⟨.hbm, 558, rfl⟩
abbrev main_call19_v1 : Ref sig .tc := ⟨.hbm, 559, rfl⟩
abbrev main_v436 : Ref sig .tc := ⟨.hbm, 560, rfl⟩
abbrev main_v437 : Ref sig .tc := ⟨.hbm, 561, rfl⟩
abbrev main_c_90 : Ref sig .tc := ⟨.hbm, 562, rfl⟩
abbrev main_v438 : Ref sig .tc := ⟨.hbm, 563, rfl⟩
abbrev main_v439 : Ref sig .tc := ⟨.hbm, 564, rfl⟩
abbrev main_v440 : Ref sig .tc := ⟨.hbm, 565, rfl⟩
abbrev main_cst_91 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_cst_92 : Ref sig .tc := ⟨.hbm, 570, rfl⟩
abbrev main_v444 : Ref sig .tc := ⟨.hbm, 571, rfl⟩
abbrev main_v445 : Ref sig .tc := ⟨.hbm, 572, rfl⟩
abbrev main_cst_93 : Ref sig .tc := ⟨.hbm, 573, rfl⟩
abbrev main_v446 : Ref sig .tc := ⟨.hbm, 574, rfl⟩
abbrev main_v447 : Ref sig .tc := ⟨.hbm, 575, rfl⟩
abbrev main_v448 : Ref sig .tc := ⟨.hbm, 576, rfl⟩
abbrev main_c_94 : Ref sig .tc := ⟨.hbm, 577, rfl⟩
abbrev main_v449 : Ref sig .tc := ⟨.hbm, 578, rfl⟩
abbrev main_v450 : Ref sig .tc := ⟨.hbm, 579, rfl⟩
abbrev main_c_95 : Ref sig .tc := ⟨.hbm, 580, rfl⟩
abbrev main_v451 : Ref sig .tc := ⟨.hbm, 581, rfl⟩
abbrev main_v452 : Ref sig .tc := ⟨.hbm, 582, rfl⟩
abbrev main_c_96 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_v456 : Ref sig .tc := ⟨.hbm, 587, rfl⟩
abbrev main_v457 : Ref sig .tc := ⟨.hbm, 588, rfl⟩
abbrev main_v458 : Ref sig .tc := ⟨.hbm, 589, rfl⟩
abbrev main_v459 : Ref sig .tc := ⟨.hbm, 590, rfl⟩
abbrev main_v460 : Ref sig .tc := ⟨.hbm, 591, rfl⟩
abbrev main_v461 : Ref sig .tc := ⟨.hbm, 592, rfl⟩
abbrev main_v462 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_v468 : Ref sig .tc := ⟨.hbm, 599, rfl⟩
abbrev main_v469 : Ref sig .tc := ⟨.hbm, 600, rfl⟩
abbrev main_v470 : Ref sig .tc := ⟨.hbm, 601, rfl⟩
abbrev main_v471 : Ref sig .tc := ⟨.hbm, 602, rfl⟩
abbrev main_c_97 : Ref sig .tc := ⟨.hbm, 603, rfl⟩
abbrev main_v472 : Ref sig .tc := ⟨.hbm, 604, rfl⟩
abbrev main_v473 : Ref sig .tc := ⟨.hbm, 605, rfl⟩
abbrev main_v474 : Ref sig .tc := ⟨.hbm, 606, rfl⟩
abbrev main_v475 : Ref sig .tc := ⟨.hbm, 607, rfl⟩
abbrev main_v476 : Ref sig .tc := ⟨.hbm, 608, rfl⟩
abbrev main_v477 : Ref sig .tc := ⟨.hbm, 609, rfl⟩
abbrev main_v478 : Ref sig .tc := ⟨.hbm, 610, rfl⟩
abbrev main_c_98 : Ref sig .tc := ⟨.hbm, 611, rfl⟩
abbrev main_v479 : Ref sig .tc := ⟨.hbm, 612, rfl⟩
abbrev main_v480 : Ref sig .tc := ⟨.hbm, 613, rfl⟩
abbrev main_cst_99 : Ref sig .tc := ⟨.hbm, 614, rfl⟩
abbrev main_call21_v0 : Ref sig .tc := ⟨.hbm, 615, rfl⟩
abbrev main_call21_v1 : Ref sig .tc := ⟨.hbm, 616, rfl⟩
abbrev main_call21_v2 : Ref sig .tc := ⟨.hbm, 617, rfl⟩
abbrev main_v481 : Ref sig .tc := ⟨.hbm, 618, rfl⟩
abbrev main_v482 : Ref sig .tc := ⟨.hbm, 619, rfl⟩
abbrev main_v483 : Ref sig .tc := ⟨.hbm, 620, rfl⟩
abbrev main_v484_0 : Ref sig .tc := ⟨.hbm, 621, rfl⟩
abbrev main_v484_1 : Ref sig .tc := ⟨.hbm, 622, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_stg13_0 : Ref sig .tc := ⟨.vmem, 31, rfl⟩
abbrev cc1_stg13_1 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc1_scratch4 : Ref sig .tc := ⟨.vmem, 37, rfl⟩
abbrev cc1_scratch5 : Ref sig .tc := ⟨.vmem, 38, rfl⟩
abbrev cc1_scratch6 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc1_sem13_0 : DmaSem sig := 31
abbrev cc1_sem13_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  ![v2.toNat, arg0.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  ![v2.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x128x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S4096x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S4096x128 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== Proof.ReluBwd.lean ====
/- The value of the feed-forward gradient: each block of rows the kernel writes back is the reference's
   gradient there. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.ReluBwd

open Cert.KernelIdeal Cert.KernelIdeal.Gen

variable (m : (ℓ : Loc nD τ sig) → Buf (Elt Ideal) ℓ)

/-- The block each window stages at each grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- A gradient through the square of a positive part needs no branch: it vanishes where the positive part does. -/
theorem branch (a b u : EReal) : (if 0 < u then a * (b * max u 0) else 0) = a * (b * max u 0) := by
  split_ifs with h
  · rfl
  · rw [max_eq_right (not_lt.mp h), mul_zero, mul_zero]

/-- What the body stores is the reference's gradient at the place the block sits. -/
theorem point (c : Dev nD) (t : Fin cfg0.N) (y) :
    k0_pay1 (iblk m c 0 t) (iblk m c 1 t) (iblk m c 2 t) y
      = Cert.ReferenceIdeal.Read.val_main_v12 (F := Ideal) (m ((c : Thread nD τ).loc main_arg0))
          (m ((c : Thread nD τ).loc main_arg1)) (m ((c : Thread nD τ).loc main_arg2)) (((cfg0.win 3).blk t).view.emb y) := by
  rw [← Cert.ReferenceIdeal.Read.val_main_v12_eq]
  pointwise [k0_pay1]
  rw [branch]
  blk_point [iblk, V, idx t]

/-- The result array after the run is the reference's gradient. -/
theorem final (c : Dev nD) : (dats m 0 c).arrAt 3 (cfgs 0).N
    = Cert.ReferenceIdeal.Read.val_main_v12 (F := Ideal) (m ((c : Thread nD τ).loc main_arg0))
        (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.KernelIdeal.ReluBwd

end
-- ==== Proof.AttnRun.lean ====
/- The attention program's execution: it ends with the four results at what the last host stretch leaves. -/
module

public import proofs.«01_k».proof.Proof.Gen.Kernel2Ideal.Frame

@[expose] public section

set_option maxRecDepth 16384

noncomputable section

namespace Cert.AttnA

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution ends with each buffer outside the regions at the last boundary's contents: the four
    results among them, and the arguments as launched. -/
theorem run : θ_run defs (onTc (τ := τ) (main (F := F))) ⟨m, fun _ => 0, ρ⟩ (fun r => ∀ c : Dev nD,
      r.2.mem ((c.tc : Thread nD τ).loc main_v7_0) = W5 m ρ c (Proc.devRef .tc main_v7_0)
      ∧ r.2.mem ((c.tc : Thread nD τ).loc main_v17) = W5 m ρ c (Proc.devRef .tc main_v17)
      ∧ r.2.mem ((c.tc : Thread nD τ).loc main_v18) = W5 m ρ c (Proc.devRef .tc main_v18)
      ∧ r.2.mem ((c.tc : Thread nD τ).loc main_v19) = W5 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v7_0 (by decide)), h c _ (mem_uc main_v17 (by decide)), h c _ (mem_uc main_v18 (by decide)),
       h c _ (mem_uc main_v19 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.AttnA

end
-- ==== Proof.AttnSpec.lean ====
/- The attention of mixer A over the real numbers: the scores, the softmax, the output and the three
   gradients, as sums over the keys, the query rows and the head dimension. Both programs are shown to
   compute these. Arrays are functions of natural coordinates, so that no index proof appears in them. -/
module

public import Idealize.ShloMosaic.Lib.Pipeline.ValueKit
public import Idealize.ShloMosaic.Lib.Pointwise

@[expose] public section

noncomputable section

namespace Cert.AttnA

open Finset

/-! ## Real sums inside the extended reals -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [sum_insert ha, sum_insert ha, ih, EReal.coe_add]

/-- A sum over `Fin n` of real terms is the real sum over the first `n` naturals. -/
theorem sum_fin {n : ℕ} {x : Fin n → EReal} (f : ℕ → ℝ) (h : ∀ k, x k = ((f k.val : ℝ) : EReal)) :
    ∑ k, x k = ((∑ k ∈ range n, f k : ℝ) : EReal) := by
  rw [sum_congr rfl fun k _ => h k, coe_sum, Finset.sum_range]

/-- The greatest of finitely many reals, started from `-∞`, is a real. -/
theorem fold_max {n : ℕ} (hn : 0 < n) (x : Fin n → EReal) (f : Fin n → ℝ) (h : ∀ k, x k = ((f k : ℝ) : EReal)) :
    ∃ M : ℝ, univ.fold max (⊥ : EReal) x = (M : EReal) := by
  have key : ∀ s : Finset (Fin n), s.Nonempty → ∃ M : ℝ, s.fold max (⊥ : EReal) x = (M : EReal) := by
    intro s hs
    induction hs using Finset.Nonempty.cons_induction with
    | singleton a => exact ⟨f a, by rw [Finset.fold_singleton, h a]; simp⟩
    | cons a s ha _ ih =>
      obtain ⟨M, hM⟩ := ih
      exact ⟨max (f a) M, by rw [Finset.fold_cons, hM, h a]; exact (EReal.coe_strictMono.monotone.map_max).symm⟩
  exact key univ ⟨⟨0, hn⟩, mem_univ _⟩

/-- An entry of a real array at equal coordinates. -/
theorem at3 (A : ℕ → ℕ → ℕ → ℝ) {a a' b b' c c' : ℕ} (ha : a = a') (hb : b = b') (hc : c = c') :
    ((A a b c : ℝ) : EReal) = ((A a' b' c' : ℝ) : EReal) := by rw [ha, hb, hc]

theorem at3r (A : ℕ → ℕ → ℕ → ℝ) {a a' b b' c c' : ℕ} (ha : a = a') (hb : b = b') (hc : c = c') :
    A a b c = A a' b' c' := by rw [ha, hb, hc]

/-- The word of one eighth. -/
theorem ofBits_eighth : Idealize.ShloMosaic.Ideal.ofBits .f32 0x3E000000#32 = (((1 : ℝ) / 8 : ℝ) : EReal) := by
  simp [Idealize.ShloMosaic.Ideal.ofBits, Idealize.ShloMosaic.Ideal.ieee, -EReal.coe_mul]; norm_num

/-- The word of minus infinity. -/
theorem ofBits_neg_inf : Idealize.ShloMosaic.Ideal.ofBits .f32 0xFF800000#32 = ⊥ := by
  simp [Idealize.ShloMosaic.Ideal.ofBits, Idealize.ShloMosaic.Ideal.ieee]

/-! ## The mathematics -/

section
variable (Q K V D : ℕ → ℕ → ℕ → ℝ)

/-- The score of query row `t` of head `h` and key row `j`. -/
def sc (t h j : ℕ) : ℝ := (∑ d ∈ range 64, Q t h d * K j (h / 4) d) * (1 / 8)
/-- The softmax denominator. -/
def Z (t h : ℕ) : ℝ := ∑ j ∈ range 16384, Real.exp (sc Q K t h j)
/-- The probability. -/
def P (t h j : ℕ) : ℝ := Real.exp (sc Q K t h j) / Z Q K t h
/-- The output. -/
def Y (t h d : ℕ) : ℝ := ∑ j ∈ range 16384, P Q K t h j * V j (h / 4) d
/-- The gradient with respect to a probability. -/
def dP (t h j : ℕ) : ℝ := ∑ d ∈ range 64, D t h d * V j (h / 4) d
/-- The row's mean of `dP` under the probabilities. -/
def dl (t h : ℕ) : ℝ := ∑ j ∈ range 16384, P Q K t h j * dP V D t h j
/-- The gradient with respect to a scaled score. -/
def dS (t h j : ℕ) : ℝ := P Q K t h j * (dP V D t h j - dl Q K V D t h)
/-- The gradient with respect to a query. -/
def dQ (t h d : ℕ) : ℝ := (∑ j ∈ range 16384, dS Q K V D t h j * K j (h / 4) d) * (1 / 8)
/-- The gradient with respect to a key. -/
def dK (j g d : ℕ) : ℝ := ∑ t ∈ range 16384, ∑ a ∈ range 4, dS Q K V D t (4 * g + a) j * (Q t (4 * g + a) d * (1 / 8))
/-- The gradient with respect to a value. -/
def dV (j g d : ℕ) : ℝ := ∑ t ∈ range 16384, ∑ a ∈ range 4, P Q K t (4 * g + a) j * D t (4 * g + a) d

theorem Z_pos (t h : ℕ) : 0 < Z Q K t h := sum_pos (fun _ _ => Real.exp_pos _) ⟨0, by simp⟩

/-- The row's mean of `dP` is the output's product with its gradient. -/
theorem dl_eq (t h : ℕ) : dl Q K V D t h = ∑ d ∈ range 64, D t h d * Y Q K V t h d := by
  unfold dl dP Y
  simp only [mul_sum]
  rw [sum_comm]
  exact sum_congr rfl fun d _ => sum_congr rfl fun j _ => by ring

/-- The denominator with every score shifted by `M`. -/
theorem sum_exp_shift (t h : ℕ) (M : ℝ) :
    ∑ j ∈ range 16384, Real.exp (sc Q K t h j - M) = Z Q K t h * Real.exp (-M) := by
  unfold Z
  rw [sum_mul]
  exact sum_congr rfl fun j _ => by rw [← Real.exp_add, sub_eq_add_neg]

theorem P_shift (t h j : ℕ) (M : ℝ) :
    Real.exp (sc Q K t h j - M) / (Z Q K t h * Real.exp (-M)) = P Q K t h j := by
  unfold P
  rw [sub_eq_add_neg, Real.exp_add, mul_div_mul_right _ _ (Real.exp_pos _).ne']

theorem Z_shift_ne (t h : ℕ) (M : ℝ) : Z Q K t h * Real.exp (-M) ≠ 0 :=
  (mul_pos (Z_pos Q K t h) (Real.exp_pos _)).ne'

/-- The gradient with respect to a score, from the exponentials shifted by `M`. -/
theorem dS_shift (t h j : ℕ) (M : ℝ) :
    (dP V D t h j * (1 / (Z Q K t h * Real.exp (-M))) + -dl Q K V D t h / (Z Q K t h * Real.exp (-M)))
      * Real.exp (sc Q K t h j - M) = dS Q K V D t h j := by
  unfold dS
  rw [← P_shift Q K t h j M]
  ring

theorem P_eq_exp_log (t h j : ℕ) : Real.exp (sc Q K t h j - Real.log (Z Q K t h)) = P Q K t h j := by
  rw [Real.exp_sub, Real.exp_log (Z_pos Q K t h), P]

end

end Cert.AttnA

end
-- ==== Proof.AttnRef.lean ====
/- What the plain attention and its `jax.vjp` compute over the reals: each buffer of the reference at an
   index, down to the four results, as the sums of `AttnSpec`. -/
module

public import proofs.«01_k».proof.Proof.Gen.Reference2Ideal.Read
public import proofs.«01_k».proof.Proof.AttnSpec

@[expose] public section

set_option maxRecDepth 16384

noncomputable section

namespace Cert.AttnA.Ref

open Cert.Reference2Ideal Cert.Reference2Ideal.Gen Cert.Reference2Ideal.Read Idealize.ShloMosaic Finset

variable (Q K V D : ℕ → ℕ → ℕ → ℝ)
variable {x0 : (⟨S16384x8x64, .f32⟩ : BufTy).Contents (Elt Ideal)} {x1 x2 : (⟨S16384x2x64, .f32⟩ : BufTy).Contents (Elt Ideal)}
  {x3 : (⟨S16384x512, .f32⟩ : BufTy).Contents (Elt Ideal)}

/-- The queries as the reference groups them. -/
theorem v0 (h0 : ∀ i, x0 i = ((Q (i 0).val (i 1).val (i 2).val : ℝ) : EReal)) (i) :
    val_main_v0 (F := Ideal) x0 i = ((Q (i 0).val (4 * (i 1).val + (i 2).val) (i 3).val : ℝ) : EReal) := by
  have b0 : (i 0).val < 16384 := (i 0).isLt
  have b1 : (i 1).val < 2 := (i 1).isLt
  have b2 : (i 2).val < 4 := (i 2).isLt
  have b3 : (i 3).val < 64 := (i 3).isLt
  rw [val_main_v0_apply, h0]
  refine at3 Q ?_ ?_ ?_
  · show ((((i 0).val * 2 + (i 1).val) * 4 + (i 2).val) * 64 + (i 3).val) / 512 = _; omega
  · show ((((i 0).val * 2 + (i 1).val) * 4 + (i 2).val) * 64 + (i 3).val) / 64 % 8 = _; omega
  · show ((((i 0).val * 2 + (i 1).val) * 4 + (i 2).val) * 64 + (i 3).val) % 64 = _; omega

/-- The scaled scores. -/
theorem v4 (h0 : ∀ i, x0 i = ((Q (i 0).val (i 1).val (i 2).val : ℝ) : EReal))
    (h1 : ∀ i, x1 i = ((K (i 0).val (i 1).val (i 2).val : ℝ) : EReal)) (i) :
    val_main_v4 (F := Ideal) x0 x1 i = ((sc Q K (i 2).val (4 * (i 0).val + (i 1).val) (i 3).val : ℝ) : EReal) := by
  have b1 : (i 1).val < 4 := (i 1).isLt
  rw [val_main_v4_apply, val_main_v3_apply, val_main_cst_apply, val_main_v2_apply, val_main_v1_apply,
    sum_fin (fun d => Q (i 2).val (4 * (i 0).val + (i 1).val) d * K (i 3).val ((4 * (i 0).val + (i 1).val) / 4) d)]
  · show (_ : EReal) * Ideal.ofBits .f32 0x3E000000#32 = _
    rw [ofBits_eighth, ← EReal.coe_mul]; rfl
  · intro k
    rw [h1, v0 Q h0, ← EReal.coe_mul, mul_comm (K _ _ _)]
    congr 2
    show K (i 3).val (i 0).val k.val = K (i 3).val ((4 * (i 0).val + (i 1).val) / 4) k.val
    congr 1; omega

/-- The row maximum is a real. -/
theorem v5 (h0 : ∀ i, x0 i = ((Q (i 0).val (i 1).val (i 2).val : ℝ) : EReal))
    (h1 : ∀ i, x1 i = ((K (i 0).val (i 1).val (i 2).val : ℝ) : EReal)) (i) :
    ∃ M : ℝ, val_main_v5 (F := Ideal) x0 x1 i = (M : EReal) := by
  unfold val_main_v5
  pointwise []
  rw [show val_main_cst_0 (F := Ideal) (Shape.Idx.first h_S_) = ⊥ from ofBits_neg_inf]
  exact fold_max (by decide) _ _ fun k => v4 Q K h0 h1 _

/-- The shifted exponentials, their sum over a row, and the probabilities, at the row's maximum `M`. -/
theorem row (h0 : ∀ i, x0 i = ((Q (i 0).val (i 1).val (i 2).val : ℝ) : EReal))
    (h1 : ∀ i, x1 i = ((K (i 0).val (i 1).val (i 2).val : ℝ) : EReal)) :
    ∃ M : ℕ → ℕ → ℝ, (∀ i, val_main_v25 (F := Ideal) x0 x1 i
        = ((Real.exp (sc Q K (i 2).val (4 * (i 0).val + (i 1).val) (i 3).val - M (i 2).val (4 * (i 0).val + (i 1).val)) : ℝ) : EReal))
      ∧ (∀ i, val_main_v26 (F := Ideal) x0 x1 i
        = ((Z Q K (i 2).val (4 * (i 0).val + (i 1).val) * Real.exp (-M (i 2).val (4 * (i 0).val + (i 1).val)) : ℝ) : EReal)) := by
  choose m hm using v5 Q K h0 h1
  let M : ℕ → ℕ → ℝ := fun t h => if ht : t < 16384 then m (ix3 (⟨h / 4 % 2, by omega⟩ : Fin 2) (⟨h % 4, by omega⟩ : Fin 4) (⟨t, ht⟩ : Fin 16384)) else 0
  have hM : ∀ i : S2x4x16384.Idx, m i = M (i 2).val (4 * (i 0).val + (i 1).val) := by
    intro i
    have b0 : (i 0).val < 2 := (i 0).isLt
    have b1 : (i 1).val < 4 := (i 1).isLt
    have b2 : (i 2).val < 16384 := (i 2).isLt
    simp only [M, dif_pos b2]
    congr 1
    funext a
    match a with
    | ⟨0, _⟩ => exact Fin.ext (by show (i 0).val = (4 * (i 0).val + (i 1).val) / 4 % 2; omega)
    | ⟨1, _⟩ => exact Fin.ext (by show (i 1).val = (4 * (i 0).val + (i 1).val) % 4; omega)
    | ⟨2, _⟩ => rfl
  have e25 : ∀ i, val_main_v25 (F := Ideal) x0 x1 i
      = ((Real.exp (sc Q K (i 2).val (4 * (i 0).val + (i 1).val) (i 3).val - M (i 2).val (4 * (i 0).val + (i 1).val)) : ℝ) : EReal) := by
    intro i
    rw [val_main_v25_apply, val_main_v24_apply, val_main_v23_apply, val_main_v22_apply, val_main_v12_apply, val_main_v11_apply,
      val_main_cst_2_apply, v4 Q K h0 h1, hm, hM]
    simp only [Ideal.hostUnary_exp_def, Ideal.subf_def, Ideal.maximumf_def, Ideal.ofBits_def]
    rw [ofBits_neg_inf, max_eq_right bot_le, ← EReal.coe_sub, Ideal.exp_coe]
  refine ⟨M, e25, fun i => ?_⟩
  rw [val_main_v26_apply, val_main_cst_8_apply, sum_fin (fun k => Real.exp (sc Q K (i 2).val (4 * (i 0).val + (i 1).val) k - M (i 2).val (4 * (i 0).val + (i 1).val))) fun k => e25 _,
    sum_exp_shift]
  show Ideal.ofBits .f32 0x00000000#32 + (_ : EReal) = _
  rw [Ideal.ofBits_zero_f32, zero_add]

/-- The probabilities. -/
theorem v29 (h0 : ∀ i, x0 i = ((Q (i 0).val (i 1).val (i 2).val : ℝ) : EReal))
    (h1 : ∀ i, x1 i = ((K (i 0).val (i 1).val (i 2).val : ℝ) : EReal)) (i) :
    val_main_v29 (F := Ideal) x0 x1 i = ((P Q K (i 2).val (4 * (i 0).val + (i 1).val) (i 3).val : ℝ) : EReal) := by
  obtain ⟨M, e25, e26⟩ := row Q K h0 h1
  rw [val_main_v29_apply, val_main_v28_apply, val_main_v27_apply, e25, e26]
  show Ideal.div _ _ = _
  rw [Ideal.div_coe (Z_shift_ne Q K _ _ _), ← EReal.coe_mul, mul_one_div]
  exact congrArg _ (P_shift Q K _ _ _ _)

/-- The output. -/
theorem v35 (h0 : ∀ i, x0 i = ((Q (i 0).val (i 1).val (i 2).val : ℝ) : EReal))
    (h1 : ∀ i, x1 i = ((K (i 0).val (i 1).val (i 2).val : ℝ) : EReal))
    (h2 : ∀ i, x2 i = ((V (i 0).val (i 1).val (i 2).val : ℝ) : EReal)) (i) :
    val_main_v35 (F := Ideal) x0 x1 x2 i = ((Y Q K V (i 0).val ((i 1).val / 64) ((i 1).val % 64) : ℝ) : EReal) := by
  have b0 : (i 0).val < 16384 := (i 0).isLt
  have b1 : (i 1).val < 512 := (i 1).isLt
  rw [val_main_v35_apply, val_main_v34_apply, val_main_v33_apply,
    sum_fin (fun j => P Q K (i 0).val ((i 1).val / 64) j * V j ((i 1).val / 64 / 4) ((i 1).val % 64))]
  · rfl
  · intro k
    rw [h2, v29 Q K h0 h1, ← EReal.coe_mul, mul_comm (V _ _ _)]
    refine congrArg _ (congrArg₂ _ (at3r (P Q K) ?_ ?_ rfl) (at3r V rfl ?_ ?_))
    · show ((i 0).val * 512 + (i 1).val) / 512 = _; omega
    · show 4 * (((i 0).val * 512 + (i 1).val) / 256 % 2) + ((i 0).val * 512 + (i 1).val) / 64 % 4 = _; omega
    · show ((i 0).val * 512 + (i 1).val) / 256 % 2 = _; omega
    · show ((i 0).val * 512 + (i 1).val) % 64 = _; omega

/-- The cotangent, grouped. -/
theorem v37 (h3 : ∀ i, x3 i = ((D (i 0).val ((i 1).val / 64) ((i 1).val % 64) : ℝ) : EReal)) (i) :
    val_main_v37 (F := Ideal) x3 i = ((D (i 3).val (4 * (i 0).val + (i 2).val) (i 1).val : ℝ) : EReal) := by
  have b0 : (i 0).val < 2 := (i 0).isLt
  have b1 : (i 1).val < 64 := (i 1).isLt
  have b2 : (i 2).val < 4 := (i 2).isLt
  have b3 : (i 3).val < 16384 := (i 3).isLt
  rw [val_main_v37_apply, val_main_v36_apply, h3]
  refine at3 D ?_ ?_ ?_
  · show ((((i 3).val * 2 + (i 0).val) * 4 + (i 2).val) * 64 + (i 1).val) / 512 = _; omega
  · show ((((i 3).val * 2 + (i 0).val) * 4 + (i 2).val) * 64 + (i 1).val) % 512 / 64 = _; omega
  · show ((((i 3).val * 2 + (i 0).val) * 4 + (i 2).val) * 64 + (i 1).val) % 512 % 64 = _; omega

/-- The gradient with respect to the probabilities. -/
theorem v38 (h2 : ∀ i, x2 i = ((V (i 0).val (i 1).val (i 2).val : ℝ) : EReal))
    (h3 : ∀ i, x3 i = ((D (i 0).val ((i 1).val / 64) ((i 1).val % 64) : ℝ) : EReal)) (i) :
    val_main_v38 (F := Ideal) x2 x3 i = ((dP V D (i 2).val (4 * (i 0).val + (i 1).val) (i 3).val : ℝ) : EReal) := by
  have b1 : (i 1).val < 4 := (i 1).isLt
  rw [val_main_v38_apply,
    sum_fin (fun d => D (i 2).val (4 * (i 0).val + (i 1).val) d * V (i 3).val ((4 * (i 0).val + (i 1).val) / 4) d)]
  · rfl
  · intro k
    rw [h2, v37 D h3, ← EReal.coe_mul]
    refine congrArg _ (congrArg₂ _ rfl (at3r V rfl ?_ rfl))
    show (i 0).val = _; omega

/-- The gradient with respect to the scores, before their scale. -/
theorem v52 (h0 : ∀ i, x0 i = ((Q (i 0).val (i 1).val (i 2).val : ℝ) : EReal))
    (h1 : ∀ i, x1 i = ((K (i 0).val (i 1).val (i 2).val : ℝ) : EReal))
    (h2 : ∀ i, x2 i = ((V (i 0).val (i 1).val (i 2).val : ℝ) : EReal))
    (h3 : ∀ i, x3 i = ((D (i 0).val ((i 1).val / 64) ((i 1).val % 64) : ℝ) : EReal)) (i) :
    val_main_v52 (F := Ideal) x0 x1 x2 x3 i
      = ((dS Q K V D (i 2).val (4 * (i 0).val + (i 1).val) (i 3).val : ℝ) : EReal) := by
  obtain ⟨M, e25, e26⟩ := row Q K h0 h1
  -- the sum over a row of the gradient of the quotient with respect to its denominator
  have e44 : ∀ i, val_main_v44 (F := Ideal) x0 x1 x2 x3 i
      = ((dl Q K V D (i 2).val (4 * (i 0).val + (i 1).val)
          / (Z Q K (i 2).val (4 * (i 0).val + (i 1).val) * Real.exp (-M (i 2).val (4 * (i 0).val + (i 1).val))) : ℝ) : EReal) := by
    intro i
    rw [val_main_v44_apply, val_main_cst_10_apply,
      sum_fin (fun k => P Q K (i 2).val (4 * (i 0).val + (i 1).val) k * dP V D (i 2).val (4 * (i 0).val + (i 1).val) k
        / (Z Q K (i 2).val (4 * (i 0).val + (i 1).val) * Real.exp (-M (i 2).val (4 * (i 0).val + (i 1).val))))]
    · simp only [Ideal.ofBits_def, Ideal.ofBits_zero_f32, zero_add]
      rw [← Finset.sum_div]; rfl
    · intro k
      rw [val_main_v43_apply, val_main_v42_apply, val_main_v41_apply, val_main_v32_apply, val_main_v31_apply, val_main_cst_9_apply,
        val_main_v30_apply, val_main_v27_apply, v38 V D h2 h3, e25, e26]
      simp only [Ideal.mulf_def, Ideal.ofBits_def, Ideal.hostDivf_def, Ideal.ofBits_one_f32]
      rw [← EReal.coe_mul, Ideal.div_coe (mul_ne_zero (Z_shift_ne Q K _ _ _) (Z_shift_ne Q K _ _ _)), one_mul, ← EReal.coe_mul, ← EReal.coe_mul]
      refine congrArg _ ?_
      show dP V D (i 2).val (4 * (i 0).val + (i 1).val) k.val * (1 / ((Z Q K (i 2).val (4 * (i 0).val + (i 1).val) * Real.exp (-M (i 2).val (4 * (i 0).val + (i 1).val)))
        * (Z Q K (i 2).val (4 * (i 0).val + (i 1).val) * Real.exp (-M (i 2).val (4 * (i 0).val + (i 1).val)))))
        * Real.exp (sc Q K (i 2).val (4 * (i 0).val + (i 1).val) k.val - M (i 2).val (4 * (i 0).val + (i 1).val)) = _
      rw [← P_shift Q K _ _ _ (M (i 2).val (4 * (i 0).val + (i 1).val))]
      generalize hz : Z Q K (i 2).val (4 * (i 0).val + (i 1).val) * Real.exp (-M (i 2).val (4 * (i 0).val + (i 1).val)) = z
      have : z ≠ 0 := hz ▸ Z_shift_ne Q K _ _ _
      field_simp
  rw [val_main_v52_apply, val_main_v51_apply, val_main_v50_apply, val_main_v49_apply, val_main_cst_11_apply,
    val_main_v48_apply, val_main_v47_apply, val_main_v27_apply, v38 V D h2 h3, e25, e26]
  simp only [val_main_v46_apply, val_main_v45_apply, e44]
  have b0 : (i 0).val < 2 := (i 0).isLt
  have b1 : (i 1).val < 4 := (i 1).isLt
  have b2 : (i 2).val < 16384 := (i 2).isLt
  rw [Fin.sum_univ_one]
  have q2 : ((((i 0).val * 4 + (i 1).val) * 16384 + (i 2).val) * 1 + (0 : Fin 1).val) % 16384 = (i 2).val := by
    show ((((i 0).val * 4 + (i 1).val) * 16384 + (i 2).val) * 1 + 0) % 16384 = _; omega
  have q0 : ((((i 0).val * 4 + (i 1).val) * 16384 + (i 2).val) * 1 + (0 : Fin 1).val) / 65536 = (i 0).val := by
    show ((((i 0).val * 4 + (i 1).val) * 16384 + (i 2).val) * 1 + 0) / 65536 = _; omega
  have q1 : ((((i 0).val * 4 + (i 1).val) * 16384 + (i 2).val) * 1 + (0 : Fin 1).val) / 16384 % 4 = (i 1).val := by
    show ((((i 0).val * 4 + (i 1).val) * 16384 + (i 2).val) * 1 + 0) / 16384 % 4 = _; omega
  simp only [q0, q1, q2, Ideal.mulf_def, Ideal.addf_def, Ideal.ofBits_def, Ideal.ofBits_zero_f32, Ideal.hostDivf_def, Ideal.hostNegf_def, Ideal.negf_def, zero_add]
  rw [Ideal.div_coe (Z_shift_ne Q K _ _ _), ← EReal.coe_mul, ← EReal.coe_neg, ← EReal.coe_add, ← EReal.coe_mul,
    ← dS_shift Q K V D _ _ _ (M (i 2).val (4 * (i 0).val + (i 1).val)), neg_div]

/-- The gradient with respect to the unscaled scores, keys before queries. -/
theorem v55 (h0 : ∀ i, x0 i = ((Q (i 0).val (i 1).val (i 2).val : ℝ) : EReal))
    (h1 : ∀ i, x1 i = ((K (i 0).val (i 1).val (i 2).val : ℝ) : EReal))
    (h2 : ∀ i, x2 i = ((V (i 0).val (i 1).val (i 2).val : ℝ) : EReal))
    (h3 : ∀ i, x3 i = ((D (i 0).val ((i 1).val / 64) ((i 1).val % 64) : ℝ) : EReal)) (i) :
    val_main_v55 (F := Ideal) x0 x1 x2 x3 i
      = ((dS Q K V D (i 2).val (4 * (i 0).val + (i 3).val) (i 1).val * (1 / 8) : ℝ) : EReal) := by
  rw [val_main_v55_apply, val_main_v54_apply, val_main_v53_apply, val_main_cst_12_apply, v52 Q K V D h0 h1 h2 h3]
  simp only [Ideal.mulf_def, Ideal.ofBits_def, ofBits_eighth]
  rw [← EReal.coe_mul]

/-- The gradient with respect to the queries. -/
theorem v60 (h0 : ∀ i, x0 i = ((Q (i 0).val (i 1).val (i 2).val : ℝ) : EReal))
    (h1 : ∀ i, x1 i = ((K (i 0).val (i 1).val (i 2).val : ℝ) : EReal))
    (h2 : ∀ i, x2 i = ((V (i 0).val (i 1).val (i 2).val : ℝ) : EReal))
    (h3 : ∀ i, x3 i = ((D (i 0).val ((i 1).val / 64) ((i 1).val % 64) : ℝ) : EReal)) (i) :
    val_main_v60 (F := Ideal) x0 x1 x2 x3 i = ((dQ Q K V D (i 0).val (i 1).val (i 2).val : ℝ) : EReal) := by
  have b0 : (i 0).val < 16384 := (i 0).isLt
  have b1 : (i 1).val < 8 := (i 1).isLt
  have b2 : (i 2).val < 64 := (i 2).isLt
  rw [val_main_v60_apply, val_main_v57_apply, val_main_v56_apply,
    sum_fin (fun j => dS Q K V D (i 0).val (i 1).val j * (1 / 8) * K j ((i 1).val / 4) (i 2).val)]
  · refine congrArg _ ?_
    unfold dQ
    rw [sum_mul]
    exact sum_congr rfl fun j _ => by ring
  · intro k
    rw [h1, v55 Q K V D h0 h1 h2 h3, ← EReal.coe_mul]
    refine congrArg _ (congrArg₂ _ (congrArg (· * _) (at3r (dS Q K V D) ?_ ?_ rfl)) (at3r K rfl ?_ ?_))
    · show (((i 0).val * 8 + (i 1).val) * 64 + (i 2).val) / 512 = _; omega
    · show 4 * ((((i 0).val * 8 + (i 1).val) * 64 + (i 2).val) / 256 % 2) + (((i 0).val * 8 + (i 1).val) * 64 + (i 2).val) / 64 % 4 = _; omega
    · show ((((i 0).val * 8 + (i 1).val) * 64 + (i 2).val) / 256 % 2) = _; omega
    · show (((i 0).val * 8 + (i 1).val) * 64 + (i 2).val) % 64 = _; omega

/-- The gradient with respect to the keys. -/
theorem v59 (h0 : ∀ i, x0 i = ((Q (i 0).val (i 1).val (i 2).val : ℝ) : EReal))
    (h1 : ∀ i, x1 i = ((K (i 0).val (i 1).val (i 2).val : ℝ) : EReal))
    (h2 : ∀ i, x2 i = ((V (i 0).val (i 1).val (i 2).val : ℝ) : EReal))
    (h3 : ∀ i, x3 i = ((D (i 0).val ((i 1).val / 64) ((i 1).val % 64) : ℝ) : EReal)) (i) :
    val_main_v59 (F := Ideal) x0 x1 x2 x3 i = ((dK Q K V D (i 0).val (i 1).val (i 2).val : ℝ) : EReal) := by
  rw [val_main_v59_apply]
  unfold val_main_v58
  pointwise []
  rw [sum_fin (fun t => ∑ a ∈ range 4, dS Q K V D t (4 * (i 1).val + a) (i 0).val * (Q t (4 * (i 1).val + a) (i 2).val * (1 / 8)))]
  · rfl
  · intro t
    rw [sum_fin (fun a => dS Q K V D t.val (4 * (i 1).val + a) (i 0).val * (Q t.val (4 * (i 1).val + a) (i 2).val * (1 / 8)))]
    intro a
    rw [v55 Q K V D h0 h1 h2 h3, v0 Q h0, ← EReal.coe_mul]
    refine congrArg _ ?_
    show dS Q K V D t.val (4 * (i 1).val + a.val) (i 0).val * (1 / 8) * Q t.val (4 * (i 1).val + a.val) (i 2).val = _
    ring

/-- The gradient with respect to the values. -/
theorem v40 (h0 : ∀ i, x0 i = ((Q (i 0).val (i 1).val (i 2).val : ℝ) : EReal))
    (h1 : ∀ i, x1 i = ((K (i 0).val (i 1).val (i 2).val : ℝ) : EReal))
    (h3 : ∀ i, x3 i = ((D (i 0).val ((i 1).val / 64) ((i 1).val % 64) : ℝ) : EReal)) (i) :
    val_main_v40 (F := Ideal) x0 x1 x3 i = ((dV Q K D (i 0).val (i 1).val (i 2).val : ℝ) : EReal) := by
  rw [val_main_v40_apply]
  unfold val_main_v39
  pointwise []
  rw [sum_comm, sum_fin (fun t => ∑ a ∈ range 4, P Q K t (4 * (i 1).val + a) (i 0).val * D t (4 * (i 1).val + a) (i 2).val)]
  · rfl
  · intro t
    rw [sum_fin (fun a => P Q K t.val (4 * (i 1).val + a) (i 0).val * D t.val (4 * (i 1).val + a) (i 2).val)]
    intro a
    rw [v29 Q K h0 h1, v37 D h3, ← EReal.coe_mul, mul_comm (D _ _ _)]
    rfl

end Cert.AttnA.Ref

end
-- ==== Proof.AttnStep.lean ====
/- One block of 2048 keys of the forward attention over the reals: the running maximum and the running
   numerator, kept as the numerator shifted by the maximum. -/
module

public import proofs.«01_k».proof.Proof.Gen.Kernel2Ideal.Skeleton
public import proofs.«01_k».proof.Proof.AttnSpec

@[expose] public section

set_option maxRecDepth 16384

noncomputable section

namespace Cert.AttnA.Fwd

open Cert.Kernel2Ideal Cert.Kernel2Ideal.Gen Idealize.ShloMosaic Finset

section
variable {F : FTy → Type} [FloatOps F]

/-- The scores of the stacked queries against a block of keys. -/
def sB (q : FVec F S1024x128 .bf16) (x : Vec F S1x2048x128 .bf16) : FVec F S1024x2048 .f32 :=
  matmul dot_S1024x128_S2048x128_S1024x2048_1_1_0_0_n_n none q (k0_pay9 x) (constant S1024x2048 .f32 0x00000000#32)

/-- The running maximum after a block. -/
def mB (q : FVec F S1024x128 .bf16) (m : FVec F S1024x1 .f32) (x : Vec F S1x2048x128 .bf16) : FVec F S1024x1 .f32 :=
  maximumf m (shapeCast S1024x1 (multiReduction .maximumf [1] S1024 (sB q x) 0xFF800000#32 reduces_S1024x2048_S1024 (.inl rfl) rfl)
    shapeCasts_S1024_S1024x1)

/-- The running numerator (upper lanes) and denominator (lower lanes) after a block. -/
def aB (q : FVec F S1024x128 .bf16) (m : FVec F S1024x1 .f32) (acc : FVec F S1024x128 .f32) (x : Vec F S1x2048x128 .bf16) :
    FVec F S1024x128 .f32 :=
  addf (mulf (broadcastTo S1024x128 (exp (subf m (mB q m x))) broadcasts_S1024x1_S1024x128) acc)
    (matmul dot_S1024x2048_S2048x128_S1024x128_1_0_0_1_n_n none
      (truncf .bf16 (exp (subf (sB q x) (broadcastTo S1024x2048 (mB q m x) broadcasts_S1024x1_S1024x2048))) bitsLt_bf16_f32)
      (select k0_pay5 (broadcast S2048x128 (Scalar.ofBits .bf16 0x3F80#16)) (k0_pay9 x)) (constant S1024x128 .f32 0x00000000#32))

/-- Both, after the first `n` of a sequence of blocks. -/
def st (q : FVec F S1024x128 .bf16) (x : ℕ → Vec F S1x2048x128 .bf16) : ℕ → FVec F S1024x1 .f32 × FVec F S1024x128 .f32
  | 0 => (k0_pay7, k0_pay8)
  | n + 1 => (mB q (st q x n).1 (x n), aB q (st q x n).1 (st q x n).2 (x n))

end

variable {q : FVec Ideal S1024x128 .bf16} {m : FVec Ideal S1024x1 .f32} {acc : FVec Ideal S1024x128 .f32}
  {x : Vec Ideal S1x2048x128 .bf16}

theorem sB_apply (r : Fin 1024) (j : Fin 2048) (f : ℕ → ℝ) (g : ℕ → ℕ → ℝ) (hq : ∀ l : Fin 128, q (ix2 r l) = ((f l.val : ℝ) : EReal))
    (hx : ∀ (j : Fin 2048) (l : Fin 128), x (ix3 (0 : Fin 1) j l) = ((g j.val l.val : ℝ) : EReal)) :
    sB q x (ix2 r j) = ((∑ l ∈ range 128, f l * g j.val l : ℝ) : EReal) := by
  pointwise [sB, k0_pay9]
  exact sum_fin _ fun l => by rw [hq, hx, EReal.coe_mul]

/-- The greatest score of a row. -/
theorem rowmax (s : FVec Ideal S1024x2048 .f32) (h : S1024x2048.Reduces [1] S1024) (hφ : FKind.Formats .f32)
    (hacc : 0xFF800000#32 = FKind.maximumf.neutral .f32 hφ) (r : Fin 1024) :
    multiReduction .maximumf [1] S1024 s 0xFF800000#32 h hφ hacc (ix1 r) = univ.fold max (⊥ : EReal) fun j : Fin 2048 => s (ix2 r j) := by
  pointwise []
  rw [ofBits_neg_inf]

theorem max_apply (v : FVec Ideal S1024 .f32) (r : Fin 1024) :
    (maximumf m (shapeCast S1024x1 v shapeCasts_S1024_S1024x1) : FVec Ideal S1024x1 .f32) (ix2 r (0 : Fin 1)) = max (m (ix2 r 0)) (v (ix1 r)) := by
  pointwise []

theorem mB_apply (r : Fin 1024) :
    mB q m x (ix2 r (0 : Fin 1)) = max (m (ix2 r 0)) (univ.fold max (⊥ : EReal) fun j : Fin 2048 => sB q x (ix2 r j)) :=
  (max_apply _ r).trans (congrArg _ (rowmax _ _ _ _ r))

theorem aB_apply (r : Fin 1024) (l : Fin 128) :
    aB q m acc x (ix2 r l) = Ideal.exp (m (ix2 r 0) - mB q m x (ix2 r 0)) * acc (ix2 r l)
      + ∑ j : Fin 2048, Ideal.exp (sB q x (ix2 r j) - mB q m x (ix2 r 0)) * (if l.val < 64 then 1 else x (ix3 0 j l)) := by
  pointwise [aB, k0_pay5, k0_pay9]
  have hc : (IntOp.cmpi CmpIPredicate.slt (BitVec.ofNat 32 l.val) 64#32 = (1 : BitVec 1)) ↔ l.val < 64 := by
    revert l; decide
  simp only [Scalar.select, hc]

/-- The weights a key adds to a lane: one in the lower half, the value in the upper. -/
def wt (g : ℕ → ℕ → ℝ) (j l : ℕ) : ℝ := if l < 64 then 1 else g j l

/-- What a row holds before a block: a maximum that is a real or `-∞`, and a numerator `T` that the shift by
    any later maximum makes `exp (-M) * T`. -/
def Before (m : FVec Ideal S1024x1 .f32) (acc : FVec Ideal S1024x128 .f32) (r : Fin 1024) (T : ℕ → ℝ) : Prop :=
  (m (ix2 r 0) = ⊥ ∨ ∃ M : ℝ, m (ix2 r 0) = (M : EReal))
    ∧ ∀ (M' : ℝ) (l : Fin 128), Ideal.exp (m (ix2 r 0) - (M' : EReal)) * acc (ix2 r l) = ((Real.exp (-M') * T l.val : ℝ) : EReal)

/-- What it holds after: a real maximum and the numerator shifted by it. -/
def After (m : FVec Ideal S1024x1 .f32) (acc : FVec Ideal S1024x128 .f32) (r : Fin 1024) (T : ℕ → ℝ) : Prop :=
  ∃ M : ℝ, m (ix2 r 0) = (M : EReal) ∧ ∀ l : Fin 128, acc (ix2 r l) = ((Real.exp (-M) * T l.val : ℝ) : EReal)

theorem After.before {r : Fin 1024} {T : ℕ → ℝ} (h : After m acc r T) : Before m acc r T := by
  obtain ⟨M, hm, ha⟩ := h
  refine ⟨.inr ⟨M, hm⟩, fun M' l => ?_⟩
  rw [hm, ha, ← EReal.coe_sub, Ideal.exp_coe, ← EReal.coe_mul, ← mul_assoc, ← Real.exp_add]
  congr 3; ring

theorem before_zero (r : Fin 1024) : Before (k0_pay7 (F := Ideal)) (k0_pay8 (F := Ideal)) r fun _ => 0 := by
  have h7 : k0_pay7 (F := Ideal) (ix2 r (0 : Fin 1)) = ⊥ := ofBits_neg_inf
  have h8 : ∀ l : Fin 128, k0_pay8 (F := Ideal) (ix2 r l) = 0 := fun _ => Ideal.ofBits_zero_f32
  refine ⟨.inl h7, fun M' l => ?_⟩
  rw [h8, mul_zero, mul_zero, EReal.coe_zero]

/-- One block takes a row from `T` to `T` plus the block's exponentials times the weights. -/
theorem step {r : Fin 1024} {T : ℕ → ℝ} (hb : Before m acc r T) (f : ℕ → ℝ) (g : ℕ → ℕ → ℝ)
    (hq : ∀ l : Fin 128, q (ix2 r l) = ((f l.val : ℝ) : EReal))
    (hx : ∀ (j : Fin 2048) (l : Fin 128), x (ix3 (0 : Fin 1) j l) = ((g j.val l.val : ℝ) : EReal)) :
    After (mB q m x) (aB q m acc x) r fun l => T l + ∑ j ∈ range 2048, Real.exp (∑ e ∈ range 128, f e * g j e) * wt g j l := by
  have hs := fun j => sB_apply (q := q) (x := x) r j f g hq hx
  obtain ⟨M1, hM1⟩ := fold_max (by decide : 0 < 2048) (fun j => sB q x (ix2 r j)) _ hs
  have hM : ∃ M : ℝ, mB q m x (ix2 r (0 : Fin 1)) = (M : EReal) := by
    rw [mB_apply, hM1]
    rcases hb.1 with h | ⟨M0, h⟩ <;> rw [h]
    · exact ⟨M1, max_eq_right bot_le⟩
    · exact ⟨max M0 M1, (EReal.coe_strictMono.monotone.map_max).symm⟩
  obtain ⟨M, hM⟩ := hM
  refine ⟨M, hM, fun l => ?_⟩
  rw [aB_apply, hM, hb.2, sum_fin (fun j => Real.exp (-M) * (Real.exp (∑ e ∈ range 128, f e * g j e) * wt g j l.val)), ← EReal.coe_add,
    ← mul_sum, ← mul_add]
  intro j
  rw [hs, hx, ← EReal.coe_sub, Ideal.exp_coe, sub_eq_add_neg, Real.exp_add]
  have : (if l.val < 64 then (1 : EReal) else ((g j.val l.val : ℝ) : EReal)) = ((wt g j.val l.val : ℝ) : EReal) := by
    unfold wt; split_ifs <;> simp
  rw [this, ← EReal.coe_mul]
  congr 1; ring

/-- After `n + 1` blocks a row holds the numerator over their keys. -/
theorem st_after (x : ℕ → Vec Ideal S1x2048x128 .bf16) (r : Fin 1024) (f : ℕ → ℝ) (g : ℕ → ℕ → ℝ)
    (hq : ∀ l : Fin 128, q (ix2 r l) = ((f l.val : ℝ) : EReal))
    (hx : ∀ b, b < 8 → ∀ (j : Fin 2048) (l : Fin 128), x b (ix3 (0 : Fin 1) j l) = ((g (2048 * b + j.val) l.val : ℝ) : EReal)) :
    ∀ n, n < 8 → After (st q x (n + 1)).1 (st q x (n + 1)).2 r
      fun l => ∑ j ∈ range (2048 * (n + 1)), Real.exp (∑ e ∈ range 128, f e * g j e) * wt g j l := by
  have key : ∀ n, n < 8 → Before (st q x n).1 (st q x n).2 r (fun l => ∑ j ∈ range (2048 * n), Real.exp (∑ e ∈ range 128, f e * g j e) * wt g j l)
      → After (st q x (n + 1)).1 (st q x (n + 1)).2 r
      fun l => ∑ j ∈ range (2048 * (n + 1)), Real.exp (∑ e ∈ range 128, f e * g j e) * wt g j l := by
    intro n hn hb
    have h := step hb f (fun j => g (2048 * n + j)) hq (hx n hn)
    have e : ∀ l, ∑ j ∈ range (2048 * (n + 1)), Real.exp (∑ e ∈ range 128, f e * g j e) * wt g j l
        = ∑ j ∈ range (2048 * n), Real.exp (∑ e ∈ range 128, f e * g j e) * wt g j l
          + ∑ j ∈ range 2048, Real.exp (∑ e ∈ range 128, f e * g (2048 * n + j) e) * wt (fun j => g (2048 * n + j)) j l := by
      intro l
      rw [Nat.mul_succ, sum_range_add]
      rfl
    simp only [e]
    exact h
  intro n
  induction n with
  | zero => exact fun hn => key 0 hn (by show Before k0_pay7 k0_pay8 r _; simpa using before_zero r)
  | succ n ih => exact fun hn => key (n + 1) hn (ih (by omega)).before

end Cert.AttnA.Fwd

end
-- ==== Proof.AttnFwd.lean ====
/- The forward attention call: the block of outputs and of row log-sums each grid point writes back, and
   the two arrays after the run. -/
module

public import proofs.«01_k».proof.Proof.AttnStep
public import proofs.«01_k».proof.Proof.Gen.Kernel2Ideal.Frame

@[expose] public section

set_option maxRecDepth 16384

noncomputable section

namespace Cert.AttnA.Fwd

open Cert.Kernel2Ideal Cert.Kernel2Ideal.Gen Idealize.ShloMosaic Idealize.ShloMosaic.TcCoe Finset
open Idealize.ShloMosaic.Pipeline (Dat)

/-! ## The payloads are eight steps -/

section
variable {F : FTy → Type} [FloatOps F]
variable (v : Vec F S256x256 .bf16) (q : FVec F S1024x128 .bf16) (m : FVec F S1024x1 .f32) (a : FVec F S1024x128 .f32)
  (x : ℕ → Vec F S1x2048x128 .bf16) (x0 x1 : Vec F S1x2048x128 .bf16)

theorem m1_eq : k0_pay11 v x0 = mB (k0_pay6 v) k0_pay7 x0 := rfl
theorem m2_eq : k0_pay15 q m x1 = mB q m x1 := rfl
theorem a2_eq : k0_pay16 k0_pay5 (k0_pay6 v) k0_pay7 k0_pay8 (k0_pay9 x0) (mB (k0_pay6 v) k0_pay7 x0) (k0_pay12 v x0) x1
    = aB (k0_pay6 v) (mB (k0_pay6 v) k0_pay7 x0) (aB (k0_pay6 v) k0_pay7 k0_pay8 x0) x1 := rfl
theorem m4_eq : k0_pay23 q m (k0_pay19 q x0) x1 = mB q (mB q m x0) x1 := rfl
theorem a4_eq : k0_pay24 k0_pay5 q m a (k0_pay17 x0) (k0_pay18 q x0) (k0_pay19 q x0) x1 = aB q (mB q m x0) (aB q m a x0) x1 := rfl
theorem m6_eq : k0_pay30 q m (k0_pay25 x0) x1 = mB q (mB q m x0) x1 := rfl
theorem a6_eq : k0_pay31 k0_pay5 q m a (k0_pay25 x0) x1 = aB q (mB q m x0) (aB q m a x0) x1 := rfl
theorem m8_eq : k0_pay37 q m x0 x1 = mB q (mB q m x0) x1 := rfl
theorem a8_eq : k0_pay38 k0_pay5 q m a x0 x1 = aB q (mB q m x0) (aB q m a x0) x1 := rfl
/-- A sequence of eight blocks. -/
def eight (x0 x1 x2 x3 x4 x5 x6 x7 : Vec F S1x2048x128 .bf16) : ℕ → Vec F S1x2048x128 .bf16
  | 0 => x0 | 1 => x1 | 2 => x2 | 3 => x3 | 4 => x4 | 5 => x5 | 6 => x6 | _ => x7

/-- The whole chain. -/
theorem chain_m (x0 x1 x2 x3 x4 x5 x6 x7 : Vec F S1x2048x128 .bf16) :
    k0_pay37 (k0_pay6 v) (k0_pay30 (k0_pay6 v) (k0_pay23 (k0_pay6 v) (k0_pay15 (k0_pay6 v) (k0_pay11 v x0) x1) (k0_pay19 (k0_pay6 v) x2) x3)
        (k0_pay25 x4) x5) x6 x7
      = (st (k0_pay6 v) (eight x0 x1 x2 x3 x4 x5 x6 x7) 8).1 := by
  simp only [m1_eq, m2_eq, m4_eq, m6_eq, m8_eq, st, eight]

theorem chain_a (x0 x1 x2 x3 x4 x5 x6 x7 : Vec F S1x2048x128 .bf16) :
    k0_pay38 k0_pay5 (k0_pay6 v) (k0_pay30 (k0_pay6 v) (k0_pay23 (k0_pay6 v) (k0_pay15 (k0_pay6 v) (k0_pay11 v x0) x1) (k0_pay19 (k0_pay6 v) x2) x3)
        (k0_pay25 x4) x5)
      (k0_pay31 k0_pay5 (k0_pay6 v) (k0_pay23 (k0_pay6 v) (k0_pay15 (k0_pay6 v) (k0_pay11 v x0) x1) (k0_pay19 (k0_pay6 v) x2) x3)
        (k0_pay24 k0_pay5 (k0_pay6 v) (k0_pay15 (k0_pay6 v) (k0_pay11 v x0) x1)
          (k0_pay16 k0_pay5 (k0_pay6 v) k0_pay7 k0_pay8 (k0_pay9 x0) (k0_pay11 v x0) (k0_pay12 v x0) x1)
          (k0_pay17 x2) (k0_pay18 (k0_pay6 v) x2) (k0_pay19 (k0_pay6 v) x2) x3)
        (k0_pay25 x4) x5) x6 x7
      = (st (k0_pay6 v) (eight x0 x1 x2 x3 x4 x5 x6 x7) 8).2 := by
  simp only [m1_eq, m2_eq, a2_eq, m4_eq, a4_eq, m6_eq, a6_eq, a8_eq, st, eight]

theorem d_eq : k0_pay39 k0_pay5 q m a x0 x1
    = divf (k0_pay38 k0_pay5 q m a x0 x1) (dynamicRotate 1 64#32 none (k0_pay38 k0_pay5 q m a x0 x1) rotates_S1024x128_d1) := rfl

end

/-! ## What a row of a block holds -/

section
variable (Q K V : ℕ → ℕ → ℕ → ℝ)

/-- A row of the stacked queries: the scaled query in the lower half, zero in the upper. -/
def qf (t h l : ℕ) : ℝ := if l < 64 then Q t h l * (1 / 8) else 0
/-- A row of a group's keys and values, side by side. -/
def kvf (g j l : ℕ) : ℝ := if l < 64 then K j g l else V j g (l - 64)

theorem score (t h j g : ℕ) (hg : h / 4 = g) : ∑ e ∈ range 128, qf Q t h e * kvf K V g j e = sc Q K t h j := by
  rw [show (128 : ℕ) = 64 + 64 from rfl, sum_range_add, sc, sum_mul]
  have h2 : ∑ e ∈ range 64, qf Q t h (64 + e) * kvf K V g j (64 + e) = 0 :=
    sum_eq_zero fun e _ => by rw [qf, if_neg (by omega), zero_mul]
  rw [h2, add_zero]
  refine sum_congr rfl fun e he => ?_
  have he := mem_range.mp he
  rw [qf, kvf, if_pos he, if_pos he, hg]; ring

theorem weighted (t h g d : ℕ) (hg : h / 4 = g) :
    ∑ j ∈ range 16384, Real.exp (sc Q K t h j) * V j g d = Z Q K t h * Y Q K V t h d := by
  unfold Y
  rw [mul_sum]
  refine sum_congr rfl fun j _ => ?_
  rw [P, hg, ← mul_assoc, mul_div_cancel₀ _ (Z_pos Q K t h).ne']

variable {Q K V}
variable {q : FVec Ideal S1024x128 .bf16} {m : FVec Ideal S1024x1 .f32} {acc : FVec Ideal S1024x128 .f32}

/-- What the eight blocks leave in a row of head `h`: the maximum `M`, the shifted denominator and numerator. -/
theorem row (x : ℕ → Vec Ideal S1x2048x128 .bf16) (r : Fin 1024) (t h g : ℕ) (hg : h / 4 = g)
    (hq : ∀ l : Fin 128, q (ix2 r l) = ((qf Q t h l.val : ℝ) : EReal))
    (hx : ∀ b, b < 8 → ∀ (j : Fin 2048) (l : Fin 128), x b (ix3 (0 : Fin 1) j l) = ((kvf K V g (2048 * b + j.val) l.val : ℝ) : EReal)) :
    ∃ M : ℝ, (st q x 8).1 (ix2 r 0) = (M : EReal)
      ∧ (∀ l : Fin 128, l.val < 64 → (st q x 8).2 (ix2 r l) = ((Z Q K t h * Real.exp (-M) : ℝ) : EReal))
      ∧ (∀ l : Fin 128, 64 ≤ l.val → (st q x 8).2 (ix2 r l) = ((Z Q K t h * Real.exp (-M) * Y Q K V t h (l.val - 64) : ℝ) : EReal)) := by
  obtain ⟨M, hM, hA⟩ := st_after x r (qf Q t h) (kvf K V g) hq hx 7 (by decide)
  simp only [Nat.reduceAdd, Nat.reduceMul] at hA
  refine ⟨M, hM, fun l hl => ?_, fun l hl => ?_⟩
  · rw [hA l]
    simp only [score Q K V t h _ g hg, wt, if_pos hl, mul_one]
    exact congrArg _ (mul_comm _ _)
  · rw [hA l]
    simp only [score Q K V t h _ g hg, wt, if_neg (not_lt.mpr hl)]
    simp only [kvf, if_neg (not_lt.mpr hl)]
    rw [weighted Q K V t h g _ hg, mul_comm (Z Q K t h) (Real.exp (-M)), mul_assoc]

theorem lanes (l : Fin 128) : (IntOp.cmpi CmpIPredicate.slt (BitVec.ofNat 32 l.val) 64#32 = (1 : BitVec 1)) ↔ l.val < 64 := by
  revert l; decide

/-- The stacked queries of a block of tokens and a group of heads. -/
theorem q_apply (v : Vec Ideal S256x256 .bf16) (i g : ℕ)
    (hv : ∀ (ρ : Fin 256) (c : Fin 256), v (ix2 ρ c) = ((Q (256 * i + ρ.val) (4 * g + c.val / 64) (c.val % 64) * (1 / 8) : ℝ) : EReal))
    (r : Fin 1024) (l : Fin 128) :
    k0_pay6 v (ix2 r l) = ((qf Q (256 * i + r.val % 256) (4 * g + r.val / 256) l.val : ℝ) : EReal) := by
  have hr := r.isLt
  have hl' := l.isLt
  pointwise [k0_pay6, k0_pay4]
  simp only [Scalar.select, lanes, qf]
  by_cases hl : l.val < 64
  · simp only [if_pos hl, hv]
    split_ifs <;> refine congrArg _ (congrArg (· * (1 / 8 : ℝ)) (at3r Q ?_ ?_ ?_)) <;> (try dsimp only) <;> omega
  · simp only [if_neg hl, EReal.coe_zero, dite_eq_ite, ite_self]

/-- A lane over the lane 64 places before it. -/
theorem div_roll (A : FVec Ideal S1024x128 .f32) (r : Fin 1024) (l : Fin 128) :
    (divf A (dynamicRotate 1 64#32 none A rotates_S1024x128_d1) : FVec Ideal S1024x128 .f32) (ix2 r l)
      = Ideal.div (A (ix2 r l)) (A (ix2 r ⟨(l.val + 128 - 64) % 128, by omega⟩)) := by
  pointwise []

/-- The quotient of the upper lanes by the lower is the output. -/
theorem quot (v : Vec Ideal S256x256 .bf16) (x : ℕ → Vec Ideal S1x2048x128 .bf16) (i g : ℕ)
    (hv : ∀ (ρ : Fin 256) (c : Fin 256), v (ix2 ρ c) = ((Q (256 * i + ρ.val) (4 * g + c.val / 64) (c.val % 64) * (1 / 8) : ℝ) : EReal))
    (hx : ∀ b, b < 8 → ∀ (j : Fin 2048) (l : Fin 128), x b (ix3 (0 : Fin 1) j l) = ((kvf K V g (2048 * b + j.val) l.val : ℝ) : EReal))
    (r : Fin 1024) (l : Fin 128) (hl : 64 ≤ l.val) :
    (divf (st (k0_pay6 v) x 8).2 (dynamicRotate 1 64#32 none (st (k0_pay6 v) x 8).2 rotates_S1024x128_d1) : FVec Ideal S1024x128 .f32) (ix2 r l)
      = ((Y Q K V (256 * i + r.val % 256) (4 * g + r.val / 256) (l.val - 64) : ℝ) : EReal) := by
  have hr := r.isLt
  have hl' := l.isLt
  obtain ⟨M, -, h1, h2⟩ := row (K := K) (V := V) x r (256 * i + r.val % 256) (4 * g + r.val / 256) g (by omega) (q_apply v i g hv r) hx
  rw [div_roll, h2 l hl, h1 _ (by show (l.val + 128 - 64) % 128 < 64; omega)]
  rw [Ideal.div_coe (Z_shift_ne Q K _ _ _), ← EReal.coe_mul]
  refine congrArg _ ?_
  rw [mul_right_comm, mul_one_div_cancel (Z_shift_ne Q K _ _ _), one_mul]

/-- The maximum plus the logarithm of the shifted denominator is the row's log-sum. -/
theorem logsum (v : Vec Ideal S256x256 .bf16) (x : ℕ → Vec Ideal S1x2048x128 .bf16) (i g : ℕ)
    (hv : ∀ (ρ : Fin 256) (c : Fin 256), v (ix2 ρ c) = ((Q (256 * i + ρ.val) (4 * g + c.val / 64) (c.val % 64) * (1 / 8) : ℝ) : EReal))
    (hx : ∀ b, b < 8 → ∀ (j : Fin 2048) (l : Fin 128), x b (ix3 (0 : Fin 1) j l) = ((kvf K V g (2048 * b + j.val) l.val : ℝ) : EReal))
    (r : Fin 1024) :
    (st (k0_pay6 v) x 8).1 (ix2 r 0) + Ideal.log ((st (k0_pay6 v) x 8).2 (ix2 r 0))
      = ((Real.log (Z Q K (256 * i + r.val % 256) (4 * g + r.val / 256)) : ℝ) : EReal) := by
  have hr := r.isLt
  obtain ⟨M, h0, h1, -⟩ := row (K := K) (V := V) x r (256 * i + r.val % 256) (4 * g + r.val / 256) g (by omega) (q_apply v i g hv r) hx
  have hz := Z_pos Q K (256 * i + r.val % 256) (4 * g + r.val / 256)
  rw [h0, h1 0 (by decide), Ideal.log_coe, if_neg (not_le.mpr (mul_pos hz (Real.exp_pos _))), ← EReal.coe_add,
    Real.log_mul hz.ne' (Real.exp_pos _).ne', Real.log_exp]
  refine congrArg _ ?_
  ring

/-- The first stored tile: heads 0 and 1 of the group, side by side. -/
theorem tile1 (A : FVec Ideal S1024x128 .f32) (i g : ℕ)
    (hA : ∀ (r : Fin 1024) (l : Fin 128), 64 ≤ l.val → A (ix2 r l) = ((Y Q K V (256 * i + r.val % 256) (4 * g + r.val / 256) (l.val - 64) : ℝ) : EReal))
    (ρ : Fin 256) (l : Fin 128) :
    k0_pay1 k0_pay4 A (ix2 ρ l) = ((Y Q K V (256 * i + ρ.val) (4 * g + l.val / 64) (l.val % 64) : ℝ) : EReal) := by
  have hr := ρ.isLt
  have hl' := l.isLt
  pointwise [k0_pay1, k0_pay4]
  simp only [Scalar.select, lanes]
  split_ifs with hl
  · rw [hA _ _ (by show 64 ≤ (l.val + 128 - 64) % 128; omega)]
    refine at3 (Y Q K V) ?_ ?_ ?_ <;> (try dsimp only) <;> omega
  · rw [hA _ _ (by omega)]
    refine at3 (Y Q K V) ?_ ?_ ?_ <;> (try dsimp only) <;> omega

/-- The second stored tile: heads 2 and 3. -/
theorem tile2 (A : FVec Ideal S1024x128 .f32) (i g : ℕ)
    (hA : ∀ (r : Fin 1024) (l : Fin 128), 64 ≤ l.val → A (ix2 r l) = ((Y Q K V (256 * i + r.val % 256) (4 * g + r.val / 256) (l.val - 64) : ℝ) : EReal))
    (ρ : Fin 256) (l : Fin 128) :
    k0_pay2 k0_pay4 A (ix2 ρ l) = ((Y Q K V (256 * i + ρ.val) (4 * g + (128 + l.val) / 64) ((128 + l.val) % 64) : ℝ) : EReal) := by
  have hr := ρ.isLt
  have hl' := l.isLt
  pointwise [k0_pay2, k0_pay4]
  simp only [Scalar.select, lanes]
  split_ifs with hl
  · rw [hA _ _ (by show 64 ≤ (l.val + 128 - 64) % 128; omega)]
    refine at3 (Y Q K V) ?_ ?_ ?_ <;> (try dsimp only) <;> omega
  · rw [hA _ _ (by omega)]
    refine at3 (Y Q K V) ?_ ?_ ?_ <;> (try dsimp only) <;> omega

theorem lse_apply (m : FVec Ideal S1024x1 .f32) (A : FVec Ideal S1024x128 .f32) (a : Fin 4) (ρ : Fin 256) (z : Fin 1) :
    k0_pay3 m A (ix3 a ρ z) = m (ix2 ⟨256 * a.val + ρ.val, by omega⟩ 0) + Ideal.log (A (ix2 ⟨256 * a.val + ρ.val, by omega⟩ 0)) := by
  obtain rfl : z = 0 := Subsingleton.elim _ _
  pointwise [k0_pay3]
  have e : a.val * 256 + ρ.val = 256 * a.val + ρ.val := by omega
  simp only [e]
end

/-! ## The arrays after the run -/

section
variable (V' : (c : Dev nD) → (b : Ref sig .tc) → Buf (Elt Ideal) ((c : Thread nD τ).loc b))

/-- The block each window stages at each grid point. -/
theorem idx : ∀ t : Fin cfg0.N, win0_0.index t = ![t.val % 64, t.val / 64] ∧ win0_1.index t = ![t.val / 64, 0, 0]
    ∧ win0_2.index t = ![t.val % 64, t.val / 64] ∧ win0_3.index t = ![t.val / 64, t.val % 64, 0] :=
  (by decide +kernel : ∀ t : Fin grid0.N, _)

variable {Q K V : ℕ → ℕ → ℕ → ℝ} (c : Dev nD)
  (hq : ∀ i : S16384x512.Idx, (V' c main_v3 : (⟨S16384x512, .bf16⟩ : BufTy).Contents (Elt Ideal)) i
    = ((Q (i 0).val ((i 1).val / 64) ((i 1).val % 64) * (1 / 8) : ℝ) : EReal))
  (hkv : ∀ i : S2x16384x128.Idx, (V' c main_v6 : (⟨S2x16384x128, .bf16⟩ : BufTy).Contents (Elt Ideal)) i
    = ((kvf K V (i 0).val (i 1).val (i 2).val : ℝ) : EReal))

include hq in
theorem blk_q (t : Fin cfg0.N) (ρ cc : Fin 256) :
    iblk0 V' c 0 t (ix2 ρ cc) = ((Q (256 * (t.val % 64) + ρ.val) (4 * (t.val / 64) + cc.val / 64) (cc.val % 64) * (1 / 8) : ℝ) : EReal) := by
  have h1 := ρ.isLt
  have h2 := cc.isLt
  refine (hq _).trans ?_
  blk_simp [idx t]
  refine congrArg _ (congrArg (· * (1 / 8 : ℝ)) (at3r Q ?_ ?_ ?_)) <;> omega

include hkv in
theorem blk_kv (t : Fin cfg0.N) (y) :
    iblk0 V' c 1 t y = ((kvf K V (t.val / 64) (y 1).val (y 2).val : ℝ) : EReal) := by
  refine (hkv _).trans ?_
  blk_simp [idx t]

include hkv in
theorem blk_eight (t : Fin cfg0.N) : ∀ b, b < 8 → ∀ (j : Fin 2048) (l : Fin 128),
    (eight (View.ld (iblk0 V' c 1 t) (Rect.unit ![0, 0, 0] ![1, 2048, 128] k0_part1_skel._proof_3))
      (View.ld (iblk0 V' c 1 t) (Rect.unit ![0, 2048, 0] ![1, 2048, 128] k0_part2_skel._proof_1))
      (View.ld (iblk0 V' c 1 t) (Rect.unit ![0, 4096, 0] ![1, 2048, 128] k0_part2_skel._proof_3))
      (View.ld (iblk0 V' c 1 t) (Rect.unit ![0, 6144, 0] ![1, 2048, 128] k0_part3_skel._proof_1))
      (View.ld (iblk0 V' c 1 t) (Rect.unit ![0, 8192, 0] ![1, 2048, 128] k0_part3_skel._proof_3))
      (View.ld (iblk0 V' c 1 t) (Rect.unit ![0, 10240, 0] ![1, 2048, 128] k0_part4_skel._proof_1))
      (View.ld (iblk0 V' c 1 t) (Rect.unit ![0, 12288, 0] ![1, 2048, 128] k0_part5_skel._proof_1))
      (View.ld (iblk0 V' c 1 t) (Rect.unit ![0, 14336, 0] ![1, 2048, 128] k0_part5_skel._proof_3)) b : Vec Ideal S1x2048x128 .bf16)
        (ix3 (0 : Fin 1) j l) = ((kvf K V (t.val / 64) (2048 * b + j.val) l.val : ℝ) : EReal) := by
  intro b hb j l
  interval_cases b <;> dsimp only [eight] <;> pointwise [] <;> rw [blk_kv V' c hkv t] <;> simp

include hq hkv in
/-- The block of outputs a grid point leaves. -/
theorem out_y (t : Fin cfg0.N) (y : S256x256.Idx) : (outsAt0 V' c t).1 y
    = ((Y Q K V (256 * (t.val % 64) + (y 0).val) (4 * (t.val / 64) + (y 1).val / 64) ((y 1).val % 64) : ℝ) : EReal) := by
  have hA := quot (iblk0 V' c 0 t) _ (t.val % 64) (t.val / 64) (blk_q V' c hq t) (blk_eight V' c hkv t)
  unfold outsAt0
  dsimp only
  frame_out
  simp only [d_eq, chain_a]
  canon_tiles x h
  · idx_vars x
    refine (tile2 _ _ _ hA _ _).trans (at3 (Y Q K V) ?_ ?_ ?_) <;> (try dsimp only) <;> omega
  · idx_vars x
    refine (tile1 _ _ _ hA _ _).trans (at3 (Y Q K V) ?_ ?_ ?_) <;> (try dsimp only) <;> omega

include hq hkv in
/-- The block of row log-sums a grid point leaves. -/
theorem out_l (t : Fin cfg0.N) (y : S4x256x1.Idx) : (outsAt0 V' c t).2 y
    = ((Real.log (Z Q K (256 * (t.val % 64) + (y 1).val) (4 * (t.val / 64) + (y 0).val)) : ℝ) : EReal) := by
  have hL := logsum (iblk0 V' c 0 t) _ (t.val % 64) (t.val / 64) (blk_q V' c hq t) (blk_eight V' c hkv t)
  unfold outsAt0
  dsimp only
  frame_out
  simp only [chain_m, chain_a]
  have h0 : (y 0).val < 4 := (y 0).isLt
  have h1 : (y 1).val < 256 := (y 1).isLt
  refine (congrArg _ (?_ : y = ix3 (y 0) (y 1) (y 2))).trans ((lse_apply _ _ (y 0) (y 1) (y 2)).trans ((hL _).trans ?_))
  · blk_ext
  · refine congrArg (fun z : ℝ => ((Real.log z : ℝ) : EReal)) (congrArg₂ (Z Q K) ?_ ?_) <;> dsimp only <;> omega

include hq hkv in
/-- The array of outputs after the run. -/
theorem final_y (i : S16384x512.Idx) : ((dat0 V' c).arrAt 2 cfg0.N : (⟨S16384x512, .f32⟩ : BufTy).Contents (Elt Ideal)) i
    = ((Y Q K V (i 0).val ((i 1).val / 64) ((i 1).val % 64) : ℝ) : EReal) := by
  refine congrFun ((dat0 V' c).arrAt_eq_of_covers 2 (fun i : S16384x512.Idx => ((Y Q K V (i 0).val ((i 1).val / 64) ((i 1).val % 64) : ℝ) : EReal))
    (by decide +kernel) fun t _ y => ?_) i
  rw [after0_2]
  blk_simp [idx t]
  have h0 : (y 0).val < 256 := (y 0).isLt
  have h1 : (y 1).val < 256 := (y 1).isLt
  refine (out_y V' c hq hkv t y).trans (at3 (Y Q K V) ?_ ?_ ?_) <;> omega

include hq hkv in
/-- The array of row log-sums after the run. -/
theorem final_l (i : S8x16384x1.Idx) : ((dat0 V' c).arrAt 3 cfg0.N : (⟨S8x16384x1, .f32⟩ : BufTy).Contents (Elt Ideal)) i
    = ((Real.log (Z Q K (i 1).val (i 0).val) : ℝ) : EReal) := by
  refine congrFun ((dat0 V' c).arrAt_eq_of_covers 3 (fun i : S8x16384x1.Idx => ((Real.log (Z Q K (i 1).val (i 0).val) : ℝ) : EReal))
    (by decide +kernel) fun t _ y => ?_) i
  rw [after0_3]
  blk_simp [idx t]
  have h0 : (y 0).val < 4 := (y 0).isLt
  have h1 : (y 1).val < 256 := (y 1).isLt
  refine (out_l V' c hq hkv t y).trans
    (congrArg (fun z : ℝ => ((Real.log z : ℝ) : EReal)) (congrArg₂ (Z Q K) ?_ ?_)) <;> omega

end

end Cert.AttnA.Fwd

end
-- ==== Proof.AttnSpan.lean ====
/- The backward attention call: what one span of 512 keys adds to the gradients, over the reals. -/
module

public import proofs.«01_k».proof.Proof.AttnFwd

@[expose] public section

set_option maxRecDepth 16384

noncomputable section

namespace Cert.AttnA.Bwd

open Cert.Kernel2Ideal Cert.Kernel2Ideal.Gen Idealize.ShloMosaic Finset

section
variable {F : FTy → Type} [FloatOps F]
variable (q dO : FVec F S2048x128 .bf16) (lse dl : FVec F S2048x1 .f32)

/-- The span's block of the gradients of keys and values, over what the block held. -/
def oS (old : Vec F S1x128x512 .f32) (x : Vec F S1x512x128 .bf16) : Vec F S1x128x512 .f32 :=
  k1_pay51 q dO lse dl (k1_pay3 q) (k1_pay4 dO) x old

/-- The gradients of the stacked queries after the span. -/
def nS (acc : FVec F S2048x128 .f32) (x : Vec F S1x512x128 .bf16) : FVec F S2048x128 .f32 :=
  addf acc (k1_pay52 q dO lse dl x)

/-- The same after the first `n` of a sequence of spans. -/
def nSt (acc : FVec F S2048x128 .f32) (x : ℕ → Vec F S1x512x128 .bf16) : ℕ → FVec F S2048x128 .f32
  | 0 => acc
  | n + 1 => nS q dO lse dl (nSt acc x n) (x n)
end

/-! ## The mathematics of a span -/

section
variable (f e g : ℕ → ℕ → ℝ) (L Δ : ℕ → ℝ)

/-- A row's probability of a key. -/
def pr (ρ j : ℕ) : ℝ := Real.exp (∑ l ∈ range 128, f ρ l * g j l - L ρ)
/-- The gradient of its score. -/
def sr (ρ j : ℕ) : ℝ := pr f g L ρ j * (∑ l ∈ range 128, e ρ l * g j l - Δ ρ)
/-- What the rows add to lane `d` of the gradient of key `j`. -/
def con (d j : ℕ) : ℝ := ∑ ρ ∈ range 2048, f ρ d * sr f e g L Δ ρ j + ∑ ρ ∈ range 2048, e ρ d * pr f g L ρ j

variable {q dO : FVec Ideal S2048x128 .bf16} {lse dl : FVec Ideal S2048x1 .f32} {x : Vec Ideal S1x512x128 .bf16} {n : ℕ}
  (hq : ∀ ρ l, q (ix2 ρ l) = ((f ρ.val l.val : ℝ) : EReal)) (hd : ∀ ρ l, dO (ix2 ρ l) = ((e ρ.val l.val : ℝ) : EReal))
  (hL : ∀ ρ, lse (ix2 ρ 0) = ((L ρ.val : ℝ) : EReal)) (hΔ : ∀ ρ, dl (ix2 ρ 0) = ((Δ ρ.val : ℝ) : EReal))
  (hx : ∀ j l, x (ix3 (0 : Fin 1) j l) = ((g (n + j.val) l.val : ℝ) : EReal))

/-- The product of stacked rows with a span's rows. -/
theorem rows_apply (a : FVec Ideal S2048x128 .bf16) (u : ℕ → ℕ → ℝ) (ha : ∀ ρ l, a (ix2 ρ l) = ((u ρ.val l.val : ℝ) : EReal))
    (hx : ∀ j l, x (ix3 (0 : Fin 1) j l) = ((g (n + j.val) l.val : ℝ) : EReal)) (ρ : Fin 2048) (j : Fin 512) :
    matmul dot_S2048x128_S512x128_S2048x512_1_1_0_0_n_n none a (k1_pay48 x) (constant S2048x512 .f32 0x00000000#32) (ix2 ρ j)
      = ((∑ l ∈ range 128, u ρ.val l * g (n + j.val) l : ℝ) : EReal) := by
  pointwise [k1_pay48]
  exact sum_fin _ fun l => by rw [ha, hx, EReal.coe_mul]

include hq hL hx in
theorem p_apply (ρ : Fin 2048) (j : Fin 512) : k1_pay49 q lse x (ix2 ρ j) = ((pr f g L ρ.val (n + j.val) : ℝ) : EReal) := by
  have h := rows_apply g q f hq hx ρ j
  have : k1_pay49 q lse x (ix2 ρ j)
      = Ideal.exp (matmul dot_S2048x128_S512x128_S2048x512_1_1_0_0_n_n none q (k1_pay48 x) (constant S2048x512 .f32 0x00000000#32) (ix2 ρ j)
          - lse (ix2 ρ 0)) := by
    unfold k1_pay49
    generalize matmul dot_S2048x128_S512x128_S2048x512_1_1_0_0_n_n none q (k1_pay48 x) (constant S2048x512 .f32 0x00000000#32) = A
    pointwise []
  rw [this, h, hL, ← EReal.coe_sub, Ideal.exp_coe, pr]

include hq hd hL hΔ hx in
theorem s_apply (ρ : Fin 2048) (j : Fin 512) : k1_pay50 q dO lse dl x (ix2 ρ j) = ((sr f e g L Δ ρ.val (n + j.val) : ℝ) : EReal) := by
  have h := rows_apply g dO e hd hx ρ j
  have hp := p_apply f g L hq hL hx ρ j
  have : k1_pay50 q dO lse dl x (ix2 ρ j) = k1_pay49 q lse x (ix2 ρ j)
      * (matmul dot_S2048x128_S512x128_S2048x512_1_1_0_0_n_n none dO (k1_pay48 x) (constant S2048x512 .f32 0x00000000#32) (ix2 ρ j)
          - dl (ix2 ρ 0)) := by
    unfold k1_pay50
    generalize matmul dot_S2048x128_S512x128_S2048x512_1_1_0_0_n_n none dO (k1_pay48 x) (constant S2048x512 .f32 0x00000000#32) = A
    generalize k1_pay49 q lse x = B
    pointwise []
  rw [this, h, hp, hΔ, ← EReal.coe_sub, ← EReal.coe_mul, sr]

include hq hd hL hΔ hx in
theorem oS_apply (old : Vec Ideal S1x128x512 .f32) (d : Fin 128) (j : Fin 512) :
    oS q dO lse dl old x (ix3 (0 : Fin 1) d j) = old (ix3 0 d j) + ((con f e g L Δ d.val (n + j.val) : ℝ) : EReal) := by
  have hp := fun ρ => p_apply f g L hq hL hx ρ j
  have hs := fun ρ => s_apply f e g L Δ hq hd hL hΔ hx ρ j
  have : oS q dO lse dl old x (ix3 (0 : Fin 1) d j) = old (ix3 0 d j)
      + ((∑ ρ : Fin 2048, q (ix2 ρ d) * k1_pay50 q dO lse dl x (ix2 ρ j)) + ∑ ρ : Fin 2048, dO (ix2 ρ d) * k1_pay49 q lse x (ix2 ρ j)) := by
    unfold oS k1_pay51 k1_pay3 k1_pay4
    generalize k1_pay50 q dO lse dl x = B
    generalize k1_pay49 q lse x = A
    pointwise []
  rw [this, con, EReal.coe_add]
  congr 2
  · exact sum_fin _ fun ρ => by rw [hq, hs, EReal.coe_mul]
  · exact sum_fin _ fun ρ => by rw [hd, hp, EReal.coe_mul]

include hq hd hL hΔ hx in
theorem nS_apply (acc : FVec Ideal S2048x128 .f32) (ρ : Fin 2048) (l : Fin 128) :
    nS q dO lse dl acc x (ix2 ρ l) = acc (ix2 ρ l) + ((∑ j ∈ range 512, sr f e g L Δ ρ.val (n + j) * g (n + j) l.val : ℝ) : EReal) := by
  have hs := fun j => s_apply f e g L Δ hq hd hL hΔ hx ρ j
  have : nS q dO lse dl acc x (ix2 ρ l) = acc (ix2 ρ l)
      + ∑ j : Fin 512, k1_pay50 q dO lse dl x (ix2 ρ j) * x (ix3 0 j l) := by
    unfold nS k1_pay52 k1_pay48
    generalize k1_pay50 q dO lse dl x = B
    pointwise []
  rw [this]
  congr 1
  exact sum_fin (fun j => sr f e g L Δ ρ.val (n + j) * g (n + j) l.val) fun j => by rw [hs, hx, EReal.coe_mul]

include hq hd hL hΔ in
/-- After a number of spans the rows hold the sum over their keys. -/
theorem nSt_apply (acc : FVec Ideal S2048x128 .f32) (xs : ℕ → Vec Ideal S1x512x128 .bf16) (m N : ℕ)
    (hx : ∀ b, b < N → ∀ j l, xs b (ix3 (0 : Fin 1) j l) = ((g (m + 512 * b + j.val) l.val : ℝ) : EReal)) (ρ : Fin 2048) (l : Fin 128)
    (T : ℝ) (hT : acc (ix2 ρ l) = ((T : ℝ) : EReal)) : ∀ n, n ≤ N → nSt q dO lse dl acc xs n (ix2 ρ l)
      = ((T + ∑ j ∈ range (512 * n), sr f e g L Δ ρ.val (m + j) * g (m + j) l.val : ℝ) : EReal) := by
  intro n
  induction n with
  | zero => intro _; rw [nSt, hT, mul_zero, range_zero, sum_empty, add_zero]
  | succ n ih =>
    intro h
    rw [nSt, nS_apply f e g L Δ hq hd hL hΔ (hx n h), ih (by omega), ← EReal.coe_add, Nat.mul_succ, sum_range_add, add_assoc]
    simp only [add_assoc]
end

end Cert.AttnA.Bwd

end
-- ==== Proof.AttnTrip.lean ====
/- The backward attention call: the counted loop over the spans of keys, eight to a trip. -/
module

public import proofs.«01_k».proof.Proof.AttnSpan
public import Idealize.ShloMosaic.Lib.WritesUnit

@[expose] public section

set_option maxRecDepth 16384

noncomputable section

namespace Cert.AttnA.Bwd

open Cert.Kernel2Ideal Cert.Kernel2Ideal.Gen Idealize.ShloMosaic Idealize.ShloMosaic.TcCoe Finset

/-- The spans a trip reads. -/
def spans {F : FTy → Type} (x4 : Vec F S1x16384x128 .bf16) (k : Fin k1_t1_loop.trips) (n : ℕ) : Vec F S1x512x128 .bf16 :=
  View.ld x4 (Rect.unit (k1_off1 k (BitVec.ofNat 32 (n % 8))) S1x512x128.size (k1_off1_inb k ⟨n % 8, Nat.mod_lt _ (by decide)⟩))

/-- The piece a span's step stores, over what the block of `x8` held. -/
def piece {F : FTy → Type} [FloatOps F] (q dO : FVec F S2048x128 .bf16) (lse dl : FVec F S2048x1 .f32) (x4 : Vec F S1x16384x128 .bf16)
    (x8 : Vec F S1x128x16384 .f32) (k : Fin k1_t1_loop.trips) (n : ℕ) : View.Piece (Elt F) S1x128x16384 .f32 :=
  ⟨Rect.unit (k1_off2 k (BitVec.ofNat 32 (n % 8))) S1x128x512.size (k1_off2_inb k ⟨n % 8, Nat.mod_lt _ (by decide)⟩),
    oS q dO lse dl (View.ld x8 (Rect.unit (k1_off2 k (BitVec.ofNat 32 (n % 8))) S1x128x512.size
      (k1_off2_inb k ⟨n % 8, Nat.mod_lt _ (by decide)⟩))) (spans x4 k n)⟩

section
variable {F : FTy → Type} [FloatOps F]
  (𝒱 : Variants) (c : Dev nD) (bd : Option 𝒱.V) (i : grid1.Coords) (arg2 : Memref sig .tc .vmem S512x256 .bf16) (harg2 : arg2.IsWhole)
  (arg3 : Memref sig .tc .vmem S512x256 .f32) (harg3 : arg3.IsWhole) (arg4 : Memref sig .tc .vmem S1x16384x128 .bf16) (harg4 : arg4.IsWhole)
  (arg5 : Memref sig .tc .vmem S4x512x1 .f32) (harg5 : arg5.IsWhole) (arg6 : Memref sig .tc .vmem S4x512x1 .f32) (harg6 : arg6.IsWhole)
  (arg7 : Memref sig .tc .vmem S512x256 .f32) (harg7 : arg7.IsWhole) (arg8 : Memref sig .tc .vmem S1x128x16384 .f32) (harg8 : arg8.IsWhole)

theorem tripR_eq (q dO : FVec F S2048x128 .bf16) (lse dl : Vec F S4x512x1 .f32) (X : BufTy.Contents (Elt F) arg4.view.ty)
    (k : Fin k1_t1_loop.trips) (acc : FVec F S2048x128 .f32) (f : BufTy.Contents (Elt F) arg8.view.ty) :
    tripR_k1_t1 𝒱 c bd i arg2 harg2 arg3 harg3 arg4 harg4 arg5 harg5 arg6 harg6 arg7 harg7 arg8 harg8 q dO lse dl X k acc f
      = nSt q dO (k1_pay1 lse) (k1_pay2 dl) acc (spans (arg4.view.read (Elt F) X) k) 8 := by
  unfold tripR_k1_t1 trip_k1_t1
  rfl

theorem tripL_eq (q dO : FVec F S2048x128 .bf16) (lse dl : Vec F S4x512x1 .f32) (X : BufTy.Contents (Elt F) arg4.view.ty)
    (k : Fin k1_t1_loop.trips) (acc : FVec F S2048x128 .f32) (f : BufTy.Contents (Elt F) arg8.view.ty) :
    tripL_k1_t1 𝒱 c bd i arg2 harg2 arg3 harg3 arg4 harg4 arg5 harg5 arg6 harg6 arg7 harg7 arg8 harg8 q dO lse dl X k acc f
      = [7, 6, 5, 4, 3, 2, 1, 0].map
          (piece q dO (k1_pay1 lse) (k1_pay2 dl) (arg4.view.read (Elt F) X) (arg8.view.read (Elt F) f) k) := by
  unfold tripL_k1_t1 trip_k1_t1
  rfl

end

/-! ## The loop over the reals -/

/-- A block read at an equal offset. -/
theorem ld_off {F : FTy → Type} {s : Shape} {et : EltTy} {off off' size : Fin s.rank → ℕ} (x : Vec F s et) (h : off = off')
    (inb : ∀ a, off a + size a ≤ s.size a) (y : (Rect.unit off size inb).shape.Idx) :
    View.ld x (Rect.unit off size inb) y = View.ld x (Rect.unit off' size (h ▸ inb)) y := by
  subst h; rfl

theorem off1_eq : ∀ k : Fin k1_t1_loop.trips, ∀ r : Fin 8, k1_off1 k (BitVec.ofNat 32 r.val) = ![0, 512 * (8 * k.val + r.val), 0] := by
  decide +kernel
theorem off2_eq : ∀ k : Fin k1_t1_loop.trips, ∀ r : Fin 8, k1_off2 k (BitVec.ofNat 32 r.val) = ![0, 0, 512 * (8 * k.val + r.val)] := by
  decide +kernel

section
variable (f e g : ℕ → ℕ → ℝ) (L Δ : ℕ → ℝ)
variable {q dO : FVec Ideal S2048x128 .bf16} {lse dl : FVec Ideal S2048x1 .f32} {x4 : Vec Ideal S1x16384x128 .bf16}
  (hq : ∀ ρ l, q (ix2 ρ l) = ((f ρ.val l.val : ℝ) : EReal)) (hd : ∀ ρ l, dO (ix2 ρ l) = ((e ρ.val l.val : ℝ) : EReal))
  (hL : ∀ ρ, lse (ix2 ρ 0) = ((L ρ.val : ℝ) : EReal)) (hΔ : ∀ ρ, dl (ix2 ρ 0) = ((Δ ρ.val : ℝ) : EReal))
  (hx : ∀ y : S1x16384x128.Idx, x4 y = ((g (y 1).val (y 2).val : ℝ) : EReal))

include hx in
theorem spans_apply (k : Fin k1_t1_loop.trips) (b : ℕ) (hb : b < 8) (j : Fin 512) (l : Fin 128) :
    spans x4 k b (ix3 (0 : Fin 1) j l) = ((g (4096 * k.val + 512 * b + j.val) l.val : ℝ) : EReal) := by
  have h := off1_eq k ⟨b, hb⟩
  have hm : k1_off1 k (BitVec.ofNat 32 (b % 8)) = ![0, 512 * (8 * k.val + b), 0] := by rw [Nat.mod_eq_of_lt hb]; exact h
  refine (ld_off x4 hm _ _).trans ((hx _).trans (congrArg _ (congrArg₂ g ?_ ?_)))
  · show 512 * (8 * k.val + b) + 1 * j.val = _
    omega
  · show 0 + 1 * l.val = _
    omega

include hq hd hL hΔ hx in
/-- What a trip's stores leave. -/
theorem trip_apply (v : View sig .tc .vmem S1x128x16384 .f32) (G : BufTy.Contents (Elt Ideal) v.ty) (x8 : Vec Ideal S1x128x16384 .f32)
    (k : Fin k1_t1_loop.trips) (d : Fin 128) (J : Fin 16384) : ∀ l : List ℕ, (∀ r ∈ l, r < 8) →
    v.read (Elt Ideal) (v.writes (Elt Ideal) G (l.map (piece q dO lse dl x4 x8 k))) (ix3 0 d J)
      = if ∃ r ∈ l, J.val / 512 = 8 * k.val + r then x8 (ix3 0 d J) + ((con f e g L Δ d.val J.val : ℝ) : EReal)
        else v.read (Elt Ideal) G (ix3 0 d J) := by
  intro l
  induction l with
  | nil => intro _; simp
  | cons r l ih =>
    intro hl
    have hr : r < 8 := hl r List.mem_cons_self
    have ho := off2_eq k ⟨r, hr⟩
    have hm : k1_off2 k (BitVec.ofNat 32 (r % 8)) = ![0, 0, 512 * (8 * k.val + r)] := by rw [Nat.mod_eq_of_lt hr]; exact ho
    have hJ := J.isLt
    rw [List.map_cons]
    by_cases h : J.val / 512 = 8 * k.val + r
    · rw [if_pos ⟨r, List.mem_cons_self, h⟩]
      have hj : J.val % 512 < 512 := Nat.mod_lt _ (by decide)
      refine (View.read_writes_cons_unit_of_mem v G _ _ _ (ix3 0 d J) (ix3 0 d ⟨J.val % 512, hj⟩)
        (off' := ![0, 0, 512 * (8 * k.val + r)]) hm ?_).trans ?_
      · intro a
        fin_cases a
        · rfl
        · show d.val = 0 + d.val; omega
        · show J.val = 512 * (8 * k.val + r) + J.val % 512; omega
      · refine (oS_apply f e g L Δ (n := 4096 * k.val + 512 * r) hq hd hL hΔ (spans_apply g hx k r hr) _ d _).trans ?_
        refine congrArg₂ _ ((ld_off x8 hm _ _).trans (congrArg x8 ?_)) ?_
        · funext a
          refine Fin.ext ?_
          fin_cases a
          · rfl
          · show 0 + 1 * d.val = d.val; omega
          · show 512 * (8 * k.val + r) + 1 * (J.val % 512) = J.val; omega
        · refine congrArg _ (congrArg (con f e g L Δ d.val) ?_)
          show 4096 * k.val + 512 * r + J.val % 512 = J.val
          omega
    · refine (View.read_writes_cons_unit_of_not_mem v G _ _ _ (ix3 0 d J)
        (off' := ![0, 0, 512 * (8 * k.val + r)]) hm 2 ?_).trans ?_
      · show J.val < 512 * (8 * k.val + r) ∨ 512 * (8 * k.val + r) + 512 ≤ J.val
        omega
      · rw [ih fun r' h' => hl r' (List.mem_cons_of_mem _ h')]
        refine if_congr ?_ rfl rfl
        simp only [List.mem_cons, exists_eq_or_imp, h, false_or]

end

section
variable (f e g : ℕ → ℕ → ℝ) (L Δ : ℕ → ℝ)
  (𝒱 : Variants) (c : Dev nD) (bd : Option 𝒱.V) (i : grid1.Coords) (arg2 : Memref sig .tc .vmem S512x256 .bf16) (harg2 : arg2.IsWhole)
  (arg3 : Memref sig .tc .vmem S512x256 .f32) (harg3 : arg3.IsWhole) (arg4 : Memref sig .tc .vmem S1x16384x128 .bf16) (harg4 : arg4.IsWhole)
  (arg5 : Memref sig .tc .vmem S4x512x1 .f32) (harg5 : arg5.IsWhole) (arg6 : Memref sig .tc .vmem S4x512x1 .f32) (harg6 : arg6.IsWhole)
  (arg7 : Memref sig .tc .vmem S512x256 .f32) (harg7 : arg7.IsWhole) (arg8 : Memref sig .tc .vmem S1x128x16384 .f32) (harg8 : arg8.IsWhole)
  {q dO : FVec Ideal S2048x128 .bf16} {lse dl : Vec Ideal S4x512x1 .f32} (X : BufTy.Contents (Elt Ideal) arg4.view.ty)
  (hq : ∀ ρ l, q (ix2 ρ l) = ((f ρ.val l.val : ℝ) : EReal)) (hd : ∀ ρ l, dO (ix2 ρ l) = ((e ρ.val l.val : ℝ) : EReal))
  (hL : ∀ ρ, k1_pay1 lse (ix2 ρ 0) = ((L ρ.val : ℝ) : EReal)) (hΔ : ∀ ρ, k1_pay2 dl (ix2 ρ 0) = ((Δ ρ.val : ℝ) : EReal))
  (hx : ∀ y : S1x16384x128.Idx, arg4.view.read (Elt Ideal) X y = ((g (y 1).val (y 2).val : ℝ) : EReal))

include hq hd hL hΔ hx in
/-- The state before trip `n`: the rows' gradients over the keys so far, and those keys' gradients added to what the block held. -/
theorem loop (G : BufTy.Contents (Elt Ideal) arg8.view.ty) (init : FVec Ideal S2048x128 .f32) (h0 : ∀ ρ l, init (ix2 ρ l) = ((0 : ℝ) : EReal)) :
    ∀ n, n ≤ 4 →
      (∀ ρ l, (st_k1_t1 𝒱 c bd i arg2 harg2 arg3 harg3 arg4 harg4 arg5 harg5 arg6 harg6 arg7 harg7 arg8 harg8 q dO lse dl X G init n).1 (ix2 ρ l)
        = ((∑ j ∈ range (4096 * n), sr f e g L Δ ρ.val j * g j l.val : ℝ) : EReal))
      ∧ ∀ d J, arg8.view.read (Elt Ideal) (arg8.view.writes (Elt Ideal) G
          (st_k1_t1 𝒱 c bd i arg2 harg2 arg3 harg3 arg4 harg4 arg5 harg5 arg6 harg6 arg7 harg7 arg8 harg8 q dO lse dl X G init n).2) (ix3 0 d J)
        = if J.val < 4096 * n then arg8.view.read (Elt Ideal) G (ix3 0 d J) + ((con f e g L Δ d.val J.val : ℝ) : EReal)
          else arg8.view.read (Elt Ideal) G (ix3 0 d J) := by
  intro n
  induction n with
  | zero =>
    intro _
    refine ⟨fun ρ l => ?_, fun d J => ?_⟩
    · rw [st_k1_t1_zero, h0, mul_zero, range_zero, sum_empty]
    · rw [mul_zero, if_neg (Nat.not_lt_zero _)]; rfl
  | succ n ih =>
    intro hn
    obtain ⟨ih1, ih2⟩ := ih (by omega)
    have e4 : k1_t1_loop.trips = 4 := by decide +kernel
    have hs := st_k1_t1_succ (F := Ideal) 𝒱 c bd i arg2 harg2 arg3 harg3 arg4 harg4 arg5 harg5 arg6 harg6 arg7 harg7 arg8 harg8 q dO lse dl X G init ⟨n, by omega⟩
    rw [show n + 1 = (⟨n, by omega⟩ : Fin k1_t1_loop.trips).val + 1 from rfl, hs, tripR_eq, tripL_eq]
    dsimp only
    generalize (st_k1_t1 𝒱 c bd i arg2 harg2 arg3 harg3 arg4 harg4 arg5 harg5 arg6 harg6 arg7 harg7 arg8 harg8 q dO lse dl X G init n) = S at ih1 ih2
    refine ⟨fun ρ l => ?_, fun d J => ?_⟩
    · rw [nSt_apply f e g L Δ hq hd hL hΔ _ _ (4096 * n) 8 (fun b hb j l => spans_apply g hx _ b hb j l) ρ l _ (ih1 ρ l) 8 le_rfl]
      rw [show 4096 * (n + 1) = 4096 * n + 512 * 8 by omega, sum_range_add]
    · rw [View.writes_append, trip_apply f e g L Δ hq hd hL hΔ hx _ _ _ _ d J _ (by decide), ih2]
      have hJ := J.isLt
      by_cases h1 : J.val < 4096 * n
      · rw [if_neg (by
          rintro ⟨r, -, hr⟩
          dsimp only at hr
          omega), if_pos h1, if_pos (by omega)]
      · by_cases h2 : J.val < 4096 * (n + 1)
        · rw [if_pos ⟨J.val / 512 - 8 * n, by
            have : J.val / 512 - 8 * n < 8 := by omega
            interval_cases (J.val / 512 - 8 * n) <;> decide, by dsimp only; omega⟩, if_neg h1, if_pos h2]
        · rw [if_neg (by
            rintro ⟨r, hr', hr⟩
            have : r < 8 := by fin_cases hr' <;> decide
            dsimp only at hr
            omega), if_neg h1, if_neg h2]
end

end Cert.AttnA.Bwd

end
-- ==== Proof.AttnBwd.lean ====
/- The backward attention call: the blocks of gradients each grid point leaves, and the two arrays after the run. -/
module

public import proofs.«01_k».proof.Proof.AttnTrip

@[expose] public section

set_option maxRecDepth 16384

noncomputable section

namespace Cert.AttnA.Bwd

open Cert.Kernel2Ideal Cert.Kernel2Ideal.Gen Idealize.ShloMosaic Idealize.ShloMosaic.TcCoe Finset
open Idealize.ShloMosaic.Pipeline (Dat)
open Cert.AttnA.Fwd (qf kvf score)

/-- A sum over `J` tiles of `T`. -/
theorem sum_tiles (T : ℕ) (F : ℕ → ℝ) : ∀ J, ∑ k ∈ range (T * J), F k = ∑ a ∈ range J, ∑ τ ∈ range T, F (T * a + τ)
  | 0 => by simp
  | J + 1 => by rw [Nat.mul_succ, sum_range_add, sum_tiles T F J, sum_range_succ]

section
variable (Q K V D : ℕ → ℕ → ℕ → ℝ)

/-- A row of the stacked output gradients: zero in the lower half, the gradient in the upper. -/
def df (t h l : ℕ) : ℝ := if l < 64 then 0 else D t h (l - 64)

theorem dscore (t h j g : ℕ) (hg : h / 4 = g) : ∑ e ∈ range 128, df D t h e * kvf K V g j e = dP V D t h j := by
  rw [show (128 : ℕ) = 64 + 64 from rfl, sum_range_add, dP]
  have h1 : ∑ e ∈ range 64, df D t h e * kvf K V g j e = 0 :=
    sum_eq_zero fun e he => by rw [df, if_pos (mem_range.mp he), zero_mul]
  rw [h1, zero_add]
  refine sum_congr rfl fun e he => ?_
  rw [df, kvf, if_neg (by omega), if_neg (by omega), hg, Nat.add_sub_cancel_left]

/-- What one query row adds to lane `d` of the gradient of key and value `j`. -/
def one (t h j d : ℕ) : ℝ := if d < 64 then dS Q K V D t h j * (Q t h d * (1 / 8)) else P Q K t h j * D t h (d - 64)

/-- The gradients of a group's keys and values, side by side. -/
def dkvf (g j d : ℕ) : ℝ := ∑ t ∈ range 16384, ∑ a ∈ range 4, one Q K V D t (4 * g + a) j d

theorem dkvf_lower (g j d : ℕ) (hd : d < 64) : dkvf Q K V D g j d = dK Q K V D j g d := by
  unfold dkvf dK one
  simp only [if_pos hd]

theorem dkvf_upper (g j d : ℕ) : dkvf Q K V D g j (64 + d) = dV Q K D j g d := by
  unfold dkvf dV one
  simp only [if_neg (show ¬ 64 + d < 64 by omega), Nat.add_sub_cancel_left]

variable (i g : ℕ)

/-- The rows of tile `i` of group `g`. -/
def fT (ρ l : ℕ) : ℝ := qf Q (512 * i + ρ % 512) (4 * g + ρ / 512) l
def eT (ρ l : ℕ) : ℝ := df D (512 * i + ρ % 512) (4 * g + ρ / 512) l
def LT (ρ : ℕ) : ℝ := Real.log (Z Q K (512 * i + ρ % 512) (4 * g + ρ / 512))
def ΔT (ρ : ℕ) : ℝ := dl Q K V D (512 * i + ρ % 512) (4 * g + ρ / 512)

theorem pr_eq (ρ j : ℕ) (hρ : ρ < 2048) : pr (fT Q i g) (kvf K V g) (LT Q K i g) ρ j = P Q K (512 * i + ρ % 512) (4 * g + ρ / 512) j := by
  unfold pr fT LT
  rw [score Q K V _ _ _ _ (by omega), P_eq_exp_log]

theorem sr_eq (ρ j : ℕ) (hρ : ρ < 2048) : sr (fT Q i g) (eT D i g) (kvf K V g) (LT Q K i g) (ΔT Q K V D i g) ρ j
    = dS Q K V D (512 * i + ρ % 512) (4 * g + ρ / 512) j := by
  unfold sr dS
  rw [pr_eq Q K V i g ρ j hρ]
  unfold eT ΔT
  rw [dscore K V D _ _ _ _ (by omega)]

theorem con_eq (d j : ℕ) : con (fT Q i g) (eT D i g) (kvf K V g) (LT Q K i g) (ΔT Q K V D i g) d j
    = ∑ τ ∈ range 512, ∑ a ∈ range 4, one Q K V D (512 * i + τ) (4 * g + a) j d := by
  unfold con
  rw [← sum_add_distrib, show (2048 : ℕ) = 512 * 4 from rfl, sum_tiles 512 _ 4, sum_comm]
  refine sum_congr rfl fun τ hτ => sum_congr rfl fun a ha => ?_
  have hτ := mem_range.mp hτ
  have ha := mem_range.mp ha
  rw [sr_eq Q K V D i g _ j (by omega), pr_eq Q K V i g _ j (by omega)]
  unfold fT eT
  rw [show (512 * a + τ) % 512 = τ by omega, show (512 * a + τ) / 512 = a by omega]
  unfold one qf df
  split_ifs <;> ring

/-- The tiles up to `n`. -/
def upto (n g d j : ℕ) : ℝ := ∑ t ∈ range (512 * n), ∑ a ∈ range 4, one Q K V D t (4 * g + a) j d

theorem upto_succ (n g d j : ℕ) : upto Q K V D (n + 1) g d j
    = upto Q K V D n g d j + con (fT Q n g) (eT D n g) (kvf K V g) (LT Q K n g) (ΔT Q K V D n g) d j := by
  unfold upto
  rw [Nat.mul_succ, sum_range_add, con_eq]

theorem upto_zero (g d j : ℕ) : upto Q K V D 0 g d j = 0 := by
  unfold upto
  rw [mul_zero, range_zero, sum_empty]
end

/-! ## The blocks a grid point reads -/

theorem lanes (l : Fin 128) : (IntOp.cmpi CmpIPredicate.slt (BitVec.ofNat 32 l.val) 64#32 = (1 : BitVec 1)) ↔ l.val < 64 := by
  revert l; decide

section
variable (Q D : ℕ → ℕ → ℕ → ℝ)

theorem q_apply (v : Vec Ideal S512x256 .bf16) (i g : ℕ)
    (hv : ∀ (ρ : Fin 512) (c : Fin 256), v (ix2 ρ c) = ((Q (512 * i + ρ.val) (4 * g + c.val / 64) (c.val % 64) * (1 / 8) : ℝ) : EReal))
    (ρ : Fin 2048) (l : Fin 128) : k1_pay55 v (ix2 ρ l) = ((fT Q i g ρ.val l.val : ℝ) : EReal) := by
  have hr := ρ.isLt
  have hl' := l.isLt
  pointwise [k1_pay55, k1_pay54]
  simp only [Scalar.select, lanes, qf, fT]
  by_cases hl : l.val < 64
  · simp only [if_pos hl, hv]
    split_ifs <;> refine congrArg _ (congrArg (· * (1 / 8 : ℝ)) (at3r Q ?_ ?_ ?_)) <;> (try dsimp only) <;> omega
  · simp only [if_neg hl, EReal.coe_zero, dite_eq_ite, ite_self]

theorem d_apply (v : Vec Ideal S512x256 .f32) (i g : ℕ)
    (hv : ∀ (ρ : Fin 512) (c : Fin 256), v (ix2 ρ c) = ((D (512 * i + ρ.val) (4 * g + c.val / 64) (c.val % 64) : ℝ) : EReal))
    (ρ : Fin 2048) (l : Fin 128) : k1_pay56 v (ix2 ρ l) = ((eT D i g ρ.val l.val : ℝ) : EReal) := by
  have hr := ρ.isLt
  have hl' := l.isLt
  pointwise [k1_pay56, k1_pay54]
  simp only [Scalar.select, lanes, df, eT]
  by_cases hl : l.val < 64
  · simp only [if_pos hl, EReal.coe_zero, dite_eq_ite, ite_self]
  · simp only [if_neg hl, hv]
    split_ifs <;> refine congrArg _ (at3r D ?_ ?_ ?_) <;> (try dsimp only) <;> omega

theorem col1_apply (v : Vec Ideal S4x512x1 .f32) (ρ : Fin 2048) :
    k1_pay1 v (ix2 ρ 0) = v (ix3 ⟨ρ.val / 512, by omega⟩ ⟨ρ.val % 512, by omega⟩ 0) := by
  pointwise [k1_pay1]

theorem col2_apply (v : Vec Ideal S4x512x1 .f32) (ρ : Fin 2048) :
    k1_pay2 v (ix2 ρ 0) = v (ix3 ⟨ρ.val / 512, by omega⟩ ⟨ρ.val % 512, by omega⟩ 0) := by
  pointwise [k1_pay2]

/-- The first stored tile of query gradients: heads 0 and 1 of the group, side by side. -/
theorem tile1 (A : FVec Ideal S2048x128 .f32) (w : ℕ → ℕ → ℝ)
    (hA : ∀ (r : Fin 2048) (l : Fin 128), A (ix2 r l) = ((w r.val l.val : ℝ) : EReal)) (ρ : Fin 512) (l : Fin 128) :
    k1_pay7 k1_pay54 A (ix2 ρ l) = ((w (512 * (l.val / 64) + ρ.val) (l.val % 64) : ℝ) : EReal) := by
  have hr := ρ.isLt
  have hl' := l.isLt
  pointwise [k1_pay7, k1_pay54]
  simp only [Scalar.select, lanes, hA]
  split_ifs with hl <;> refine congrArg _ (congrArg₂ w ?_ ?_) <;> (try dsimp only) <;> omega

/-- The second: heads 2 and 3. -/
theorem tile2 (A : FVec Ideal S2048x128 .f32) (w : ℕ → ℕ → ℝ)
    (hA : ∀ (r : Fin 2048) (l : Fin 128), A (ix2 r l) = ((w r.val l.val : ℝ) : EReal)) (ρ : Fin 512) (l : Fin 128) :
    k1_pay8 k1_pay54 A (ix2 ρ l) = ((w (512 * ((128 + l.val) / 64) + ρ.val) ((128 + l.val) % 64) : ℝ) : EReal) := by
  have hr := ρ.isLt
  have hl' := l.isLt
  pointwise [k1_pay8, k1_pay54]
  simp only [Scalar.select, lanes, hA]
  split_ifs with hl <;> refine congrArg _ (congrArg₂ w ?_ ?_) <;> (try dsimp only) <;> omega
end

section
variable (V' : (c : Dev nD) → (b : Ref sig .tc) → Buf (Elt Ideal) ((c : Thread nD τ).loc b))

/-- The block each window stages at each grid point. -/
theorem idx : ∀ t : Fin cfg1.N, win1_0.index t = ![t.val % 32, t.val / 32] ∧ win1_1.index t = ![t.val % 32, t.val / 32]
    ∧ win1_2.index t = ![t.val / 32, 0, 0] ∧ win1_3.index t = ![t.val / 32, t.val % 32, 0] ∧ win1_4.index t = ![t.val / 32, t.val % 32, 0]
    ∧ win1_5.index t = ![t.val % 32, t.val / 32] ∧ win1_6.index t = ![t.val / 32, 0, 0] :=
  (by decide +kernel : ∀ t : Fin grid1.N, _)

variable {Q K V D : ℕ → ℕ → ℕ → ℝ} (c : Dev nD)
  (hq : ∀ i : S16384x512.Idx, (V' c main_v3 : (⟨S16384x512, .bf16⟩ : BufTy).Contents (Elt Ideal)) i
    = ((Q (i 0).val ((i 1).val / 64) ((i 1).val % 64) * (1 / 8) : ℝ) : EReal))
  (hdy : ∀ i : S16384x512.Idx, (V' c main_arg3 : (⟨S16384x512, .f32⟩ : BufTy).Contents (Elt Ideal)) i
    = ((D (i 0).val ((i 1).val / 64) ((i 1).val % 64) : ℝ) : EReal))
  (hkv : ∀ i : S2x16384x128.Idx, (V' c main_v6 : (⟨S2x16384x128, .bf16⟩ : BufTy).Contents (Elt Ideal)) i
    = ((kvf K V (i 0).val (i 1).val (i 2).val : ℝ) : EReal))
  (hlse : ∀ i : S8x16384x1.Idx, (V' c main_v7_1 : (⟨S8x16384x1, .f32⟩ : BufTy).Contents (Elt Ideal)) i
    = ((Real.log (Z Q K (i 1).val (i 0).val) : ℝ) : EReal))
  (hdl : ∀ i : S8x16384x1.Idx, (V' c main_v12 : (⟨S8x16384x1, .f32⟩ : BufTy).Contents (Elt Ideal)) i
    = ((dl Q K V D (i 1).val (i 0).val : ℝ) : EReal))

include hq in
theorem blk_q (t : Fin cfg1.N) (ρ : Fin 2048) (l : Fin 128) :
    k1_pay55 (iblk1 V' c 0 t) (ix2 ρ l) = ((fT Q (t.val % 32) (t.val / 32) ρ.val l.val : ℝ) : EReal) := by
  refine q_apply Q _ _ _ (fun ρ cc => ?_) ρ l
  have h1 := ρ.isLt
  have h2 := cc.isLt
  refine (hq _).trans ?_
  blk_simp [idx t]
  refine congrArg _ (congrArg (· * (1 / 8 : ℝ)) (at3r Q ?_ ?_ ?_)) <;> omega

include hdy in
theorem blk_d (t : Fin cfg1.N) (ρ : Fin 2048) (l : Fin 128) :
    k1_pay56 (iblk1 V' c 1 t) (ix2 ρ l) = ((eT D (t.val % 32) (t.val / 32) ρ.val l.val : ℝ) : EReal) := by
  refine d_apply D _ _ _ (fun ρ cc => ?_) ρ l
  have h1 := ρ.isLt
  have h2 := cc.isLt
  refine (hdy _).trans ?_
  blk_simp [idx t]
  refine congrArg _ (at3r D ?_ ?_ ?_) <;> omega

include hkv in
theorem blk_kv (t : Fin cfg1.N) (y : S1x16384x128.Idx) :
    (ms1_2 t).view.read (Elt Ideal) ((hs1_2 t).unread (iblk1 V' c 2 t)) y = ((kvf K V (t.val / 32) (y 1).val (y 2).val : ℝ) : EReal) := by
  rw [(hs1_2 t).read_unread]
  refine (hkv _).trans ?_
  blk_simp [idx t]

include hlse in
theorem blk_l (t : Fin cfg1.N) (ρ : Fin 2048) :
    k1_pay1 (iblk1 V' c 3 t) (ix2 ρ 0) = ((LT Q K (t.val % 32) (t.val / 32) ρ.val : ℝ) : EReal) := by
  have h1 := ρ.isLt
  refine (col1_apply _ ρ).trans ((hlse _).trans ?_)
  blk_simp [idx t]
  refine congrArg (fun z : ℝ => ((Real.log z : ℝ) : EReal)) (congrArg₂ (Z Q K) ?_ ?_) <;> dsimp only <;> omega

include hdl in
theorem blk_dl (t : Fin cfg1.N) (ρ : Fin 2048) :
    k1_pay2 (iblk1 V' c 4 t) (ix2 ρ 0) = ((ΔT Q K V D (t.val % 32) (t.val / 32) ρ.val : ℝ) : EReal) := by
  have h1 := ρ.isLt
  refine (col2_apply _ ρ).trans ((hdl _).trans ?_)
  blk_simp [idx t]
  refine congrArg (fun z : ℝ => ((z : ℝ) : EReal)) (congrArg₂ (dl Q K V D) ?_ ?_) <;> dsimp only <;> omega

theorem zero_init (ρ : Fin 2048) (l : Fin 128) : k1_pay5 (F := Ideal) (ix2 ρ l) = ((0 : ℝ) : EReal) := Ideal.ofBits_zero_f32

/-- The state after the loop of grid point `t`, from any contents of the block of key gradients. -/
abbrev S (t : Fin cfg1.N) (G : BufTy.Contents (Elt Ideal) (ms1_6 t).view.ty) :=
  st_k1_t1 Variants.none c none (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (k1_pay55 (iblk1 V' c 0 t)) (k1_pay56 (iblk1 V' c 1 t)) (iblk1 V' c 3 t)
    (iblk1 V' c 4 t) ((hs1_2 t).unread (iblk1 V' c 2 t)) G k1_pay5 (Scf.trips 0#32 (Scalar.addi 0#32 4#32) 1#32)

include hq hdy hkv hlse hdl in
theorem loop_q (t : Fin cfg1.N) (G : BufTy.Contents (Elt Ideal) (ms1_6 t).view.ty) (ρ : Fin 2048) (l : Fin 128) :
    (S V' c t G).1 (ix2 ρ l) = ((∑ j ∈ range 16384, dS Q K V D (512 * (t.val % 32) + ρ.val % 512) (4 * (t.val / 32) + ρ.val / 512) j
      * kvf K V (t.val / 32) j l.val : ℝ) : EReal) := by
  have h := (loop (fT Q (t.val % 32) (t.val / 32)) (eT D (t.val % 32) (t.val / 32)) (kvf K V (t.val / 32)) (LT Q K (t.val % 32) (t.val / 32))
    (ΔT Q K V D (t.val % 32) (t.val / 32)) Variants.none c none (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) ((hs1_2 t).unread (iblk1 V' c 2 t))
    (blk_q V' c hq t) (blk_d V' c hdy t) (blk_l V' c hlse t) (blk_dl V' c hdl t) (blk_kv V' c hkv t) G k1_pay5 zero_init 4 le_rfl).1 ρ l
  refine h.trans (congrArg _ (sum_congr rfl fun j _ => ?_))
  rw [sr_eq Q K V D _ _ _ j ρ.isLt]

include hq hdy hkv hlse hdl in
theorem loop_kv (t : Fin cfg1.N) (G : BufTy.Contents (Elt Ideal) (ms1_6 t).view.ty) (d : Fin 128) (J : Fin 16384) :
    (ms1_6 t).view.read (Elt Ideal) ((ms1_6 t).view.writes (Elt Ideal) G (S V' c t G).2) (ix3 0 d J)
      = (ms1_6 t).view.read (Elt Ideal) G (ix3 0 d J) + ((con (fT Q (t.val % 32) (t.val / 32)) (eT D (t.val % 32) (t.val / 32))
        (kvf K V (t.val / 32)) (LT Q K (t.val % 32) (t.val / 32)) (ΔT Q K V D (t.val % 32) (t.val / 32)) d.val J.val : ℝ) : EReal) := by
  have h := (loop (fT Q (t.val % 32) (t.val / 32)) (eT D (t.val % 32) (t.val / 32)) (kvf K V (t.val / 32)) (LT Q K (t.val % 32) (t.val / 32))
    (ΔT Q K V D (t.val % 32) (t.val / 32)) Variants.none c none (grid1.coords t) (ms1_0 t) (hs1_0 t) (ms1_1 t) (hs1_1 t) (ms1_2 t) (hs1_2 t)
    (ms1_3 t) (hs1_3 t) (ms1_4 t) (hs1_4 t) (ms1_5 t) (hs1_5 t) (ms1_6 t) (hs1_6 t) ((hs1_2 t).unread (iblk1 V' c 2 t))
    (blk_q V' c hq t) (blk_d V' c hdy t) (blk_l V' c hlse t) (blk_dl V' c hdl t) (blk_kv V' c hkv t) G k1_pay5 zero_init 4 le_rfl).2 d J
  rw [if_pos (by have := J.isLt; omega)] at h
  exact h

/-- A row's query gradient, before the scale. -/
def dqr (Q K V D : ℕ → ℕ → ℕ → ℝ) (t h d : ℕ) : ℝ := ∑ j ∈ range 16384, dS Q K V D t h j * K j (h / 4) d

/-- The two stored tiles, for any rows. -/
theorem two_tiles (A : FVec Ideal S2048x128 .f32) (w u : ℕ → ℕ → ℝ)
    (hA : ∀ (ρ : Fin 2048) (l : Fin 128), A (ix2 ρ l) = ((w ρ.val l.val : ℝ) : EReal))
    (hw : ∀ ρ l : ℕ, ρ < 512 → l < 256 → w (512 * (l / 64) + ρ) (l % 64) = u ρ l) (y : S512x256.Idx) :
    (View.canon (Val := Elt Ideal) [⟨Rect.unit ![0, 128] ![512, 128] inb_S512x256_S512x128_0_128, k1_pay8 k1_pay54 A⟩,
      ⟨Rect.unit ![0, 0] ![512, 128] inb_S512x256_S512x128_0_0, k1_pay7 k1_pay54 A⟩] : Vec Ideal S512x256 .f32) y
      = ((u (y 0).val (y 1).val : ℝ) : EReal) := by
  canon_tiles x h
  · idx_vars x
    refine (tile2 A w hA _ _).trans (congrArg _ ((hw _ _ ?_ ?_).trans (congrArg₂ u ?_ ?_))) <;> (try dsimp only) <;> omega
  · idx_vars x
    refine (tile1 A w hA _ _).trans (congrArg _ ((hw _ _ ?_ ?_).trans (congrArg₂ u ?_ ?_))) <;> (try dsimp only) <;> omega

/-- The two stored tiles of query gradients. -/
theorem out_tiles (A : FVec Ideal S2048x128 .f32) (i g : ℕ)
    (hA : ∀ (ρ : Fin 2048) (l : Fin 128), A (ix2 ρ l) = ((∑ j ∈ range 16384, dS Q K V D (512 * i + ρ.val % 512) (4 * g + ρ.val / 512) j
      * kvf K V g j l.val : ℝ) : EReal)) (y : S512x256.Idx) :
    (View.canon (Val := Elt Ideal) [⟨Rect.unit ![0, 128] ![512, 128] inb_S512x256_S512x128_0_128, k1_pay8 k1_pay54 A⟩,
      ⟨Rect.unit ![0, 0] ![512, 128] inb_S512x256_S512x128_0_0, k1_pay7 k1_pay54 A⟩] : Vec Ideal S512x256 .f32) y
      = ((dqr Q K V D (512 * i + (y 0).val) (4 * g + (y 1).val / 64) ((y 1).val % 64) : ℝ) : EReal) := by
  refine two_tiles A (fun ρ l => ∑ j ∈ range 16384, dS Q K V D (512 * i + ρ % 512) (4 * g + ρ / 512) j * kvf K V g j l)
    (fun ρ l => dqr Q K V D (512 * i + ρ) (4 * g + l / 64) (l % 64)) hA (fun ρ l h1 h2 => ?_) y
  refine sum_congr rfl fun j _ => ?_
  rw [kvf, if_pos (by omega), show (512 * (l / 64) + ρ) % 512 = ρ by omega, show (512 * (l / 64) + ρ) / 512 = l / 64 by omega,
    show (4 * g + l / 64) / 4 = g by omega]

include hq hdy hkv hlse hdl in
/-- The block of query gradients a grid point leaves. -/
theorem out_q (t : Fin cfg1.N) (y : S512x256.Idx) : (outsAt1 V' c t.val t.isLt).1 y
    = ((dqr Q K V D (512 * (t.val % 32) + (y 0).val) (4 * (t.val / 32) + (y 1).val / 64) ((y 1).val % 64) : ℝ) : EReal) := by
  by_cases h0 : t.val % 32 = 0
  · rw [outsAt1_A V' c t h0]
    unfold out1_A_5 kernelRun1_A
    dsimp only
    frame_out
    exact out_tiles _ _ _ (loop_q V' c hq hdy hkv hlse hdl t _) y
  · rw [outsAt1_B V' c t h0]
    unfold out1_B_5 kernelRun1_B
    dsimp only
    frame_out
    exact out_tiles _ _ _ (loop_q V' c hq hdy hkv hlse hdl t _) y

/-- A whole-block store of zeros. -/
theorem zero_fill (v : View sig .tc .vmem S1x128x16384 .f32) (f : BufTy.Contents (Elt Ideal) v.ty) (y : S1x128x16384.Idx) :
    v.read (Elt Ideal) (v.writes (Elt Ideal) f [⟨Rect.unit ![0, 0, 0] ![1, 128, 16384] inb_S1x128x16384_S1x128x16384_0_0_0, k1_pay53 (F := Ideal)⟩]) y = 0 := by
  refine (View.read_writes_cons_unit_of_mem v f _ _ [] y y rfl (fun a => ?_)).trans Ideal.ofBits_zero_f32
  fin_cases a <;> exact (Nat.zero_add _).symm

include hq hdy hkv hlse hdl in
/-- The first tile of a group starts its block from zero. -/
theorem out_A (t : Fin cfg1.N) (h0 : t.val % 32 = 0) (d : Fin 128) (J : Fin 16384) : (outsAt1 V' c t.val t.isLt).2 (ix3 0 d J)
    = ((upto Q K V D (t.val % 32 + 1) (t.val / 32) d.val J.val : ℝ) : EReal) := by
  rw [outsAt1_A V' c t h0]
  unfold out1_A_6
  unfold kernelRun1_A
  dsimp only
  frame_out
  refine (View.read_writes_apply_eq_canon (ms1_6 t).view (ms1_6 t).view.junk _ _
    ⟨_, List.mem_append_right _ (List.mem_singleton_self _), ?_⟩).symm.trans ?_
  · rw [Rect.mem_set_unit]
    intro a
    have hd := d.isLt
    have hJ := J.isLt
    fin_cases a
    · exact ⟨le_rfl, Nat.zero_lt_one⟩
    · exact ⟨Nat.zero_le _, by show d.val < 0 + 128; omega⟩
    · exact ⟨Nat.zero_le _, by show J.val < 0 + 16384; omega⟩
  rw [View.writes_append]
  refine (loop_kv V' c hq hdy hkv hlse hdl t _ d J).trans ?_
  rw [zero_fill, zero_add, upto_succ, h0, upto_zero, zero_add]

include hq hdy hkv hlse hdl in
/-- A later tile adds to what the one before left. -/
theorem out_B (t : Fin cfg1.N) (h0 : ¬ t.val % 32 = 0) (d : Fin 128) (J : Fin 16384) : (outsAt1 V' c t.val t.isLt).2 (ix3 0 d J)
    = (outsAt1 V' c (t.val - 1) (Nat.lt_of_le_of_lt (Nat.sub_le _ _) t.isLt)).2 (ix3 0 d J)
      + ((con (fT Q (t.val % 32) (t.val / 32)) (eT D (t.val % 32) (t.val / 32))
        (kvf K V (t.val / 32)) (LT Q K (t.val % 32) (t.val / 32)) (ΔT Q K V D (t.val % 32) (t.val / 32)) d.val J.val : ℝ) : EReal) := by
  rw [outsAt1_B V' c t h0]
  unfold out1_B_6 kernelRun1_B
  dsimp only
  frame_out
  refine (loop_kv V' c hq hdy hkv hlse hdl t _ d J).trans ?_
  rw [(hs1_6 t).read_unread]

include hq hdy hkv hlse hdl in
/-- The running block of key and value gradients. -/
theorem out_kv (d : Fin 128) (J : Fin 16384) : ∀ n (hn : n < cfg1.N), (outsAt1 V' c n hn).2 (ix3 0 d J)
    = ((upto Q K V D (n % 32 + 1) (n / 32) d.val J.val : ℝ) : EReal)
  | n, hn => by
    by_cases h0 : n % 32 = 0
    · exact out_A V' c hq hdy hkv hlse hdl ⟨n, hn⟩ h0 d J
    · refine (out_B V' c hq hdy hkv hlse hdl ⟨n, hn⟩ h0 d J).trans ?_
      dsimp only
      rw [out_kv d J (n - 1) (by omega), ← EReal.coe_add, show (n - 1) % 32 + 1 = n % 32 by omega, show (n - 1) / 32 = n / 32 by omega, upto_succ]
  termination_by n => n
  decreasing_by omega

include hq hdy hkv hlse hdl in
/-- The array of query gradients after the run. -/
theorem final_q (i : S16384x512.Idx) : ((dat1 V' c).arrAt 5 cfg1.N : (⟨S16384x512, .f32⟩ : BufTy).Contents (Elt Ideal)) i
    = ((dqr Q K V D (i 0).val ((i 1).val / 64) ((i 1).val % 64) : ℝ) : EReal) := by
  refine congrFun ((dat1 V' c).arrAt_eq_of_covers 5 (fun i : S16384x512.Idx => ((dqr Q K V D (i 0).val ((i 1).val / 64) ((i 1).val % 64) : ℝ) : EReal))
    (by decide +kernel) fun t _ y => ?_) i
  rw [after1_5]
  blk_simp [idx t]
  have h0 : (y 0).val < 512 := (y 0).isLt
  have h1 : (y 1).val < 256 := (y 1).isLt
  refine (out_q V' c hq hdy hkv hlse hdl t y).trans (at3 (dqr Q K V D) ?_ ?_ ?_) <;> omega

theorem flush6 : ∀ t : Fin cfg1.N, (cfg1.win 6).flush t = true → t.val % 32 = 31 := (by decide +kernel : ∀ t : Fin grid1.N, _)

include hq hdy hkv hlse hdl in
/-- The array of key and value gradients after the run. -/
theorem final_kv (i : S2x128x16384.Idx) : ((dat1 V' c).arrAt 6 cfg1.N : (⟨S2x128x16384, .f32⟩ : BufTy).Contents (Elt Ideal)) i
    = ((dkvf Q K V D (i 0).val (i 2).val (i 1).val : ℝ) : EReal) := by
  refine congrFun ((dat1 V' c).arrAt_eq_of_covers 6 (fun i : S2x128x16384.Idx => ((dkvf Q K V D (i 0).val (i 2).val (i 1).val : ℝ) : EReal))
    (by decide +kernel) fun t hf y => ?_) i
  have hf := flush6 t hf
  rw [after1_6]
  blk_simp [idx t]
  have h0 : (y 0).val < 1 := (y 0).isLt
  refine (congrArg _ (?_ : y = ix3 0 (y 1) (y 2))).trans ((out_kv V' c hq hdy hkv hlse hdl (y 1) (y 2) t.val t.isLt).trans ?_)
  · blk_ext
  · rw [hf]
    unfold dkvf upto
    simp only [Nat.reduceAdd, Nat.reduceMul]

end

end Cert.AttnA.Bwd

end
-- ==== Proof.FiniteArgs.lean ====
/- What a precondition "every element is finite" gives: each element is a real number, so an array is a
   family of reals indexed by natural numbers. -/
module

public import Idealize.ShloMosaic.Lib.Claim
public import Idealize.ShloMosaic.Lib.Pointwise
public import Idealize.ShloMosaic.Lib.ReduceAll

@[expose] public section

set_option maxRecDepth 16384

noncomputable section

namespace Cert.FiniteArgs

open Idealize.ShloMosaic

theorem ofBits_inf : Ideal.ofBits .f32 0x7F800000#32 = ⊤ := by simp [Ideal.ofBits, Ideal.ieee]

/-- A value whose absolute value is below plus infinity is a real. -/
theorem real_of_lt (x : EReal) (h : Ideal.cmp .olt (max x (-x)) ⊤ = 1#1) : ((x.toReal : ℝ) : EReal) = x := by
  have hlt : max x (-x) < ⊤ := by
    by_contra hn
    simp [Ideal.cmp, hn] at h
  refine EReal.coe_toReal (fun e => ?_) (fun e => ?_)
  · subst e; simp at hlt
  · subst e; simp at hlt

/-- Every element of an array that passes the printed test `jnp.all(jnp.isfinite(x))` is a real. -/
theorem real_of_all {s t u : Shape} {axes : List (Fin s.rank)} [Subsingleton t.Idx] (x : FVec Ideal s .f32) (b : FVec Ideal s .f32)
    (hb : ∀ i, b i = ⊤) (init : IVec u 1) (h : s.ReducesTo axes t) (hu : 0 < u.numel) (j : t.Idx)
    (e : Host.reduce IntOp.andi (cmpf .olt (Host.absf x) b) init h hu j = 1#1) (i : s.Idx) :
    (((x i : EReal).toReal : ℝ) : EReal) = x i := by
  have h1 := Host.reduce_andi_all _ init h hu j e i
  refine real_of_lt _ ?_
  have h2 : Ideal.cmp .olt (max (x i : EReal) (-(x i : EReal))) (b i) = 1#1 := h1
  rwa [hb i] at h2

/-- A conjunction of two bits that is 1. -/
theorem and_split {s : Shape} (x y : IVec s 1) (j : s.Idx) (h : andi x y j = 1#1) : x j = 1#1 ∧ y j = 1#1 := by
  have h' : x j &&& y j = 1#1 := h
  generalize x j = a at *
  generalize y j = b at *
  revert a b
  decide

/-- An array of rank three as reals indexed by naturals. -/
def nat3 {a b c : ℕ} (x : (⟨3, ![a, b, c]⟩ : Shape).Idx → EReal) (t h d : ℕ) : ℝ :=
  if hh : t < a ∧ h < b ∧ d < c then (x (ix3 (⟨t, hh.1⟩ : Fin a) (⟨h, hh.2.1⟩ : Fin b) (⟨d, hh.2.2⟩ : Fin c))).toReal else 0

theorem nat3_eq {a b c : ℕ} (x : (⟨3, ![a, b, c]⟩ : Shape).Idx → EReal) (hx : ∀ i, (((x i).toReal : ℝ) : EReal) = x i)
    (i : (⟨3, ![a, b, c]⟩ : Shape).Idx) : x i = ((nat3 x (i 0).val (i 1).val (i 2).val : ℝ) : EReal) := by
  rw [← hx i, nat3, dif_pos (⟨(i 0).isLt, (i 1).isLt, (i 2).isLt⟩)]
  congr 3
  funext k
  match k with
  | ⟨0, _⟩ => rfl
  | ⟨1, _⟩ => rfl
  | ⟨2, _⟩ => rfl

/-- An array of rank two as reals indexed by naturals. -/
def nat2 {a b : ℕ} (x : (⟨2, ![a, b]⟩ : Shape).Idx → EReal) (t h : ℕ) : ℝ :=
  if hh : t < a ∧ h < b then (x (ix2 (⟨t, hh.1⟩ : Fin a) (⟨h, hh.2⟩ : Fin b))).toReal else 0

theorem nat2_eq {a b : ℕ} (x : (⟨2, ![a, b]⟩ : Shape).Idx → EReal) (hx : ∀ i, (((x i).toReal : ℝ) : EReal) = x i)
    (i : (⟨2, ![a, b]⟩ : Shape).Idx) : x i = ((nat2 x (i 0).val (i 1).val : ℝ) : EReal) := by
  rw [← hx i, nat2, dif_pos (⟨(i 0).isLt, (i 1).isLt⟩)]
  congr 3
  funext k
  match k with
  | ⟨0, _⟩ => rfl
  | ⟨1, _⟩ => rfl

/-- An array of one row. -/
theorem row_eq {b : ℕ} (x : (⟨2, ![1, b]⟩ : Shape).Idx → EReal) (hx : ∀ i, (((x i).toReal : ℝ) : EReal) = x i)
    (i : (⟨2, ![1, b]⟩ : Shape).Idx) : x i = ((nat2 x 0 (i 1).val : ℝ) : EReal) := by
  have h : (i 0).val = 0 := by have := (i 0).isLt; change (i 0).val < 1 at this; omega
  rw [nat2_eq x hx i, h]

end Cert.FiniteArgs
-- ==== Proof.AttnHost.lean ====
/- The host lines around the two attention calls: what the calls' operands hold, and the four results. -/
module

public import proofs.«01_k».proof.Proof.AttnFwd
public import proofs.«01_k».proof.Proof.AttnBwd
public import proofs.«01_k».proof.Proof.FiniteArgs
public import proofs.«01_k».proof.Proof.Gen.Pre_finite2

@[expose] public section

set_option maxRecDepth 16384

noncomputable section

namespace Cert.AttnA.Host

open Cert.Kernel2Ideal Cert.Kernel2Ideal.Gen Idealize.ShloMosaic Idealize.ShloMosaic.TcCoe Finset

variable (m : (ℓ : Loc nD τ sig) → Buf (Elt Ideal) ℓ) (ρ : Dev nD → PrngReg) (c : Dev nD)
variable {Q K V D : ℕ → ℕ → ℕ → ℝ}

/-- The queries' rows, scaled. -/
theorem read_q (h0 : ∀ i : S16384x8x64.Idx, m ((c.tc : Thread nD τ).loc main_arg0) i = ((Q (i 0).val (i 1).val (i 2).val : ℝ) : EReal))
    (i : S16384x512.Idx) : V1 m ρ c main_v3 i = ((Q (i 0).val ((i 1).val / 64) ((i 1).val % 64) * (1 / 8) : ℝ) : EReal) := by
  have e : V1 m ρ c main_v3 = (truncf .bf16 (mulf (shapeCast S16384x512 (m ((c.tc : Thread nD τ).loc main_arg0)) shapeCasts_S16384x8x64_S16384x512)
      (broadcastInDim S16384x512 ![] bcast_S_S16384x512 (constant (F := Ideal) S_ .f32 0x3E000000#32))) bitsLt_bf16_f32) := by
    unfold_abbrev_sides
    after_results
    rfl
  rw [e]
  generalize m ((c.tc : Thread nD τ).loc main_arg0) = x at *
  pointwise []
  rw [h0, ofBits_eighth, ← EReal.coe_mul]
  rfl

/-- Keys and values side by side, a group's rows together. -/
def pack (x y : FVec Ideal S16384x2x64 .f32) : FVec Ideal S2x16384x128 .bf16 :=
  truncf .bf16 (transpose S2x16384x128 [1, 0, 2] (concatenate S16384x2x128 2 [⟨S16384x2x64, x⟩, ⟨S16384x2x64, y⟩]
      concatenates_S16384x2x64_S16384x2x64_S16384x2x128_d2) transposes_S16384x2x128_S2x16384x128_1_0_2) bitsLt_bf16_f32

theorem pack_apply (x y : FVec Ideal S16384x2x64 .f32)
    (h1 : ∀ i : S16384x2x64.Idx, x i = ((K (i 0).val (i 1).val (i 2).val : ℝ) : EReal))
    (h2 : ∀ i : S16384x2x64.Idx, y i = ((V (i 0).val (i 1).val (i 2).val : ℝ) : EReal)) (i : S2x16384x128.Idx) :
    pack x y i = ((Fwd.kvf K V (i 0).val (i 1).val (i 2).val : ℝ) : EReal) := by
  unfold pack Fwd.kvf
  pointwise []
  split_ifs
  · exact h1 _
  · exact h2 _
  · exact h2 _

theorem read_kv (h1 : ∀ i : S16384x2x64.Idx, m ((c.tc : Thread nD τ).loc main_arg1) i = ((K (i 0).val (i 1).val (i 2).val : ℝ) : EReal))
    (h2 : ∀ i : S16384x2x64.Idx, m ((c.tc : Thread nD τ).loc main_arg2) i = ((V (i 0).val (i 1).val (i 2).val : ℝ) : EReal))
    (i : S2x16384x128.Idx) : V1 m ρ c main_v6 i = ((Fwd.kvf K V (i 0).val (i 1).val (i 2).val : ℝ) : EReal) := by
  have e : V1 m ρ c main_v6 = pack (m ((c.tc : Thread nD τ).loc main_arg1)) (m ((c.tc : Thread nD τ).loc main_arg2)) := by
    unfold_abbrev_sides
    after_results
    rfl
  rw [e]
  exact pack_apply _ _ h1 h2 i

/-- The forward call's two results, as the backward call finds them. -/
theorem read_y (h0 : ∀ i : S16384x8x64.Idx, m ((c.tc : Thread nD τ).loc main_arg0) i = ((Q (i 0).val (i 1).val (i 2).val : ℝ) : EReal))
    (h1 : ∀ i : S16384x2x64.Idx, m ((c.tc : Thread nD τ).loc main_arg1) i = ((K (i 0).val (i 1).val (i 2).val : ℝ) : EReal))
    (h2 : ∀ i : S16384x2x64.Idx, m ((c.tc : Thread nD τ).loc main_arg2) i = ((V (i 0).val (i 1).val (i 2).val : ℝ) : EReal))
    (i : S16384x512.Idx) : V2 m ρ c main_v7_0 i = ((Y Q K V (i 0).val ((i 1).val / 64) ((i 1).val % 64) : ℝ) : EReal) :=
  (congrFun (W2_arr m ρ c 2) i).trans (Fwd.final_y (V1 m ρ) c (read_q m ρ c h0) (read_kv m ρ c h1 h2) i)

theorem read_l (h0 : ∀ i : S16384x8x64.Idx, m ((c.tc : Thread nD τ).loc main_arg0) i = ((Q (i 0).val (i 1).val (i 2).val : ℝ) : EReal))
    (h1 : ∀ i : S16384x2x64.Idx, m ((c.tc : Thread nD τ).loc main_arg1) i = ((K (i 0).val (i 1).val (i 2).val : ℝ) : EReal))
    (h2 : ∀ i : S16384x2x64.Idx, m ((c.tc : Thread nD τ).loc main_arg2) i = ((V (i 0).val (i 1).val (i 2).val : ℝ) : EReal))
    (i : S8x16384x1.Idx) : V3 m ρ c main_v7_1 i = ((Real.log (Z Q K (i 1).val (i 0).val) : ℝ) : EReal) :=
  (congrFun ((W3_of m ρ c main_v7_1 (by decide)).trans (W2_arr m ρ c 3)) i).trans
    (Fwd.final_l (V1 m ρ) c (read_q m ρ c h0) (read_kv m ρ c h1 h2) i)

/-- The inner products of the cotangent's rows with the output's. -/
def inner (x y : FVec Ideal S16384x512 .f32) : FVec Ideal S8x16384x1 .f32 :=
  broadcastInDim S8x16384x1 ![0, 1] bcast_S8x16384_S8x16384x1_0_1 (transpose S8x16384 [1, 0] (Host.reduceAdd
    (shapeCast S16384x8x64 (mulf x y) shapeCasts_S16384x512_S16384x8x64) (constant S_ .f32 0x00000000#32)
    reducesTo_S16384x8x64_S16384x8_d2 h_S_) transposes_S16384x8_S8x16384_1_0)

theorem inner_apply (x y : FVec Ideal S16384x512 .f32)
    (h3 : ∀ i : S16384x512.Idx, x i = ((D (i 0).val ((i 1).val / 64) ((i 1).val % 64) : ℝ) : EReal))
    (hy : ∀ i : S16384x512.Idx, y i = ((Y Q K V (i 0).val ((i 1).val / 64) ((i 1).val % 64) : ℝ) : EReal)) (i : S8x16384x1.Idx) :
    inner x y i = ((dl Q K V D (i 1).val (i 0).val : ℝ) : EReal) := by
  unfold inner
  rw [dl_eq]
  pointwise []
  refine sum_fin (fun d => D (i 1).val (i 0).val d * Y Q K V (i 1).val (i 0).val d) fun k => ?_
  have b : k.val < 64 := k.isLt
  rw [h3, hy, EReal.coe_mul]
  refine congrArg₂ _ (at3 D rfl ?_ ?_) (at3 (Y Q K V) rfl ?_ ?_)
  · show ((i 0).val * 64 + k.val) / 64 = (i 0).val; omega
  · show ((i 0).val * 64 + k.val) % 64 = k.val; omega
  · show ((i 0).val * 64 + k.val) / 64 = (i 0).val; omega
  · show ((i 0).val * 64 + k.val) % 64 = k.val; omega

theorem read_dl (h0 : ∀ i : S16384x8x64.Idx, m ((c.tc : Thread nD τ).loc main_arg0) i = ((Q (i 0).val (i 1).val (i 2).val : ℝ) : EReal))
    (h1 : ∀ i : S16384x2x64.Idx, m ((c.tc : Thread nD τ).loc main_arg1) i = ((K (i 0).val (i 1).val (i 2).val : ℝ) : EReal))
    (h2 : ∀ i : S16384x2x64.Idx, m ((c.tc : Thread nD τ).loc main_arg2) i = ((V (i 0).val (i 1).val (i 2).val : ℝ) : EReal))
    (h3 : ∀ i : S16384x512.Idx, m ((c.tc : Thread nD τ).loc main_arg3) i = ((D (i 0).val ((i 1).val / 64) ((i 1).val % 64) : ℝ) : EReal))
    (i : S8x16384x1.Idx) : V3 m ρ c main_v12 i = ((dl Q K V D (i 1).val (i 0).val : ℝ) : EReal) := by
  have e : V3 m ρ c main_v12 = inner (W2 m ρ c (Proc.devRef .tc main_arg3)) (W2 m ρ c (Proc.devRef .tc main_v7_0)) := by
    unfold_abbrev_sides
    after_results
    rfl
  rw [e]
  exact inner_apply _ _ (fun j => (congrFun (W2_args m ρ c main_arg3 (by decide)) j).trans (h3 j)) (read_y m ρ c h0 h1 h2) i

/-- The packed gradient of keys and values with its positions first, and its two halves. -/
def half0 (x : FVec Ideal S2x128x16384 .f32) : FVec Ideal S16384x2x64 .f32 :=
  extractStridedSlice S16384x2x64 ![0, 0, 0] (transpose S16384x2x128 [2, 0, 1] x transposes_S2x128x16384_S16384x2x128_2_0_1)
    slices_S16384x2x128_S16384x2x64_0_0_0
def half1 (x : FVec Ideal S2x128x16384 .f32) : FVec Ideal S16384x2x64 .f32 :=
  extractStridedSlice S16384x2x64 ![0, 0, 64] (transpose S16384x2x128 [2, 0, 1] x transposes_S2x128x16384_S16384x2x128_2_0_1)
    slices_S16384x2x128_S16384x2x64_0_0_64
/-- The queries' gradient, scaled. -/
def scaled (x : FVec Ideal S16384x512 .f32) : FVec Ideal S16384x8x64 .f32 :=
  shapeCast S16384x8x64 (mulf x (broadcastInDim S16384x512 ![] bcast_S_S16384x512 (constant S_ .f32 0x3E000000#32)))
    shapeCasts_S16384x512_S16384x8x64

theorem half0_apply (x : FVec Ideal S2x128x16384 .f32)
    (h : ∀ i : S2x128x16384.Idx, x i = ((Bwd.dkvf Q K V D (i 0).val (i 2).val (i 1).val : ℝ) : EReal)) (i : S16384x2x64.Idx) :
    half0 x i = ((dK Q K V D (i 0).val (i 1).val (i 2).val : ℝ) : EReal) := by
  have b : (i 2).val < 64 := (i 2).isLt
  unfold half0
  pointwise []
  rw [h, ← Bwd.dkvf_lower Q K V D _ _ _ b]
  exact at3 (Bwd.dkvf Q K V D) rfl rfl rfl

theorem half1_apply (x : FVec Ideal S2x128x16384 .f32)
    (h : ∀ i : S2x128x16384.Idx, x i = ((Bwd.dkvf Q K V D (i 0).val (i 2).val (i 1).val : ℝ) : EReal)) (i : S16384x2x64.Idx) :
    half1 x i = ((dV Q K D (i 0).val (i 1).val (i 2).val : ℝ) : EReal) := by
  unfold half1
  pointwise []
  rw [h, ← Bwd.dkvf_upper Q K V D]
  exact at3 (Bwd.dkvf Q K V D) rfl rfl (by first | rfl | exact Nat.add_comm _ _)

theorem scaled_apply (x : FVec Ideal S16384x512 .f32)
    (h : ∀ i : S16384x512.Idx, x i = ((Bwd.dqr Q K V D (i 0).val ((i 1).val / 64) ((i 1).val % 64) : ℝ) : EReal)) (i : S16384x8x64.Idx) :
    scaled x i = ((dQ Q K V D (i 0).val (i 1).val (i 2).val : ℝ) : EReal) := by
  unfold scaled
  pointwise []
  have b : (i 2).val < 64 := (i 2).isLt
  rw [h, ofBits_eighth, ← EReal.coe_mul]
  refine at3 (dQ Q K V D) (a := (i 0).val) (b := ((i 1).val * 64 + (i 2).val) / 64) (c := ((i 1).val * 64 + (i 2).val) % 64) rfl ?_ ?_
  · omega
  · omega

section
variable (h0 : ∀ i : S16384x8x64.Idx, m ((c.tc : Thread nD τ).loc main_arg0) i = ((Q (i 0).val (i 1).val (i 2).val : ℝ) : EReal))
  (h1 : ∀ i : S16384x2x64.Idx, m ((c.tc : Thread nD τ).loc main_arg1) i = ((K (i 0).val (i 1).val (i 2).val : ℝ) : EReal))
  (h2 : ∀ i : S16384x2x64.Idx, m ((c.tc : Thread nD τ).loc main_arg2) i = ((V (i 0).val (i 1).val (i 2).val : ℝ) : EReal))
  (h3 : ∀ i : S16384x512.Idx, m ((c.tc : Thread nD τ).loc main_arg3) i = ((D (i 0).val ((i 1).val / 64) ((i 1).val % 64) : ℝ) : EReal))

/-- What region 1 reads, at its entry. -/
theorem entry_q (i : S16384x512.Idx) : V3 m ρ c main_v3 i = V1 m ρ c main_v3 i :=
  congrFun ((W3_of m ρ c main_v3 (by decide)).trans (W2_of m ρ c main_v3 (by decide +kernel))) i
theorem entry_kv (i : S2x16384x128.Idx) : V3 m ρ c main_v6 i = V1 m ρ c main_v6 i :=
  congrFun ((W3_of m ρ c main_v6 (by decide)).trans (W2_of m ρ c main_v6 (by decide +kernel))) i

include h0 h1 h2 h3

theorem grad_q (i : S16384x512.Idx) :
    W4 m ρ c (Proc.devRef .tc main_v13_0) i = ((Bwd.dqr Q K V D (i 0).val ((i 1).val / 64) ((i 1).val % 64) : ℝ) : EReal) :=
  (congrFun (W4_arr m ρ c 5) i).trans (Bwd.final_q (V3 m ρ) c (fun j => (entry_q m ρ c j).trans (read_q m ρ c h0 j))
    (fun j => (congrFun (W3_args m ρ c main_arg3 (by decide)) j).trans (h3 j))
    (fun j => (entry_kv m ρ c j).trans (read_kv m ρ c h1 h2 j)) (read_l m ρ c h0 h1 h2) (read_dl m ρ c h0 h1 h2 h3) i)

theorem grad_kv (i : S2x128x16384.Idx) :
    W4 m ρ c (Proc.devRef .tc main_v13_1) i = ((Bwd.dkvf Q K V D (i 0).val (i 2).val (i 1).val : ℝ) : EReal) :=
  (congrFun (W4_arr m ρ c 6) i).trans (Bwd.final_kv (V3 m ρ) c (fun j => (entry_q m ρ c j).trans (read_q m ρ c h0 j))
    (fun j => (congrFun (W3_args m ρ c main_arg3 (by decide)) j).trans (h3 j))
    (fun j => (entry_kv m ρ c j).trans (read_kv m ρ c h1 h2 j)) (read_l m ρ c h0 h1 h2) (read_dl m ρ c h0 h1 h2 h3) i)

theorem result_q (i : S16384x8x64.Idx) :
    W5 m ρ c (Proc.devRef .tc main_v17) i = ((dQ Q K V D (i 0).val (i 1).val (i 2).val : ℝ) : EReal) := by
  have e : W5 m ρ c (Proc.devRef .tc main_v17) = scaled (W4 m ρ c (Proc.devRef .tc main_v13_0)) := by
    unfold_abbrev_sides
    after_results
    rfl
  rw [e]
  exact scaled_apply _ (grad_q m ρ c h0 h1 h2 h3) i

theorem result_k (i : S16384x2x64.Idx) :
    W5 m ρ c (Proc.devRef .tc main_v18) i = ((dK Q K V D (i 0).val (i 1).val (i 2).val : ℝ) : EReal) := by
  have e : W5 m ρ c (Proc.devRef .tc main_v18) = half0 (W4 m ρ c (Proc.devRef .tc main_v13_1)) := by
    unfold_abbrev_sides
    after_results
    rfl
  rw [e]
  exact half0_apply _ (grad_kv m ρ c h0 h1 h2 h3) i

theorem result_v (i : S16384x2x64.Idx) :
    W5 m ρ c (Proc.devRef .tc main_v19) i = ((dV Q K D (i 0).val (i 1).val (i 2).val : ℝ) : EReal) := by
  have e : W5 m ρ c (Proc.devRef .tc main_v19) = half1 (W4 m ρ c (Proc.devRef .tc main_v13_1)) := by
    unfold_abbrev_sides
    after_results
    rfl
  rw [e]
  exact half1_apply _ (grad_kv m ρ c h0 h1 h2 h3) i

omit h3 in
theorem result_y (i : S16384x512.Idx) :
    W5 m ρ c (Proc.devRef .tc main_v7_0) i = ((Y Q K V (i 0).val ((i 1).val / 64) ((i 1).val % 64) : ℝ) : EReal) :=
  (congrFun ((W5_of m ρ c main_v7_0 (by decide)).trans ((W4_of m ρ c main_v7_0 (by decide +kernel)).trans
    (W3_of m ρ c main_v7_0 (by decide)))) i).trans (read_y m ρ c h0 h1 h2 i)
end

end Cert.AttnA.Host
-- ==== Proof.AttnClaim.lean ====
/- The attention pair's claims: the two programs end with the same four arrays. -/
module

public import proofs.«01_k».proof.Defs
public import proofs.«01_k».proof.Proof.AttnRun
public import proofs.«01_k».proof.Proof.AttnRef
public import proofs.«01_k».proof.Proof.AttnHost
public import proofs.«01_k».proof.Proof.Gen.Reference2Ideal.Run

@[expose] public section

set_option maxRecDepth 16384

noncomputable section

namespace Cert.AttnA.Claim

open Idealize.ShloMosaic Idealize.ShloMosaic.TcCoe Idealize.SL.Sem

section
open Cert.Pre_finite2

instance : Subsingleton S_.Idx := ⟨fun a b => funext fun k => k.elim0⟩

/-- What the precondition says: every element of every argument is a real. -/
theorem reals (x0 : FVec Ideal S16384x8x64 .f32) (x1 x2 : FVec Ideal S16384x2x64 .f32) (x3 : FVec Ideal S16384x512 .f32)
    [Cert.Pre_finite2.Facts]
    (h : Cert.Pre_finite2.fn (F := Ideal) x0 x1 x2 x3 (Shape.Idx.first Facts.h_S_) = 1#1) :
    (∀ i, (((x0 i : EReal).toReal : ℝ) : EReal) = x0 i) ∧ (∀ i, (((x1 i : EReal).toReal : ℝ) : EReal) = x1 i)
      ∧ (∀ i, (((x2 i : EReal).toReal : ℝ) : EReal) = x2 i) ∧ (∀ i, (((x3 i : EReal).toReal : ℝ) : EReal) = x3 i) := by
  unfold Cert.Pre_finite2.fn Cert.Pre_finite2.fn_part1 at h
  dsimp only at h
  obtain ⟨h, h3⟩ := FiniteArgs.and_split _ _ _ h
  obtain ⟨h, h2⟩ := FiniteArgs.and_split _ _ _ h
  obtain ⟨h0, h1⟩ := FiniteArgs.and_split _ _ _ h
  exact ⟨FiniteArgs.real_of_all x0 _ (fun _ => FiniteArgs.ofBits_inf) _ _ _ _ h0,
    FiniteArgs.real_of_all x1 _ (fun _ => FiniteArgs.ofBits_inf) _ _ _ _ h1,
    FiniteArgs.real_of_all x2 _ (fun _ => FiniteArgs.ofBits_inf) _ _ _ _ h2,
    FiniteArgs.real_of_all x3 _ (fun _ => FiniteArgs.ofBits_inf) _ _ _ _ h3⟩

/-- The cotangent's row of 512 as eight rows of 64. -/
def heads (x : S16384x512.Idx → EReal) (t h d : ℕ) : ℝ := FiniteArgs.nat2 x t (h * 64 + d)

theorem heads_eq (x : S16384x512.Idx → EReal) (hx : ∀ i, (((x i).toReal : ℝ) : EReal) = x i) (i : S16384x512.Idx) :
    x i = ((heads x (i 0).val ((i 1).val / 64) ((i 1).val % 64) : ℝ) : EReal) := by
  rw [FiniteArgs.nat2_eq x hx i]
  unfold heads
  rw [show (i 1).val / 64 * 64 + (i 1).val % 64 = (i 1).val from by omega]
end

theorem frame_reference : Cert.quiescent_Reference2Ideal := by
  intro m g _
  exact (θ_run Cert.Reference2Ideal.defs _ _).mono
    (fun r h => ⟨fun c => (h c).2.2.2.2, sem_eq_zero_of_no_sems (by decide) r.2⟩) (Cert.Reference2Ideal.Value.run m g)

theorem frame_reference_pre [Cert.Pre_finite2.Facts] : Cert.quiescent_Reference2Ideal_pre_finite2 := by
  intro m g _
  exact frame_reference m g trivial

theorem algebraic [hp : Cert.Pre_finite2.Facts] : Cert.algebraic_Kernel2Ideal_Reference2Ideal_pre_finite2 := by
  intro m g m' g' hpre hargs
  have key : ∀ c : Dev Cert.Kernel2Ideal.nD,
      Cert.Kernel2Ideal.Gen.W5 m g c (Proc.devRef .tc Cert.Kernel2Ideal.main_v7_0)
        = Cert.Reference2Ideal.Read.val_main_v35 (F := Ideal) (m' ((c.tc : Thread _ Cert.Reference2Ideal.τ).loc Cert.Reference2Ideal.main_arg0))
            (m' ((c.tc : Thread _ Cert.Reference2Ideal.τ).loc Cert.Reference2Ideal.main_arg1)) (m' ((c.tc : Thread _ Cert.Reference2Ideal.τ).loc Cert.Reference2Ideal.main_arg2))
      ∧ Cert.Kernel2Ideal.Gen.W5 m g c (Proc.devRef .tc Cert.Kernel2Ideal.main_v17)
        = Cert.Reference2Ideal.Read.val_main_v60 (F := Ideal) (m' ((c.tc : Thread _ Cert.Reference2Ideal.τ).loc Cert.Reference2Ideal.main_arg0))
            (m' ((c.tc : Thread _ Cert.Reference2Ideal.τ).loc Cert.Reference2Ideal.main_arg1)) (m' ((c.tc : Thread _ Cert.Reference2Ideal.τ).loc Cert.Reference2Ideal.main_arg2))
            (m' ((c.tc : Thread _ Cert.Reference2Ideal.τ).loc Cert.Reference2Ideal.main_arg3))
      ∧ Cert.Kernel2Ideal.Gen.W5 m g c (Proc.devRef .tc Cert.Kernel2Ideal.main_v18)
        = Cert.Reference2Ideal.Read.val_main_v59 (F := Ideal) (m' ((c.tc : Thread _ Cert.Reference2Ideal.τ).loc Cert.Reference2Ideal.main_arg0))
            (m' ((c.tc : Thread _ Cert.Reference2Ideal.τ).loc Cert.Reference2Ideal.main_arg1)) (m' ((c.tc : Thread _ Cert.Reference2Ideal.τ).loc Cert.Reference2Ideal.main_arg2))
            (m' ((c.tc : Thread _ Cert.Reference2Ideal.τ).loc Cert.Reference2Ideal.main_arg3))
      ∧ Cert.Kernel2Ideal.Gen.W5 m g c (Proc.devRef .tc Cert.Kernel2Ideal.main_v19)
        = Cert.Reference2Ideal.Read.val_main_v40 (F := Ideal) (m' ((c.tc : Thread _ Cert.Reference2Ideal.τ).loc Cert.Reference2Ideal.main_arg0))
            (m' ((c.tc : Thread _ Cert.Reference2Ideal.τ).loc Cert.Reference2Ideal.main_arg1)) (m' ((c.tc : Thread _ Cert.Reference2Ideal.τ).loc Cert.Reference2Ideal.main_arg3)) := by
    intro c
    obtain ⟨r0, r1, r2, r3⟩ := reals _ _ _ _ (congrFun (hpre c) _)
    obtain ⟨a0, a1, a2, a3⟩ := hargs c
    have h0 := FiniteArgs.nat3_eq _ r0
    have h1 := FiniteArgs.nat3_eq _ r1
    have h2 := FiniteArgs.nat3_eq _ r2
    have h3 := heads_eq _ r3
    rw [a0, a1, a2, a3]
    exact ⟨funext fun i => (Host.result_y m g c h0 h1 h2 i).trans (Ref.v35 _ _ _ h0 h1 h2 i).symm,
      funext fun i => (Host.result_q m g c h0 h1 h2 h3 i).trans (Ref.v60 _ _ _ _ h0 h1 h2 h3 i).symm,
      funext fun i => (Host.result_k m g c h0 h1 h2 h3 i).trans (Ref.v59 _ _ _ _ h0 h1 h2 h3 i).symm,
      funext fun i => (Host.result_v m g c h0 h1 h2 h3 i).trans (Ref.v40 _ _ _ h0 h1 h3 i).symm⟩
  exact ⟨_, _, _, _, AttnA.run m g,
    (θ_run Cert.Reference2Ideal.defs _ _).mono (fun r h c => ⟨((h c).1.trans (Cert.Reference2Ideal.Read.val_main_v35_eq _ _ _)).trans (key c).1.symm,
      ((h c).2.1.trans (Cert.Reference2Ideal.Read.val_main_v60_eq m' c)).trans (key c).2.1.symm,
      ((h c).2.2.1.trans (Cert.Reference2Ideal.Read.val_main_v59_eq m' c)).trans (key c).2.2.1.symm,
      ((h c).2.2.2.1.trans (Cert.Reference2Ideal.Read.val_main_v40_eq _ _ _)).trans (key c).2.2.2.symm, (h c).2.2.2.2⟩) (Cert.Reference2Ideal.Value.run m' g')⟩

end Cert.AttnA.Claim
-- ==== Proof.Rms.lean ====
/- Row normalisation by the root mean square over the reals: its factor, its output, and its gradient, as the
   kernels write it and as the chain rule through the mean gives it. -/
module

public import proofs.«01_k».proof.Proof.AttnSpec
public import Idealize.ShloMosaic.Lib.Pointwise

@[expose] public section

noncomputable section

namespace Cert.Rms

open Idealize.ShloMosaic Finset

/-- The number the mean square is raised by. -/
def eps : ℝ := 8796093 / 2 ^ 43

theorem ofBits_eps : Ideal.ofBits .f32 0x358637BD#32 = ((eps : ℝ) : EReal) := by
  unfold eps
  simp [Ideal.ofBits, Ideal.ieee, -EReal.coe_mul]; norm_num

theorem eps_pos : 0 < eps := by unfold eps; norm_num

theorem ofBits_1024 : Ideal.ofBits .f32 0x44800000#32 = ((1024 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

variable (n : ℕ) (X G : ℕ → ℕ → ℝ)

/-- The raised mean square of a row. -/
def ms (t : ℕ) : ℝ := (∑ k ∈ range n, X t k * X t k) / (n : ℝ) + eps
/-- The factor a row is multiplied by. -/
def rs (t : ℕ) : ℝ := (Real.sqrt (ms n X t))⁻¹
/-- The gradient with respect to a row, from the gradient `G` of the normalised row. -/
def bwd (t d : ℕ) : ℝ := rs n X t * (G t d - X t d * rs n X t * ((∑ k ∈ range n, G t k * (X t k * rs n X t)) / (n : ℝ)))

theorem ms_pos (t : ℕ) : 0 < ms n X t :=
  add_pos_of_nonneg_of_pos (div_nonneg (sum_nonneg fun _ _ => mul_self_nonneg _) (Nat.cast_nonneg _)) eps_pos

theorem rsqrt_ms (t : ℕ) : Ideal.rsqrt ((ms n X t : ℝ) : EReal) = ((rs n X t : ℝ) : EReal) := by
  rw [Ideal.rsqrt_coe, if_neg (not_lt.mpr (ms_pos n X t).le), if_neg (ms_pos n X t).ne']
  rfl

theorem rs_sq (t : ℕ) : rs n X t * rs n X t = 1 / ms n X t := by
  unfold rs
  rw [← mul_inv, Real.mul_self_sqrt (ms_pos n X t).le, one_div]

/-- The chain rule through the mean square: the direct term, and twice the row times the mean's share. -/
def chain (t d : ℕ) : ℝ :=
  G t d * rs n X t + X t d * ((∑ k ∈ range n, X t k * G t k) * (-(1 / 2) * (rs n X t * (1 / ms n X t))) * (1 / (n : ℝ)))
    + (∑ k ∈ range n, X t k * G t k) * (-(1 / 2) * (rs n X t * (1 / ms n X t))) * (1 / (n : ℝ)) * X t d

theorem chain_eq (t d : ℕ) : chain n X G t d = bwd n X G t d := by
  unfold chain bwd
  rw [← rs_sq, show (∑ k ∈ range n, G t k * (X t k * rs n X t)) = (∑ k ∈ range n, X t k * G t k) * rs n X t from by
    rw [sum_mul]; exact sum_congr rfl fun k _ => by ring]
  ring

/-! ## The same as the programs write them, over the reals with their infinities -/

section
variable {n X G}
variable {t d : ℕ} {N : EReal}

theorem ms_val (hn : n ≠ 0) (hN : N = ((n : ℝ) : EReal)) {x : Fin n → EReal} (h : ∀ k, x k = ((X t k.val : ℝ) : EReal)) :
    Ideal.div (∑ k, x k * x k) N + Ideal.ofBits .f32 0x358637BD#32 = ((ms n X t : ℝ) : EReal) := by
  rw [AttnA.sum_fin (fun k => X t k * X t k) fun k => by rw [h, ← EReal.coe_mul], hN,
    Ideal.div_coe (Nat.cast_ne_zero.mpr hn), ofBits_eps, ← EReal.coe_mul, mul_one_div, ← EReal.coe_add]
  rfl

theorem rs_val (hn : n ≠ 0) (hN : N = ((n : ℝ) : EReal)) {x : Fin n → EReal} (h : ∀ k, x k = ((X t k.val : ℝ) : EReal)) :
    Ideal.rsqrt (Ideal.div (∑ k, x k * x k) N + Ideal.ofBits .f32 0x358637BD#32) = ((rs n X t : ℝ) : EReal) := by
  rw [ms_val hn hN h, rsqrt_ms]

/-- The kernels' form of the gradient. -/
theorem bwd_val (hn : n ≠ 0) (hN : N = ((n : ℝ) : EReal)) {r a xh : EReal} {p : Fin n → EReal} (hr : r = ((rs n X t : ℝ) : EReal))
    (ha : a = ((G t d : ℝ) : EReal)) (hx : xh = ((X t d * rs n X t : ℝ) : EReal))
    (hp : ∀ k, p k = ((G t k.val * (X t k.val * rs n X t) : ℝ) : EReal)) :
    r * (a - xh * Ideal.div (∑ k, p k) N) = ((bwd n X G t d : ℝ) : EReal) := by
  rw [hr, ha, hx, AttnA.sum_fin (fun k => G t k * (X t k * rs n X t)) hp, hN, Ideal.div_coe (Nat.cast_ne_zero.mpr hn),
    ← EReal.coe_mul, ← EReal.coe_mul, ← EReal.coe_sub, ← EReal.coe_mul, mul_one_div]
  rfl

/-- The chain rule's form of the gradient. -/
theorem chain_val {a r x s : EReal} (ha : a = ((G t d : ℝ) : EReal)) (hr : r = ((rs n X t : ℝ) : EReal))
    (hx : x = ((X t d : ℝ) : EReal))
    (hs : s = (((∑ k ∈ range n, X t k * G t k) * (-(1 / 2) * (rs n X t * (1 / ms n X t))) * (1 / (n : ℝ)) : ℝ) : EReal)) :
    a * r + x * s + s * x = ((bwd n X G t d : ℝ) : EReal) := by
  rw [ha, hr, hx, hs, ← EReal.coe_mul, ← EReal.coe_mul, ← EReal.coe_mul, ← EReal.coe_add, ← EReal.coe_add, ← chain_eq]
  rfl

theorem chain_add {h a r x s : EReal} {H : ℝ} (hh : h = ((H : ℝ) : EReal)) (ha : a = ((G t d : ℝ) : EReal)) (hr : r = ((rs n X t : ℝ) : EReal))
    (hx : x = ((X t d : ℝ) : EReal))
    (hs : s = (((∑ k ∈ range n, X t k * G t k) * (-(1 / 2) * (rs n X t * (1 / ms n X t))) * (1 / (n : ℝ)) : ℝ) : EReal)) :
    h + a * r + x * s + s * x = ((H + bwd n X G t d : ℝ) : EReal) := by
  rw [hh, ha, hr, hx, hs, ← EReal.coe_mul, ← EReal.coe_mul, ← EReal.coe_mul, ← EReal.coe_add, ← EReal.coe_add, ← EReal.coe_add, ← chain_eq]
  congr 1
  unfold chain
  ring

/-- The mean's share in the chain rule. -/
theorem share_val (hn : n ≠ 0) (hN : N = ((n : ℝ) : EReal)) {p : Fin n → EReal} {r q h : EReal}
    (hp : ∀ k, p k = ((X t k.val * G t k.val : ℝ) : EReal)) (hr : r = ((rs n X t : ℝ) : EReal)) (hq : q = ((ms n X t : ℝ) : EReal))
    (hh : h = ((-(1 / 2) : ℝ) : EReal)) :
    Ideal.div ((∑ k, p k) * (h * Ideal.div r q)) N
      = (((∑ k ∈ range n, X t k * G t k) * (-(1 / 2) * (rs n X t * (1 / ms n X t))) * (1 / (n : ℝ)) : ℝ) : EReal) := by
  rw [AttnA.sum_fin (fun k => X t k * G t k) hp, hr, hq, hh, hN, Ideal.div_coe (ms_pos n X t).ne',
    Ideal.div_coe (Nat.cast_ne_zero.mpr hn), ← EReal.coe_mul, ← EReal.coe_mul, ← EReal.coe_mul, ← EReal.coe_mul]
end

end Cert.Rms
-- ==== Proof.Bucket.lean ====
/- The relative position's bucket: a number below 32, so no place is dropped and none wraps. And the reference's
   gradient: each bucket's entry is the sum of the cotangent over the places in that bucket. -/
module

public import proofs.«01_k».proof.Proof.Rms
public import proofs.«01_k».proof.Proof.Gen.Reference7Ideal.Read
public import Idealize.ShloMosaic.Lib.Pipeline.ValueKit
public import Idealize.ShloMosaic.Lib.Pointwise
public import Idealize.ShloMosaic.Lib.Tactic.WordOmega
public import Idealize.ShloMosaic.Lib.Routing.OpsPair
public import Idealize.ShloMosaic.Lib.KernelVsHost

@[expose] public section

set_option maxRecDepth 16384

noncomputable section

namespace Cert.Bias

open Cert.Reference7Ideal Cert.Reference7Ideal.Gen Cert.Reference7Ideal.Read
open Idealize.ShloMosaic Idealize.ShloMosaic.TcCoe Idealize.SL.Sem Finset

/-- The distance of a key and a query, sixteen rows a step. -/
def dist (a b : ℕ) : BitVec 32 := IntOp.absi (IntOp.muli (IntOp.subi (IntOp.subi (BitVec.ofNat 32 b) 64#32) (BitVec.ofNat 32 a)) 16#32)

theorem dist_le : ∀ a : Fin 128, ∀ b : Fin 256, (dist a.val b.val).toNat ≤ 4096 := by
  decide +kernel

theorem dist_eq (i : S128x256.Idx) : val_main_v15 (F := Ideal) i = dist (i 0).val (i 1).val := rfl

theorem near_max (n : BitVec 32) (hn : n.toNat ≤ 4096) :
    8 ≤ (IntOp.maxsi n 8#32).toInt ∧ (IntOp.maxsi n 8#32).toInt ≤ 4096 := by
  have e : n.toInt = n.toNat := BitVec.toInt_eq_toNat_of_lt (by omega)
  unfold IntOp.maxsi
  split_ifs with h
  · simp only [BitVec.slt, BitVec.sle, decide_eq_true_eq, e] at h
    rw [e]
    have : (8#32 : BitVec 32).toInt = 8 := rfl
    omega
  · decide

theorem ofBits_step : Ideal.ofBits .f32 0x409B43D5#32 = ((10175445 / 2097152 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

/-- A real between 0 and 2²⁰ has a whole part in the same range. -/
theorem whole_le (r : ℝ) (h0 : 0 ≤ r) (h1 : r ≤ 2 ^ 20) : (Ideal.fptosi 32 ((r : ℝ) : EReal)).toNat ≤ 2 ^ 20 := by
  have f0 : 0 ≤ ⌊r⌋ := Int.floor_nonneg.2 h0
  have f1 : ⌊r⌋ ≤ 2 ^ 20 := by
    have : (⌊r⌋ : ℝ) ≤ (2 ^ 20 : ℤ) := (Int.floor_le r).trans (by norm_num; linarith)
    exact_mod_cast this
  unfold Ideal.fptosi
  rw [Ideal.toIntClamped_coe, if_pos h0]
  have e : max (-((2 ^ (32 - 1) : ℕ) : ℤ)) (min (((2 ^ (32 - 1) : ℕ) : ℤ) - 1) ⌊r⌋) = ⌊r⌋ := by
    norm_num; omega
  rw [e, BitVec.toNat_ofInt]
  norm_num
  omega

/-- The logarithm's whole part is a small number. -/
theorem large_le (i : S128x256.Idx) : (val_main_v26 (F := Ideal) i : BitVec 32).toNat ≤ 2 ^ 20 := by
  have hd : (dist (i 0).val (i 1).val).toNat ≤ 4096 := dist_le (i 0) (i 1)
  obtain ⟨m0, m1⟩ := near_max _ hd
  have hx : val_main_v18 (F := Ideal) i = (((IntOp.maxsi (dist (i 0).val (i 1).val) 8#32).toInt : ℝ) : EReal) := rfl
  generalize (IntOp.maxsi (dist (i 0).val (i 1).val) 8#32).toInt = X at *
  have k0 : (8 : ℝ) ≤ X := by exact_mod_cast m0
  have k1 : (X : ℝ) ≤ 4096 := by exact_mod_cast m1
  have e : val_main_v25 (F := Ideal) i = ((Real.log ((X : ℝ) * (1 / 8)) * (1 / (10175445 / 2097152)) * 8 : ℝ) : EReal) := by
    show Ideal.div (Ideal.log (Ideal.div (val_main_v18 (F := Ideal) i) (Ideal.ofBits .f32 0x41000000#32))) (Ideal.ofBits .f32 0x409B43D5#32)
      * Ideal.ofBits .f32 0x41000000#32 = _
    rw [hx, ofBits_eight, ofBits_step, Ideal.div_coe (y := 8) (by norm_num), ← EReal.coe_mul, Ideal.log_coe, if_neg (by linarith),
      Ideal.div_coe (by norm_num), ← EReal.coe_mul, ← EReal.coe_mul]
  show (Ideal.fptosi 32 (val_main_v25 (F := Ideal) i)).toNat ≤ _
  rw [e]
  have g0 : 0 ≤ Real.log ((X : ℝ) * (1 / 8)) := Real.log_nonneg (by linarith)
  have g1 : Real.log ((X : ℝ) * (1 / 8)) ≤ (X : ℝ) * (1 / 8) - 1 := Real.log_le_sub_one_of_pos (by linarith)
  refine whole_le _ (by positivity) ?_
  norm_num at g0 g1 ⊢
  nlinarith

/-- The part of the bucket that the distance gives. -/
theorem near_le (n w : BitVec 32) (hn : n.toNat ≤ 4096) (hw : w.toNat ≤ 2 ^ 20) :
    (Scalar.select (IntOp.cmpi .slt n 8#32) n (IntOp.minsi (IntOp.addi 8#32 w) 15#32)).toNat ≤ 15 := by
  have e : (IntOp.addi 8#32 w).toNat = 8 + w.toNat := by
    show (8#32 + w).toNat = _
    rw [BitVec.toNat_add]
    show (8 + w.toNat) % 2 ^ 32 = _
    omega
  generalize IntOp.addi 8#32 w = v at *
  have ev : v.toInt = v.toNat := BitVec.toInt_eq_toNat_of_lt (by omega)
  have en : n.toInt = n.toNat := BitVec.toInt_eq_toNat_of_lt (by omega)
  have e8 : (8#32 : BitVec 32).toInt = 8 := rfl
  have e15 : (15#32 : BitVec 32).toInt = 15 := rfl
  have hm : (IntOp.minsi v 15#32).toNat ≤ 15 := by
    unfold IntOp.minsi
    split_ifs with h
    · simp only [BitVec.slt, BitVec.sle, decide_eq_true_eq, ev, e15] at h
      omega
    · decide
  generalize IntOp.minsi v 15#32 = u at *
  clear ev en e8 e15 e
  word_omega

theorem bucket_le (i : S128x256.Idx) : (val_main_v35 (F := Ideal) i : BitVec 32).toNat ≤ 31 := by
  have h1 : (val_main_v33 (F := Ideal) i : BitVec 32).toNat ≤ 15 := by
    have hd : (dist (i 0).val (i 1).val).toNat ≤ 4096 := dist_le (i 0) (i 1)
    exact near_le _ _ hd (large_le i)
  have h2 : (val_main_v34 (F := Ideal) i : BitVec 32).toNat ≤ 16 := by
    show (Scalar.select (val_main_v13 (F := Ideal) i) 16#32 0#32 : BitVec 32).toNat ≤ 16
    unfold Scalar.select
    split_ifs <;> decide
  rw [val_main_v35_apply]
  generalize (val_main_v33 (F := Ideal) i : BitVec 32) = x at *
  generalize (val_main_v34 (F := Ideal) i : BitVec 32) = y at *
  word_omega

/-- The bucket of a key place and a query place, by number. -/
def bucket (a b : ℕ) : ℕ := if h : a < 128 ∧ b < 256 then (val_main_v35 (F := Ideal) (ix2 ⟨a, h.1⟩ ⟨b, h.2⟩) : BitVec 32).toNat else 0

theorem bucket_eq (i : S128x256.Idx) : (val_main_v35 (F := Ideal) i : BitVec 32).toNat = bucket (i 0).val (i 1).val := by
  have h : (i 0).val < 128 ∧ (i 1).val < 256 := ⟨(i 0).isLt, (i 1).isLt⟩
  rw [bucket, dif_pos h]; congr 2; funext k; fin_cases k <;> rfl

theorem bucket_lt (a b : ℕ) : bucket a b ≤ 31 := by
  unfold bucket
  split_ifs
  · exact bucket_le _
  · omega

/-- The cotangent of a head at two places, by number. -/
def cot (x : S8x128x256.Idx → EReal) (h a b : ℕ) : EReal :=
  if k : h < 8 ∧ a < 128 ∧ b < 256 then x (ix3 ⟨h, k.1⟩ ⟨a, k.2.1⟩ ⟨b, k.2.2⟩) else 0

theorem cot_eq (x : S8x128x256.Idx → EReal) (i : S8x128x256.Idx) : x i = cot x (i 0).val (i 1).val (i 2).val := by
  have h : (i 0).val < 8 ∧ (i 1).val < 128 ∧ (i 2).val < 256 := ⟨(i 0).isLt, (i 1).isLt, (i 2).isLt⟩
  rw [cot, dif_pos h]; congr 1; funext k; fin_cases k <;> rfl

/-- The places' words as the scatter reads them: the bucket, since none is negative. -/
theorem word_eq (i : S128x256x1.Idx) : (val_main_v41 (F := Ideal) i : BitVec 32).toInt = (bucket (i 0).val (i 1).val : ℤ) := by
  have e := bucket_eq (idx_main_v41 i)
  have l := bucket_le (idx_main_v41 i)
  rw [val_main_v41_apply, val_main_v40_apply, val_main_v37_apply, val_main_v36_apply, val_main_c_11_apply, val_main_v39_apply,
    val_main_v38_apply, val_main_c_12_apply]
  rw [show bucket (i 0).val (i 1).val = _ from e.symm]
  generalize (val_main_v35 (F := Ideal) (idx_main_v41 i) : BitVec 32) = w at *
  clear e
  have : (Scalar.select (IntOp.cmpi .slt w 0#32) (IntOp.addi w 32#32) w) = w := by word_omega
  rw [this]
  exact BitVec.toInt_eq_toNat_of_lt (by omega)

/-- Where a place of the cotangent lands. -/
theorem lands (idx : IVec S128x256x1 32) (j : S128x256x8.Idx) (r : Fin 32) (h : Fin 8) :
    scatter_S32x8_S128x256x1_S128x256x8_2_0_0_2.resultIdx? j idx = some (ix2 r h)
      ↔ (idx (ix3 (j 0) (j 1) (0 : Fin 1))).toInt = (r.val : ℤ) ∧ (j 2).val = h.val := by
  have w0 : scatter_S32x8_S128x256x1_S128x256x8_2_0_0_2.window j 0 = 0 := by
    unfold ScatterDims.window
    rw [dif_neg (by decide)]
  have w1 : scatter_S32x8_S128x256x1_S128x256x8_2_0_0_2.window j 1 = (j 2).val := by
    unfold ScatterDims.window
    rw [dif_pos (by decide)]
    rfl
  have s1 : scatter_S32x8_S128x256x1_S128x256x8_2_0_0_2.start j idx 1 = 0 := by
    unfold ScatterDims.start
    rw [dif_neg (by decide)]
  have s0 : scatter_S32x8_S128x256x1_S128x256x8_2_0_0_2.start j idx 0 = (idx (ix3 (j 0) (j 1) (0 : Fin 1))).toInt := by
    unfold ScatterDims.start
    rw [dif_pos (by decide)]
    congr 2
    funext b
    fin_cases b <;> rfl
  have := Routing.resultIdx?_eq_some scatter_S32x8_S128x256x1_S128x256x8_2_0_0_2 j idx (ix2 r h)
  rw [this]
  constructor
  · intro H
    have h0 := H 0
    have h1 := H 1
    rw [s0, w0] at h0
    rw [s1, w1] at h1
    simp at h0 h1
    exact ⟨h0, by exact_mod_cast h1⟩
  · rintro ⟨h0, h1⟩ a
    fin_cases a
    · show scatter_S32x8_S128x256x1_S128x256x8_2_0_0_2.start j idx 0 + _ = _
      rw [s0]; exact (congrArg _ (congrArg _ w0)).trans (by rw [h0]; simp)
    · show scatter_S32x8_S128x256x1_S128x256x8_2_0_0_2.start j idx 1 + _ = _
      rw [s1]; exact (congrArg _ (congrArg _ w1)).trans (by rw [h1]; simp)

/-- A bucket's entry: the cotangent summed over the places in it. -/
def entry (x : S8x128x256.Idx → EReal) (h l : ℕ) : EReal :=
  ∑ s ∈ range 32768, if bucket (s / 256) (s % 256) = l then cot x h (s / 256) (s % 256) else 0

theorem scatter_val (x : S8x128x256.Idx → EReal) (r : Fin 32) (h : Fin 8) :
    val_main_v46 (F := Ideal) x (ix2 r h) = entry x h.val r.val := by
  have z : val_main_v45 (F := Ideal) (ix2 r h) = (0 : EReal) := by
    rw [val_main_v45_apply, val_main_cst_13_apply]
    exact Ideal.ofBits_zero_f32
  show val_main_v45 (F := Ideal) (ix2 r h) + (∑ j ∈ Finset.univ.filter (fun j =>
    scatter_S32x8_S128x256x1_S128x256x8_2_0_0_2.resultIdx? j (val_main_v41 (F := Ideal)) = some (ix2 r h)), val_main_v44 (F := Ideal) x j : EReal) = _
  rw [z, zero_add, entry, ← Finset.sum_filter]
  refine Finset.sum_bij' (fun j _ => (j 0).val * 256 + (j 1).val)
    (fun s _ => ix3 (⟨s / 256 % 128, Nat.mod_lt _ (by decide)⟩ : Fin 128) (⟨s % 256, Nat.mod_lt _ (by decide)⟩ : Fin 256) h) ?_ ?_ ?_ ?_ ?_
  · intro j hj
    have hj := (lands _ _ _ _).1 (Finset.mem_filter.1 hj).2
    have a0 : (j 0).val < 128 := (j 0).isLt
    have a1 : (j 1).val < 256 := (j 1).isLt
    have hw := word_eq (ix3 (j 0) (j 1) (0 : Fin 1))
    rw [hj.1] at hw
    refine Finset.mem_filter.2 ⟨Finset.mem_range.2 (by omega), ?_⟩
    rw [show ((j 0).val * 256 + (j 1).val) / 256 = (j 0).val by omega, show ((j 0).val * 256 + (j 1).val) % 256 = (j 1).val by omega]
    exact_mod_cast hw.symm
  · intro s hs
    obtain ⟨hs, hb⟩ := Finset.mem_filter.1 hs
    have hs := Finset.mem_range.1 hs
    refine Finset.mem_filter.2 ⟨Finset.mem_univ _, (lands _ _ _ _).2 ⟨?_, rfl⟩⟩
    rw [word_eq]
    show ((bucket (s / 256 % 128) (s % 256) : ℕ) : ℤ) = _
    rw [Nat.mod_eq_of_lt (show s / 256 < 128 by omega), hb]
  · intro j hj
    have hj := (lands _ _ _ _).1 (Finset.mem_filter.1 hj).2
    have a0 : (j 0).val < 128 := (j 0).isLt
    have a1 : (j 1).val < 256 := (j 1).isLt
    funext k
    apply Fin.ext
    fin_cases k
    · show ((j 0).val * 256 + (j 1).val) / 256 % 128 = (j 0).val; omega
    · show ((j 0).val * 256 + (j 1).val) % 256 = (j 1).val; omega
    · exact hj.2.symm
  · intro s hs
    have hs := Finset.mem_range.1 (Finset.mem_filter.1 hs).1
    show s / 256 % 128 * 256 + s % 256 = s
    omega
  · intro j hj
    have hj := (lands _ _ _ _).1 (Finset.mem_filter.1 hj).2
    have a0 : (j 0).val < 128 := (j 0).isLt
    have a1 : (j 1).val < 256 := (j 1).isLt
    rw [val_main_v44_apply, cot_eq x]
    dsimp only
    rw [show ((j 0).val * 256 + (j 1).val) / 256 = (j 0).val by omega, show ((j 0).val * 256 + (j 1).val) % 256 = (j 1).val by omega]
    exact congrArg (fun t => cot x t (j 0).val (j 1).val) hj.2

/-- The reference: what was there, plus the buckets' entries in the table's corner. -/
theorem ref_val (x0 : S16x128.Idx → EReal) (x1 : S8x128x256.Idx → EReal) (i : S16x128.Idx) :
    val_main_v49 (F := Ideal) x0 x1 i = x0 i + (if (i 0).val < 8 ∧ (i 1).val < 32 then entry x1 (i 0).val (i 1).val else 0 : EReal) := by
  rw [val_main_v49_apply]
  show x0 i + _ = _
  congr 1
  unfold val_main_v48
  split_ifs with h
  · refine (pad_apply_of_inside _ _ _ _ _ _ _ i (ix2 (⟨(i 0).val, h.1⟩ : Fin 8) (⟨(i 1).val, h.2⟩ : Fin 32)) ?_).trans ?_
    · intro a; fin_cases a <;> simp <;> rfl
    · rw [val_main_v47_apply]
      exact (congrArg _ (by funext a; fin_cases a <;> rfl)).trans (scatter_val x1 ⟨(i 1).val, h.2⟩ ⟨(i 0).val, h.1⟩)
  · have z : val_main_call2_v0 (F := Ideal) (Shape.Idx.first h_S_) = (0 : EReal) := by
      show (((0#32 : BitVec 32).toInt : ℝ) : EReal) = 0
      simp
    by_cases h8 : (i 0).val < 8
    · refine (pad_apply_of_not_inside _ _ _ _ _ _ _ i (1 : Fin 2) ?_).trans z
      intro H
      have : (i 1).val / 1 < 32 := H.2.2
      exact h ⟨h8, by omega⟩
    · refine (pad_apply_of_not_inside _ _ _ _ _ _ _ i (0 : Fin 2) ?_).trans z
      intro H
      have : (i 0).val / 1 < 8 := H.2.2
      omega

end Cert.Bias

end

end
-- ==== Proof.BiasClaim.lean ====
/- The gradient of the relative position table at one dilation: the kernel's products with the one-hot rows,
   summed over eight stretches of places, are the reference's sums over the places of each bucket. -/
module

public import proofs.«01_k».proof.Defs
public import proofs.«01_k».proof.Proof.Bucket
public import proofs.«01_k».proof.Proof.FiniteArgs
public import proofs.«01_k».proof.Proof.Gen.Kernel7Ideal.Value
public import proofs.«01_k».proof.Proof.Gen.Reference7Ideal.Run
public import proofs.«01_k».proof.Proof.Gen.Pre_finite7
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem Finset
open Idealize.ShloMosaic.Pipeline (Dat)

namespace Cert.Bias

open Cert.Kernel7Ideal Cert.Kernel7Ideal.Gen Cert.Kernel7Ideal.Value

variable (m : (ℓ : Loc nD τ sig) → Buf (Elt Ideal) ℓ)

/-- The block each window stages at each grid point. -/
theorem idx : ∀ t : Fin cfg0.N, win0_0.index t = ![t.val, 0] ∧ win0_1.index t = ![0, t.val] ∧ win0_2.index t = ![0, 0] :=
  (by decide +kernel : ∀ t : Fin grid0.N, _)

/-- A row of the one-hot table. -/
def hot (s l : ℕ) : EReal := if bucket (s / 256) (s % 256) = l then 1 else 0

/-- A row of the cotangent, zero beyond the heads. -/
def row (x : S8x128x256.Idx → EReal) (h s : ℕ) : EReal := if h < 8 then cot x h (s / 256) (s % 256) else 0

/-- The one-hot table from the places' buckets. -/
def oneHot (b : IVec S128x256 32) : FVec Ideal S32768x128 .bf16 :=
  uitofp .bf16 (cmpi .eq (broadcastInDim S32768x128 ![0, 1] bcast_S32768x1_S32768x128_0_1
      (broadcastInDim S32768x1 ![0] bcast_S32768_S32768x1_0 (shapeCast S32768 b shapeCasts_S128x256_S32768)))
    (broadcastInDim S32768x128 ![0, 1] bcast_S1x128_S32768x128_0_1 (broadcastInDim S1x128 ![1] bcast_S128_S1x128_1 (iotaInDim S128 32 0))))

theorem bit (w : BitVec 32) (n : ℕ) (hn : n < 128) :
    FloatOps.uitofp (F := Ideal) FTy.bf16 (IntOp.cmpi .eq w (BitVec.ofNat 32 n)) = if w.toNat = n then (1 : EReal) else 0 := by
  have hb : (w = BitVec.ofNat 32 n) ↔ w.toNat = n := by
    constructor
    · rintro rfl; rw [BitVec.toNat_ofNat]; omega
    · intro h; apply BitVec.eq_of_toNat_eq; rw [BitVec.toNat_ofNat, h]; omega
  show ((((BitVec.ofBool (w == BitVec.ofNat 32 n)).toNat : ℝ)) : EReal) = _
  by_cases h : w = BitVec.ofNat 32 n
  · rw [if_pos (hb.1 h), h]; simp
  · rw [if_neg (fun e => h (hb.2 e)), beq_eq_false_iff_ne.2 h]; simp

theorem oneHot_apply (b : IVec S128x256 32) (hb : ∀ i : S128x256.Idx, (b i).toNat = bucket (i 0).val (i 1).val) (y : S32768x128.Idx) :
    oneHot b y = hot (y 0).val (y 1).val := by
  have y0 : (y 0).val < 32768 := (y 0).isLt
  have y1 : (y 1).val < 128 := (y 1).isLt
  unfold oneHot hot
  pointwise []
  have e := hb (ix2 (⟨(y 0).val / 256, by omega⟩ : Fin 128) (⟨(y 0).val % 256, by omega⟩ : Fin 256))
  change (b (ix2 (⟨(y 0).val / 256, by omega⟩ : Fin 128) (⟨(y 0).val % 256, by omega⟩ : Fin 256))).toNat
    = bucket ((y 0).val / 256) ((y 0).val % 256) at e
  rw [← e]
  generalize b _ = w
  exact bit w _ y1

theorem oneHot_at (b : IVec S128x256 32) (hb : ∀ i : S128x256.Idx, (b i).toNat = bucket (i 0).val (i 1).val) (y : S32768x128.Idx)
    (s l : ℕ) (hs : (y 0).val = s) (hl : (y 1).val = l) : oneHot b y = hot s l := by
  subst hs hl
  exact oneHot_apply b hb y

theorem read_hot (c : Dev nD) : V m c main_v44 = oneHot (Cert.Reference7Ideal.Read.val_main_v35 (F := Ideal)) := by
  unfold V
  after_reads_simp
  rfl

/-- The cotangent's rows as the call takes them. -/
def rows (x : FVec Ideal S8x128x256 .f32) : FVec Ideal S16x32768 .f32 :=
  pad S16x32768 ![0, 0] ![8, 0] ![0, 0] (shapeCast S8x32768 x shapeCasts_S8x128x256_S8x32768) (sitofp .f32 (constantI S_ 32 0#32))
    pads_S8x32768_S16x32768_080_000 h_S_

theorem read_rows (c : Dev nD) : V m c main_v1 = rows (m ((c : Thread nD τ).loc main_arg1)) := by
  unfold V
  after_reads_simp
  rfl

theorem rows_apply (x : FVec Ideal S8x128x256 .f32) (y : S16x32768.Idx) : rows x y = row x (y 0).val (y 1).val := by
  have y0 : (y 0).val < 16 := (y 0).isLt
  have y1 : (y 1).val < 32768 := (y 1).isLt
  unfold rows row
  split_ifs with h
  · refine (pad_apply_of_inside _ _ _ _ _ _ _ y (ix2 (⟨(y 0).val, h⟩ : Fin 8) (⟨(y 1).val, y1⟩ : Fin 32768)) ?_).trans ?_
    · intro a; fin_cases a <;> simp <;> rfl
    · pointwise []
      rw [cot_eq x]
      congr 1
  · refine (pad_apply_of_not_inside _ _ _ _ _ _ _ y (0 : Fin 2) ?_).trans ?_
    · intro H
      have : (y 0).val / 1 < 8 := H.2.2
      omega
    · show (((0#32 : BitVec 32).toInt : ℝ) : EReal) = 0
      simp

theorem rows_at (x : FVec Ideal S8x128x256 .f32) (y : S16x32768.Idx) (a b : ℕ) (ha : (y 0).val = a) (hb : (y 1).val = b) :
    rows x y = row x a b := by
  subst ha hb
  exact rows_apply x y

/-- A finite cotangent: each element is a real. -/
def Real8 (x : S8x128x256.Idx → EReal) : Prop := ∀ i, (((x i).toReal : ℝ) : EReal) = x i

theorem row_real (x : S8x128x256.Idx → EReal) (hx : Real8 x) (h s : ℕ) : ∃ r : ℝ, row x h s = (r : EReal) := by
  unfold row cot
  split_ifs with a b
  · exact ⟨_, (hx _).symm⟩
  · exact ⟨0, rfl⟩
  · exact ⟨0, rfl⟩

/-- What a grid point adds. -/
def add (x : S8x128x256.Idx → EReal) (n : ℕ) (i : S16x128.Idx) : EReal :=
  ∑ k ∈ range 4096, row x (i 0).val (n * 4096 + k) * hot (n * 4096 + k) (i 1).val

theorem block0 (c : Dev nD) (n : ℕ) (h : n < cfg0.N) (y : S4096x128.Idx) : iblk m c 0 ⟨n, h⟩ y = hot (n * 4096 + (y 0).val) (y 1).val := by
  refine (show iblk m c 0 ⟨n, h⟩ y = V m c main_v44 (((cfg0.win 0).blk ⟨n, h⟩).view.emb y) from rfl).trans ?_
  rw [read_hot]
  exact oneHot_at _ bucket_eq _ _ _ (by blk_simp [idx ⟨n, h⟩]) (by blk_simp [idx ⟨n, h⟩])

theorem block1 (c : Dev nD) (n : ℕ) (h : n < cfg0.N) (y : S16x4096.Idx) :
    iblk m c 1 ⟨n, h⟩ y = row (m ((c : Thread nD τ).loc main_arg1)) (y 0).val (n * 4096 + (y 1).val) := by
  refine (show iblk m c 1 ⟨n, h⟩ y = V m c main_v1 (((cfg0.win 1).blk ⟨n, h⟩).view.emb y) from rfl).trans ?_
  rw [read_rows]
  exact rows_at _ _ _ _ (by blk_simp [idx ⟨n, h⟩]) (by blk_simp [idx ⟨n, h⟩])

theorem block2 (c : Dev nD) (n : ℕ) (h : n < cfg0.N) (y : S16x128.Idx) :
    iblk m c 2 ⟨n, h⟩ y = m ((c : Thread nD τ).loc main_arg0) y := by
  refine (show iblk m c 2 ⟨n, h⟩ y = V m c main_arg0 (((cfg0.win 2).blk ⟨n, h⟩).view.emb y) from rfl).trans ?_
  rw [V_main_arg0]
  congr 1
  funext a
  apply Fin.ext
  fin_cases a
  · show (((cfg0.win 2).blk ⟨n, h⟩).view.emb y 0).val = (y 0).val
    blk_simp [idx ⟨n, h⟩]
  · show (((cfg0.win 2).blk ⟨n, h⟩).view.emb y 1).val = (y 1).val
    blk_simp [idx ⟨n, h⟩]

theorem pay (x : S8x128x256.Idx → EReal) (hx : Real8 x) (n : ℕ) (a : Vec Ideal S4096x128 .bf16) (b : Vec Ideal S16x4096 .f32)
    (ha : ∀ y : S4096x128.Idx, a y = hot (n * 4096 + (y 0).val) (y 1).val)
    (hb : ∀ y : S16x4096.Idx, b y = row x (y 0).val (n * 4096 + (y 1).val)) (acc : Vec Ideal S16x128 .f32) (i : S16x128.Idx) :
    k0_pay1 b acc a a i = acc i + add x n i := by
  unfold add
  pointwise [k0_pay1]
  rw [Finset.sum_range]
  refine congrArg _ ?_
  have hz : (∑ k : Fin 4096, (b (ix2 (i 0) k) - b (ix2 (i 0) k)) * a (ix2 k (i 1)) : EReal) = 0 := by
    refine Finset.sum_eq_zero fun k _ => ?_
    obtain ⟨r, hr⟩ := row_real x hx (i 0).val (n * 4096 + k.val)
    rw [(hb (ix2 (i 0) k)).trans hr, ← EReal.coe_sub, sub_self, EReal.coe_zero, zero_mul]
  rw [hz, add_zero]
  exact Finset.sum_congr rfl fun k _ => by rw [hb, ha]; rfl

theorem step_apply (c : Dev nD) (hx : Real8 (m ((c : Thread nD τ).loc main_arg1))) (n : ℕ) (h : n < cfg0.N)
    (acc : Vec Ideal S16x128 .f32) (i : S16x128.Idx) :
    step3 m c n h acc i = acc i + add (m ((c : Thread nD τ).loc main_arg1)) n i :=
  pay _ hx n _ _ (block0 m c n h) (block1 m c n h) acc i

theorem total (x : S8x128x256.Idx → EReal) (h l : ℕ) :
    (∑ s ∈ range 32768, row x h s * hot s l : EReal) = if h < 8 ∧ l < 32 then entry x h l else 0 := by
  split_ifs with k
  · unfold entry
    refine Finset.sum_congr rfl fun s _ => ?_
    unfold row hot
    rw [if_pos k.1]
    split_ifs <;> simp
  · refine Finset.sum_eq_zero fun s _ => ?_
    unfold row hot
    by_cases h8 : h < 8
    · have := bucket_lt (s / 256) (s % 256)
      rw [if_neg (show ¬ bucket (s / 256) (s % 256) = l by omega), mul_zero]
    · rw [if_neg h8, zero_mul]

theorem final (c : Dev nD) (hx : Real8 (m ((c : Thread nD τ).loc main_arg1))) : G3 m c
    = Cert.Reference7Ideal.Read.val_main_v49 (F := Ideal) (m ((c : Thread nD τ).loc main_arg0)) (m ((c : Thread nD τ).loc main_arg1)) := by
  funext i
  have e0 : (i 0).val < 16 := (i 0).isLt
  have e1 : (i 1).val < 128 := (i 1).isLt
  have hN : cfg0.N = 8 := N_0
  have hl : loc3Of i = i := by
    funext a; apply Fin.ext
    fin_cases a
    · exact Nat.mod_eq_of_lt e0
    · exact Nat.mod_eq_of_lt e1
  have hr : run3Of i = 0 := by dsimp only [run3Of]; omega
  refine Eq.trans ?_ (ref_val _ _ i).symm
  rw [← total]
  show (_ : EReal) = _
  unfold G3
  rw [dif_pos (by rw [hN, hr]; omega)]
  refine (Pipeline.accAt_add_apply _ _ (ι := S16x128.Idx) (β := EReal) (show S16x128.Idx → EReal from m ((c : Thread nD τ).loc main_arg0))
      (add (m ((c : Thread nD τ).loc main_arg1))) _ 7
      (fun h j => (pay _ hx _ _ _ (block0 m c _ h) (block1 m c _ h) _ j).trans (by rw [block2]))
      (fun n h acc j _ _ => step_apply m c hx n h acc j) 7 le_rfl _ _).trans ?_
  rw [show (32768 : ℕ) = 8 * 4096 from rfl, Finset.sum_range_mul_split, hl, hr]
  show (_ : EReal) = _
  refine congrArg _ (Finset.sum_congr rfl fun s hs => ?_)
  unfold add
  refine Finset.sum_congr rfl fun k _ => ?_
  rw [show 8 * 0 + s = s by omega]

end Cert.Bias

namespace Cert.Bias.Claim

section
open Cert.Pre_finite7

instance : Subsingleton S_.Idx := ⟨fun a b => funext fun k => k.elim0⟩

/-- What the precondition says: every element of the cotangent is a real. -/
theorem reals (x0 : FVec Ideal S16x128 .f32) (x1 : FVec Ideal S8x128x256 .f32) [Cert.Pre_finite7.Facts]
    (h : Cert.Pre_finite7.fn (F := Ideal) x0 x1 (Shape.Idx.first Facts.h_S_) = 1#1) :
    ∀ i, (((x1 i : EReal).toReal : ℝ) : EReal) = x1 i := by
  unfold Cert.Pre_finite7.fn at h
  dsimp only at h
  exact FiniteArgs.real_of_all x1 _ (fun _ => FiniteArgs.ofBits_inf) _ _ _ _ h
end

theorem frame_reference : Cert.quiescent_Reference7Ideal := by
  intro m g _
  exact (θ_run Cert.Reference7Ideal.defs _ _).mono
    (fun r h => ⟨fun c => (h c).2, sem_eq_zero_of_no_sems (by decide) r.2⟩) (Cert.Reference7Ideal.Value.run m g)

theorem frame_reference_pre [Cert.Pre_finite7.Facts] : Cert.quiescent_Reference7Ideal_pre_finite7 := by
  intro m g _
  exact frame_reference m g trivial

theorem algebraic [hp : Cert.Pre_finite7.Facts] : Cert.algebraic_Kernel7Ideal_Reference7Ideal_pre_finite7 := by
  intro m g m' g' hpre hargs
  have key : ∀ c : Dev Cert.Kernel7Ideal.nD, Cert.Kernel7Ideal.Value.G3 m c
      = Cert.Reference7Ideal.Read.val_main_v49 (F := Ideal) (m' ((c.tc : Thread _ Cert.Reference7Ideal.τ).loc Cert.Reference7Ideal.main_arg0))
          (m' ((c.tc : Thread _ Cert.Reference7Ideal.τ).loc Cert.Reference7Ideal.main_arg1)) := by
    intro c
    rw [(hargs c).1, (hargs c).2]
    exact Cert.Bias.final m c (reals _ _ (congrFun (hpre c) _))
  exact ⟨_, Cert.Kernel7Ideal.Value.run m g,
    (θ_run Cert.Reference7Ideal.defs _ _).mono (fun r h c => ⟨((h c).1.trans (Cert.Reference7Ideal.Read.val_main_v49_eq _ _)).trans (key c).symm,
      (h c).2⟩) (Cert.Reference7Ideal.Value.run m' g')⟩

end Cert.Bias.Claim

end

end
-- ==== Proof.WGrad.lean ====
/- The gradient of the second feed-forward weight: the rows' products, summed over the eight stretches of rows
   the kernel visits, are the reference's sum over all rows. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem Finset
open Idealize.ShloMosaic.Pipeline (Dat)

namespace Cert.WGrad

open Cert.Kernel6Ideal Cert.Kernel6Ideal.Gen Cert.Kernel6Ideal.Value

variable (m : (ℓ : Loc nD τ sig) → Buf (Elt Ideal) ℓ)

/-- The block each window stages at each grid point. -/
theorem idx : ∀ t : Fin cfg0.N, win0_0.index t = ![t.val % 8, t.val / 8] ∧ win0_1.index t = ![t.val % 8, 0] :=
  (by decide +kernel : ∀ t : Fin grid0.N, _)

/-- The hidden values by number, zero outside. -/
def hid (x : S16384x4096.Idx → EReal) (a b : ℕ) : EReal :=
  if h : a < 16384 ∧ b < 4096 then x (ix2 ⟨a, h.1⟩ ⟨b, h.2⟩) else 0

/-- The cotangent by number, zero outside. -/
def cot (x : S16384x1024.Idx → EReal) (a b : ℕ) : EReal :=
  if h : a < 16384 ∧ b < 1024 then x (ix2 ⟨a, h.1⟩ ⟨b, h.2⟩) else 0

theorem hid_eq (x : S16384x4096.Idx → EReal) (i) (a b : ℕ) (ha : (i 0).val = a) (hb : (i 1).val = b) : x i = hid x a b := by
  subst ha hb
  have h : (i 0).val < 16384 ∧ (i 1).val < 4096 := ⟨(i 0).isLt, (i 1).isLt⟩
  rw [hid, dif_pos h]; congr 1; funext k; fin_cases k <;> rfl

theorem cot_eq (x : S16384x1024.Idx → EReal) (i) (a b : ℕ) (ha : (i 0).val = a) (hb : (i 1).val = b) : x i = cot x a b := by
  subst ha hb
  have h : (i 0).val < 16384 ∧ (i 1).val < 1024 := ⟨(i 0).isLt, (i 1).isLt⟩
  rw [cot, dif_pos h]; congr 1; funext k; fin_cases k <;> rfl

/-- One row's product: the square of the hidden value's positive part with the cotangent. -/
def term (u : S16384x4096.Idx → EReal) (d : S16384x1024.Idx → EReal) (f e s : ℕ) : EReal :=
  max (hid u s f) 0 * max (hid u s f) 0 * cot d s e

/-- What a grid point adds. -/
def add (u : S16384x4096.Idx → EReal) (d : S16384x1024.Idx → EReal) (n : ℕ) (i : S1024x1024.Idx) : EReal :=
  ∑ k ∈ range 2048, term u d (n / 8 * 1024 + (i 0).val) (i 1).val (n % 8 * 2048 + k)

theorem block0 (c : Dev nD) (n : ℕ) (h : n < cfg0.N) (y : S2048x1024.Idx) : iblk m c 0 ⟨n, h⟩ y
    = hid (m ((c : Thread nD τ).loc main_arg0)) (n % 8 * 2048 + (y 0).val) (n / 8 * 1024 + (y 1).val) := by
  refine Eq.trans ?_ (hid_eq (m ((c : Thread nD τ).loc main_arg0)) (((cfg0.win 0).blk ⟨n, h⟩).view.emb y) _ _ ?_ ?_)
  · exact congrFun (V_main_arg0 m c) _
  · blk_simp [idx ⟨n, h⟩]
  · blk_simp [idx ⟨n, h⟩]

/-- The cotangent as the product reads it. -/
def narrow (x : FVec Ideal S16384x1024 .f32) : FVec Ideal S16384x1024 .bf16 := truncf .bf16 x bitsLt_bf16_f32

theorem block1 (c : Dev nD) (n : ℕ) (h : n < cfg0.N) (y : S2048x1024.Idx) : iblk m c 1 ⟨n, h⟩ y
    = cot (m ((c : Thread nD τ).loc main_arg2)) (n % 8 * 2048 + (y 0).val) (y 1).val := by
  refine Eq.trans ?_ (cot_eq (m ((c : Thread nD τ).loc main_arg2)) (((cfg0.win 1).blk ⟨n, h⟩).view.emb y) _ _ ?_ ?_)
  · have hv : V m c main_v0 = narrow (m ((c : Thread nD τ).loc main_arg2)) := by
      unfold_abbrev_sides
      after_results
      rfl
    refine (show iblk m c 1 ⟨n, h⟩ y = V m c main_v0 (((cfg0.win 1).blk ⟨n, h⟩).view.emb y) from rfl).trans ?_
    rw [hv]; rfl
  · blk_simp [idx ⟨n, h⟩]
  · blk_simp [idx ⟨n, h⟩]

theorem step_apply (c : Dev nD) (n : ℕ) (h : n < cfg0.N) (acc : Vec Ideal S1024x1024 .f32) (i : S1024x1024.Idx) :
    step2 m c n h acc i
      = acc i + add (m ((c : Thread nD τ).loc main_arg0)) (m ((c : Thread nD τ).loc main_arg2)) n i := by
  have b0 := block0 m c n h
  have b1 := block1 m c n h
  unfold step2 add
  generalize iblk m c 0 ⟨n, h⟩ = a at *
  generalize iblk m c 1 ⟨n, h⟩ = b at *
  pointwise [k0_pay2]
  rw [Finset.sum_range]
  refine congrArg _ (Finset.sum_congr rfl fun k _ => ?_)
  rw [b0, b1]; rfl

theorem final_apply (c : Dev nD) (i : S4096x1024.Idx) : G2 m c i
    = (∑ s ∈ range 16384, term (m ((c : Thread nD τ).loc main_arg0)) (m ((c : Thread nD τ).loc main_arg2)) (i 0).val (i 1).val s : EReal) := by
  have e0 : (i 0).val < 4096 := (i 0).isLt
  have e1 : (i 1).val < 1024 := (i 1).isLt
  have hN : cfg0.N = 32 := N_0
  unfold G2
  rw [dif_pos (by rw [hN]; dsimp only [run2Of]; omega),
    Pipeline.accAt_add_apply _ _ (fun _ => (0 : EReal))
      (add (m ((c : Thread nD τ).loc main_arg0)) (m ((c : Thread nD τ).loc main_arg2))) _ 7
      (fun h j => (step_apply m c _ h _ j).trans (by congr 1; pointwise [k0_pay1]))
      (fun n h acc j _ _ => step_apply m c n h acc j) 7 le_rfl, zero_add,
    show (16384 : ℕ) = 8 * 2048 from rfl, Finset.sum_range_mul_split]
  show (_ : EReal) = _
  refine Finset.sum_congr rfl fun s hs => ?_
  have hs' : s < 8 := Finset.mem_range.mp hs
  unfold add
  refine Finset.sum_congr rfl fun k _ => ?_
  congr 1 <;> (try simp only [run2Of]) <;> (try dsimp only) <;> omega

/-- The result array after the run is the reference's gradient. -/
theorem final (c : Dev nD) : G2 m c
    = Cert.Reference6Ideal.Read.val_main_v4 (F := Ideal) (m ((c : Thread nD τ).loc main_arg0)) (m ((c : Thread nD τ).loc main_arg2)) := by
  funext i
  rw [final_apply, Finset.sum_range, ← Cert.Reference6Ideal.Read.val_main_v4_eq]
  pointwise []
  show (_ : EReal) = _
  refine Finset.sum_congr rfl fun k _ => ?_
  unfold term
  rw [mul_comm]
  congr 1
  · exact (cot_eq (m ((c : Thread nD τ).loc main_arg2)) (ix2 k (i 1)) _ _ rfl rfl).symm
  · rw [hid_eq (m ((c : Thread nD τ).loc main_arg0)) _ _ _ rfl rfl]; rfl

end Cert.WGrad

namespace Cert.WGrad.Claim

theorem frame_reference : Cert.quiescent_Reference6Ideal := by
  intro m g _
  exact (θ_run Cert.Reference6Ideal.defs _ _).mono
    (fun r h => ⟨fun c => (h c).2, sem_eq_zero_of_no_sems (by decide) r.2⟩) (Cert.Reference6Ideal.Value.run m g)

theorem algebraic : Cert.algebraic_Kernel6Ideal_Reference6Ideal := by
  intro m g m' g' _ hargs
  have key : ∀ c : Dev Cert.Kernel6Ideal.nD, Cert.Kernel6Ideal.Value.G2 m c
      = Cert.Reference6Ideal.Read.val_main_v4 (F := Ideal) (m' ((c.tc : Thread _ Cert.Reference6Ideal.τ).loc Cert.Reference6Ideal.main_arg0))
          (m' ((c.tc : Thread _ Cert.Reference6Ideal.τ).loc Cert.Reference6Ideal.main_arg2)) := by
    intro c
    rw [(hargs c).1, (hargs c).2.2]
    exact Cert.WGrad.final m c
  exact ⟨_, Cert.Kernel6Ideal.Value.run m g,
    (θ_run Cert.Reference6Ideal.defs _ _).mono (fun r h c => ⟨((h c).1.trans (Cert.Reference6Ideal.Read.val_main_v4_eq _ _)).trans (key c).symm,
      (h c).2⟩) (Cert.Reference6Ideal.Value.run m' g')⟩

end Cert.WGrad.Claim

end
-- ==== Proof.FwdSpec.lean ====
/- A row divided by its root mean square over the values that may be infinite, by row and lane, for calls that read their rows as they come. -/
module

public import Idealize.ShloMosaic.Lib.Pointwise
public import Idealize.ShloMosaic.Lib.Claim

@[expose] public section

noncomputable section

open Idealize.ShloMosaic Idealize.ShloMosaic.TcCoe Idealize.SL.Sem

namespace Cert.Fwd

/-- Row `t` of `x`, `n` lanes long, divided by the root of its mean square (the words are the length and the small constant) and scaled by lane. -/
def unit (n : ℕ) (w e : BitVec 32) (x : ℕ → ℕ → EReal) (g : ℕ → EReal) (t d : ℕ) : EReal :=
  x t d * Ideal.rsqrt (Ideal.div (∑ k : Fin n, x t k.val * x t k.val) (Ideal.ofBits .f32 w) + Ideal.ofBits .f32 e) * g d

/-- An array read by numbers; zero outside. -/
def num {a b : ℕ} (x : (⟨2, ![a, b]⟩ : Shape).Idx → EReal) (t h : ℕ) : EReal :=
  if hh : t < a ∧ h < b then x (ix2 (⟨t, hh.1⟩ : Fin a) (⟨h, hh.2⟩ : Fin b)) else 0

theorem num_eq {a b : ℕ} (x : (⟨2, ![a, b]⟩ : Shape).Idx → EReal) (i : (⟨2, ![a, b]⟩ : Shape).Idx) :
    x i = num x (i 0).val (i 1).val := by
  rw [num, dif_pos (⟨(i 0).isLt, (i 1).isLt⟩)]
  congr 1
  funext k
  match k with
  | ⟨0, _⟩ => rfl
  | ⟨1, _⟩ => rfl

theorem row_eq {b : ℕ} (x : (⟨2, ![1, b]⟩ : Shape).Idx → EReal) (i : (⟨2, ![1, b]⟩ : Shape).Idx) : x i = num x 0 (i 1).val := by
  have h : (i 0).val = 0 := by have := (i 0).isLt; change (i 0).val < 1 at this; omega
  rw [num_eq x i, h]

end Cert.Fwd

end
-- ==== Proof.OutFwd.lean ====
/- The forward call through the output product: what each grid point leaves, and the four arrays after the run. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.FwdSpec
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.StableHlo.ReadAt

@[expose] public section

set_option maxRecDepth 16384

noncomputable section

open Idealize.ShloMosaic Idealize.ShloMosaic.TcCoe Idealize.SL.Sem

namespace Cert.OutF

open Cert.Kernel8Ideal Cert.Kernel8Ideal.Gen Cert.Fwd

/-- The two halves of the joined row, each divided by its own root mean square. -/
def cat (A B : ℕ → ℕ → EReal) (ga gb : ℕ → EReal) (t e : ℕ) : EReal :=
  if e < 512 then unit 512 0x44000000#32 0x358637BD#32 A ga t e else unit 512 0x44000000#32 0x358637BD#32 B gb t (e - 512)

/-- The product with the weight. -/
def prod (A B : ℕ → ℕ → EReal) (ga gb : ℕ → EReal) (W : ℕ → ℕ → EReal) (t d : ℕ) : EReal :=
  ∑ k : Fin 1024, cat A B ga gb t k.val * W k.val d

/-- The stream after the product's normalised row is added. -/
def strm (Y X : ℕ → ℕ → EReal) (g : ℕ → EReal) (t d : ℕ) : EReal :=
  X t d + unit 1024 0x44800000#32 0x358637BD#32 Y g t d

section Block

variable {A B Y X : ℕ → ℕ → EReal} {ga gb g gm : ℕ → EReal} {W : ℕ → ℕ → EReal} {T : ℕ}

theorem pay3_at {a b : Vec Ideal S512x512 .f32} {p q : Vec Ideal S1x512 .f32}
    (h0 : ∀ i, a i = A (T + (i 0).val) (i 1).val) (h1 : ∀ i, b i = B (T + (i 0).val) (i 1).val)
    (h2 : ∀ i, p i = ga (i 1).val) (h3 : ∀ i, q i = gb (i 1).val) (y : S512x1024.Idx) :
    k0_pay3 (F := Ideal) a b p q y = cat A B ga gb (T + (y 0).val) (y 1).val := by
  unfold k0_pay3
  pointwise [h0, h1, h2, h3]
  unfold cat
  rfl

theorem pay4_at {a b : Vec Ideal S512x512 .f32} {p q : Vec Ideal S1x512 .f32} {w : Vec Ideal S1024x1024 .bf16}
    (h0 : ∀ i, a i = A (T + (i 0).val) (i 1).val) (h1 : ∀ i, b i = B (T + (i 0).val) (i 1).val)
    (h2 : ∀ i, p i = ga (i 1).val) (h3 : ∀ i, q i = gb (i 1).val) (h4 : ∀ i, w i = W (i 0).val (i 1).val) (y : S512x1024.Idx) :
    k0_pay4 (F := Ideal) a b p q w y = prod A B ga gb W (T + (y 0).val) (y 1).val := by
  have h := pay3_at h0 h1 h2 h3
  unfold k0_pay4
  generalize k0_pay3 (F := Ideal) a b p q = z at h ⊢
  pointwise [h, h4]
  rfl

theorem pay1_at {u v x : FVec Ideal S512x1024 .f32} {p : Vec Ideal S1x1024 .f32}
    (h0 : ∀ i, u i = Y (T + (i 0).val) (i 1).val) (h1 : ∀ i, v i = Y (T + (i 0).val) (i 1).val * Y (T + (i 0).val) (i 1).val)
    (h2 : ∀ i, x i = X (T + (i 0).val) (i 1).val) (h3 : ∀ i, p i = g (i 1).val) (y : S512x1024.Idx) :
    k0_pay1 (F := Ideal) u v x p y = strm Y X g (T + (y 0).val) (y 1).val := by
  unfold k0_pay1
  pointwise [h0, h1, h2, h3]
  rfl

theorem pay2_at {u v x : FVec Ideal S512x1024 .f32} {p q : Vec Ideal S1x1024 .f32}
    (h0 : ∀ i, u i = Y (T + (i 0).val) (i 1).val) (h1 : ∀ i, v i = Y (T + (i 0).val) (i 1).val * Y (T + (i 0).val) (i 1).val)
    (h2 : ∀ i, x i = X (T + (i 0).val) (i 1).val) (h3 : ∀ i, p i = g (i 1).val) (h4 : ∀ i, q i = gm (i 1).val) (y : S512x1024.Idx) :
    k0_pay2 (F := Ideal) u v x p q y
      = unit 1024 0x44800000#32 0x358637BD#32 (strm Y X g) gm (T + (y 0).val) (y 1).val := by
  have h := pay1_at h0 h1 h2 h3
  unfold k0_pay2
  generalize k0_pay1 (F := Ideal) u v x p = z at h ⊢
  pointwise [h, h4]
  rfl

end Block

/-! ## The blocks -/

section Run

variable (m : (ℓ : Loc nD τ sig) → Buf (Elt Ideal) ℓ) (c : Dev nD)

abbrev a0 : S16384x512.Idx → EReal := m ((c : Thread nD τ).loc main_arg0)
abbrev a1 : S16384x512.Idx → EReal := m ((c : Thread nD τ).loc main_arg1)
abbrev a2 : S16384x1024.Idx → EReal := m ((c : Thread nD τ).loc main_arg2)
abbrev a3 : S1x512.Idx → EReal := m ((c : Thread nD τ).loc main_arg3)
abbrev a4 : S1x512.Idx → EReal := m ((c : Thread nD τ).loc main_arg4)
abbrev a5 : S1024x1024.Idx → EReal := m ((c : Thread nD τ).loc main_arg5)
abbrev a6 : S1x1024.Idx → EReal := m ((c : Thread nD τ).loc main_arg6)
abbrev a7 : S1x1024.Idx → EReal := m ((c : Thread nD τ).loc main_arg7)

def catN : ℕ → ℕ → EReal := cat (num (a0 m c)) (num (a1 m c)) (num (a3 m c) 0) (num (a4 m c) 0)
def prodN : ℕ → ℕ → EReal := prod (num (a0 m c)) (num (a1 m c)) (num (a3 m c) 0) (num (a4 m c) 0) (num (a5 m c))
def strmN : ℕ → ℕ → EReal := strm (prodN m c) (num (a2 m c)) (num (a6 m c) 0)
def normN : ℕ → ℕ → EReal := unit 1024 0x44800000#32 0x358637BD#32 (strmN m c) (num (a7 m c) 0)

theorem weight (i : S1024x1024.Idx) : (V m c main_v0 : S1024x1024.Idx → EReal) i = num (a5 m c) (i 0).val (i 1).val := by
  refine Eq.trans ?_ (num_eq (a5 m c) i)
  unfold V
  after_reads_simp
  rfl

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] :=
  (by decide +kernel : ∀ t : Fin grid0.N, _)

theorem blk0 (t : Fin cfg0.N) (i : S512x512.Idx) : iblk m c 0 t i = num (a0 m c) (t.val * 512 + (i 0).val) (i 1).val := by
  refine ((congrFun (V_main_arg0 m c) _).trans (num_eq (a0 m c) _)).trans ?_
  blk_simp [idx t]
theorem blk1 (t : Fin cfg0.N) (i : S512x512.Idx) : iblk m c 1 t i = num (a1 m c) (t.val * 512 + (i 0).val) (i 1).val := by
  refine ((congrFun (V_main_arg1 m c) _).trans (num_eq (a1 m c) _)).trans ?_
  blk_simp [idx t]
theorem blk2 (t : Fin cfg0.N) (i : S512x1024.Idx) : iblk m c 2 t i = num (a2 m c) (t.val * 512 + (i 0).val) (i 1).val := by
  refine ((congrFun (V_main_arg2 m c) _).trans (num_eq (a2 m c) _)).trans ?_
  blk_simp [idx t]
theorem blk3 (t : Fin cfg0.N) (i : S1x512.Idx) : iblk m c 3 t i = num (a3 m c) 0 (i 1).val := by
  refine ((congrFun (V_main_arg3 m c) _).trans (row_eq (a3 m c) _)).trans ?_
  blk_simp [idx t]
theorem blk4 (t : Fin cfg0.N) (i : S1x512.Idx) : iblk m c 4 t i = num (a4 m c) 0 (i 1).val := by
  refine ((congrFun (V_main_arg4 m c) _).trans (row_eq (a4 m c) _)).trans ?_
  blk_simp [idx t]
theorem blk5 (t : Fin cfg0.N) (i : S1024x1024.Idx) : iblk m c 5 t i = num (a5 m c) (i 0).val (i 1).val := by
  refine (weight m c _).trans ?_
  blk_simp [idx t]
theorem blk6 (t : Fin cfg0.N) (i : S1x1024.Idx) : iblk m c 6 t i = num (a6 m c) 0 (i 1).val := by
  refine ((congrFun (V_main_arg6 m c) _).trans (row_eq (a6 m c) _)).trans ?_
  blk_simp [idx t]
theorem blk7 (t : Fin cfg0.N) (i : S1x1024.Idx) : iblk m c 7 t i = num (a7 m c) 0 (i 1).val := by
  refine ((congrFun (V_main_arg7 m c) _).trans (row_eq (a7 m c) _)).trans ?_
  blk_simp [idx t]

theorem y_at (t : Fin cfg0.N) (i : S512x1024.Idx) : k0_pay4 (F := Ideal) (iblk m c 0 t) (iblk m c 1 t) (iblk m c 3 t) (iblk m c 4 t) (iblk m c 5 t) i
    = prodN m c (t.val * 512 + (i 0).val) (i 1).val :=
  pay4_at (blk0 m c t) (blk1 m c t) (blk3 m c t) (blk4 m c t) (blk5 m c t) i

theorem yy_at (t : Fin cfg0.N) (i : S512x1024.Idx) : k0_pay5 (F := Ideal) (iblk m c 0 t) (iblk m c 1 t) (iblk m c 3 t) (iblk m c 4 t) (iblk m c 5 t) i
    = prodN m c (t.val * 512 + (i 0).val) (i 1).val * prodN m c (t.val * 512 + (i 0).val) (i 1).val := by
  rw [← y_at m c t i]; rfl

/-! ## The four arrays after the run -/

theorem row8 (t : Fin cfg0.N) (y : S512x1024.Idx) : out0_8 (iblk m c 0 t) (iblk m c 1 t) (iblk m c 2 t) (iblk m c 3 t) (iblk m c 4 t) (iblk m c 5 t)
    (iblk m c 6 t) (iblk m c 7 t) y = catN m c (t.val * 512 + (y 0).val) (y 1).val := by
  have key := pay3_at (blk0 m c t) (blk1 m c t) (blk3 m c t) (blk4 m c t) y
  unfold out0_8
  dsimp only
  frame_out
  exact key

theorem final8 (i : S16384x1024.Idx) : ((dats m 0 c).arrAt 8 cfg0.N : (⟨S16384x1024, .bf16⟩ : BufTy).Contents (Elt Ideal)) i
    = catN m c (i 0).val (i 1).val := by
  refine congrFun ((dats m 0 c).arrAt_eq_of_covers 8 (fun i : S16384x1024.Idx => catN m c (i 0).val (i 1).val)
    (by decide +kernel) fun t _ y => ?_) i
  rw [after0_8]
  blk_simp [idx t]
  exact row8 m c t y

theorem row9 (t : Fin cfg0.N) (y : S512x1024.Idx) : out0_9 (iblk m c 0 t) (iblk m c 1 t) (iblk m c 2 t) (iblk m c 3 t) (iblk m c 4 t) (iblk m c 5 t)
    (iblk m c 6 t) (iblk m c 7 t) y = prodN m c (t.val * 512 + (y 0).val) (y 1).val := by
  have key := y_at m c t y
  unfold out0_9
  dsimp only
  frame_out
  exact key

theorem final9 (i : S16384x1024.Idx) : ((dats m 0 c).arrAt 9 cfg0.N : (⟨S16384x1024, .f32⟩ : BufTy).Contents (Elt Ideal)) i
    = prodN m c (i 0).val (i 1).val := by
  refine congrFun ((dats m 0 c).arrAt_eq_of_covers 9 (fun i : S16384x1024.Idx => prodN m c (i 0).val (i 1).val)
    (by decide +kernel) fun t _ y => ?_) i
  rw [after0_9]
  blk_simp [idx t]
  exact row9 m c t y

theorem row10 (t : Fin cfg0.N) (y : S512x1024.Idx) : out0_10 (iblk m c 0 t) (iblk m c 1 t) (iblk m c 2 t) (iblk m c 3 t) (iblk m c 4 t) (iblk m c 5 t)
    (iblk m c 6 t) (iblk m c 7 t) y = strmN m c (t.val * 512 + (y 0).val) (y 1).val := by
  have key := pay1_at (y_at m c t) (yy_at m c t) (blk2 m c t) (blk6 m c t) y
  unfold_out out0_10
  dsimp only
  frame_out
  exact key

theorem final10 (i : S16384x1024.Idx) : ((dats m 0 c).arrAt 10 cfg0.N : (⟨S16384x1024, .f32⟩ : BufTy).Contents (Elt Ideal)) i
    = strmN m c (i 0).val (i 1).val := by
  refine congrFun ((dats m 0 c).arrAt_eq_of_covers 10 (fun i : S16384x1024.Idx => strmN m c (i 0).val (i 1).val)
    (by decide +kernel) fun t _ y => ?_) i
  rw [after0_10]
  blk_simp [idx t]
  exact row10 m c t y

theorem row11 (t : Fin cfg0.N) (y : S512x1024.Idx) : out0_11 (iblk m c 0 t) (iblk m c 1 t) (iblk m c 2 t) (iblk m c 3 t) (iblk m c 4 t) (iblk m c 5 t)
    (iblk m c 6 t) (iblk m c 7 t) y = normN m c (t.val * 512 + (y 0).val) (y 1).val := by
  have key := pay2_at (y_at m c t) (yy_at m c t) (blk2 m c t) (blk6 m c t) (blk7 m c t) y
  unfold_out out0_11
  dsimp only
  frame_out
  exact key

theorem final11 (i : S16384x1024.Idx) : ((dats m 0 c).arrAt 11 cfg0.N : (⟨S16384x1024, .bf16⟩ : BufTy).Contents (Elt Ideal)) i
    = normN m c (i 0).val (i 1).val := by
  refine congrFun ((dats m 0 c).arrAt_eq_of_covers 11 (fun i : S16384x1024.Idx => normN m c (i 0).val (i 1).val)
    (by decide +kernel) fun t _ y => ?_) i
  rw [after0_11]
  blk_simp [idx t]
  exact row11 m c t y

end Run

end Cert.OutF

namespace Cert.OutF.Ref

open Cert.Reference8Ideal Cert.Reference8Ideal.Gen Cert.Reference8Ideal.Read Cert.Fwd

section

variable {x0 x1 : (⟨S16384x512, .f32⟩ : BufTy).Contents (Elt Ideal)} {x2 : (⟨S16384x1024, .f32⟩ : BufTy).Contents (Elt Ideal)}
  {x3 x4 : (⟨S1x512, .f32⟩ : BufTy).Contents (Elt Ideal)} {x5 : (⟨S1024x1024, .f32⟩ : BufTy).Contents (Elt Ideal)}
  {x6 x7 : (⟨S1x1024, .f32⟩ : BufTy).Contents (Elt Ideal)} {A B X W : ℕ → ℕ → EReal} {ga gb g gm : ℕ → EReal}
  (h0 : ∀ i, x0 i = A (i 0).val (i 1).val) (h1 : ∀ i, x1 i = B (i 0).val (i 1).val) (h2 : ∀ i, x2 i = X (i 0).val (i 1).val)
  (h3 : ∀ i, x3 i = ga (i 1).val) (h4 : ∀ i, x4 i = gb (i 1).val) (h5 : ∀ i, x5 i = W (i 0).val (i 1).val)
  (h6 : ∀ i, x6 i = g (i 1).val) (h7 : ∀ i, x7 i = gm (i 1).val)

include h0 h3 in
theorem v11 (i : S16384x512.Idx) : val_main_v11 (F := Ideal) x0 x3 i = unit 512 0x44000000#32 0x358637BD#32 A ga (i 0).val (i 1).val := by
  unfold val_main_v11 val_main_v10 val_main_v9 val_main_v8 val_main_v7 val_main_v6 val_main_v5 val_main_v4 val_main_v3 val_main_v2 val_main_v1 val_main_v0 val_main_cst val_main_cst_0 val_main_cst_1
  pointwise [h0, h3]
  rfl

include h1 h4 in
theorem v23 (i : S16384x512.Idx) : val_main_v23 (F := Ideal) x1 x4 i = unit 512 0x44000000#32 0x358637BD#32 B gb (i 0).val (i 1).val := by
  unfold val_main_v23 val_main_v22 val_main_v21 val_main_v20 val_main_v19 val_main_v18 val_main_v17 val_main_v16 val_main_v15 val_main_v14 val_main_v13 val_main_v12 val_main_cst_2 val_main_cst_3 val_main_cst_4
  pointwise [h1, h4]
  rfl

include h0 h1 h3 h4 in
theorem v24 (i : S16384x1024.Idx) : val_main_v24 (F := Ideal) x0 x1 x3 x4 i = cat A B ga gb (i 0).val (i 1).val := by
  have ha := v11 h0 h3
  have hb := v23 h1 h4
  unfold val_main_v24
  generalize val_main_v11 (F := Ideal) x0 x3 = p at ha ⊢
  generalize val_main_v23 (F := Ideal) x1 x4 = q at hb ⊢
  pointwise [ha, hb]
  rfl

include h0 h1 h3 h4 in
theorem v39 (i : S16384x1024.Idx) : val_main_v39 (F := Ideal) x0 x1 x3 x4 i = cat A B ga gb (i 0).val (i 1).val :=
  (val_main_v39_apply x0 x1 x3 x4 i).trans (v24 h0 h1 h3 h4 i)

include h0 h1 h3 h4 h5 in
theorem v25 (i : S16384x1024.Idx) : val_main_v25 (F := Ideal) x0 x1 x3 x4 x5 i = prod A B ga gb W (i 0).val (i 1).val := by
  have h := v24 h0 h1 h3 h4
  unfold val_main_v25
  generalize val_main_v24 (F := Ideal) x0 x1 x3 x4 = z at h ⊢
  pointwise [h, h5]
  rfl

include h0 h1 h2 h3 h4 h5 h6 in
theorem v38 (i : S16384x1024.Idx) : val_main_v38 (F := Ideal) x0 x1 x2 x3 x4 x5 x6 i
    = strm (prod A B ga gb W) X g (i 0).val (i 1).val := by
  have h := v25 h0 h1 h3 h4 h5
  unfold val_main_v38 val_main_v37 val_main_v36 val_main_v35 val_main_v34 val_main_v33 val_main_v32 val_main_v31 val_main_v30 val_main_v29 val_main_v28 val_main_v27 val_main_v26 val_main_cst_5 val_main_cst_6 val_main_cst_7
  generalize val_main_v25 (F := Ideal) x0 x1 x3 x4 x5 = z at h ⊢
  pointwise [h, h2, h6]
  rfl

include h0 h1 h2 h3 h4 h5 h6 h7 in
theorem v52 (i : S16384x1024.Idx) : val_main_v52 (F := Ideal) x0 x1 x2 x3 x4 x5 x6 x7 i
    = unit 1024 0x44800000#32 0x358637BD#32 (strm (prod A B ga gb W) X g) gm (i 0).val (i 1).val := by
  have h := v38 h0 h1 h2 h3 h4 h5 h6
  unfold val_main_v52 val_main_v51 val_main_v50 val_main_v49 val_main_v48 val_main_v47 val_main_v46 val_main_v45 val_main_v44 val_main_v43 val_main_v42 val_main_v41 val_main_v40 val_main_cst_8 val_main_cst_9 val_main_cst_10
  generalize val_main_v38 (F := Ideal) x0 x1 x2 x3 x4 x5 x6 = z at h ⊢
  pointwise [h, h7]
  rfl

end

end Cert.OutF.Ref

end
-- ==== Proof.OutFwdClaim.lean ====
/- The claim of the forward call through the output product: its reference rests, and the four results are the reference's. -/
module

public import proofs.«01_k».proof.Proof.OutFwd
public import proofs.«01_k».proof.Defs
public import Idealize.ShloMosaic.Lib.Claim

@[expose] public section

set_option maxRecDepth 16384

open Idealize.ShloMosaic Idealize.ShloMosaic.TcCoe Idealize.SL.Sem

namespace Cert.OutF.Claim

open Cert.Kernel8Ideal Cert.Fwd

theorem frame_reference : Cert.quiescent_Reference8Ideal := by
  intro m g _
  exact (θ_run Cert.Reference8Ideal.defs _ _).mono
    (fun r h => ⟨fun c => (h c).2.2.2.2, sem_eq_zero_of_no_sems (by decide) r.2⟩) (Cert.Reference8Ideal.Value.run m g)

theorem algebraic : Cert.algebraic_Kernel8Ideal_Reference8Ideal := by
  intro m g m' g' _ hargs
  have key : ∀ c : Dev nD,
      (Gen.dats m 0 c).arrAt 8 cfg0.N = Cert.Reference8Ideal.Read.val_main_v39 (F := Ideal) (m' ((c.tc : Thread _ Cert.Reference8Ideal.τ).loc Cert.Reference8Ideal.main_arg0)) (m' ((c.tc : Thread _ Cert.Reference8Ideal.τ).loc Cert.Reference8Ideal.main_arg1)) (m' ((c.tc : Thread _ Cert.Reference8Ideal.τ).loc Cert.Reference8Ideal.main_arg3)) (m' ((c.tc : Thread _ Cert.Reference8Ideal.τ).loc Cert.Reference8Ideal.main_arg4))
      ∧ (Gen.dats m 0 c).arrAt 9 cfg0.N = Cert.Reference8Ideal.Read.val_main_v25 (F := Ideal) (m' ((c.tc : Thread _ Cert.Reference8Ideal.τ).loc Cert.Reference8Ideal.main_arg0)) (m' ((c.tc : Thread _ Cert.Reference8Ideal.τ).loc Cert.Reference8Ideal.main_arg1)) (m' ((c.tc : Thread _ Cert.Reference8Ideal.τ).loc Cert.Reference8Ideal.main_arg3)) (m' ((c.tc : Thread _ Cert.Reference8Ideal.τ).loc Cert.Reference8Ideal.main_arg4)) (m' ((c.tc : Thread _ Cert.Reference8Ideal.τ).loc Cert.Reference8Ideal.main_arg5))
      ∧ (Gen.dats m 0 c).arrAt 10 cfg0.N = Cert.Reference8Ideal.Read.val_main_v38 (F := Ideal) (m' ((c.tc : Thread _ Cert.Reference8Ideal.τ).loc Cert.Reference8Ideal.main_arg0)) (m' ((c.tc : Thread _ Cert.Reference8Ideal.τ).loc Cert.Reference8Ideal.main_arg1)) (m' ((c.tc : Thread _ Cert.Reference8Ideal.τ).loc Cert.Reference8Ideal.main_arg2)) (m' ((c.tc : Thread _ Cert.Reference8Ideal.τ).loc Cert.Reference8Ideal.main_arg3)) (m' ((c.tc : Thread _ Cert.Reference8Ideal.τ).loc Cert.Reference8Ideal.main_arg4)) (m' ((c.tc : Thread _ Cert.Reference8Ideal.τ).loc Cert.Reference8Ideal.main_arg5)) (m' ((c.tc : Thread _ Cert.Reference8Ideal.τ).loc Cert.Reference8Ideal.main_arg6))
      ∧ (Gen.dats m 0 c).arrAt 11 cfg0.N = Cert.Reference8Ideal.Read.val_main_v52 (F := Ideal) (m' ((c.tc : Thread _ Cert.Reference8Ideal.τ).loc Cert.Reference8Ideal.main_arg0)) (m' ((c.tc : Thread _ Cert.Reference8Ideal.τ).loc Cert.Reference8Ideal.main_arg1)) (m' ((c.tc : Thread _ Cert.Reference8Ideal.τ).loc Cert.Reference8Ideal.main_arg2)) (m' ((c.tc : Thread _ Cert.Reference8Ideal.τ).loc Cert.Reference8Ideal.main_arg3)) (m' ((c.tc : Thread _ Cert.Reference8Ideal.τ).loc Cert.Reference8Ideal.main_arg4)) (m' ((c.tc : Thread _ Cert.Reference8Ideal.τ).loc Cert.Reference8Ideal.main_arg5)) (m' ((c.tc : Thread _ Cert.Reference8Ideal.τ).loc Cert.Reference8Ideal.main_arg6)) (m' ((c.tc : Thread _ Cert.Reference8Ideal.τ).loc Cert.Reference8Ideal.main_arg7)) := by
    intro c
    obtain ⟨e0, e1, e2, e3, e4, e5, e6, e7⟩ := hargs c
    have g0 := fun i => (congrFun e0 i).trans (num_eq (a0 m c) i)
    have g1 := fun i => (congrFun e1 i).trans (num_eq (a1 m c) i)
    have g2 := fun i => (congrFun e2 i).trans (num_eq (a2 m c) i)
    have g3 := fun i => (congrFun e3 i).trans (row_eq (a3 m c) i)
    have g4 := fun i => (congrFun e4 i).trans (row_eq (a4 m c) i)
    have g5 := fun i => (congrFun e5 i).trans (num_eq (a5 m c) i)
    have g6 := fun i => (congrFun e6 i).trans (row_eq (a6 m c) i)
    have g7 := fun i => (congrFun e7 i).trans (row_eq (a7 m c) i)
    exact ⟨funext fun i => (final8 m c i).trans (Ref.v39 g0 g1 g3 g4 i).symm,
      funext fun i => (final9 m c i).trans (Ref.v25 g0 g1 g3 g4 g5 i).symm,
      funext fun i => (final10 m c i).trans (Ref.v38 g0 g1 g2 g3 g4 g5 g6 i).symm,
      funext fun i => (final11 m c i).trans (Ref.v52 g0 g1 g2 g3 g4 g5 g6 g7 i).symm⟩
  exact ⟨_, _, _, _, Cert.Kernel8Ideal.Value.run_blocks m g,
    (θ_run Cert.Reference8Ideal.defs _ _).mono (fun r h c => ⟨((h c).1.trans (Cert.Reference8Ideal.Read.val_main_v39_eq _ _ _ _)).trans (key c).1.symm,
      ((h c).2.1.trans (Cert.Reference8Ideal.Read.val_main_v25_eq _ _ _ _ _)).trans (key c).2.1.symm,
      ((h c).2.2.1.trans (Cert.Reference8Ideal.Read.val_main_v38_eq m' c)).trans (key c).2.2.1.symm,
      ((h c).2.2.2.1.trans (Cert.Reference8Ideal.Read.val_main_v52_eq m' c)).trans (key c).2.2.2.symm, (h c).2.2.2.2⟩) (Cert.Reference8Ideal.Value.run m' g')⟩

end Cert.OutF.Claim
-- ==== Proof.Ff2Fwd.lean ====
/- The forward call through the second feed-forward product: what each grid point leaves, and the three arrays after the run. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.FwdSpec
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.StableHlo.ReadAt

@[expose] public section

set_option maxRecDepth 16384

noncomputable section

open Idealize.ShloMosaic Idealize.ShloMosaic.TcCoe Idealize.SL.Sem

namespace Cert.Ff2F

open Cert.Kernel9Ideal Cert.Kernel9Ideal.Gen Cert.Fwd

/-- The squared relu. -/
def act (U : ℕ → ℕ → EReal) (t k : ℕ) : EReal := max (U t k) 0 * max (U t k) 0

/-- The product with the weight. -/
def prod (U W : ℕ → ℕ → EReal) (t d : ℕ) : EReal := ∑ k : Fin 4096, act U t k.val * W k.val d

/-- The stream after the product's normalised row is added. -/
def strm (Y X : ℕ → ℕ → EReal) (g : ℕ → EReal) (t d : ℕ) : EReal :=
  X t d + unit 1024 0x44800000#32 0x358637BD#32 Y g t d

section Block

variable {U W X : ℕ → ℕ → EReal} {g gm : ℕ → EReal} {T : ℕ}

theorem pay2_at {u : Vec Ideal S512x4096 .f32} {w : Vec Ideal S4096x1024 .bf16}
    (h0 : ∀ i, u i = U (T + (i 0).val) (i 1).val) (h1 : ∀ i, w i = W (i 0).val (i 1).val) (y : S512x1024.Idx) :
    k0_pay2 (F := Ideal) u w y = prod U W (T + (y 0).val) (y 1).val := by
  unfold k0_pay2
  pointwise [h0, h1]
  rfl

theorem pay3_at {u : Vec Ideal S512x4096 .f32} {w : Vec Ideal S4096x1024 .bf16} {x : Vec Ideal S512x1024 .f32} {p : Vec Ideal S1x1024 .f32}
    (h0 : ∀ i, u i = U (T + (i 0).val) (i 1).val) (h1 : ∀ i, w i = W (i 0).val (i 1).val)
    (h2 : ∀ i, x i = X (T + (i 0).val) (i 1).val) (h3 : ∀ i, p i = g (i 1).val) (y : S512x1024.Idx) :
    k0_pay3 (F := Ideal) u w x p y = strm (prod U W) X g (T + (y 0).val) (y 1).val := by
  have h := pay2_at h0 h1
  unfold k0_pay3
  generalize k0_pay2 (F := Ideal) u w = z at h ⊢
  pointwise [h, h2, h3]
  rfl

theorem out_at {u : Vec Ideal S512x4096 .f32} {w : Vec Ideal S4096x1024 .bf16} {x : Vec Ideal S512x1024 .f32} {p q : Vec Ideal S1x1024 .f32}
    (h0 : ∀ i, u i = U (T + (i 0).val) (i 1).val) (h1 : ∀ i, w i = W (i 0).val (i 1).val)
    (h2 : ∀ i, x i = X (T + (i 0).val) (i 1).val) (h3 : ∀ i, p i = g (i 1).val) (h4 : ∀ i, q i = gm (i 1).val) (y : S512x1024.Idx) :
    k0_pay1 (F := Ideal) (k0_pay4 (F := Ideal) u w x p) q y
      = unit 1024 0x44800000#32 0x358637BD#32 (strm (prod U W) X g) gm (T + (y 0).val) (y 1).val := by
  have h := pay3_at h0 h1 h2 h3
  unfold k0_pay1 k0_pay4
  generalize k0_pay3 (F := Ideal) u w x p = z at h ⊢
  pointwise [h, h4]
  rfl

end Block

/-! ## The blocks -/

section Run

variable (m : (ℓ : Loc nD τ sig) → Buf (Elt Ideal) ℓ) (c : Dev nD)

abbrev a0 : S16384x4096.Idx → EReal := m ((c : Thread nD τ).loc main_arg0)
abbrev a1 : S4096x1024.Idx → EReal := m ((c : Thread nD τ).loc main_arg1)
abbrev a2 : S16384x1024.Idx → EReal := m ((c : Thread nD τ).loc main_arg2)
abbrev a3 : S1x1024.Idx → EReal := m ((c : Thread nD τ).loc main_arg3)
abbrev a4 : S1x1024.Idx → EReal := m ((c : Thread nD τ).loc main_arg4)

def prodN : ℕ → ℕ → EReal := prod (num (a0 m c)) (num (a1 m c))
def strmN : ℕ → ℕ → EReal := strm (prod (num (a0 m c)) (num (a1 m c))) (num (a2 m c)) (num (a3 m c) 0)
def normN : ℕ → ℕ → EReal := unit 1024 0x44800000#32 0x358637BD#32 (strm (prod (num (a0 m c)) (num (a1 m c))) (num (a2 m c)) (num (a3 m c) 0)) (num (a4 m c) 0)

theorem weight (i : S4096x1024.Idx) : (V m c main_v0 : S4096x1024.Idx → EReal) i = num (a1 m c) (i 0).val (i 1).val := by
  refine Eq.trans ?_ (num_eq (a1 m c) i)
  unfold V
  after_reads_simp
  rfl

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem blk0 (t : Fin cfg0.N) (i : S512x4096.Idx) : iblk m c 0 t i = num (a0 m c) (t.val * 512 + (i 0).val) (i 1).val := by
  refine ((congrFun (V_main_arg0 m c) _).trans (num_eq (a0 m c) _)).trans ?_
  blk_simp [idx t]
theorem blk1 (t : Fin cfg0.N) (i : S4096x1024.Idx) : iblk m c 1 t i = num (a1 m c) (i 0).val (i 1).val := by
  refine (weight m c _).trans ?_
  blk_simp [idx t]
theorem blk2 (t : Fin cfg0.N) (i : S512x1024.Idx) : iblk m c 2 t i = num (a2 m c) (t.val * 512 + (i 0).val) (i 1).val := by
  refine ((congrFun (V_main_arg2 m c) _).trans (num_eq (a2 m c) _)).trans ?_
  blk_simp [idx t]
theorem blk3 (t : Fin cfg0.N) (i : S1x1024.Idx) : iblk m c 3 t i = num (a3 m c) 0 (i 1).val := by
  refine ((congrFun (V_main_arg3 m c) _).trans (row_eq (a3 m c) _)).trans ?_
  blk_simp [idx t]
theorem blk4 (t : Fin cfg0.N) (i : S1x1024.Idx) : iblk m c 4 t i = num (a4 m c) 0 (i 1).val := by
  refine ((congrFun (V_main_arg4 m c) _).trans (row_eq (a4 m c) _)).trans ?_
  blk_simp [idx t]

/-! ## The three arrays after the run -/

theorem row5 (t : Fin cfg0.N) (y : S512x1024.Idx) : out0_5 (iblk m c 0 t) (iblk m c 1 t) (iblk m c 2 t) (iblk m c 3 t) (iblk m c 4 t) y
    = prodN m c (t.val * 512 + (y 0).val) (y 1).val := by
  have key := pay2_at (blk0 m c t) (blk1 m c t) y
  unfold out0_5
  dsimp only
  frame_out
  exact key

theorem final5 (i : S16384x1024.Idx) : ((dats m 0 c).arrAt 5 cfg0.N : (⟨S16384x1024, .f32⟩ : BufTy).Contents (Elt Ideal)) i
    = prodN m c (i 0).val (i 1).val := by
  refine congrFun ((dats m 0 c).arrAt_eq_of_covers 5 (fun i : S16384x1024.Idx => prodN m c (i 0).val (i 1).val)
    (by decide +kernel) fun t _ y => ?_) i
  rw [after0_5]
  blk_simp [idx t]
  exact row5 m c t y

theorem row6 (t : Fin cfg0.N) (y : S512x1024.Idx) : out0_6 (iblk m c 0 t) (iblk m c 1 t) (iblk m c 2 t) (iblk m c 3 t) (iblk m c 4 t) y
    = strmN m c (t.val * 512 + (y 0).val) (y 1).val := by
  have key := pay3_at (blk0 m c t) (blk1 m c t) (blk2 m c t) (blk3 m c t) y
  unfold out0_6
  dsimp only
  frame_out
  exact key

theorem final6 (i : S16384x1024.Idx) : ((dats m 0 c).arrAt 6 cfg0.N : (⟨S16384x1024, .f32⟩ : BufTy).Contents (Elt Ideal)) i
    = strmN m c (i 0).val (i 1).val := by
  refine congrFun ((dats m 0 c).arrAt_eq_of_covers 6 (fun i : S16384x1024.Idx => strmN m c (i 0).val (i 1).val)
    (by decide +kernel) fun t _ y => ?_) i
  rw [after0_6]
  blk_simp [idx t]
  exact row6 m c t y

theorem row7 (t : Fin cfg0.N) (y : S512x1024.Idx) : out0_7 (iblk m c 0 t) (iblk m c 1 t) (iblk m c 2 t) (iblk m c 3 t) (iblk m c 4 t) y
    = normN m c (t.val * 512 + (y 0).val) (y 1).val := by
  have key := out_at (blk0 m c t) (blk1 m c t) (blk2 m c t) (blk3 m c t) (blk4 m c t) y
  unfold out0_7
  dsimp only
  frame_out
  exact key

theorem final7 (i : S16384x1024.Idx) : ((dats m 0 c).arrAt 7 cfg0.N : (⟨S16384x1024, .bf16⟩ : BufTy).Contents (Elt Ideal)) i
    = normN m c (i 0).val (i 1).val := by
  refine congrFun ((dats m 0 c).arrAt_eq_of_covers 7 (fun i : S16384x1024.Idx => normN m c (i 0).val (i 1).val)
    (by decide +kernel) fun t _ y => ?_) i
  rw [after0_7]
  blk_simp [idx t]
  exact row7 m c t y

end Run

end Cert.Ff2F

namespace Cert.Ff2F.Ref

open Cert.Reference9Ideal Cert.Reference9Ideal.Gen Cert.Reference9Ideal.Read Cert.Fwd

section

variable {x0 : (⟨S16384x4096, .f32⟩ : BufTy).Contents (Elt Ideal)} {x1 : (⟨S4096x1024, .f32⟩ : BufTy).Contents (Elt Ideal)}
  {x2 : (⟨S16384x1024, .f32⟩ : BufTy).Contents (Elt Ideal)} {x3 x4 : (⟨S1x1024, .f32⟩ : BufTy).Contents (Elt Ideal)}
  {U W X : ℕ → ℕ → EReal} {g gm : ℕ → EReal}
  (h0 : ∀ i, x0 i = U (i 0).val (i 1).val) (h1 : ∀ i, x1 i = W (i 0).val (i 1).val) (h2 : ∀ i, x2 i = X (i 0).val (i 1).val)
  (h3 : ∀ i, x3 i = g (i 1).val) (h4 : ∀ i, x4 i = gm (i 1).val)

include h0 in
theorem v1 (i : S16384x4096.Idx) : val_main_v1 (F := Ideal) x0 i = act U (i 0).val (i 1).val := by
  unfold val_main_v1 val_main_v0 val_main_call0_v0 val_main_call0_cst
  pointwise [h0]
  rfl

include h0 h1 in
theorem v2 (i : S16384x1024.Idx) : val_main_v2 (F := Ideal) x0 x1 i = prod U W (i 0).val (i 1).val := by
  have h := v1 h0
  unfold val_main_v2
  generalize val_main_v1 (F := Ideal) x0 = z at h ⊢
  pointwise [h, h1]
  rfl

include h0 h1 h2 h3 in
theorem v15 (i : S16384x1024.Idx) : val_main_v15 (F := Ideal) x0 x1 x2 x3 i = strm (prod U W) X g (i 0).val (i 1).val := by
  have h := v2 h0 h1
  unfold val_main_v15 val_main_v14 val_main_v13 val_main_v12 val_main_v11 val_main_v10 val_main_v9 val_main_v8 val_main_v7 val_main_v6 val_main_v5 val_main_v4 val_main_v3 val_main_cst val_main_cst_0 val_main_cst_1
  generalize val_main_v2 (F := Ideal) x0 x1 = z at h ⊢
  pointwise [h, h2, h3]
  rfl

include h0 h1 h2 h3 h4 in
theorem v28 (i : S16384x1024.Idx) : val_main_v28 (F := Ideal) x0 x1 x2 x3 x4 i
    = unit 1024 0x44800000#32 0x358637BD#32 (strm (prod U W) X g) gm (i 0).val (i 1).val := by
  have h := v15 h0 h1 h2 h3
  unfold val_main_v28 val_main_v27 val_main_v26 val_main_v25 val_main_v24 val_main_v23 val_main_v22 val_main_v21 val_main_v20 val_main_v19 val_main_v18 val_main_v17 val_main_v16 val_main_cst_2 val_main_cst_3 val_main_cst_4
  generalize val_main_v15 (F := Ideal) x0 x1 x2 x3 = z at h ⊢
  pointwise [h, h4]
  rfl

end

end Cert.Ff2F.Ref

end
-- ==== Proof.Ff2FwdClaim.lean ====
/- The claim of the forward call through the second feed-forward product: its reference rests, and the three results are the reference's. -/
module

public import proofs.«01_k».proof.Proof.Ff2Fwd
public import proofs.«01_k».proof.Defs
public import Idealize.ShloMosaic.Lib.Claim

@[expose] public section

set_option maxRecDepth 16384

open Idealize.ShloMosaic Idealize.ShloMosaic.TcCoe Idealize.SL.Sem

namespace Cert.Ff2F.Claim

open Cert.Kernel9Ideal Cert.Fwd

theorem frame_reference : Cert.quiescent_Reference9Ideal := by
  intro m g _
  exact (θ_run Cert.Reference9Ideal.defs _ _).mono
    (fun r h => ⟨fun c => (h c).2.2.2, sem_eq_zero_of_no_sems (by decide) r.2⟩) (Cert.Reference9Ideal.Value.run m g)

theorem algebraic : Cert.algebraic_Kernel9Ideal_Reference9Ideal := by
  intro m g m' g' _ hargs
  have key : ∀ c : Dev nD,
      (Gen.dats m 0 c).arrAt 5 cfg0.N = Cert.Reference9Ideal.Read.val_main_v2 (F := Ideal) (m' ((c.tc : Thread _ Cert.Reference9Ideal.τ).loc Cert.Reference9Ideal.main_arg0)) (m' ((c.tc : Thread _ Cert.Reference9Ideal.τ).loc Cert.Reference9Ideal.main_arg1))
      ∧ (Gen.dats m 0 c).arrAt 6 cfg0.N = Cert.Reference9Ideal.Read.val_main_v15 (F := Ideal) (m' ((c.tc : Thread _ Cert.Reference9Ideal.τ).loc Cert.Reference9Ideal.main_arg0)) (m' ((c.tc : Thread _ Cert.Reference9Ideal.τ).loc Cert.Reference9Ideal.main_arg1)) (m' ((c.tc : Thread _ Cert.Reference9Ideal.τ).loc Cert.Reference9Ideal.main_arg2)) (m' ((c.tc : Thread _ Cert.Reference9Ideal.τ).loc Cert.Reference9Ideal.main_arg3))
      ∧ (Gen.dats m 0 c).arrAt 7 cfg0.N = Cert.Reference9Ideal.Read.val_main_v28 (F := Ideal) (m' ((c.tc : Thread _ Cert.Reference9Ideal.τ).loc Cert.Reference9Ideal.main_arg0)) (m' ((c.tc : Thread _ Cert.Reference9Ideal.τ).loc Cert.Reference9Ideal.main_arg1)) (m' ((c.tc : Thread _ Cert.Reference9Ideal.τ).loc Cert.Reference9Ideal.main_arg2)) (m' ((c.tc : Thread _ Cert.Reference9Ideal.τ).loc Cert.Reference9Ideal.main_arg3)) (m' ((c.tc : Thread _ Cert.Reference9Ideal.τ).loc Cert.Reference9Ideal.main_arg4)) := by
    intro c
    obtain ⟨e0, e1, e2, e3, e4⟩ := hargs c
    have g0 := fun i => (congrFun e0 i).trans (num_eq (a0 m c) i)
    have g1 := fun i => (congrFun e1 i).trans (num_eq (a1 m c) i)
    have g2 := fun i => (congrFun e2 i).trans (num_eq (a2 m c) i)
    have g3 := fun i => (congrFun e3 i).trans (row_eq (a3 m c) i)
    have g4 := fun i => (congrFun e4 i).trans (row_eq (a4 m c) i)
    exact ⟨funext fun i => (final5 m c i).trans (Ref.v2 g0 g1 i).symm,
      funext fun i => (final6 m c i).trans (Ref.v15 g0 g1 g2 g3 i).symm,
      funext fun i => (final7 m c i).trans (Ref.v28 g0 g1 g2 g3 g4 i).symm⟩
  exact ⟨_, _, _, Cert.Kernel9Ideal.Value.run_blocks m g,
    (θ_run Cert.Reference9Ideal.defs _ _).mono (fun r h c => ⟨((h c).1.trans (Cert.Reference9Ideal.Read.val_main_v2_eq _ _)).trans (key c).1.symm,
      ((h c).2.1.trans (Cert.Reference9Ideal.Read.val_main_v15_eq _ _ _ _)).trans (key c).2.1.symm,
      ((h c).2.2.1.trans (Cert.Reference9Ideal.Read.val_main_v28_eq m' c)).trans (key c).2.2.symm, (h c).2.2.2⟩) (Cert.Reference9Ideal.Value.run m' g')⟩

end Cert.Ff2F.Claim
-- ==== Proof.Ff1Spec.lean ====
/- The gradients through the first feed-forward product and the two norms around it, over the reals. -/
module

public import proofs.«01_k».proof.Proof.Rms

@[expose] public section

noncomputable section

namespace Cert.Ff1

open Finset Cert.Rms

variable (X Y2 W DH DU : ℕ → ℕ → ℝ) (GP GM : ℕ → ℝ)

/-- The residual stream after the mixer's norm. -/
def H1 (t d : ℕ) : ℝ := X t d + Y2 t d * rs 1024 Y2 t * GP d
/-- The gradient with respect to the product's left factor. -/
def DN (t d : ℕ) : ℝ := ∑ j ∈ range 4096, DU t j * W d j
/-- The gradient with respect to the residual stream. -/
def dH1 (t d : ℕ) : ℝ := DH t d + bwd 1024 (H1 X Y2 GP) (fun t d => DN W DU t d * GM d) t d
/-- The gradient with respect to the mixer's output. -/
def dY2 (t d : ℕ) : ℝ := bwd 1024 Y2 (fun t d => dH1 X Y2 W DH DU GP GM t d * GP d) t d
/-- A row's share of the gradients with respect to the two norms' gains. -/
def gm (t d : ℕ) : ℝ := DN W DU t d * (H1 X Y2 GP t d * rs 1024 (H1 X Y2 GP) t)
def gp (t d : ℕ) : ℝ := dH1 X Y2 W DH DU GP GM t d * (Y2 t d * rs 1024 Y2 t)

end Cert.Ff1
-- ==== Proof.Ff1Bwd.lean ====
/- The call through the first feed-forward product: what each grid point leaves, and the four arrays after the run. -/
module

public import proofs.«01_k».proof.Proof.Gen.Kernel3Ideal.Value
public import proofs.«01_k».proof.Proof.Ff1Spec
public import Idealize.ShloMosaic.Lib.Pipeline.ValueKit
public import Idealize.ShloMosaic.Lib.Pointwise
public import Idealize.ShloMosaic.Lib.Claim
public import Idealize.ShloMosaic.Lib.WritesUnit

@[expose] public section

set_option maxRecDepth 16384

noncomputable section

open Idealize.ShloMosaic Idealize.ShloMosaic.TcCoe Idealize.SL.Sem

namespace Cert.Ff1.Bwd

open Cert.Kernel3Ideal Cert.Kernel3Ideal.Gen Finset Cert.Rms Cert.AttnA

/-! ## What a block of rows computes -/

section
variable {A B G W DU : ℕ → ℕ → ℝ} {g : ℕ → ℝ} {T : ℕ}
variable {u : Vec Ideal S512x4096 .bf16} {w : Vec Ideal S1024x4096 .bf16} {x a : Vec Ideal S512x1024 .f32} {v p : Vec Ideal S1x1024 .f32}

theorem dn (hu : ∀ i : S512x4096.Idx, u i = ((DU (T + (i 0).val) (i 1).val : ℝ) : EReal))
    (hw : ∀ i : S1024x4096.Idx, w i = ((W (i 0).val (i 1).val : ℝ) : EReal)) (i : S512x1024.Idx) :
    k0_pay2 u w i = ((DN W DU (T + (i 0).val) (i 1).val : ℝ) : EReal) := by
  pointwise [k0_pay2]
  exact sum_fin (fun j => DU (T + (i 0).val) j * W (i 1).val j) fun j => by rw [hu, hw, ← EReal.coe_mul]; rfl

theorem r1 (hx : ∀ i : S512x1024.Idx, x i = ((A (T + (i 0).val) (i 1).val : ℝ) : EReal)) (i : S512x1.Idx) :
    k0_pay4 x i = ((rs 1024 A (T + (i 0).val) : ℝ) : EReal) := by
  pointwise [k0_pay4, k0_pay3]
  exact rs_val (by decide) (by rw [ofBits_1024]; norm_num) fun k => hx _

theorem n1 (hx : ∀ i : S512x1024.Idx, x i = ((A (T + (i 0).val) (i 1).val : ℝ) : EReal)) (i : S512x1024.Idx) :
    k0_pay5 x i = ((A (T + (i 0).val) (i 1).val * rs 1024 A (T + (i 0).val) : ℝ) : EReal) := by
  unfold k0_pay5
  generalize h : k0_pay4 x = r
  pointwise [k0_pay3]
  rw [← h, r1 hx, hx, EReal.coe_mul]
  rfl

theorem r2 (hx : ∀ i : S512x1024.Idx, x i = ((A (T + (i 0).val) (i 1).val : ℝ) : EReal)) (i : S512x1.Idx) :
    k0_pay10 x i = ((rs 1024 A (T + (i 0).val) : ℝ) : EReal) := by
  pointwise [k0_pay10]
  exact rs_val (by decide) (by rw [ofBits_1024]; norm_num) fun k => hx _

theorem n2 (hx : ∀ i : S512x1024.Idx, x i = ((A (T + (i 0).val) (i 1).val : ℝ) : EReal)) (i : S512x1024.Idx) :
    k0_pay11 x i = ((A (T + (i 0).val) (i 1).val * rs 1024 A (T + (i 0).val) : ℝ) : EReal) := by
  unfold k0_pay11
  generalize h : k0_pay10 x = r
  pointwise []
  rw [← h, r2 hx, hx, EReal.coe_mul]
  rfl

theorem b1 (hu : ∀ i : S512x4096.Idx, u i = ((DU (T + (i 0).val) (i 1).val : ℝ) : EReal))
    (hw : ∀ i : S1024x4096.Idx, w i = ((W (i 0).val (i 1).val : ℝ) : EReal))
    (hx : ∀ i : S512x1024.Idx, x i = ((A (T + (i 0).val) (i 1).val : ℝ) : EReal))
    (hv : ∀ i : S1x1024.Idx, v i = ((g (i 1).val : ℝ) : EReal)) (i : S512x1024.Idx) :
    k0_pay6 u w x v i = ((bwd 1024 A (fun t d => DN W DU t d * g d) (T + (i 0).val) (i 1).val : ℝ) : EReal) := by
  unfold k0_pay6
  have hy := dn hu hw
  have hr := r1 hx
  have hn := n1 hx
  generalize k0_pay2 u w = y at *
  generalize k0_pay5 x = n at *
  generalize k0_pay4 x = r at *
  pointwise []
  refine bwd_val (G := fun t d => DN W DU t d * g d) (by decide) (by rw [ofBits_1024]; norm_num) (hr _) ?_ (hn _) fun k => ?_
  · rw [hy, hv, ← EReal.coe_mul]; rfl
  · rw [hy, hv, hn, ← EReal.coe_mul, ← EReal.coe_mul]; rfl

theorem b2 (hx : ∀ i : S512x1024.Idx, x i = ((A (T + (i 0).val) (i 1).val : ℝ) : EReal))
    (ha : ∀ i : S512x1024.Idx, a i = ((B (T + (i 0).val) (i 1).val : ℝ) : EReal)) {e : FVec Ideal S512x1024 .f32}
    (he : ∀ i : S512x1024.Idx, e i = ((G (T + (i 0).val) (i 1).val : ℝ) : EReal))
    (hv : ∀ i : S1x1024.Idx, v i = ((g (i 1).val : ℝ) : EReal)) (i : S512x1024.Idx) :
    k0_pay12 e a x v i = ((bwd 1024 A (fun t d => (B t d + G t d) * g d) (T + (i 0).val) (i 1).val : ℝ) : EReal) := by
  unfold k0_pay12
  have hr := r2 hx
  have hn := n2 hx
  generalize k0_pay11 x = n at *
  generalize k0_pay10 x = r at *
  pointwise [k0_pay9]
  refine bwd_val (G := fun t d => (B t d + G t d) * g d) (by decide) (by rw [ofBits_1024]; norm_num) (hr _) ?_ (hn _) fun k => ?_
  · rw [ha, he, hv, ← EReal.coe_add, ← EReal.coe_mul]; rfl
  · rw [ha, he, hv, hn, ← EReal.coe_add, ← EReal.coe_mul, ← EReal.coe_mul]; rfl

theorem c1 (hu : ∀ i : S512x4096.Idx, u i = ((DU (T + (i 0).val) (i 1).val : ℝ) : EReal))
    (hw : ∀ i : S1024x4096.Idx, w i = ((W (i 0).val (i 1).val : ℝ) : EReal))
    (hx : ∀ i : S512x1024.Idx, x i = ((A (T + (i 0).val) (i 1).val : ℝ) : EReal)) (i : S1x1024.Idx) :
    k0_pay8 u w x p i = p i + ((∑ r ∈ range 512, DN W DU (T + r) (i 1).val * (A (T + r) (i 1).val * rs 1024 A (T + r)) : ℝ) : EReal) := by
  unfold k0_pay8
  have hy := dn hu hw
  have hn := n1 hx
  generalize k0_pay2 u w = y at *
  generalize k0_pay5 x = n at *
  pointwise []
  refine congrArg _ (sum_fin (fun r => DN W DU (T + r) (i 1).val * (A (T + r) (i 1).val * rs 1024 A (T + r))) fun r => ?_)
  rw [hy, hn, ← EReal.coe_mul]; rfl

theorem c2 (hx : ∀ i : S512x1024.Idx, x i = ((A (T + (i 0).val) (i 1).val : ℝ) : EReal))
    (ha : ∀ i : S512x1024.Idx, a i = ((B (T + (i 0).val) (i 1).val : ℝ) : EReal)) {e : FVec Ideal S512x1024 .f32}
    (he : ∀ i : S512x1024.Idx, e i = ((G (T + (i 0).val) (i 1).val : ℝ) : EReal)) (i : S1x1024.Idx) :
    k0_pay14 e a x p i = p i + ((∑ r ∈ range 512, (B (T + r) (i 1).val + G (T + r) (i 1).val) * (A (T + r) (i 1).val * rs 1024 A (T + r)) : ℝ) : EReal) := by
  unfold k0_pay14
  have hn := n2 hx
  generalize k0_pay11 x = n at *
  pointwise [k0_pay9]
  refine congrArg _ (sum_fin (fun r => (B (T + r) (i 1).val + G (T + r) (i 1).val) * (A (T + r) (i 1).val * rs 1024 A (T + r))) fun r => ?_)
  rw [ha, he, hn, ← EReal.coe_add, ← EReal.coe_mul]; rfl
end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

section
variable {X Y2 W DH DU : ℕ → ℕ → ℝ} {GP GM : ℕ → ℝ}
  (hdu : ∀ i : S16384x4096.Idx, V m c main_v13 i = ((DU (i 0).val (i 1).val : ℝ) : EReal))
  (hw : ∀ i : S1024x4096.Idx, V m c main_v14 i = ((W (i 0).val (i 1).val : ℝ) : EReal))
  (hdh : ∀ i : S16384x1024.Idx, V m c main_arg5 i = ((DH (i 0).val (i 1).val : ℝ) : EReal))
  (hh : ∀ i : S16384x1024.Idx, V m c main_v12 i = ((H1 X Y2 GP (i 0).val (i 1).val : ℝ) : EReal))
  (hy : ∀ i : S16384x1024.Idx, V m c main_arg1 i = ((Y2 (i 0).val (i 1).val : ℝ) : EReal))
  (hgm : ∀ i : S1x1024.Idx, V m c main_arg3 i = ((GM (i 1).val : ℝ) : EReal))
  (hgp : ∀ i : S1x1024.Idx, V m c main_arg2 i = ((GP (i 1).val : ℝ) : EReal))

/-! ## The blocks a grid point reads -/

include hdu in
theorem blk0 (t : Fin cfg0.N) (i : S512x4096.Idx) : iblk m c 0 t i = ((DU (t.val * 512 + (i 0).val) (i 1).val : ℝ) : EReal) := by
  refine (hdu _).trans ?_
  blk_simp [idx t]
include hw in
theorem blk1 (t : Fin cfg0.N) (i : S1024x4096.Idx) : iblk m c 1 t i = ((W (i 0).val (i 1).val : ℝ) : EReal) := by
  refine (hw _).trans ?_
  blk_simp [idx t]
include hdh in
theorem blk2 (t : Fin cfg0.N) (i : S512x1024.Idx) : iblk m c 2 t i = ((DH (t.val * 512 + (i 0).val) (i 1).val : ℝ) : EReal) := by
  refine (hdh _).trans ?_
  blk_simp [idx t]
include hh in
theorem blk3 (t : Fin cfg0.N) (i : S512x1024.Idx) :
    iblk m c 3 t i = ((H1 X Y2 GP (t.val * 512 + (i 0).val) (i 1).val : ℝ) : EReal) := by
  refine (hh _).trans ?_
  blk_simp [idx t]
include hy in
theorem blk4 (t : Fin cfg0.N) (i : S512x1024.Idx) : iblk m c 4 t i = ((Y2 (t.val * 512 + (i 0).val) (i 1).val : ℝ) : EReal) := by
  refine (hy _).trans ?_
  blk_simp [idx t]
include hgm in
theorem blk5 (t : Fin cfg0.N) (i : S1x1024.Idx) : iblk m c 5 t i = ((GM (i 1).val : ℝ) : EReal) := by
  refine (hgm _).trans ?_
  blk_simp [idx t]
include hgp in
theorem blk6 (t : Fin cfg0.N) (i : S1x1024.Idx) : iblk m c 6 t i = ((GP (i 1).val : ℝ) : EReal) := by
  refine (hgp _).trans ?_
  blk_simp [idx t]

/-! ## What a grid point leaves -/

include hdu hw hdh hh hgm in
theorem row7 (t : Fin cfg0.N) (y : S512x1024.Idx) : (outsAt0 m c t.val t.isLt).1 y
    = ((dH1 X Y2 W DH DU GP GM (t.val * 512 + (y 0).val) (y 1).val : ℝ) : EReal) := by
  have key : k0_pay9 (k0_pay6 (iblk m c 0 t) (iblk m c 1 t) (iblk m c 3 t) (iblk m c 5 t)) (iblk m c 2 t) y
      = ((dH1 X Y2 W DH DU GP GM (t.val * 512 + (y 0).val) (y 1).val : ℝ) : EReal) := by
    have h := b1 (blk0 m c hdu t) (blk1 m c hw t) (blk3 m c hh t) (blk5 m c hgm t) y
    generalize k0_pay6 (iblk m c 0 t) (iblk m c 1 t) (iblk m c 3 t) (iblk m c 5 t) = e at *
    pointwise [k0_pay9]
    rw [h, blk2 m c hdh t, ← EReal.coe_add]
    rfl
  by_cases h0 : t.val % 32 = 0
  · rw [outsAt0_A m c t h0 h0]
    unfold out0_A_7 kernelRun0_A
    dsimp only
    frame_out
    exact key
  · rw [outsAt0_B m c t h0 h0]
    unfold out0_B_7 kernelRun0_B
    dsimp only
    frame_out
    exact key

include hdu hw hdh hh hy hgm hgp in
theorem row8 (t : Fin cfg0.N) (y : S512x1024.Idx) : (outsAt0 m c t.val t.isLt).2.1 y
    = ((dY2 X Y2 W DH DU GP GM (t.val * 512 + (y 0).val) (y 1).val : ℝ) : EReal) := by
  have key := b2 (blk4 m c hy t) (blk2 m c hdh t) (b1 (blk0 m c hdu t) (blk1 m c hw t) (blk3 m c hh t) (blk5 m c hgm t)) (blk6 m c hgp t) y
  by_cases h0 : t.val % 32 = 0
  · rw [outsAt0_A m c t h0 h0]
    unfold out0_A_8 kernelRun0_A
    dsimp only
    frame_out
    exact key
  · rw [outsAt0_B m c t h0 h0]
    unfold out0_B_8 kernelRun0_B
    dsimp only
    frame_out
    exact key

include hdu hw hh in
theorem sum9 (d : Fin 1024) : ∀ n (hn : n < cfg0.N), (outsAt0 m c n hn).2.2.1 (ix2 0 d)
    = ((∑ t ∈ range ((n + 1) * 512), gm X Y2 W DU GP t d.val : ℝ) : EReal)
  | 0, hn => by
    rw [outsAt0_A m c ⟨0, hn⟩ rfl rfl]
    unfold out0_A_9 kernelRun0_A
    dsimp only
    frame_out
    rw [c1 (blk0 m c hdu ⟨0, hn⟩) (blk1 m c hw ⟨0, hn⟩) (blk3 m c hh ⟨0, hn⟩)]
    pointwise [k0_pay7]
    rfl
  | n + 1, hn => by
    have hN : cfg0.N = 32 := rfl
    have h0 : ¬ (n + 1) % 32 = 0 := by omega
    rw [outsAt0_B m c ⟨n + 1, hn⟩ h0 h0]
    unfold out0_B_9 kernelRun0_B
    dsimp only
    frame_out
    rw [c1 (blk0 m c hdu ⟨n + 1, hn⟩) (blk1 m c hw ⟨n + 1, hn⟩) (blk3 m c hh ⟨n + 1, hn⟩)]
    simp only [Nat.add_sub_cancel]
    rw [sum9 d n (by omega), ← EReal.coe_add, show (n + 1 + 1) * 512 = (n + 1) * 512 + 512 from by omega, sum_range_add]
    rfl

include hdu hw hdh hh hy hgm in
theorem sum10 (d : Fin 1024) : ∀ n (hn : n < cfg0.N), (outsAt0 m c n hn).2.2.2 (ix2 0 d)
    = ((∑ t ∈ range ((n + 1) * 512), gp X Y2 W DH DU GP GM t d.val : ℝ) : EReal)
  | 0, hn => by
    rw [outsAt0_A m c ⟨0, hn⟩ rfl rfl]
    unfold out0_A_10 kernelRun0_A
    dsimp only
    frame_out
    rw [c2 (blk4 m c hy ⟨0, hn⟩) (blk2 m c hdh ⟨0, hn⟩) (b1 (blk0 m c hdu ⟨0, hn⟩) (blk1 m c hw ⟨0, hn⟩) (blk3 m c hh ⟨0, hn⟩) (blk5 m c hgm ⟨0, hn⟩))]
    pointwise [k0_pay13]
    rfl
  | n + 1, hn => by
    have hN : cfg0.N = 32 := rfl
    have h0 : ¬ (n + 1) % 32 = 0 := by omega
    rw [outsAt0_B m c ⟨n + 1, hn⟩ h0 h0]
    unfold out0_B_10 kernelRun0_B
    dsimp only
    frame_out
    rw [c2 (blk4 m c hy ⟨n + 1, hn⟩) (blk2 m c hdh ⟨n + 1, hn⟩)
      (b1 (blk0 m c hdu ⟨n + 1, hn⟩) (blk1 m c hw ⟨n + 1, hn⟩) (blk3 m c hh ⟨n + 1, hn⟩) (blk5 m c hgm ⟨n + 1, hn⟩))]
    simp only [Nat.add_sub_cancel]
    rw [sum10 d n (by omega), ← EReal.coe_add, show (n + 1 + 1) * 512 = (n + 1) * 512 + 512 from by omega, sum_range_add]
    rfl

/-! ## The arrays after the run -/

include hdu hw hdh hh hgm in
theorem final7 (i : S16384x1024.Idx) : ((dats m 0 c).arrAt 7 cfg0.N : (⟨S16384x1024, .f32⟩ : BufTy).Contents (Elt Ideal)) i
    = ((dH1 X Y2 W DH DU GP GM (i 0).val (i 1).val : ℝ) : EReal) := by
  refine congrFun ((dats m 0 c).arrAt_eq_of_covers 7 (fun i : S16384x1024.Idx => ((dH1 X Y2 W DH DU GP GM (i 0).val (i 1).val : ℝ) : EReal))
    (by decide +kernel) fun t _ y => ?_) i
  rw [after0_7]
  blk_simp [idx t]
  exact row7 m c hdu hw hdh hh hgm t y

include hdu hw hdh hh hy hgm hgp in
theorem final8 (i : S16384x1024.Idx) : ((dats m 0 c).arrAt 8 cfg0.N : (⟨S16384x1024, .bf16⟩ : BufTy).Contents (Elt Ideal)) i
    = ((dY2 X Y2 W DH DU GP GM (i 0).val (i 1).val : ℝ) : EReal) := by
  refine congrFun ((dats m 0 c).arrAt_eq_of_covers 8 (fun i : S16384x1024.Idx => ((dY2 X Y2 W DH DU GP GM (i 0).val (i 1).val : ℝ) : EReal))
    (by decide +kernel) fun t _ y => ?_) i
  rw [after0_8]
  blk_simp [idx t]
  exact row8 m c hdu hw hdh hh hy hgm hgp t y

theorem flush9 : ∀ t : Fin cfg0.N, (cfg0.win 9).flush t = true → t.val = 31 := (by decide +kernel : ∀ t : Fin grid0.N, _)
theorem flush10 : ∀ t : Fin cfg0.N, (cfg0.win 10).flush t = true → t.val = 31 := (by decide +kernel : ∀ t : Fin grid0.N, _)

include hdu hw hh in
theorem final9 (i : S1x1024.Idx) : ((dats m 0 c).arrAt 9 cfg0.N : (⟨S1x1024, .f32⟩ : BufTy).Contents (Elt Ideal)) i
    = ((∑ t ∈ range 16384, gm X Y2 W DU GP t (i 1).val : ℝ) : EReal) := by
  refine congrFun ((dats m 0 c).arrAt_eq_of_covers 9 (fun i : S1x1024.Idx => ((∑ t ∈ range 16384, gm X Y2 W DU GP t (i 1).val : ℝ) : EReal))
    (by decide +kernel) fun t hf y => ?_) i
  have hf := flush9 t hf
  rw [after0_9]
  blk_simp [idx t]
  have h0 : (y 0).val < 1 := (y 0).isLt
  refine (congrArg _ (?_ : y = ix2 0 (y 1))).trans ((sum9 m c hdu hw hh (y 1) t.val t.isLt).trans ?_)
  · blk_ext
  · rw [hf]

include hdu hw hdh hh hy hgm in
theorem final10 (i : S1x1024.Idx) : ((dats m 0 c).arrAt 10 cfg0.N : (⟨S1x1024, .f32⟩ : BufTy).Contents (Elt Ideal)) i
    = ((∑ t ∈ range 16384, gp X Y2 W DH DU GP GM t (i 1).val : ℝ) : EReal) := by
  refine congrFun ((dats m 0 c).arrAt_eq_of_covers 10 (fun i : S1x1024.Idx => ((∑ t ∈ range 16384, gp X Y2 W DH DU GP GM t (i 1).val : ℝ) : EReal))
    (by decide +kernel) fun t hf y => ?_) i
  have hf := flush10 t hf
  rw [after0_10]
  blk_simp [idx t]
  have h0 : (y 0).val < 1 := (y 0).isLt
  refine (congrArg _ (?_ : y = ix2 0 (y 1))).trans ((sum10 m c hdu hw hdh hh hy hgm (y 1) t.val t.isLt).trans ?_)
  · blk_ext
  · rw [hf]
end

/-! ## The host lines before the call -/

/-- The residual stream after the mixer's norm, as the host lines compute it. -/
def stream (x y : FVec Ideal S16384x1024 .f32) (g : FVec Ideal S1x1024 .f32) : FVec Ideal S16384x1024 .f32 :=
  addf x (mulf (mulf y (broadcastInDim S16384x1024 ![0, 1] bcast_S16384x1_S16384x1024_0_1 (Host.rsqrt (addf (Host.divf
    (broadcastInDim S16384x1 ![0] bcast_S16384_S16384x1_0 (Host.reduceAdd (mulf y y) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 g))

theorem stream_apply {X Y2 : ℕ → ℕ → ℝ} {GP : ℕ → ℝ} {x y : FVec Ideal S16384x1024 .f32} {g : FVec Ideal S1x1024 .f32}
    (hx : ∀ i : S16384x1024.Idx, x i = ((X (i 0).val (i 1).val : ℝ) : EReal))
    (hy : ∀ i : S16384x1024.Idx, y i = ((Y2 (i 0).val (i 1).val : ℝ) : EReal))
    (hg : ∀ i : S1x1024.Idx, g i = ((GP (i 1).val : ℝ) : EReal)) (i : S16384x1024.Idx) :
    stream x y g i = ((H1 X Y2 GP (i 0).val (i 1).val : ℝ) : EReal) := by
  unfold stream
  pointwise []
  rw [rs_val (X := Y2) (t := (i 0).val) (by decide) (by rw [ofBits_1024]; norm_num) fun k => hy _, hx, hy, hg,
    ← EReal.coe_mul, ← EReal.coe_mul, ← EReal.coe_add]
  rfl

theorem read_h {X Y2 : ℕ → ℕ → ℝ} {GP : ℕ → ℝ}
    (hx : ∀ i : S16384x1024.Idx, m ((c.tc : Thread nD τ).loc main_arg0) i = ((X (i 0).val (i 1).val : ℝ) : EReal))
    (hy : ∀ i : S16384x1024.Idx, m ((c.tc : Thread nD τ).loc main_arg1) i = ((Y2 (i 0).val (i 1).val : ℝ) : EReal))
    (hg : ∀ i : S1x1024.Idx, m ((c.tc : Thread nD τ).loc main_arg2) i = ((GP (i 1).val : ℝ) : EReal)) (i : S16384x1024.Idx) :
    V m c main_v12 i = ((H1 X Y2 GP (i 0).val (i 1).val : ℝ) : EReal) := by
  have e : V m c main_v12 = stream (m ((c.tc : Thread nD τ).loc main_arg0)) (m ((c.tc : Thread nD τ).loc main_arg1)) (m ((c.tc : Thread nD τ).loc main_arg2)) := by
    unfold_abbrev_sides
    after_results
    rfl
  rw [e]
  exact stream_apply hx hy hg i

/-- The two narrowing casts. -/
def narrowU (x : FVec Ideal S16384x4096 .f32) : FVec Ideal S16384x4096 .bf16 := truncf .bf16 x bitsLt_bf16_f32
def narrowW (x : FVec Ideal S1024x4096 .f32) : FVec Ideal S1024x4096 .bf16 := truncf .bf16 x bitsLt_bf16_f32

theorem read_du (i : S16384x4096.Idx) : V m c main_v13 i = m ((c.tc : Thread nD τ).loc main_arg6) i := by
  have e : V m c main_v13 = narrowU (m ((c.tc : Thread nD τ).loc main_arg6)) := by
    unfold_abbrev_sides
    after_results
    rfl
  rw [e]; rfl

theorem read_w (i : S1024x4096.Idx) : V m c main_v14 i = m ((c.tc : Thread nD τ).loc main_arg4) i := by
  have e : V m c main_v14 = narrowW (m ((c.tc : Thread nD τ).loc main_arg4)) := by
    unfold_abbrev_sides
    after_results
    rfl
  rw [e]; rfl

theorem read1 : V m c main_arg1 = m ((c.tc : Thread nD τ).loc main_arg1) := by unfold_abbrev_sides; after_results
theorem read2 : V m c main_arg2 = m ((c.tc : Thread nD τ).loc main_arg2) := by unfold_abbrev_sides; after_results
theorem read3 : V m c main_arg3 = m ((c.tc : Thread nD τ).loc main_arg3) := by unfold_abbrev_sides; after_results
theorem read5 : V m c main_arg5 = m ((c.tc : Thread nD τ).loc main_arg5) := by unfold_abbrev_sides; after_results

end Cert.Ff1.Bwd
-- ==== Proof.Ff1Ref.lean ====
/- What the norms, the first feed-forward product and their `jax.vjp` compute over the reals: the four results. -/
module

public import proofs.«01_k».proof.Proof.Gen.Reference3Ideal.Read
public import proofs.«01_k».proof.Proof.Ff1Spec

@[expose] public section

set_option maxRecDepth 16384

noncomputable section

namespace Cert.Ff1.Ref

open Cert.Reference3Ideal Cert.Reference3Ideal.Gen Cert.Reference3Ideal.Read Idealize.ShloMosaic Finset Cert.Rms Cert.AttnA

variable {X Y2 W DH DU : ℕ → ℕ → ℝ} {GP GM : ℕ → ℝ}
variable {x0 x1 x5 : (⟨S16384x1024, .f32⟩ : BufTy).Contents (Elt Ideal)} {x2 x3 : (⟨S1x1024, .f32⟩ : BufTy).Contents (Elt Ideal)}
  {x4 : (⟨S1024x4096, .f32⟩ : BufTy).Contents (Elt Ideal)} {x6 : (⟨S16384x4096, .f32⟩ : BufTy).Contents (Elt Ideal)}
  (h0 : ∀ i : S16384x1024.Idx, x0 i = ((X (i 0).val (i 1).val : ℝ) : EReal))
  (h1 : ∀ i : S16384x1024.Idx, x1 i = ((Y2 (i 0).val (i 1).val : ℝ) : EReal))
  (h2 : ∀ i : S1x1024.Idx, x2 i = ((GP (i 1).val : ℝ) : EReal))
  (h3 : ∀ i : S1x1024.Idx, x3 i = ((GM (i 1).val : ℝ) : EReal))
  (h4 : ∀ i : S1024x4096.Idx, x4 i = ((W (i 0).val (i 1).val : ℝ) : EReal))
  (h5 : ∀ i : S16384x1024.Idx, x5 i = ((DH (i 0).val (i 1).val : ℝ) : EReal))
  (h6 : ∀ i : S16384x4096.Idx, x6 i = ((DU (i 0).val (i 1).val : ℝ) : EReal))

theorem word : Ideal.ofBits .f32 0x44800000#32 = (((1024 : ℕ) : ℝ) : EReal) := by rw [ofBits_1024]; norm_num

/-! ## The first norm -/

include h1 in
theorem v6 (i : S16384x1.Idx) : val_main_v6 (F := Ideal) x1 i = ((ms 1024 Y2 (i 0).val : ℝ) : EReal) := by
  pointwise [val_main_v6, val_main_v5, val_main_v4, val_main_v3, val_main_v2, val_main_v1, val_main_v0, val_main_cst, val_main_cst_0, val_main_cst_1]
  exact ms_val (by decide) word fun k => h1 _

include h1 in
theorem v7 (i : S16384x1.Idx) : val_main_v7 (F := Ideal) x1 i = ((rs 1024 Y2 (i 0).val : ℝ) : EReal) := by
  rw [← rsqrt_ms, ← v6 h1 i]
  rfl

include h0 h1 h2 in
theorem v15 (i : S16384x1024.Idx) : val_main_v15 (F := Ideal) x0 x1 x2 i = ((H1 X Y2 GP (i 0).val (i 1).val : ℝ) : EReal) := by
  unfold val_main_v15 val_main_v14 val_main_v13 val_main_v12 val_main_v11
  have h := v7 h1
  generalize val_main_v7 (F := Ideal) x1 = r at *
  pointwise []
  rw [h, h0, h1, h2, ← EReal.coe_mul, ← EReal.coe_mul, ← EReal.coe_add]
  rfl

/-! ## The second norm -/

include h0 h1 h2 in
theorem v22 (i : S16384x1.Idx) : val_main_v22 (F := Ideal) x0 x1 x2 i = ((ms 1024 (H1 X Y2 GP) (i 0).val : ℝ) : EReal) := by
  unfold val_main_v22 val_main_v20 val_main_v18 val_main_v17 val_main_v16
  have h := v15 h0 h1 h2
  generalize val_main_v15 (F := Ideal) x0 x1 x2 = y at *
  pointwise [val_main_v21, val_main_v19, val_main_cst_3, val_main_cst_4, val_main_cst_5]
  exact ms_val (by decide) word fun k => h _

include h0 h1 h2 in
theorem v23 (i : S16384x1.Idx) : val_main_v23 (F := Ideal) x0 x1 x2 i = ((rs 1024 (H1 X Y2 GP) (i 0).val : ℝ) : EReal) := by
  rw [← rsqrt_ms, ← v22 h0 h1 h2 i]
  rfl

include h0 h1 h2 in
theorem v28 (i : S16384x1024.Idx) : val_main_v28 (F := Ideal) x0 x1 x2 i
    = ((H1 X Y2 GP (i 0).val (i 1).val * rs 1024 (H1 X Y2 GP) (i 0).val : ℝ) : EReal) := by
  unfold val_main_v28 val_main_v27
  have h := v15 h0 h1 h2
  have hr := v23 h0 h1 h2
  generalize val_main_v15 (F := Ideal) x0 x1 x2 = y at *
  generalize val_main_v23 (F := Ideal) x0 x1 x2 = r at *
  pointwise []
  rw [h, hr, ← EReal.coe_mul]
  rfl

include h4 h6 in
theorem v32 (i : S16384x1024.Idx) : val_main_v32 (F := Ideal) x4 x6 i = ((DN W DU (i 0).val (i 1).val : ℝ) : EReal) := by
  unfold val_main_v32
  pointwise []
  exact sum_fin (fun j => DU (i 0).val j * W (i 1).val j) fun j => by rw [h6, h4, ← EReal.coe_mul]; rfl

include h0 h1 h2 h4 h6 in
/-- The gradient with respect to the second norm's gain. -/
theorem v35 (i : S1x1024.Idx) : val_main_v35 (F := Ideal) x0 x1 x2 x4 x6 i
    = ((∑ t ∈ range 16384, gm X Y2 W DU GP t (i 1).val : ℝ) : EReal) := by
  unfold val_main_v35 val_main_v34 val_main_v33
  have ha := v28 h0 h1 h2
  have hb := v32 h4 h6
  generalize val_main_v28 (F := Ideal) x0 x1 x2 = a at *
  generalize val_main_v32 (F := Ideal) x4 x6 = b at *
  pointwise [val_main_cst_7]
  refine sum_fin (fun t => gm X Y2 W DU GP t (i 1).val) fun t => ?_
  rw [ha, hb, ← EReal.coe_mul, mul_comm]
  rfl

include h0 h1 h2 h3 h4 h5 h6 in
/-- The gradient with respect to the residual stream. -/
theorem v52 (i : S16384x1024.Idx) : val_main_v52 (F := Ideal) x0 x1 x2 x3 x4 x5 x6 i
    = ((dH1 X Y2 W DH DU GP GM (i 0).val (i 1).val : ℝ) : EReal) := by
  unfold val_main_v52 val_main_v51 val_main_v50 val_main_v49 val_main_v48 val_main_v47 val_main_v46 val_main_v44 val_main_v43 val_main_v42 val_main_v41
    val_main_v40 val_main_v39 val_main_v38 val_main_v37 val_main_v36 val_main_v26 val_main_v24
  have ha := v15 h0 h1 h2
  have hb := v32 h4 h6
  have hr := v23 h0 h1 h2
  have hq := v22 h0 h1 h2
  generalize val_main_v15 (F := Ideal) x0 x1 x2 = a at *
  generalize val_main_v32 (F := Ideal) x4 x6 = b at *
  generalize val_main_v23 (F := Ideal) x0 x1 x2 = r at *
  generalize val_main_v22 (F := Ideal) x0 x1 x2 = q at *
  pointwise [val_main_v45, val_main_v25, val_main_cst_6, val_main_cst_8, val_main_cst_9, val_main_cst_10]
  refine chain_add (G := fun t d => DN W DU t d * GM d) (h5 _) ?_ (hr _) (ha _) ?_
  · rw [hb, h3, ← EReal.coe_mul]; rfl
  · rw [Fin.sum_univ_one]
    refine share_val (t := (i 0).val) (X := H1 X Y2 GP) (G := fun t d => DN W DU t d * GM d) (by decide) word (fun k => ?_)
      (hr (ix2 (i 0) 0)) (hq (ix2 (i 0) 0)) ofBits_neg_half
    rw [ha, hb, h3, ← EReal.coe_mul, ← EReal.coe_mul]; rfl

include h1 in
theorem v12 (i : S16384x1024.Idx) : val_main_v12 (F := Ideal) x1 i = ((Y2 (i 0).val (i 1).val * rs 1024 Y2 (i 0).val : ℝ) : EReal) := by
  unfold val_main_v12 val_main_v11
  have hr := v7 h1
  generalize val_main_v7 (F := Ideal) x1 = r at *
  pointwise []
  rw [h1, hr, ← EReal.coe_mul]
  rfl

include h0 h1 h2 h3 h4 h5 h6 in
/-- The gradient with respect to the first norm's gain. -/
theorem v56 (i : S1x1024.Idx) : val_main_v56 (F := Ideal) x0 x1 x2 x3 x4 x5 x6 i
    = ((∑ t ∈ range 16384, gp X Y2 W DH DU GP GM t (i 1).val : ℝ) : EReal) := by
  unfold val_main_v56 val_main_v55 val_main_v54 val_main_v53
  have ha := v12 h1
  have hb := v52 h0 h1 h2 h3 h4 h5 h6
  generalize val_main_v12 (F := Ideal) x1 = a at *
  generalize val_main_v52 (F := Ideal) x0 x1 x2 x3 x4 x5 x6 = b at *
  pointwise [val_main_cst_11]
  refine sum_fin (fun t => gp X Y2 W DH DU GP GM t (i 1).val) fun t => ?_
  rw [ha, hb, ← EReal.coe_mul, mul_comm]
  rfl

include h0 h1 h2 h3 h4 h5 h6 in
/-- The gradient with respect to the mixer's output. -/
theorem v73 (i : S16384x1024.Idx) : val_main_v73 (F := Ideal) x0 x1 x2 x3 x4 x5 x6 i
    = ((dY2 X Y2 W DH DU GP GM (i 0).val (i 1).val : ℝ) : EReal) := by
  unfold val_main_v73 val_main_v72 val_main_v71 val_main_v70 val_main_v69 val_main_v68 val_main_v67 val_main_v66 val_main_v64 val_main_v63 val_main_v62
    val_main_v61 val_main_v60 val_main_v59 val_main_v58 val_main_v57 val_main_v53 val_main_v10 val_main_v8
  have hb := v52 h0 h1 h2 h3 h4 h5 h6
  have hr := v7 h1
  have hq := v6 h1
  generalize val_main_v52 (F := Ideal) x0 x1 x2 x3 x4 x5 x6 = b at *
  generalize val_main_v7 (F := Ideal) x1 = r at *
  generalize val_main_v6 (F := Ideal) x1 = q at *
  pointwise [val_main_v65, val_main_v9, val_main_cst_2, val_main_cst_12, val_main_cst_13, val_main_cst_14]
  refine chain_val (G := fun t d => dH1 X Y2 W DH DU GP GM t d * GP d) ?_ (hr _) (h1 _) ?_
  · rw [hb, h2, ← EReal.coe_mul]; rfl
  · rw [Fin.sum_univ_one]
    refine share_val (t := (i 0).val) (X := Y2) (G := fun t d => dH1 X Y2 W DH DU GP GM t d * GP d) (by decide) word (fun k => ?_)
      (hr (ix2 (i 0) 0)) (hq (ix2 (i 0) 0)) ofBits_neg_half
    rw [h1, hb, h2, ← EReal.coe_mul, ← EReal.coe_mul]; rfl

end Cert.Ff1.Ref
-- ==== Proof.Ff1Claim.lean ====
/- The claims of the call through the first feed-forward product: the two programs end with the same four arrays. -/
module

public import proofs.«01_k».proof.Defs
public import proofs.«01_k».proof.Proof.Ff1Bwd
public import proofs.«01_k».proof.Proof.Ff1Ref
public import proofs.«01_k».proof.Proof.FiniteArgs
public import proofs.«01_k».proof.Proof.Gen.Reference3Ideal.Run
public import proofs.«01_k».proof.Proof.Gen.Pre_finite3

@[expose] public section

set_option maxRecDepth 16384

noncomputable section

namespace Cert.Ff1.Claim

open Idealize.ShloMosaic Idealize.ShloMosaic.TcCoe Idealize.SL.Sem

section
open Cert.Pre_finite3

instance : Subsingleton S_.Idx := ⟨fun a b => funext fun k => k.elim0⟩

/-- What the precondition says: every element of every argument is a real. -/
theorem reals (x0 x1 : FVec Ideal S16384x1024 .f32) (x2 x3 : FVec Ideal S1x1024 .f32) (x4 : FVec Ideal S1024x4096 .f32)
    (x5 : FVec Ideal S16384x1024 .f32) (x6 : FVec Ideal S16384x4096 .f32) [Cert.Pre_finite3.Facts]
    (h : Cert.Pre_finite3.fn (F := Ideal) x0 x1 x2 x3 x4 x5 x6 (Shape.Idx.first Facts.h_S_) = 1#1) :
    (∀ i, (((x0 i : EReal).toReal : ℝ) : EReal) = x0 i) ∧ (∀ i, (((x1 i : EReal).toReal : ℝ) : EReal) = x1 i)
      ∧ (∀ i, (((x2 i : EReal).toReal : ℝ) : EReal) = x2 i) ∧ (∀ i, (((x3 i : EReal).toReal : ℝ) : EReal) = x3 i)
      ∧ (∀ i, (((x4 i : EReal).toReal : ℝ) : EReal) = x4 i) ∧ (∀ i, (((x5 i : EReal).toReal : ℝ) : EReal) = x5 i)
      ∧ (∀ i, (((x6 i : EReal).toReal : ℝ) : EReal) = x6 i) := by
  unfold Cert.Pre_finite3.fn Cert.Pre_finite3.fn_part1 at h
  dsimp only at h
  obtain ⟨h, h6⟩ := FiniteArgs.and_split _ _ _ h
  obtain ⟨h, h5⟩ := FiniteArgs.and_split _ _ _ h
  obtain ⟨h, h4⟩ := FiniteArgs.and_split _ _ _ h
  obtain ⟨h, h3⟩ := FiniteArgs.and_split _ _ _ h
  obtain ⟨h, h2⟩ := FiniteArgs.and_split _ _ _ h
  obtain ⟨h0, h1⟩ := FiniteArgs.and_split _ _ _ h
  exact ⟨FiniteArgs.real_of_all x0 _ (fun _ => FiniteArgs.ofBits_inf) _ _ _ _ h0,
    FiniteArgs.real_of_all x1 _ (fun _ => FiniteArgs.ofBits_inf) _ _ _ _ h1,
    FiniteArgs.real_of_all x2 _ (fun _ => FiniteArgs.ofBits_inf) _ _ _ _ h2,
    FiniteArgs.real_of_all x3 _ (fun _ => FiniteArgs.ofBits_inf) _ _ _ _ h3,
    FiniteArgs.real_of_all x4 _ (fun _ => FiniteArgs.ofBits_inf) _ _ _ _ h4,
    FiniteArgs.real_of_all x5 _ (fun _ => FiniteArgs.ofBits_inf) _ _ _ _ h5,
    FiniteArgs.real_of_all x6 _ (fun _ => FiniteArgs.ofBits_inf) _ _ _ _ h6⟩
end

theorem frame_reference : Cert.quiescent_Reference3Ideal := by
  intro m g _
  exact (θ_run Cert.Reference3Ideal.defs _ _).mono
    (fun r h => ⟨fun c => (h c).2.2.2.2, sem_eq_zero_of_no_sems (by decide) r.2⟩) (Cert.Reference3Ideal.Value.run m g)

theorem frame_reference_pre [Cert.Pre_finite3.Facts] : Cert.quiescent_Reference3Ideal_pre_finite3 := by
  intro m g _
  exact frame_reference m g trivial

open Cert.Kernel3Ideal in
theorem algebraic [hp : Cert.Pre_finite3.Facts] : Cert.algebraic_Kernel3Ideal_Reference3Ideal_pre_finite3 := by
  intro m g m' g' hpre hargs
  have key : ∀ c : Dev nD,
      (Gen.dats m 0 c).arrAt 7 cfg0.N = Cert.Reference3Ideal.Read.val_main_v52 (F := Ideal) (m' ((c.tc : Thread _ Cert.Reference3Ideal.τ).loc Cert.Reference3Ideal.main_arg0))
            (m' ((c.tc : Thread _ Cert.Reference3Ideal.τ).loc Cert.Reference3Ideal.main_arg1))
            (m' ((c.tc : Thread _ Cert.Reference3Ideal.τ).loc Cert.Reference3Ideal.main_arg2))
            (m' ((c.tc : Thread _ Cert.Reference3Ideal.τ).loc Cert.Reference3Ideal.main_arg3))
            (m' ((c.tc : Thread _ Cert.Reference3Ideal.τ).loc Cert.Reference3Ideal.main_arg4))
            (m' ((c.tc : Thread _ Cert.Reference3Ideal.τ).loc Cert.Reference3Ideal.main_arg5))
            (m' ((c.tc : Thread _ Cert.Reference3Ideal.τ).loc Cert.Reference3Ideal.main_arg6))
      ∧ (Gen.dats m 0 c).arrAt 8 cfg0.N = Cert.Reference3Ideal.Read.val_main_v73 (F := Ideal) (m' ((c.tc : Thread _ Cert.Reference3Ideal.τ).loc Cert.Reference3Ideal.main_arg0))
            (m' ((c.tc : Thread _ Cert.Reference3Ideal.τ).loc Cert.Reference3Ideal.main_arg1))
            (m' ((c.tc : Thread _ Cert.Reference3Ideal.τ).loc Cert.Reference3Ideal.main_arg2))
            (m' ((c.tc : Thread _ Cert.Reference3Ideal.τ).loc Cert.Reference3Ideal.main_arg3))
            (m' ((c.tc : Thread _ Cert.Reference3Ideal.τ).loc Cert.Reference3Ideal.main_arg4))
            (m' ((c.tc : Thread _ Cert.Reference3Ideal.τ).loc Cert.Reference3Ideal.main_arg5))
            (m' ((c.tc : Thread _ Cert.Reference3Ideal.τ).loc Cert.Reference3Ideal.main_arg6))
      ∧ (Gen.dats m 0 c).arrAt 9 cfg0.N = Cert.Reference3Ideal.Read.val_main_v35 (F := Ideal) (m' ((c.tc : Thread _ Cert.Reference3Ideal.τ).loc Cert.Reference3Ideal.main_arg0))
            (m' ((c.tc : Thread _ Cert.Reference3Ideal.τ).loc Cert.Reference3Ideal.main_arg1))
            (m' ((c.tc : Thread _ Cert.Reference3Ideal.τ).loc Cert.Reference3Ideal.main_arg2))
            (m' ((c.tc : Thread _ Cert.Reference3Ideal.τ).loc Cert.Reference3Ideal.main_arg4))
            (m' ((c.tc : Thread _ Cert.Reference3Ideal.τ).loc Cert.Reference3Ideal.main_arg6))
      ∧ (Gen.dats m 0 c).arrAt 10 cfg0.N = Cert.Reference3Ideal.Read.val_main_v56 (F := Ideal) (m' ((c.tc : Thread _ Cert.Reference3Ideal.τ).loc Cert.Reference3Ideal.main_arg0))
            (m' ((c.tc : Thread _ Cert.Reference3Ideal.τ).loc Cert.Reference3Ideal.main_arg1))
            (m' ((c.tc : Thread _ Cert.Reference3Ideal.τ).loc Cert.Reference3Ideal.main_arg2))
            (m' ((c.tc : Thread _ Cert.Reference3Ideal.τ).loc Cert.Reference3Ideal.main_arg3))
            (m' ((c.tc : Thread _ Cert.Reference3Ideal.τ).loc Cert.Reference3Ideal.main_arg4))
            (m' ((c.tc : Thread _ Cert.Reference3Ideal.τ).loc Cert.Reference3Ideal.main_arg5))
            (m' ((c.tc : Thread _ Cert.Reference3Ideal.τ).loc Cert.Reference3Ideal.main_arg6)) := by
    intro c
    obtain ⟨r0, r1, r2, r3, r4, r5, r6⟩ := reals _ _ _ _ _ _ _ (congrFun (hpre c) _)
    obtain ⟨a0, a1, a2, a3, a4, a5, a6⟩ := hargs c
    have h0 := FiniteArgs.nat2_eq _ r0
    have h1 := FiniteArgs.nat2_eq _ r1
    have h2 := FiniteArgs.row_eq _ r2
    have h3 := FiniteArgs.row_eq _ r3
    have h4 := FiniteArgs.nat2_eq _ r4
    have h5 := FiniteArgs.nat2_eq _ r5
    have h6 := FiniteArgs.nat2_eq _ r6
    rw [a0, a1, a2, a3, a4, a5, a6]
    have kdu := fun i => (Bwd.read_du m c i).trans (h6 i)
    have kw := fun i => (Bwd.read_w m c i).trans (h4 i)
    have kdh := fun i => (congrFun (Bwd.read5 m c) i).trans (h5 i)
    have kh := Bwd.read_h m c h0 h1 h2
    have ky := fun i => (congrFun (Bwd.read1 m c) i).trans (h1 i)
    have kgm := fun i => (congrFun (Bwd.read3 m c) i).trans (h3 i)
    have kgp := fun i => (congrFun (Bwd.read2 m c) i).trans (h2 i)
    exact ⟨funext fun i => (Bwd.final7 m c kdu kw kdh kh kgm i).trans (Ref.v52 h0 h1 h2 h3 h4 h5 h6 i).symm,
      funext fun i => (Bwd.final8 m c kdu kw kdh kh ky kgm kgp i).trans (Ref.v73 h0 h1 h2 h3 h4 h5 h6 i).symm,
      funext fun i => (Bwd.final9 m c kdu kw kh i).trans (Ref.v35 h0 h1 h2 h4 h6 i).symm,
      funext fun i => (Bwd.final10 m c kdu kw kdh kh ky kgm i).trans (Ref.v56 h0 h1 h2 h3 h4 h5 h6 i).symm⟩
  exact ⟨_, _, _, _, Cert.Kernel3Ideal.Value.run_blocks m g,
    (θ_run Cert.Reference3Ideal.defs _ _).mono (fun r h c => ⟨((h c).1.trans (Cert.Reference3Ideal.Read.val_main_v52_eq m' c)).trans (key c).1.symm,
      ((h c).2.1.trans (Cert.Reference3Ideal.Read.val_main_v73_eq m' c)).trans (key c).2.1.symm,
      ((h c).2.2.1.trans (Cert.Reference3Ideal.Read.val_main_v35_eq _ _ _ _ _)).trans (key c).2.2.1.symm,
      ((h c).2.2.2.1.trans (Cert.Reference3Ideal.Read.val_main_v56_eq m' c)).trans (key c).2.2.2.symm, (h c).2.2.2.2⟩) (Cert.Reference3Ideal.Value.run m' g')⟩

end Cert.Ff1.Claim
-- ==== Proof.PleSpec.lean ====
/- The embedding gate, the loss and the norms before them over the reals: the loss and its gradients. -/
module

public import proofs.«01_k».proof.Proof.Rms

@[expose] public section

noncomputable section

namespace Cert.Ple

open Finset Cert.Rms Idealize.ShloMosaic

variable (H F P TG WG WP : ℕ → ℕ → ℝ) (GE GP : ℕ → ℝ)

/-- The residual stream after the feed-forward norm. -/
def H2 (t d : ℕ) : ℝ := H t d + F t d * rs 1024 F t * GP d
/-- Its norm, the gate's argument, the gate, the embedding. -/
def XN (t d : ℕ) : ℝ := H2 H F GP t d * rs 1024 (H2 H F GP) t * GE d
def ZG (t e : ℕ) : ℝ := ∑ d ∈ range 1024, XN H F GE GP t d * WG d e
def SG (t e : ℕ) : ℝ := 1 / (1 + Real.exp (-ZG H F WG GE GP t e))
def PP (t e : ℕ) : ℝ := ∑ p ∈ range 256, P t p * WP p e
/-- The error. -/
def ER (t e : ℕ) : ℝ := H2 H F GP t e + SG H F WG GE GP t e * PP P WP t e - TG t e
/-- A row's share of the loss. -/
def loss (t : ℕ) : ℝ := (∑ e ∈ range 1024, ER H F P TG WG WP GE GP t e * ER H F P TG WG WP GE GP t e) * (1 / 2048)
def dH3 (t e : ℕ) : ℝ := ER H F P TG WG WP GE GP t e * (1 / 1024)
def dGL (t e : ℕ) : ℝ := dH3 H F P TG WG WP GE GP t e * PP P WP t e * SG H F WG GE GP t e * (1 - SG H F WG GE GP t e)
def dPP (t e : ℕ) : ℝ := dH3 H F P TG WG WP GE GP t e * SG H F WG GE GP t e
/-- The gradient with respect to the gate's product's left factor. -/
def DX (t d : ℕ) : ℝ := ∑ e ∈ range 1024, dGL H F P TG WG WP GE GP t e * WG d e
def dH2 (t d : ℕ) : ℝ :=
  dH3 H F P TG WG WP GE GP t d + bwd 1024 (H2 H F GP) (fun t d => DX H F P TG WG WP GE GP t d * GE d) t d
def dF (t d : ℕ) : ℝ := bwd 1024 F (fun t d => dH2 H F P TG WG WP GE GP t d * GP d) t d
/-- A row's share of the gradients with respect to the two gains. -/
def ge (t d : ℕ) : ℝ := DX H F P TG WG WP GE GP t d * (H2 H F GP t d * rs 1024 (H2 H F GP) t)
def gp (t d : ℕ) : ℝ := dH2 H F P TG WG WP GE GP t d * (F t d * rs 1024 F t)

/-- The gate as the programs write it. -/
theorem sigmoid_val (x : ℝ) : Ideal.div 1 (1 + Ideal.exp (-(x : EReal))) = ((1 / (1 + Real.exp (-x)) : ℝ) : EReal) := by
  have h : (1 + Real.exp (-x)) ≠ 0 := (add_pos one_pos (Real.exp_pos _)).ne'
  rw [← EReal.coe_neg, Ideal.exp_coe, ← EReal.coe_one, ← EReal.coe_add, Ideal.div_coe h, ← EReal.coe_mul, one_mul]

theorem ofBits_1_1024 : Ideal.ofBits .f32 0x3A800000#32 = ((1 / 1024 : ℝ) : EReal) := by
  simp [Ideal.ofBits, Ideal.ieee, -EReal.coe_mul]; norm_num
theorem ofBits_1_2048 : Ideal.ofBits .f32 0x3A000000#32 = ((1 / 2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

end Cert.Ple
-- ==== Proof.PleBwd.lean ====
/- The gate and loss call: what each grid point leaves, and the seven arrays after the run. -/
module

public import proofs.«01_k».proof.Proof.Gen.Kernel4Ideal.Value
public import proofs.«01_k».proof.Proof.PleSpec
public import Idealize.ShloMosaic.Lib.Pipeline.ValueKit
public import Idealize.ShloMosaic.Lib.Pointwise
public import Idealize.ShloMosaic.Lib.Claim
public import Idealize.ShloMosaic.Lib.WritesUnit

@[expose] public section

set_option maxRecDepth 16384

noncomputable section

open Idealize.ShloMosaic Idealize.ShloMosaic.TcCoe Idealize.SL.Sem

namespace Cert.Ple.Bwd

open Cert.Kernel4Ideal Cert.Kernel4Ideal.Gen Finset Cert.Rms Cert.AttnA

theorem word : Ideal.ofBits .f32 0x44800000#32 = (((1024 : ℕ) : ℝ) : EReal) := by rw [ofBits_1024]; norm_num

/-! ## What a block of rows computes -/

section
variable {A B E S Q W : ℕ → ℕ → ℝ} {g : ℕ → ℝ} {T : ℕ}
variable {x y e a p : FVec Ideal S512x1024 .f32} {w : Vec Ideal S1024x1024 .bf16} {v : Vec Ideal S1x1024 .f32}

/-- The gate. -/
theorem sg {z : Vec Ideal S512x1024 .bf16} (hz : ∀ i : S512x1024.Idx, z i = ((A (T + (i 0).val) (i 1).val : ℝ) : EReal))
    (hw : ∀ i : S1024x1024.Idx, w i = ((W (i 0).val (i 1).val : ℝ) : EReal)) (i : S512x1024.Idx) :
    k0_pay3 z w i = ((1 / (1 + Real.exp (-∑ d ∈ range 1024, A (T + (i 0).val) d * W d (i 1).val)) : ℝ) : EReal) := by
  pointwise [k0_pay3]
  rw [sum_fin (fun d => A (T + (i 0).val) d * W d (i 1).val) fun d => by rw [hz, hw, ← EReal.coe_mul]; rfl]
  exact sigmoid_val _

/-- The embedding. -/
theorem pp {z : Vec Ideal S512x256 .f32} {u : Vec Ideal S256x1024 .bf16} (hz : ∀ i : S512x256.Idx, z i = ((A (T + (i 0).val) (i 1).val : ℝ) : EReal))
    (hu : ∀ i : S256x1024.Idx, u i = ((W (i 0).val (i 1).val : ℝ) : EReal)) (i : S512x1024.Idx) :
    k0_pay4 z u i = ((∑ d ∈ range 256, A (T + (i 0).val) d * W d (i 1).val : ℝ) : EReal) := by
  pointwise [k0_pay4]
  exact sum_fin (fun d => A (T + (i 0).val) d * W d (i 1).val) fun d => by rw [hz, hu, ← EReal.coe_mul]; rfl

/-- The gradient with respect to the gate's argument. -/
theorem dgl (hx : ∀ i : S512x1024.Idx, x i = ((S (T + (i 0).val) (i 1).val : ℝ) : EReal))
    (hy : ∀ i : S512x1024.Idx, y i = ((Q (T + (i 0).val) (i 1).val : ℝ) : EReal))
    (he : ∀ i : S512x1024.Idx, e i = ((E (T + (i 0).val) (i 1).val : ℝ) : EReal)) (i : S512x1024.Idx) :
    k0_pay10 x y e i = ((E (T + (i 0).val) (i 1).val * Q (T + (i 0).val) (i 1).val * S (T + (i 0).val) (i 1).val
      * (1 - S (T + (i 0).val) (i 1).val) : ℝ) : EReal) := by
  pointwise [k0_pay10]
  rw [hx, hy, he, ← EReal.coe_one, ← EReal.coe_sub, ← EReal.coe_mul, ← EReal.coe_mul, ← EReal.coe_mul]

theorem dx (hx : ∀ i : S512x1024.Idx, x i = ((S (T + (i 0).val) (i 1).val : ℝ) : EReal))
    (hy : ∀ i : S512x1024.Idx, y i = ((Q (T + (i 0).val) (i 1).val : ℝ) : EReal))
    (he : ∀ i : S512x1024.Idx, e i = ((E (T + (i 0).val) (i 1).val : ℝ) : EReal))
    (hw : ∀ i : S1024x1024.Idx, w i = ((W (i 0).val (i 1).val : ℝ) : EReal)) (i : S512x1024.Idx) :
    k0_pay12 x y e w i = ((∑ k ∈ range 1024, E (T + (i 0).val) k * Q (T + (i 0).val) k * S (T + (i 0).val) k
      * (1 - S (T + (i 0).val) k) * W (i 1).val k : ℝ) : EReal) := by
  unfold k0_pay12
  have h := dgl hx hy he
  generalize k0_pay10 x y e = z at *
  pointwise []
  exact sum_fin (fun k => E (T + (i 0).val) k * Q (T + (i 0).val) k * S (T + (i 0).val) k * (1 - S (T + (i 0).val) k) * W (i 1).val k)
    fun k => by rw [h, hw, ← EReal.coe_mul]; rfl

theorem r1 (hx : ∀ i : S512x1024.Idx, x i = ((A (T + (i 0).val) (i 1).val : ℝ) : EReal)) (i : S512x1.Idx) :
    k0_pay13 x i = ((rs 1024 A (T + (i 0).val) : ℝ) : EReal) := by
  pointwise [k0_pay13]
  exact rs_val (by decide) word fun k => hx _

theorem n1 (hx : ∀ i : S512x1024.Idx, x i = ((A (T + (i 0).val) (i 1).val : ℝ) : EReal)) (i : S512x1024.Idx) :
    k0_pay14 x i = ((A (T + (i 0).val) (i 1).val * rs 1024 A (T + (i 0).val) : ℝ) : EReal) := by
  unfold k0_pay14
  generalize h : k0_pay13 x = r
  pointwise []
  rw [← h, r1 hx, hx, EReal.coe_mul]
  rfl

theorem r2 (hx : ∀ i : S512x1024.Idx, x i = ((A (T + (i 0).val) (i 1).val : ℝ) : EReal)) (i : S512x1.Idx) :
    k0_pay20 (F := Ideal) x i = ((rs 1024 A (T + (i 0).val) : ℝ) : EReal) := by
  pointwise [k0_pay20]
  exact rs_val (by decide) word fun k => hx _

theorem n2 (hx : ∀ i : S512x1024.Idx, x i = ((A (T + (i 0).val) (i 1).val : ℝ) : EReal)) (i : S512x1024.Idx) :
    k0_pay21 (F := Ideal) x i = ((A (T + (i 0).val) (i 1).val * rs 1024 A (T + (i 0).val) : ℝ) : EReal) := by
  unfold k0_pay21
  generalize h : k0_pay20 (F := Ideal) x = r
  pointwise []
  rw [← h, r2 hx, hx, EReal.coe_mul]
  rfl

/-- The first norm's gradient, from the gradient of its output. -/
theorem b1 (hx : ∀ i : S512x1024.Idx, x i = ((A (T + (i 0).val) (i 1).val : ℝ) : EReal)) {s q : FVec Ideal S512x1024 .f32}
    (hd : ∀ i : S512x1024.Idx, k0_pay12 s q e w i = ((B (T + (i 0).val) (i 1).val : ℝ) : EReal))
    (hv : ∀ i : S1x1024.Idx, v i = ((g (i 1).val : ℝ) : EReal)) (i : S512x1024.Idx) :
    k0_pay15 s q x e w v i = ((bwd 1024 A (fun t d => B t d * g d) (T + (i 0).val) (i 1).val : ℝ) : EReal) := by
  unfold k0_pay15
  have hr := r1 hx
  have hn := n1 hx
  generalize k0_pay12 s q e w = d at *
  generalize k0_pay14 x = n at *
  generalize k0_pay13 x = r at *
  pointwise []
  refine bwd_val (G := fun t d => B t d * g d) (by decide) word (hr _) ?_ (hn _) fun k => ?_
  · rw [hd, hv, ← EReal.coe_mul]; rfl
  · rw [hd, hv, hn, ← EReal.coe_mul, ← EReal.coe_mul]; rfl

theorem c1 (hx : ∀ i : S512x1024.Idx, x i = ((A (T + (i 0).val) (i 1).val : ℝ) : EReal)) {s q : FVec Ideal S512x1024 .f32}
    (hd : ∀ i : S512x1024.Idx, k0_pay12 s q e w i = ((B (T + (i 0).val) (i 1).val : ℝ) : EReal)) (i : S1x1024.Idx) :
    k0_pay18 (k0_pay16 s q x e w) v i = v i + ((∑ r ∈ range 512, B (T + r) (i 1).val * (A (T + r) (i 1).val * rs 1024 A (T + r)) : ℝ) : EReal) := by
  unfold k0_pay16
  have hn := n1 hx
  generalize k0_pay12 s q e w = d at *
  generalize k0_pay14 x = n at *
  pointwise [k0_pay18]
  refine congrArg _ (sum_fin (fun r => B (T + r) (i 1).val * (A (T + r) (i 1).val * rs 1024 A (T + r))) fun r => ?_)
  rw [hd, hn, ← EReal.coe_mul]; rfl

/-- The second norm's gradient. -/
theorem b2 (hx : ∀ i : S512x1024.Idx, x i = ((A (T + (i 0).val) (i 1).val : ℝ) : EReal))
    (he : ∀ i : S512x1024.Idx, e i = ((E (T + (i 0).val) (i 1).val : ℝ) : EReal))
    (ha : ∀ i : S512x1024.Idx, a i = ((B (T + (i 0).val) (i 1).val : ℝ) : EReal))
    (hv : ∀ i : S1x1024.Idx, v i = ((g (i 1).val : ℝ) : EReal)) (i : S512x1024.Idx) :
    k0_pay22 e a x v i = ((bwd 1024 A (fun t d => (E t d + B t d) * g d) (T + (i 0).val) (i 1).val : ℝ) : EReal) := by
  unfold k0_pay22
  have hr := r2 hx
  have hn := n2 hx
  generalize k0_pay21 (F := Ideal) x = n at *
  generalize k0_pay20 (F := Ideal) x = r at *
  pointwise [k0_pay19]
  refine bwd_val (G := fun t d => (E t d + B t d) * g d) (by decide) word (hr _) ?_ (hn _) fun k => ?_
  · rw [ha, he, hv, ← EReal.coe_add, ← EReal.coe_mul]; rfl
  · rw [ha, he, hv, hn, ← EReal.coe_add, ← EReal.coe_mul, ← EReal.coe_mul]; rfl

theorem c2 (hx : ∀ i : S512x1024.Idx, x i = ((A (T + (i 0).val) (i 1).val : ℝ) : EReal))
    (he : ∀ i : S512x1024.Idx, e i = ((E (T + (i 0).val) (i 1).val : ℝ) : EReal))
    (ha : ∀ i : S512x1024.Idx, a i = ((B (T + (i 0).val) (i 1).val : ℝ) : EReal)) (i : S1x1024.Idx) :
    k0_pay1 (k0_pay23 e a x) v i = v i + ((∑ r ∈ range 512, (E (T + r) (i 1).val + B (T + r) (i 1).val) * (A (T + r) (i 1).val * rs 1024 A (T + r)) : ℝ) : EReal) := by
  unfold k0_pay23
  have hn := n2 hx
  generalize k0_pay21 (F := Ideal) x = n at *
  pointwise [k0_pay1, k0_pay19]
  refine congrArg _ (sum_fin (fun r => (E (T + r) (i 1).val + B (T + r) (i 1).val) * (A (T + r) (i 1).val * rs 1024 A (T + r))) fun r => ?_)
  rw [ha, he, hn, ← EReal.coe_add, ← EReal.coe_mul]; rfl
end

/-- The error's two uses. -/
theorem d3 {H2 S Q T' : ℕ → ℕ → ℝ} {T : ℕ} {z : Vec Ideal S512x1024 .bf16} {u : Vec Ideal S1024x1024 .bf16} {p : Vec Ideal S512x256 .f32}
    {w : Vec Ideal S256x1024 .bf16} {h t : Vec Ideal S512x1024 .f32}
    (hs : ∀ i : S512x1024.Idx, k0_pay3 z u i = ((S (T + (i 0).val) (i 1).val : ℝ) : EReal))
    (hq : ∀ i : S512x1024.Idx, k0_pay4 p w i = ((Q (T + (i 0).val) (i 1).val : ℝ) : EReal))
    (hh : ∀ i : S512x1024.Idx, h i = ((H2 (T + (i 0).val) (i 1).val : ℝ) : EReal))
    (ht : ∀ i : S512x1024.Idx, t i = ((T' (T + (i 0).val) (i 1).val : ℝ) : EReal)) (i : S512x1024.Idx) :
    k0_pay9 z u p w h t i = (((H2 (T + (i 0).val) (i 1).val + S (T + (i 0).val) (i 1).val * Q (T + (i 0).val) (i 1).val
      - T' (T + (i 0).val) (i 1).val) * (1 / 1024) : ℝ) : EReal) := by
  unfold k0_pay9 k0_pay6
  generalize k0_pay3 z u = a at *
  generalize k0_pay4 p w = b at *
  pointwise [k0_pay5]
  rw [hs, hq, hh, ht, ofBits_1_1024, ← EReal.coe_mul, ← EReal.coe_add, ← EReal.coe_sub, ← EReal.coe_mul]

theorem ls {H2 S Q T' : ℕ → ℕ → ℝ} {T : ℕ} {z : Vec Ideal S512x1024 .bf16} {u : Vec Ideal S1024x1024 .bf16} {p : Vec Ideal S512x256 .f32}
    {w : Vec Ideal S256x1024 .bf16} {h t : Vec Ideal S512x1024 .f32} {l : Vec Ideal S1x1 .f32}
    (hs : ∀ i : S512x1024.Idx, k0_pay3 z u i = ((S (T + (i 0).val) (i 1).val : ℝ) : EReal))
    (hq : ∀ i : S512x1024.Idx, k0_pay4 p w i = ((Q (T + (i 0).val) (i 1).val : ℝ) : EReal))
    (hh : ∀ i : S512x1024.Idx, h i = ((H2 (T + (i 0).val) (i 1).val : ℝ) : EReal))
    (ht : ∀ i : S512x1024.Idx, t i = ((T' (T + (i 0).val) (i 1).val : ℝ) : EReal)) (j : S1x1.Idx) :
    k0_pay8 z u p w h t l j = l j + ((∑ r ∈ range 512, (∑ e ∈ range 1024, (H2 (T + r) e + S (T + r) e * Q (T + r) e - T' (T + r) e)
      * (H2 (T + r) e + S (T + r) e * Q (T + r) e - T' (T + r) e)) * (1 / 2048) : ℝ) : EReal) := by
  unfold k0_pay8 k0_pay6
  generalize k0_pay3 z u = a at *
  generalize k0_pay4 p w = b at *
  pointwise [k0_pay5]
  rw [sum_fin (fun r => ∑ e ∈ range 1024, (H2 (T + r) e + S (T + r) e * Q (T + r) e - T' (T + r) e)
      * (H2 (T + r) e + S (T + r) e * Q (T + r) e - T' (T + r) e)) fun r => ?_, ofBits_1_2048, ← EReal.coe_mul, Finset.sum_mul]
  refine sum_fin (fun e => (H2 (T + r) e + S (T + r) e * Q (T + r) e - T' (T + r) e)
      * (H2 (T + r) e + S (T + r) e * Q (T + r) e - T' (T + r) e)) fun e => ?_
  rw [hs, hq, hh, ht, ← EReal.coe_mul, ← EReal.coe_add, ← EReal.coe_sub, ← EReal.coe_mul]
  rfl

variable (m : (ℓ : Loc nD τ sig) → Buf (Elt Ideal) ℓ) (c : Dev nD)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![0, 0]
    ∧ win0_14.index t = ![0, 0]
    ∧ win0_15.index t = ![0, 0] :=
  (by decide +kernel : ∀ t : Fin grid0.N, _)

/-- What the call's operands hold. -/
structure Reads (H F P TG WG WP : ℕ → ℕ → ℝ) (GE GP : ℕ → ℝ) : Prop where
  x : ∀ i : S16384x1024.Idx, V m c main_v25 i = ((XN H F GE GP (i 0).val (i 1).val : ℝ) : EReal)
  p : ∀ i : S16384x256.Idx, V m c main_arg2 i = ((P (i 0).val (i 1).val : ℝ) : EReal)
  h : ∀ i : S16384x1024.Idx, V m c main_v12 i = ((H2 H F GP (i 0).val (i 1).val : ℝ) : EReal)
  f : ∀ i : S16384x1024.Idx, V m c main_arg1 i = ((F (i 0).val (i 1).val : ℝ) : EReal)
  t : ∀ i : S16384x1024.Idx, V m c main_arg3 i = ((TG (i 0).val (i 1).val : ℝ) : EReal)
  g : ∀ i : S1024x1024.Idx, V m c main_v26 i = ((WG (i 0).val (i 1).val : ℝ) : EReal)
  w : ∀ i : S256x1024.Idx, V m c main_v27 i = ((WP (i 0).val (i 1).val : ℝ) : EReal)
  e : ∀ i : S1x1024.Idx, V m c main_arg6 i = ((GE (i 1).val : ℝ) : EReal)
  q : ∀ i : S1x1024.Idx, V m c main_arg7 i = ((GP (i 1).val : ℝ) : EReal)

theorem flush13 : ∀ t : Fin cfg0.N, (cfg0.win 13).flush t = true → t.val = 31 := (by decide +kernel : ∀ t : Fin grid0.N, _)
theorem flush14 : ∀ t : Fin cfg0.N, (cfg0.win 14).flush t = true → t.val = 31 := (by decide +kernel : ∀ t : Fin grid0.N, _)
theorem flush15 : ∀ t : Fin cfg0.N, (cfg0.win 15).flush t = true → t.val = 31 := (by decide +kernel : ∀ t : Fin grid0.N, _)
section
variable {H F P TG WG WP : ℕ → ℕ → ℝ} {GE GP : ℕ → ℝ} (R : Reads m c H F P TG WG WP GE GP)
include R

/-! ## The blocks a grid point reads -/

theorem blk0 (t : Fin cfg0.N) (i : S512x1024.Idx) : iblk m c 0 t i = ((XN H F GE GP (t.val * 512 + (i 0).val) (i 1).val : ℝ) : EReal) := by
  refine (R.x _).trans ?_
  blk_simp [idx t]
theorem blk1 (t : Fin cfg0.N) (i : S512x256.Idx) : iblk m c 1 t i = ((P (t.val * 512 + (i 0).val) (i 1).val : ℝ) : EReal) := by
  refine (R.p _).trans ?_
  blk_simp [idx t]
theorem blk2 (t : Fin cfg0.N) (i : S512x1024.Idx) : iblk m c 2 t i = ((H2 H F GP (t.val * 512 + (i 0).val) (i 1).val : ℝ) : EReal) := by
  refine (R.h _).trans ?_
  blk_simp [idx t]
theorem blk3 (t : Fin cfg0.N) (i : S512x1024.Idx) : iblk m c 3 t i = ((F (t.val * 512 + (i 0).val) (i 1).val : ℝ) : EReal) := by
  refine (R.f _).trans ?_
  blk_simp [idx t]
theorem blk4 (t : Fin cfg0.N) (i : S512x1024.Idx) : iblk m c 4 t i = ((TG (t.val * 512 + (i 0).val) (i 1).val : ℝ) : EReal) := by
  refine (R.t _).trans ?_
  blk_simp [idx t]
theorem blk5 (t : Fin cfg0.N) (i : S1024x1024.Idx) : iblk m c 5 t i = ((WG (i 0).val (i 1).val : ℝ) : EReal) := by
  refine (R.g _).trans ?_
  blk_simp [idx t]
theorem blk6 (t : Fin cfg0.N) (i : S256x1024.Idx) : iblk m c 6 t i = ((WP (i 0).val (i 1).val : ℝ) : EReal) := by
  refine (R.w _).trans ?_
  blk_simp [idx t]
theorem blk7 (t : Fin cfg0.N) (i : S1x1024.Idx) : iblk m c 7 t i = ((GE (i 1).val : ℝ) : EReal) := by
  refine (R.e _).trans ?_
  blk_simp [idx t]
theorem blk8 (t : Fin cfg0.N) (i : S1x1024.Idx) : iblk m c 8 t i = ((GP (i 1).val : ℝ) : EReal) := by
  refine (R.q _).trans ?_
  blk_simp [idx t]

/-! ## What a grid point computes -/

theorem sgT (t : Fin cfg0.N) (i : S512x1024.Idx) : k0_pay3 (iblk m c 0 t) (iblk m c 5 t) i = ((SG H F WG GE GP (t.val * 512 + (i 0).val) (i 1).val : ℝ) : EReal) :=
  sg (blk0 m c R t) (blk5 m c R t) i
theorem ppT (t : Fin cfg0.N) (i : S512x1024.Idx) : k0_pay4 (iblk m c 1 t) (iblk m c 6 t) i = ((PP P WP (t.val * 512 + (i 0).val) (i 1).val : ℝ) : EReal) :=
  pp (blk1 m c R t) (blk6 m c R t) i
theorem h2T (t : Fin cfg0.N) (i : S512x1024.Idx) : k0_pay5 (F := Ideal) (iblk m c 2 t) i = ((H2 H F GP (t.val * 512 + (i 0).val) (i 1).val : ℝ) : EReal) := by
  refine Eq.trans ?_ (blk2 m c R t i)
  generalize iblk m c 2 t = x
  pointwise [k0_pay5]
theorem d3T (t : Fin cfg0.N) (i : S512x1024.Idx) :
    k0_pay9 (iblk m c 0 t) (iblk m c 5 t) (iblk m c 1 t) (iblk m c 6 t) (iblk m c 2 t) (iblk m c 4 t) i = ((dH3 H F P TG WG WP GE GP (t.val * 512 + (i 0).val) (i 1).val : ℝ) : EReal) :=
  d3 (sgT m c R t) (ppT m c R t) (blk2 m c R t) (blk4 m c R t) i
theorem dxT (t : Fin cfg0.N) (i : S512x1024.Idx) :
    k0_pay12 (k0_pay3 (iblk m c 0 t) (iblk m c 5 t)) (k0_pay4 (iblk m c 1 t) (iblk m c 6 t))
      (k0_pay9 (iblk m c 0 t) (iblk m c 5 t) (iblk m c 1 t) (iblk m c 6 t) (iblk m c 2 t) (iblk m c 4 t)) (iblk m c 5 t) i
      = ((DX H F P TG WG WP GE GP (t.val * 512 + (i 0).val) (i 1).val : ℝ) : EReal) :=
  dx (sgT m c R t) (ppT m c R t) (d3T m c R t) (blk5 m c R t) i
theorem b1T (t : Fin cfg0.N) (i : S512x1024.Idx) :
    k0_pay15 (k0_pay3 (iblk m c 0 t) (iblk m c 5 t)) (k0_pay4 (iblk m c 1 t) (iblk m c 6 t)) (k0_pay5 (iblk m c 2 t))
      (k0_pay9 (iblk m c 0 t) (iblk m c 5 t) (iblk m c 1 t) (iblk m c 6 t) (iblk m c 2 t) (iblk m c 4 t)) (iblk m c 5 t) (iblk m c 7 t) i
      = ((bwd 1024 (H2 H F GP) (fun t d => DX H F P TG WG WP GE GP t d * GE d) (t.val * 512 + (i 0).val) (i 1).val : ℝ) : EReal) :=
  b1 (h2T m c R t) (dxT m c R t) (blk7 m c R t) i

/-! ## What a grid point leaves -/

theorem row9 (t : Fin cfg0.N) (y : S512x1024.Idx) : (outsAt0 m c t.val t.isLt).1 y = ((dH2 H F P TG WG WP GE GP (t.val * 512 + (y 0).val) (y 1).val : ℝ) : EReal) := by
  have key : k0_pay19 (k0_pay9 (iblk m c 0 t) (iblk m c 5 t) (iblk m c 1 t) (iblk m c 6 t) (iblk m c 2 t) (iblk m c 4 t))
      (k0_pay15 (k0_pay3 (iblk m c 0 t) (iblk m c 5 t)) (k0_pay4 (iblk m c 1 t) (iblk m c 6 t)) (k0_pay5 (iblk m c 2 t))
      (k0_pay9 (iblk m c 0 t) (iblk m c 5 t) (iblk m c 1 t) (iblk m c 6 t) (iblk m c 2 t) (iblk m c 4 t)) (iblk m c 5 t) (iblk m c 7 t)) y = ((dH2 H F P TG WG WP GE GP (t.val * 512 + (y 0).val) (y 1).val : ℝ) : EReal) := by
    have h := b1T m c R t y
    have h3 := d3T m c R t y
    generalize (k0_pay15 (k0_pay3 (iblk m c 0 t) (iblk m c 5 t)) (k0_pay4 (iblk m c 1 t) (iblk m c 6 t)) (k0_pay5 (iblk m c 2 t))
      (k0_pay9 (iblk m c 0 t) (iblk m c 5 t) (iblk m c 1 t) (iblk m c 6 t) (iblk m c 2 t) (iblk m c 4 t)) (iblk m c 5 t) (iblk m c 7 t)) = a at *
    generalize (k0_pay9 (iblk m c 0 t) (iblk m c 5 t) (iblk m c 1 t) (iblk m c 6 t) (iblk m c 2 t) (iblk m c 4 t)) = b at *
    pointwise [k0_pay19]
    rw [h, h3, ← EReal.coe_add]
    rfl
  by_cases h0 : t.val % 32 = 0
  · rw [outsAt0_A m c t h0 h0 h0]
    unfold out0_A_9 kernelRun0_A
    dsimp only
    frame_out
    exact key
  · rw [outsAt0_B m c t h0 h0 h0]
    unfold out0_B_9 kernelRun0_B
    dsimp only
    frame_out
    exact key

theorem row10 (t : Fin cfg0.N) (y : S512x1024.Idx) : (outsAt0 m c t.val t.isLt).2.1 y = ((dF H F P TG WG WP GE GP (t.val * 512 + (y 0).val) (y 1).val : ℝ) : EReal) := by
  have key := b2 (blk3 m c R t) (d3T m c R t) (b1T m c R t) (blk8 m c R t) y
  by_cases h0 : t.val % 32 = 0
  · rw [outsAt0_A m c t h0 h0 h0]
    unfold out0_A_10 kernelRun0_A
    dsimp only
    frame_out
    exact key
  · rw [outsAt0_B m c t h0 h0 h0]
    unfold out0_B_10 kernelRun0_B
    dsimp only
    frame_out
    exact key

theorem row11 (t : Fin cfg0.N) (y : S512x1024.Idx) : (outsAt0 m c t.val t.isLt).2.2.1 y = ((dGL H F P TG WG WP GE GP (t.val * 512 + (y 0).val) (y 1).val : ℝ) : EReal) := by
  have key := dgl (sgT m c R t) (ppT m c R t) (d3T m c R t) y
  by_cases h0 : t.val % 32 = 0
  · rw [outsAt0_A m c t h0 h0 h0]
    unfold out0_A_11 kernelRun0_A
    dsimp only
    frame_out
    exact key
  · rw [outsAt0_B m c t h0 h0 h0]
    unfold out0_B_11 kernelRun0_B
    dsimp only
    frame_out
    exact key

theorem row12 (t : Fin cfg0.N) (y : S512x1024.Idx) : (outsAt0 m c t.val t.isLt).2.2.2.1 y = ((dPP H F P TG WG WP GE GP (t.val * 512 + (y 0).val) (y 1).val : ℝ) : EReal) := by
  have key : k0_pay11 (k0_pay3 (iblk m c 0 t) (iblk m c 5 t))
      (k0_pay9 (iblk m c 0 t) (iblk m c 5 t) (iblk m c 1 t) (iblk m c 6 t) (iblk m c 2 t) (iblk m c 4 t)) y = ((dPP H F P TG WG WP GE GP (t.val * 512 + (y 0).val) (y 1).val : ℝ) : EReal) := by
    have h := sgT m c R t y
    have h3 := d3T m c R t y
    generalize (k0_pay3 (iblk m c 0 t) (iblk m c 5 t)) = a at *
    generalize (k0_pay9 (iblk m c 0 t) (iblk m c 5 t) (iblk m c 1 t) (iblk m c 6 t) (iblk m c 2 t) (iblk m c 4 t)) = b at *
    pointwise [k0_pay11]
    rw [h, h3, ← EReal.coe_mul]
    rfl
  by_cases h0 : t.val % 32 = 0
  · rw [outsAt0_A m c t h0 h0 h0]
    unfold out0_A_12 kernelRun0_A
    dsimp only
    frame_out
    exact key
  · rw [outsAt0_B m c t h0 h0 h0]
    unfold out0_B_12 kernelRun0_B
    dsimp only
    frame_out
    exact key

theorem sum13 : ∀ n (hn : n < cfg0.N), (outsAt0 m c n hn).2.2.2.2.1 (ix2 0 0)
    = ((∑ t ∈ range ((n + 1) * 512), loss H F P TG WG WP GE GP t : ℝ) : EReal)
  | 0, hn => by
    rw [outsAt0_A m c ⟨0, hn⟩ rfl rfl rfl]
    unfold out0_A_13 kernelRun0_A
    dsimp only
    frame_out
    rw [ls (sgT m c R ⟨0, hn⟩) (ppT m c R ⟨0, hn⟩) (blk2 m c R ⟨0, hn⟩) (blk4 m c R ⟨0, hn⟩)]
    pointwise [k0_pay7]
    rfl
  | n + 1, hn => by
    have hN : cfg0.N = 32 := rfl
    have h0 : ¬ (n + 1) % 32 = 0 := by omega
    rw [outsAt0_B m c ⟨n + 1, hn⟩ h0 h0 h0]
    unfold out0_B_13 kernelRun0_B
    dsimp only
    frame_out
    rw [ls (sgT m c R ⟨n + 1, hn⟩) (ppT m c R ⟨n + 1, hn⟩) (blk2 m c R ⟨n + 1, hn⟩) (blk4 m c R ⟨n + 1, hn⟩)]
    simp only [Nat.add_sub_cancel]
    rw [sum13 n (by omega), ← EReal.coe_add, show (n + 1 + 1) * 512 = (n + 1) * 512 + 512 from by omega, sum_range_add]
    rfl

theorem sum14 (d : Fin 1024) : ∀ n (hn : n < cfg0.N), (outsAt0 m c n hn).2.2.2.2.2.1 (ix2 0 d)
    = ((∑ t ∈ range ((n + 1) * 512), ge H F P TG WG WP GE GP t d.val : ℝ) : EReal)
  | 0, hn => by
    rw [outsAt0_A m c ⟨0, hn⟩ rfl rfl rfl]
    unfold out0_A_14 kernelRun0_A
    dsimp only
    frame_out
    rw [c1 (h2T m c R ⟨0, hn⟩) (dxT m c R ⟨0, hn⟩)]
    pointwise [k0_pay17]
    rfl
  | n + 1, hn => by
    have hN : cfg0.N = 32 := rfl
    have h0 : ¬ (n + 1) % 32 = 0 := by omega
    rw [outsAt0_B m c ⟨n + 1, hn⟩ h0 h0 h0]
    unfold out0_B_14 kernelRun0_B
    dsimp only
    frame_out
    rw [c1 (h2T m c R ⟨n + 1, hn⟩) (dxT m c R ⟨n + 1, hn⟩)]
    simp only [Nat.add_sub_cancel]
    rw [sum14 d n (by omega), ← EReal.coe_add, show (n + 1 + 1) * 512 = (n + 1) * 512 + 512 from by omega, sum_range_add]
    rfl

theorem sum15 (d : Fin 1024) : ∀ n (hn : n < cfg0.N), (outsAt0 m c n hn).2.2.2.2.2.2 (ix2 0 d)
    = ((∑ t ∈ range ((n + 1) * 512), gp H F P TG WG WP GE GP t d.val : ℝ) : EReal)
  | 0, hn => by
    rw [outsAt0_A m c ⟨0, hn⟩ rfl rfl rfl]
    unfold out0_A_15 kernelRun0_A
    dsimp only
    frame_out
    rw [c2 (blk3 m c R ⟨0, hn⟩) (d3T m c R ⟨0, hn⟩) (b1T m c R ⟨0, hn⟩)]
    pointwise [k0_pay24]
    rfl
  | n + 1, hn => by
    have hN : cfg0.N = 32 := rfl
    have h0 : ¬ (n + 1) % 32 = 0 := by omega
    rw [outsAt0_B m c ⟨n + 1, hn⟩ h0 h0 h0]
    unfold out0_B_15 kernelRun0_B
    dsimp only
    frame_out
    rw [c2 (blk3 m c R ⟨n + 1, hn⟩) (d3T m c R ⟨n + 1, hn⟩) (b1T m c R ⟨n + 1, hn⟩)]
    simp only [Nat.add_sub_cancel]
    rw [sum15 d n (by omega), ← EReal.coe_add, show (n + 1 + 1) * 512 = (n + 1) * 512 + 512 from by omega, sum_range_add]
    rfl

/-! ## The arrays after the run -/

theorem final9 (i : S16384x1024.Idx) : ((dats m 0 c).arrAt 9 cfg0.N : (⟨S16384x1024, .f32⟩ : BufTy).Contents (Elt Ideal)) i
    = ((dH2 H F P TG WG WP GE GP (i 0).val (i 1).val : ℝ) : EReal) := by
  refine congrFun ((dats m 0 c).arrAt_eq_of_covers 9 (fun i : S16384x1024.Idx => ((dH2 H F P TG WG WP GE GP (i 0).val (i 1).val : ℝ) : EReal))
    (by decide +kernel) fun t _ y => ?_) i
  rw [after0_9]
  blk_simp [idx t]
  exact row9 m c R t y

theorem final10 (i : S16384x1024.Idx) : ((dats m 0 c).arrAt 10 cfg0.N : (⟨S16384x1024, .bf16⟩ : BufTy).Contents (Elt Ideal)) i
    = ((dF H F P TG WG WP GE GP (i 0).val (i 1).val : ℝ) : EReal) := by
  refine congrFun ((dats m 0 c).arrAt_eq_of_covers 10 (fun i : S16384x1024.Idx => ((dF H F P TG WG WP GE GP (i 0).val (i 1).val : ℝ) : EReal))
    (by decide +kernel) fun t _ y => ?_) i
  rw [after0_10]
  blk_simp [idx t]
  exact row10 m c R t y

theorem final11 (i : S16384x1024.Idx) : ((dats m 0 c).arrAt 11 cfg0.N : (⟨S16384x1024, .bf16⟩ : BufTy).Contents (Elt Ideal)) i
    = ((dGL H F P TG WG WP GE GP (i 0).val (i 1).val : ℝ) : EReal) := by
  refine congrFun ((dats m 0 c).arrAt_eq_of_covers 11 (fun i : S16384x1024.Idx => ((dGL H F P TG WG WP GE GP (i 0).val (i 1).val : ℝ) : EReal))
    (by decide +kernel) fun t _ y => ?_) i
  rw [after0_11]
  blk_simp [idx t]
  exact row11 m c R t y

theorem final12 (i : S16384x1024.Idx) : ((dats m 0 c).arrAt 12 cfg0.N : (⟨S16384x1024, .bf16⟩ : BufTy).Contents (Elt Ideal)) i
    = ((dPP H F P TG WG WP GE GP (i 0).val (i 1).val : ℝ) : EReal) := by
  refine congrFun ((dats m 0 c).arrAt_eq_of_covers 12 (fun i : S16384x1024.Idx => ((dPP H F P TG WG WP GE GP (i 0).val (i 1).val : ℝ) : EReal))
    (by decide +kernel) fun t _ y => ?_) i
  rw [after0_12]
  blk_simp [idx t]
  exact row12 m c R t y

theorem final13 (i : S1x1.Idx) : ((dats m 0 c).arrAt 13 cfg0.N : (⟨S1x1, .f32⟩ : BufTy).Contents (Elt Ideal)) i
    = ((∑ t ∈ range 16384, loss H F P TG WG WP GE GP t : ℝ) : EReal) := by
  refine congrFun ((dats m 0 c).arrAt_eq_of_covers 13 (fun i : S1x1.Idx => ((∑ t ∈ range 16384, loss H F P TG WG WP GE GP t : ℝ) : EReal))
    (by decide +kernel) fun t hf y => ?_) i
  have hf := flush13 t hf
  rw [after0_13]
  blk_simp [idx t]
  have h0 : (y 0).val < 1 := (y 0).isLt
  have h1 : (y 1).val < 1 := (y 1).isLt
  refine (congrArg _ (?_ : y = ix2 0 0)).trans ((sum13 m c R t.val t.isLt).trans ?_)
  · blk_ext
  · rw [hf]

theorem final14 (i : S1x1024.Idx) : ((dats m 0 c).arrAt 14 cfg0.N : (⟨S1x1024, .f32⟩ : BufTy).Contents (Elt Ideal)) i
    = ((∑ t ∈ range 16384, ge H F P TG WG WP GE GP t (i 1).val : ℝ) : EReal) := by
  refine congrFun ((dats m 0 c).arrAt_eq_of_covers 14 (fun i : S1x1024.Idx => ((∑ t ∈ range 16384, ge H F P TG WG WP GE GP t (i 1).val : ℝ) : EReal))
    (by decide +kernel) fun t hf y => ?_) i
  have hf := flush14 t hf
  rw [after0_14]
  blk_simp [idx t]
  have h0 : (y 0).val < 1 := (y 0).isLt
  refine (congrArg _ (?_ : y = ix2 0 (y 1))).trans ((sum14 m c R (y 1) t.val t.isLt).trans ?_)
  · blk_ext
  · rw [hf]

theorem final15 (i : S1x1024.Idx) : ((dats m 0 c).arrAt 15 cfg0.N : (⟨S1x1024, .f32⟩ : BufTy).Contents (Elt Ideal)) i
    = ((∑ t ∈ range 16384, gp H F P TG WG WP GE GP t (i 1).val : ℝ) : EReal) := by
  refine congrFun ((dats m 0 c).arrAt_eq_of_covers 15 (fun i : S1x1024.Idx => ((∑ t ∈ range 16384, gp H F P TG WG WP GE GP t (i 1).val : ℝ) : EReal))
    (by decide +kernel) fun t hf y => ?_) i
  have hf := flush15 t hf
  rw [after0_15]
  blk_simp [idx t]
  have h0 : (y 0).val < 1 := (y 0).isLt
  refine (congrArg _ (?_ : y = ix2 0 (y 1))).trans ((sum15 m c R (y 1) t.val t.isLt).trans ?_)
  · blk_ext
  · rw [hf]

end

/-! ## The host lines before the call -/

/-- The residual stream after the feed-forward norm, and its own norm, as the host lines compute them. -/
def root (y : FVec Ideal S16384x1024 .f32) : FVec Ideal S16384x1 .f32 :=
  Host.rsqrt (addf (Host.divf
    (broadcastInDim S16384x1 ![0] bcast_S16384_S16384x1_0 (Host.reduceAdd (mulf y y) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))
def norm (y : FVec Ideal S16384x1024 .f32) (g : FVec Ideal S1x1024 .f32) : FVec Ideal S16384x1024 .f32 :=
  mulf (mulf y (broadcastInDim S16384x1024 ![0, 1] bcast_S16384x1_S16384x1024_0_1 (root y))) (broadcastInDim S16384x1024 ![0, 1] bcast_S1x1024_S16384x1024_0_1 g)
def stream (x y : FVec Ideal S16384x1024 .f32) (g : FVec Ideal S1x1024 .f32) : FVec Ideal S16384x1024 .f32 := addf x (norm y g)

theorem norm_apply {Y : ℕ → ℕ → ℝ} {G : ℕ → ℝ} {y : FVec Ideal S16384x1024 .f32} {g : FVec Ideal S1x1024 .f32}
    (hy : ∀ i : S16384x1024.Idx, y i = ((Y (i 0).val (i 1).val : ℝ) : EReal))
    (hg : ∀ i : S1x1024.Idx, g i = ((G (i 1).val : ℝ) : EReal)) (i : S16384x1024.Idx) :
    norm y g i = ((Y (i 0).val (i 1).val * rs 1024 Y (i 0).val * G (i 1).val : ℝ) : EReal) := by
  unfold norm root
  pointwise []
  rw [rs_val (X := Y) (t := (i 0).val) (by decide) (by rw [ofBits_1024]; norm_num) fun k => hy _, hy, hg, ← EReal.coe_mul, ← EReal.coe_mul]
  rfl

theorem stream_apply {X Y : ℕ → ℕ → ℝ} {G : ℕ → ℝ} {x y : FVec Ideal S16384x1024 .f32} {g : FVec Ideal S1x1024 .f32}
    (hx : ∀ i : S16384x1024.Idx, x i = ((X (i 0).val (i 1).val : ℝ) : EReal))
    (hy : ∀ i : S16384x1024.Idx, y i = ((Y (i 0).val (i 1).val : ℝ) : EReal))
    (hg : ∀ i : S1x1024.Idx, g i = ((G (i 1).val : ℝ) : EReal)) (i : S16384x1024.Idx) :
    stream x y g i = ((H2 X Y G (i 0).val (i 1).val : ℝ) : EReal) := by
  have h := norm_apply hy hg i
  unfold stream
  generalize norm y g = n at *
  pointwise []
  rw [h, hx, ← EReal.coe_add]
  rfl

/-- The narrowing casts. -/
def narrowX (x : FVec Ideal S16384x1024 .f32) : FVec Ideal S16384x1024 .bf16 := truncf .bf16 x bitsLt_bf16_f32
def narrowG (x : FVec Ideal S1024x1024 .f32) : FVec Ideal S1024x1024 .bf16 := truncf .bf16 x bitsLt_bf16_f32
def narrowP (x : FVec Ideal S256x1024 .f32) : FVec Ideal S256x1024 .bf16 := truncf .bf16 x bitsLt_bf16_f32

theorem read_h : V m c main_v12 = stream (m ((c.tc : Thread nD τ).loc main_arg0)) (m ((c.tc : Thread nD τ).loc main_arg1)) (m ((c.tc : Thread nD τ).loc main_arg7)) := by
  unfold_abbrev_sides
  after_results
  rfl
theorem read_x : V m c main_v25 = narrowX (norm (stream (m ((c.tc : Thread nD τ).loc main_arg0)) (m ((c.tc : Thread nD τ).loc main_arg1))
    (m ((c.tc : Thread nD τ).loc main_arg7))) (m ((c.tc : Thread nD τ).loc main_arg6))) := by
  unfold_abbrev_sides
  after_results
  rfl
theorem read_g : V m c main_v26 = narrowG (m ((c.tc : Thread nD τ).loc main_arg4)) := by
  unfold_abbrev_sides
  after_results
  rfl
theorem read_w : V m c main_v27 = narrowP (m ((c.tc : Thread nD τ).loc main_arg5)) := by
  unfold_abbrev_sides
  after_results
  rfl
theorem read1 : V m c main_arg1 = m ((c.tc : Thread nD τ).loc main_arg1) := by unfold_abbrev_sides; after_results
theorem read2 : V m c main_arg2 = m ((c.tc : Thread nD τ).loc main_arg2) := by unfold_abbrev_sides; after_results
theorem read3 : V m c main_arg3 = m ((c.tc : Thread nD τ).loc main_arg3) := by unfold_abbrev_sides; after_results
theorem read6 : V m c main_arg6 = m ((c.tc : Thread nD τ).loc main_arg6) := by unfold_abbrev_sides; after_results
theorem read7 : V m c main_arg7 = m ((c.tc : Thread nD τ).loc main_arg7) := by unfold_abbrev_sides; after_results

/-- What the operands hold, from what the arguments hold. -/
theorem reads {H F P TG WG WP : ℕ → ℕ → ℝ} {GE GP : ℕ → ℝ}
    (h0 : ∀ i : S16384x1024.Idx, m ((c.tc : Thread nD τ).loc main_arg0) i = ((H (i 0).val (i 1).val : ℝ) : EReal))
    (h1 : ∀ i : S16384x1024.Idx, m ((c.tc : Thread nD τ).loc main_arg1) i = ((F (i 0).val (i 1).val : ℝ) : EReal))
    (h2 : ∀ i : S16384x256.Idx, m ((c.tc : Thread nD τ).loc main_arg2) i = ((P (i 0).val (i 1).val : ℝ) : EReal))
    (h3 : ∀ i : S16384x1024.Idx, m ((c.tc : Thread nD τ).loc main_arg3) i = ((TG (i 0).val (i 1).val : ℝ) : EReal))
    (h4 : ∀ i : S1024x1024.Idx, m ((c.tc : Thread nD τ).loc main_arg4) i = ((WG (i 0).val (i 1).val : ℝ) : EReal))
    (h5 : ∀ i : S256x1024.Idx, m ((c.tc : Thread nD τ).loc main_arg5) i = ((WP (i 0).val (i 1).val : ℝ) : EReal))
    (h6 : ∀ i : S1x1024.Idx, m ((c.tc : Thread nD τ).loc main_arg6) i = ((GE (i 1).val : ℝ) : EReal))
    (h7 : ∀ i : S1x1024.Idx, m ((c.tc : Thread nD τ).loc main_arg7) i = ((GP (i 1).val : ℝ) : EReal)) :
    Reads m c H F P TG WG WP GE GP where
  x i := by rw [read_x]; exact norm_apply (stream_apply h0 h1 h7) h6 i
  p i := by rw [read2]; exact h2 i
  h i := by rw [read_h]; exact stream_apply h0 h1 h7 i
  f i := by rw [read1]; exact h1 i
  t i := by rw [read3]; exact h3 i
  g i := by rw [read_g]; exact h4 i
  w i := by rw [read_w]; exact h5 i
  e i := by rw [read6]; exact h6 i
  q i := by rw [read7]; exact h7 i

end Cert.Ple.Bwd
-- ==== Proof.PleRef.lean ====
/- What the gate, the loss and their `jax.vjp` compute over the reals: the seven results. -/
module

public import proofs.«01_k».proof.Proof.Gen.Reference4Ideal.Read
public import proofs.«01_k».proof.Proof.PleSpec

@[expose] public section

set_option maxRecDepth 16384

noncomputable section

namespace Cert.Ple.Ref

open Cert.Reference4Ideal Cert.Reference4Ideal.Gen Cert.Reference4Ideal.Read Idealize.ShloMosaic Finset Cert.Rms Cert.AttnA

variable {H F P TG WG WP : ℕ → ℕ → ℝ} {GE GP : ℕ → ℝ}
variable {x0 x1 x3 : (⟨S16384x1024, .f32⟩ : BufTy).Contents (Elt Ideal)} {x2 : (⟨S16384x256, .f32⟩ : BufTy).Contents (Elt Ideal)}
  {x4 : (⟨S1024x1024, .f32⟩ : BufTy).Contents (Elt Ideal)} {x5 : (⟨S256x1024, .f32⟩ : BufTy).Contents (Elt Ideal)}
  {x6 x7 : (⟨S1x1024, .f32⟩ : BufTy).Contents (Elt Ideal)}
  (h0 : ∀ i : S16384x1024.Idx, x0 i = ((H (i 0).val (i 1).val : ℝ) : EReal))
  (h1 : ∀ i : S16384x1024.Idx, x1 i = ((F (i 0).val (i 1).val : ℝ) : EReal))
  (h2 : ∀ i : S16384x256.Idx, x2 i = ((P (i 0).val (i 1).val : ℝ) : EReal))
  (h3 : ∀ i : S16384x1024.Idx, x3 i = ((TG (i 0).val (i 1).val : ℝ) : EReal))
  (h4 : ∀ i : S1024x1024.Idx, x4 i = ((WG (i 0).val (i 1).val : ℝ) : EReal))
  (h5 : ∀ i : S256x1024.Idx, x5 i = ((WP (i 0).val (i 1).val : ℝ) : EReal))
  (h6 : ∀ i : S1x1024.Idx, x6 i = ((GE (i 1).val : ℝ) : EReal))
  (h7 : ∀ i : S1x1024.Idx, x7 i = ((GP (i 1).val : ℝ) : EReal))

theorem word : Ideal.ofBits .f32 0x44800000#32 = (((1024 : ℕ) : ℝ) : EReal) := by rw [ofBits_1024]; norm_num

/-! ## The norms -/

include h1 in
theorem v7 (i : S16384x1.Idx) : val_main_v7 (F := Ideal) x1 i
    = ((ms 1024 F (i 0).val : ℝ) : EReal) := by
  unfold val_main_v7 val_main_v5 val_main_v3 val_main_v2 val_main_v1
  pointwise [val_main_v4, val_main_v6, val_main_cst, val_main_cst_0, val_main_cst_1]
  exact ms_val (by decide) word fun k => h1 _

include h1 in
theorem v8 (i : S16384x1.Idx) : val_main_v8 (F := Ideal) x1 i
    = ((rs 1024 F (i 0).val : ℝ) : EReal) := by
  rw [← rsqrt_ms, ← v7 h1 i]
  rfl

include h1 in
theorem v13 (i : S16384x1024.Idx) : val_main_v13 (F := Ideal) x1 i
    = ((F (i 0).val (i 1).val * rs 1024 F (i 0).val : ℝ) : EReal) := by
  unfold val_main_v13 val_main_v12
  have hr := v8 h1
  generalize val_main_v8 (F := Ideal) x1 = r at *
  pointwise []
  rw [h1, hr, ← EReal.coe_mul]
  rfl

include h0 h1 h7 in
theorem v16 (i : S16384x1024.Idx) : val_main_v16 (F := Ideal) x0 x1 x7 i
    = ((H2 H F GP (i 0).val (i 1).val : ℝ) : EReal) := by
  unfold val_main_v16 val_main_v15 val_main_v14
  have hn := v13 h1
  generalize val_main_v13 (F := Ideal) x1 = n at *
  pointwise []
  rw [hn, h0, h7, ← EReal.coe_mul, ← EReal.coe_add]
  rfl

include h0 h1 h7 in
theorem v23 (i : S16384x1.Idx) : val_main_v23 (F := Ideal) x0 x1 x7 i
    = ((ms 1024 (H2 H F GP) (i 0).val : ℝ) : EReal) := by
  unfold val_main_v23 val_main_v21 val_main_v19 val_main_v18 val_main_v17
  have ha := v16 h0 h1 h7
  generalize val_main_v16 (F := Ideal) x0 x1 x7 = a at *
  pointwise [val_main_v20, val_main_v22, val_main_cst_3, val_main_cst_4, val_main_cst_5]
  exact ms_val (by decide) word fun k => ha _

include h0 h1 h7 in
theorem v24 (i : S16384x1.Idx) : val_main_v24 (F := Ideal) x0 x1 x7 i
    = ((rs 1024 (H2 H F GP) (i 0).val : ℝ) : EReal) := by
  rw [← rsqrt_ms, ← v23 h0 h1 h7 i]
  rfl

include h0 h1 h7 in
theorem v29 (i : S16384x1024.Idx) : val_main_v29 (F := Ideal) x0 x1 x7 i
    = ((H2 H F GP (i 0).val (i 1).val * rs 1024 (H2 H F GP) (i 0).val : ℝ) : EReal) := by
  unfold val_main_v29 val_main_v28
  have ha := v16 h0 h1 h7
  have hr := v24 h0 h1 h7
  generalize val_main_v16 (F := Ideal) x0 x1 x7 = a at *
  generalize val_main_v24 (F := Ideal) x0 x1 x7 = r at *
  pointwise []
  rw [ha, hr, ← EReal.coe_mul]
  rfl

/-! ## The gate, the error and the loss -/

include h0 h1 h4 h6 h7 in
theorem v32 (i : S16384x1024.Idx) : val_main_v32 (F := Ideal) x0 x1 x4 x6 x7 i
    = ((ZG H F WG GE GP (i 0).val (i 1).val : ℝ) : EReal) := by
  unfold val_main_v32 val_main_v31 val_main_v30
  have ha := v29 h0 h1 h7
  generalize val_main_v29 (F := Ideal) x0 x1 x7 = a at *
  pointwise []
  refine sum_fin (fun d => XN H F GE GP (i 0).val d * WG d (i 1).val) fun d => ?_
  rw [ha, h6, h4, ← EReal.coe_mul, ← EReal.coe_mul]
  rfl

include h0 h1 h4 h6 h7 in
theorem v38 (i : S16384x1024.Idx) : val_main_v38 (F := Ideal) x0 x1 x4 x6 x7 i
    = ((SG H F WG GE GP (i 0).val (i 1).val : ℝ) : EReal) := by
  unfold val_main_v38 val_main_v36 val_main_v34 val_main_v33
  have ha := v32 h0 h1 h4 h6 h7
  generalize val_main_v32 (F := Ideal) x0 x1 x4 x6 x7 = a at *
  pointwise [val_main_v35, val_main_v37, val_main_cst_7, val_main_cst_8]
  rw [ha]
  exact sigmoid_val _

include h2 h5 in
theorem v0 (i : S16384x1024.Idx) : val_main_v0 (F := Ideal) x2 x5 i
    = ((PP P WP (i 0).val (i 1).val : ℝ) : EReal) := by
  unfold val_main_v0
  pointwise []
  exact sum_fin (fun p => P (i 0).val p * WP p (i 1).val) fun p => by rw [h2, h5, ← EReal.coe_mul]; rfl

include h0 h1 h2 h3 h4 h5 h6 h7 in
theorem v44 (i : S16384x1024.Idx) : val_main_v44 (F := Ideal) x0 x1 x2 x3 x4 x5 x6 x7 i
    = ((ER H F P TG WG WP GE GP (i 0).val (i 1).val : ℝ) : EReal) := by
  unfold val_main_v44 val_main_v43 val_main_v42
  have ha := v16 h0 h1 h7
  have hs := v38 h0 h1 h4 h6 h7
  have hp := v0 h2 h5
  generalize val_main_v16 (F := Ideal) x0 x1 x7 = a at *
  generalize val_main_v38 (F := Ideal) x0 x1 x4 x6 x7 = s at *
  generalize val_main_v0 (F := Ideal) x2 x5 = p at *
  pointwise []
  rw [ha, hs, hp, h3, ← EReal.coe_mul, ← EReal.coe_add, ← EReal.coe_sub]
  rfl

include h0 h1 h2 h3 h4 h5 h6 h7 in
/-- The loss. -/
theorem v105 (i : S1x1.Idx) : val_main_v105 (F := Ideal) x0 x1 x2 x3 x4 x5 x6 x7 i
    = ((∑ t ∈ range 16384, loss H F P TG WG WP GE GP t : ℝ) : EReal) := by
  unfold val_main_v105 val_main_v52 val_main_v51 val_main_v50 val_main_v48 val_main_v45
  have he := v44 h0 h1 h2 h3 h4 h5 h6 h7
  generalize val_main_v44 (F := Ideal) x0 x1 x2 x3 x4 x5 x6 x7 = e at *
  pointwise [val_main_v49, val_main_cst_11, val_main_cst_12, val_main_cst_13, val_main_cst_14]
  rw [sum_fin (fun t => (∑ e ∈ range 1024, ER H F P TG WG WP GE GP t e * ER H F P TG WG WP GE GP t e) * (1 / 1024)) fun t => ?_, ofBits_half, ← EReal.coe_mul, Finset.mul_sum]
  · refine congrArg _ (Finset.sum_congr rfl fun t _ => ?_)
    unfold loss
    ring
  · rw [sum_fin (fun e => ER H F P TG WG WP GE GP t.val e * ER H F P TG WG WP GE GP t.val e) fun e => by rw [he, ← EReal.coe_mul]; rfl, ofBits_1024, Ideal.div_coe (by norm_num), ← EReal.coe_mul]

include h0 h1 h2 h3 h4 h5 h6 h7 in
theorem v58 (i : S16384x1024.Idx) : val_main_v58 (F := Ideal) x0 x1 x2 x3 x4 x5 x6 x7 i
    = ((dH3 H F P TG WG WP GE GP (i 0).val (i 1).val : ℝ) : EReal) := by
  unfold val_main_v58 val_main_v47
  have he := v44 h0 h1 h2 h3 h4 h5 h6 h7
  generalize val_main_v44 (F := Ideal) x0 x1 x2 x3 x4 x5 x6 x7 = e at *
  pointwise [val_main_v57, val_main_v56, val_main_v55, val_main_v54, val_main_v53, val_main_v46, val_main_cst_10, val_main_cst_15, val_main_cst_16, val_main_cst_17]
  rw [he, ofBits_half, ofBits_1024, ofBits_two, Ideal.div_coe (by norm_num), ← EReal.coe_mul, ← EReal.coe_mul, ← EReal.coe_mul]
  unfold dH3
  congr 1
  ring

include h0 h1 h2 h3 h4 h5 h6 h7 in
theorem v61 (i : S16384x1024.Idx) : val_main_v61 (F := Ideal) x0 x1 x2 x3 x4 x5 x6 x7 i
    = ((dGL H F P TG WG WP GE GP (i 0).val (i 1).val : ℝ) : EReal) := by
  unfold val_main_v61 val_main_v60 val_main_v41 val_main_v40
  have he := v58 h0 h1 h2 h3 h4 h5 h6 h7
  have hs := v38 h0 h1 h4 h6 h7
  have hp := v0 h2 h5
  generalize val_main_v58 (F := Ideal) x0 x1 x2 x3 x4 x5 x6 x7 = e at *
  generalize val_main_v38 (F := Ideal) x0 x1 x4 x6 x7 = s at *
  generalize val_main_v0 (F := Ideal) x2 x5 = p at *
  pointwise [val_main_v39, val_main_cst_9]
  rw [he, hs, hp, ← EReal.coe_one, ← EReal.coe_sub, ← EReal.coe_mul, ← EReal.coe_mul, ← EReal.coe_mul, ← mul_assoc]
  rfl

include h0 h1 h2 h3 h4 h5 h6 h7 in
/-- The gradient with respect to the gate's argument. -/
theorem v103 (i : S16384x1024.Idx) : val_main_v103 (F := Ideal) x0 x1 x2 x3 x4 x5 x6 x7 i
    = ((dGL H F P TG WG WP GE GP (i 0).val (i 1).val : ℝ) : EReal) := by
  unfold val_main_v103
  have he := v61 h0 h1 h2 h3 h4 h5 h6 h7
  generalize val_main_v61 (F := Ideal) x0 x1 x2 x3 x4 x5 x6 x7 = e at *
  pointwise []
  exact he i

include h0 h1 h2 h3 h4 h5 h6 h7 in
/-- The gradient with respect to the embedding. -/
theorem v104 (i : S16384x1024.Idx) : val_main_v104 (F := Ideal) x0 x1 x2 x3 x4 x5 x6 x7 i
    = ((dPP H F P TG WG WP GE GP (i 0).val (i 1).val : ℝ) : EReal) := by
  unfold val_main_v104 val_main_v59
  have he := v58 h0 h1 h2 h3 h4 h5 h6 h7
  have hs := v38 h0 h1 h4 h6 h7
  generalize val_main_v58 (F := Ideal) x0 x1 x2 x3 x4 x5 x6 x7 = e at *
  generalize val_main_v38 (F := Ideal) x0 x1 x4 x6 x7 = s at *
  pointwise []
  rw [he, hs, ← EReal.coe_mul, mul_comm]
  rfl

include h0 h1 h2 h3 h4 h5 h6 h7 in
theorem v62 (i : S16384x1024.Idx) : val_main_v62 (F := Ideal) x0 x1 x2 x3 x4 x5 x6 x7 i
    = ((DX H F P TG WG WP GE GP (i 0).val (i 1).val : ℝ) : EReal) := by
  unfold val_main_v62
  have he := v61 h0 h1 h2 h3 h4 h5 h6 h7
  generalize val_main_v61 (F := Ideal) x0 x1 x2 x3 x4 x5 x6 x7 = e at *
  pointwise []
  exact sum_fin (fun k => dGL H F P TG WG WP GE GP (i 0).val k * WG (i 1).val k) fun k => by rw [he, h4, ← EReal.coe_mul]; rfl

include h0 h1 h2 h3 h4 h5 h6 h7 in
/-- The gradient with respect to the embedding norm's gain. -/
theorem v65 (i : S1x1024.Idx) : val_main_v65 (F := Ideal) x0 x1 x2 x3 x4 x5 x6 x7 i
    = ((∑ t ∈ range 16384, ge H F P TG WG WP GE GP t (i 1).val : ℝ) : EReal) := by
  unfold val_main_v65 val_main_v64 val_main_v63
  have hb := v62 h0 h1 h2 h3 h4 h5 h6 h7
  have ha := v29 h0 h1 h7
  generalize val_main_v62 (F := Ideal) x0 x1 x2 x3 x4 x5 x6 x7 = b at *
  generalize val_main_v29 (F := Ideal) x0 x1 x7 = a at *
  pointwise [val_main_cst_18]
  refine sum_fin (fun t => ge H F P TG WG WP GE GP t (i 1).val) fun t => ?_
  rw [ha, hb, ← EReal.coe_mul, mul_comm]
  rfl

include h0 h1 h2 h3 h4 h5 h6 h7 in
/-- The gradient with respect to the residual stream. -/
theorem v82 (i : S16384x1024.Idx) : val_main_v82 (F := Ideal) x0 x1 x2 x3 x4 x5 x6 x7 i
    = ((dH2 H F P TG WG WP GE GP (i 0).val (i 1).val : ℝ) : EReal) := by
  unfold val_main_v82 val_main_v81 val_main_v80 val_main_v79 val_main_v78 val_main_v77 val_main_v76 val_main_v74 val_main_v73 val_main_v72 val_main_v71 val_main_v70 val_main_v69 val_main_v68 val_main_v67 val_main_v66 val_main_v27 val_main_v25
  have he := v58 h0 h1 h2 h3 h4 h5 h6 h7
  have hb := v62 h0 h1 h2 h3 h4 h5 h6 h7
  have ha := v16 h0 h1 h7
  have hr := v24 h0 h1 h7
  have hq := v23 h0 h1 h7
  generalize val_main_v58 (F := Ideal) x0 x1 x2 x3 x4 x5 x6 x7 = e at *
  generalize val_main_v62 (F := Ideal) x0 x1 x2 x3 x4 x5 x6 x7 = b at *
  generalize val_main_v16 (F := Ideal) x0 x1 x7 = a at *
  generalize val_main_v24 (F := Ideal) x0 x1 x7 = r at *
  generalize val_main_v23 (F := Ideal) x0 x1 x7 = q at *
  pointwise [val_main_v26, val_main_v75, val_main_cst_6, val_main_cst_19, val_main_cst_20, val_main_cst_21]
  refine chain_add (G := fun t d => DX H F P TG WG WP GE GP t d * GE d) (he _) ?_ (hr _) (ha _) ?_
  · rw [hb, h6, ← EReal.coe_mul]; rfl
  · rw [Fin.sum_univ_one]
    refine share_val (t := (i 0).val) (X := H2 H F GP) (G := fun t d => DX H F P TG WG WP GE GP t d * GE d) (by decide) word (fun k => ?_)
      (hr (ix2 (i 0) 0)) (hq (ix2 (i 0) 0)) ofBits_neg_half
    rw [ha, hb, h6, ← EReal.coe_mul, ← EReal.coe_mul]; rfl

include h0 h1 h2 h3 h4 h5 h6 h7 in
/-- The gradient with respect to the feed-forward norm's gain. -/
theorem v85 (i : S1x1024.Idx) : val_main_v85 (F := Ideal) x0 x1 x2 x3 x4 x5 x6 x7 i
    = ((∑ t ∈ range 16384, gp H F P TG WG WP GE GP t (i 1).val : ℝ) : EReal) := by
  unfold val_main_v85 val_main_v84 val_main_v83
  have hb := v82 h0 h1 h2 h3 h4 h5 h6 h7
  have ha := v13 h1
  generalize val_main_v82 (F := Ideal) x0 x1 x2 x3 x4 x5 x6 x7 = b at *
  generalize val_main_v13 (F := Ideal) x1 = a at *
  pointwise [val_main_cst_22]
  refine sum_fin (fun t => gp H F P TG WG WP GE GP t (i 1).val) fun t => ?_
  rw [ha, hb, ← EReal.coe_mul, mul_comm]
  rfl

include h0 h1 h2 h3 h4 h5 h6 h7 in
/-- The gradient with respect to the feed-forward output. -/
theorem v102 (i : S16384x1024.Idx) : val_main_v102 (F := Ideal) x0 x1 x2 x3 x4 x5 x6 x7 i
    = ((dF H F P TG WG WP GE GP (i 0).val (i 1).val : ℝ) : EReal) := by
  unfold val_main_v102 val_main_v101 val_main_v100 val_main_v99 val_main_v98 val_main_v97 val_main_v96 val_main_v95 val_main_v93 val_main_v92 val_main_v91 val_main_v90 val_main_v89 val_main_v88 val_main_v87 val_main_v86 val_main_v11 val_main_v9
  have hb := v82 h0 h1 h2 h3 h4 h5 h6 h7
  have hr := v8 h1
  have hq := v7 h1
  generalize val_main_v82 (F := Ideal) x0 x1 x2 x3 x4 x5 x6 x7 = b at *
  generalize val_main_v8 (F := Ideal) x1 = r at *
  generalize val_main_v7 (F := Ideal) x1 = q at *
  pointwise [val_main_v10, val_main_v94, val_main_cst_2, val_main_cst_23, val_main_cst_24, val_main_cst_25]
  refine chain_val (G := fun t d => dH2 H F P TG WG WP GE GP t d * GP d) ?_ (hr _) (h1 _) ?_
  · rw [hb, h7, ← EReal.coe_mul]; rfl
  · rw [Fin.sum_univ_one]
    refine share_val (t := (i 0).val) (X := F) (G := fun t d => dH2 H F P TG WG WP GE GP t d * GP d) (by decide) word (fun k => ?_)
      (hr (ix2 (i 0) 0)) (hq (ix2 (i 0) 0)) ofBits_neg_half
    rw [h1, hb, h7, ← EReal.coe_mul, ← EReal.coe_mul]; rfl

end Cert.Ple.Ref
-- ==== Proof.PleClaim.lean ====
/- The claims of the gate and loss call: the two programs end with the same seven arrays. -/
module

public import proofs.«01_k».proof.Defs
public import proofs.«01_k».proof.Proof.PleBwd
public import proofs.«01_k».proof.Proof.PleRef
public import proofs.«01_k».proof.Proof.FiniteArgs
public import proofs.«01_k».proof.Proof.Gen.Reference4Ideal.Run
public import proofs.«01_k».proof.Proof.Gen.Pre_finite4

@[expose] public section

set_option maxRecDepth 16384

noncomputable section

namespace Cert.Ple.Claim

open Idealize.ShloMosaic Idealize.ShloMosaic.TcCoe Idealize.SL.Sem

section
open Cert.Pre_finite4

instance : Subsingleton S_.Idx := ⟨fun a b => funext fun k => k.elim0⟩

/-- What the precondition says: every element of every argument is a real. -/
theorem reals (x0 : FVec Ideal S16384x1024 .f32) (x1 : FVec Ideal S16384x1024 .f32) (x2 : FVec Ideal S16384x256 .f32) (x3 : FVec Ideal S16384x1024 .f32) (x4 : FVec Ideal S1024x1024 .f32) (x5 : FVec Ideal S256x1024 .f32) (x6 : FVec Ideal S1x1024 .f32) (x7 : FVec Ideal S1x1024 .f32) [Cert.Pre_finite4.Facts]
    (h : Cert.Pre_finite4.fn (F := Ideal) x0 x1 x2 x3 x4 x5 x6 x7 (Shape.Idx.first Facts.h_S_) = 1#1) :
    (∀ i, (((x0 i : EReal).toReal : ℝ) : EReal) = x0 i)
      ∧ (∀ i, (((x1 i : EReal).toReal : ℝ) : EReal) = x1 i)
      ∧ (∀ i, (((x2 i : EReal).toReal : ℝ) : EReal) = x2 i)
      ∧ (∀ i, (((x3 i : EReal).toReal : ℝ) : EReal) = x3 i)
      ∧ (∀ i, (((x4 i : EReal).toReal : ℝ) : EReal) = x4 i)
      ∧ (∀ i, (((x5 i : EReal).toReal : ℝ) : EReal) = x5 i)
      ∧ (∀ i, (((x6 i : EReal).toReal : ℝ) : EReal) = x6 i)
      ∧ (∀ i, (((x7 i : EReal).toReal : ℝ) : EReal) = x7 i) := by
  unfold Cert.Pre_finite4.fn Cert.Pre_finite4.fn_part1 at h
  dsimp only at h
  obtain ⟨h, h7⟩ := FiniteArgs.and_split _ _ _ h
  obtain ⟨h, h6⟩ := FiniteArgs.and_split _ _ _ h
  obtain ⟨h, h5⟩ := FiniteArgs.and_split _ _ _ h
  obtain ⟨h, h4⟩ := FiniteArgs.and_split _ _ _ h
  obtain ⟨h, h3⟩ := FiniteArgs.and_split _ _ _ h
  obtain ⟨h, h2⟩ := FiniteArgs.and_split _ _ _ h
  obtain ⟨h0, h1⟩ := FiniteArgs.and_split _ _ _ h
  exact ⟨FiniteArgs.real_of_all x0 _ (fun _ => FiniteArgs.ofBits_inf) _ _ _ _ h0,
    FiniteArgs.real_of_all x1 _ (fun _ => FiniteArgs.ofBits_inf) _ _ _ _ h1,
    FiniteArgs.real_of_all x2 _ (fun _ => FiniteArgs.ofBits_inf) _ _ _ _ h2,
    FiniteArgs.real_of_all x3 _ (fun _ => FiniteArgs.ofBits_inf) _ _ _ _ h3,
    FiniteArgs.real_of_all x4 _ (fun _ => FiniteArgs.ofBits_inf) _ _ _ _ h4,
    FiniteArgs.real_of_all x5 _ (fun _ => FiniteArgs.ofBits_inf) _ _ _ _ h5,
    FiniteArgs.real_of_all x6 _ (fun _ => FiniteArgs.ofBits_inf) _ _ _ _ h6,
    FiniteArgs.real_of_all x7 _ (fun _ => FiniteArgs.ofBits_inf) _ _ _ _ h7⟩
end

theorem frame_reference : Cert.quiescent_Reference4Ideal := by
  intro m g _
  exact (θ_run Cert.Reference4Ideal.defs _ _).mono
    (fun r h => ⟨fun c => (h c).2.2.2.2.2.2.2, sem_eq_zero_of_no_sems (by decide) r.2⟩) (Cert.Reference4Ideal.Value.run m g)

theorem frame_reference_pre [Cert.Pre_finite4.Facts] : Cert.quiescent_Reference4Ideal_pre_finite4 := by
  intro m g _
  exact frame_reference m g trivial

set_option maxHeartbeats 2000000 in
open Cert.Kernel4Ideal in
theorem algebraic [hp : Cert.Pre_finite4.Facts] : Cert.algebraic_Kernel4Ideal_Reference4Ideal_pre_finite4 := by
  intro m g m' g' hpre hargs
  have key : ∀ c : Dev nD,
      (Gen.dats m 0 c).arrAt 9 cfg0.N = Cert.Reference4Ideal.Read.val_main_v82 (F := Ideal) (m' ((c.tc : Thread _ Cert.Reference4Ideal.τ).loc Cert.Reference4Ideal.main_arg0))
            (m' ((c.tc : Thread _ Cert.Reference4Ideal.τ).loc Cert.Reference4Ideal.main_arg1))
            (m' ((c.tc : Thread _ Cert.Reference4Ideal.τ).loc Cert.Reference4Ideal.main_arg2))
            (m' ((c.tc : Thread _ Cert.Reference4Ideal.τ).loc Cert.Reference4Ideal.main_arg3))
            (m' ((c.tc : Thread _ Cert.Reference4Ideal.τ).loc Cert.Reference4Ideal.main_arg4))
            (m' ((c.tc : Thread _ Cert.Reference4Ideal.τ).loc Cert.Reference4Ideal.main_arg5))
            (m' ((c.tc : Thread _ Cert.Reference4Ideal.τ).loc Cert.Reference4Ideal.main_arg6))
            (m' ((c.tc : Thread _ Cert.Reference4Ideal.τ).loc Cert.Reference4Ideal.main_arg7))
      ∧ (Gen.dats m 0 c).arrAt 10 cfg0.N = Cert.Reference4Ideal.Read.val_main_v102 (F := Ideal) (m' ((c.tc : Thread _ Cert.Reference4Ideal.τ).loc Cert.Reference4Ideal.main_arg0))
            (m' ((c.tc : Thread _ Cert.Reference4Ideal.τ).loc Cert.Reference4Ideal.main_arg1))
            (m' ((c.tc : Thread _ Cert.Reference4Ideal.τ).loc Cert.Reference4Ideal.main_arg2))
            (m' ((c.tc : Thread _ Cert.Reference4Ideal.τ).loc Cert.Reference4Ideal.main_arg3))
            (m' ((c.tc : Thread _ Cert.Reference4Ideal.τ).loc Cert.Reference4Ideal.main_arg4))
            (m' ((c.tc : Thread _ Cert.Reference4Ideal.τ).loc Cert.Reference4Ideal.main_arg5))
            (m' ((c.tc : Thread _ Cert.Reference4Ideal.τ).loc Cert.Reference4Ideal.main_arg6))
            (m' ((c.tc : Thread _ Cert.Reference4Ideal.τ).loc Cert.Reference4Ideal.main_arg7))
      ∧ (Gen.dats m 0 c).arrAt 11 cfg0.N = Cert.Reference4Ideal.Read.val_main_v103 (F := Ideal) (m' ((c.tc : Thread _ Cert.Reference4Ideal.τ).loc Cert.Reference4Ideal.main_arg0))
            (m' ((c.tc : Thread _ Cert.Reference4Ideal.τ).loc Cert.Reference4Ideal.main_arg1))
            (m' ((c.tc : Thread _ Cert.Reference4Ideal.τ).loc Cert.Reference4Ideal.main_arg2))
            (m' ((c.tc : Thread _ Cert.Reference4Ideal.τ).loc Cert.Reference4Ideal.main_arg3))
            (m' ((c.tc : Thread _ Cert.Reference4Ideal.τ).loc Cert.Reference4Ideal.main_arg4))
            (m' ((c.tc : Thread _ Cert.Reference4Ideal.τ).loc Cert.Reference4Ideal.main_arg5))
            (m' ((c.tc : Thread _ Cert.Reference4Ideal.τ).loc Cert.Reference4Ideal.main_arg6))
            (m' ((c.tc : Thread _ Cert.Reference4Ideal.τ).loc Cert.Reference4Ideal.main_arg7))
      ∧ (Gen.dats m 0 c).arrAt 12 cfg0.N = Cert.Reference4Ideal.Read.val_main_v104 (F := Ideal) (m' ((c.tc : Thread _ Cert.Reference4Ideal.τ).loc Cert.Reference4Ideal.main_arg0))
            (m' ((c.tc : Thread _ Cert.Reference4Ideal.τ).loc Cert.Reference4Ideal.main_arg1))
            (m' ((c.tc : Thread _ Cert.Reference4Ideal.τ).loc Cert.Reference4Ideal.main_arg2))
            (m' ((c.tc : Thread _ Cert.Reference4Ideal.τ).loc Cert.Reference4Ideal.main_arg3))
            (m' ((c.tc : Thread _ Cert.Reference4Ideal.τ).loc Cert.Reference4Ideal.main_arg4))
            (m' ((c.tc : Thread _ Cert.Reference4Ideal.τ).loc Cert.Reference4Ideal.main_arg5))
            (m' ((c.tc : Thread _ Cert.Reference4Ideal.τ).loc Cert.Reference4Ideal.main_arg6))
            (m' ((c.tc : Thread _ Cert.Reference4Ideal.τ).loc Cert.Reference4Ideal.main_arg7))
      ∧ (Gen.dats m 0 c).arrAt 13 cfg0.N = Cert.Reference4Ideal.Read.val_main_v105 (F := Ideal) (m' ((c.tc : Thread _ Cert.Reference4Ideal.τ).loc Cert.Reference4Ideal.main_arg0))
            (m' ((c.tc : Thread _ Cert.Reference4Ideal.τ).loc Cert.Reference4Ideal.main_arg1))
            (m' ((c.tc : Thread _ Cert.Reference4Ideal.τ).loc Cert.Reference4Ideal.main_arg2))
            (m' ((c.tc : Thread _ Cert.Reference4Ideal.τ).loc Cert.Reference4Ideal.main_arg3))
            (m' ((c.tc : Thread _ Cert.Reference4Ideal.τ).loc Cert.Reference4Ideal.main_arg4))
            (m' ((c.tc : Thread _ Cert.Reference4Ideal.τ).loc Cert.Reference4Ideal.main_arg5))
            (m' ((c.tc : Thread _ Cert.Reference4Ideal.τ).loc Cert.Reference4Ideal.main_arg6))
            (m' ((c.tc : Thread _ Cert.Reference4Ideal.τ).loc Cert.Reference4Ideal.main_arg7))
      ∧ (Gen.dats m 0 c).arrAt 14 cfg0.N = Cert.Reference4Ideal.Read.val_main_v65 (F := Ideal) (m' ((c.tc : Thread _ Cert.Reference4Ideal.τ).loc Cert.Reference4Ideal.main_arg0))
            (m' ((c.tc : Thread _ Cert.Reference4Ideal.τ).loc Cert.Reference4Ideal.main_arg1))
            (m' ((c.tc : Thread _ Cert.Reference4Ideal.τ).loc Cert.Reference4Ideal.main_arg2))
            (m' ((c.tc : Thread _ Cert.Reference4Ideal.τ).loc Cert.Reference4Ideal.main_arg3))
            (m' ((c.tc : Thread _ Cert.Reference4Ideal.τ).loc Cert.Reference4Ideal.main_arg4))
            (m' ((c.tc : Thread _ Cert.Reference4Ideal.τ).loc Cert.Reference4Ideal.main_arg5))
            (m' ((c.tc : Thread _ Cert.Reference4Ideal.τ).loc Cert.Reference4Ideal.main_arg6))
            (m' ((c.tc : Thread _ Cert.Reference4Ideal.τ).loc Cert.Reference4Ideal.main_arg7))
      ∧ (Gen.dats m 0 c).arrAt 15 cfg0.N = Cert.Reference4Ideal.Read.val_main_v85 (F := Ideal) (m' ((c.tc : Thread _ Cert.Reference4Ideal.τ).loc Cert.Reference4Ideal.main_arg0))
            (m' ((c.tc : Thread _ Cert.Reference4Ideal.τ).loc Cert.Reference4Ideal.main_arg1))
            (m' ((c.tc : Thread _ Cert.Reference4Ideal.τ).loc Cert.Reference4Ideal.main_arg2))
            (m' ((c.tc : Thread _ Cert.Reference4Ideal.τ).loc Cert.Reference4Ideal.main_arg3))
            (m' ((c.tc : Thread _ Cert.Reference4Ideal.τ).loc Cert.Reference4Ideal.main_arg4))
            (m' ((c.tc : Thread _ Cert.Reference4Ideal.τ).loc Cert.Reference4Ideal.main_arg5))
            (m' ((c.tc : Thread _ Cert.Reference4Ideal.τ).loc Cert.Reference4Ideal.main_arg6))
            (m' ((c.tc : Thread _ Cert.Reference4Ideal.τ).loc Cert.Reference4Ideal.main_arg7)) := by
    intro c
    obtain ⟨r0, r1, r2, r3, r4, r5, r6, r7⟩ := reals _ _ _ _ _ _ _ _ (congrFun (hpre c) _)
    obtain ⟨a0, a1, a2, a3, a4, a5, a6, a7⟩ := hargs c
    have h0 := FiniteArgs.nat2_eq _ r0
    have h1 := FiniteArgs.nat2_eq _ r1
    have h2 := FiniteArgs.nat2_eq _ r2
    have h3 := FiniteArgs.nat2_eq _ r3
    have h4 := FiniteArgs.nat2_eq _ r4
    have h5 := FiniteArgs.nat2_eq _ r5
    have h6 := FiniteArgs.row_eq _ r6
    have h7 := FiniteArgs.row_eq _ r7
    have g0 := fun i => (congrFun a0 i).trans (h0 i)
    have g1 := fun i => (congrFun a1 i).trans (h1 i)
    have g2 := fun i => (congrFun a2 i).trans (h2 i)
    have g3 := fun i => (congrFun a3 i).trans (h3 i)
    have g4 := fun i => (congrFun a4 i).trans (h4 i)
    have g5 := fun i => (congrFun a5 i).trans (h5 i)
    have g6 := fun i => (congrFun a6 i).trans (h6 i)
    have g7 := fun i => (congrFun a7 i).trans (h7 i)
    have R := Bwd.reads m c h0 h1 h2 h3 h4 h5 h6 h7
    exact ⟨funext fun i => (Bwd.final9 m c R i).trans (Ref.v82 g0 g1 g2 g3 g4 g5 g6 g7 i).symm,
      funext fun i => (Bwd.final10 m c R i).trans (Ref.v102 g0 g1 g2 g3 g4 g5 g6 g7 i).symm,
      funext fun i => (Bwd.final11 m c R i).trans (Ref.v103 g0 g1 g2 g3 g4 g5 g6 g7 i).symm,
      funext fun i => (Bwd.final12 m c R i).trans (Ref.v104 g0 g1 g2 g3 g4 g5 g6 g7 i).symm,
      funext fun i => (Bwd.final13 m c R i).trans (Ref.v105 g0 g1 g2 g3 g4 g5 g6 g7 i).symm,
      funext fun i => (Bwd.final14 m c R i).trans (Ref.v65 g0 g1 g2 g3 g4 g5 g6 g7 i).symm,
      funext fun i => (Bwd.final15 m c R i).trans (Ref.v85 g0 g1 g2 g3 g4 g5 g6 g7 i).symm⟩
  exact ⟨_, _, _, _, _, _, _, Cert.Kernel4Ideal.Value.run_blocks m g,
    (θ_run Cert.Reference4Ideal.defs _ _).mono (fun r h c => ⟨((h c).1.trans (Cert.Reference4Ideal.Read.val_main_v82_eq _)).trans (key c).1.symm,
      ((h c).2.1.trans (Cert.Reference4Ideal.Read.val_main_v102_eq _)).trans (key c).2.1.symm,
      ((h c).2.2.1.trans (Cert.Reference4Ideal.Read.val_main_v103_eq _)).trans (key c).2.2.1.symm,
      ((h c).2.2.2.1.trans (Cert.Reference4Ideal.Read.val_main_v104_eq _)).trans (key c).2.2.2.1.symm,
      ((h c).2.2.2.2.1.trans (Cert.Reference4Ideal.Read.val_main_v105_eq _)).trans (key c).2.2.2.2.1.symm,
      ((h c).2.2.2.2.2.1.trans (Cert.Reference4Ideal.Read.val_main_v65_eq _)).trans (key c).2.2.2.2.2.1.symm,
      ((h c).2.2.2.2.2.2.1.trans (Cert.Reference4Ideal.Read.val_main_v85_eq _)).trans (key c).2.2.2.2.2.2.symm, (h c).2.2.2.2.2.2.2⟩) (Cert.Reference4Ideal.Value.run m' g')⟩

end Cert.Ple.Claim
-- ==== Proof.OutSpec.lean ====
/- The output product's left factor and its two norms over the reals: the gradients and the sums per head. -/
module

public import proofs.«01_k».proof.Proof.Rms

@[expose] public section

noncomputable section

namespace Cert.Out

open Finset Cert.Rms Idealize.ShloMosaic

variable (YA YB WO DY : ℕ → ℕ → ℝ) (GA GB : ℕ → ℝ)

/-- The gradient with respect to the product's left factor. -/
def DC (t e : ℕ) : ℝ := ∑ d ∈ range 1024, DY t d * WO e d
/-- The gradients with respect to the two mixers' outputs. -/
def dYA (t d : ℕ) : ℝ := bwd 512 YA (fun t d => DC WO DY t d * GA d) t d
def dYB (t d : ℕ) : ℝ := bwd 512 YB (fun t d => DC WO DY t (512 + d) * GB d) t d
/-- A row's share of the gradients with respect to the two gains. -/
def ga (t d : ℕ) : ℝ := DC WO DY t d * (YA t d * rs 512 YA t)
def gb (t d : ℕ) : ℝ := DC WO DY t (512 + d) * (YB t d * rs 512 YB t)
/-- The sum over a head's lanes. -/
def hd (Z : ℕ → ℕ → ℝ) (t k : ℕ) : ℝ := ∑ d ∈ range 64, Z t (k * 64 + d)
/-- A head's sum of gradient times output, for the two mixers; the second spread over the upper half of its lanes. -/
def dA (k t : ℕ) : ℝ := hd (fun t d => dYA YA WO DY GA t d * YA t d) t k
def st (t l : ℕ) : ℝ := if l % 64 < 32 then 0 else hd (fun t d => dYB YB WO DY GB t d * YB t d) t (l / 64)

/-- The sums over the lower and the upper half of 128 lanes. -/
theorem lower (f : ℕ → ℝ) : ∑ k ∈ range 128, (if k < 64 then f k else 0) = ∑ k ∈ range 64, f k := by
  rw [show (128 : ℕ) = 64 + 64 from rfl, sum_range_add]
  rw [sum_congr rfl fun k hk => if_pos (mem_range.1 hk), sum_congr rfl (s₁ := range 64) (f := fun k => if 64 + k < 64 then f (64 + k) else 0) fun k _ => if_neg (by omega)]
  rw [sum_const_zero, add_zero]

theorem upper (f : ℕ → ℝ) : ∑ k ∈ range 128, (if k < 64 then 0 else f k) = ∑ k ∈ range 64, f (64 + k) := by
  rw [show (128 : ℕ) = 64 + 64 from rfl, sum_range_add]
  rw [sum_congr rfl (s₁ := range 64) (f := fun k => if k < 64 then 0 else f k) fun k hk => if_pos (mem_range.1 hk), sum_congr rfl fun k _ => if_neg (by omega)]
  rw [sum_const_zero, zero_add]

theorem lanes (l : Fin 128) : (IntOp.cmpi CmpIPredicate.slt (BitVec.ofNat 32 l.val) 64#32 = (1 : BitVec 1)) ↔ l.val < 64 := by
  revert l; decide

end Cert.Out
-- ==== Proof.OutBwd.lean ====
/- The call through the output product: what each grid point leaves, and the six arrays after the run. -/
module

public import proofs.«01_k».proof.Proof.Gen.Kernel5Ideal.Value
public import proofs.«01_k».proof.Proof.OutSpec
public import Idealize.ShloMosaic.Lib.Pipeline.ValueKit
public import Idealize.ShloMosaic.Lib.Pointwise
public import Idealize.ShloMosaic.Lib.Claim
public import Idealize.ShloMosaic.Lib.WritesUnit

@[expose] public section

set_option maxRecDepth 16384

noncomputable section

open Idealize.ShloMosaic Idealize.ShloMosaic.TcCoe Idealize.SL.Sem

namespace Cert.Out.Bwd

open Cert.Kernel5Ideal Cert.Kernel5Ideal.Gen Finset Cert.Rms Cert.AttnA

theorem word : Ideal.ofBits .f32 0x44000000#32 = (((512 : ℕ) : ℝ) : EReal) := by rw [ofBits_512]; norm_num

/-! ## Sums over half the lanes -/

theorem lo_sum {x : Fin 128 → EReal} (f : ℕ → ℝ) (h : ∀ k, x k = ((f k.val : ℝ) : EReal)) :
    ∑ k : Fin 128, Scalar.select (IntOp.cmpi CmpIPredicate.slt (BitVec.ofNat 32 k.val) 64#32) (x k) 0 = ((∑ k ∈ range 64, f k : ℝ) : EReal) := by
  rw [← lower f]
  refine sum_fin (fun k => if k < 64 then f k else 0) fun k => ?_
  simp only [Scalar.select, lanes, h]
  split_ifs <;> rfl

theorem hi_sum {x : Fin 128 → EReal} (f : ℕ → ℝ) (h : ∀ k, x k = ((f k.val : ℝ) : EReal)) :
    ∑ k : Fin 128, Scalar.select (IntOp.cmpi CmpIPredicate.slt (BitVec.ofNat 32 k.val) 64#32) 0 (x k) = ((∑ k ∈ range 64, f (64 + k) : ℝ) : EReal) := by
  rw [← upper f]
  refine sum_fin (fun k => if k < 64 then 0 else f k) fun k => ?_
  simp only [Scalar.select, lanes, h]
  split_ifs <;> rfl

/-- A block's entry at given coordinates. -/
theorem at2 {x : FVec Ideal S512x128 .f32} (f : ℕ → ℕ → ℝ) (h : ∀ j : S512x128.Idx, x j = ((f (j 0).val (j 1).val : ℝ) : EReal))
    (a : Fin 512) (b : Fin 128) : x (ix2 a b) = ((f a.val b.val : ℝ) : EReal) := h _

theorem at3 {x : FVec Ideal S1x512x1 .f32} (f : ℕ → ℝ) (h : ∀ j : S1x512x1.Idx, x j = ((f (j 1).val : ℝ) : EReal))
    (a : Fin 1) (b : Fin 512) (e : Fin 1) : x (ix3 a b e) = ((f b.val : ℝ) : EReal) := h _

section
variable {Z : ℕ → ℕ → ℝ} {T : ℕ} {X : FVec Ideal S512x512 .f32}
  (hX : ∀ i : S512x512.Idx, X i = ((Z (T + (i 0).val) (i 1).val : ℝ) : EReal))

/-! ## The first mixer's sums, a column for each head -/

include hX in
theorem head2 (i : S1x512x1.Idx) : k0_pay17 k0_pay3 X i = ((hd Z (T + (i 1).val) 2 : ℝ) : EReal) := by
  pointwise [k0_pay17, k0_pay16, k0_pay3]
  refine (lo_sum (fun k => Z (T + (i 1).val) (128 + k)) fun k => by rw [hX]; first | rfl | simp).trans (congrArg _ (sum_congr rfl fun k _ => congrArg (Z _) (by omega)))

include hX in
theorem head3 (i : S1x512x1.Idx) : k0_pay18 k0_pay3 X i = ((hd Z (T + (i 1).val) 3 : ℝ) : EReal) := by
  pointwise [k0_pay18, k0_pay16, k0_pay3]
  refine (hi_sum (fun k => Z (T + (i 1).val) (128 + k)) fun k => by rw [hX]; first | rfl | simp).trans (congrArg _ (sum_congr rfl fun k _ => congrArg (Z _) (by omega)))

include hX in
theorem head4 (i : S1x512x1.Idx) : k0_pay20 k0_pay3 X i = ((hd Z (T + (i 1).val) 4 : ℝ) : EReal) := by
  pointwise [k0_pay20, k0_pay19, k0_pay3]
  refine (lo_sum (fun k => Z (T + (i 1).val) (256 + k)) fun k => by rw [hX]; first | rfl | simp).trans (congrArg _ (sum_congr rfl fun k _ => congrArg (Z _) (by omega)))

include hX in
theorem head5 (i : S1x512x1.Idx) : k0_pay21 k0_pay3 X i = ((hd Z (T + (i 1).val) 5 : ℝ) : EReal) := by
  pointwise [k0_pay21, k0_pay19, k0_pay3]
  refine (hi_sum (fun k => Z (T + (i 1).val) (256 + k)) fun k => by rw [hX]; first | rfl | simp).trans (congrArg _ (sum_congr rfl fun k _ => congrArg (Z _) (by omega)))

include hX in
theorem head6 (i : S1x512x1.Idx) : k0_pay23 k0_pay3 (k0_pay22 X) i = ((hd Z (T + (i 1).val) 6 : ℝ) : EReal) := by
  pointwise [k0_pay23, k0_pay22, k0_pay3]
  refine (lo_sum (fun k => Z (T + (i 1).val) (384 + k)) fun k => by rw [hX]; first | rfl | simp).trans (congrArg _ (sum_congr rfl fun k _ => congrArg (Z _) (by omega)))

include hX in
theorem head7 (i : S1x512x1.Idx) : k0_pay24 k0_pay3 (k0_pay22 X) i = ((hd Z (T + (i 1).val) 7 : ℝ) : EReal) := by
  pointwise [k0_pay24, k0_pay22, k0_pay3]
  refine (hi_sum (fun k => Z (T + (i 1).val) (384 + k)) fun k => by rw [hX]; first | rfl | simp).trans (congrArg _ (sum_congr rfl fun k _ => congrArg (Z _) (by omega)))

include hX in
theorem head0 {v : Vec Ideal S512x512 .f32} {a : FVec Ideal S512x1 .f32} {b c : FVec Ideal S512x512 .f32} {g : Vec Ideal S1x512 .f32}
    (hv : k0_pay11 v a b c g = X) (i : S1x512x1.Idx) : k0_pay14 k0_pay3 v a b c g i = ((hd Z (T + (i 1).val) 0 : ℝ) : EReal) := by
  unfold k0_pay14 k0_pay12
  rw [hv]
  pointwise [k0_pay3]
  refine (lo_sum (fun k => Z (T + (i 1).val) k) fun k => by rw [hX]; first | rfl | simp).trans (congrArg _ (sum_congr rfl fun k _ => congrArg (Z _) (by omega)))

include hX in
theorem head1 {v : Vec Ideal S512x512 .f32} {a : FVec Ideal S512x1 .f32} {b c : FVec Ideal S512x512 .f32} {g : Vec Ideal S1x512 .f32}
    (hv : k0_pay11 v a b c g = X) (i : S1x512x1.Idx) : k0_pay15 (k0_pay13 k0_pay3 v a b c g) i = ((hd Z (T + (i 1).val) 1 : ℝ) : EReal) := by
  unfold k0_pay15 k0_pay13 k0_pay12
  rw [hv]
  pointwise [k0_pay3]
  refine (hi_sum (fun k => Z (T + (i 1).val) k) fun k => by rw [hX]; first | rfl | simp).trans (congrArg _ (sum_congr rfl fun k _ => congrArg (Z _) (by omega)))

include hX in
/-- The eight stored columns. -/
theorem columns {v : Vec Ideal S512x512 .f32} {a : FVec Ideal S512x1 .f32} {b c : FVec Ideal S512x512 .f32} {g : Vec Ideal S1x512 .f32}
    (hv : k0_pay11 v a b c g = X) (y : S8x512x1.Idx) :
    (View.canon (Val := Elt Ideal) [⟨Rect.unit ![7, 0, 0] ![1, 512, 1] inb_S8x512x1_S1x512x1_7_0_0, k0_pay24 k0_pay3 (k0_pay22 X)⟩,
      ⟨Rect.unit ![6, 0, 0] ![1, 512, 1] inb_S8x512x1_S1x512x1_6_0_0, k0_pay23 k0_pay3 (k0_pay22 X)⟩,
      ⟨Rect.unit ![5, 0, 0] ![1, 512, 1] inb_S8x512x1_S1x512x1_5_0_0, k0_pay21 k0_pay3 X⟩,
      ⟨Rect.unit ![4, 0, 0] ![1, 512, 1] inb_S8x512x1_S1x512x1_4_0_0, k0_pay20 k0_pay3 X⟩,
      ⟨Rect.unit ![3, 0, 0] ![1, 512, 1] inb_S8x512x1_S1x512x1_3_0_0, k0_pay18 k0_pay3 X⟩,
      ⟨Rect.unit ![2, 0, 0] ![1, 512, 1] inb_S8x512x1_S1x512x1_2_0_0, k0_pay17 k0_pay3 X⟩,
      ⟨Rect.unit ![1, 0, 0] ![1, 512, 1] inb_S8x512x1_S1x512x1_1_0_0, k0_pay15 (k0_pay13 k0_pay3 v a b c g)⟩,
      ⟨Rect.unit ![0, 0, 0] ![1, 512, 1] inb_S8x512x1_S1x512x1_0_0_0, k0_pay14 k0_pay3 v a b c g⟩] : Vec Ideal S8x512x1 .f32) y
      = ((hd Z (T + (y 1).val) (y 0).val : ℝ) : EReal) := by
  canon_tiles x h
  · idx_vars x
    refine (at3 (fun a => hd Z (T + a) 7) (head7 hX) _ _ _).trans (congrArg _ (congrArg₂ (hd Z) (congrArg (T + ·) ?_) ?_)) <;> (try dsimp only) <;> omega
  · idx_vars x
    refine (at3 (fun a => hd Z (T + a) 6) (head6 hX) _ _ _).trans (congrArg _ (congrArg₂ (hd Z) (congrArg (T + ·) ?_) ?_)) <;> (try dsimp only) <;> omega
  · idx_vars x
    refine (at3 (fun a => hd Z (T + a) 5) (head5 hX) _ _ _).trans (congrArg _ (congrArg₂ (hd Z) (congrArg (T + ·) ?_) ?_)) <;> (try dsimp only) <;> omega
  · idx_vars x
    refine (at3 (fun a => hd Z (T + a) 4) (head4 hX) _ _ _).trans (congrArg _ (congrArg₂ (hd Z) (congrArg (T + ·) ?_) ?_)) <;> (try dsimp only) <;> omega
  · idx_vars x
    refine (at3 (fun a => hd Z (T + a) 3) (head3 hX) _ _ _).trans (congrArg _ (congrArg₂ (hd Z) (congrArg (T + ·) ?_) ?_)) <;> (try dsimp only) <;> omega
  · idx_vars x
    refine (at3 (fun a => hd Z (T + a) 2) (head2 hX) _ _ _).trans (congrArg _ (congrArg₂ (hd Z) (congrArg (T + ·) ?_) ?_)) <;> (try dsimp only) <;> omega
  · idx_vars x
    refine (at3 (fun a => hd Z (T + a) 1) (head1 hX hv) _ _ _).trans (congrArg _ (congrArg₂ (hd Z) (congrArg (T + ·) ?_) ?_)) <;> (try dsimp only) <;> omega
  · idx_vars x
    refine (at3 (fun a => hd Z (T + a) 0) (head0 hX hv) _ _ _).trans (congrArg _ (congrArg₂ (hd Z) (congrArg (T + ·) ?_) ?_)) <;> (try dsimp only) <;> omega

/-! ## The second mixer's sums, spread over the upper half of each head's lanes -/

theorem lse_lane (j : S512x128.Idx) : k0_pay4 j = if (j 1).val % 64 < 32 then 1#1 else 0#1 := by
  have key : ∀ l : Fin 128, k0_pay4 (ix2 (j 0) l) = if l.val % 64 < 32 then 1#1 else 0#1 := by
    intro l
    pointwise [k0_pay4]
    revert l
    decide
  exact (congrArg _ (by blk_ext : j = ix2 (j 0) (j 1))).trans (key (j 1))

/-- The choice a lane makes. -/
theorem pick {d e f : EReal} {A B : ℝ} (j : S512x128.Idx) (hd' : d = 0) (he : e = ((A : ℝ) : EReal)) (hf : f = ((B : ℝ) : EReal)) :
    Scalar.select (k0_pay4 j) d (Scalar.select (IntOp.cmpi CmpIPredicate.slt (BitVec.ofNat 32 (j 1).val) 64#32) e f)
      = ((if (j 1).val % 64 < 32 then 0 else if (j 1).val < 64 then A else B : ℝ) : EReal) := by
  rw [lse_lane, hd', he, hf]
  have hl := lanes (j 1)
  simp only [Scalar.select]
  split_ifs <;> first | rfl | simp_all

/-- What a chunk of 128 lanes holds. -/
def chunk (Z : ℕ → ℕ → ℝ) (c t l : ℕ) : ℝ := if l % 64 < 32 then 0 else if l < 64 then hd Z t (2 * c) else hd Z t (2 * c + 1)

theorem chunk_eq (Z : ℕ → ℕ → ℝ) {c t u l k : ℕ} (ht : t = u) (hk : k = 128 * c + l) (hl : l < 128) :
    chunk Z c t l = if k % 64 < 32 then 0 else hd Z u (k / 64) := by
  subst ht hk
  unfold chunk
  rw [show (128 * c + l) % 64 = l % 64 by omega]
  split_ifs <;> first | rfl | (refine congrArg (hd Z t) ?_; omega)

variable {d : Vec Ideal S512x128 .f32} (hd0 : ∀ j : S512x128.Idx, d j = 0)

include hX hd0 in
theorem chunk3 (j : S512x128.Idx) : k0_pay1 k0_pay3 k0_pay4 (k0_pay39 k0_pay3 X) (k0_pay40 k0_pay3 X) d j = ((chunk Z 3 (T + (j 0).val) (j 1).val : ℝ) : EReal) := by
  pointwise [k0_pay1, k0_pay39, k0_pay40, k0_pay38, k0_pay3]
  refine pick j (hd0 j) ?_ ?_
  · exact (lo_sum (fun k => Z (T + (j 0).val) (384 + k)) fun k => by rw [hX]; first | rfl | simp).trans (congrArg _ (sum_congr rfl fun k _ => congrArg (Z _) (by omega)))
  · exact (hi_sum (fun k => Z (T + (j 0).val) (384 + k)) fun k => by rw [hX]; first | rfl | simp).trans (congrArg _ (sum_congr rfl fun k _ => congrArg (Z _) (by omega)))

include hX hd0 in
theorem chunk2 (j : S512x128.Idx) : k0_pay37 k0_pay3 k0_pay4 X d j = ((chunk Z 2 (T + (j 0).val) (j 1).val : ℝ) : EReal) := by
  pointwise [k0_pay37, k0_pay3]
  refine pick j (hd0 j) ?_ ?_
  · exact (lo_sum (fun k => Z (T + (j 0).val) (256 + k)) fun k => by rw [hX]; first | rfl | simp).trans (congrArg _ (sum_congr rfl fun k _ => congrArg (Z _) (by omega)))
  · exact (hi_sum (fun k => Z (T + (j 0).val) (256 + k)) fun k => by rw [hX]; first | rfl | simp).trans (congrArg _ (sum_congr rfl fun k _ => congrArg (Z _) (by omega)))

include hX hd0 in
theorem chunk1 {b : Vec Ideal S512x512 .f32} {v : FVec Ideal S512x512 .f32} (hv : k0_pay32 b v = X) (j : S512x128.Idx) :
    k0_pay36 k0_pay3 k0_pay4 (k0_pay34 b v) (k0_pay35 k0_pay3 b v) (FloatOps.ofBits .f32 0#32) d j = ((chunk Z 1 (T + (j 0).val) (j 1).val : ℝ) : EReal) := by
  unfold k0_pay36 k0_pay35 k0_pay34
  rw [hv]
  pointwise [k0_pay3]
  refine pick j (hd0 j) ?_ ?_
  · exact (lo_sum (fun k => Z (T + (j 0).val) (128 + k)) fun k => by rw [hX]; first | rfl | simp).trans (congrArg _ (sum_congr rfl fun k _ => congrArg (Z _) (by omega)))
  · exact (hi_sum (fun k => Z (T + (j 0).val) (128 + k)) fun k => by rw [hX]; first | rfl | simp).trans (congrArg _ (sum_congr rfl fun k _ => congrArg (Z _) (by omega)))

include hX hd0 in
theorem chunk0 {b : Vec Ideal S512x512 .f32} {v : FVec Ideal S512x512 .f32} (hv : k0_pay32 b v = X) (j : S512x128.Idx) :
    k0_pay33 k0_pay3 k0_pay4 b v d j = ((chunk Z 0 (T + (j 0).val) (j 1).val : ℝ) : EReal) := by
  unfold k0_pay33
  rw [hv]
  pointwise [k0_pay3]
  refine pick j (hd0 j) ?_ ?_
  · exact (lo_sum (fun k => Z (T + (j 0).val) k) fun k => by rw [hX]; first | rfl | simp).trans (congrArg _ (sum_congr rfl fun k _ => congrArg (Z _) (by omega)))
  · exact (hi_sum (fun k => Z (T + (j 0).val) k) fun k => by rw [hX]; first | rfl | simp).trans (congrArg _ (sum_congr rfl fun k _ => congrArg (Z _) (by omega)))

include hX in
/-- The four stored chunks. -/
theorem chunks {b : Vec Ideal S512x512 .f32} {v : FVec Ideal S512x512 .f32} (hv : k0_pay32 b v = X)
    {d0 d1 d2 d3 : Vec Ideal S512x128 .f32} (e0 : ∀ j : S512x128.Idx, d0 j = 0) (e1 : ∀ j : S512x128.Idx, d1 j = 0)
    (e2 : ∀ j : S512x128.Idx, d2 j = 0) (e3 : ∀ j : S512x128.Idx, d3 j = 0) (y : S512x512.Idx) :
    (View.canon (Val := Elt Ideal) [⟨Rect.unit ![0, 384] ![512, 128] inb_S512x512_S512x128_0_384, k0_pay1 k0_pay3 k0_pay4 (k0_pay39 k0_pay3 X) (k0_pay40 k0_pay3 X) d3⟩,
      ⟨Rect.unit ![0, 256] ![512, 128] inb_S512x512_S512x128_0_256, k0_pay37 k0_pay3 k0_pay4 X d2⟩,
      ⟨Rect.unit ![0, 128] ![512, 128] inb_S512x512_S512x128_0_128, k0_pay36 k0_pay3 k0_pay4 (k0_pay34 b v) (k0_pay35 k0_pay3 b v) (FloatOps.ofBits .f32 0#32) d1⟩,
      ⟨Rect.unit ![0, 0] ![512, 128] inb_S512x512_S512x128_0_0, k0_pay33 k0_pay3 k0_pay4 b v d0⟩] : Vec Ideal S512x512 .f32) y
      = ((if (y 1).val % 64 < 32 then 0 else hd Z (T + (y 0).val) ((y 1).val / 64) : ℝ) : EReal) := by
  canon_tiles x h
  · idx_vars x
    refine (at2 (fun a b => chunk Z 3 (T + a) b) (chunk3 hX e3) _ _).trans (congrArg _ (chunk_eq Z ?_ ?_ ?_)) <;> (try dsimp only) <;> omega
  · idx_vars x
    refine (at2 (fun a b => chunk Z 2 (T + a) b) (chunk2 hX e2) _ _).trans (congrArg _ (chunk_eq Z ?_ ?_ ?_)) <;> (try dsimp only) <;> omega
  · idx_vars x
    refine (at2 (fun a b => chunk Z 1 (T + a) b) (chunk1 hX e1 hv) _ _).trans (congrArg _ (chunk_eq Z ?_ ?_ ?_)) <;> (try dsimp only) <;> omega
  · idx_vars x
    refine (at2 (fun a b => chunk Z 0 (T + a) b) (chunk0 hX e0 hv) _ _).trans (congrArg _ (chunk_eq Z ?_ ?_ ?_)) <;> (try dsimp only) <;> omega
end

/-! ## What a block of rows computes -/

section
variable {YA YB W DY : ℕ → ℕ → ℝ} {GA GB : ℕ → ℝ} {T : ℕ}
variable {z : Vec Ideal S512x1024 .bf16} {w : Vec Ideal S1024x1024 .bf16} {x : Vec Ideal S512x512 .f32} {v p : Vec Ideal S1x512 .f32}

theorem dc (hz : ∀ i : S512x1024.Idx, z i = ((DY (T + (i 0).val) (i 1).val : ℝ) : EReal))
    (hw : ∀ i : S1024x1024.Idx, w i = ((W (i 0).val (i 1).val : ℝ) : EReal)) (i : S512x1024.Idx) :
    k0_pay2 z w i = ((DC W DY (T + (i 0).val) (i 1).val : ℝ) : EReal) := by
  pointwise [k0_pay2]
  exact sum_fin (fun j => DY (T + (i 0).val) j * W (i 1).val j) fun j => by rw [hz, hw, ← EReal.coe_mul]; rfl

theorem dcA (hz : ∀ i : S512x1024.Idx, z i = ((DY (T + (i 0).val) (i 1).val : ℝ) : EReal))
    (hw : ∀ i : S1024x1024.Idx, w i = ((W (i 0).val (i 1).val : ℝ) : EReal)) (i : S512x512.Idx) :
    k0_pay7 z w i = ((DC W DY (T + (i 0).val) (i 1).val : ℝ) : EReal) := by
  have h := dc hz hw
  unfold k0_pay7
  generalize k0_pay2 z w = y at *
  pointwise []
  rw [h]; first | rfl | simp

theorem dcB {y : FVec Ideal S512x1024 .f32} (hy : ∀ i : S512x1024.Idx, y i = ((DC W DY (T + (i 0).val) (i 1).val : ℝ) : EReal)) (i : S512x512.Idx) :
    k0_pay27 y i = ((DC W DY (T + (i 0).val) (512 + (i 1).val) : ℝ) : EReal) := by
  pointwise [k0_pay27]
  rw [hy]; first | rfl | simp

theorem r1 (hx : ∀ i : S512x512.Idx, x i = ((YA (T + (i 0).val) (i 1).val : ℝ) : EReal)) (i : S512x1.Idx) :
    k0_pay5 x i = ((rs 512 YA (T + (i 0).val) : ℝ) : EReal) := by
  pointwise [k0_pay5]
  exact rs_val (by decide) word fun k => hx _

theorem n1 (hx : ∀ i : S512x512.Idx, x i = ((YA (T + (i 0).val) (i 1).val : ℝ) : EReal)) (i : S512x512.Idx) :
    k0_pay6 x i = ((YA (T + (i 0).val) (i 1).val * rs 512 YA (T + (i 0).val) : ℝ) : EReal) := by
  unfold k0_pay6
  generalize h : k0_pay5 x = r
  pointwise []
  rw [← h, r1 hx, hx, EReal.coe_mul]
  rfl

theorem r2 (hx : ∀ i : S512x512.Idx, x i = ((YA (T + (i 0).val) (i 1).val : ℝ) : EReal)) (i : S512x1.Idx) :
    k0_pay25 x i = ((rs 512 YA (T + (i 0).val) : ℝ) : EReal) := by
  pointwise [k0_pay25]
  exact rs_val (by decide) word fun k => hx _

theorem n2 (hx : ∀ i : S512x512.Idx, x i = ((YA (T + (i 0).val) (i 1).val : ℝ) : EReal)) (i : S512x512.Idx) :
    k0_pay26 x i = ((YA (T + (i 0).val) (i 1).val * rs 512 YA (T + (i 0).val) : ℝ) : EReal) := by
  unfold k0_pay26
  generalize h : k0_pay25 x = r
  pointwise []
  rw [← h, r2 hx, hx, EReal.coe_mul]
  rfl

theorem b1 {r : FVec Ideal S512x1 .f32} {n y : FVec Ideal S512x512 .f32} (hr : ∀ i : S512x1.Idx, r i = ((rs 512 YA (T + (i 0).val) : ℝ) : EReal))
    (hn : ∀ i : S512x512.Idx, n i = ((YA (T + (i 0).val) (i 1).val * rs 512 YA (T + (i 0).val) : ℝ) : EReal))
    (hy : ∀ i : S512x512.Idx, y i = ((DC W DY (T + (i 0).val) (i 1).val : ℝ) : EReal))
    (hv : ∀ i : S1x512.Idx, v i = ((GA (i 1).val : ℝ) : EReal)) (i : S512x512.Idx) :
    k0_pay8 r n y v i = ((dYA YA W DY GA (T + (i 0).val) (i 1).val : ℝ) : EReal) := by
  unfold k0_pay8
  pointwise []
  refine bwd_val (G := fun t d => DC W DY t d * GA d) (by decide) word (hr _) ?_ (hn _) fun k => ?_
  · rw [hy, hv, ← EReal.coe_mul]; rfl
  · rw [hy, hv, hn, ← EReal.coe_mul, ← EReal.coe_mul]; rfl

theorem a1 {r : FVec Ideal S512x1 .f32} {n y : FVec Ideal S512x512 .f32} (hr : ∀ i : S512x1.Idx, r i = ((rs 512 YA (T + (i 0).val) : ℝ) : EReal))
    (hn : ∀ i : S512x512.Idx, n i = ((YA (T + (i 0).val) (i 1).val * rs 512 YA (T + (i 0).val) : ℝ) : EReal))
    (hy : ∀ i : S512x512.Idx, y i = ((DC W DY (T + (i 0).val) (i 1).val : ℝ) : EReal))
    (hv : ∀ i : S1x512.Idx, v i = ((GA (i 1).val : ℝ) : EReal))
    (hx : ∀ i : S512x512.Idx, x i = ((YA (T + (i 0).val) (i 1).val : ℝ) : EReal)) (i : S512x512.Idx) :
    k0_pay11 x r n y v i = ((dYA YA W DY GA (T + (i 0).val) (i 1).val * YA (T + (i 0).val) (i 1).val : ℝ) : EReal) := by
  have h := b1 hr hn hy hv i
  unfold k0_pay11
  generalize k0_pay8 r n y v = e at *
  pointwise []
  rw [h, hx, ← EReal.coe_mul]

theorem b2 {y : FVec Ideal S512x1024 .f32} (hy : ∀ i : S512x1024.Idx, y i = ((DC W DY (T + (i 0).val) (i 1).val : ℝ) : EReal))
    (hx : ∀ i : S512x512.Idx, x i = ((YB (T + (i 0).val) (i 1).val : ℝ) : EReal))
    (hv : ∀ i : S1x512.Idx, v i = ((GB (i 1).val : ℝ) : EReal)) (i : S512x512.Idx) :
    k0_pay28 y x v i = ((dYB YB W DY GB (T + (i 0).val) (i 1).val : ℝ) : EReal) := by
  unfold k0_pay28
  have hr := r2 hx
  have hn := n2 hx
  have hq := dcB hy
  generalize k0_pay26 x = n at *
  generalize k0_pay25 x = r at *
  generalize k0_pay27 y = q at *
  pointwise []
  refine bwd_val (G := fun t d => DC W DY t (512 + d) * GB d) (by decide) word (hr _) ?_ (hn _) fun k => ?_
  · rw [hq, hv, ← EReal.coe_mul]; rfl
  · rw [hq, hv, hn, ← EReal.coe_mul, ← EReal.coe_mul]; rfl

theorem a2 {e : FVec Ideal S512x512 .f32} (he : ∀ i : S512x512.Idx, e i = ((dYB YB W DY GB (T + (i 0).val) (i 1).val : ℝ) : EReal))
    (hx : ∀ i : S512x512.Idx, x i = ((YB (T + (i 0).val) (i 1).val : ℝ) : EReal)) (i : S512x512.Idx) :
    k0_pay32 x e i = ((dYB YB W DY GB (T + (i 0).val) (i 1).val * YB (T + (i 0).val) (i 1).val : ℝ) : EReal) := by
  pointwise [k0_pay32]
  rw [he, hx, ← EReal.coe_mul]

theorem c1 {n y : FVec Ideal S512x512 .f32}
    (hn : ∀ i : S512x512.Idx, n i = ((YA (T + (i 0).val) (i 1).val * rs 512 YA (T + (i 0).val) : ℝ) : EReal))
    (hy : ∀ i : S512x512.Idx, y i = ((DC W DY (T + (i 0).val) (i 1).val : ℝ) : EReal)) (i : S1x512.Idx) :
    k0_pay10 n y p i = p i + ((∑ r ∈ range 512, ga YA W DY (T + r) (i 1).val : ℝ) : EReal) := by
  pointwise [k0_pay10]
  refine congrArg _ (sum_fin (fun r => ga YA W DY (T + r) (i 1).val) fun r => ?_)
  rw [hy, hn, ← EReal.coe_mul]; rfl

theorem c2 {n y : FVec Ideal S512x512 .f32}
    (hn : ∀ i : S512x512.Idx, n i = ((YB (T + (i 0).val) (i 1).val * rs 512 YB (T + (i 0).val) : ℝ) : EReal))
    (hy : ∀ i : S512x512.Idx, y i = ((DC W DY (T + (i 0).val) (512 + (i 1).val) : ℝ) : EReal)) (i : S1x512.Idx) :
    k0_pay30 n y p i = p i + ((∑ r ∈ range 512, gb YB W DY (T + r) (i 1).val : ℝ) : EReal) := by
  pointwise [k0_pay30]
  refine congrArg _ (sum_fin (fun r => gb YB W DY (T + r) (i 1).val) fun r => ?_)
  rw [hy, hn, ← EReal.coe_mul]; rfl
end

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, t.val, 0] ∧ win0_10.index t = ![t.val, 0]
    ∧ win0_11.index t = ![0, 0] ∧ win0_12.index t = ![0, 0] :=
  (by decide +kernel : ∀ t : Fin grid0.N, _)

/-- What the call's operands hold. -/
structure Reads (YA YB W DY : ℕ → ℕ → ℝ) (GA GB : ℕ → ℝ) : Prop where
  z : ∀ i : S16384x1024.Idx, V m c main_v1 i = ((DY (i 0).val (i 1).val : ℝ) : EReal)
  w : ∀ i : S1024x1024.Idx, V m c main_v2 i = ((W (i 0).val (i 1).val : ℝ) : EReal)
  a : ∀ i : S16384x512.Idx, V m c main_arg0 i = ((YA (i 0).val (i 1).val : ℝ) : EReal)
  b : ∀ i : S16384x512.Idx, V m c main_arg1 i = ((YB (i 0).val (i 1).val : ℝ) : EReal)
  l : ∀ i : S16384x512.Idx, V m c main_v0 i = (0 : EReal)
  g : ∀ i : S1x512.Idx, V m c main_arg2 i = ((GA (i 1).val : ℝ) : EReal)
  q : ∀ i : S1x512.Idx, V m c main_arg3 i = ((GB (i 1).val : ℝ) : EReal)

theorem flush11 : ∀ t : Fin cfg0.N, (cfg0.win 11).flush t = true → t.val = 31 := (by decide +kernel : ∀ t : Fin grid0.N, _)
theorem flush12 : ∀ t : Fin cfg0.N, (cfg0.win 12).flush t = true → t.val = 31 := (by decide +kernel : ∀ t : Fin grid0.N, _)

section
variable {YA YB W DY : ℕ → ℕ → ℝ} {GA GB : ℕ → ℝ} (R : Reads m c YA YB W DY GA GB)
include R

/-! ## The blocks a grid point reads -/

theorem blk0 (t : Fin cfg0.N) (i : S512x1024.Idx) : iblk m c 0 t i = ((DY (t.val * 512 + (i 0).val) (i 1).val : ℝ) : EReal) := by
  refine (R.z _).trans ?_
  blk_simp [idx t]
theorem blk1 (t : Fin cfg0.N) (i : S1024x1024.Idx) : iblk m c 1 t i = ((W (i 0).val (i 1).val : ℝ) : EReal) := by
  refine (R.w _).trans ?_
  blk_simp [idx t]
theorem blk2 (t : Fin cfg0.N) (i : S512x512.Idx) : iblk m c 2 t i = ((YA (t.val * 512 + (i 0).val) (i 1).val : ℝ) : EReal) := by
  refine (R.a _).trans ?_
  blk_simp [idx t]
theorem blk3 (t : Fin cfg0.N) (i : S512x512.Idx) : iblk m c 3 t i = ((YB (t.val * 512 + (i 0).val) (i 1).val : ℝ) : EReal) := by
  refine (R.b _).trans ?_
  blk_simp [idx t]
theorem blk5 (t : Fin cfg0.N) (i : S1x512.Idx) : iblk m c 5 t i = ((GA (i 1).val : ℝ) : EReal) := by
  refine (R.g _).trans ?_
  blk_simp [idx t]
theorem blk6 (t : Fin cfg0.N) (i : S1x512.Idx) : iblk m c 6 t i = ((GB (i 1).val : ℝ) : EReal) := by
  refine (R.q _).trans ?_
  blk_simp [idx t]
theorem blk4 (t : Fin cfg0.N) (i : S512x512.Idx) : iblk m c 4 t i = (0 : EReal) := R.l _

/-! ## What a grid point leaves -/

theorem dcT (t : Fin cfg0.N) (i : S512x1024.Idx) : k0_pay2 (iblk m c 0 t) (iblk m c 1 t) i = ((DC W DY (t.val * 512 + (i 0).val) (i 1).val : ℝ) : EReal) :=
  dc (blk0 m c R t) (blk1 m c R t) i
theorem dcAT (t : Fin cfg0.N) (i : S512x512.Idx) : k0_pay7 (iblk m c 0 t) (iblk m c 1 t) i = ((DC W DY (t.val * 512 + (i 0).val) (i 1).val : ℝ) : EReal) :=
  dcA (blk0 m c R t) (blk1 m c R t) i
theorem dbT (t : Fin cfg0.N) (i : S512x512.Idx) : k0_pay28 (k0_pay2 (iblk m c 0 t) (iblk m c 1 t)) (iblk m c 3 t) (iblk m c 6 t) i
    = ((dYB YB W DY GB (t.val * 512 + (i 0).val) (i 1).val : ℝ) : EReal) :=
  b2 (dcT m c R t) (blk3 m c R t) (blk6 m c R t) i

theorem row7 (t : Fin cfg0.N) (y : S512x512.Idx) : (outsAt0 m c t.val t.isLt).1 y = ((dYA YA W DY GA (t.val * 512 + (y 0).val) (y 1).val : ℝ) : EReal) := by
  have key := b1 (r1 (blk2 m c R t)) (n1 (blk2 m c R t)) (dcAT m c R t) (blk5 m c R t) y
  by_cases h0 : t.val % 32 = 0
  · rw [outsAt0_A m c t h0 h0]
    unfold out0_A_7 kernelRun0_A
    dsimp only
    frame_out
    exact key
  · rw [outsAt0_B m c t h0 h0]
    unfold out0_B_7 kernelRun0_B
    dsimp only
    frame_out
    exact key

theorem row8 (t : Fin cfg0.N) (y : S512x512.Idx) : (outsAt0 m c t.val t.isLt).2.1 y = ((dYB YB W DY GB (t.val * 512 + (y 0).val) (y 1).val : ℝ) : EReal) := by
  have key : k0_pay31 (k0_pay28 (k0_pay2 (iblk m c 0 t) (iblk m c 1 t)) (iblk m c 3 t) (iblk m c 6 t)) y
      = ((dYB YB W DY GB (t.val * 512 + (y 0).val) (y 1).val : ℝ) : EReal) := (rfl : _ = _).trans (dbT m c R t y)
  by_cases h0 : t.val % 32 = 0
  · rw [outsAt0_A m c t h0 h0]
    unfold out0_A_8 kernelRun0_A
    dsimp only
    frame_out
    exact key
  · rw [outsAt0_B m c t h0 h0]
    unfold out0_B_8 kernelRun0_B
    dsimp only
    frame_out
    exact key

theorem row9 (t : Fin cfg0.N) (y : S8x512x1.Idx) : (outsAt0 m c t.val t.isLt).2.2.1 y = ((dA YA W DY GA (y 0).val (t.val * 512 + (y 1).val) : ℝ) : EReal) := by
  have key := columns (Z := fun t d => dYA YA W DY GA t d * YA t d) (a1 (r1 (blk2 m c R t)) (n1 (blk2 m c R t)) (dcAT m c R t) (blk5 m c R t) (blk2 m c R t)) rfl y
  by_cases h0 : t.val % 32 = 0
  · rw [outsAt0_A m c t h0 h0]
    unfold out0_A_9 kernelRun0_A
    dsimp only
    frame_out
    exact key
  · rw [outsAt0_B m c t h0 h0]
    unfold out0_B_9 kernelRun0_B
    dsimp only
    frame_out
    exact key

theorem row10 (t : Fin cfg0.N) (y : S512x512.Idx) : (outsAt0 m c t.val t.isLt).2.2.2.1 y = ((st YB W DY GB (t.val * 512 + (y 0).val) (y 1).val : ℝ) : EReal) := by
  have key := chunks (Z := fun t d => dYB YB W DY GB t d * YB t d) (a2 (dbT m c R t) (blk3 m c R t)) rfl
    (d0 := View.ld (iblk m c 4 t) (Rect.unit ![0, 0] ![512, 128] inb_S512x512_S512x128_0_0))
    (d1 := View.ld (iblk m c 4 t) (Rect.unit ![0, 128] ![512, 128] inb_S512x512_S512x128_0_128))
    (d2 := View.ld (iblk m c 4 t) (Rect.unit ![0, 256] ![512, 128] inb_S512x512_S512x128_0_256))
    (d3 := View.ld (iblk m c 4 t) (Rect.unit ![0, 384] ![512, 128] inb_S512x512_S512x128_0_384))
    (fun j => blk4 m c R t _) (fun j => blk4 m c R t _) (fun j => blk4 m c R t _) (fun j => blk4 m c R t _) y
  by_cases h0 : t.val % 32 = 0
  · rw [outsAt0_A m c t h0 h0]
    unfold out0_A_10 kernelRun0_A
    dsimp only
    frame_out
    exact key
  · rw [outsAt0_B m c t h0 h0]
    unfold out0_B_10 kernelRun0_B
    dsimp only
    frame_out
    exact key

theorem sum11 (d : Fin 512) : ∀ n (hn : n < cfg0.N), (outsAt0 m c n hn).2.2.2.2.1 (ix2 0 d)
    = ((∑ t ∈ range ((n + 1) * 512), ga YA W DY t d.val : ℝ) : EReal)
  | 0, hn => by
    rw [outsAt0_A m c ⟨0, hn⟩ rfl rfl]
    unfold out0_A_11 kernelRun0_A
    dsimp only
    frame_out
    rw [c1 (n1 (blk2 m c R ⟨0, hn⟩)) (dcAT m c R ⟨0, hn⟩)]
    pointwise [k0_pay9]
  | n + 1, hn => by
    have hN : cfg0.N = 32 := rfl
    have h0 : ¬ (n + 1) % 32 = 0 := by omega
    rw [outsAt0_B m c ⟨n + 1, hn⟩ h0 h0]
    unfold out0_B_11 kernelRun0_B
    dsimp only
    frame_out
    rw [c1 (n1 (blk2 m c R ⟨n + 1, hn⟩)) (dcAT m c R ⟨n + 1, hn⟩)]
    simp only [Nat.add_sub_cancel]
    rw [sum11 d n (by omega), ← EReal.coe_add, show (n + 1 + 1) * 512 = (n + 1) * 512 + 512 from by omega, sum_range_add]
    rfl

theorem sum12 (d : Fin 512) : ∀ n (hn : n < cfg0.N), (outsAt0 m c n hn).2.2.2.2.2 (ix2 0 d)
    = ((∑ t ∈ range ((n + 1) * 512), gb YB W DY t d.val : ℝ) : EReal)
  | 0, hn => by
    rw [outsAt0_A m c ⟨0, hn⟩ rfl rfl]
    unfold out0_A_12 kernelRun0_A
    dsimp only
    frame_out
    rw [c2 (n2 (blk3 m c R ⟨0, hn⟩)) (dcB (dcT m c R ⟨0, hn⟩))]
    pointwise [k0_pay29]
  | n + 1, hn => by
    have hN : cfg0.N = 32 := rfl
    have h0 : ¬ (n + 1) % 32 = 0 := by omega
    rw [outsAt0_B m c ⟨n + 1, hn⟩ h0 h0]
    unfold out0_B_12 kernelRun0_B
    dsimp only
    frame_out
    rw [c2 (n2 (blk3 m c R ⟨n + 1, hn⟩)) (dcB (dcT m c R ⟨n + 1, hn⟩))]
    simp only [Nat.add_sub_cancel]
    rw [sum12 d n (by omega), ← EReal.coe_add, show (n + 1 + 1) * 512 = (n + 1) * 512 + 512 from by omega, sum_range_add]
    rfl

/-! ## The arrays after the run -/

theorem final7 (i : S16384x512.Idx) : ((dats m 0 c).arrAt 7 cfg0.N : (⟨S16384x512, .f32⟩ : BufTy).Contents (Elt Ideal)) i
    = ((dYA YA W DY GA (i 0).val (i 1).val : ℝ) : EReal) := by
  refine congrFun ((dats m 0 c).arrAt_eq_of_covers 7 (fun i : S16384x512.Idx => ((dYA YA W DY GA (i 0).val (i 1).val : ℝ) : EReal))
    (by decide +kernel) fun t _ y => ?_) i
  rw [after0_7]
  blk_simp [idx t]
  exact row7 m c R t y

theorem final8 (i : S16384x512.Idx) : ((dats m 0 c).arrAt 8 cfg0.N : (⟨S16384x512, .bf16⟩ : BufTy).Contents (Elt Ideal)) i
    = ((dYB YB W DY GB (i 0).val (i 1).val : ℝ) : EReal) := by
  refine congrFun ((dats m 0 c).arrAt_eq_of_covers 8 (fun i : S16384x512.Idx => ((dYB YB W DY GB (i 0).val (i 1).val : ℝ) : EReal))
    (by decide +kernel) fun t _ y => ?_) i
  rw [after0_8]
  blk_simp [idx t]
  exact row8 m c R t y

theorem final9 (i : S8x16384x1.Idx) : ((dats m 0 c).arrAt 9 cfg0.N : (⟨S8x16384x1, .f32⟩ : BufTy).Contents (Elt Ideal)) i
    = ((dA YA W DY GA (i 0).val (i 1).val : ℝ) : EReal) := by
  refine congrFun ((dats m 0 c).arrAt_eq_of_covers 9 (fun i : S8x16384x1.Idx => ((dA YA W DY GA (i 0).val (i 1).val : ℝ) : EReal))
    (by decide +kernel) fun t _ y => ?_) i
  rw [after0_9]
  blk_simp [idx t]
  exact row9 m c R t y

theorem final10 (i : S16384x512.Idx) : ((dats m 0 c).arrAt 10 cfg0.N : (⟨S16384x512, .f32⟩ : BufTy).Contents (Elt Ideal)) i
    = ((st YB W DY GB (i 0).val (i 1).val : ℝ) : EReal) := by
  refine congrFun ((dats m 0 c).arrAt_eq_of_covers 10 (fun i : S16384x512.Idx => ((st YB W DY GB (i 0).val (i 1).val : ℝ) : EReal))
    (by decide +kernel) fun t _ y => ?_) i
  rw [after0_10]
  blk_simp [idx t]
  exact row10 m c R t y

theorem final11 (i : S1x512.Idx) : ((dats m 0 c).arrAt 11 cfg0.N : (⟨S1x512, .f32⟩ : BufTy).Contents (Elt Ideal)) i
    = ((∑ t ∈ range 16384, ga YA W DY t (i 1).val : ℝ) : EReal) := by
  refine congrFun ((dats m 0 c).arrAt_eq_of_covers 11 (fun i : S1x512.Idx => ((∑ t ∈ range 16384, ga YA W DY t (i 1).val : ℝ) : EReal))
    (by decide +kernel) fun t hf y => ?_) i
  have hf := flush11 t hf
  rw [after0_11]
  blk_simp [idx t]
  have h0 : (y 0).val < 1 := (y 0).isLt
  refine (congrArg _ (?_ : y = ix2 0 (y 1))).trans ((sum11 m c R (y 1) t.val t.isLt).trans ?_)
  · blk_ext
  · rw [hf]

theorem final12 (i : S1x512.Idx) : ((dats m 0 c).arrAt 12 cfg0.N : (⟨S1x512, .f32⟩ : BufTy).Contents (Elt Ideal)) i
    = ((∑ t ∈ range 16384, gb YB W DY t (i 1).val : ℝ) : EReal) := by
  refine congrFun ((dats m 0 c).arrAt_eq_of_covers 12 (fun i : S1x512.Idx => ((∑ t ∈ range 16384, gb YB W DY t (i 1).val : ℝ) : EReal))
    (by decide +kernel) fun t hf y => ?_) i
  have hf := flush12 t hf
  rw [after0_12]
  blk_simp [idx t]
  have h0 : (y 0).val < 1 := (y 0).isLt
  refine (congrArg _ (?_ : y = ix2 0 (y 1))).trans ((sum12 m c R (y 1) t.val t.isLt).trans ?_)
  · blk_ext
  · rw [hf]

end

/-! ## The host lines before the call -/

def narrowZ (x : FVec Ideal S16384x1024 .f32) : FVec Ideal S16384x1024 .bf16 := truncf .bf16 x bitsLt_bf16_f32
def narrowW (x : FVec Ideal S1024x1024 .f32) : FVec Ideal S1024x1024 .bf16 := truncf .bf16 x bitsLt_bf16_f32
def zeros : FVec Ideal S16384x512 .f32 := broadcastInDim S16384x512 ![] bcast_S_S16384x512 (constant S_ .f32 0x00000000#32)

theorem read_z : V m c main_v1 = narrowZ (m ((c.tc : Thread nD τ).loc main_arg5)) := by
  unfold_abbrev_sides
  after_results
  rfl
theorem read_w : V m c main_v2 = narrowW (m ((c.tc : Thread nD τ).loc main_arg4)) := by
  unfold_abbrev_sides
  after_results
  rfl
theorem read_l : V m c main_v0 = zeros := by
  unfold_abbrev_sides
  after_results
  rfl
theorem read0 : V m c main_arg0 = m ((c.tc : Thread nD τ).loc main_arg0) := by unfold_abbrev_sides; after_results
theorem read1 : V m c main_arg1 = m ((c.tc : Thread nD τ).loc main_arg1) := by unfold_abbrev_sides; after_results
theorem read2 : V m c main_arg2 = m ((c.tc : Thread nD τ).loc main_arg2) := by unfold_abbrev_sides; after_results
theorem read3 : V m c main_arg3 = m ((c.tc : Thread nD τ).loc main_arg3) := by unfold_abbrev_sides; after_results

/-- What the operands hold, from what the arguments hold. -/
theorem reads {YA YB W DY : ℕ → ℕ → ℝ} {GA GB : ℕ → ℝ}
    (h0 : ∀ i : S16384x512.Idx, m ((c.tc : Thread nD τ).loc main_arg0) i = ((YA (i 0).val (i 1).val : ℝ) : EReal))
    (h1 : ∀ i : S16384x512.Idx, m ((c.tc : Thread nD τ).loc main_arg1) i = ((YB (i 0).val (i 1).val : ℝ) : EReal))
    (h2 : ∀ i : S1x512.Idx, m ((c.tc : Thread nD τ).loc main_arg2) i = ((GA (i 1).val : ℝ) : EReal))
    (h3 : ∀ i : S1x512.Idx, m ((c.tc : Thread nD τ).loc main_arg3) i = ((GB (i 1).val : ℝ) : EReal))
    (h4 : ∀ i : S1024x1024.Idx, m ((c.tc : Thread nD τ).loc main_arg4) i = ((W (i 0).val (i 1).val : ℝ) : EReal))
    (h5 : ∀ i : S16384x1024.Idx, m ((c.tc : Thread nD τ).loc main_arg5) i = ((DY (i 0).val (i 1).val : ℝ) : EReal)) :
    Reads m c YA YB W DY GA GB where
  z i := by rw [read_z]; exact h5 i
  w i := by rw [read_w]; exact h4 i
  a i := by rw [read0]; exact h0 i
  b i := by rw [read1]; exact h1 i
  l i := by rw [read_l]; pointwise [zeros]
  g i := by rw [read2]; exact h2 i
  q i := by rw [read3]; exact h3 i

end Cert.Out.Bwd
-- ==== Proof.OutRef.lean ====
/- What the two norms, the output product and their `jax.vjp` compute over the reals: the six results. -/
module

public import proofs.«01_k».proof.Proof.Gen.Reference5Ideal.Read
public import proofs.«01_k».proof.Proof.OutSpec

@[expose] public section

set_option maxRecDepth 16384

noncomputable section

namespace Cert.Out.Ref

open Cert.Reference5Ideal Cert.Reference5Ideal.Gen Cert.Reference5Ideal.Read Idealize.ShloMosaic Finset Cert.Rms Cert.AttnA

variable {YA YB W DY : ℕ → ℕ → ℝ} {GA GB : ℕ → ℝ}
variable {x0 x1 : (⟨S16384x512, .f32⟩ : BufTy).Contents (Elt Ideal)} {x2 x3 : (⟨S1x512, .f32⟩ : BufTy).Contents (Elt Ideal)}
  {x4 : (⟨S1024x1024, .f32⟩ : BufTy).Contents (Elt Ideal)} {x5 : (⟨S16384x1024, .f32⟩ : BufTy).Contents (Elt Ideal)}
  (h0 : ∀ i : S16384x512.Idx, x0 i = ((YA (i 0).val (i 1).val : ℝ) : EReal))
  (h1 : ∀ i : S16384x512.Idx, x1 i = ((YB (i 0).val (i 1).val : ℝ) : EReal))
  (h2 : ∀ i : S1x512.Idx, x2 i = ((GA (i 1).val : ℝ) : EReal))
  (h3 : ∀ i : S1x512.Idx, x3 i = ((GB (i 1).val : ℝ) : EReal))
  (h4 : ∀ i : S1024x1024.Idx, x4 i = ((W (i 0).val (i 1).val : ℝ) : EReal))
  (h5 : ∀ i : S16384x1024.Idx, x5 i = ((DY (i 0).val (i 1).val : ℝ) : EReal))

theorem word : Ideal.ofBits .f32 0x44000000#32 = (((512 : ℕ) : ℝ) : EReal) := by rw [ofBits_512]; norm_num

/-! ## The norms -/

include h0 in
theorem v6 (i : S16384x1.Idx) : val_main_v6 (F := Ideal) x0 i
    = ((ms 512 YA (i 0).val : ℝ) : EReal) := by
  unfold val_main_v6 val_main_v4 val_main_v2 val_main_v1 val_main_v0
  pointwise [val_main_v3, val_main_v5, val_main_cst, val_main_cst_0, val_main_cst_1]
  exact ms_val (by decide) word fun k => h0 _

include h0 in
theorem v7 (i : S16384x1.Idx) : val_main_v7 (F := Ideal) x0 i
    = ((rs 512 YA (i 0).val : ℝ) : EReal) := by
  rw [← rsqrt_ms, ← v6 h0 i]
  rfl

include h0 in
theorem v12 (i : S16384x512.Idx) : val_main_v12 (F := Ideal) x0 i
    = ((YA (i 0).val (i 1).val * rs 512 YA (i 0).val : ℝ) : EReal) := by
  unfold val_main_v12 val_main_v11
  have hr := v7 h0
  generalize val_main_v7 (F := Ideal) x0 = r at *
  pointwise []
  rw [h0, hr, ← EReal.coe_mul]
  rfl

include h1 in
theorem v21 (i : S16384x1.Idx) : val_main_v21 (F := Ideal) x1 i
    = ((ms 512 YB (i 0).val : ℝ) : EReal) := by
  unfold val_main_v21 val_main_v19 val_main_v17 val_main_v16 val_main_v15
  pointwise [val_main_v18, val_main_v20, val_main_cst_3, val_main_cst_4, val_main_cst_5]
  exact ms_val (by decide) word fun k => h1 _

include h1 in
theorem v22 (i : S16384x1.Idx) : val_main_v22 (F := Ideal) x1 i
    = ((rs 512 YB (i 0).val : ℝ) : EReal) := by
  rw [← rsqrt_ms, ← v21 h1 i]
  rfl

include h1 in
theorem v27 (i : S16384x512.Idx) : val_main_v27 (F := Ideal) x1 i
    = ((YB (i 0).val (i 1).val * rs 512 YB (i 0).val : ℝ) : EReal) := by
  unfold val_main_v27 val_main_v26
  have hr := v22 h1
  generalize val_main_v22 (F := Ideal) x1 = r at *
  pointwise []
  rw [h1, hr, ← EReal.coe_mul]
  rfl

/-! ## The product's left factor -/

include h4 h5 in
theorem v32 (i : S16384x1024.Idx) : val_main_v32 (F := Ideal) x4 x5 i
    = ((DC W DY (i 0).val (i 1).val : ℝ) : EReal) := by
  unfold val_main_v32
  pointwise []
  exact sum_fin (fun k => DY (i 0).val k * W (i 1).val k) fun k => by rw [h5, h4, ← EReal.coe_mul]; rfl

include h4 h5 in
theorem v33 (i : S16384x512.Idx) : val_main_v33 (F := Ideal) x4 x5 i
    = ((DC W DY (i 0).val (i 1).val : ℝ) : EReal) := by
  unfold val_main_v33
  have ha := v32 h4 h5
  generalize val_main_v32 (F := Ideal) x4 x5 = a at *
  pointwise []
  rw [ha]; first | rfl | simp

include h4 h5 in
theorem v34 (i : S16384x512.Idx) : val_main_v34 (F := Ideal) x4 x5 i
    = ((DC W DY (i 0).val (512 + (i 1).val) : ℝ) : EReal) := by
  unfold val_main_v34
  have ha := v32 h4 h5
  generalize val_main_v32 (F := Ideal) x4 x5 = a at *
  pointwise []
  rw [ha]; first | rfl | simp

/-! ## The gradients -/

include h1 h4 h5 in
/-- The gradient with respect to the second gain. -/
theorem v37 (i : S1x512.Idx) : val_main_v37 (F := Ideal) x1 x4 x5 i
    = ((∑ t ∈ range 16384, gb YB W DY t (i 1).val : ℝ) : EReal) := by
  unfold val_main_v37 val_main_v36 val_main_v35
  have ha := v27 h1
  have hb := v34 h4 h5
  generalize val_main_v27 (F := Ideal) x1 = a at *
  generalize val_main_v34 (F := Ideal) x4 x5 = b at *
  pointwise [val_main_cst_7]
  refine sum_fin (fun t => gb YB W DY t (i 1).val) fun t => ?_
  rw [ha, hb, ← EReal.coe_mul, mul_comm]
  rfl

include h0 h4 h5 in
/-- The gradient with respect to the first gain. -/
theorem v56 (i : S1x512.Idx) : val_main_v56 (F := Ideal) x0 x4 x5 i
    = ((∑ t ∈ range 16384, ga YA W DY t (i 1).val : ℝ) : EReal) := by
  unfold val_main_v56 val_main_v55 val_main_v54
  have ha := v12 h0
  have hb := v33 h4 h5
  generalize val_main_v12 (F := Ideal) x0 = a at *
  generalize val_main_v33 (F := Ideal) x4 x5 = b at *
  pointwise [val_main_cst_11]
  refine sum_fin (fun t => ga YA W DY t (i 1).val) fun t => ?_
  rw [ha, hb, ← EReal.coe_mul, mul_comm]
  rfl

include h1 h3 h4 h5 in
/-- The gradient with respect to the second mixer's output. -/
theorem v53 (i : S16384x512.Idx) : val_main_v53 (F := Ideal) x1 x3 x4 x5 i
    = ((dYB YB W DY GB (i 0).val (i 1).val : ℝ) : EReal) := by
  unfold val_main_v53 val_main_v52 val_main_v51 val_main_v50 val_main_v49 val_main_v48 val_main_v47 val_main_v45 val_main_v44 val_main_v43 val_main_v42 val_main_v41 val_main_v40 val_main_v39 val_main_v38 val_main_v25 val_main_v23
  have hb := v34 h4 h5
  have hr := v22 h1
  have hq := v21 h1
  generalize val_main_v34 (F := Ideal) x4 x5 = b at *
  generalize val_main_v22 (F := Ideal) x1 = r at *
  generalize val_main_v21 (F := Ideal) x1 = q at *
  pointwise [val_main_v46, val_main_v24, val_main_cst_6, val_main_cst_8, val_main_cst_9, val_main_cst_10]
  refine chain_val (G := fun t d => DC W DY t (512 + d) * GB d) ?_ (hr _) (h1 _) ?_
  · rw [hb, h3, ← EReal.coe_mul]; rfl
  · rw [Fin.sum_univ_one]
    refine share_val (t := (i 0).val) (X := YB) (G := fun t d => DC W DY t (512 + d) * GB d) (by decide) word (fun k => ?_)
      (hr (ix2 (i 0) 0)) (hq (ix2 (i 0) 0)) ofBits_neg_half
    rw [h1, hb, h3, ← EReal.coe_mul, ← EReal.coe_mul]; rfl

include h0 h2 h4 h5 in
/-- The gradient with respect to the first mixer's output. -/
theorem v72 (i : S16384x512.Idx) : val_main_v72 (F := Ideal) x0 x2 x4 x5 i
    = ((dYA YA W DY GA (i 0).val (i 1).val : ℝ) : EReal) := by
  unfold val_main_v72 val_main_v71 val_main_v70 val_main_v69 val_main_v68 val_main_v67 val_main_v66 val_main_v64 val_main_v63 val_main_v62 val_main_v61 val_main_v60 val_main_v59 val_main_v58 val_main_v57 val_main_v10 val_main_v8
  have hb := v33 h4 h5
  have hr := v7 h0
  have hq := v6 h0
  generalize val_main_v33 (F := Ideal) x4 x5 = b at *
  generalize val_main_v7 (F := Ideal) x0 = r at *
  generalize val_main_v6 (F := Ideal) x0 = q at *
  pointwise [val_main_v65, val_main_v9, val_main_cst_2, val_main_cst_12, val_main_cst_13, val_main_cst_14]
  refine chain_val (G := fun t d => DC W DY t d * GA d) ?_ (hr _) (h0 _) ?_
  · rw [hb, h2, ← EReal.coe_mul]; rfl
  · rw [Fin.sum_univ_one]
    refine share_val (t := (i 0).val) (X := YA) (G := fun t d => DC W DY t d * GA d) (by decide) word (fun k => ?_)
      (hr (ix2 (i 0) 0)) (hq (ix2 (i 0) 0)) ofBits_neg_half
    rw [h0, hb, h2, ← EReal.coe_mul, ← EReal.coe_mul]; rfl

include h1 h3 h4 h5 in
theorem v86 (i : S16384x512.Idx) : val_main_v86 (F := Ideal) x1 x3 x4 x5 i
    = ((dYB YB W DY GB (i 0).val (i 1).val : ℝ) : EReal) := by
  unfold val_main_v86
  have he := v53 h1 h3 h4 h5
  generalize val_main_v53 (F := Ideal) x1 x3 x4 x5 = e at *
  pointwise []
  exact he i

include h0 h2 h4 h5 in
/-- The first mixer's sums per head. -/
theorem v77 (i : S8x16384x1.Idx) : val_main_v77 (F := Ideal) x0 x2 x4 x5 i
    = ((dA YA W DY GA (i 0).val (i 1).val : ℝ) : EReal) := by
  unfold val_main_v77 val_main_v76 val_main_v75 val_main_v74 val_main_v73
  have he := v72 h0 h2 h4 h5
  generalize val_main_v72 (F := Ideal) x0 x2 x4 x5 = e at *
  pointwise [val_main_cst_15]
  refine sum_fin (fun d => dYA YA W DY GA (i 1).val ((i 0).val * 64 + d) * YA (i 1).val ((i 0).val * 64 + d)) fun d => ?_
  rw [he, h0, ← EReal.coe_mul]
  rfl

include h1 h3 h4 h5 in
theorem v81 (i : S16384x8x1.Idx) : val_main_v81 (F := Ideal) x1 x3 x4 x5 i
    = ((hd (fun t d => dYB YB W DY GB t d * YB t d) (i 0).val (i 1).val : ℝ) : EReal) := by
  unfold val_main_v81 val_main_v80 val_main_v79 val_main_v78
  have he := v53 h1 h3 h4 h5
  generalize val_main_v53 (F := Ideal) x1 x3 x4 x5 = e at *
  pointwise [val_main_cst_16]
  refine sum_fin (fun d => dYB YB W DY GB (i 0).val ((i 1).val * 64 + d) * YB (i 0).val ((i 1).val * 64 + d)) fun d => ?_
  rw [he, h1, ← EReal.coe_mul]
  rfl

include h1 h3 h4 h5 in
/-- The second mixer's sums, spread over the upper half of each head's lanes. -/
theorem v85 (i : S16384x512.Idx) : val_main_v85 (F := Ideal) x1 x3 x4 x5 i
    = ((st YB W DY GB (i 0).val (i 1).val : ℝ) : EReal) := by
  unfold val_main_v85 val_main_v84 val_main_v82
  have he := v81 h1 h3 h4 h5
  generalize val_main_v81 (F := Ideal) x1 x3 x4 x5 = e at *
  pointwise [val_main_v83, val_main_cst_17]
  unfold st
  by_cases hl : (i 1).val % 64 < 32
  · rw [dif_pos hl, if_pos hl]; rfl
  · rw [dif_neg hl, if_neg hl]; exact he _

end Cert.Out.Ref
-- ==== Proof.OutClaim.lean ====
/- The claims of the output product's call: the two programs end with the same six arrays. -/
module

public import proofs.«01_k».proof.Defs
public import proofs.«01_k».proof.Proof.OutBwd
public import proofs.«01_k».proof.Proof.OutRef
public import proofs.«01_k».proof.Proof.FiniteArgs
public import proofs.«01_k».proof.Proof.Gen.Reference5Ideal.Run
public import proofs.«01_k».proof.Proof.Gen.Pre_finite5

@[expose] public section

set_option maxRecDepth 16384

noncomputable section

namespace Cert.Out.Claim

open Idealize.ShloMosaic Idealize.ShloMosaic.TcCoe Idealize.SL.Sem

section
open Cert.Pre_finite5

instance : Subsingleton S_.Idx := ⟨fun a b => funext fun k => k.elim0⟩

/-- What the precondition says: every element of every argument is a real. -/
theorem reals (x0 : FVec Ideal S16384x512 .f32) (x1 : FVec Ideal S16384x512 .f32) (x2 : FVec Ideal S1x512 .f32) (x3 : FVec Ideal S1x512 .f32) (x4 : FVec Ideal S1024x1024 .f32) (x5 : FVec Ideal S16384x1024 .f32) [Cert.Pre_finite5.Facts]
    (h : Cert.Pre_finite5.fn (F := Ideal) x0 x1 x2 x3 x4 x5 (Shape.Idx.first Facts.h_S_) = 1#1) :
    (∀ i, (((x0 i : EReal).toReal : ℝ) : EReal) = x0 i)
      ∧ (∀ i, (((x1 i : EReal).toReal : ℝ) : EReal) = x1 i)
      ∧ (∀ i, (((x2 i : EReal).toReal : ℝ) : EReal) = x2 i)
      ∧ (∀ i, (((x3 i : EReal).toReal : ℝ) : EReal) = x3 i)
      ∧ (∀ i, (((x4 i : EReal).toReal : ℝ) : EReal) = x4 i)
      ∧ (∀ i, (((x5 i : EReal).toReal : ℝ) : EReal) = x5 i) := by
  unfold Cert.Pre_finite5.fn Cert.Pre_finite5.fn_part1 at h
  dsimp only at h
  obtain ⟨h, h5⟩ := FiniteArgs.and_split _ _ _ h
  obtain ⟨h, h4⟩ := FiniteArgs.and_split _ _ _ h
  obtain ⟨h, h3⟩ := FiniteArgs.and_split _ _ _ h
  obtain ⟨h, h2⟩ := FiniteArgs.and_split _ _ _ h
  obtain ⟨h0, h1⟩ := FiniteArgs.and_split _ _ _ h
  exact ⟨FiniteArgs.real_of_all x0 _ (fun _ => FiniteArgs.ofBits_inf) _ _ _ _ h0,
    FiniteArgs.real_of_all x1 _ (fun _ => FiniteArgs.ofBits_inf) _ _ _ _ h1,
    FiniteArgs.real_of_all x2 _ (fun _ => FiniteArgs.ofBits_inf) _ _ _ _ h2,
    FiniteArgs.real_of_all x3 _ (fun _ => FiniteArgs.ofBits_inf) _ _ _ _ h3,
    FiniteArgs.real_of_all x4 _ (fun _ => FiniteArgs.ofBits_inf) _ _ _ _ h4,
    FiniteArgs.real_of_all x5 _ (fun _ => FiniteArgs.ofBits_inf) _ _ _ _ h5⟩
end

theorem frame_reference : Cert.quiescent_Reference5Ideal := by
  intro m g _
  exact (θ_run Cert.Reference5Ideal.defs _ _).mono
    (fun r h => ⟨fun c => (h c).2.2.2.2.2.2, sem_eq_zero_of_no_sems (by decide) r.2⟩) (Cert.Reference5Ideal.Value.run m g)

theorem frame_reference_pre [Cert.Pre_finite5.Facts] : Cert.quiescent_Reference5Ideal_pre_finite5 := by
  intro m g _
  exact frame_reference m g trivial

set_option maxHeartbeats 2000000 in
open Cert.Kernel5Ideal in
theorem algebraic [hp : Cert.Pre_finite5.Facts] : Cert.algebraic_Kernel5Ideal_Reference5Ideal_pre_finite5 := by
  intro m g m' g' hpre hargs
  have key : ∀ c : Dev nD,
      (Gen.dats m 0 c).arrAt 7 cfg0.N = Cert.Reference5Ideal.Read.val_main_v72 (F := Ideal) (m' ((c.tc : Thread _ Cert.Reference5Ideal.τ).loc Cert.Reference5Ideal.main_arg0))
            (m' ((c.tc : Thread _ Cert.Reference5Ideal.τ).loc Cert.Reference5Ideal.main_arg2))
            (m' ((c.tc : Thread _ Cert.Reference5Ideal.τ).loc Cert.Reference5Ideal.main_arg4))
            (m' ((c.tc : Thread _ Cert.Reference5Ideal.τ).loc Cert.Reference5Ideal.main_arg5))
      ∧ (Gen.dats m 0 c).arrAt 8 cfg0.N = Cert.Reference5Ideal.Read.val_main_v86 (F := Ideal) (m' ((c.tc : Thread _ Cert.Reference5Ideal.τ).loc Cert.Reference5Ideal.main_arg1))
            (m' ((c.tc : Thread _ Cert.Reference5Ideal.τ).loc Cert.Reference5Ideal.main_arg3))
            (m' ((c.tc : Thread _ Cert.Reference5Ideal.τ).loc Cert.Reference5Ideal.main_arg4))
            (m' ((c.tc : Thread _ Cert.Reference5Ideal.τ).loc Cert.Reference5Ideal.main_arg5))
      ∧ (Gen.dats m 0 c).arrAt 9 cfg0.N = Cert.Reference5Ideal.Read.val_main_v77 (F := Ideal) (m' ((c.tc : Thread _ Cert.Reference5Ideal.τ).loc Cert.Reference5Ideal.main_arg0))
            (m' ((c.tc : Thread _ Cert.Reference5Ideal.τ).loc Cert.Reference5Ideal.main_arg2))
            (m' ((c.tc : Thread _ Cert.Reference5Ideal.τ).loc Cert.Reference5Ideal.main_arg4))
            (m' ((c.tc : Thread _ Cert.Reference5Ideal.τ).loc Cert.Reference5Ideal.main_arg5))
      ∧ (Gen.dats m 0 c).arrAt 10 cfg0.N = Cert.Reference5Ideal.Read.val_main_v85 (F := Ideal) (m' ((c.tc : Thread _ Cert.Reference5Ideal.τ).loc Cert.Reference5Ideal.main_arg1))
            (m' ((c.tc : Thread _ Cert.Reference5Ideal.τ).loc Cert.Reference5Ideal.main_arg3))
            (m' ((c.tc : Thread _ Cert.Reference5Ideal.τ).loc Cert.Reference5Ideal.main_arg4))
            (m' ((c.tc : Thread _ Cert.Reference5Ideal.τ).loc Cert.Reference5Ideal.main_arg5))
      ∧ (Gen.dats m 0 c).arrAt 11 cfg0.N = Cert.Reference5Ideal.Read.val_main_v56 (F := Ideal) (m' ((c.tc : Thread _ Cert.Reference5Ideal.τ).loc Cert.Reference5Ideal.main_arg0))
            (m' ((c.tc : Thread _ Cert.Reference5Ideal.τ).loc Cert.Reference5Ideal.main_arg4))
            (m' ((c.tc : Thread _ Cert.Reference5Ideal.τ).loc Cert.Reference5Ideal.main_arg5))
      ∧ (Gen.dats m 0 c).arrAt 12 cfg0.N = Cert.Reference5Ideal.Read.val_main_v37 (F := Ideal) (m' ((c.tc : Thread _ Cert.Reference5Ideal.τ).loc Cert.Reference5Ideal.main_arg1))
            (m' ((c.tc : Thread _ Cert.Reference5Ideal.τ).loc Cert.Reference5Ideal.main_arg4))
            (m' ((c.tc : Thread _ Cert.Reference5Ideal.τ).loc Cert.Reference5Ideal.main_arg5)) := by
    intro c
    obtain ⟨r0, r1, r2, r3, r4, r5⟩ := reals _ _ _ _ _ _ (congrFun (hpre c) _)
    obtain ⟨a0, a1, a2, a3, a4, a5⟩ := hargs c
    have h0 := FiniteArgs.nat2_eq _ r0
    have h1 := FiniteArgs.nat2_eq _ r1
    have h2 := FiniteArgs.row_eq _ r2
    have h3 := FiniteArgs.row_eq _ r3
    have h4 := FiniteArgs.nat2_eq _ r4
    have h5 := FiniteArgs.nat2_eq _ r5
    have g0 := fun i => (congrFun a0 i).trans (h0 i)
    have g1 := fun i => (congrFun a1 i).trans (h1 i)
    have g2 := fun i => (congrFun a2 i).trans (h2 i)
    have g3 := fun i => (congrFun a3 i).trans (h3 i)
    have g4 := fun i => (congrFun a4 i).trans (h4 i)
    have g5 := fun i => (congrFun a5 i).trans (h5 i)
    have R := Bwd.reads m c h0 h1 h2 h3 h4 h5
    exact ⟨funext fun i => (Bwd.final7 m c R i).trans (Ref.v72 g0 g2 g4 g5 i).symm,
      funext fun i => (Bwd.final8 m c R i).trans (Ref.v86 g1 g3 g4 g5 i).symm,
      funext fun i => (Bwd.final9 m c R i).trans (Ref.v77 g0 g2 g4 g5 i).symm,
      funext fun i => (Bwd.final10 m c R i).trans (Ref.v85 g1 g3 g4 g5 i).symm,
      funext fun i => (Bwd.final11 m c R i).trans (Ref.v56 g0 g4 g5 i).symm,
      funext fun i => (Bwd.final12 m c R i).trans (Ref.v37 g1 g4 g5 i).symm⟩
  exact ⟨_, _, _, _, _, _, Cert.Kernel5Ideal.Value.run_blocks m g,
    (θ_run Cert.Reference5Ideal.defs _ _).mono (fun r h c => ⟨((h c).1.trans (Cert.Reference5Ideal.Read.val_main_v72_eq _ _)).trans (key c).1.symm,
      ((h c).2.1.trans (Cert.Reference5Ideal.Read.val_main_v86_eq _ _)).trans (key c).2.1.symm,
      ((h c).2.2.1.trans (Cert.Reference5Ideal.Read.val_main_v77_eq _ _)).trans (key c).2.2.1.symm,
      ((h c).2.2.2.1.trans (Cert.Reference5Ideal.Read.val_main_v85_eq _ _)).trans (key c).2.2.2.1.symm,
      ((h c).2.2.2.2.1.trans (Cert.Reference5Ideal.Read.val_main_v56_eq _ _ _)).trans (key c).2.2.2.2.1.symm,
      ((h c).2.2.2.2.2.1.trans (Cert.Reference5Ideal.Read.val_main_v37_eq _ _ _)).trans (key c).2.2.2.2.2.symm, (h c).2.2.2.2.2.2⟩) (Cert.Reference5Ideal.Value.run m' g')⟩

end Cert.Out.Claim
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_finite7
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Reference9Ideal.Run
public import proofs.«01_k».proof.Proof.Gen.Reference9Ideal.Read
public import proofs.«01_k».proof.Proof.Gen.Reference6Ideal.Read
public import proofs.«01_k».proof.Proof.ReluBwd
public import proofs.«01_k».proof.Proof.AttnClaim
public import proofs.«01_k».proof.Proof.BiasClaim
public import proofs.«01_k».proof.Proof.WGrad
public import proofs.«01_k».proof.Proof.OutFwdClaim
public import proofs.«01_k».proof.Proof.Ff2FwdClaim
public import proofs.«01_k».proof.Proof.Ff1Claim
public import proofs.«01_k».proof.Proof.PleClaim
public import proofs.«01_k».proof.Proof.OutClaim

@[expose] public section

noncomputable section

namespace Cert.Proof

open Idealize.ShloMosaic Idealize.SL.Sem

theorem frame_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

theorem algebraic : Cert.algebraic_KernelIdeal_ReferenceIdeal := by
  pair_intro
  · run_from Cert.KernelIdeal.Gen.run_main m g
  · run_from Cert.ReferenceIdeal.Value.run m' g'
    exact (Cert.KernelIdeal.ReluBwd.final m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Kernel11.Gen.facts, Cert.Kernel11Ideal.Gen.facts, Cert.Kernel12.Gen.facts,
  Cert.Kernel12Ideal.Gen.facts, Cert.Kernel13.Gen.facts, Cert.Kernel13Ideal.Gen.facts, Cert.Kernel14.Gen.facts,
  Cert.Kernel14Ideal.Gen.facts, Cert.Kernel15.Gen.facts, Cert.Kernel15Ideal.Gen.facts, Cert.Pre_finite2.Gen.facts,
  Cert.Pre_finite3.Gen.facts, Cert.Pre_finite4.Gen.facts, Cert.Pre_finite5.Gen.facts, Cert.Pre_finite7.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ,
  fun m ρ _ => Cert.Kernel2Ideal.Gen.frame m ρ, Cert.AttnA.Claim.frame_reference, Cert.AttnA.Claim.frame_reference_pre,
  fun m ρ _ => Cert.Kernel3.Gen.frame m ρ, fun m ρ _ => Cert.Kernel3Ideal.Gen.frame m ρ,
  fun m ρ _ => Cert.Kernel3Ideal.Gen.frame m ρ, Cert.Ff1.Claim.frame_reference, Cert.Ff1.Claim.frame_reference_pre,
  fun m ρ _ => Cert.Kernel4.Gen.frame m ρ, fun m ρ _ => Cert.Kernel4Ideal.Gen.frame m ρ,
  fun m ρ _ => Cert.Kernel4Ideal.Gen.frame m ρ, Cert.Ple.Claim.frame_reference, Cert.Ple.Claim.frame_reference_pre,
  fun m ρ _ => Cert.Kernel5.Gen.frame m ρ, fun m ρ _ => Cert.Kernel5Ideal.Gen.frame m ρ,
  fun m ρ _ => Cert.Kernel5Ideal.Gen.frame m ρ, Cert.Out.Claim.frame_reference, Cert.Out.Claim.frame_reference_pre,
  fun m ρ _ => Cert.Kernel6.Gen.frame m ρ, fun m ρ _ => Cert.Kernel6Ideal.Gen.frame m ρ, Cert.WGrad.Claim.frame_reference,
  fun m ρ _ => Cert.Kernel7.Gen.frame m ρ, fun m ρ _ => Cert.Kernel7Ideal.Gen.frame m ρ,
  fun m ρ _ => Cert.Kernel7Ideal.Gen.frame m ρ, Cert.Bias.Claim.frame_reference, Cert.Bias.Claim.frame_reference_pre,
  fun m ρ _ => Cert.Kernel8.Gen.frame m ρ, fun m ρ _ => Cert.Kernel8Ideal.Gen.frame m ρ, Cert.OutF.Claim.frame_reference,
  fun m ρ _ => Cert.Kernel9.Gen.frame m ρ, fun m ρ _ => Cert.Kernel9Ideal.Gen.frame m ρ, Cert.Ff2F.Claim.frame_reference,
  fun m ρ _ => Cert.Kernel10.Gen.frame m ρ, fun m ρ _ => Cert.Kernel10Ideal.Gen.frame m ρ, fun m ρ _ => Cert.Kernel11.Gen.frame m ρ,
  fun m ρ _ => Cert.Kernel11Ideal.Gen.frame m ρ, fun m ρ _ => Cert.Kernel12.Gen.frame m ρ,
  fun m ρ _ => Cert.Kernel12Ideal.Gen.frame m ρ, fun m ρ _ => Cert.Kernel13.Gen.frame m ρ,
  fun m ρ _ => Cert.Kernel13Ideal.Gen.frame m ρ, fun m ρ _ => Cert.Kernel14.Gen.frame m ρ,
  fun m ρ _ => Cert.Kernel14Ideal.Gen.frame m ρ, fun m ρ _ => Cert.Kernel15.Gen.frame m ρ,
  fun m ρ _ => Cert.Kernel15Ideal.Gen.frame m ρ, trivial, algebraic, trivial, Cert.AttnA.Claim.algebraic, trivial,
  Cert.Ff1.Claim.algebraic, trivial, Cert.Ple.Claim.algebraic, trivial, Cert.Out.Claim.algebraic, trivial,
  Cert.WGrad.Claim.algebraic, trivial, Cert.Bias.Claim.algebraic, trivial, Cert.OutF.Claim.algebraic, trivial,
  Cert.Ff2F.Claim.algebraic, trivial, trivial, trivial, trivial, trivial, trivial⟩

end Cert.Proof
